-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_xa_finite [hPre_xa_finite : Cert.Pre_xa_finite.Facts] (m : (ℓ : Loc Cert.KernelIdeal.nD Cert.KernelIdeal.τ Cert.KernelIdeal.sig) → Buf (Elt Ideal) ℓ) : Prop :=
  ∀ c : Dev Cert.KernelIdeal.nD,
    (Cert.Pre_xa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_xa_finite [hPre_xa_finite : Cert.Pre_xa_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_xa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MlpXKernel (m : (ℓ : Loc Cert.MlpXKernel.nD Cert.MlpXKernel.τ Cert.MlpXKernel.sig) → Buf (Elt Bits) ℓ) : Prop :=
  True

def Pre_MlpXKernelIdeal (m : (ℓ : Loc Cert.MlpXKernelIdeal.nD Cert.MlpXKernelIdeal.τ Cert.MlpXKernelIdeal.sig) → Buf (Elt Ideal) ℓ) : Prop :=
  True

def Pre_MlpXReferenceIdeal (m : (ℓ : Loc Cert.MlpXReferenceIdeal.nD Cert.MlpXReferenceIdeal.τ Cert.MlpXReferenceIdeal.sig) → Buf (Elt Ideal) ℓ) : Prop :=
  True

def Pre_MlpWinKernel (m : (ℓ : Loc Cert.MlpWinKernel.nD Cert.MlpWinKernel.τ Cert.MlpWinKernel.sig) → Buf (Elt Bits) ℓ) : Prop :=
  True

def Pre_MlpWinKernelIdeal (m : (ℓ : Loc Cert.MlpWinKernelIdeal.nD Cert.MlpWinKernelIdeal.τ Cert.MlpWinKernelIdeal.sig) → Buf (Elt Ideal) ℓ) : Prop :=
  True

def Pre_MlpWinReferenceIdeal (m : (ℓ : Loc Cert.MlpWinReferenceIdeal.nD Cert.MlpWinReferenceIdeal.τ Cert.MlpWinReferenceIdeal.sig) → Buf (Elt Ideal) ℓ) : Prop :=
  True

def Pre_MlpWoutKernel (m : (ℓ : Loc Cert.MlpWoutKernel.nD Cert.MlpWoutKernel.τ Cert.MlpWoutKernel.sig) → Buf (Elt Bits) ℓ) : Prop :=
  True

def Pre_MlpWoutKernelIdeal (m : (ℓ : Loc Cert.MlpWoutKernelIdeal.nD Cert.MlpWoutKernelIdeal.τ Cert.MlpWoutKernelIdeal.sig) → Buf (Elt Ideal) ℓ) : Prop :=
  True

def Pre_MlpWoutReferenceIdeal (m : (ℓ : Loc Cert.MlpWoutReferenceIdeal.nD Cert.MlpWoutReferenceIdeal.τ Cert.MlpWoutReferenceIdeal.sig) → Buf (Elt Ideal) ℓ) : Prop :=
  True

def Pre_MlpActKernel (m : (ℓ : Loc Cert.MlpActKernel.nD Cert.MlpActKernel.τ Cert.MlpActKernel.sig) → Buf (Elt Bits) ℓ) : Prop :=
  True

def Pre_MlpActKernelIdeal (m : (ℓ : Loc Cert.MlpActKernelIdeal.nD Cert.MlpActKernelIdeal.τ Cert.MlpActKernelIdeal.sig) → Buf (Elt Ideal) ℓ) : Prop :=
  True

def Pre_MlpActReferenceIdeal (m : (ℓ : Loc Cert.MlpActReferenceIdeal.nD Cert.MlpActReferenceIdeal.τ Cert.MlpActReferenceIdeal.sig) → Buf (Elt Ideal) ℓ) : Prop :=
  True

def Pre_MlpYKernel (m : (ℓ : Loc Cert.MlpYKernel.nD Cert.MlpYKernel.τ Cert.MlpYKernel.sig) → Buf (Elt Bits) ℓ) : Prop :=
  True

def Pre_MlpYKernelIdeal (m : (ℓ : Loc Cert.MlpYKernelIdeal.nD Cert.MlpYKernelIdeal.τ Cert.MlpYKernelIdeal.sig) → Buf (Elt Ideal) ℓ) : Prop :=
  True

def Pre_MlpYReferenceIdeal (m : (ℓ : Loc Cert.MlpYReferenceIdeal.nD Cert.MlpYReferenceIdeal.τ Cert.MlpYReferenceIdeal.sig) → Buf (Elt Ideal) ℓ) : Prop :=
  True

def Pre_MlpDuKernel (m : (ℓ : Loc Cert.MlpDuKernel.nD Cert.MlpDuKernel.τ Cert.MlpDuKernel.sig) → Buf (Elt Bits) ℓ) : Prop :=
  True

def Pre_MlpDuKernelIdeal (m : (ℓ : Loc Cert.MlpDuKernelIdeal.nD Cert.MlpDuKernelIdeal.τ Cert.MlpDuKernelIdeal.sig) → Buf (Elt Ideal) ℓ) : Prop :=
  True

def Pre_MlpDuReferenceIdeal (m : (ℓ : Loc Cert.MlpDuReferenceIdeal.nD Cert.MlpDuReferenceIdeal.τ Cert.MlpDuReferenceIdeal.sig) → Buf (Elt Ideal) ℓ) : Prop :=
  True

def Pre_InQaKernel (m : (ℓ : Loc Cert.InQaKernel.nD Cert.InQaKernel.τ Cert.InQaKernel.sig) → Buf (Elt Bits) ℓ) : Prop :=
  True

def Pre_InQaKernelIdeal (m : (ℓ : Loc Cert.InQaKernelIdeal.nD Cert.InQaKernelIdeal.τ Cert.InQaKernelIdeal.sig) → Buf (Elt Ideal) ℓ) : Prop :=
  True

def Pre_InQaReferenceIdeal (m : (ℓ : Loc Cert.InQaReferenceIdeal.nD Cert.InQaReferenceIdeal.τ Cert.InQaReferenceIdeal.sig) → Buf (Elt Ideal) ℓ) : Prop :=
  True

def Pre_InKvAbKernel (m : (ℓ : Loc Cert.InKvAbKernel.nD Cert.InKvAbKernel.τ Cert.InKvAbKernel.sig) → Buf (Elt Bits) ℓ) : Prop :=
  True

def Pre_InKvAbKernelIdeal (m : (ℓ : Loc Cert.InKvAbKernelIdeal.nD Cert.InKvAbKernelIdeal.τ Cert.InKvAbKernelIdeal.sig) → Buf (Elt Ideal) ℓ) : Prop :=
  True

def Pre_InKvAbReferenceIdeal (m : (ℓ : Loc Cert.InKvAbReferenceIdeal.nD Cert.InKvAbReferenceIdeal.τ Cert.InKvAbReferenceIdeal.sig) → Buf (Elt Ideal) ℓ) : Prop :=
  True

def Pre_InQkvBKernel (m : (ℓ : Loc Cert.InQkvBKernel.nD Cert.InQkvBKernel.τ Cert.InQkvBKernel.sig) → Buf (Elt Bits) ℓ) : Prop :=
  True

def Pre_InQkvBKernelIdeal (m : (ℓ : Loc Cert.InQkvBKernelIdeal.nD Cert.InQkvBKernelIdeal.τ Cert.InQkvBKernelIdeal.sig) → Buf (Elt Ideal) ℓ) : Prop :=
  True

def Pre_InQkvBReferenceIdeal (m : (ℓ : Loc Cert.InQkvBReferenceIdeal.nD Cert.InQkvBReferenceIdeal.τ Cert.InQkvBReferenceIdeal.sig) → Buf (Elt Ideal) ℓ) : Prop :=
  True

def Pre_InZKernel (m : (ℓ : Loc Cert.InZKernel.nD Cert.InZKernel.τ Cert.InZKernel.sig) → Buf (Elt Bits) ℓ) : Prop :=
  True

def Pre_InZKernelIdeal (m : (ℓ : Loc Cert.InZKernelIdeal.nD Cert.InZKernelIdeal.τ Cert.InZKernelIdeal.sig) → Buf (Elt Ideal) ℓ) : Prop :=
  True

def Pre_InZReferenceIdeal (m : (ℓ : Loc Cert.InZReferenceIdeal.nD Cert.InZReferenceIdeal.τ Cert.InZReferenceIdeal.sig) → Buf (Elt Ideal) ℓ) : Prop :=
  True

def Pre_InQcKernel (m : (ℓ : Loc Cert.InQcKernel.nD Cert.InQcKernel.τ Cert.InQcKernel.sig) → Buf (Elt Bits) ℓ) : Prop :=
  True

def Pre_InQcKernelIdeal (m : (ℓ : Loc Cert.InQcKernelIdeal.nD Cert.InQcKernelIdeal.τ Cert.InQcKernelIdeal.sig) → Buf (Elt Ideal) ℓ) : Prop :=
  True

def Pre_InQcReferenceIdeal (m : (ℓ : Loc Cert.InQcReferenceIdeal.nD Cert.InQcReferenceIdeal.τ Cert.InQcReferenceIdeal.sig) → Buf (Elt Ideal) ℓ) : Prop :=
  True

def Pre_InGatesKernel (m : (ℓ : Loc Cert.InGatesKernel.nD Cert.InGatesKernel.τ Cert.InGatesKernel.sig) → Buf (Elt Bits) ℓ) : Prop :=
  True

def Pre_InGatesKernelIdeal (m : (ℓ : Loc Cert.InGatesKernelIdeal.nD Cert.InGatesKernelIdeal.τ Cert.InGatesKernelIdeal.sig) → Buf (Elt Ideal) ℓ) : Prop :=
  True

def Pre_InGatesReferenceIdeal (m : (ℓ : Loc Cert.InGatesReferenceIdeal.nD Cert.InGatesReferenceIdeal.τ Cert.InGatesReferenceIdeal.sig) → Buf (Elt Ideal) ℓ) : Prop :=
  True

def Pre_InXKernel (m : (ℓ : Loc Cert.InXKernel.nD Cert.InXKernel.τ Cert.InXKernel.sig) → Buf (Elt Bits) ℓ) : Prop :=
  True

def Pre_InXKernelIdeal (m : (ℓ : Loc Cert.InXKernelIdeal.nD Cert.InXKernelIdeal.τ Cert.InXKernelIdeal.sig) → Buf (Elt Ideal) ℓ) : Prop :=
  True

def Pre_InXReferenceIdeal (m : (ℓ : Loc Cert.InXReferenceIdeal.nD Cert.InXReferenceIdeal.τ Cert.InXReferenceIdeal.sig) → Buf (Elt Ideal) ℓ) : Prop :=
  True

def Pre_InWKernel (m : (ℓ : Loc Cert.InWKernel.nD Cert.InWKernel.τ Cert.InWKernel.sig) → Buf (Elt Bits) ℓ) : Prop :=
  True

def Pre_InWKernelIdeal (m : (ℓ : Loc Cert.InWKernelIdeal.nD Cert.InWKernelIdeal.τ Cert.InWKernelIdeal.sig) → Buf (Elt Ideal) ℓ) : Prop :=
  True

def Pre_InWReferenceIdeal (m : (ℓ : Loc Cert.InWReferenceIdeal.nD Cert.InWReferenceIdeal.τ Cert.InWReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutXKernel (m : (ℓ : Loc Cert.OutXKernel.nD Cert.OutXKernel.τ Cert.OutXKernel.sig) → Buf (Elt Bits) ℓ) : Prop :=
  True

def Pre_OutXKernelIdeal (m : (ℓ : Loc Cert.OutXKernelIdeal.nD Cert.OutXKernelIdeal.τ Cert.OutXKernelIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_OutWKernel (m : (ℓ : Loc Cert.OutWKernel.nD Cert.OutWKernel.τ Cert.OutWKernel.sig) → Buf (Elt Bits) ℓ) : Prop :=
  True

def Pre_OutWKernelIdeal (m : (ℓ : Loc Cert.OutWKernelIdeal.nD Cert.OutWKernelIdeal.τ Cert.OutWKernelIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_DMergeKernel (m : (ℓ : Loc Cert.DMergeKernel.nD Cert.DMergeKernel.τ Cert.DMergeKernel.sig) → Buf (Elt Bits) ℓ) : Prop :=
  True

def Pre_DMergeKernelIdeal (m : (ℓ : Loc Cert.DMergeKernelIdeal.nD Cert.DMergeKernelIdeal.τ Cert.DMergeKernelIdeal.sig) → Buf (Elt Ideal) ℓ) : Prop :=
  True

def Pre_DMergeReferenceIdeal (m : (ℓ : Loc Cert.DMergeReferenceIdeal.nD Cert.DMergeReferenceIdeal.τ Cert.DMergeReferenceIdeal.sig) → Buf (Elt Ideal) ℓ) : Prop :=
  True

def Pre_UpAXKernel (m : (ℓ : Loc Cert.UpAXKernel.nD Cert.UpAXKernel.τ Cert.UpAXKernel.sig) → Buf (Elt Bits) ℓ) : Prop :=
  True

def Pre_UpAXKernelIdeal (m : (ℓ : Loc Cert.UpAXKernelIdeal.nD Cert.UpAXKernelIdeal.τ Cert.UpAXKernelIdeal.sig) → Buf (Elt Ideal) ℓ) : Prop :=
  True

def Pre_UpAXReferenceIdeal (m : (ℓ : Loc Cert.UpAXReferenceIdeal.nD Cert.UpAXReferenceIdeal.τ Cert.UpAXReferenceIdeal.sig) → Buf (Elt Ideal) ℓ) : Prop :=
  True

def Pre_UpAWKernel (m : (ℓ : Loc Cert.UpAWKernel.nD Cert.UpAWKernel.τ Cert.UpAWKernel.sig) → Buf (Elt Bits) ℓ) : Prop :=
  True

def Pre_UpAWKernelIdeal (m : (ℓ : Loc Cert.UpAWKernelIdeal.nD Cert.UpAWKernelIdeal.τ Cert.UpAWKernelIdeal.sig) → Buf (Elt Ideal) ℓ) : Prop :=
  True

def Pre_UpAWReferenceIdeal (m : (ℓ : Loc Cert.UpAWReferenceIdeal.nD Cert.UpAWReferenceIdeal.τ Cert.UpAWReferenceIdeal.sig) → Buf (Elt Ideal) ℓ) : Prop :=
  True

def Pre_UpBXKernel (m : (ℓ : Loc Cert.UpBXKernel.nD Cert.UpBXKernel.τ Cert.UpBXKernel.sig) → Buf (Elt Bits) ℓ) : Prop :=
  True

def Pre_UpBXKernelIdeal (m : (ℓ : Loc Cert.UpBXKernelIdeal.nD Cert.UpBXKernelIdeal.τ Cert.UpBXKernelIdeal.sig) → Buf (Elt Ideal) ℓ) : Prop :=
  True

def Pre_UpBXReferenceIdeal (m : (ℓ : Loc Cert.UpBXReferenceIdeal.nD Cert.UpBXReferenceIdeal.τ Cert.UpBXReferenceIdeal.sig) → Buf (Elt Ideal) ℓ) : Prop :=
  True

def Pre_UpBWKernel (m : (ℓ : Loc Cert.UpBWKernel.nD Cert.UpBWKernel.τ Cert.UpBWKernel.sig) → Buf (Elt Bits) ℓ) : Prop :=
  True

def Pre_UpBWKernelIdeal (m : (ℓ : Loc Cert.UpBWKernelIdeal.nD Cert.UpBWKernelIdeal.τ Cert.UpBWKernelIdeal.sig) → Buf (Elt Ideal) ℓ) : Prop :=
  True

def Pre_UpBWReferenceIdeal (m : (ℓ : Loc Cert.UpBWReferenceIdeal.nD Cert.UpBWReferenceIdeal.τ Cert.UpBWReferenceIdeal.sig) → Buf (Elt Ideal) ℓ) : Prop :=
  True

def Pre_RmsFwdKernel (m : (ℓ : Loc Cert.RmsFwdKernel.nD Cert.RmsFwdKernel.τ Cert.RmsFwdKernel.sig) → Buf (Elt Bits) ℓ) : Prop :=
  True

def Pre_RmsFwdKernelIdeal (m : (ℓ : Loc Cert.RmsFwdKernelIdeal.nD Cert.RmsFwdKernelIdeal.τ Cert.RmsFwdKernelIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_RmsBwdKernel (m : (ℓ : Loc Cert.RmsBwdKernel.nD Cert.RmsBwdKernel.τ Cert.RmsBwdKernel.sig) → Buf (Elt Bits) ℓ) : Prop :=
  True

def Pre_RmsBwdKernelIdeal (m : (ℓ : Loc Cert.RmsBwdKernelIdeal.nD Cert.RmsBwdKernelIdeal.τ Cert.RmsBwdKernelIdeal.sig) → Buf (Elt Ideal) ℓ) : Prop :=
  True

def Pre_RmsBwdReferenceIdeal (m : (ℓ : Loc Cert.RmsBwdReferenceIdeal.nD Cert.RmsBwdReferenceIdeal.τ Cert.RmsBwdReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdwVecKernel (m : (ℓ : Loc Cert.AdwVecKernel.nD Cert.AdwVecKernel.τ Cert.AdwVecKernel.sig) → Buf (Elt Bits) ℓ) : Prop :=
  True

def Pre_AdwVecKernelIdeal (m : (ℓ : Loc Cert.AdwVecKernelIdeal.nD Cert.AdwVecKernelIdeal.τ Cert.AdwVecKernelIdeal.sig) → Buf (Elt Ideal) ℓ) : Prop :=
  True

def Pre_AdwVecReferenceIdeal (m : (ℓ : Loc Cert.AdwVecReferenceIdeal.nD Cert.AdwVecReferenceIdeal.τ Cert.AdwVecReferenceIdeal.sig) → Buf (Elt Ideal) ℓ) : Prop :=
  True

def Pre_AdwInKernel (m : (ℓ : Loc Cert.AdwInKernel.nD Cert.AdwInKernel.τ Cert.AdwInKernel.sig) → Buf (Elt Bits) ℓ) : Prop :=
  True

def Pre_AdwInKernelIdeal (m : (ℓ : Loc Cert.AdwInKernelIdeal.nD Cert.AdwInKernelIdeal.τ Cert.AdwInKernelIdeal.sig) → Buf (Elt Ideal) ℓ) : Prop :=
  True

def Pre_AdwInReferenceIdeal (m : (ℓ : Loc Cert.AdwInReferenceIdeal.nD Cert.AdwInReferenceIdeal.τ Cert.AdwInReferenceIdeal.sig) → Buf (Elt Ideal) ℓ) : Prop :=
  True

def Pre_AdwSinksKernel (m : (ℓ : Loc Cert.AdwSinksKernel.nD Cert.AdwSinksKernel.τ Cert.AdwSinksKernel.sig) → Buf (Elt Bits) ℓ) : Prop :=
  True

def Pre_AdwSinksKernelIdeal (m : (ℓ : Loc Cert.AdwSinksKernelIdeal.nD Cert.AdwSinksKernelIdeal.τ Cert.AdwSinksKernelIdeal.sig) → Buf (Elt Ideal) ℓ) : Prop :=
  True

def Pre_AdwSinksReferenceIdeal (m : (ℓ : Loc Cert.AdwSinksReferenceIdeal.nD Cert.AdwSinksReferenceIdeal.τ Cert.AdwSinksReferenceIdeal.sig) → Buf (Elt Ideal) ℓ) : Prop :=
  True

def Pre_AdwConvKernel (m : (ℓ : Loc Cert.AdwConvKernel.nD Cert.AdwConvKernel.τ Cert.AdwConvKernel.sig) → Buf (Elt Bits) ℓ) : Prop :=
  True

def Pre_AdwConvKernelIdeal (m : (ℓ : Loc Cert.AdwConvKernelIdeal.nD Cert.AdwConvKernelIdeal.τ Cert.AdwConvKernelIdeal.sig) → Buf (Elt Ideal) ℓ) : Prop :=
  True

def Pre_AdwConvReferenceIdeal (m : (ℓ : Loc Cert.AdwConvReferenceIdeal.nD Cert.AdwConvReferenceIdeal.τ Cert.AdwConvReferenceIdeal.sig) → Buf (Elt Ideal) ℓ) : Prop :=
  True

def Pre_AdwHeadsKernel (m : (ℓ : Loc Cert.AdwHeadsKernel.nD Cert.AdwHeadsKernel.τ Cert.AdwHeadsKernel.sig) → Buf (Elt Bits) ℓ) : Prop :=
  True

def Pre_AdwHeadsKernelIdeal (m : (ℓ : Loc Cert.AdwHeadsKernelIdeal.nD Cert.AdwHeadsKernelIdeal.τ Cert.AdwHeadsKernelIdeal.sig) → Buf (Elt Ideal) ℓ) : Prop :=
  True

def Pre_AdwHeadsReferenceIdeal (m : (ℓ : Loc Cert.AdwHeadsReferenceIdeal.nD Cert.AdwHeadsReferenceIdeal.τ Cert.AdwHeadsReferenceIdeal.sig) → Buf (Elt Ideal) ℓ) : Prop :=
  True

def Pre_AdwNormKernel (m : (ℓ : Loc Cert.AdwNormKernel.nD Cert.AdwNormKernel.τ Cert.AdwNormKernel.sig) → Buf (Elt Bits) ℓ) : Prop :=
  True

def Pre_AdwNormKernelIdeal (m : (ℓ : Loc Cert.AdwNormKernelIdeal.nD Cert.AdwNormKernelIdeal.τ Cert.AdwNormKernelIdeal.sig) → Buf (Elt Ideal) ℓ) : Prop :=
  True

def Pre_AdwNormReferenceIdeal (m : (ℓ : Loc Cert.AdwNormReferenceIdeal.nD Cert.AdwNormReferenceIdeal.τ Cert.AdwNormReferenceIdeal.sig) → Buf (Elt Ideal) ℓ) : Prop :=
  True

def Pre_AdwMemKernel (m : (ℓ : Loc Cert.AdwMemKernel.nD Cert.AdwMemKernel.τ Cert.AdwMemKernel.sig) → Buf (Elt Bits) ℓ) : Prop :=
  True

def Pre_AdwMemKernelIdeal (m : (ℓ : Loc Cert.AdwMemKernelIdeal.nD Cert.AdwMemKernelIdeal.τ Cert.AdwMemKernelIdeal.sig) → Buf (Elt Ideal) ℓ) : Prop :=
  True

def Pre_AdwMemReferenceIdeal (m : (ℓ : Loc Cert.AdwMemReferenceIdeal.nD Cert.AdwMemReferenceIdeal.τ Cert.AdwMemReferenceIdeal.sig) → Buf (Elt Ideal) ℓ) : Prop :=
  True

def Pre_AdwSwaUpKernel (m : (ℓ : Loc Cert.AdwSwaUpKernel.nD Cert.AdwSwaUpKernel.τ Cert.AdwSwaUpKernel.sig) → Buf (Elt Bits) ℓ) : Prop :=
  True

def Pre_AdwSwaUpKernelIdeal (m : (ℓ : Loc Cert.AdwSwaUpKernelIdeal.nD Cert.AdwSwaUpKernelIdeal.τ Cert.AdwSwaUpKernelIdeal.sig) → Buf (Elt Ideal) ℓ) : Prop :=
  True

def Pre_AdwSwaUpReferenceIdeal (m : (ℓ : Loc Cert.AdwSwaUpReferenceIdeal.nD Cert.AdwSwaUpReferenceIdeal.τ Cert.AdwSwaUpReferenceIdeal.sig) → Buf (Elt Ideal) ℓ) : Prop :=
  True

def Pre_AdwUpKernel (m : (ℓ : Loc Cert.AdwUpKernel.nD Cert.AdwUpKernel.τ Cert.AdwUpKernel.sig) → Buf (Elt Bits) ℓ) : Prop :=
  True

def Pre_AdwUpKernelIdeal (m : (ℓ : Loc Cert.AdwUpKernelIdeal.nD Cert.AdwUpKernelIdeal.τ Cert.AdwUpKernelIdeal.sig) → Buf (Elt Ideal) ℓ) : Prop :=
  True

def Pre_AdwUpReferenceIdeal (m : (ℓ : Loc Cert.AdwUpReferenceIdeal.nD Cert.AdwUpReferenceIdeal.τ Cert.AdwUpReferenceIdeal.sig) → Buf (Elt Ideal) ℓ) : Prop :=
  True

def Pre_AdwOutKernel (m : (ℓ : Loc Cert.AdwOutKernel.nD Cert.AdwOutKernel.τ Cert.AdwOutKernel.sig) → Buf (Elt Bits) ℓ) : Prop :=
  True

def Pre_AdwOutKernelIdeal (m : (ℓ : Loc Cert.AdwOutKernelIdeal.nD Cert.AdwOutKernelIdeal.τ Cert.AdwOutKernelIdeal.sig) → Buf (Elt Ideal) ℓ) : Prop :=
  True

def Pre_AdwOutReferenceIdeal (m : (ℓ : Loc Cert.AdwOutReferenceIdeal.nD Cert.AdwOutReferenceIdeal.τ Cert.AdwOutReferenceIdeal.sig) → Buf (Elt Ideal) ℓ) : Prop :=
  True

def Pre_AdwMlpKernel (m : (ℓ : Loc Cert.AdwMlpKernel.nD Cert.AdwMlpKernel.τ Cert.AdwMlpKernel.sig) → Buf (Elt Bits) ℓ) : Prop :=
  True

def Pre_AdwMlpKernelIdeal (m : (ℓ : Loc Cert.AdwMlpKernelIdeal.nD Cert.AdwMlpKernelIdeal.τ Cert.AdwMlpKernelIdeal.sig) → Buf (Elt Ideal) ℓ) : Prop :=
  True

def Pre_AdwMlpReferenceIdeal (m : (ℓ : Loc Cert.AdwMlpReferenceIdeal.nD Cert.AdwMlpReferenceIdeal.τ Cert.AdwMlpReferenceIdeal.sig) → Buf (Elt Ideal) ℓ) : Prop :=
  True

def Pre_GdnPostFwdKernel (m : (ℓ : Loc Cert.GdnPostFwdKernel.nD Cert.GdnPostFwdKernel.τ Cert.GdnPostFwdKernel.sig) → Buf (Elt Bits) ℓ) : Prop :=
  True

def Pre_GdnPostFwdKernelIdeal (m : (ℓ : Loc Cert.GdnPostFwdKernelIdeal.nD Cert.GdnPostFwdKernelIdeal.τ Cert.GdnPostFwdKernelIdeal.sig) → Buf (Elt Ideal) ℓ) : Prop :=
  True

def Pre_GdnPostFwdReferenceIdeal (m : (ℓ : Loc Cert.GdnPostFwdReferenceIdeal.nD Cert.GdnPostFwdReferenceIdeal.τ Cert.GdnPostFwdReferenceIdeal.sig) → Buf (Elt Ideal) ℓ) : Prop :=
  True

def Pre_MemKvKernel (m : (ℓ : Loc Cert.MemKvKernel.nD Cert.MemKvKernel.τ Cert.MemKvKernel.sig) → Buf (Elt Bits) ℓ) : Prop :=
  True

def Pre_MemKvKernelIdeal (m : (ℓ : Loc Cert.MemKvKernelIdeal.nD Cert.MemKvKernelIdeal.τ Cert.MemKvKernelIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_MemXKernel (m : (ℓ : Loc Cert.MemXKernel.nD Cert.MemXKernel.τ Cert.MemXKernel.sig) → Buf (Elt Bits) ℓ) : Prop :=
  True

def Pre_MemXKernelIdeal (m : (ℓ : Loc Cert.MemXKernelIdeal.nD Cert.MemXKernelIdeal.τ Cert.MemXKernelIdeal.sig) → Buf (Elt Ideal) ℓ) : Prop :=
  True

def Pre_MemXReferenceIdeal (m : (ℓ : Loc Cert.MemXReferenceIdeal.nD Cert.MemXReferenceIdeal.τ Cert.MemXReferenceIdeal.sig) → Buf (Elt Ideal) ℓ) : Prop :=
  True

def Pre_MemWKernel (m : (ℓ : Loc Cert.MemWKernel.nD Cert.MemWKernel.τ Cert.MemWKernel.sig) → Buf (Elt Bits) ℓ) : Prop :=
  True

def Pre_MemWKernelIdeal (m : (ℓ : Loc Cert.MemWKernelIdeal.nD Cert.MemWKernelIdeal.τ Cert.MemWKernelIdeal.sig) → Buf (Elt Ideal) ℓ) : Prop :=
  True

def Pre_MemWReferenceIdeal (m : (ℓ : Loc Cert.MemWReferenceIdeal.nD Cert.MemWReferenceIdeal.τ Cert.MemWReferenceIdeal.sig) → Buf (Elt Ideal) ℓ) : Prop :=
  True

def Pre_XaFwdKernel (m : (ℓ : Loc Cert.XaFwdKernel.nD Cert.XaFwdKernel.τ Cert.XaFwdKernel.sig) → Buf (Elt Bits) ℓ) : Prop :=
  True

def Pre_XaFwdKernelIdeal (m : (ℓ : Loc Cert.XaFwdKernelIdeal.nD Cert.XaFwdKernelIdeal.τ Cert.XaFwdKernelIdeal.sig) → Buf (Elt Ideal) ℓ) : Prop :=
  True

def Pre_XaFwdKernelIdeal_xa_fwd_finite [hPre_xa_fwd_finite : Cert.Pre_xa_fwd_finite.Facts] (m : (ℓ : Loc Cert.XaFwdKernelIdeal.nD Cert.XaFwdKernelIdeal.τ Cert.XaFwdKernelIdeal.sig) → Buf (Elt Ideal) ℓ) : Prop :=
  ∀ c : Dev Cert.XaFwdKernelIdeal.nD,
    (Cert.Pre_xa_fwd_finite.fn (F := Ideal) (m ((c.tc : Thread Cert.XaFwdKernelIdeal.nD Cert.XaFwdKernelIdeal.τ).loc Cert.XaFwdKernelIdeal.main_arg0)) (m ((c.tc : Thread Cert.XaFwdKernelIdeal.nD Cert.XaFwdKernelIdeal.τ).loc Cert.XaFwdKernelIdeal.main_arg1))) = (fun _ => 1#1)

def Pre_XaFwdReferenceIdeal (m : (ℓ : Loc Cert.XaFwdReferenceIdeal.nD Cert.XaFwdReferenceIdeal.τ Cert.XaFwdReferenceIdeal.sig) → Buf (Elt Ideal) ℓ) : Prop :=
  True

def Pre_XaFwdReferenceIdeal_xa_fwd_finite [hPre_xa_fwd_finite : Cert.Pre_xa_fwd_finite.Facts] (m : (ℓ : Loc Cert.XaFwdReferenceIdeal.nD Cert.XaFwdReferenceIdeal.τ Cert.XaFwdReferenceIdeal.sig) → Buf (Elt Ideal) ℓ) : Prop :=
  ∀ c : Dev Cert.XaFwdReferenceIdeal.nD,
    (Cert.Pre_xa_fwd_finite.fn (F := Ideal) (m ((c.tc : Thread Cert.XaFwdReferenceIdeal.nD Cert.XaFwdReferenceIdeal.τ).loc Cert.XaFwdReferenceIdeal.main_arg0)) (m ((c.tc : Thread Cert.XaFwdReferenceIdeal.nD Cert.XaFwdReferenceIdeal.τ).loc Cert.XaFwdReferenceIdeal.main_arg1))) = (fun _ => 1#1)

def Pre_SwaFwdKernel (m : (ℓ : Loc Cert.SwaFwdKernel.nD Cert.SwaFwdKernel.τ Cert.SwaFwdKernel.sig) → Buf (Elt Bits) ℓ) : Prop :=
  True

def Pre_SwaFwdKernelIdeal (m : (ℓ : Loc Cert.SwaFwdKernelIdeal.nD Cert.SwaFwdKernelIdeal.τ Cert.SwaFwdKernelIdeal.sig) → Buf (Elt Ideal) ℓ) : Prop :=
  True

def Pre_SwaFwdKernelIdeal_swa_finite [hPre_swa_finite : Cert.Pre_swa_finite.Facts] (m : (ℓ : Loc Cert.SwaFwdKernelIdeal.nD Cert.SwaFwdKernelIdeal.τ Cert.SwaFwdKernelIdeal.sig) → Buf (Elt Ideal) ℓ) : Prop :=
  ∀ c : Dev Cert.SwaFwdKernelIdeal.nD,
    (Cert.Pre_swa_finite.fn (F := Ideal) (m ((c.tc : Thread Cert.SwaFwdKernelIdeal.nD Cert.SwaFwdKernelIdeal.τ).loc Cert.SwaFwdKernelIdeal.main_arg0)) (m ((c.tc : Thread Cert.SwaFwdKernelIdeal.nD Cert.SwaFwdKernelIdeal.τ).loc Cert.SwaFwdKernelIdeal.main_arg1)) (m ((c.tc : Thread Cert.SwaFwdKernelIdeal.nD Cert.SwaFwdKernelIdeal.τ).loc Cert.SwaFwdKernelIdeal.main_arg2))) = (fun _ => 1#1)

def Pre_SwaFwdReferenceIdeal (m : (ℓ : Loc Cert.SwaFwdReferenceIdeal.nD Cert.SwaFwdReferenceIdeal.τ Cert.SwaFwdReferenceIdeal.sig) → Buf (Elt Ideal) ℓ) : Prop :=
  True

def Pre_SwaFwdReferenceIdeal_swa_finite [hPre_swa_finite : Cert.Pre_swa_finite.Facts] (m : (ℓ : Loc Cert.SwaFwdReferenceIdeal.nD Cert.SwaFwdReferenceIdeal.τ Cert.SwaFwdReferenceIdeal.sig) → Buf (Elt Ideal) ℓ) : Prop :=
  ∀ c : Dev Cert.SwaFwdReferenceIdeal.nD,
    (Cert.Pre_swa_finite.fn (F := Ideal) (m ((c.tc : Thread Cert.SwaFwdReferenceIdeal.nD Cert.SwaFwdReferenceIdeal.τ).loc Cert.SwaFwdReferenceIdeal.main_arg0)) (m ((c.tc : Thread Cert.SwaFwdReferenceIdeal.nD Cert.SwaFwdReferenceIdeal.τ).loc Cert.SwaFwdReferenceIdeal.main_arg1)) (m ((c.tc : Thread Cert.SwaFwdReferenceIdeal.nD Cert.SwaFwdReferenceIdeal.τ).loc Cert.SwaFwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_xa_finite [hKernelIdeal : Cert.KernelIdeal.Facts] [hPre_xa_finite : Cert.Pre_xa_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_xa_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_xa_finite [hReferenceIdeal : Cert.ReferenceIdeal.Facts] [hPre_xa_finite : Cert.Pre_xa_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_xa_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpXKernel [hMlpXKernel : Cert.MlpXKernel.Facts] : Prop :=
  ∀ (m : (ℓ : Loc Cert.MlpXKernel.nD Cert.MlpXKernel.τ Cert.MlpXKernel.sig) → Buf (Elt Bits) ℓ) (g : Dev Cert.MlpXKernel.nD → PrngReg), Pre_MlpXKernel m →
    θ_run (Cert.MlpXKernel.defs (F := Bits)) (onTc (τ := Cert.MlpXKernel.τ) (Cert.MlpXKernel.main (F := Bits))) ⟨m, fun _ => 0, g⟩ (fun r => (∀ c : Dev Cert.MlpXKernel.nD,
      r.2.mem ((c.tc : Thread Cert.MlpXKernel.nD Cert.MlpXKernel.τ).loc Cert.MlpXKernel.main_arg0) = m ((c.tc : Thread Cert.MlpXKernel.nD Cert.MlpXKernel.τ).loc Cert.MlpXKernel.main_arg0)
      ∧ r.2.mem ((c.tc : Thread Cert.MlpXKernel.nD Cert.MlpXKernel.τ).loc Cert.MlpXKernel.main_arg1) = m ((c.tc : Thread Cert.MlpXKernel.nD Cert.MlpXKernel.τ).loc Cert.MlpXKernel.main_arg1)
      ∧ r.2.mem ((c.tc : Thread Cert.MlpXKernel.nD Cert.MlpXKernel.τ).loc Cert.MlpXKernel.main_arg2) = m ((c.tc : Thread Cert.MlpXKernel.nD Cert.MlpXKernel.τ).loc Cert.MlpXKernel.main_arg2)
      ∧ r.2.mem ((c.tc : Thread Cert.MlpXKernel.nD Cert.MlpXKernel.τ).loc Cert.MlpXKernel.main_arg3) = m ((c.tc : Thread Cert.MlpXKernel.nD Cert.MlpXKernel.τ).loc Cert.MlpXKernel.main_arg3))
      ∧ r.2.sem = fun _ => 0)

def quiescent_MlpXKernelIdeal [hMlpXKernelIdeal : Cert.MlpXKernelIdeal.Facts] : Prop :=
  ∀ (m : (ℓ : Loc Cert.MlpXKernelIdeal.nD Cert.MlpXKernelIdeal.τ Cert.MlpXKernelIdeal.sig) → Buf (Elt Ideal) ℓ) (g : Dev Cert.MlpXKernelIdeal.nD → PrngReg), Pre_MlpXKernelIdeal m →
    θ_run (Cert.MlpXKernelIdeal.defs (F := Ideal)) (onTc (τ := Cert.MlpXKernelIdeal.τ) (Cert.MlpXKernelIdeal.main (F := Ideal))) ⟨m, fun _ => 0, g⟩ (fun r => (∀ c : Dev Cert.MlpXKernelIdeal.nD,
      r.2.mem ((c.tc : Thread Cert.MlpXKernelIdeal.nD Cert.MlpXKernelIdeal.τ).loc Cert.MlpXKernelIdeal.main_arg0) = m ((c.tc : Thread Cert.MlpXKernelIdeal.nD Cert.MlpXKernelIdeal.τ).loc Cert.MlpXKernelIdeal.main_arg0)
      ∧ r.2.mem ((c.tc : Thread Cert.MlpXKernelIdeal.nD Cert.MlpXKernelIdeal.τ).loc Cert.MlpXKernelIdeal.main_arg1) = m ((c.tc : Thread Cert.MlpXKernelIdeal.nD Cert.MlpXKernelIdeal.τ).loc Cert.MlpXKernelIdeal.main_arg1)
      ∧ r.2.mem ((c.tc : Thread Cert.MlpXKernelIdeal.nD Cert.MlpXKernelIdeal.τ).loc Cert.MlpXKernelIdeal.main_arg2) = m ((c.tc : Thread Cert.MlpXKernelIdeal.nD Cert.MlpXKernelIdeal.τ).loc Cert.MlpXKernelIdeal.main_arg2)
      ∧ r.2.mem ((c.tc : Thread Cert.MlpXKernelIdeal.nD Cert.MlpXKernelIdeal.τ).loc Cert.MlpXKernelIdeal.main_arg3) = m ((c.tc : Thread Cert.MlpXKernelIdeal.nD Cert.MlpXKernelIdeal.τ).loc Cert.MlpXKernelIdeal.main_arg3))
      ∧ r.2.sem = fun _ => 0)

def quiescent_MlpXReferenceIdeal [hMlpXReferenceIdeal : Cert.MlpXReferenceIdeal.Facts] : Prop :=
  ∀ (m : (ℓ : Loc Cert.MlpXReferenceIdeal.nD Cert.MlpXReferenceIdeal.τ Cert.MlpXReferenceIdeal.sig) → Buf (Elt Ideal) ℓ) (g : Dev Cert.MlpXReferenceIdeal.nD → PrngReg), Pre_MlpXReferenceIdeal m →
    θ_run (Cert.MlpXReferenceIdeal.defs (F := Ideal)) (onTc (τ := Cert.MlpXReferenceIdeal.τ) (Cert.MlpXReferenceIdeal.main (F := Ideal))) ⟨m, fun _ => 0, g⟩ (fun r => (∀ c : Dev Cert.MlpXReferenceIdeal.nD,
      r.2.mem ((c.tc : Thread Cert.MlpXReferenceIdeal.nD Cert.MlpXReferenceIdeal.τ).loc Cert.MlpXReferenceIdeal.main_arg0) = m ((c.tc : Thread Cert.MlpXReferenceIdeal.nD Cert.MlpXReferenceIdeal.τ).loc Cert.MlpXReferenceIdeal.main_arg0)
      ∧ r.2.mem ((c.tc : Thread Cert.MlpXReferenceIdeal.nD Cert.MlpXReferenceIdeal.τ).loc Cert.MlpXReferenceIdeal.main_arg1) = m ((c.tc : Thread Cert.MlpXReferenceIdeal.nD Cert.MlpXReferenceIdeal.τ).loc Cert.MlpXReferenceIdeal.main_arg1)
      ∧ r.2.mem ((c.tc : Thread Cert.MlpXReferenceIdeal.nD Cert.MlpXReferenceIdeal.τ).loc Cert.MlpXReferenceIdeal.main_arg2) = m ((c.tc : Thread Cert.MlpXReferenceIdeal.nD Cert.MlpXReferenceIdeal.τ).loc Cert.MlpXReferenceIdeal.main_arg2)
      ∧ r.2.mem ((c.tc : Thread Cert.MlpXReferenceIdeal.nD Cert.MlpXReferenceIdeal.τ).loc Cert.MlpXReferenceIdeal.main_arg3) = m ((c.tc : Thread Cert.MlpXReferenceIdeal.nD Cert.MlpXReferenceIdeal.τ).loc Cert.MlpXReferenceIdeal.main_arg3))
      ∧ r.2.sem = fun _ => 0)

def quiescent_MlpWinKernel [hMlpWinKernel : Cert.MlpWinKernel.Facts] : Prop :=
  ∀ (m : (ℓ : Loc Cert.MlpWinKernel.nD Cert.MlpWinKernel.τ Cert.MlpWinKernel.sig) → Buf (Elt Bits) ℓ) (g : Dev Cert.MlpWinKernel.nD → PrngReg), Pre_MlpWinKernel m →
    θ_run (Cert.MlpWinKernel.defs (F := Bits)) (onTc (τ := Cert.MlpWinKernel.τ) (Cert.MlpWinKernel.main (F := Bits))) ⟨m, fun _ => 0, g⟩ (fun r => (∀ c : Dev Cert.MlpWinKernel.nD,
      r.2.mem ((c.tc : Thread Cert.MlpWinKernel.nD Cert.MlpWinKernel.τ).loc Cert.MlpWinKernel.main_arg0) = m ((c.tc : Thread Cert.MlpWinKernel.nD Cert.MlpWinKernel.τ).loc Cert.MlpWinKernel.main_arg0)
      ∧ r.2.mem ((c.tc : Thread Cert.MlpWinKernel.nD Cert.MlpWinKernel.τ).loc Cert.MlpWinKernel.main_arg1) = m ((c.tc : Thread Cert.MlpWinKernel.nD Cert.MlpWinKernel.τ).loc Cert.MlpWinKernel.main_arg1)
      ∧ r.2.mem ((c.tc : Thread Cert.MlpWinKernel.nD Cert.MlpWinKernel.τ).loc Cert.MlpWinKernel.main_arg2) = m ((c.tc : Thread Cert.MlpWinKernel.nD Cert.MlpWinKernel.τ).loc Cert.MlpWinKernel.main_arg2)
      ∧ r.2.mem ((c.tc : Thread Cert.MlpWinKernel.nD Cert.MlpWinKernel.τ).loc Cert.MlpWinKernel.main_arg3) = m ((c.tc : Thread Cert.MlpWinKernel.nD Cert.MlpWinKernel.τ).loc Cert.MlpWinKernel.main_arg3))
      ∧ r.2.sem = fun _ => 0)

def quiescent_MlpWinKernelIdeal [hMlpWinKernelIdeal : Cert.MlpWinKernelIdeal.Facts] : Prop :=
  ∀ (m : (ℓ : Loc Cert.MlpWinKernelIdeal.nD Cert.MlpWinKernelIdeal.τ Cert.MlpWinKernelIdeal.sig) → Buf (Elt Ideal) ℓ) (g : Dev Cert.MlpWinKernelIdeal.nD → PrngReg), Pre_MlpWinKernelIdeal m →
    θ_run (Cert.MlpWinKernelIdeal.defs (F := Ideal)) (onTc (τ := Cert.MlpWinKernelIdeal.τ) (Cert.MlpWinKernelIdeal.main (F := Ideal))) ⟨m, fun _ => 0, g⟩ (fun r => (∀ c : Dev Cert.MlpWinKernelIdeal.nD,
      r.2.mem ((c.tc : Thread Cert.MlpWinKernelIdeal.nD Cert.MlpWinKernelIdeal.τ).loc Cert.MlpWinKernelIdeal.main_arg0) = m ((c.tc : Thread Cert.MlpWinKernelIdeal.nD Cert.MlpWinKernelIdeal.τ).loc Cert.MlpWinKernelIdeal.main_arg0)
      ∧ r.2.mem ((c.tc : Thread Cert.MlpWinKernelIdeal.nD Cert.MlpWinKernelIdeal.τ).loc Cert.MlpWinKernelIdeal.main_arg1) = m ((c.tc : Thread Cert.MlpWinKernelIdeal.nD Cert.MlpWinKernelIdeal.τ).loc Cert.MlpWinKernelIdeal.main_arg1)
      ∧ r.2.mem ((c.tc : Thread Cert.MlpWinKernelIdeal.nD Cert.MlpWinKernelIdeal.τ).loc Cert.MlpWinKernelIdeal.main_arg2) = m ((c.tc : Thread Cert.MlpWinKernelIdeal.nD Cert.MlpWinKernelIdeal.τ).loc Cert.MlpWinKernelIdeal.main_arg2)
      ∧ r.2.mem ((c.tc : Thread Cert.MlpWinKernelIdeal.nD Cert.MlpWinKernelIdeal.τ).loc Cert.MlpWinKernelIdeal.main_arg3) = m ((c.tc : Thread Cert.MlpWinKernelIdeal.nD Cert.MlpWinKernelIdeal.τ).loc Cert.MlpWinKernelIdeal.main_arg3))
      ∧ r.2.sem = fun _ => 0)

def quiescent_MlpWinReferenceIdeal [hMlpWinReferenceIdeal : Cert.MlpWinReferenceIdeal.Facts] : Prop :=
  ∀ (m : (ℓ : Loc Cert.MlpWinReferenceIdeal.nD Cert.MlpWinReferenceIdeal.τ Cert.MlpWinReferenceIdeal.sig) → Buf (Elt Ideal) ℓ) (g : Dev Cert.MlpWinReferenceIdeal.nD → PrngReg), Pre_MlpWinReferenceIdeal m →
    θ_run (Cert.MlpWinReferenceIdeal.defs (F := Ideal)) (onTc (τ := Cert.MlpWinReferenceIdeal.τ) (Cert.MlpWinReferenceIdeal.main (F := Ideal))) ⟨m, fun _ => 0, g⟩ (fun r => (∀ c : Dev Cert.MlpWinReferenceIdeal.nD,
      r.2.mem ((c.tc : Thread Cert.MlpWinReferenceIdeal.nD Cert.MlpWinReferenceIdeal.τ).loc Cert.MlpWinReferenceIdeal.main_arg0) = m ((c.tc : Thread Cert.MlpWinReferenceIdeal.nD Cert.MlpWinReferenceIdeal.τ).loc Cert.MlpWinReferenceIdeal.main_arg0)
      ∧ r.2.mem ((c.tc : Thread Cert.MlpWinReferenceIdeal.nD Cert.MlpWinReferenceIdeal.τ).loc Cert.MlpWinReferenceIdeal.main_arg1) = m ((c.tc : Thread Cert.MlpWinReferenceIdeal.nD Cert.MlpWinReferenceIdeal.τ).loc Cert.MlpWinReferenceIdeal.main_arg1)
      ∧ r.2.mem ((c.tc : Thread Cert.MlpWinReferenceIdeal.nD Cert.MlpWinReferenceIdeal.τ).loc Cert.MlpWinReferenceIdeal.main_arg2) = m ((c.tc : Thread Cert.MlpWinReferenceIdeal.nD Cert.MlpWinReferenceIdeal.τ).loc Cert.MlpWinReferenceIdeal.main_arg2)
      ∧ r.2.mem ((c.tc : Thread Cert.MlpWinReferenceIdeal.nD Cert.MlpWinReferenceIdeal.τ).loc Cert.MlpWinReferenceIdeal.main_arg3) = m ((c.tc : Thread Cert.MlpWinReferenceIdeal.nD Cert.MlpWinReferenceIdeal.τ).loc Cert.MlpWinReferenceIdeal.main_arg3))
      ∧ r.2.sem = fun _ => 0)

def quiescent_MlpWoutKernel [hMlpWoutKernel : Cert.MlpWoutKernel.Facts] : Prop :=
  ∀ (m : (ℓ : Loc Cert.MlpWoutKernel.nD Cert.MlpWoutKernel.τ Cert.MlpWoutKernel.sig) → Buf (Elt Bits) ℓ) (g : Dev Cert.MlpWoutKernel.nD → PrngReg), Pre_MlpWoutKernel m →
    θ_run (Cert.MlpWoutKernel.defs (F := Bits)) (onTc (τ := Cert.MlpWoutKernel.τ) (Cert.MlpWoutKernel.main (F := Bits))) ⟨m, fun _ => 0, g⟩ (fun r => (∀ c : Dev Cert.MlpWoutKernel.nD,
      r.2.mem ((c.tc : Thread Cert.MlpWoutKernel.nD Cert.MlpWoutKernel.τ).loc Cert.MlpWoutKernel.main_arg0) = m ((c.tc : Thread Cert.MlpWoutKernel.nD Cert.MlpWoutKernel.τ).loc Cert.MlpWoutKernel.main_arg0)
      ∧ r.2.mem ((c.tc : Thread Cert.MlpWoutKernel.nD Cert.MlpWoutKernel.τ).loc Cert.MlpWoutKernel.main_arg1) = m ((c.tc : Thread Cert.MlpWoutKernel.nD Cert.MlpWoutKernel.τ).loc Cert.MlpWoutKernel.main_arg1)
      ∧ r.2.mem ((c.tc : Thread Cert.MlpWoutKernel.nD Cert.MlpWoutKernel.τ).loc Cert.MlpWoutKernel.main_arg2) = m ((c.tc : Thread Cert.MlpWoutKernel.nD Cert.MlpWoutKernel.τ).loc Cert.MlpWoutKernel.main_arg2)
      ∧ r.2.mem ((c.tc : Thread Cert.MlpWoutKernel.nD Cert.MlpWoutKernel.τ).loc Cert.MlpWoutKernel.main_arg3) = m ((c.tc : Thread Cert.MlpWoutKernel.nD Cert.MlpWoutKernel.τ).loc Cert.MlpWoutKernel.main_arg3))
      ∧ r.2.sem = fun _ => 0)

def quiescent_MlpWoutKernelIdeal [hMlpWoutKernelIdeal : Cert.MlpWoutKernelIdeal.Facts] : Prop :=
  ∀ (m : (ℓ : Loc Cert.MlpWoutKernelIdeal.nD Cert.MlpWoutKernelIdeal.τ Cert.MlpWoutKernelIdeal.sig) → Buf (Elt Ideal) ℓ) (g : Dev Cert.MlpWoutKernelIdeal.nD → PrngReg), Pre_MlpWoutKernelIdeal m →
    θ_run (Cert.MlpWoutKernelIdeal.defs (F := Ideal)) (onTc (τ := Cert.MlpWoutKernelIdeal.τ) (Cert.MlpWoutKernelIdeal.main (F := Ideal))) ⟨m, fun _ => 0, g⟩ (fun r => (∀ c : Dev Cert.MlpWoutKernelIdeal.nD,
      r.2.mem ((c.tc : Thread Cert.MlpWoutKernelIdeal.nD Cert.MlpWoutKernelIdeal.τ).loc Cert.MlpWoutKernelIdeal.main_arg0) = m ((c.tc : Thread Cert.MlpWoutKernelIdeal.nD Cert.MlpWoutKernelIdeal.τ).loc Cert.MlpWoutKernelIdeal.main_arg0)
      ∧ r.2.mem ((c.tc : Thread Cert.MlpWoutKernelIdeal.nD Cert.MlpWoutKernelIdeal.τ).loc Cert.MlpWoutKernelIdeal.main_arg1) = m ((c.tc : Thread Cert.MlpWoutKernelIdeal.nD Cert.MlpWoutKernelIdeal.τ).loc Cert.MlpWoutKernelIdeal.main_arg1)
      ∧ r.2.mem ((c.tc : Thread Cert.MlpWoutKernelIdeal.nD Cert.MlpWoutKernelIdeal.τ).loc Cert.MlpWoutKernelIdeal.main_arg2) = m ((c.tc : Thread Cert.MlpWoutKernelIdeal.nD Cert.MlpWoutKernelIdeal.τ).loc Cert.MlpWoutKernelIdeal.main_arg2)
      ∧ r.2.mem ((c.tc : Thread Cert.MlpWoutKernelIdeal.nD Cert.MlpWoutKernelIdeal.τ).loc Cert.MlpWoutKernelIdeal.main_arg3) = m ((c.tc : Thread Cert.MlpWoutKernelIdeal.nD Cert.MlpWoutKernelIdeal.τ).loc Cert.MlpWoutKernelIdeal.main_arg3))
      ∧ r.2.sem = fun _ => 0)

def quiescent_MlpWoutReferenceIdeal [hMlpWoutReferenceIdeal : Cert.MlpWoutReferenceIdeal.Facts] : Prop :=
  ∀ (m : (ℓ : Loc Cert.MlpWoutReferenceIdeal.nD Cert.MlpWoutReferenceIdeal.τ Cert.MlpWoutReferenceIdeal.sig) → Buf (Elt Ideal) ℓ) (g : Dev Cert.MlpWoutReferenceIdeal.nD → PrngReg), Pre_MlpWoutReferenceIdeal m →
    θ_run (Cert.MlpWoutReferenceIdeal.defs (F := Ideal)) (onTc (τ := Cert.MlpWoutReferenceIdeal.τ) (Cert.MlpWoutReferenceIdeal.main (F := Ideal))) ⟨m, fun _ => 0, g⟩ (fun r => (∀ c : Dev Cert.MlpWoutReferenceIdeal.nD,
      r.2.mem ((c.tc : Thread Cert.MlpWoutReferenceIdeal.nD Cert.MlpWoutReferenceIdeal.τ).loc Cert.MlpWoutReferenceIdeal.main_arg0) = m ((c.tc : Thread Cert.MlpWoutReferenceIdeal.nD Cert.MlpWoutReferenceIdeal.τ).loc Cert.MlpWoutReferenceIdeal.main_arg0)
      ∧ r.2.mem ((c.tc : Thread Cert.MlpWoutReferenceIdeal.nD Cert.MlpWoutReferenceIdeal.τ).loc Cert.MlpWoutReferenceIdeal.main_arg1) = m ((c.tc : Thread Cert.MlpWoutReferenceIdeal.nD Cert.MlpWoutReferenceIdeal.τ).loc Cert.MlpWoutReferenceIdeal.main_arg1)
      ∧ r.2.mem ((c.tc : Thread Cert.MlpWoutReferenceIdeal.nD Cert.MlpWoutReferenceIdeal.τ).loc Cert.MlpWoutReferenceIdeal.main_arg2) = m ((c.tc : Thread Cert.MlpWoutReferenceIdeal.nD Cert.MlpWoutReferenceIdeal.τ).loc Cert.MlpWoutReferenceIdeal.main_arg2)
      ∧ r.2.mem ((c.tc : Thread Cert.MlpWoutReferenceIdeal.nD Cert.MlpWoutReferenceIdeal.τ).loc Cert.MlpWoutReferenceIdeal.main_arg3) = m ((c.tc : Thread Cert.MlpWoutReferenceIdeal.nD Cert.MlpWoutReferenceIdeal.τ).loc Cert.MlpWoutReferenceIdeal.main_arg3))
      ∧ r.2.sem = fun _ => 0)

def quiescent_MlpActKernel [hMlpActKernel : Cert.MlpActKernel.Facts] : Prop :=
  ∀ (m : (ℓ : Loc Cert.MlpActKernel.nD Cert.MlpActKernel.τ Cert.MlpActKernel.sig) → Buf (Elt Bits) ℓ) (g : Dev Cert.MlpActKernel.nD → PrngReg), Pre_MlpActKernel m →
    θ_run (Cert.MlpActKernel.defs (F := Bits)) (onTc (τ := Cert.MlpActKernel.τ) (Cert.MlpActKernel.main (F := Bits))) ⟨m, fun _ => 0, g⟩ (fun r => (∀ c : Dev Cert.MlpActKernel.nD,
      r.2.mem ((c.tc : Thread Cert.MlpActKernel.nD Cert.MlpActKernel.τ).loc Cert.MlpActKernel.main_arg0) = m ((c.tc : Thread Cert.MlpActKernel.nD Cert.MlpActKernel.τ).loc Cert.MlpActKernel.main_arg0)
      ∧ r.2.mem ((c.tc : Thread Cert.MlpActKernel.nD Cert.MlpActKernel.τ).loc Cert.MlpActKernel.main_arg1) = m ((c.tc : Thread Cert.MlpActKernel.nD Cert.MlpActKernel.τ).loc Cert.MlpActKernel.main_arg1))
      ∧ r.2.sem = fun _ => 0)

def quiescent_MlpActKernelIdeal [hMlpActKernelIdeal : Cert.MlpActKernelIdeal.Facts] : Prop :=
  ∀ (m : (ℓ : Loc Cert.MlpActKernelIdeal.nD Cert.MlpActKernelIdeal.τ Cert.MlpActKernelIdeal.sig) → Buf (Elt Ideal) ℓ) (g : Dev Cert.MlpActKernelIdeal.nD → PrngReg), Pre_MlpActKernelIdeal m →
    θ_run (Cert.MlpActKernelIdeal.defs (F := Ideal)) (onTc (τ := Cert.MlpActKernelIdeal.τ) (Cert.MlpActKernelIdeal.main (F := Ideal))) ⟨m, fun _ => 0, g⟩ (fun r => (∀ c : Dev Cert.MlpActKernelIdeal.nD,
      r.2.mem ((c.tc : Thread Cert.MlpActKernelIdeal.nD Cert.MlpActKernelIdeal.τ).loc Cert.MlpActKernelIdeal.main_arg0) = m ((c.tc : Thread Cert.MlpActKernelIdeal.nD Cert.MlpActKernelIdeal.τ).loc Cert.MlpActKernelIdeal.main_arg0)
      ∧ r.2.mem ((c.tc : Thread Cert.MlpActKernelIdeal.nD Cert.MlpActKernelIdeal.τ).loc Cert.MlpActKernelIdeal.main_arg1) = m ((c.tc : Thread Cert.MlpActKernelIdeal.nD Cert.MlpActKernelIdeal.τ).loc Cert.MlpActKernelIdeal.main_arg1))
      ∧ r.2.sem = fun _ => 0)

def quiescent_MlpActReferenceIdeal [hMlpActReferenceIdeal : Cert.MlpActReferenceIdeal.Facts] : Prop :=
  ∀ (m : (ℓ : Loc Cert.MlpActReferenceIdeal.nD Cert.MlpActReferenceIdeal.τ Cert.MlpActReferenceIdeal.sig) → Buf (Elt Ideal) ℓ) (g : Dev Cert.MlpActReferenceIdeal.nD → PrngReg), Pre_MlpActReferenceIdeal m →
    θ_run (Cert.MlpActReferenceIdeal.defs (F := Ideal)) (onTc (τ := Cert.MlpActReferenceIdeal.τ) (Cert.MlpActReferenceIdeal.main (F := Ideal))) ⟨m, fun _ => 0, g⟩ (fun r => (∀ c : Dev Cert.MlpActReferenceIdeal.nD,
      r.2.mem ((c.tc : Thread Cert.MlpActReferenceIdeal.nD Cert.MlpActReferenceIdeal.τ).loc Cert.MlpActReferenceIdeal.main_arg0) = m ((c.tc : Thread Cert.MlpActReferenceIdeal.nD Cert.MlpActReferenceIdeal.τ).loc Cert.MlpActReferenceIdeal.main_arg0)
      ∧ r.2.mem ((c.tc : Thread Cert.MlpActReferenceIdeal.nD Cert.MlpActReferenceIdeal.τ).loc Cert.MlpActReferenceIdeal.main_arg1) = m ((c.tc : Thread Cert.MlpActReferenceIdeal.nD Cert.MlpActReferenceIdeal.τ).loc Cert.MlpActReferenceIdeal.main_arg1))
      ∧ r.2.sem = fun _ => 0)

def quiescent_MlpYKernel [hMlpYKernel : Cert.MlpYKernel.Facts] : Prop :=
  ∀ (m : (ℓ : Loc Cert.MlpYKernel.nD Cert.MlpYKernel.τ Cert.MlpYKernel.sig) → Buf (Elt Bits) ℓ) (g : Dev Cert.MlpYKernel.nD → PrngReg), Pre_MlpYKernel m →
    θ_run (Cert.MlpYKernel.defs (F := Bits)) (onTc (τ := Cert.MlpYKernel.τ) (Cert.MlpYKernel.main (F := Bits))) ⟨m, fun _ => 0, g⟩ (fun r => (∀ c : Dev Cert.MlpYKernel.nD,
      r.2.mem ((c.tc : Thread Cert.MlpYKernel.nD Cert.MlpYKernel.τ).loc Cert.MlpYKernel.main_arg0) = m ((c.tc : Thread Cert.MlpYKernel.nD Cert.MlpYKernel.τ).loc Cert.MlpYKernel.main_arg0)
      ∧ r.2.mem ((c.tc : Thread Cert.MlpYKernel.nD Cert.MlpYKernel.τ).loc Cert.MlpYKernel.main_arg1) = m ((c.tc : Thread Cert.MlpYKernel.nD Cert.MlpYKernel.τ).loc Cert.MlpYKernel.main_arg1)
      ∧ r.2.mem ((c.tc : Thread Cert.MlpYKernel.nD Cert.MlpYKernel.τ).loc Cert.MlpYKernel.main_arg2) = m ((c.tc : Thread Cert.MlpYKernel.nD Cert.MlpYKernel.τ).loc Cert.MlpYKernel.main_arg2)
      ∧ r.2.mem ((c.tc : Thread Cert.MlpYKernel.nD Cert.MlpYKernel.τ).loc Cert.MlpYKernel.main_arg3) = m ((c.tc : Thread Cert.MlpYKernel.nD Cert.MlpYKernel.τ).loc Cert.MlpYKernel.main_arg3))
      ∧ r.2.sem = fun _ => 0)

def quiescent_MlpYKernelIdeal [hMlpYKernelIdeal : Cert.MlpYKernelIdeal.Facts] : Prop :=
  ∀ (m : (ℓ : Loc Cert.MlpYKernelIdeal.nD Cert.MlpYKernelIdeal.τ Cert.MlpYKernelIdeal.sig) → Buf (Elt Ideal) ℓ) (g : Dev Cert.MlpYKernelIdeal.nD → PrngReg), Pre_MlpYKernelIdeal m →
    θ_run (Cert.MlpYKernelIdeal.defs (F := Ideal)) (onTc (τ := Cert.MlpYKernelIdeal.τ) (Cert.MlpYKernelIdeal.main (F := Ideal))) ⟨m, fun _ => 0, g⟩ (fun r => (∀ c : Dev Cert.MlpYKernelIdeal.nD,
      r.2.mem ((c.tc : Thread Cert.MlpYKernelIdeal.nD Cert.MlpYKernelIdeal.τ).loc Cert.MlpYKernelIdeal.main_arg0) = m ((c.tc : Thread Cert.MlpYKernelIdeal.nD Cert.MlpYKernelIdeal.τ).loc Cert.MlpYKernelIdeal.main_arg0)
      ∧ r.2.mem ((c.tc : Thread Cert.MlpYKernelIdeal.nD Cert.MlpYKernelIdeal.τ).loc Cert.MlpYKernelIdeal.main_arg1) = m ((c.tc : Thread Cert.MlpYKernelIdeal.nD Cert.MlpYKernelIdeal.τ).loc Cert.MlpYKernelIdeal.main_arg1)
      ∧ r.2.mem ((c.tc : Thread Cert.MlpYKernelIdeal.nD Cert.MlpYKernelIdeal.τ).loc Cert.MlpYKernelIdeal.main_arg2) = m ((c.tc : Thread Cert.MlpYKernelIdeal.nD Cert.MlpYKernelIdeal.τ).loc Cert.MlpYKernelIdeal.main_arg2)
      ∧ r.2.mem ((c.tc : Thread Cert.MlpYKernelIdeal.nD Cert.MlpYKernelIdeal.τ).loc Cert.MlpYKernelIdeal.main_arg3) = m ((c.tc : Thread Cert.MlpYKernelIdeal.nD Cert.MlpYKernelIdeal.τ).loc Cert.MlpYKernelIdeal.main_arg3))
      ∧ r.2.sem = fun _ => 0)

def quiescent_MlpYReferenceIdeal [hMlpYReferenceIdeal : Cert.MlpYReferenceIdeal.Facts] : Prop :=
  ∀ (m : (ℓ : Loc Cert.MlpYReferenceIdeal.nD Cert.MlpYReferenceIdeal.τ Cert.MlpYReferenceIdeal.sig) → Buf (Elt Ideal) ℓ) (g : Dev Cert.MlpYReferenceIdeal.nD → PrngReg), Pre_MlpYReferenceIdeal m →
    θ_run (Cert.MlpYReferenceIdeal.defs (F := Ideal)) (onTc (τ := Cert.MlpYReferenceIdeal.τ) (Cert.MlpYReferenceIdeal.main (F := Ideal))) ⟨m, fun _ => 0, g⟩ (fun r => (∀ c : Dev Cert.MlpYReferenceIdeal.nD,
      r.2.mem ((c.tc : Thread Cert.MlpYReferenceIdeal.nD Cert.MlpYReferenceIdeal.τ).loc Cert.MlpYReferenceIdeal.main_arg0) = m ((c.tc : Thread Cert.MlpYReferenceIdeal.nD Cert.MlpYReferenceIdeal.τ).loc Cert.MlpYReferenceIdeal.main_arg0)
      ∧ r.2.mem ((c.tc : Thread Cert.MlpYReferenceIdeal.nD Cert.MlpYReferenceIdeal.τ).loc Cert.MlpYReferenceIdeal.main_arg1) = m ((c.tc : Thread Cert.MlpYReferenceIdeal.nD Cert.MlpYReferenceIdeal.τ).loc Cert.MlpYReferenceIdeal.main_arg1)
      ∧ r.2.mem ((c.tc : Thread Cert.MlpYReferenceIdeal.nD Cert.MlpYReferenceIdeal.τ).loc Cert.MlpYReferenceIdeal.main_arg2) = m ((c.tc : Thread Cert.MlpYReferenceIdeal.nD Cert.MlpYReferenceIdeal.τ).loc Cert.MlpYReferenceIdeal.main_arg2)
      ∧ r.2.mem ((c.tc : Thread Cert.MlpYReferenceIdeal.nD Cert.MlpYReferenceIdeal.τ).loc Cert.MlpYReferenceIdeal.main_arg3) = m ((c.tc : Thread Cert.MlpYReferenceIdeal.nD Cert.MlpYReferenceIdeal.τ).loc Cert.MlpYReferenceIdeal.main_arg3))
      ∧ r.2.sem = fun _ => 0)

def quiescent_MlpDuKernel [hMlpDuKernel : Cert.MlpDuKernel.Facts] : Prop :=
  ∀ (m : (ℓ : Loc Cert.MlpDuKernel.nD Cert.MlpDuKernel.τ Cert.MlpDuKernel.sig) → Buf (Elt Bits) ℓ) (g : Dev Cert.MlpDuKernel.nD → PrngReg), Pre_MlpDuKernel m →
    θ_run (Cert.MlpDuKernel.defs (F := Bits)) (onTc (τ := Cert.MlpDuKernel.τ) (Cert.MlpDuKernel.main (F := Bits))) ⟨m, fun _ => 0, g⟩ (fun r => (∀ c : Dev Cert.MlpDuKernel.nD,
      r.2.mem ((c.tc : Thread Cert.MlpDuKernel.nD Cert.MlpDuKernel.τ).loc Cert.MlpDuKernel.main_arg0) = m ((c.tc : Thread Cert.MlpDuKernel.nD Cert.MlpDuKernel.τ).loc Cert.MlpDuKernel.main_arg0)
      ∧ r.2.mem ((c.tc : Thread Cert.MlpDuKernel.nD Cert.MlpDuKernel.τ).loc Cert.MlpDuKernel.main_arg1) = m ((c.tc : Thread Cert.MlpDuKernel.nD Cert.MlpDuKernel.τ).loc Cert.MlpDuKernel.main_arg1)
      ∧ r.2.mem ((c.tc : Thread Cert.MlpDuKernel.nD Cert.MlpDuKernel.τ).loc Cert.MlpDuKernel.main_arg2) = m ((c.tc : Thread Cert.MlpDuKernel.nD Cert.MlpDuKernel.τ).loc Cert.MlpDuKernel.main_arg2)
      ∧ r.2.mem ((c.tc : Thread Cert.MlpDuKernel.nD Cert.MlpDuKernel.τ).loc Cert.MlpDuKernel.main_arg3) = m ((c.tc : Thread Cert.MlpDuKernel.nD Cert.MlpDuKernel.τ).loc Cert.MlpDuKernel.main_arg3))
      ∧ r.2.sem = fun _ => 0)

def quiescent_MlpDuKernelIdeal [hMlpDuKernelIdeal : Cert.MlpDuKernelIdeal.Facts] : Prop :=
  ∀ (m : (ℓ : Loc Cert.MlpDuKernelIdeal.nD Cert.MlpDuKernelIdeal.τ Cert.MlpDuKernelIdeal.sig) → Buf (Elt Ideal) ℓ) (g : Dev Cert.MlpDuKernelIdeal.nD → PrngReg), Pre_MlpDuKernelIdeal m →
    θ_run (Cert.MlpDuKernelIdeal.defs (F := Ideal)) (onTc (τ := Cert.MlpDuKernelIdeal.τ) (Cert.MlpDuKernelIdeal.main (F := Ideal))) ⟨m, fun _ => 0, g⟩ (fun r => (∀ c : Dev Cert.MlpDuKernelIdeal.nD,
      r.2.mem ((c.tc : Thread Cert.MlpDuKernelIdeal.nD Cert.MlpDuKernelIdeal.τ).loc Cert.MlpDuKernelIdeal.main_arg0) = m ((c.tc : Thread Cert.MlpDuKernelIdeal.nD Cert.MlpDuKernelIdeal.τ).loc Cert.MlpDuKernelIdeal.main_arg0)
      ∧ r.2.mem ((c.tc : Thread Cert.MlpDuKernelIdeal.nD Cert.MlpDuKernelIdeal.τ).loc Cert.MlpDuKernelIdeal.main_arg1) = m ((c.tc : Thread Cert.MlpDuKernelIdeal.nD Cert.MlpDuKernelIdeal.τ).loc Cert.MlpDuKernelIdeal.main_arg1)
      ∧ r.2.mem ((c.tc : Thread Cert.MlpDuKernelIdeal.nD Cert.MlpDuKernelIdeal.τ).loc Cert.MlpDuKernelIdeal.main_arg2) = m ((c.tc : Thread Cert.MlpDuKernelIdeal.nD Cert.MlpDuKernelIdeal.τ).loc Cert.MlpDuKernelIdeal.main_arg2)
      ∧ r.2.mem ((c.tc : Thread Cert.MlpDuKernelIdeal.nD Cert.MlpDuKernelIdeal.τ).loc Cert.MlpDuKernelIdeal.main_arg3) = m ((c.tc : Thread Cert.MlpDuKernelIdeal.nD Cert.MlpDuKernelIdeal.τ).loc Cert.MlpDuKernelIdeal.main_arg3))
      ∧ r.2.sem = fun _ => 0)

def quiescent_MlpDuReferenceIdeal [hMlpDuReferenceIdeal : Cert.MlpDuReferenceIdeal.Facts] : Prop :=
  ∀ (m : (ℓ : Loc Cert.MlpDuReferenceIdeal.nD Cert.MlpDuReferenceIdeal.τ Cert.MlpDuReferenceIdeal.sig) → Buf (Elt Ideal) ℓ) (g : Dev Cert.MlpDuReferenceIdeal.nD → PrngReg), Pre_MlpDuReferenceIdeal m →
    θ_run (Cert.MlpDuReferenceIdeal.defs (F := Ideal)) (onTc (τ := Cert.MlpDuReferenceIdeal.τ) (Cert.MlpDuReferenceIdeal.main (F := Ideal))) ⟨m, fun _ => 0, g⟩ (fun r => (∀ c : Dev Cert.MlpDuReferenceIdeal.nD,
      r.2.mem ((c.tc : Thread Cert.MlpDuReferenceIdeal.nD Cert.MlpDuReferenceIdeal.τ).loc Cert.MlpDuReferenceIdeal.main_arg0) = m ((c.tc : Thread Cert.MlpDuReferenceIdeal.nD Cert.MlpDuReferenceIdeal.τ).loc Cert.MlpDuReferenceIdeal.main_arg0)
      ∧ r.2.mem ((c.tc : Thread Cert.MlpDuReferenceIdeal.nD Cert.MlpDuReferenceIdeal.τ).loc Cert.MlpDuReferenceIdeal.main_arg1) = m ((c.tc : Thread Cert.MlpDuReferenceIdeal.nD Cert.MlpDuReferenceIdeal.τ).loc Cert.MlpDuReferenceIdeal.main_arg1)
      ∧ r.2.mem ((c.tc : Thread Cert.MlpDuReferenceIdeal.nD Cert.MlpDuReferenceIdeal.τ).loc Cert.MlpDuReferenceIdeal.main_arg2) = m ((c.tc : Thread Cert.MlpDuReferenceIdeal.nD Cert.MlpDuReferenceIdeal.τ).loc Cert.MlpDuReferenceIdeal.main_arg2)
      ∧ r.2.mem ((c.tc : Thread Cert.MlpDuReferenceIdeal.nD Cert.MlpDuReferenceIdeal.τ).loc Cert.MlpDuReferenceIdeal.main_arg3) = m ((c.tc : Thread Cert.MlpDuReferenceIdeal.nD Cert.MlpDuReferenceIdeal.τ).loc Cert.MlpDuReferenceIdeal.main_arg3))
      ∧ r.2.sem = fun _ => 0)

def quiescent_InQaKernel [hInQaKernel : Cert.InQaKernel.Facts] : Prop :=
  ∀ (m : (ℓ : Loc Cert.InQaKernel.nD Cert.InQaKernel.τ Cert.InQaKernel.sig) → Buf (Elt Bits) ℓ) (g : Dev Cert.InQaKernel.nD → PrngReg), Pre_InQaKernel m →
    θ_run (Cert.InQaKernel.defs (F := Bits)) (onTc (τ := Cert.InQaKernel.τ) (Cert.InQaKernel.main (F := Bits))) ⟨m, fun _ => 0, g⟩ (fun r => (∀ c : Dev Cert.InQaKernel.nD,
      r.2.mem ((c.tc : Thread Cert.InQaKernel.nD Cert.InQaKernel.τ).loc Cert.InQaKernel.main_arg0) = m ((c.tc : Thread Cert.InQaKernel.nD Cert.InQaKernel.τ).loc Cert.InQaKernel.main_arg0)
      ∧ r.2.mem ((c.tc : Thread Cert.InQaKernel.nD Cert.InQaKernel.τ).loc Cert.InQaKernel.main_arg1) = m ((c.tc : Thread Cert.InQaKernel.nD Cert.InQaKernel.τ).loc Cert.InQaKernel.main_arg1))
      ∧ r.2.sem = fun _ => 0)

def quiescent_InQaKernelIdeal [hInQaKernelIdeal : Cert.InQaKernelIdeal.Facts] : Prop :=
  ∀ (m : (ℓ : Loc Cert.InQaKernelIdeal.nD Cert.InQaKernelIdeal.τ Cert.InQaKernelIdeal.sig) → Buf (Elt Ideal) ℓ) (g : Dev Cert.InQaKernelIdeal.nD → PrngReg), Pre_InQaKernelIdeal m →
    θ_run (Cert.InQaKernelIdeal.defs (F := Ideal)) (onTc (τ := Cert.InQaKernelIdeal.τ) (Cert.InQaKernelIdeal.main (F := Ideal))) ⟨m, fun _ => 0, g⟩ (fun r => (∀ c : Dev Cert.InQaKernelIdeal.nD,
      r.2.mem ((c.tc : Thread Cert.InQaKernelIdeal.nD Cert.InQaKernelIdeal.τ).loc Cert.InQaKernelIdeal.main_arg0) = m ((c.tc : Thread Cert.InQaKernelIdeal.nD Cert.InQaKernelIdeal.τ).loc Cert.InQaKernelIdeal.main_arg0)
      ∧ r.2.mem ((c.tc : Thread Cert.InQaKernelIdeal.nD Cert.InQaKernelIdeal.τ).loc Cert.InQaKernelIdeal.main_arg1) = m ((c.tc : Thread Cert.InQaKernelIdeal.nD Cert.InQaKernelIdeal.τ).loc Cert.InQaKernelIdeal.main_arg1))
      ∧ r.2.sem = fun _ => 0)

def quiescent_InQaReferenceIdeal [hInQaReferenceIdeal : Cert.InQaReferenceIdeal.Facts] : Prop :=
  ∀ (m : (ℓ : Loc Cert.InQaReferenceIdeal.nD Cert.InQaReferenceIdeal.τ Cert.InQaReferenceIdeal.sig) → Buf (Elt Ideal) ℓ) (g : Dev Cert.InQaReferenceIdeal.nD → PrngReg), Pre_InQaReferenceIdeal m →
    θ_run (Cert.InQaReferenceIdeal.defs (F := Ideal)) (onTc (τ := Cert.InQaReferenceIdeal.τ) (Cert.InQaReferenceIdeal.main (F := Ideal))) ⟨m, fun _ => 0, g⟩ (fun r => (∀ c : Dev Cert.InQaReferenceIdeal.nD,
      r.2.mem ((c.tc : Thread Cert.InQaReferenceIdeal.nD Cert.InQaReferenceIdeal.τ).loc Cert.InQaReferenceIdeal.main_arg0) = m ((c.tc : Thread Cert.InQaReferenceIdeal.nD Cert.InQaReferenceIdeal.τ).loc Cert.InQaReferenceIdeal.main_arg0)
      ∧ r.2.mem ((c.tc : Thread Cert.InQaReferenceIdeal.nD Cert.InQaReferenceIdeal.τ).loc Cert.InQaReferenceIdeal.main_arg1) = m ((c.tc : Thread Cert.InQaReferenceIdeal.nD Cert.InQaReferenceIdeal.τ).loc Cert.InQaReferenceIdeal.main_arg1))
      ∧ r.2.sem = fun _ => 0)

def quiescent_InKvAbKernel [hInKvAbKernel : Cert.InKvAbKernel.Facts] : Prop :=
  ∀ (m : (ℓ : Loc Cert.InKvAbKernel.nD Cert.InKvAbKernel.τ Cert.InKvAbKernel.sig) → Buf (Elt Bits) ℓ) (g : Dev Cert.InKvAbKernel.nD → PrngReg), Pre_InKvAbKernel m →
    θ_run (Cert.InKvAbKernel.defs (F := Bits)) (onTc (τ := Cert.InKvAbKernel.τ) (Cert.InKvAbKernel.main (F := Bits))) ⟨m, fun _ => 0, g⟩ (fun r => (∀ c : Dev Cert.InKvAbKernel.nD,
      r.2.mem ((c.tc : Thread Cert.InKvAbKernel.nD Cert.InKvAbKernel.τ).loc Cert.InKvAbKernel.main_arg0) = m ((c.tc : Thread Cert.InKvAbKernel.nD Cert.InKvAbKernel.τ).loc Cert.InKvAbKernel.main_arg0)
      ∧ r.2.mem ((c.tc : Thread Cert.InKvAbKernel.nD Cert.InKvAbKernel.τ).loc Cert.InKvAbKernel.main_arg1) = m ((c.tc : Thread Cert.InKvAbKernel.nD Cert.InKvAbKernel.τ).loc Cert.InKvAbKernel.main_arg1))
      ∧ r.2.sem = fun _ => 0)

def quiescent_InKvAbKernelIdeal [hInKvAbKernelIdeal : Cert.InKvAbKernelIdeal.Facts] : Prop :=
  ∀ (m : (ℓ : Loc Cert.InKvAbKernelIdeal.nD Cert.InKvAbKernelIdeal.τ Cert.InKvAbKernelIdeal.sig) → Buf (Elt Ideal) ℓ) (g : Dev Cert.InKvAbKernelIdeal.nD → PrngReg), Pre_InKvAbKernelIdeal m →
    θ_run (Cert.InKvAbKernelIdeal.defs (F := Ideal)) (onTc (τ := Cert.InKvAbKernelIdeal.τ) (Cert.InKvAbKernelIdeal.main (F := Ideal))) ⟨m, fun _ => 0, g⟩ (fun r => (∀ c : Dev Cert.InKvAbKernelIdeal.nD,
      r.2.mem ((c.tc : Thread Cert.InKvAbKernelIdeal.nD Cert.InKvAbKernelIdeal.τ).loc Cert.InKvAbKernelIdeal.main_arg0) = m ((c.tc : Thread Cert.InKvAbKernelIdeal.nD Cert.InKvAbKernelIdeal.τ).loc Cert.InKvAbKernelIdeal.main_arg0)
      ∧ r.2.mem ((c.tc : Thread Cert.InKvAbKernelIdeal.nD Cert.InKvAbKernelIdeal.τ).loc Cert.InKvAbKernelIdeal.main_arg1) = m ((c.tc : Thread Cert.InKvAbKernelIdeal.nD Cert.InKvAbKernelIdeal.τ).loc Cert.InKvAbKernelIdeal.main_arg1))
      ∧ r.2.sem = fun _ => 0)

def quiescent_InKvAbReferenceIdeal [hInKvAbReferenceIdeal : Cert.InKvAbReferenceIdeal.Facts] : Prop :=
  ∀ (m : (ℓ : Loc Cert.InKvAbReferenceIdeal.nD Cert.InKvAbReferenceIdeal.τ Cert.InKvAbReferenceIdeal.sig) → Buf (Elt Ideal) ℓ) (g : Dev Cert.InKvAbReferenceIdeal.nD → PrngReg), Pre_InKvAbReferenceIdeal m →
    θ_run (Cert.InKvAbReferenceIdeal.defs (F := Ideal)) (onTc (τ := Cert.InKvAbReferenceIdeal.τ) (Cert.InKvAbReferenceIdeal.main (F := Ideal))) ⟨m, fun _ => 0, g⟩ (fun r => (∀ c : Dev Cert.InKvAbReferenceIdeal.nD,
      r.2.mem ((c.tc : Thread Cert.InKvAbReferenceIdeal.nD Cert.InKvAbReferenceIdeal.τ).loc Cert.InKvAbReferenceIdeal.main_arg0) = m ((c.tc : Thread Cert.InKvAbReferenceIdeal.nD Cert.InKvAbReferenceIdeal.τ).loc Cert.InKvAbReferenceIdeal.main_arg0)
      ∧ r.2.mem ((c.tc : Thread Cert.InKvAbReferenceIdeal.nD Cert.InKvAbReferenceIdeal.τ).loc Cert.InKvAbReferenceIdeal.main_arg1) = m ((c.tc : Thread Cert.InKvAbReferenceIdeal.nD Cert.InKvAbReferenceIdeal.τ).loc Cert.InKvAbReferenceIdeal.main_arg1))
      ∧ r.2.sem = fun _ => 0)

def quiescent_InQkvBKernel [hInQkvBKernel : Cert.InQkvBKernel.Facts] : Prop :=
  ∀ (m : (ℓ : Loc Cert.InQkvBKernel.nD Cert.InQkvBKernel.τ Cert.InQkvBKernel.sig) → Buf (Elt Bits) ℓ) (g : Dev Cert.InQkvBKernel.nD → PrngReg), Pre_InQkvBKernel m →
    θ_run (Cert.InQkvBKernel.defs (F := Bits)) (onTc (τ := Cert.InQkvBKernel.τ) (Cert.InQkvBKernel.main (F := Bits))) ⟨m, fun _ => 0, g⟩ (fun r => (∀ c : Dev Cert.InQkvBKernel.nD,
      r.2.mem ((c.tc : Thread Cert.InQkvBKernel.nD Cert.InQkvBKernel.τ).loc Cert.InQkvBKernel.main_arg0) = m ((c.tc : Thread Cert.InQkvBKernel.nD Cert.InQkvBKernel.τ).loc Cert.InQkvBKernel.main_arg0)
      ∧ r.2.mem ((c.tc : Thread Cert.InQkvBKernel.nD Cert.InQkvBKernel.τ).loc Cert.InQkvBKernel.main_arg1) = m ((c.tc : Thread Cert.InQkvBKernel.nD Cert.InQkvBKernel.τ).loc Cert.InQkvBKernel.main_arg1))
      ∧ r.2.sem = fun _ => 0)

def quiescent_InQkvBKernelIdeal [hInQkvBKernelIdeal : Cert.InQkvBKernelIdeal.Facts] : Prop :=
  ∀ (m : (ℓ : Loc Cert.InQkvBKernelIdeal.nD Cert.InQkvBKernelIdeal.τ Cert.InQkvBKernelIdeal.sig) → Buf (Elt Ideal) ℓ) (g : Dev Cert.InQkvBKernelIdeal.nD → PrngReg), Pre_InQkvBKernelIdeal m →
    θ_run (Cert.InQkvBKernelIdeal.defs (F := Ideal)) (onTc (τ := Cert.InQkvBKernelIdeal.τ) (Cert.InQkvBKernelIdeal.main (F := Ideal))) ⟨m, fun _ => 0, g⟩ (fun r => (∀ c : Dev Cert.InQkvBKernelIdeal.nD,
      r.2.mem ((c.tc : Thread Cert.InQkvBKernelIdeal.nD Cert.InQkvBKernelIdeal.τ).loc Cert.InQkvBKernelIdeal.main_arg0) = m ((c.tc : Thread Cert.InQkvBKernelIdeal.nD Cert.InQkvBKernelIdeal.τ).loc Cert.InQkvBKernelIdeal.main_arg0)
      ∧ r.2.mem ((c.tc : Thread Cert.InQkvBKernelIdeal.nD Cert.InQkvBKernelIdeal.τ).loc Cert.InQkvBKernelIdeal.main_arg1) = m ((c.tc : Thread Cert.InQkvBKernelIdeal.nD Cert.InQkvBKernelIdeal.τ).loc Cert.InQkvBKernelIdeal.main_arg1))
      ∧ r.2.sem = fun _ => 0)

def quiescent_InQkvBReferenceIdeal [hInQkvBReferenceIdeal : Cert.InQkvBReferenceIdeal.Facts] : Prop :=
  ∀ (m : (ℓ : Loc Cert.InQkvBReferenceIdeal.nD Cert.InQkvBReferenceIdeal.τ Cert.InQkvBReferenceIdeal.sig) → Buf (Elt Ideal) ℓ) (g : Dev Cert.InQkvBReferenceIdeal.nD → PrngReg), Pre_InQkvBReferenceIdeal m →
    θ_run (Cert.InQkvBReferenceIdeal.defs (F := Ideal)) (onTc (τ := Cert.InQkvBReferenceIdeal.τ) (Cert.InQkvBReferenceIdeal.main (F := Ideal))) ⟨m, fun _ => 0, g⟩ (fun r => (∀ c : Dev Cert.InQkvBReferenceIdeal.nD,
      r.2.mem ((c.tc : Thread Cert.InQkvBReferenceIdeal.nD Cert.InQkvBReferenceIdeal.τ).loc Cert.InQkvBReferenceIdeal.main_arg0) = m ((c.tc : Thread Cert.InQkvBReferenceIdeal.nD Cert.InQkvBReferenceIdeal.τ).loc Cert.InQkvBReferenceIdeal.main_arg0)
      ∧ r.2.mem ((c.tc : Thread Cert.InQkvBReferenceIdeal.nD Cert.InQkvBReferenceIdeal.τ).loc Cert.InQkvBReferenceIdeal.main_arg1) = m ((c.tc : Thread Cert.InQkvBReferenceIdeal.nD Cert.InQkvBReferenceIdeal.τ).loc Cert.InQkvBReferenceIdeal.main_arg1))
      ∧ r.2.sem = fun _ => 0)

def quiescent_InZKernel [hInZKernel : Cert.InZKernel.Facts] : Prop :=
  ∀ (m : (ℓ : Loc Cert.InZKernel.nD Cert.InZKernel.τ Cert.InZKernel.sig) → Buf (Elt Bits) ℓ) (g : Dev Cert.InZKernel.nD → PrngReg), Pre_InZKernel m →
    θ_run (Cert.InZKernel.defs (F := Bits)) (onTc (τ := Cert.InZKernel.τ) (Cert.InZKernel.main (F := Bits))) ⟨m, fun _ => 0, g⟩ (fun r => (∀ c : Dev Cert.InZKernel.nD,
      r.2.mem ((c.tc : Thread Cert.InZKernel.nD Cert.InZKernel.τ).loc Cert.InZKernel.main_arg0) = m ((c.tc : Thread Cert.InZKernel.nD Cert.InZKernel.τ).loc Cert.InZKernel.main_arg0)
      ∧ r.2.mem ((c.tc : Thread Cert.InZKernel.nD Cert.InZKernel.τ).loc Cert.InZKernel.main_arg1) = m ((c.tc : Thread Cert.InZKernel.nD Cert.InZKernel.τ).loc Cert.InZKernel.main_arg1))
      ∧ r.2.sem = fun _ => 0)

def quiescent_InZKernelIdeal [hInZKernelIdeal : Cert.InZKernelIdeal.Facts] : Prop :=
  ∀ (m : (ℓ : Loc Cert.InZKernelIdeal.nD Cert.InZKernelIdeal.τ Cert.InZKernelIdeal.sig) → Buf (Elt Ideal) ℓ) (g : Dev Cert.InZKernelIdeal.nD → PrngReg), Pre_InZKernelIdeal m →
    θ_run (Cert.InZKernelIdeal.defs (F := Ideal)) (onTc (τ := Cert.InZKernelIdeal.τ) (Cert.InZKernelIdeal.main (F := Ideal))) ⟨m, fun _ => 0, g⟩ (fun r => (∀ c : Dev Cert.InZKernelIdeal.nD,
      r.2.mem ((c.tc : Thread Cert.InZKernelIdeal.nD Cert.InZKernelIdeal.τ).loc Cert.InZKernelIdeal.main_arg0) = m ((c.tc : Thread Cert.InZKernelIdeal.nD Cert.InZKernelIdeal.τ).loc Cert.InZKernelIdeal.main_arg0)
      ∧ r.2.mem ((c.tc : Thread Cert.InZKernelIdeal.nD Cert.InZKernelIdeal.τ).loc Cert.InZKernelIdeal.main_arg1) = m ((c.tc : Thread Cert.InZKernelIdeal.nD Cert.InZKernelIdeal.τ).loc Cert.InZKernelIdeal.main_arg1))
      ∧ r.2.sem = fun _ => 0)

def quiescent_InZReferenceIdeal [hInZReferenceIdeal : Cert.InZReferenceIdeal.Facts] : Prop :=
  ∀ (m : (ℓ : Loc Cert.InZReferenceIdeal.nD Cert.InZReferenceIdeal.τ Cert.InZReferenceIdeal.sig) → Buf (Elt Ideal) ℓ) (g : Dev Cert.InZReferenceIdeal.nD → PrngReg), Pre_InZReferenceIdeal m →
    θ_run (Cert.InZReferenceIdeal.defs (F := Ideal)) (onTc (τ := Cert.InZReferenceIdeal.τ) (Cert.InZReferenceIdeal.main (F := Ideal))) ⟨m, fun _ => 0, g⟩ (fun r => (∀ c : Dev Cert.InZReferenceIdeal.nD,
      r.2.mem ((c.tc : Thread Cert.InZReferenceIdeal.nD Cert.InZReferenceIdeal.τ).loc Cert.InZReferenceIdeal.main_arg0) = m ((c.tc : Thread Cert.InZReferenceIdeal.nD Cert.InZReferenceIdeal.τ).loc Cert.InZReferenceIdeal.main_arg0)
      ∧ r.2.mem ((c.tc : Thread Cert.InZReferenceIdeal.nD Cert.InZReferenceIdeal.τ).loc Cert.InZReferenceIdeal.main_arg1) = m ((c.tc : Thread Cert.InZReferenceIdeal.nD Cert.InZReferenceIdeal.τ).loc Cert.InZReferenceIdeal.main_arg1))
      ∧ r.2.sem = fun _ => 0)

def quiescent_InQcKernel [hInQcKernel : Cert.InQcKernel.Facts] : Prop :=
  ∀ (m : (ℓ : Loc Cert.InQcKernel.nD Cert.InQcKernel.τ Cert.InQcKernel.sig) → Buf (Elt Bits) ℓ) (g : Dev Cert.InQcKernel.nD → PrngReg), Pre_InQcKernel m →
    θ_run (Cert.InQcKernel.defs (F := Bits)) (onTc (τ := Cert.InQcKernel.τ) (Cert.InQcKernel.main (F := Bits))) ⟨m, fun _ => 0, g⟩ (fun r => (∀ c : Dev Cert.InQcKernel.nD,
      r.2.mem ((c.tc : Thread Cert.InQcKernel.nD Cert.InQcKernel.τ).loc Cert.InQcKernel.main_arg0) = m ((c.tc : Thread Cert.InQcKernel.nD Cert.InQcKernel.τ).loc Cert.InQcKernel.main_arg0)
      ∧ r.2.mem ((c.tc : Thread Cert.InQcKernel.nD Cert.InQcKernel.τ).loc Cert.InQcKernel.main_arg1) = m ((c.tc : Thread Cert.InQcKernel.nD Cert.InQcKernel.τ).loc Cert.InQcKernel.main_arg1))
      ∧ r.2.sem = fun _ => 0)

def quiescent_InQcKernelIdeal [hInQcKernelIdeal : Cert.InQcKernelIdeal.Facts] : Prop :=
  ∀ (m : (ℓ : Loc Cert.InQcKernelIdeal.nD Cert.InQcKernelIdeal.τ Cert.InQcKernelIdeal.sig) → Buf (Elt Ideal) ℓ) (g : Dev Cert.InQcKernelIdeal.nD → PrngReg), Pre_InQcKernelIdeal m →
    θ_run (Cert.InQcKernelIdeal.defs (F := Ideal)) (onTc (τ := Cert.InQcKernelIdeal.τ) (Cert.InQcKernelIdeal.main (F := Ideal))) ⟨m, fun _ => 0, g⟩ (fun r => (∀ c : Dev Cert.InQcKernelIdeal.nD,
      r.2.mem ((c.tc : Thread Cert.InQcKernelIdeal.nD Cert.InQcKernelIdeal.τ).loc Cert.InQcKernelIdeal.main_arg0) = m ((c.tc : Thread Cert.InQcKernelIdeal.nD Cert.InQcKernelIdeal.τ).loc Cert.InQcKernelIdeal.main_arg0)
      ∧ r.2.mem ((c.tc : Thread Cert.InQcKernelIdeal.nD Cert.InQcKernelIdeal.τ).loc Cert.InQcKernelIdeal.main_arg1) = m ((c.tc : Thread Cert.InQcKernelIdeal.nD Cert.InQcKernelIdeal.τ).loc Cert.InQcKernelIdeal.main_arg1))
      ∧ r.2.sem = fun _ => 0)

def quiescent_InQcReferenceIdeal [hInQcReferenceIdeal : Cert.InQcReferenceIdeal.Facts] : Prop :=
  ∀ (m : (ℓ : Loc Cert.InQcReferenceIdeal.nD Cert.InQcReferenceIdeal.τ Cert.InQcReferenceIdeal.sig) → Buf (Elt Ideal) ℓ) (g : Dev Cert.InQcReferenceIdeal.nD → PrngReg), Pre_InQcReferenceIdeal m →
    θ_run (Cert.InQcReferenceIdeal.defs (F := Ideal)) (onTc (τ := Cert.InQcReferenceIdeal.τ) (Cert.InQcReferenceIdeal.main (F := Ideal))) ⟨m, fun _ => 0, g⟩ (fun r => (∀ c : Dev Cert.InQcReferenceIdeal.nD,
      r.2.mem ((c.tc : Thread Cert.InQcReferenceIdeal.nD Cert.InQcReferenceIdeal.τ).loc Cert.InQcReferenceIdeal.main_arg0) = m ((c.tc : Thread Cert.InQcReferenceIdeal.nD Cert.InQcReferenceIdeal.τ).loc Cert.InQcReferenceIdeal.main_arg0)
      ∧ r.2.mem ((c.tc : Thread Cert.InQcReferenceIdeal.nD Cert.InQcReferenceIdeal.τ).loc Cert.InQcReferenceIdeal.main_arg1) = m ((c.tc : Thread Cert.InQcReferenceIdeal.nD Cert.InQcReferenceIdeal.τ).loc Cert.InQcReferenceIdeal.main_arg1))
      ∧ r.2.sem = fun _ => 0)

def quiescent_InGatesKernel [hInGatesKernel : Cert.InGatesKernel.Facts] : Prop :=
  ∀ (m : (ℓ : Loc Cert.InGatesKernel.nD Cert.InGatesKernel.τ Cert.InGatesKernel.sig) → Buf (Elt Bits) ℓ) (g : Dev Cert.InGatesKernel.nD → PrngReg), Pre_InGatesKernel m →
    θ_run (Cert.InGatesKernel.defs (F := Bits)) (onTc (τ := Cert.InGatesKernel.τ) (Cert.InGatesKernel.main (F := Bits))) ⟨m, fun _ => 0, g⟩ (fun r => (∀ c : Dev Cert.InGatesKernel.nD,
      r.2.mem ((c.tc : Thread Cert.InGatesKernel.nD Cert.InGatesKernel.τ).loc Cert.InGatesKernel.main_arg0) = m ((c.tc : Thread Cert.InGatesKernel.nD Cert.InGatesKernel.τ).loc Cert.InGatesKernel.main_arg0)
      ∧ r.2.mem ((c.tc : Thread Cert.InGatesKernel.nD Cert.InGatesKernel.τ).loc Cert.InGatesKernel.main_arg1) = m ((c.tc : Thread Cert.InGatesKernel.nD Cert.InGatesKernel.τ).loc Cert.InGatesKernel.main_arg1))
      ∧ r.2.sem = fun _ => 0)

def quiescent_InGatesKernelIdeal [hInGatesKernelIdeal : Cert.InGatesKernelIdeal.Facts] : Prop :=
  ∀ (m : (ℓ : Loc Cert.InGatesKernelIdeal.nD Cert.InGatesKernelIdeal.τ Cert.InGatesKernelIdeal.sig) → Buf (Elt Ideal) ℓ) (g : Dev Cert.InGatesKernelIdeal.nD → PrngReg), Pre_InGatesKernelIdeal m →
    θ_run (Cert.InGatesKernelIdeal.defs (F := Ideal)) (onTc (τ := Cert.InGatesKernelIdeal.τ) (Cert.InGatesKernelIdeal.main (F := Ideal))) ⟨m, fun _ => 0, g⟩ (fun r => (∀ c : Dev Cert.InGatesKernelIdeal.nD,
      r.2.mem ((c.tc : Thread Cert.InGatesKernelIdeal.nD Cert.InGatesKernelIdeal.τ).loc Cert.InGatesKernelIdeal.main_arg0) = m ((c.tc : Thread Cert.InGatesKernelIdeal.nD Cert.InGatesKernelIdeal.τ).loc Cert.InGatesKernelIdeal.main_arg0)
      ∧ r.2.mem ((c.tc : Thread Cert.InGatesKernelIdeal.nD Cert.InGatesKernelIdeal.τ).loc Cert.InGatesKernelIdeal.main_arg1) = m ((c.tc : Thread Cert.InGatesKernelIdeal.nD Cert.InGatesKernelIdeal.τ).loc Cert.InGatesKernelIdeal.main_arg1))
      ∧ r.2.sem = fun _ => 0)

def quiescent_InGatesReferenceIdeal [hInGatesReferenceIdeal : Cert.InGatesReferenceIdeal.Facts] : Prop :=
  ∀ (m : (ℓ : Loc Cert.InGatesReferenceIdeal.nD Cert.InGatesReferenceIdeal.τ Cert.InGatesReferenceIdeal.sig) → Buf (Elt Ideal) ℓ) (g : Dev Cert.InGatesReferenceIdeal.nD → PrngReg), Pre_InGatesReferenceIdeal m →
    θ_run (Cert.InGatesReferenceIdeal.defs (F := Ideal)) (onTc (τ := Cert.InGatesReferenceIdeal.τ) (Cert.InGatesReferenceIdeal.main (F := Ideal))) ⟨m, fun _ => 0, g⟩ (fun r => (∀ c : Dev Cert.InGatesReferenceIdeal.nD,
      r.2.mem ((c.tc : Thread Cert.InGatesReferenceIdeal.nD Cert.InGatesReferenceIdeal.τ).loc Cert.InGatesReferenceIdeal.main_arg0) = m ((c.tc : Thread Cert.InGatesReferenceIdeal.nD Cert.InGatesReferenceIdeal.τ).loc Cert.InGatesReferenceIdeal.main_arg0)
      ∧ r.2.mem ((c.tc : Thread Cert.InGatesReferenceIdeal.nD Cert.InGatesReferenceIdeal.τ).loc Cert.InGatesReferenceIdeal.main_arg1) = m ((c.tc : Thread Cert.InGatesReferenceIdeal.nD Cert.InGatesReferenceIdeal.τ).loc Cert.InGatesReferenceIdeal.main_arg1))
      ∧ r.2.sem = fun _ => 0)

def quiescent_InXKernel [hInXKernel : Cert.InXKernel.Facts] : Prop :=
  ∀ (m : (ℓ : Loc Cert.InXKernel.nD Cert.InXKernel.τ Cert.InXKernel.sig) → Buf (Elt Bits) ℓ) (g : Dev Cert.InXKernel.nD → PrngReg), Pre_InXKernel m →
    θ_run (Cert.InXKernel.defs (F := Bits)) (onTc (τ := Cert.InXKernel.τ) (Cert.InXKernel.main (F := Bits))) ⟨m, fun _ => 0, g⟩ (fun r => (∀ c : Dev Cert.InXKernel.nD,
      r.2.mem ((c.tc : Thread Cert.InXKernel.nD Cert.InXKernel.τ).loc Cert.InXKernel.main_arg0) = m ((c.tc : Thread Cert.InXKernel.nD Cert.InXKernel.τ).loc Cert.InXKernel.main_arg0)
      ∧ r.2.mem ((c.tc : Thread Cert.InXKernel.nD Cert.InXKernel.τ).loc Cert.InXKernel.main_arg1) = m ((c.tc : Thread Cert.InXKernel.nD Cert.InXKernel.τ).loc Cert.InXKernel.main_arg1)
      ∧ r.2.mem ((c.tc : Thread Cert.InXKernel.nD Cert.InXKernel.τ).loc Cert.InXKernel.main_arg2) = m ((c.tc : Thread Cert.InXKernel.nD Cert.InXKernel.τ).loc Cert.InXKernel.main_arg2))
      ∧ r.2.sem = fun _ => 0)

def quiescent_InXKernelIdeal [hInXKernelIdeal : Cert.InXKernelIdeal.Facts] : Prop :=
  ∀ (m : (ℓ : Loc Cert.InXKernelIdeal.nD Cert.InXKernelIdeal.τ Cert.InXKernelIdeal.sig) → Buf (Elt Ideal) ℓ) (g : Dev Cert.InXKernelIdeal.nD → PrngReg), Pre_InXKernelIdeal m →
    θ_run (Cert.InXKernelIdeal.defs (F := Ideal)) (onTc (τ := Cert.InXKernelIdeal.τ) (Cert.InXKernelIdeal.main (F := Ideal))) ⟨m, fun _ => 0, g⟩ (fun r => (∀ c : Dev Cert.InXKernelIdeal.nD,
      r.2.mem ((c.tc : Thread Cert.InXKernelIdeal.nD Cert.InXKernelIdeal.τ).loc Cert.InXKernelIdeal.main_arg0) = m ((c.tc : Thread Cert.InXKernelIdeal.nD Cert.InXKernelIdeal.τ).loc Cert.InXKernelIdeal.main_arg0)
      ∧ r.2.mem ((c.tc : Thread Cert.InXKernelIdeal.nD Cert.InXKernelIdeal.τ).loc Cert.InXKernelIdeal.main_arg1) = m ((c.tc : Thread Cert.InXKernelIdeal.nD Cert.InXKernelIdeal.τ).loc Cert.InXKernelIdeal.main_arg1)
      ∧ r.2.mem ((c.tc : Thread Cert.InXKernelIdeal.nD Cert.InXKernelIdeal.τ).loc Cert.InXKernelIdeal.main_arg2) = m ((c.tc : Thread Cert.InXKernelIdeal.nD Cert.InXKernelIdeal.τ).loc Cert.InXKernelIdeal.main_arg2))
      ∧ r.2.sem = fun _ => 0)

def quiescent_InXReferenceIdeal [hInXReferenceIdeal : Cert.InXReferenceIdeal.Facts] : Prop :=
  ∀ (m : (ℓ : Loc Cert.InXReferenceIdeal.nD Cert.InXReferenceIdeal.τ Cert.InXReferenceIdeal.sig) → Buf (Elt Ideal) ℓ) (g : Dev Cert.InXReferenceIdeal.nD → PrngReg), Pre_InXReferenceIdeal m →
    θ_run (Cert.InXReferenceIdeal.defs (F := Ideal)) (onTc (τ := Cert.InXReferenceIdeal.τ) (Cert.InXReferenceIdeal.main (F := Ideal))) ⟨m, fun _ => 0, g⟩ (fun r => (∀ c : Dev Cert.InXReferenceIdeal.nD,
      r.2.mem ((c.tc : Thread Cert.InXReferenceIdeal.nD Cert.InXReferenceIdeal.τ).loc Cert.InXReferenceIdeal.main_arg0) = m ((c.tc : Thread Cert.InXReferenceIdeal.nD Cert.InXReferenceIdeal.τ).loc Cert.InXReferenceIdeal.main_arg0)
      ∧ r.2.mem ((c.tc : Thread Cert.InXReferenceIdeal.nD Cert.InXReferenceIdeal.τ).loc Cert.InXReferenceIdeal.main_arg1) = m ((c.tc : Thread Cert.InXReferenceIdeal.nD Cert.InXReferenceIdeal.τ).loc Cert.InXReferenceIdeal.main_arg1)
      ∧ r.2.mem ((c.tc : Thread Cert.InXReferenceIdeal.nD Cert.InXReferenceIdeal.τ).loc Cert.InXReferenceIdeal.main_arg2) = m ((c.tc : Thread Cert.InXReferenceIdeal.nD Cert.InXReferenceIdeal.τ).loc Cert.InXReferenceIdeal.main_arg2))
      ∧ r.2.sem = fun _ => 0)

def quiescent_InWKernel [hInWKernel : Cert.InWKernel.Facts] : Prop :=
  ∀ (m : (ℓ : Loc Cert.InWKernel.nD Cert.InWKernel.τ Cert.InWKernel.sig) → Buf (Elt Bits) ℓ) (g : Dev Cert.InWKernel.nD → PrngReg), Pre_InWKernel m →
    θ_run (Cert.InWKernel.defs (F := Bits)) (onTc (τ := Cert.InWKernel.τ) (Cert.InWKernel.main (F := Bits))) ⟨m, fun _ => 0, g⟩ (fun r => (∀ c : Dev Cert.InWKernel.nD,
      r.2.mem ((c.tc : Thread Cert.InWKernel.nD Cert.InWKernel.τ).loc Cert.InWKernel.main_arg0) = m ((c.tc : Thread Cert.InWKernel.nD Cert.InWKernel.τ).loc Cert.InWKernel.main_arg0)
      ∧ r.2.mem ((c.tc : Thread Cert.InWKernel.nD Cert.InWKernel.τ).loc Cert.InWKernel.main_arg1) = m ((c.tc : Thread Cert.InWKernel.nD Cert.InWKernel.τ).loc Cert.InWKernel.main_arg1)
      ∧ r.2.mem ((c.tc : Thread Cert.InWKernel.nD Cert.InWKernel.τ).loc Cert.InWKernel.main_arg2) = m ((c.tc : Thread Cert.InWKernel.nD Cert.InWKernel.τ).loc Cert.InWKernel.main_arg2))
      ∧ r.2.sem = fun _ => 0)

def quiescent_InWKernelIdeal [hInWKernelIdeal : Cert.InWKernelIdeal.Facts] : Prop :=
  ∀ (m : (ℓ : Loc Cert.InWKernelIdeal.nD Cert.InWKernelIdeal.τ Cert.InWKernelIdeal.sig) → Buf (Elt Ideal) ℓ) (g : Dev Cert.InWKernelIdeal.nD → PrngReg), Pre_InWKernelIdeal m →
    θ_run (Cert.InWKernelIdeal.defs (F := Ideal)) (onTc (τ := Cert.InWKernelIdeal.τ) (Cert.InWKernelIdeal.main (F := Ideal))) ⟨m, fun _ => 0, g⟩ (fun r => (∀ c : Dev Cert.InWKernelIdeal.nD,
      r.2.mem ((c.tc : Thread Cert.InWKernelIdeal.nD Cert.InWKernelIdeal.τ).loc Cert.InWKernelIdeal.main_arg0) = m ((c.tc : Thread Cert.InWKernelIdeal.nD Cert.InWKernelIdeal.τ).loc Cert.InWKernelIdeal.main_arg0)
      ∧ r.2.mem ((c.tc : Thread Cert.InWKernelIdeal.nD Cert.InWKernelIdeal.τ).loc Cert.InWKernelIdeal.main_arg1) = m ((c.tc : Thread Cert.InWKernelIdeal.nD Cert.InWKernelIdeal.τ).loc Cert.InWKernelIdeal.main_arg1)
      ∧ r.2.mem ((c.tc : Thread Cert.InWKernelIdeal.nD Cert.InWKernelIdeal.τ).loc Cert.InWKernelIdeal.main_arg2) = m ((c.tc : Thread Cert.InWKernelIdeal.nD Cert.InWKernelIdeal.τ).loc Cert.InWKernelIdeal.main_arg2))
      ∧ r.2.sem = fun _ => 0)

def quiescent_InWReferenceIdeal [hInWReferenceIdeal : Cert.InWReferenceIdeal.Facts] : Prop :=
  ∀ (m : (ℓ : Loc Cert.InWReferenceIdeal.nD Cert.InWReferenceIdeal.τ Cert.InWReferenceIdeal.sig) → Buf (Elt Ideal) ℓ) (g : Dev Cert.InWReferenceIdeal.nD → PrngReg), Pre_InWReferenceIdeal m →
    θ_run (Cert.InWReferenceIdeal.defs (F := Ideal)) (onTc (τ := Cert.InWReferenceIdeal.τ) (Cert.InWReferenceIdeal.main (F := Ideal))) ⟨m, fun _ => 0, g⟩ (fun r => (∀ c : Dev Cert.InWReferenceIdeal.nD,
      r.2.mem ((c.tc : Thread Cert.InWReferenceIdeal.nD Cert.InWReferenceIdeal.τ).loc Cert.InWReferenceIdeal.main_arg0) = m ((c.tc : Thread Cert.InWReferenceIdeal.nD Cert.InWReferenceIdeal.τ).loc Cert.InWReferenceIdeal.main_arg0)
      ∧ r.2.mem ((c.tc : Thread Cert.InWReferenceIdeal.nD Cert.InWReferenceIdeal.τ).loc Cert.InWReferenceIdeal.main_arg1) = m ((c.tc : Thread Cert.InWReferenceIdeal.nD Cert.InWReferenceIdeal.τ).loc Cert.InWReferenceIdeal.main_arg1)
      ∧ r.2.mem ((c.tc : Thread Cert.InWReferenceIdeal.nD Cert.InWReferenceIdeal.τ).loc Cert.InWReferenceIdeal.main_arg2) = m ((c.tc : Thread Cert.InWReferenceIdeal.nD Cert.InWReferenceIdeal.τ).loc Cert.InWReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutXKernel [hOutXKernel : Cert.OutXKernel.Facts] : Prop :=
  ∀ (m : (ℓ : Loc Cert.OutXKernel.nD Cert.OutXKernel.τ Cert.OutXKernel.sig) → Buf (Elt Bits) ℓ) (g : Dev Cert.OutXKernel.nD → PrngReg), Pre_OutXKernel m →
    θ_run (Cert.OutXKernel.defs (F := Bits)) (onTc (τ := Cert.OutXKernel.τ) (Cert.OutXKernel.main (F := Bits))) ⟨m, fun _ => 0, g⟩ (fun r => (∀ c : Dev Cert.OutXKernel.nD,
      r.2.mem ((c.tc : Thread Cert.OutXKernel.nD Cert.OutXKernel.τ).loc Cert.OutXKernel.main_arg0) = m ((c.tc : Thread Cert.OutXKernel.nD Cert.OutXKernel.τ).loc Cert.OutXKernel.main_arg0)
      ∧ r.2.mem ((c.tc : Thread Cert.OutXKernel.nD Cert.OutXKernel.τ).loc Cert.OutXKernel.main_arg1) = m ((c.tc : Thread Cert.OutXKernel.nD Cert.OutXKernel.τ).loc Cert.OutXKernel.main_arg1)
      ∧ r.2.mem ((c.tc : Thread Cert.OutXKernel.nD Cert.OutXKernel.τ).loc Cert.OutXKernel.main_arg2) = m ((c.tc : Thread Cert.OutXKernel.nD Cert.OutXKernel.τ).loc Cert.OutXKernel.main_arg2))
      ∧ r.2.sem = fun _ => 0)

def quiescent_OutXKernelIdeal [hOutXKernelIdeal : Cert.OutXKernelIdeal.Facts] : Prop :=
  ∀ (m : (ℓ : Loc Cert.OutXKernelIdeal.nD Cert.OutXKernelIdeal.τ Cert.OutXKernelIdeal.sig) → Buf (Elt Ideal) ℓ) (g : Dev Cert.OutXKernelIdeal.nD → PrngReg), Pre_OutXKernelIdeal m →
    θ_run (Cert.OutXKernelIdeal.defs (F := Ideal)) (onTc (τ := Cert.OutXKernelIdeal.τ) (Cert.OutXKernelIdeal.main (F := Ideal))) ⟨m, fun _ => 0, g⟩ (fun r => (∀ c : Dev Cert.OutXKernelIdeal.nD,
      r.2.mem ((c.tc : Thread Cert.OutXKernelIdeal.nD Cert.OutXKernelIdeal.τ).loc Cert.OutXKernelIdeal.main_arg0) = m ((c.tc : Thread Cert.OutXKernelIdeal.nD Cert.OutXKernelIdeal.τ).loc Cert.OutXKernelIdeal.main_arg0)
      ∧ r.2.mem ((c.tc : Thread Cert.OutXKernelIdeal.nD Cert.OutXKernelIdeal.τ).loc Cert.OutXKernelIdeal.main_arg1) = m ((c.tc : Thread Cert.OutXKernelIdeal.nD Cert.OutXKernelIdeal.τ).loc Cert.OutXKernelIdeal.main_arg1)
      ∧ r.2.mem ((c.tc : Thread Cert.OutXKernelIdeal.nD Cert.OutXKernelIdeal.τ).loc Cert.OutXKernelIdeal.main_arg2) = m ((c.tc : Thread Cert.OutXKernelIdeal.nD Cert.OutXKernelIdeal.τ).loc Cert.OutXKernelIdeal.main_arg2))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1)
      ∧ r.2.mem ((c.tc : Thread Cert.OutXReferenceIdeal.nD Cert.OutXReferenceIdeal.τ).loc Cert.OutXReferenceIdeal.main_arg2) = m ((c.tc : Thread Cert.OutXReferenceIdeal.nD Cert.OutXReferenceIdeal.τ).loc Cert.OutXReferenceIdeal.main_arg2))
      ∧ r.2.sem = fun _ => 0)

def quiescent_OutWKernel [hOutWKernel : Cert.OutWKernel.Facts] : Prop :=
  ∀ (m : (ℓ : Loc Cert.OutWKernel.nD Cert.OutWKernel.τ Cert.OutWKernel.sig) → Buf (Elt Bits) ℓ) (g : Dev Cert.OutWKernel.nD → PrngReg), Pre_OutWKernel m →
    θ_run (Cert.OutWKernel.defs (F := Bits)) (onTc (τ := Cert.OutWKernel.τ) (Cert.OutWKernel.main (F := Bits))) ⟨m, fun _ => 0, g⟩ (fun r => (∀ c : Dev Cert.OutWKernel.nD,
      r.2.mem ((c.tc : Thread Cert.OutWKernel.nD Cert.OutWKernel.τ).loc Cert.OutWKernel.main_arg0) = m ((c.tc : Thread Cert.OutWKernel.nD Cert.OutWKernel.τ).loc Cert.OutWKernel.main_arg0)
      ∧ r.2.mem ((c.tc : Thread Cert.OutWKernel.nD Cert.OutWKernel.τ).loc Cert.OutWKernel.main_arg1) = m ((c.tc : Thread Cert.OutWKernel.nD Cert.OutWKernel.τ).loc Cert.OutWKernel.main_arg1)
      ∧ r.2.mem ((c.tc : Thread Cert.OutWKernel.nD Cert.OutWKernel.τ).loc Cert.OutWKernel.main_arg2) = m ((c.tc : Thread Cert.OutWKernel.nD Cert.OutWKernel.τ).loc Cert.OutWKernel.main_arg2))
      ∧ r.2.sem = fun _ => 0)

def quiescent_OutWKernelIdeal [hOutWKernelIdeal : Cert.OutWKernelIdeal.Facts] : Prop :=
  ∀ (m : (ℓ : Loc Cert.OutWKernelIdeal.nD Cert.OutWKernelIdeal.τ Cert.OutWKernelIdeal.sig) → Buf (Elt Ideal) ℓ) (g : Dev Cert.OutWKernelIdeal.nD → PrngReg), Pre_OutWKernelIdeal m →
    θ_run (Cert.OutWKernelIdeal.defs (F := Ideal)) (onTc (τ := Cert.OutWKernelIdeal.τ) (Cert.OutWKernelIdeal.main (F := Ideal))) ⟨m, fun _ => 0, g⟩ (fun r => (∀ c : Dev Cert.OutWKernelIdeal.nD,
      r.2.mem ((c.tc : Thread Cert.OutWKernelIdeal.nD Cert.OutWKernelIdeal.τ).loc Cert.OutWKernelIdeal.main_arg0) = m ((c.tc : Thread Cert.OutWKernelIdeal.nD Cert.OutWKernelIdeal.τ).loc Cert.OutWKernelIdeal.main_arg0)
      ∧ r.2.mem ((c.tc : Thread Cert.OutWKernelIdeal.nD Cert.OutWKernelIdeal.τ).loc Cert.OutWKernelIdeal.main_arg1) = m ((c.tc : Thread Cert.OutWKernelIdeal.nD Cert.OutWKernelIdeal.τ).loc Cert.OutWKernelIdeal.main_arg1)
      ∧ r.2.mem ((c.tc : Thread Cert.OutWKernelIdeal.nD Cert.OutWKernelIdeal.τ).loc Cert.OutWKernelIdeal.main_arg2) = m ((c.tc : Thread Cert.OutWKernelIdeal.nD Cert.OutWKernelIdeal.τ).loc Cert.OutWKernelIdeal.main_arg2))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1)
      ∧ r.2.mem ((c.tc : Thread Cert.OutWReferenceIdeal.nD Cert.OutWReferenceIdeal.τ).loc Cert.OutWReferenceIdeal.main_arg2) = m ((c.tc : Thread Cert.OutWReferenceIdeal.nD Cert.OutWReferenceIdeal.τ).loc Cert.OutWReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_DMergeKernel [hDMergeKernel : Cert.DMergeKernel.Facts] : Prop :=
  ∀ (m : (ℓ : Loc Cert.DMergeKernel.nD Cert.DMergeKernel.τ Cert.DMergeKernel.sig) → Buf (Elt Bits) ℓ) (g : Dev Cert.DMergeKernel.nD → PrngReg), Pre_DMergeKernel m →
    θ_run (Cert.DMergeKernel.defs (F := Bits)) (onTc (τ := Cert.DMergeKernel.τ) (Cert.DMergeKernel.main (F := Bits))) ⟨m, fun _ => 0, g⟩ (fun r => (∀ c : Dev Cert.DMergeKernel.nD,
      r.2.mem ((c.tc : Thread Cert.DMergeKernel.nD Cert.DMergeKernel.τ).loc Cert.DMergeKernel.main_arg0) = m ((c.tc : Thread Cert.DMergeKernel.nD Cert.DMergeKernel.τ).loc Cert.DMergeKernel.main_arg0)
      ∧ r.2.mem ((c.tc : Thread Cert.DMergeKernel.nD Cert.DMergeKernel.τ).loc Cert.DMergeKernel.main_arg1) = m ((c.tc : Thread Cert.DMergeKernel.nD Cert.DMergeKernel.τ).loc Cert.DMergeKernel.main_arg1)
      ∧ r.2.mem ((c.tc : Thread Cert.DMergeKernel.nD Cert.DMergeKernel.τ).loc Cert.DMergeKernel.main_arg2) = m ((c.tc : Thread Cert.DMergeKernel.nD Cert.DMergeKernel.τ).loc Cert.DMergeKernel.main_arg2)
      ∧ r.2.mem ((c.tc : Thread Cert.DMergeKernel.nD Cert.DMergeKernel.τ).loc Cert.DMergeKernel.main_arg3) = m ((c.tc : Thread Cert.DMergeKernel.nD Cert.DMergeKernel.τ).loc Cert.DMergeKernel.main_arg3)
      ∧ r.2.mem ((c.tc : Thread Cert.DMergeKernel.nD Cert.DMergeKernel.τ).loc Cert.DMergeKernel.main_arg4) = m ((c.tc : Thread Cert.DMergeKernel.nD Cert.DMergeKernel.τ).loc Cert.DMergeKernel.main_arg4)
      ∧ r.2.mem ((c.tc : Thread Cert.DMergeKernel.nD Cert.DMergeKernel.τ).loc Cert.DMergeKernel.main_arg5) = m ((c.tc : Thread Cert.DMergeKernel.nD Cert.DMergeKernel.τ).loc Cert.DMergeKernel.main_arg5)
      ∧ r.2.mem ((c.tc : Thread Cert.DMergeKernel.nD Cert.DMergeKernel.τ).loc Cert.DMergeKernel.main_arg6) = m ((c.tc : Thread Cert.DMergeKernel.nD Cert.DMergeKernel.τ).loc Cert.DMergeKernel.main_arg6)
      ∧ r.2.mem ((c.tc : Thread Cert.DMergeKernel.nD Cert.DMergeKernel.τ).loc Cert.DMergeKernel.main_arg7) = m ((c.tc : Thread Cert.DMergeKernel.nD Cert.DMergeKernel.τ).loc Cert.DMergeKernel.main_arg7))
      ∧ r.2.sem = fun _ => 0)

def quiescent_DMergeKernelIdeal [hDMergeKernelIdeal : Cert.DMergeKernelIdeal.Facts] : Prop :=
  ∀ (m : (ℓ : Loc Cert.DMergeKernelIdeal.nD Cert.DMergeKernelIdeal.τ Cert.DMergeKernelIdeal.sig) → Buf (Elt Ideal) ℓ) (g : Dev Cert.DMergeKernelIdeal.nD → PrngReg), Pre_DMergeKernelIdeal m →
    θ_run (Cert.DMergeKernelIdeal.defs (F := Ideal)) (onTc (τ := Cert.DMergeKernelIdeal.τ) (Cert.DMergeKernelIdeal.main (F := Ideal))) ⟨m, fun _ => 0, g⟩ (fun r => (∀ c : Dev Cert.DMergeKernelIdeal.nD,
      r.2.mem ((c.tc : Thread Cert.DMergeKernelIdeal.nD Cert.DMergeKernelIdeal.τ).loc Cert.DMergeKernelIdeal.main_arg0) = m ((c.tc : Thread Cert.DMergeKernelIdeal.nD Cert.DMergeKernelIdeal.τ).loc Cert.DMergeKernelIdeal.main_arg0)
      ∧ r.2.mem ((c.tc : Thread Cert.DMergeKernelIdeal.nD Cert.DMergeKernelIdeal.τ).loc Cert.DMergeKernelIdeal.main_arg1) = m ((c.tc : Thread Cert.DMergeKernelIdeal.nD Cert.DMergeKernelIdeal.τ).loc Cert.DMergeKernelIdeal.main_arg1)
      ∧ r.2.mem ((c.tc : Thread Cert.DMergeKernelIdeal.nD Cert.DMergeKernelIdeal.τ).loc Cert.DMergeKernelIdeal.main_arg2) = m ((c.tc : Thread Cert.DMergeKernelIdeal.nD Cert.DMergeKernelIdeal.τ).loc Cert.DMergeKernelIdeal.main_arg2)
      ∧ r.2.mem ((c.tc : Thread Cert.DMergeKernelIdeal.nD Cert.DMergeKernelIdeal.τ).loc Cert.DMergeKernelIdeal.main_arg3) = m ((c.tc : Thread Cert.DMergeKernelIdeal.nD Cert.DMergeKernelIdeal.τ).loc Cert.DMergeKernelIdeal.main_arg3)
      ∧ r.2.mem ((c.tc : Thread Cert.DMergeKernelIdeal.nD Cert.DMergeKernelIdeal.τ).loc Cert.DMergeKernelIdeal.main_arg4) = m ((c.tc : Thread Cert.DMergeKernelIdeal.nD Cert.DMergeKernelIdeal.τ).loc Cert.DMergeKernelIdeal.main_arg4)
      ∧ r.2.mem ((c.tc : Thread Cert.DMergeKernelIdeal.nD Cert.DMergeKernelIdeal.τ).loc Cert.DMergeKernelIdeal.main_arg5) = m ((c.tc : Thread Cert.DMergeKernelIdeal.nD Cert.DMergeKernelIdeal.τ).loc Cert.DMergeKernelIdeal.main_arg5)
      ∧ r.2.mem ((c.tc : Thread Cert.DMergeKernelIdeal.nD Cert.DMergeKernelIdeal.τ).loc Cert.DMergeKernelIdeal.main_arg6) = m ((c.tc : Thread Cert.DMergeKernelIdeal.nD Cert.DMergeKernelIdeal.τ).loc Cert.DMergeKernelIdeal.main_arg6)
      ∧ r.2.mem ((c.tc : Thread Cert.DMergeKernelIdeal.nD Cert.DMergeKernelIdeal.τ).loc Cert.DMergeKernelIdeal.main_arg7) = m ((c.tc : Thread Cert.DMergeKernelIdeal.nD Cert.DMergeKernelIdeal.τ).loc Cert.DMergeKernelIdeal.main_arg7))
      ∧ r.2.sem = fun _ => 0)

def quiescent_DMergeReferenceIdeal [hDMergeReferenceIdeal : Cert.DMergeReferenceIdeal.Facts] : Prop :=
  ∀ (m : (ℓ : Loc Cert.DMergeReferenceIdeal.nD Cert.DMergeReferenceIdeal.τ Cert.DMergeReferenceIdeal.sig) → Buf (Elt Ideal) ℓ) (g : Dev Cert.DMergeReferenceIdeal.nD → PrngReg), Pre_DMergeReferenceIdeal m →
    θ_run (Cert.DMergeReferenceIdeal.defs (F := Ideal)) (onTc (τ := Cert.DMergeReferenceIdeal.τ) (Cert.DMergeReferenceIdeal.main (F := Ideal))) ⟨m, fun _ => 0, g⟩ (fun r => (∀ c : Dev Cert.DMergeReferenceIdeal.nD,
      r.2.mem ((c.tc : Thread Cert.DMergeReferenceIdeal.nD Cert.DMergeReferenceIdeal.τ).loc Cert.DMergeReferenceIdeal.main_arg0) = m ((c.tc : Thread Cert.DMergeReferenceIdeal.nD Cert.DMergeReferenceIdeal.τ).loc Cert.DMergeReferenceIdeal.main_arg0)
      ∧ r.2.mem ((c.tc : Thread Cert.DMergeReferenceIdeal.nD Cert.DMergeReferenceIdeal.τ).loc Cert.DMergeReferenceIdeal.main_arg1) = m ((c.tc : Thread Cert.DMergeReferenceIdeal.nD Cert.DMergeReferenceIdeal.τ).loc Cert.DMergeReferenceIdeal.main_arg1)
      ∧ r.2.mem ((c.tc : Thread Cert.DMergeReferenceIdeal.nD Cert.DMergeReferenceIdeal.τ).loc Cert.DMergeReferenceIdeal.main_arg2) = m ((c.tc : Thread Cert.DMergeReferenceIdeal.nD Cert.DMergeReferenceIdeal.τ).loc Cert.DMergeReferenceIdeal.main_arg2)
      ∧ r.2.mem ((c.tc : Thread Cert.DMergeReferenceIdeal.nD Cert.DMergeReferenceIdeal.τ).loc Cert.DMergeReferenceIdeal.main_arg3) = m ((c.tc : Thread Cert.DMergeReferenceIdeal.nD Cert.DMergeReferenceIdeal.τ).loc Cert.DMergeReferenceIdeal.main_arg3)
      ∧ r.2.mem ((c.tc : Thread Cert.DMergeReferenceIdeal.nD Cert.DMergeReferenceIdeal.τ).loc Cert.DMergeReferenceIdeal.main_arg4) = m ((c.tc : Thread Cert.DMergeReferenceIdeal.nD Cert.DMergeReferenceIdeal.τ).loc Cert.DMergeReferenceIdeal.main_arg4)
      ∧ r.2.mem ((c.tc : Thread Cert.DMergeReferenceIdeal.nD Cert.DMergeReferenceIdeal.τ).loc Cert.DMergeReferenceIdeal.main_arg5) = m ((c.tc : Thread Cert.DMergeReferenceIdeal.nD Cert.DMergeReferenceIdeal.τ).loc Cert.DMergeReferenceIdeal.main_arg5)
      ∧ r.2.mem ((c.tc : Thread Cert.DMergeReferenceIdeal.nD Cert.DMergeReferenceIdeal.τ).loc Cert.DMergeReferenceIdeal.main_arg6) = m ((c.tc : Thread Cert.DMergeReferenceIdeal.nD Cert.DMergeReferenceIdeal.τ).loc Cert.DMergeReferenceIdeal.main_arg6)
      ∧ r.2.mem ((c.tc : Thread Cert.DMergeReferenceIdeal.nD Cert.DMergeReferenceIdeal.τ).loc Cert.DMergeReferenceIdeal.main_arg7) = m ((c.tc : Thread Cert.DMergeReferenceIdeal.nD Cert.DMergeReferenceIdeal.τ).loc Cert.DMergeReferenceIdeal.main_arg7))
      ∧ r.2.sem = fun _ => 0)

def quiescent_UpAXKernel [hUpAXKernel : Cert.UpAXKernel.Facts] : Prop :=
  ∀ (m : (ℓ : Loc Cert.UpAXKernel.nD Cert.UpAXKernel.τ Cert.UpAXKernel.sig) → Buf (Elt Bits) ℓ) (g : Dev Cert.UpAXKernel.nD → PrngReg), Pre_UpAXKernel m →
    θ_run (Cert.UpAXKernel.defs (F := Bits)) (onTc (τ := Cert.UpAXKernel.τ) (Cert.UpAXKernel.main (F := Bits))) ⟨m, fun _ => 0, g⟩ (fun r => (∀ c : Dev Cert.UpAXKernel.nD,
      r.2.mem ((c.tc : Thread Cert.UpAXKernel.nD Cert.UpAXKernel.τ).loc Cert.UpAXKernel.main_arg0) = m ((c.tc : Thread Cert.UpAXKernel.nD Cert.UpAXKernel.τ).loc Cert.UpAXKernel.main_arg0)
      ∧ r.2.mem ((c.tc : Thread Cert.UpAXKernel.nD Cert.UpAXKernel.τ).loc Cert.UpAXKernel.main_arg1) = m ((c.tc : Thread Cert.UpAXKernel.nD Cert.UpAXKernel.τ).loc Cert.UpAXKernel.main_arg1)
      ∧ r.2.mem ((c.tc : Thread Cert.UpAXKernel.nD Cert.UpAXKernel.τ).loc Cert.UpAXKernel.main_arg2) = m ((c.tc : Thread Cert.UpAXKernel.nD Cert.UpAXKernel.τ).loc Cert.UpAXKernel.main_arg2)
      ∧ r.2.mem ((c.tc : Thread Cert.UpAXKernel.nD Cert.UpAXKernel.τ).loc Cert.UpAXKernel.main_arg3) = m ((c.tc : Thread Cert.UpAXKernel.nD Cert.UpAXKernel.τ).loc Cert.UpAXKernel.main_arg3))
      ∧ r.2.sem = fun _ => 0)

def quiescent_UpAXKernelIdeal [hUpAXKernelIdeal : Cert.UpAXKernelIdeal.Facts] : Prop :=
  ∀ (m : (ℓ : Loc Cert.UpAXKernelIdeal.nD Cert.UpAXKernelIdeal.τ Cert.UpAXKernelIdeal.sig) → Buf (Elt Ideal) ℓ) (g : Dev Cert.UpAXKernelIdeal.nD → PrngReg), Pre_UpAXKernelIdeal m →
    θ_run (Cert.UpAXKernelIdeal.defs (F := Ideal)) (onTc (τ := Cert.UpAXKernelIdeal.τ) (Cert.UpAXKernelIdeal.main (F := Ideal))) ⟨m, fun _ => 0, g⟩ (fun r => (∀ c : Dev Cert.UpAXKernelIdeal.nD,
      r.2.mem ((c.tc : Thread Cert.UpAXKernelIdeal.nD Cert.UpAXKernelIdeal.τ).loc Cert.UpAXKernelIdeal.main_arg0) = m ((c.tc : Thread Cert.UpAXKernelIdeal.nD Cert.UpAXKernelIdeal.τ).loc Cert.UpAXKernelIdeal.main_arg0)
      ∧ r.2.mem ((c.tc : Thread Cert.UpAXKernelIdeal.nD Cert.UpAXKernelIdeal.τ).loc Cert.UpAXKernelIdeal.main_arg1) = m ((c.tc : Thread Cert.UpAXKernelIdeal.nD Cert.UpAXKernelIdeal.τ).loc Cert.UpAXKernelIdeal.main_arg1)
      ∧ r.2.mem ((c.tc : Thread Cert.UpAXKernelIdeal.nD Cert.UpAXKernelIdeal.τ).loc Cert.UpAXKernelIdeal.main_arg2) = m ((c.tc : Thread Cert.UpAXKernelIdeal.nD Cert.UpAXKernelIdeal.τ).loc Cert.UpAXKernelIdeal.main_arg2)
      ∧ r.2.mem ((c.tc : Thread Cert.UpAXKernelIdeal.nD Cert.UpAXKernelIdeal.τ).loc Cert.UpAXKernelIdeal.main_arg3) = m ((c.tc : Thread Cert.UpAXKernelIdeal.nD Cert.UpAXKernelIdeal.τ).loc Cert.UpAXKernelIdeal.main_arg3))
      ∧ r.2.sem = fun _ => 0)

def quiescent_UpAXReferenceIdeal [hUpAXReferenceIdeal : Cert.UpAXReferenceIdeal.Facts] : Prop :=
  ∀ (m : (ℓ : Loc Cert.UpAXReferenceIdeal.nD Cert.UpAXReferenceIdeal.τ Cert.UpAXReferenceIdeal.sig) → Buf (Elt Ideal) ℓ) (g : Dev Cert.UpAXReferenceIdeal.nD → PrngReg), Pre_UpAXReferenceIdeal m →
    θ_run (Cert.UpAXReferenceIdeal.defs (F := Ideal)) (onTc (τ := Cert.UpAXReferenceIdeal.τ) (Cert.UpAXReferenceIdeal.main (F := Ideal))) ⟨m, fun _ => 0, g⟩ (fun r => (∀ c : Dev Cert.UpAXReferenceIdeal.nD,
      r.2.mem ((c.tc : Thread Cert.UpAXReferenceIdeal.nD Cert.UpAXReferenceIdeal.τ).loc Cert.UpAXReferenceIdeal.main_arg0) = m ((c.tc : Thread Cert.UpAXReferenceIdeal.nD Cert.UpAXReferenceIdeal.τ).loc Cert.UpAXReferenceIdeal.main_arg0)
      ∧ r.2.mem ((c.tc : Thread Cert.UpAXReferenceIdeal.nD Cert.UpAXReferenceIdeal.τ).loc Cert.UpAXReferenceIdeal.main_arg1) = m ((c.tc : Thread Cert.UpAXReferenceIdeal.nD Cert.UpAXReferenceIdeal.τ).loc Cert.UpAXReferenceIdeal.main_arg1)
      ∧ r.2.mem ((c.tc : Thread Cert.UpAXReferenceIdeal.nD Cert.UpAXReferenceIdeal.τ).loc Cert.UpAXReferenceIdeal.main_arg2) = m ((c.tc : Thread Cert.UpAXReferenceIdeal.nD Cert.UpAXReferenceIdeal.τ).loc Cert.UpAXReferenceIdeal.main_arg2)
      ∧ r.2.mem ((c.tc : Thread Cert.UpAXReferenceIdeal.nD Cert.UpAXReferenceIdeal.τ).loc Cert.UpAXReferenceIdeal.main_arg3) = m ((c.tc : Thread Cert.UpAXReferenceIdeal.nD Cert.UpAXReferenceIdeal.τ).loc Cert.UpAXReferenceIdeal.main_arg3))
      ∧ r.2.sem = fun _ => 0)

def quiescent_UpAWKernel [hUpAWKernel : Cert.UpAWKernel.Facts] : Prop :=
  ∀ (m : (ℓ : Loc Cert.UpAWKernel.nD Cert.UpAWKernel.τ Cert.UpAWKernel.sig) → Buf (Elt Bits) ℓ) (g : Dev Cert.UpAWKernel.nD → PrngReg), Pre_UpAWKernel m →
    θ_run (Cert.UpAWKernel.defs (F := Bits)) (onTc (τ := Cert.UpAWKernel.τ) (Cert.UpAWKernel.main (F := Bits))) ⟨m, fun _ => 0, g⟩ (fun r => (∀ c : Dev Cert.UpAWKernel.nD,
      r.2.mem ((c.tc : Thread Cert.UpAWKernel.nD Cert.UpAWKernel.τ).loc Cert.UpAWKernel.main_arg0) = m ((c.tc : Thread Cert.UpAWKernel.nD Cert.UpAWKernel.τ).loc Cert.UpAWKernel.main_arg0)
      ∧ r.2.mem ((c.tc : Thread Cert.UpAWKernel.nD Cert.UpAWKernel.τ).loc Cert.UpAWKernel.main_arg1) = m ((c.tc : Thread Cert.UpAWKernel.nD Cert.UpAWKernel.τ).loc Cert.UpAWKernel.main_arg1)
      ∧ r.2.mem ((c.tc : Thread Cert.UpAWKernel.nD Cert.UpAWKernel.τ).loc Cert.UpAWKernel.main_arg2) = m ((c.tc : Thread Cert.UpAWKernel.nD Cert.UpAWKernel.τ).loc Cert.UpAWKernel.main_arg2)
      ∧ r.2.mem ((c.tc : Thread Cert.UpAWKernel.nD Cert.UpAWKernel.τ).loc Cert.UpAWKernel.main_arg3) = m ((c.tc : Thread Cert.UpAWKernel.nD Cert.UpAWKernel.τ).loc Cert.UpAWKernel.main_arg3))
      ∧ r.2.sem = fun _ => 0)

def quiescent_UpAWKernelIdeal [hUpAWKernelIdeal : Cert.UpAWKernelIdeal.Facts] : Prop :=
  ∀ (m : (ℓ : Loc Cert.UpAWKernelIdeal.nD Cert.UpAWKernelIdeal.τ Cert.UpAWKernelIdeal.sig) → Buf (Elt Ideal) ℓ) (g : Dev Cert.UpAWKernelIdeal.nD → PrngReg), Pre_UpAWKernelIdeal m →
    θ_run (Cert.UpAWKernelIdeal.defs (F := Ideal)) (onTc (τ := Cert.UpAWKernelIdeal.τ) (Cert.UpAWKernelIdeal.main (F := Ideal))) ⟨m, fun _ => 0, g⟩ (fun r => (∀ c : Dev Cert.UpAWKernelIdeal.nD,
      r.2.mem ((c.tc : Thread Cert.UpAWKernelIdeal.nD Cert.UpAWKernelIdeal.τ).loc Cert.UpAWKernelIdeal.main_arg0) = m ((c.tc : Thread Cert.UpAWKernelIdeal.nD Cert.UpAWKernelIdeal.τ).loc Cert.UpAWKernelIdeal.main_arg0)
      ∧ r.2.mem ((c.tc : Thread Cert.UpAWKernelIdeal.nD Cert.UpAWKernelIdeal.τ).loc Cert.UpAWKernelIdeal.main_arg1) = m ((c.tc : Thread Cert.UpAWKernelIdeal.nD Cert.UpAWKernelIdeal.τ).loc Cert.UpAWKernelIdeal.main_arg1)
      ∧ r.2.mem ((c.tc : Thread Cert.UpAWKernelIdeal.nD Cert.UpAWKernelIdeal.τ).loc Cert.UpAWKernelIdeal.main_arg2) = m ((c.tc : Thread Cert.UpAWKernelIdeal.nD Cert.UpAWKernelIdeal.τ).loc Cert.UpAWKernelIdeal.main_arg2)
      ∧ r.2.mem ((c.tc : Thread Cert.UpAWKernelIdeal.nD Cert.UpAWKernelIdeal.τ).loc Cert.UpAWKernelIdeal.main_arg3) = m ((c.tc : Thread Cert.UpAWKernelIdeal.nD Cert.UpAWKernelIdeal.τ).loc Cert.UpAWKernelIdeal.main_arg3))
      ∧ r.2.sem = fun _ => 0)

def quiescent_UpAWReferenceIdeal [hUpAWReferenceIdeal : Cert.UpAWReferenceIdeal.Facts] : Prop :=
  ∀ (m : (ℓ : Loc Cert.UpAWReferenceIdeal.nD Cert.UpAWReferenceIdeal.τ Cert.UpAWReferenceIdeal.sig) → Buf (Elt Ideal) ℓ) (g : Dev Cert.UpAWReferenceIdeal.nD → PrngReg), Pre_UpAWReferenceIdeal m →
    θ_run (Cert.UpAWReferenceIdeal.defs (F := Ideal)) (onTc (τ := Cert.UpAWReferenceIdeal.τ) (Cert.UpAWReferenceIdeal.main (F := Ideal))) ⟨m, fun _ => 0, g⟩ (fun r => (∀ c : Dev Cert.UpAWReferenceIdeal.nD,
      r.2.mem ((c.tc : Thread Cert.UpAWReferenceIdeal.nD Cert.UpAWReferenceIdeal.τ).loc Cert.UpAWReferenceIdeal.main_arg0) = m ((c.tc : Thread Cert.UpAWReferenceIdeal.nD Cert.UpAWReferenceIdeal.τ).loc Cert.UpAWReferenceIdeal.main_arg0)
      ∧ r.2.mem ((c.tc : Thread Cert.UpAWReferenceIdeal.nD Cert.UpAWReferenceIdeal.τ).loc Cert.UpAWReferenceIdeal.main_arg1) = m ((c.tc : Thread Cert.UpAWReferenceIdeal.nD Cert.UpAWReferenceIdeal.τ).loc Cert.UpAWReferenceIdeal.main_arg1)
      ∧ r.2.mem ((c.tc : Thread Cert.UpAWReferenceIdeal.nD Cert.UpAWReferenceIdeal.τ).loc Cert.UpAWReferenceIdeal.main_arg2) = m ((c.tc : Thread Cert.UpAWReferenceIdeal.nD Cert.UpAWReferenceIdeal.τ).loc Cert.UpAWReferenceIdeal.main_arg2)
      ∧ r.2.mem ((c.tc : Thread Cert.UpAWReferenceIdeal.nD Cert.UpAWReferenceIdeal.τ).loc Cert.UpAWReferenceIdeal.main_arg3) = m ((c.tc : Thread Cert.UpAWReferenceIdeal.nD Cert.UpAWReferenceIdeal.τ).loc Cert.UpAWReferenceIdeal.main_arg3))
      ∧ r.2.sem = fun _ => 0)

def quiescent_UpBXKernel [hUpBXKernel : Cert.UpBXKernel.Facts] : Prop :=
  ∀ (m : (ℓ : Loc Cert.UpBXKernel.nD Cert.UpBXKernel.τ Cert.UpBXKernel.sig) → Buf (Elt Bits) ℓ) (g : Dev Cert.UpBXKernel.nD → PrngReg), Pre_UpBXKernel m →
    θ_run (Cert.UpBXKernel.defs (F := Bits)) (onTc (τ := Cert.UpBXKernel.τ) (Cert.UpBXKernel.main (F := Bits))) ⟨m, fun _ => 0, g⟩ (fun r => (∀ c : Dev Cert.UpBXKernel.nD,
      r.2.mem ((c.tc : Thread Cert.UpBXKernel.nD Cert.UpBXKernel.τ).loc Cert.UpBXKernel.main_arg0) = m ((c.tc : Thread Cert.UpBXKernel.nD Cert.UpBXKernel.τ).loc Cert.UpBXKernel.main_arg0)
      ∧ r.2.mem ((c.tc : Thread Cert.UpBXKernel.nD Cert.UpBXKernel.τ).loc Cert.UpBXKernel.main_arg1) = m ((c.tc : Thread Cert.UpBXKernel.nD Cert.UpBXKernel.τ).loc Cert.UpBXKernel.main_arg1)
      ∧ r.2.mem ((c.tc : Thread Cert.UpBXKernel.nD Cert.UpBXKernel.τ).loc Cert.UpBXKernel.main_arg2) = m ((c.tc : Thread Cert.UpBXKernel.nD Cert.UpBXKernel.τ).loc Cert.UpBXKernel.main_arg2)
      ∧ r.2.mem ((c.tc : Thread Cert.UpBXKernel.nD Cert.UpBXKernel.τ).loc Cert.UpBXKernel.main_arg3) = m ((c.tc : Thread Cert.UpBXKernel.nD Cert.UpBXKernel.τ).loc Cert.UpBXKernel.main_arg3))
      ∧ r.2.sem = fun _ => 0)

def quiescent_UpBXKernelIdeal [hUpBXKernelIdeal : Cert.UpBXKernelIdeal.Facts] : Prop :=
  ∀ (m : (ℓ : Loc Cert.UpBXKernelIdeal.nD Cert.UpBXKernelIdeal.τ Cert.UpBXKernelIdeal.sig) → Buf (Elt Ideal) ℓ) (g : Dev Cert.UpBXKernelIdeal.nD → PrngReg), Pre_UpBXKernelIdeal m →
    θ_run (Cert.UpBXKernelIdeal.defs (F := Ideal)) (onTc (τ := Cert.UpBXKernelIdeal.τ) (Cert.UpBXKernelIdeal.main (F := Ideal))) ⟨m, fun _ => 0, g⟩ (fun r => (∀ c : Dev Cert.UpBXKernelIdeal.nD,
      r.2.mem ((c.tc : Thread Cert.UpBXKernelIdeal.nD Cert.UpBXKernelIdeal.τ).loc Cert.UpBXKernelIdeal.main_arg0) = m ((c.tc : Thread Cert.UpBXKernelIdeal.nD Cert.UpBXKernelIdeal.τ).loc Cert.UpBXKernelIdeal.main_arg0)
      ∧ r.2.mem ((c.tc : Thread Cert.UpBXKernelIdeal.nD Cert.UpBXKernelIdeal.τ).loc Cert.UpBXKernelIdeal.main_arg1) = m ((c.tc : Thread Cert.UpBXKernelIdeal.nD Cert.UpBXKernelIdeal.τ).loc Cert.UpBXKernelIdeal.main_arg1)
      ∧ r.2.mem ((c.tc : Thread Cert.UpBXKernelIdeal.nD Cert.UpBXKernelIdeal.τ).loc Cert.UpBXKernelIdeal.main_arg2) = m ((c.tc : Thread Cert.UpBXKernelIdeal.nD Cert.UpBXKernelIdeal.τ).loc Cert.UpBXKernelIdeal.main_arg2)
      ∧ r.2.mem ((c.tc : Thread Cert.UpBXKernelIdeal.nD Cert.UpBXKernelIdeal.τ).loc Cert.UpBXKernelIdeal.main_arg3) = m ((c.tc : Thread Cert.UpBXKernelIdeal.nD Cert.UpBXKernelIdeal.τ).loc Cert.UpBXKernelIdeal.main_arg3))
      ∧ r.2.sem = fun _ => 0)

def quiescent_UpBXReferenceIdeal [hUpBXReferenceIdeal : Cert.UpBXReferenceIdeal.Facts] : Prop :=
  ∀ (m : (ℓ : Loc Cert.UpBXReferenceIdeal.nD Cert.UpBXReferenceIdeal.τ Cert.UpBXReferenceIdeal.sig) → Buf (Elt Ideal) ℓ) (g : Dev Cert.UpBXReferenceIdeal.nD → PrngReg), Pre_UpBXReferenceIdeal m →
    θ_run (Cert.UpBXReferenceIdeal.defs (F := Ideal)) (onTc (τ := Cert.UpBXReferenceIdeal.τ) (Cert.UpBXReferenceIdeal.main (F := Ideal))) ⟨m, fun _ => 0, g⟩ (fun r => (∀ c : Dev Cert.UpBXReferenceIdeal.nD,
      r.2.mem ((c.tc : Thread Cert.UpBXReferenceIdeal.nD Cert.UpBXReferenceIdeal.τ).loc Cert.UpBXReferenceIdeal.main_arg0) = m ((c.tc : Thread Cert.UpBXReferenceIdeal.nD Cert.UpBXReferenceIdeal.τ).loc Cert.UpBXReferenceIdeal.main_arg0)
      ∧ r.2.mem ((c.tc : Thread Cert.UpBXReferenceIdeal.nD Cert.UpBXReferenceIdeal.τ).loc Cert.UpBXReferenceIdeal.main_arg1) = m ((c.tc : Thread Cert.UpBXReferenceIdeal.nD Cert.UpBXReferenceIdeal.τ).loc Cert.UpBXReferenceIdeal.main_arg1)
      ∧ r.2.mem ((c.tc : Thread Cert.UpBXReferenceIdeal.nD Cert.UpBXReferenceIdeal.τ).loc Cert.UpBXReferenceIdeal.main_arg2) = m ((c.tc : Thread Cert.UpBXReferenceIdeal.nD Cert.UpBXReferenceIdeal.τ).loc Cert.UpBXReferenceIdeal.main_arg2)
      ∧ r.2.mem ((c.tc : Thread Cert.UpBXReferenceIdeal.nD Cert.UpBXReferenceIdeal.τ).loc Cert.UpBXReferenceIdeal.main_arg3) = m ((c.tc : Thread Cert.UpBXReferenceIdeal.nD Cert.UpBXReferenceIdeal.τ).loc Cert.UpBXReferenceIdeal.main_arg3))
      ∧ r.2.sem = fun _ => 0)

def quiescent_UpBWKernel [hUpBWKernel : Cert.UpBWKernel.Facts] : Prop :=
  ∀ (m : (ℓ : Loc Cert.UpBWKernel.nD Cert.UpBWKernel.τ Cert.UpBWKernel.sig) → Buf (Elt Bits) ℓ) (g : Dev Cert.UpBWKernel.nD → PrngReg), Pre_UpBWKernel m →
    θ_run (Cert.UpBWKernel.defs (F := Bits)) (onTc (τ := Cert.UpBWKernel.τ) (Cert.UpBWKernel.main (F := Bits))) ⟨m, fun _ => 0, g⟩ (fun r => (∀ c : Dev Cert.UpBWKernel.nD,
      r.2.mem ((c.tc : Thread Cert.UpBWKernel.nD Cert.UpBWKernel.τ).loc Cert.UpBWKernel.main_arg0) = m ((c.tc : Thread Cert.UpBWKernel.nD Cert.UpBWKernel.τ).loc Cert.UpBWKernel.main_arg0)
      ∧ r.2.mem ((c.tc : Thread Cert.UpBWKernel.nD Cert.UpBWKernel.τ).loc Cert.UpBWKernel.main_arg1) = m ((c.tc : Thread Cert.UpBWKernel.nD Cert.UpBWKernel.τ).loc Cert.UpBWKernel.main_arg1)
      ∧ r.2.mem ((c.tc : Thread Cert.UpBWKernel.nD Cert.UpBWKernel.τ).loc Cert.UpBWKernel.main_arg2) = m ((c.tc : Thread Cert.UpBWKernel.nD Cert.UpBWKernel.τ).loc Cert.UpBWKernel.main_arg2)
      ∧ r.2.mem ((c.tc : Thread Cert.UpBWKernel.nD Cert.UpBWKernel.τ).loc Cert.UpBWKernel.main_arg3) = m ((c.tc : Thread Cert.UpBWKernel.nD Cert.UpBWKernel.τ).loc Cert.UpBWKernel.main_arg3))
      ∧ r.2.sem = fun _ => 0)

def quiescent_UpBWKernelIdeal [hUpBWKernelIdeal : Cert.UpBWKernelIdeal.Facts] : Prop :=
  ∀ (m : (ℓ : Loc Cert.UpBWKernelIdeal.nD Cert.UpBWKernelIdeal.τ Cert.UpBWKernelIdeal.sig) → Buf (Elt Ideal) ℓ) (g : Dev Cert.UpBWKernelIdeal.nD → PrngReg), Pre_UpBWKernelIdeal m →
    θ_run (Cert.UpBWKernelIdeal.defs (F := Ideal)) (onTc (τ := Cert.UpBWKernelIdeal.τ) (Cert.UpBWKernelIdeal.main (F := Ideal))) ⟨m, fun _ => 0, g⟩ (fun r => (∀ c : Dev Cert.UpBWKernelIdeal.nD,
      r.2.mem ((c.tc : Thread Cert.UpBWKernelIdeal.nD Cert.UpBWKernelIdeal.τ).loc Cert.UpBWKernelIdeal.main_arg0) = m ((c.tc : Thread Cert.UpBWKernelIdeal.nD Cert.UpBWKernelIdeal.τ).loc Cert.UpBWKernelIdeal.main_arg0)
      ∧ r.2.mem ((c.tc : Thread Cert.UpBWKernelIdeal.nD Cert.UpBWKernelIdeal.τ).loc Cert.UpBWKernelIdeal.main_arg1) = m ((c.tc : Thread Cert.UpBWKernelIdeal.nD Cert.UpBWKernelIdeal.τ).loc Cert.UpBWKernelIdeal.main_arg1)
      ∧ r.2.mem ((c.tc : Thread Cert.UpBWKernelIdeal.nD Cert.UpBWKernelIdeal.τ).loc Cert.UpBWKernelIdeal.main_arg2) = m ((c.tc : Thread Cert.UpBWKernelIdeal.nD Cert.UpBWKernelIdeal.τ).loc Cert.UpBWKernelIdeal.main_arg2)
      ∧ r.2.mem ((c.tc : Thread Cert.UpBWKernelIdeal.nD Cert.UpBWKernelIdeal.τ).loc Cert.UpBWKernelIdeal.main_arg3) = m ((c.tc : Thread Cert.UpBWKernelIdeal.nD Cert.UpBWKernelIdeal.τ).loc Cert.UpBWKernelIdeal.main_arg3))
      ∧ r.2.sem = fun _ => 0)

def quiescent_UpBWReferenceIdeal [hUpBWReferenceIdeal : Cert.UpBWReferenceIdeal.Facts] : Prop :=
  ∀ (m : (ℓ : Loc Cert.UpBWReferenceIdeal.nD Cert.UpBWReferenceIdeal.τ Cert.UpBWReferenceIdeal.sig) → Buf (Elt Ideal) ℓ) (g : Dev Cert.UpBWReferenceIdeal.nD → PrngReg), Pre_UpBWReferenceIdeal m →
    θ_run (Cert.UpBWReferenceIdeal.defs (F := Ideal)) (onTc (τ := Cert.UpBWReferenceIdeal.τ) (Cert.UpBWReferenceIdeal.main (F := Ideal))) ⟨m, fun _ => 0, g⟩ (fun r => (∀ c : Dev Cert.UpBWReferenceIdeal.nD,
      r.2.mem ((c.tc : Thread Cert.UpBWReferenceIdeal.nD Cert.UpBWReferenceIdeal.τ).loc Cert.UpBWReferenceIdeal.main_arg0) = m ((c.tc : Thread Cert.UpBWReferenceIdeal.nD Cert.UpBWReferenceIdeal.τ).loc Cert.UpBWReferenceIdeal.main_arg0)
      ∧ r.2.mem ((c.tc : Thread Cert.UpBWReferenceIdeal.nD Cert.UpBWReferenceIdeal.τ).loc Cert.UpBWReferenceIdeal.main_arg1) = m ((c.tc : Thread Cert.UpBWReferenceIdeal.nD Cert.UpBWReferenceIdeal.τ).loc Cert.UpBWReferenceIdeal.main_arg1)
      ∧ r.2.mem ((c.tc : Thread Cert.UpBWReferenceIdeal.nD Cert.UpBWReferenceIdeal.τ).loc Cert.UpBWReferenceIdeal.main_arg2) = m ((c.tc : Thread Cert.UpBWReferenceIdeal.nD Cert.UpBWReferenceIdeal.τ).loc Cert.UpBWReferenceIdeal.main_arg2)
      ∧ r.2.mem ((c.tc : Thread Cert.UpBWReferenceIdeal.nD Cert.UpBWReferenceIdeal.τ).loc Cert.UpBWReferenceIdeal.main_arg3) = m ((c.tc : Thread Cert.UpBWReferenceIdeal.nD Cert.UpBWReferenceIdeal.τ).loc Cert.UpBWReferenceIdeal.main_arg3))
      ∧ r.2.sem = fun _ => 0)

def quiescent_RmsFwdKernel [hRmsFwdKernel : Cert.RmsFwdKernel.Facts] : Prop :=
  ∀ (m : (ℓ : Loc Cert.RmsFwdKernel.nD Cert.RmsFwdKernel.τ Cert.RmsFwdKernel.sig) → Buf (Elt Bits) ℓ) (g : Dev Cert.RmsFwdKernel.nD → PrngReg), Pre_RmsFwdKernel m →
    θ_run (Cert.RmsFwdKernel.defs (F := Bits)) (onTc (τ := Cert.RmsFwdKernel.τ) (Cert.RmsFwdKernel.main (F := Bits))) ⟨m, fun _ => 0, g⟩ (fun r => (∀ c : Dev Cert.RmsFwdKernel.nD,
      r.2.mem ((c.tc : Thread Cert.RmsFwdKernel.nD Cert.RmsFwdKernel.τ).loc Cert.RmsFwdKernel.main_arg0) = m ((c.tc : Thread Cert.RmsFwdKernel.nD Cert.RmsFwdKernel.τ).loc Cert.RmsFwdKernel.main_arg0)
      ∧ r.2.mem ((c.tc : Thread Cert.RmsFwdKernel.nD Cert.RmsFwdKernel.τ).loc Cert.RmsFwdKernel.main_arg1) = m ((c.tc : Thread Cert.RmsFwdKernel.nD Cert.RmsFwdKernel.τ).loc Cert.RmsFwdKernel.main_arg1))
      ∧ r.2.sem = fun _ => 0)

def quiescent_RmsFwdKernelIdeal [hRmsFwdKernelIdeal : Cert.RmsFwdKernelIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg), Pre_RmsFwdKernelIdeal m →
    θ_run (Cert.RmsFwdKernelIdeal.defs (F := Ideal)) (onTc (τ := Cert.RmsFwdKernelIdeal.τ) (Cert.RmsFwdKernelIdeal.main (F := Ideal))) ⟨m, fun _ => 0, g⟩ (fun r => (∀ c : Dev Cert.RmsFwdKernelIdeal.nD,
      r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
      ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_RmsBwdKernel [hRmsBwdKernel : Cert.RmsBwdKernel.Facts] : Prop :=
  ∀ (m : (ℓ : Loc Cert.RmsBwdKernel.nD Cert.RmsBwdKernel.τ Cert.RmsBwdKernel.sig) → Buf (Elt Bits) ℓ) (g : Dev Cert.RmsBwdKernel.nD → PrngReg), Pre_RmsBwdKernel m →
    θ_run (Cert.RmsBwdKernel.defs (F := Bits)) (onTc (τ := Cert.RmsBwdKernel.τ) (Cert.RmsBwdKernel.main (F := Bits))) ⟨m, fun _ => 0, g⟩ (fun r => (∀ c : Dev Cert.RmsBwdKernel.nD,
      r.2.mem ((c.tc : Thread Cert.RmsBwdKernel.nD Cert.RmsBwdKernel.τ).loc Cert.RmsBwdKernel.main_arg0) = m ((c.tc : Thread Cert.RmsBwdKernel.nD Cert.RmsBwdKernel.τ).loc Cert.RmsBwdKernel.main_arg0)
      ∧ r.2.mem ((c.tc : Thread Cert.RmsBwdKernel.nD Cert.RmsBwdKernel.τ).loc Cert.RmsBwdKernel.main_arg1) = m ((c.tc : Thread Cert.RmsBwdKernel.nD Cert.RmsBwdKernel.τ).loc Cert.RmsBwdKernel.main_arg1)
      ∧ r.2.mem ((c.tc : Thread Cert.RmsBwdKernel.nD Cert.RmsBwdKernel.τ).loc Cert.RmsBwdKernel.main_arg2) = m ((c.tc : Thread Cert.RmsBwdKernel.nD Cert.RmsBwdKernel.τ).loc Cert.RmsBwdKernel.main_arg2)
      ∧ r.2.mem ((c.tc : Thread Cert.RmsBwdKernel.nD Cert.RmsBwdKernel.τ).loc Cert.RmsBwdKernel.main_arg3) = m ((c.tc : Thread Cert.RmsBwdKernel.nD Cert.RmsBwdKernel.τ).loc Cert.RmsBwdKernel.main_arg3))
      ∧ r.2.sem = fun _ => 0)

def quiescent_RmsBwdKernelIdeal [hRmsBwdKernelIdeal : Cert.RmsBwdKernelIdeal.Facts] : Prop :=
  ∀ (m : (ℓ : Loc Cert.RmsBwdKernelIdeal.nD Cert.RmsBwdKernelIdeal.τ Cert.RmsBwdKernelIdeal.sig) → Buf (Elt Ideal) ℓ) (g : Dev Cert.RmsBwdKernelIdeal.nD → PrngReg), Pre_RmsBwdKernelIdeal m →
    θ_run (Cert.RmsBwdKernelIdeal.defs (F := Ideal)) (onTc (τ := Cert.RmsBwdKernelIdeal.τ) (Cert.RmsBwdKernelIdeal.main (F := Ideal))) ⟨m, fun _ => 0, g⟩ (fun r => (∀ c : Dev Cert.RmsBwdKernelIdeal.nD,
      r.2.mem ((c.tc : Thread Cert.RmsBwdKernelIdeal.nD Cert.RmsBwdKernelIdeal.τ).loc Cert.RmsBwdKernelIdeal.main_arg0) = m ((c.tc : Thread Cert.RmsBwdKernelIdeal.nD Cert.RmsBwdKernelIdeal.τ).loc Cert.RmsBwdKernelIdeal.main_arg0)
      ∧ r.2.mem ((c.tc : Thread Cert.RmsBwdKernelIdeal.nD Cert.RmsBwdKernelIdeal.τ).loc Cert.RmsBwdKernelIdeal.main_arg1) = m ((c.tc : Thread Cert.RmsBwdKernelIdeal.nD Cert.RmsBwdKernelIdeal.τ).loc Cert.RmsBwdKernelIdeal.main_arg1)
      ∧ r.2.mem ((c.tc : Thread Cert.RmsBwdKernelIdeal.nD Cert.RmsBwdKernelIdeal.τ).loc Cert.RmsBwdKernelIdeal.main_arg2) = m ((c.tc : Thread Cert.RmsBwdKernelIdeal.nD Cert.RmsBwdKernelIdeal.τ).loc Cert.RmsBwdKernelIdeal.main_arg2)
      ∧ r.2.mem ((c.tc : Thread Cert.RmsBwdKernelIdeal.nD Cert.RmsBwdKernelIdeal.τ).loc Cert.RmsBwdKernelIdeal.main_arg3) = m ((c.tc : Thread Cert.RmsBwdKernelIdeal.nD Cert.RmsBwdKernelIdeal.τ).loc Cert.RmsBwdKernelIdeal.main_arg3))
      ∧ r.2.sem = fun _ => 0)

def quiescent_RmsBwdReferenceIdeal [hRmsBwdReferenceIdeal : Cert.RmsBwdReferenceIdeal.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AdwVecKernel [hAdwVecKernel : Cert.AdwVecKernel.Facts] : Prop :=
  ∀ (m : (ℓ : Loc Cert.AdwVecKernel.nD Cert.AdwVecKernel.τ Cert.AdwVecKernel.sig) → Buf (Elt Bits) ℓ) (g : Dev Cert.AdwVecKernel.nD → PrngReg), Pre_AdwVecKernel m →
    θ_run (Cert.AdwVecKernel.defs (F := Bits)) (onTc (τ := Cert.AdwVecKernel.τ) (Cert.AdwVecKernel.main (F := Bits))) ⟨m, fun _ => 0, g⟩ (fun r => (∀ c : Dev Cert.AdwVecKernel.nD,
      r.2.mem ((c.tc : Thread Cert.AdwVecKernel.nD Cert.AdwVecKernel.τ).loc Cert.AdwVecKernel.main_arg0) = m ((c.tc : Thread Cert.AdwVecKernel.nD Cert.AdwVecKernel.τ).loc Cert.AdwVecKernel.main_arg0)
      ∧ r.2.mem ((c.tc : Thread Cert.AdwVecKernel.nD Cert.AdwVecKernel.τ).loc Cert.AdwVecKernel.main_arg1) = m ((c.tc : Thread Cert.AdwVecKernel.nD Cert.AdwVecKernel.τ).loc Cert.AdwVecKernel.main_arg1)
      ∧ r.2.mem ((c.tc : Thread Cert.AdwVecKernel.nD Cert.AdwVecKernel.τ).loc Cert.AdwVecKernel.main_arg2) = m ((c.tc : Thread Cert.AdwVecKernel.nD Cert.AdwVecKernel.τ).loc Cert.AdwVecKernel.main_arg2)
      ∧ r.2.mem ((c.tc : Thread Cert.AdwVecKernel.nD Cert.AdwVecKernel.τ).loc Cert.AdwVecKernel.main_arg3) = m ((c.tc : Thread Cert.AdwVecKernel.nD Cert.AdwVecKernel.τ).loc Cert.AdwVecKernel.main_arg3))
      ∧ r.2.sem = fun _ => 0)

def quiescent_AdwVecKernelIdeal [hAdwVecKernelIdeal : Cert.AdwVecKernelIdeal.Facts] : Prop :=
  ∀ (m : (ℓ : Loc Cert.AdwVecKernelIdeal.nD Cert.AdwVecKernelIdeal.τ Cert.AdwVecKernelIdeal.sig) → Buf (Elt Ideal) ℓ) (g : Dev Cert.AdwVecKernelIdeal.nD → PrngReg), Pre_AdwVecKernelIdeal m →
    θ_run (Cert.AdwVecKernelIdeal.defs (F := Ideal)) (onTc (τ := Cert.AdwVecKernelIdeal.τ) (Cert.AdwVecKernelIdeal.main (F := Ideal))) ⟨m, fun _ => 0, g⟩ (fun r => (∀ c : Dev Cert.AdwVecKernelIdeal.nD,
      r.2.mem ((c.tc : Thread Cert.AdwVecKernelIdeal.nD Cert.AdwVecKernelIdeal.τ).loc Cert.AdwVecKernelIdeal.main_arg0) = m ((c.tc : Thread Cert.AdwVecKernelIdeal.nD Cert.AdwVecKernelIdeal.τ).loc Cert.AdwVecKernelIdeal.main_arg0)
      ∧ r.2.mem ((c.tc : Thread Cert.AdwVecKernelIdeal.nD Cert.AdwVecKernelIdeal.τ).loc Cert.AdwVecKernelIdeal.main_arg1) = m ((c.tc : Thread Cert.AdwVecKernelIdeal.nD Cert.AdwVecKernelIdeal.τ).loc Cert.AdwVecKernelIdeal.main_arg1)
      ∧ r.2.mem ((c.tc : Thread Cert.AdwVecKernelIdeal.nD Cert.AdwVecKernelIdeal.τ).loc Cert.AdwVecKernelIdeal.main_arg2) = m ((c.tc : Thread Cert.AdwVecKernelIdeal.nD Cert.AdwVecKernelIdeal.τ).loc Cert.AdwVecKernelIdeal.main_arg2)
      ∧ r.2.mem ((c.tc : Thread Cert.AdwVecKernelIdeal.nD Cert.AdwVecKernelIdeal.τ).loc Cert.AdwVecKernelIdeal.main_arg3) = m ((c.tc : Thread Cert.AdwVecKernelIdeal.nD Cert.AdwVecKernelIdeal.τ).loc Cert.AdwVecKernelIdeal.main_arg3))
      ∧ r.2.sem = fun _ => 0)

def quiescent_AdwVecReferenceIdeal [hAdwVecReferenceIdeal : Cert.AdwVecReferenceIdeal.Facts] : Prop :=
  ∀ (m : (ℓ : Loc Cert.AdwVecReferenceIdeal.nD Cert.AdwVecReferenceIdeal.τ Cert.AdwVecReferenceIdeal.sig) → Buf (Elt Ideal) ℓ) (g : Dev Cert.AdwVecReferenceIdeal.nD → PrngReg), Pre_AdwVecReferenceIdeal m →
    θ_run (Cert.AdwVecReferenceIdeal.defs (F := Ideal)) (onTc (τ := Cert.AdwVecReferenceIdeal.τ) (Cert.AdwVecReferenceIdeal.main (F := Ideal))) ⟨m, fun _ => 0, g⟩ (fun r => (∀ c : Dev Cert.AdwVecReferenceIdeal.nD,
      r.2.mem ((c.tc : Thread Cert.AdwVecReferenceIdeal.nD Cert.AdwVecReferenceIdeal.τ).loc Cert.AdwVecReferenceIdeal.main_arg0) = m ((c.tc : Thread Cert.AdwVecReferenceIdeal.nD Cert.AdwVecReferenceIdeal.τ).loc Cert.AdwVecReferenceIdeal.main_arg0)
      ∧ r.2.mem ((c.tc : Thread Cert.AdwVecReferenceIdeal.nD Cert.AdwVecReferenceIdeal.τ).loc Cert.AdwVecReferenceIdeal.main_arg1) = m ((c.tc : Thread Cert.AdwVecReferenceIdeal.nD Cert.AdwVecReferenceIdeal.τ).loc Cert.AdwVecReferenceIdeal.main_arg1)
      ∧ r.2.mem ((c.tc : Thread Cert.AdwVecReferenceIdeal.nD Cert.AdwVecReferenceIdeal.τ).loc Cert.AdwVecReferenceIdeal.main_arg2) = m ((c.tc : Thread Cert.AdwVecReferenceIdeal.nD Cert.AdwVecReferenceIdeal.τ).loc Cert.AdwVecReferenceIdeal.main_arg2)
      ∧ r.2.mem ((c.tc : Thread Cert.AdwVecReferenceIdeal.nD Cert.AdwVecReferenceIdeal.τ).loc Cert.AdwVecReferenceIdeal.main_arg3) = m ((c.tc : Thread Cert.AdwVecReferenceIdeal.nD Cert.AdwVecReferenceIdeal.τ).loc Cert.AdwVecReferenceIdeal.main_arg3))
      ∧ r.2.sem = fun _ => 0)

def quiescent_AdwInKernel [hAdwInKernel : Cert.AdwInKernel.Facts] : Prop :=
  ∀ (m : (ℓ : Loc Cert.AdwInKernel.nD Cert.AdwInKernel.τ Cert.AdwInKernel.sig) → Buf (Elt Bits) ℓ) (g : Dev Cert.AdwInKernel.nD → PrngReg), Pre_AdwInKernel m →
    θ_run (Cert.AdwInKernel.defs (F := Bits)) (onTc (τ := Cert.AdwInKernel.τ) (Cert.AdwInKernel.main (F := Bits))) ⟨m, fun _ => 0, g⟩ (fun r => (∀ c : Dev Cert.AdwInKernel.nD,
      r.2.mem ((c.tc : Thread Cert.AdwInKernel.nD Cert.AdwInKernel.τ).loc Cert.AdwInKernel.main_arg0) = m ((c.tc : Thread Cert.AdwInKernel.nD Cert.AdwInKernel.τ).loc Cert.AdwInKernel.main_arg0)
      ∧ r.2.mem ((c.tc : Thread Cert.AdwInKernel.nD Cert.AdwInKernel.τ).loc Cert.AdwInKernel.main_arg1) = m ((c.tc : Thread Cert.AdwInKernel.nD Cert.AdwInKernel.τ).loc Cert.AdwInKernel.main_arg1)
      ∧ r.2.mem ((c.tc : Thread Cert.AdwInKernel.nD Cert.AdwInKernel.τ).loc Cert.AdwInKernel.main_arg2) = m ((c.tc : Thread Cert.AdwInKernel.nD Cert.AdwInKernel.τ).loc Cert.AdwInKernel.main_arg2)
      ∧ r.2.mem ((c.tc : Thread Cert.AdwInKernel.nD Cert.AdwInKernel.τ).loc Cert.AdwInKernel.main_arg3) = m ((c.tc : Thread Cert.AdwInKernel.nD Cert.AdwInKernel.τ).loc Cert.AdwInKernel.main_arg3))
      ∧ r.2.sem = fun _ => 0)

def quiescent_AdwInKernelIdeal [hAdwInKernelIdeal : Cert.AdwInKernelIdeal.Facts] : Prop :=
  ∀ (m : (ℓ : Loc Cert.AdwInKernelIdeal.nD Cert.AdwInKernelIdeal.τ Cert.AdwInKernelIdeal.sig) → Buf (Elt Ideal) ℓ) (g : Dev Cert.AdwInKernelIdeal.nD → PrngReg), Pre_AdwInKernelIdeal m →
    θ_run (Cert.AdwInKernelIdeal.defs (F := Ideal)) (onTc (τ := Cert.AdwInKernelIdeal.τ) (Cert.AdwInKernelIdeal.main (F := Ideal))) ⟨m, fun _ => 0, g⟩ (fun r => (∀ c : Dev Cert.AdwInKernelIdeal.nD,
      r.2.mem ((c.tc : Thread Cert.AdwInKernelIdeal.nD Cert.AdwInKernelIdeal.τ).loc Cert.AdwInKernelIdeal.main_arg0) = m ((c.tc : Thread Cert.AdwInKernelIdeal.nD Cert.AdwInKernelIdeal.τ).loc Cert.AdwInKernelIdeal.main_arg0)
      ∧ r.2.mem ((c.tc : Thread Cert.AdwInKernelIdeal.nD Cert.AdwInKernelIdeal.τ).loc Cert.AdwInKernelIdeal.main_arg1) = m ((c.tc : Thread Cert.AdwInKernelIdeal.nD Cert.AdwInKernelIdeal.τ).loc Cert.AdwInKernelIdeal.main_arg1)
      ∧ r.2.mem ((c.tc : Thread Cert.AdwInKernelIdeal.nD Cert.AdwInKernelIdeal.τ).loc Cert.AdwInKernelIdeal.main_arg2) = m ((c.tc : Thread Cert.AdwInKernelIdeal.nD Cert.AdwInKernelIdeal.τ).loc Cert.AdwInKernelIdeal.main_arg2)
      ∧ r.2.mem ((c.tc : Thread Cert.AdwInKernelIdeal.nD Cert.AdwInKernelIdeal.τ).loc Cert.AdwInKernelIdeal.main_arg3) = m ((c.tc : Thread Cert.AdwInKernelIdeal.nD Cert.AdwInKernelIdeal.τ).loc Cert.AdwInKernelIdeal.main_arg3))
      ∧ r.2.sem = fun _ => 0)

def quiescent_AdwInReferenceIdeal [hAdwInReferenceIdeal : Cert.AdwInReferenceIdeal.Facts] : Prop :=
  ∀ (m : (ℓ : Loc Cert.AdwInReferenceIdeal.nD Cert.AdwInReferenceIdeal.τ Cert.AdwInReferenceIdeal.sig) → Buf (Elt Ideal) ℓ) (g : Dev Cert.AdwInReferenceIdeal.nD → PrngReg), Pre_AdwInReferenceIdeal m →
    θ_run (Cert.AdwInReferenceIdeal.defs (F := Ideal)) (onTc (τ := Cert.AdwInReferenceIdeal.τ) (Cert.AdwInReferenceIdeal.main (F := Ideal))) ⟨m, fun _ => 0, g⟩ (fun r => (∀ c : Dev Cert.AdwInReferenceIdeal.nD,
      r.2.mem ((c.tc : Thread Cert.AdwInReferenceIdeal.nD Cert.AdwInReferenceIdeal.τ).loc Cert.AdwInReferenceIdeal.main_arg0) = m ((c.tc : Thread Cert.AdwInReferenceIdeal.nD Cert.AdwInReferenceIdeal.τ).loc Cert.AdwInReferenceIdeal.main_arg0)
      ∧ r.2.mem ((c.tc : Thread Cert.AdwInReferenceIdeal.nD Cert.AdwInReferenceIdeal.τ).loc Cert.AdwInReferenceIdeal.main_arg1) = m ((c.tc : Thread Cert.AdwInReferenceIdeal.nD Cert.AdwInReferenceIdeal.τ).loc Cert.AdwInReferenceIdeal.main_arg1)
      ∧ r.2.mem ((c.tc : Thread Cert.AdwInReferenceIdeal.nD Cert.AdwInReferenceIdeal.τ).loc Cert.AdwInReferenceIdeal.main_arg2) = m ((c.tc : Thread Cert.AdwInReferenceIdeal.nD Cert.AdwInReferenceIdeal.τ).loc Cert.AdwInReferenceIdeal.main_arg2)
      ∧ r.2.mem ((c.tc : Thread Cert.AdwInReferenceIdeal.nD Cert.AdwInReferenceIdeal.τ).loc Cert.AdwInReferenceIdeal.main_arg3) = m ((c.tc : Thread Cert.AdwInReferenceIdeal.nD Cert.AdwInReferenceIdeal.τ).loc Cert.AdwInReferenceIdeal.main_arg3))
      ∧ r.2.sem = fun _ => 0)

def quiescent_AdwSinksKernel [hAdwSinksKernel : Cert.AdwSinksKernel.Facts] : Prop :=
  ∀ (m : (ℓ : Loc Cert.AdwSinksKernel.nD Cert.AdwSinksKernel.τ Cert.AdwSinksKernel.sig) → Buf (Elt Bits) ℓ) (g : Dev Cert.AdwSinksKernel.nD → PrngReg), Pre_AdwSinksKernel m →
    θ_run (Cert.AdwSinksKernel.defs (F := Bits)) (onTc (τ := Cert.AdwSinksKernel.τ) (Cert.AdwSinksKernel.main (F := Bits))) ⟨m, fun _ => 0, g⟩ (fun r => (∀ c : Dev Cert.AdwSinksKernel.nD,
      r.2.mem ((c.tc : Thread Cert.AdwSinksKernel.nD Cert.AdwSinksKernel.τ).loc Cert.AdwSinksKernel.main_arg0) = m ((c.tc : Thread Cert.AdwSinksKernel.nD Cert.AdwSinksKernel.τ).loc Cert.AdwSinksKernel.main_arg0)
      ∧ r.2.mem ((c.tc : Thread Cert.AdwSinksKernel.nD Cert.AdwSinksKernel.τ).loc Cert.AdwSinksKernel.main_arg1) = m ((c.tc : Thread Cert.AdwSinksKernel.nD Cert.AdwSinksKernel.τ).loc Cert.AdwSinksKernel.main_arg1)
      ∧ r.2.mem ((c.tc : Thread Cert.AdwSinksKernel.nD Cert.AdwSinksKernel.τ).loc Cert.AdwSinksKernel.main_arg2) = m ((c.tc : Thread Cert.AdwSinksKernel.nD Cert.AdwSinksKernel.τ).loc Cert.AdwSinksKernel.main_arg2)
      ∧ r.2.mem ((c.tc : Thread Cert.AdwSinksKernel.nD Cert.AdwSinksKernel.τ).loc Cert.AdwSinksKernel.main_arg3) = m ((c.tc : Thread Cert.AdwSinksKernel.nD Cert.AdwSinksKernel.τ).loc Cert.AdwSinksKernel.main_arg3))
      ∧ r.2.sem = fun _ => 0)

def quiescent_AdwSinksKernelIdeal [hAdwSinksKernelIdeal : Cert.AdwSinksKernelIdeal.Facts] : Prop :=
  ∀ (m : (ℓ : Loc Cert.AdwSinksKernelIdeal.nD Cert.AdwSinksKernelIdeal.τ Cert.AdwSinksKernelIdeal.sig) → Buf (Elt Ideal) ℓ) (g : Dev Cert.AdwSinksKernelIdeal.nD → PrngReg), Pre_AdwSinksKernelIdeal m →
    θ_run (Cert.AdwSinksKernelIdeal.defs (F := Ideal)) (onTc (τ := Cert.AdwSinksKernelIdeal.τ) (Cert.AdwSinksKernelIdeal.main (F := Ideal))) ⟨m, fun _ => 0, g⟩ (fun r => (∀ c : Dev Cert.AdwSinksKernelIdeal.nD,
      r.2.mem ((c.tc : Thread Cert.AdwSinksKernelIdeal.nD Cert.AdwSinksKernelIdeal.τ).loc Cert.AdwSinksKernelIdeal.main_arg0) = m ((c.tc : Thread Cert.AdwSinksKernelIdeal.nD Cert.AdwSinksKernelIdeal.τ).loc Cert.AdwSinksKernelIdeal.main_arg0)
      ∧ r.2.mem ((c.tc : Thread Cert.AdwSinksKernelIdeal.nD Cert.AdwSinksKernelIdeal.τ).loc Cert.AdwSinksKernelIdeal.main_arg1) = m ((c.tc : Thread Cert.AdwSinksKernelIdeal.nD Cert.AdwSinksKernelIdeal.τ).loc Cert.AdwSinksKernelIdeal.main_arg1)
      ∧ r.2.mem ((c.tc : Thread Cert.AdwSinksKernelIdeal.nD Cert.AdwSinksKernelIdeal.τ).loc Cert.AdwSinksKernelIdeal.main_arg2) = m ((c.tc : Thread Cert.AdwSinksKernelIdeal.nD Cert.AdwSinksKernelIdeal.τ).loc Cert.AdwSinksKernelIdeal.main_arg2)
      ∧ r.2.mem ((c.tc : Thread Cert.AdwSinksKernelIdeal.nD Cert.AdwSinksKernelIdeal.τ).loc Cert.AdwSinksKernelIdeal.main_arg3) = m ((c.tc : Thread Cert.AdwSinksKernelIdeal.nD Cert.AdwSinksKernelIdeal.τ).loc Cert.AdwSinksKernelIdeal.main_arg3))
      ∧ r.2.sem = fun _ => 0)

def quiescent_AdwSinksReferenceIdeal [hAdwSinksReferenceIdeal : Cert.AdwSinksReferenceIdeal.Facts] : Prop :=
  ∀ (m : (ℓ : Loc Cert.AdwSinksReferenceIdeal.nD Cert.AdwSinksReferenceIdeal.τ Cert.AdwSinksReferenceIdeal.sig) → Buf (Elt Ideal) ℓ) (g : Dev Cert.AdwSinksReferenceIdeal.nD → PrngReg), Pre_AdwSinksReferenceIdeal m →
    θ_run (Cert.AdwSinksReferenceIdeal.defs (F := Ideal)) (onTc (τ := Cert.AdwSinksReferenceIdeal.τ) (Cert.AdwSinksReferenceIdeal.main (F := Ideal))) ⟨m, fun _ => 0, g⟩ (fun r => (∀ c : Dev Cert.AdwSinksReferenceIdeal.nD,
      r.2.mem ((c.tc : Thread Cert.AdwSinksReferenceIdeal.nD Cert.AdwSinksReferenceIdeal.τ).loc Cert.AdwSinksReferenceIdeal.main_arg0) = m ((c.tc : Thread Cert.AdwSinksReferenceIdeal.nD Cert.AdwSinksReferenceIdeal.τ).loc Cert.AdwSinksReferenceIdeal.main_arg0)
      ∧ r.2.mem ((c.tc : Thread Cert.AdwSinksReferenceIdeal.nD Cert.AdwSinksReferenceIdeal.τ).loc Cert.AdwSinksReferenceIdeal.main_arg1) = m ((c.tc : Thread Cert.AdwSinksReferenceIdeal.nD Cert.AdwSinksReferenceIdeal.τ).loc Cert.AdwSinksReferenceIdeal.main_arg1)
      ∧ r.2.mem ((c.tc : Thread Cert.AdwSinksReferenceIdeal.nD Cert.AdwSinksReferenceIdeal.τ).loc Cert.AdwSinksReferenceIdeal.main_arg2) = m ((c.tc : Thread Cert.AdwSinksReferenceIdeal.nD Cert.AdwSinksReferenceIdeal.τ).loc Cert.AdwSinksReferenceIdeal.main_arg2)
      ∧ r.2.mem ((c.tc : Thread Cert.AdwSinksReferenceIdeal.nD Cert.AdwSinksReferenceIdeal.τ).loc Cert.AdwSinksReferenceIdeal.main_arg3) = m ((c.tc : Thread Cert.AdwSinksReferenceIdeal.nD Cert.AdwSinksReferenceIdeal.τ).loc Cert.AdwSinksReferenceIdeal.main_arg3))
      ∧ r.2.sem = fun _ => 0)

def quiescent_AdwConvKernel [hAdwConvKernel : Cert.AdwConvKernel.Facts] : Prop :=
  ∀ (m : (ℓ : Loc Cert.AdwConvKernel.nD Cert.AdwConvKernel.τ Cert.AdwConvKernel.sig) → Buf (Elt Bits) ℓ) (g : Dev Cert.AdwConvKernel.nD → PrngReg), Pre_AdwConvKernel m →
    θ_run (Cert.AdwConvKernel.defs (F := Bits)) (onTc (τ := Cert.AdwConvKernel.τ) (Cert.AdwConvKernel.main (F := Bits))) ⟨m, fun _ => 0, g⟩ (fun r => (∀ c : Dev Cert.AdwConvKernel.nD,
      r.2.mem ((c.tc : Thread Cert.AdwConvKernel.nD Cert.AdwConvKernel.τ).loc Cert.AdwConvKernel.main_arg0) = m ((c.tc : Thread Cert.AdwConvKernel.nD Cert.AdwConvKernel.τ).loc Cert.AdwConvKernel.main_arg0)
      ∧ r.2.mem ((c.tc : Thread Cert.AdwConvKernel.nD Cert.AdwConvKernel.τ).loc Cert.AdwConvKernel.main_arg1) = m ((c.tc : Thread Cert.AdwConvKernel.nD Cert.AdwConvKernel.τ).loc Cert.AdwConvKernel.main_arg1)
      ∧ r.2.mem ((c.tc : Thread Cert.AdwConvKernel.nD Cert.AdwConvKernel.τ).loc Cert.AdwConvKernel.main_arg2) = m ((c.tc : Thread Cert.AdwConvKernel.nD Cert.AdwConvKernel.τ).loc Cert.AdwConvKernel.main_arg2)
      ∧ r.2.mem ((c.tc : Thread Cert.AdwConvKernel.nD Cert.AdwConvKernel.τ).loc Cert.AdwConvKernel.main_arg3) = m ((c.tc : Thread Cert.AdwConvKernel.nD Cert.AdwConvKernel.τ).loc Cert.AdwConvKernel.main_arg3))
      ∧ r.2.sem = fun _ => 0)

def quiescent_AdwConvKernelIdeal [hAdwConvKernelIdeal : Cert.AdwConvKernelIdeal.Facts] : Prop :=
  ∀ (m : (ℓ : Loc Cert.AdwConvKernelIdeal.nD Cert.AdwConvKernelIdeal.τ Cert.AdwConvKernelIdeal.sig) → Buf (Elt Ideal) ℓ) (g : Dev Cert.AdwConvKernelIdeal.nD → PrngReg), Pre_AdwConvKernelIdeal m →
    θ_run (Cert.AdwConvKernelIdeal.defs (F := Ideal)) (onTc (τ := Cert.AdwConvKernelIdeal.τ) (Cert.AdwConvKernelIdeal.main (F := Ideal))) ⟨m, fun _ => 0, g⟩ (fun r => (∀ c : Dev Cert.AdwConvKernelIdeal.nD,
      r.2.mem ((c.tc : Thread Cert.AdwConvKernelIdeal.nD Cert.AdwConvKernelIdeal.τ).loc Cert.AdwConvKernelIdeal.main_arg0) = m ((c.tc : Thread Cert.AdwConvKernelIdeal.nD Cert.AdwConvKernelIdeal.τ).loc Cert.AdwConvKernelIdeal.main_arg0)
      ∧ r.2.mem ((c.tc : Thread Cert.AdwConvKernelIdeal.nD Cert.AdwConvKernelIdeal.τ).loc Cert.AdwConvKernelIdeal.main_arg1) = m ((c.tc : Thread Cert.AdwConvKernelIdeal.nD Cert.AdwConvKernelIdeal.τ).loc Cert.AdwConvKernelIdeal.main_arg1)
      ∧ r.2.mem ((c.tc : Thread Cert.AdwConvKernelIdeal.nD Cert.AdwConvKernelIdeal.τ).loc Cert.AdwConvKernelIdeal.main_arg2) = m ((c.tc : Thread Cert.AdwConvKernelIdeal.nD Cert.AdwConvKernelIdeal.τ).loc Cert.AdwConvKernelIdeal.main_arg2)
      ∧ r.2.mem ((c.tc : Thread Cert.AdwConvKernelIdeal.nD Cert.AdwConvKernelIdeal.τ).loc Cert.AdwConvKernelIdeal.main_arg3) = m ((c.tc : Thread Cert.AdwConvKernelIdeal.nD Cert.AdwConvKernelIdeal.τ).loc Cert.AdwConvKernelIdeal.main_arg3))
      ∧ r.2.sem = fun _ => 0)

def quiescent_AdwConvReferenceIdeal [hAdwConvReferenceIdeal : Cert.AdwConvReferenceIdeal.Facts] : Prop :=
  ∀ (m : (ℓ : Loc Cert.AdwConvReferenceIdeal.nD Cert.AdwConvReferenceIdeal.τ Cert.AdwConvReferenceIdeal.sig) → Buf (Elt Ideal) ℓ) (g : Dev Cert.AdwConvReferenceIdeal.nD → PrngReg), Pre_AdwConvReferenceIdeal m →
    θ_run (Cert.AdwConvReferenceIdeal.defs (F := Ideal)) (onTc (τ := Cert.AdwConvReferenceIdeal.τ) (Cert.AdwConvReferenceIdeal.main (F := Ideal))) ⟨m, fun _ => 0, g⟩ (fun r => (∀ c : Dev Cert.AdwConvReferenceIdeal.nD,
      r.2.mem ((c.tc : Thread Cert.AdwConvReferenceIdeal.nD Cert.AdwConvReferenceIdeal.τ).loc Cert.AdwConvReferenceIdeal.main_arg0) = m ((c.tc : Thread Cert.AdwConvReferenceIdeal.nD Cert.AdwConvReferenceIdeal.τ).loc Cert.AdwConvReferenceIdeal.main_arg0)
      ∧ r.2.mem ((c.tc : Thread Cert.AdwConvReferenceIdeal.nD Cert.AdwConvReferenceIdeal.τ).loc Cert.AdwConvReferenceIdeal.main_arg1) = m ((c.tc : Thread Cert.AdwConvReferenceIdeal.nD Cert.AdwConvReferenceIdeal.τ).loc Cert.AdwConvReferenceIdeal.main_arg1)
      ∧ r.2.mem ((c.tc : Thread Cert.AdwConvReferenceIdeal.nD Cert.AdwConvReferenceIdeal.τ).loc Cert.AdwConvReferenceIdeal.main_arg2) = m ((c.tc : Thread Cert.AdwConvReferenceIdeal.nD Cert.AdwConvReferenceIdeal.τ).loc Cert.AdwConvReferenceIdeal.main_arg2)
      ∧ r.2.mem ((c.tc : Thread Cert.AdwConvReferenceIdeal.nD Cert.AdwConvReferenceIdeal.τ).loc Cert.AdwConvReferenceIdeal.main_arg3) = m ((c.tc : Thread Cert.AdwConvReferenceIdeal.nD Cert.AdwConvReferenceIdeal.τ).loc Cert.AdwConvReferenceIdeal.main_arg3))
      ∧ r.2.sem = fun _ => 0)

def quiescent_AdwHeadsKernel [hAdwHeadsKernel : Cert.AdwHeadsKernel.Facts] : Prop :=
  ∀ (m : (ℓ : Loc Cert.AdwHeadsKernel.nD Cert.AdwHeadsKernel.τ Cert.AdwHeadsKernel.sig) → Buf (Elt Bits) ℓ) (g : Dev Cert.AdwHeadsKernel.nD → PrngReg), Pre_AdwHeadsKernel m →
    θ_run (Cert.AdwHeadsKernel.defs (F := Bits)) (onTc (τ := Cert.AdwHeadsKernel.τ) (Cert.AdwHeadsKernel.main (F := Bits))) ⟨m, fun _ => 0, g⟩ (fun r => (∀ c : Dev Cert.AdwHeadsKernel.nD,
      r.2.mem ((c.tc : Thread Cert.AdwHeadsKernel.nD Cert.AdwHeadsKernel.τ).loc Cert.AdwHeadsKernel.main_arg0) = m ((c.tc : Thread Cert.AdwHeadsKernel.nD Cert.AdwHeadsKernel.τ).loc Cert.AdwHeadsKernel.main_arg0)
      ∧ r.2.mem ((c.tc : Thread Cert.AdwHeadsKernel.nD Cert.AdwHeadsKernel.τ).loc Cert.AdwHeadsKernel.main_arg1) = m ((c.tc : Thread Cert.AdwHeadsKernel.nD Cert.AdwHeadsKernel.τ).loc Cert.AdwHeadsKernel.main_arg1)
      ∧ r.2.mem ((c.tc : Thread Cert.AdwHeadsKernel.nD Cert.AdwHeadsKernel.τ).loc Cert.AdwHeadsKernel.main_arg2) = m ((c.tc : Thread Cert.AdwHeadsKernel.nD Cert.AdwHeadsKernel.τ).loc Cert.AdwHeadsKernel.main_arg2)
      ∧ r.2.mem ((c.tc : Thread Cert.AdwHeadsKernel.nD Cert.AdwHeadsKernel.τ).loc Cert.AdwHeadsKernel.main_arg3) = m ((c.tc : Thread Cert.AdwHeadsKernel.nD Cert.AdwHeadsKernel.τ).loc Cert.AdwHeadsKernel.main_arg3))
      ∧ r.2.sem = fun _ => 0)

def quiescent_AdwHeadsKernelIdeal [hAdwHeadsKernelIdeal : Cert.AdwHeadsKernelIdeal.Facts] : Prop :=
  ∀ (m : (ℓ : Loc Cert.AdwHeadsKernelIdeal.nD Cert.AdwHeadsKernelIdeal.τ Cert.AdwHeadsKernelIdeal.sig) → Buf (Elt Ideal) ℓ) (g : Dev Cert.AdwHeadsKernelIdeal.nD → PrngReg), Pre_AdwHeadsKernelIdeal m →
    θ_run (Cert.AdwHeadsKernelIdeal.defs (F := Ideal)) (onTc (τ := Cert.AdwHeadsKernelIdeal.τ) (Cert.AdwHeadsKernelIdeal.main (F := Ideal))) ⟨m, fun _ => 0, g⟩ (fun r => (∀ c : Dev Cert.AdwHeadsKernelIdeal.nD,
      r.2.mem ((c.tc : Thread Cert.AdwHeadsKernelIdeal.nD Cert.AdwHeadsKernelIdeal.τ).loc Cert.AdwHeadsKernelIdeal.main_arg0) = m ((c.tc : Thread Cert.AdwHeadsKernelIdeal.nD Cert.AdwHeadsKernelIdeal.τ).loc Cert.AdwHeadsKernelIdeal.main_arg0)
      ∧ r.2.mem ((c.tc : Thread Cert.AdwHeadsKernelIdeal.nD Cert.AdwHeadsKernelIdeal.τ).loc Cert.AdwHeadsKernelIdeal.main_arg1) = m ((c.tc : Thread Cert.AdwHeadsKernelIdeal.nD Cert.AdwHeadsKernelIdeal.τ).loc Cert.AdwHeadsKernelIdeal.main_arg1)
      ∧ r.2.mem ((c.tc : Thread Cert.AdwHeadsKernelIdeal.nD Cert.AdwHeadsKernelIdeal.τ).loc Cert.AdwHeadsKernelIdeal.main_arg2) = m ((c.tc : Thread Cert.AdwHeadsKernelIdeal.nD Cert.AdwHeadsKernelIdeal.τ).loc Cert.AdwHeadsKernelIdeal.main_arg2)
      ∧ r.2.mem ((c.tc : Thread Cert.AdwHeadsKernelIdeal.nD Cert.AdwHeadsKernelIdeal.τ).loc Cert.AdwHeadsKernelIdeal.main_arg3) = m ((c.tc : Thread Cert.AdwHeadsKernelIdeal.nD Cert.AdwHeadsKernelIdeal.τ).loc Cert.AdwHeadsKernelIdeal.main_arg3))
      ∧ r.2.sem = fun _ => 0)

def quiescent_AdwHeadsReferenceIdeal [hAdwHeadsReferenceIdeal : Cert.AdwHeadsReferenceIdeal.Facts] : Prop :=
  ∀ (m : (ℓ : Loc Cert.AdwHeadsReferenceIdeal.nD Cert.AdwHeadsReferenceIdeal.τ Cert.AdwHeadsReferenceIdeal.sig) → Buf (Elt Ideal) ℓ) (g : Dev Cert.AdwHeadsReferenceIdeal.nD → PrngReg), Pre_AdwHeadsReferenceIdeal m →
    θ_run (Cert.AdwHeadsReferenceIdeal.defs (F := Ideal)) (onTc (τ := Cert.AdwHeadsReferenceIdeal.τ) (Cert.AdwHeadsReferenceIdeal.main (F := Ideal))) ⟨m, fun _ => 0, g⟩ (fun r => (∀ c : Dev Cert.AdwHeadsReferenceIdeal.nD,
      r.2.mem ((c.tc : Thread Cert.AdwHeadsReferenceIdeal.nD Cert.AdwHeadsReferenceIdeal.τ).loc Cert.AdwHeadsReferenceIdeal.main_arg0) = m ((c.tc : Thread Cert.AdwHeadsReferenceIdeal.nD Cert.AdwHeadsReferenceIdeal.τ).loc Cert.AdwHeadsReferenceIdeal.main_arg0)
      ∧ r.2.mem ((c.tc : Thread Cert.AdwHeadsReferenceIdeal.nD Cert.AdwHeadsReferenceIdeal.τ).loc Cert.AdwHeadsReferenceIdeal.main_arg1) = m ((c.tc : Thread Cert.AdwHeadsReferenceIdeal.nD Cert.AdwHeadsReferenceIdeal.τ).loc Cert.AdwHeadsReferenceIdeal.main_arg1)
      ∧ r.2.mem ((c.tc : Thread Cert.AdwHeadsReferenceIdeal.nD Cert.AdwHeadsReferenceIdeal.τ).loc Cert.AdwHeadsReferenceIdeal.main_arg2) = m ((c.tc : Thread Cert.AdwHeadsReferenceIdeal.nD Cert.AdwHeadsReferenceIdeal.τ).loc Cert.AdwHeadsReferenceIdeal.main_arg2)
      ∧ r.2.mem ((c.tc : Thread Cert.AdwHeadsReferenceIdeal.nD Cert.AdwHeadsReferenceIdeal.τ).loc Cert.AdwHeadsReferenceIdeal.main_arg3) = m ((c.tc : Thread Cert.AdwHeadsReferenceIdeal.nD Cert.AdwHeadsReferenceIdeal.τ).loc Cert.AdwHeadsReferenceIdeal.main_arg3))
      ∧ r.2.sem = fun _ => 0)

def quiescent_AdwNormKernel [hAdwNormKernel : Cert.AdwNormKernel.Facts] : Prop :=
  ∀ (m : (ℓ : Loc Cert.AdwNormKernel.nD Cert.AdwNormKernel.τ Cert.AdwNormKernel.sig) → Buf (Elt Bits) ℓ) (g : Dev Cert.AdwNormKernel.nD → PrngReg), Pre_AdwNormKernel m →
    θ_run (Cert.AdwNormKernel.defs (F := Bits)) (onTc (τ := Cert.AdwNormKernel.τ) (Cert.AdwNormKernel.main (F := Bits))) ⟨m, fun _ => 0, g⟩ (fun r => (∀ c : Dev Cert.AdwNormKernel.nD,
      r.2.mem ((c.tc : Thread Cert.AdwNormKernel.nD Cert.AdwNormKernel.τ).loc Cert.AdwNormKernel.main_arg0) = m ((c.tc : Thread Cert.AdwNormKernel.nD Cert.AdwNormKernel.τ).loc Cert.AdwNormKernel.main_arg0)
      ∧ r.2.mem ((c.tc : Thread Cert.AdwNormKernel.nD Cert.AdwNormKernel.τ).loc Cert.AdwNormKernel.main_arg1) = m ((c.tc : Thread Cert.AdwNormKernel.nD Cert.AdwNormKernel.τ).loc Cert.AdwNormKernel.main_arg1)
      ∧ r.2.mem ((c.tc : Thread Cert.AdwNormKernel.nD Cert.AdwNormKernel.τ).loc Cert.AdwNormKernel.main_arg2) = m ((c.tc : Thread Cert.AdwNormKernel.nD Cert.AdwNormKernel.τ).loc Cert.AdwNormKernel.main_arg2)
      ∧ r.2.mem ((c.tc : Thread Cert.AdwNormKernel.nD Cert.AdwNormKernel.τ).loc Cert.AdwNormKernel.main_arg3) = m ((c.tc : Thread Cert.AdwNormKernel.nD Cert.AdwNormKernel.τ).loc Cert.AdwNormKernel.main_arg3))
      ∧ r.2.sem = fun _ => 0)

def quiescent_AdwNormKernelIdeal [hAdwNormKernelIdeal : Cert.AdwNormKernelIdeal.Facts] : Prop :=
  ∀ (m : (ℓ : Loc Cert.AdwNormKernelIdeal.nD Cert.AdwNormKernelIdeal.τ Cert.AdwNormKernelIdeal.sig) → Buf (Elt Ideal) ℓ) (g : Dev Cert.AdwNormKernelIdeal.nD → PrngReg), Pre_AdwNormKernelIdeal m →
    θ_run (Cert.AdwNormKernelIdeal.defs (F := Ideal)) (onTc (τ := Cert.AdwNormKernelIdeal.τ) (Cert.AdwNormKernelIdeal.main (F := Ideal))) ⟨m, fun _ => 0, g⟩ (fun r => (∀ c : Dev Cert.AdwNormKernelIdeal.nD,
      r.2.mem ((c.tc : Thread Cert.AdwNormKernelIdeal.nD Cert.AdwNormKernelIdeal.τ).loc Cert.AdwNormKernelIdeal.main_arg0) = m ((c.tc : Thread Cert.AdwNormKernelIdeal.nD Cert.AdwNormKernelIdeal.τ).loc Cert.AdwNormKernelIdeal.main_arg0)
      ∧ r.2.mem ((c.tc : Thread Cert.AdwNormKernelIdeal.nD Cert.AdwNormKernelIdeal.τ).loc Cert.AdwNormKernelIdeal.main_arg1) = m ((c.tc : Thread Cert.AdwNormKernelIdeal.nD Cert.AdwNormKernelIdeal.τ).loc Cert.AdwNormKernelIdeal.main_arg1)
      ∧ r.2.mem ((c.tc : Thread Cert.AdwNormKernelIdeal.nD Cert.AdwNormKernelIdeal.τ).loc Cert.AdwNormKernelIdeal.main_arg2) = m ((c.tc : Thread Cert.AdwNormKernelIdeal.nD Cert.AdwNormKernelIdeal.τ).loc Cert.AdwNormKernelIdeal.main_arg2)
      ∧ r.2.mem ((c.tc : Thread Cert.AdwNormKernelIdeal.nD Cert.AdwNormKernelIdeal.τ).loc Cert.AdwNormKernelIdeal.main_arg3) = m ((c.tc : Thread Cert.AdwNormKernelIdeal.nD Cert.AdwNormKernelIdeal.τ).loc Cert.AdwNormKernelIdeal.main_arg3))
      ∧ r.2.sem = fun _ => 0)

def quiescent_AdwNormReferenceIdeal [hAdwNormReferenceIdeal : Cert.AdwNormReferenceIdeal.Facts] : Prop :=
  ∀ (m : (ℓ : Loc Cert.AdwNormReferenceIdeal.nD Cert.AdwNormReferenceIdeal.τ Cert.AdwNormReferenceIdeal.sig) → Buf (Elt Ideal) ℓ) (g : Dev Cert.AdwNormReferenceIdeal.nD → PrngReg), Pre_AdwNormReferenceIdeal m →
    θ_run (Cert.AdwNormReferenceIdeal.defs (F := Ideal)) (onTc (τ := Cert.AdwNormReferenceIdeal.τ) (Cert.AdwNormReferenceIdeal.main (F := Ideal))) ⟨m, fun _ => 0, g⟩ (fun r => (∀ c : Dev Cert.AdwNormReferenceIdeal.nD,
      r.2.mem ((c.tc : Thread Cert.AdwNormReferenceIdeal.nD Cert.AdwNormReferenceIdeal.τ).loc Cert.AdwNormReferenceIdeal.main_arg0) = m ((c.tc : Thread Cert.AdwNormReferenceIdeal.nD Cert.AdwNormReferenceIdeal.τ).loc Cert.AdwNormReferenceIdeal.main_arg0)
      ∧ r.2.mem ((c.tc : Thread Cert.AdwNormReferenceIdeal.nD Cert.AdwNormReferenceIdeal.τ).loc Cert.AdwNormReferenceIdeal.main_arg1) = m ((c.tc : Thread Cert.AdwNormReferenceIdeal.nD Cert.AdwNormReferenceIdeal.τ).loc Cert.AdwNormReferenceIdeal.main_arg1)
      ∧ r.2.mem ((c.tc : Thread Cert.AdwNormReferenceIdeal.nD Cert.AdwNormReferenceIdeal.τ).loc Cert.AdwNormReferenceIdeal.main_arg2) = m ((c.tc : Thread Cert.AdwNormReferenceIdeal.nD Cert.AdwNormReferenceIdeal.τ).loc Cert.AdwNormReferenceIdeal.main_arg2)
      ∧ r.2.mem ((c.tc : Thread Cert.AdwNormReferenceIdeal.nD Cert.AdwNormReferenceIdeal.τ).loc Cert.AdwNormReferenceIdeal.main_arg3) = m ((c.tc : Thread Cert.AdwNormReferenceIdeal.nD Cert.AdwNormReferenceIdeal.τ).loc Cert.AdwNormReferenceIdeal.main_arg3))
      ∧ r.2.sem = fun _ => 0)

def quiescent_AdwMemKernel [hAdwMemKernel : Cert.AdwMemKernel.Facts] : Prop :=
  ∀ (m : (ℓ : Loc Cert.AdwMemKernel.nD Cert.AdwMemKernel.τ Cert.AdwMemKernel.sig) → Buf (Elt Bits) ℓ) (g : Dev Cert.AdwMemKernel.nD → PrngReg), Pre_AdwMemKernel m →
    θ_run (Cert.AdwMemKernel.defs (F := Bits)) (onTc (τ := Cert.AdwMemKernel.τ) (Cert.AdwMemKernel.main (F := Bits))) ⟨m, fun _ => 0, g⟩ (fun r => (∀ c : Dev Cert.AdwMemKernel.nD,
      r.2.mem ((c.tc : Thread Cert.AdwMemKernel.nD Cert.AdwMemKernel.τ).loc Cert.AdwMemKernel.main_arg0) = m ((c.tc : Thread Cert.AdwMemKernel.nD Cert.AdwMemKernel.τ).loc Cert.AdwMemKernel.main_arg0)
      ∧ r.2.mem ((c.tc : Thread Cert.AdwMemKernel.nD Cert.AdwMemKernel.τ).loc Cert.AdwMemKernel.main_arg1) = m ((c.tc : Thread Cert.AdwMemKernel.nD Cert.AdwMemKernel.τ).loc Cert.AdwMemKernel.main_arg1)
      ∧ r.2.mem ((c.tc : Thread Cert.AdwMemKernel.nD Cert.AdwMemKernel.τ).loc Cert.AdwMemKernel.main_arg2) = m ((c.tc : Thread Cert.AdwMemKernel.nD Cert.AdwMemKernel.τ).loc Cert.AdwMemKernel.main_arg2)
      ∧ r.2.mem ((c.tc : Thread Cert.AdwMemKernel.nD Cert.AdwMemKernel.τ).loc Cert.AdwMemKernel.main_arg3) = m ((c.tc : Thread Cert.AdwMemKernel.nD Cert.AdwMemKernel.τ).loc Cert.AdwMemKernel.main_arg3))
      ∧ r.2.sem = fun _ => 0)

def quiescent_AdwMemKernelIdeal [hAdwMemKernelIdeal : Cert.AdwMemKernelIdeal.Facts] : Prop :=
  ∀ (m : (ℓ : Loc Cert.AdwMemKernelIdeal.nD Cert.AdwMemKernelIdeal.τ Cert.AdwMemKernelIdeal.sig) → Buf (Elt Ideal) ℓ) (g : Dev Cert.AdwMemKernelIdeal.nD → PrngReg), Pre_AdwMemKernelIdeal m →
    θ_run (Cert.AdwMemKernelIdeal.defs (F := Ideal)) (onTc (τ := Cert.AdwMemKernelIdeal.τ) (Cert.AdwMemKernelIdeal.main (F := Ideal))) ⟨m, fun _ => 0, g⟩ (fun r => (∀ c : Dev Cert.AdwMemKernelIdeal.nD,
      r.2.mem ((c.tc : Thread Cert.AdwMemKernelIdeal.nD Cert.AdwMemKernelIdeal.τ).loc Cert.AdwMemKernelIdeal.main_arg0) = m ((c.tc : Thread Cert.AdwMemKernelIdeal.nD Cert.AdwMemKernelIdeal.τ).loc Cert.AdwMemKernelIdeal.main_arg0)
      ∧ r.2.mem ((c.tc : Thread Cert.AdwMemKernelIdeal.nD Cert.AdwMemKernelIdeal.τ).loc Cert.AdwMemKernelIdeal.main_arg1) = m ((c.tc : Thread Cert.AdwMemKernelIdeal.nD Cert.AdwMemKernelIdeal.τ).loc Cert.AdwMemKernelIdeal.main_arg1)
      ∧ r.2.mem ((c.tc : Thread Cert.AdwMemKernelIdeal.nD Cert.AdwMemKernelIdeal.τ).loc Cert.AdwMemKernelIdeal.main_arg2) = m ((c.tc : Thread Cert.AdwMemKernelIdeal.nD Cert.AdwMemKernelIdeal.τ).loc Cert.AdwMemKernelIdeal.main_arg2)
      ∧ r.2.mem ((c.tc : Thread Cert.AdwMemKernelIdeal.nD Cert.AdwMemKernelIdeal.τ).loc Cert.AdwMemKernelIdeal.main_arg3) = m ((c.tc : Thread Cert.AdwMemKernelIdeal.nD Cert.AdwMemKernelIdeal.τ).loc Cert.AdwMemKernelIdeal.main_arg3))
      ∧ r.2.sem = fun _ => 0)

def quiescent_AdwMemReferenceIdeal [hAdwMemReferenceIdeal : Cert.AdwMemReferenceIdeal.Facts] : Prop :=
  ∀ (m : (ℓ : Loc Cert.AdwMemReferenceIdeal.nD Cert.AdwMemReferenceIdeal.τ Cert.AdwMemReferenceIdeal.sig) → Buf (Elt Ideal) ℓ) (g : Dev Cert.AdwMemReferenceIdeal.nD → PrngReg), Pre_AdwMemReferenceIdeal m →
    θ_run (Cert.AdwMemReferenceIdeal.defs (F := Ideal)) (onTc (τ := Cert.AdwMemReferenceIdeal.τ) (Cert.AdwMemReferenceIdeal.main (F := Ideal))) ⟨m, fun _ => 0, g⟩ (fun r => (∀ c : Dev Cert.AdwMemReferenceIdeal.nD,
      r.2.mem ((c.tc : Thread Cert.AdwMemReferenceIdeal.nD Cert.AdwMemReferenceIdeal.τ).loc Cert.AdwMemReferenceIdeal.main_arg0) = m ((c.tc : Thread Cert.AdwMemReferenceIdeal.nD Cert.AdwMemReferenceIdeal.τ).loc Cert.AdwMemReferenceIdeal.main_arg0)
      ∧ r.2.mem ((c.tc : Thread Cert.AdwMemReferenceIdeal.nD Cert.AdwMemReferenceIdeal.τ).loc Cert.AdwMemReferenceIdeal.main_arg1) = m ((c.tc : Thread Cert.AdwMemReferenceIdeal.nD Cert.AdwMemReferenceIdeal.τ).loc Cert.AdwMemReferenceIdeal.main_arg1)
      ∧ r.2.mem ((c.tc : Thread Cert.AdwMemReferenceIdeal.nD Cert.AdwMemReferenceIdeal.τ).loc Cert.AdwMemReferenceIdeal.main_arg2) = m ((c.tc : Thread Cert.AdwMemReferenceIdeal.nD Cert.AdwMemReferenceIdeal.τ).loc Cert.AdwMemReferenceIdeal.main_arg2)
      ∧ r.2.mem ((c.tc : Thread Cert.AdwMemReferenceIdeal.nD Cert.AdwMemReferenceIdeal.τ).loc Cert.AdwMemReferenceIdeal.main_arg3) = m ((c.tc : Thread Cert.AdwMemReferenceIdeal.nD Cert.AdwMemReferenceIdeal.τ).loc Cert.AdwMemReferenceIdeal.main_arg3))
      ∧ r.2.sem = fun _ => 0)

def quiescent_AdwSwaUpKernel [hAdwSwaUpKernel : Cert.AdwSwaUpKernel.Facts] : Prop :=
  ∀ (m : (ℓ : Loc Cert.AdwSwaUpKernel.nD Cert.AdwSwaUpKernel.τ Cert.AdwSwaUpKernel.sig) → Buf (Elt Bits) ℓ) (g : Dev Cert.AdwSwaUpKernel.nD → PrngReg), Pre_AdwSwaUpKernel m →
    θ_run (Cert.AdwSwaUpKernel.defs (F := Bits)) (onTc (τ := Cert.AdwSwaUpKernel.τ) (Cert.AdwSwaUpKernel.main (F := Bits))) ⟨m, fun _ => 0, g⟩ (fun r => (∀ c : Dev Cert.AdwSwaUpKernel.nD,
      r.2.mem ((c.tc : Thread Cert.AdwSwaUpKernel.nD Cert.AdwSwaUpKernel.τ).loc Cert.AdwSwaUpKernel.main_arg0) = m ((c.tc : Thread Cert.AdwSwaUpKernel.nD Cert.AdwSwaUpKernel.τ).loc Cert.AdwSwaUpKernel.main_arg0)
      ∧ r.2.mem ((c.tc : Thread Cert.AdwSwaUpKernel.nD Cert.AdwSwaUpKernel.τ).loc Cert.AdwSwaUpKernel.main_arg1) = m ((c.tc : Thread Cert.AdwSwaUpKernel.nD Cert.AdwSwaUpKernel.τ).loc Cert.AdwSwaUpKernel.main_arg1)
      ∧ r.2.mem ((c.tc : Thread Cert.AdwSwaUpKernel.nD Cert.AdwSwaUpKernel.τ).loc Cert.AdwSwaUpKernel.main_arg2) = m ((c.tc : Thread Cert.AdwSwaUpKernel.nD Cert.AdwSwaUpKernel.τ).loc Cert.AdwSwaUpKernel.main_arg2)
      ∧ r.2.mem ((c.tc : Thread Cert.AdwSwaUpKernel.nD Cert.AdwSwaUpKernel.τ).loc Cert.AdwSwaUpKernel.main_arg3) = m ((c.tc : Thread Cert.AdwSwaUpKernel.nD Cert.AdwSwaUpKernel.τ).loc Cert.AdwSwaUpKernel.main_arg3))
      ∧ r.2.sem = fun _ => 0)

def quiescent_AdwSwaUpKernelIdeal [hAdwSwaUpKernelIdeal : Cert.AdwSwaUpKernelIdeal.Facts] : Prop :=
  ∀ (m : (ℓ : Loc Cert.AdwSwaUpKernelIdeal.nD Cert.AdwSwaUpKernelIdeal.τ Cert.AdwSwaUpKernelIdeal.sig) → Buf (Elt Ideal) ℓ) (g : Dev Cert.AdwSwaUpKernelIdeal.nD → PrngReg), Pre_AdwSwaUpKernelIdeal m →
    θ_run (Cert.AdwSwaUpKernelIdeal.defs (F := Ideal)) (onTc (τ := Cert.AdwSwaUpKernelIdeal.τ) (Cert.AdwSwaUpKernelIdeal.main (F := Ideal))) ⟨m, fun _ => 0, g⟩ (fun r => (∀ c : Dev Cert.AdwSwaUpKernelIdeal.nD,
      r.2.mem ((c.tc : Thread Cert.AdwSwaUpKernelIdeal.nD Cert.AdwSwaUpKernelIdeal.τ).loc Cert.AdwSwaUpKernelIdeal.main_arg0) = m ((c.tc : Thread Cert.AdwSwaUpKernelIdeal.nD Cert.AdwSwaUpKernelIdeal.τ).loc Cert.AdwSwaUpKernelIdeal.main_arg0)
      ∧ r.2.mem ((c.tc : Thread Cert.AdwSwaUpKernelIdeal.nD Cert.AdwSwaUpKernelIdeal.τ).loc Cert.AdwSwaUpKernelIdeal.main_arg1) = m ((c.tc : Thread Cert.AdwSwaUpKernelIdeal.nD Cert.AdwSwaUpKernelIdeal.τ).loc Cert.AdwSwaUpKernelIdeal.main_arg1)
      ∧ r.2.mem ((c.tc : Thread Cert.AdwSwaUpKernelIdeal.nD Cert.AdwSwaUpKernelIdeal.τ).loc Cert.AdwSwaUpKernelIdeal.main_arg2) = m ((c.tc : Thread Cert.AdwSwaUpKernelIdeal.nD Cert.AdwSwaUpKernelIdeal.τ).loc Cert.AdwSwaUpKernelIdeal.main_arg2)
      ∧ r.2.mem ((c.tc : Thread Cert.AdwSwaUpKernelIdeal.nD Cert.AdwSwaUpKernelIdeal.τ).loc Cert.AdwSwaUpKernelIdeal.main_arg3) = m ((c.tc : Thread Cert.AdwSwaUpKernelIdeal.nD Cert.AdwSwaUpKernelIdeal.τ).loc Cert.AdwSwaUpKernelIdeal.main_arg3))
      ∧ r.2.sem = fun _ => 0)

def quiescent_AdwSwaUpReferenceIdeal [hAdwSwaUpReferenceIdeal : Cert.AdwSwaUpReferenceIdeal.Facts] : Prop :=
  ∀ (m : (ℓ : Loc Cert.AdwSwaUpReferenceIdeal.nD Cert.AdwSwaUpReferenceIdeal.τ Cert.AdwSwaUpReferenceIdeal.sig) → Buf (Elt Ideal) ℓ) (g : Dev Cert.AdwSwaUpReferenceIdeal.nD → PrngReg), Pre_AdwSwaUpReferenceIdeal m →
    θ_run (Cert.AdwSwaUpReferenceIdeal.defs (F := Ideal)) (onTc (τ := Cert.AdwSwaUpReferenceIdeal.τ) (Cert.AdwSwaUpReferenceIdeal.main (F := Ideal))) ⟨m, fun _ => 0, g⟩ (fun r => (∀ c : Dev Cert.AdwSwaUpReferenceIdeal.nD,
      r.2.mem ((c.tc : Thread Cert.AdwSwaUpReferenceIdeal.nD Cert.AdwSwaUpReferenceIdeal.τ).loc Cert.AdwSwaUpReferenceIdeal.main_arg0) = m ((c.tc : Thread Cert.AdwSwaUpReferenceIdeal.nD Cert.AdwSwaUpReferenceIdeal.τ).loc Cert.AdwSwaUpReferenceIdeal.main_arg0)
      ∧ r.2.mem ((c.tc : Thread Cert.AdwSwaUpReferenceIdeal.nD Cert.AdwSwaUpReferenceIdeal.τ).loc Cert.AdwSwaUpReferenceIdeal.main_arg1) = m ((c.tc : Thread Cert.AdwSwaUpReferenceIdeal.nD Cert.AdwSwaUpReferenceIdeal.τ).loc Cert.AdwSwaUpReferenceIdeal.main_arg1)
      ∧ r.2.mem ((c.tc : Thread Cert.AdwSwaUpReferenceIdeal.nD Cert.AdwSwaUpReferenceIdeal.τ).loc Cert.AdwSwaUpReferenceIdeal.main_arg2) = m ((c.tc : Thread Cert.AdwSwaUpReferenceIdeal.nD Cert.AdwSwaUpReferenceIdeal.τ).loc Cert.AdwSwaUpReferenceIdeal.main_arg2)
      ∧ r.2.mem ((c.tc : Thread Cert.AdwSwaUpReferenceIdeal.nD Cert.AdwSwaUpReferenceIdeal.τ).loc Cert.AdwSwaUpReferenceIdeal.main_arg3) = m ((c.tc : Thread Cert.AdwSwaUpReferenceIdeal.nD Cert.AdwSwaUpReferenceIdeal.τ).loc Cert.AdwSwaUpReferenceIdeal.main_arg3))
      ∧ r.2.sem = fun _ => 0)

def quiescent_AdwUpKernel [hAdwUpKernel : Cert.AdwUpKernel.Facts] : Prop :=
  ∀ (m : (ℓ : Loc Cert.AdwUpKernel.nD Cert.AdwUpKernel.τ Cert.AdwUpKernel.sig) → Buf (Elt Bits) ℓ) (g : Dev Cert.AdwUpKernel.nD → PrngReg), Pre_AdwUpKernel m →
    θ_run (Cert.AdwUpKernel.defs (F := Bits)) (onTc (τ := Cert.AdwUpKernel.τ) (Cert.AdwUpKernel.main (F := Bits))) ⟨m, fun _ => 0, g⟩ (fun r => (∀ c : Dev Cert.AdwUpKernel.nD,
      r.2.mem ((c.tc : Thread Cert.AdwUpKernel.nD Cert.AdwUpKernel.τ).loc Cert.AdwUpKernel.main_arg0) = m ((c.tc : Thread Cert.AdwUpKernel.nD Cert.AdwUpKernel.τ).loc Cert.AdwUpKernel.main_arg0)
      ∧ r.2.mem ((c.tc : Thread Cert.AdwUpKernel.nD Cert.AdwUpKernel.τ).loc Cert.AdwUpKernel.main_arg1) = m ((c.tc : Thread Cert.AdwUpKernel.nD Cert.AdwUpKernel.τ).loc Cert.AdwUpKernel.main_arg1)
      ∧ r.2.mem ((c.tc : Thread Cert.AdwUpKernel.nD Cert.AdwUpKernel.τ).loc Cert.AdwUpKernel.main_arg2) = m ((c.tc : Thread Cert.AdwUpKernel.nD Cert.AdwUpKernel.τ).loc Cert.AdwUpKernel.main_arg2)
      ∧ r.2.mem ((c.tc : Thread Cert.AdwUpKernel.nD Cert.AdwUpKernel.τ).loc Cert.AdwUpKernel.main_arg3) = m ((c.tc : Thread Cert.AdwUpKernel.nD Cert.AdwUpKernel.τ).loc Cert.AdwUpKernel.main_arg3))
      ∧ r.2.sem = fun _ => 0)

def quiescent_AdwUpKernelIdeal [hAdwUpKernelIdeal : Cert.AdwUpKernelIdeal.Facts] : Prop :=
  ∀ (m : (ℓ : Loc Cert.AdwUpKernelIdeal.nD Cert.AdwUpKernelIdeal.τ Cert.AdwUpKernelIdeal.sig) → Buf (Elt Ideal) ℓ) (g : Dev Cert.AdwUpKernelIdeal.nD → PrngReg), Pre_AdwUpKernelIdeal m →
    θ_run (Cert.AdwUpKernelIdeal.defs (F := Ideal)) (onTc (τ := Cert.AdwUpKernelIdeal.τ) (Cert.AdwUpKernelIdeal.main (F := Ideal))) ⟨m, fun _ => 0, g⟩ (fun r => (∀ c : Dev Cert.AdwUpKernelIdeal.nD,
      r.2.mem ((c.tc : Thread Cert.AdwUpKernelIdeal.nD Cert.AdwUpKernelIdeal.τ).loc Cert.AdwUpKernelIdeal.main_arg0) = m ((c.tc : Thread Cert.AdwUpKernelIdeal.nD Cert.AdwUpKernelIdeal.τ).loc Cert.AdwUpKernelIdeal.main_arg0)
      ∧ r.2.mem ((c.tc : Thread Cert.AdwUpKernelIdeal.nD Cert.AdwUpKernelIdeal.τ).loc Cert.AdwUpKernelIdeal.main_arg1) = m ((c.tc : Thread Cert.AdwUpKernelIdeal.nD Cert.AdwUpKernelIdeal.τ).loc Cert.AdwUpKernelIdeal.main_arg1)
      ∧ r.2.mem ((c.tc : Thread Cert.AdwUpKernelIdeal.nD Cert.AdwUpKernelIdeal.τ).loc Cert.AdwUpKernelIdeal.main_arg2) = m ((c.tc : Thread Cert.AdwUpKernelIdeal.nD Cert.AdwUpKernelIdeal.τ).loc Cert.AdwUpKernelIdeal.main_arg2)
      ∧ r.2.mem ((c.tc : Thread Cert.AdwUpKernelIdeal.nD Cert.AdwUpKernelIdeal.τ).loc Cert.AdwUpKernelIdeal.main_arg3) = m ((c.tc : Thread Cert.AdwUpKernelIdeal.nD Cert.AdwUpKernelIdeal.τ).loc Cert.AdwUpKernelIdeal.main_arg3))
      ∧ r.2.sem = fun _ => 0)

def quiescent_AdwUpReferenceIdeal [hAdwUpReferenceIdeal : Cert.AdwUpReferenceIdeal.Facts] : Prop :=
  ∀ (m : (ℓ : Loc Cert.AdwUpReferenceIdeal.nD Cert.AdwUpReferenceIdeal.τ Cert.AdwUpReferenceIdeal.sig) → Buf (Elt Ideal) ℓ) (g : Dev Cert.AdwUpReferenceIdeal.nD → PrngReg), Pre_AdwUpReferenceIdeal m →
    θ_run (Cert.AdwUpReferenceIdeal.defs (F := Ideal)) (onTc (τ := Cert.AdwUpReferenceIdeal.τ) (Cert.AdwUpReferenceIdeal.main (F := Ideal))) ⟨m, fun _ => 0, g⟩ (fun r => (∀ c : Dev Cert.AdwUpReferenceIdeal.nD,
      r.2.mem ((c.tc : Thread Cert.AdwUpReferenceIdeal.nD Cert.AdwUpReferenceIdeal.τ).loc Cert.AdwUpReferenceIdeal.main_arg0) = m ((c.tc : Thread Cert.AdwUpReferenceIdeal.nD Cert.AdwUpReferenceIdeal.τ).loc Cert.AdwUpReferenceIdeal.main_arg0)
      ∧ r.2.mem ((c.tc : Thread Cert.AdwUpReferenceIdeal.nD Cert.AdwUpReferenceIdeal.τ).loc Cert.AdwUpReferenceIdeal.main_arg1) = m ((c.tc : Thread Cert.AdwUpReferenceIdeal.nD Cert.AdwUpReferenceIdeal.τ).loc Cert.AdwUpReferenceIdeal.main_arg1)
      ∧ r.2.mem ((c.tc : Thread Cert.AdwUpReferenceIdeal.nD Cert.AdwUpReferenceIdeal.τ).loc Cert.AdwUpReferenceIdeal.main_arg2) = m ((c.tc : Thread Cert.AdwUpReferenceIdeal.nD Cert.AdwUpReferenceIdeal.τ).loc Cert.AdwUpReferenceIdeal.main_arg2)
      ∧ r.2.mem ((c.tc : Thread Cert.AdwUpReferenceIdeal.nD Cert.AdwUpReferenceIdeal.τ).loc Cert.AdwUpReferenceIdeal.main_arg3) = m ((c.tc : Thread Cert.AdwUpReferenceIdeal.nD Cert.AdwUpReferenceIdeal.τ).loc Cert.AdwUpReferenceIdeal.main_arg3))
      ∧ r.2.sem = fun _ => 0)

def quiescent_AdwOutKernel [hAdwOutKernel : Cert.AdwOutKernel.Facts] : Prop :=
  ∀ (m : (ℓ : Loc Cert.AdwOutKernel.nD Cert.AdwOutKernel.τ Cert.AdwOutKernel.sig) → Buf (Elt Bits) ℓ) (g : Dev Cert.AdwOutKernel.nD → PrngReg), Pre_AdwOutKernel m →
    θ_run (Cert.AdwOutKernel.defs (F := Bits)) (onTc (τ := Cert.AdwOutKernel.τ) (Cert.AdwOutKernel.main (F := Bits))) ⟨m, fun _ => 0, g⟩ (fun r => (∀ c : Dev Cert.AdwOutKernel.nD,
      r.2.mem ((c.tc : Thread Cert.AdwOutKernel.nD Cert.AdwOutKernel.τ).loc Cert.AdwOutKernel.main_arg0) = m ((c.tc : Thread Cert.AdwOutKernel.nD Cert.AdwOutKernel.τ).loc Cert.AdwOutKernel.main_arg0)
      ∧ r.2.mem ((c.tc : Thread Cert.AdwOutKernel.nD Cert.AdwOutKernel.τ).loc Cert.AdwOutKernel.main_arg1) = m ((c.tc : Thread Cert.AdwOutKernel.nD Cert.AdwOutKernel.τ).loc Cert.AdwOutKernel.main_arg1)
      ∧ r.2.mem ((c.tc : Thread Cert.AdwOutKernel.nD Cert.AdwOutKernel.τ).loc Cert.AdwOutKernel.main_arg2) = m ((c.tc : Thread Cert.AdwOutKernel.nD Cert.AdwOutKernel.τ).loc Cert.AdwOutKernel.main_arg2)
      ∧ r.2.mem ((c.tc : Thread Cert.AdwOutKernel.nD Cert.AdwOutKernel.τ).loc Cert.AdwOutKernel.main_arg3) = m ((c.tc : Thread Cert.AdwOutKernel.nD Cert.AdwOutKernel.τ).loc Cert.AdwOutKernel.main_arg3))
      ∧ r.2.sem = fun _ => 0)

def quiescent_AdwOutKernelIdeal [hAdwOutKernelIdeal : Cert.AdwOutKernelIdeal.Facts] : Prop :=
  ∀ (m : (ℓ : Loc Cert.AdwOutKernelIdeal.nD Cert.AdwOutKernelIdeal.τ Cert.AdwOutKernelIdeal.sig) → Buf (Elt Ideal) ℓ) (g : Dev Cert.AdwOutKernelIdeal.nD → PrngReg), Pre_AdwOutKernelIdeal m →
    θ_run (Cert.AdwOutKernelIdeal.defs (F := Ideal)) (onTc (τ := Cert.AdwOutKernelIdeal.τ) (Cert.AdwOutKernelIdeal.main (F := Ideal))) ⟨m, fun _ => 0, g⟩ (fun r => (∀ c : Dev Cert.AdwOutKernelIdeal.nD,
      r.2.mem ((c.tc : Thread Cert.AdwOutKernelIdeal.nD Cert.AdwOutKernelIdeal.τ).loc Cert.AdwOutKernelIdeal.main_arg0) = m ((c.tc : Thread Cert.AdwOutKernelIdeal.nD Cert.AdwOutKernelIdeal.τ).loc Cert.AdwOutKernelIdeal.main_arg0)
      ∧ r.2.mem ((c.tc : Thread Cert.AdwOutKernelIdeal.nD Cert.AdwOutKernelIdeal.τ).loc Cert.AdwOutKernelIdeal.main_arg1) = m ((c.tc : Thread Cert.AdwOutKernelIdeal.nD Cert.AdwOutKernelIdeal.τ).loc Cert.AdwOutKernelIdeal.main_arg1)
      ∧ r.2.mem ((c.tc : Thread Cert.AdwOutKernelIdeal.nD Cert.AdwOutKernelIdeal.τ).loc Cert.AdwOutKernelIdeal.main_arg2) = m ((c.tc : Thread Cert.AdwOutKernelIdeal.nD Cert.AdwOutKernelIdeal.τ).loc Cert.AdwOutKernelIdeal.main_arg2)
      ∧ r.2.mem ((c.tc : Thread Cert.AdwOutKernelIdeal.nD Cert.AdwOutKernelIdeal.τ).loc Cert.AdwOutKernelIdeal.main_arg3) = m ((c.tc : Thread Cert.AdwOutKernelIdeal.nD Cert.AdwOutKernelIdeal.τ).loc Cert.AdwOutKernelIdeal.main_arg3))
      ∧ r.2.sem = fun _ => 0)

def quiescent_AdwOutReferenceIdeal [hAdwOutReferenceIdeal : Cert.AdwOutReferenceIdeal.Facts] : Prop :=
  ∀ (m : (ℓ : Loc Cert.AdwOutReferenceIdeal.nD Cert.AdwOutReferenceIdeal.τ Cert.AdwOutReferenceIdeal.sig) → Buf (Elt Ideal) ℓ) (g : Dev Cert.AdwOutReferenceIdeal.nD → PrngReg), Pre_AdwOutReferenceIdeal m →
    θ_run (Cert.AdwOutReferenceIdeal.defs (F := Ideal)) (onTc (τ := Cert.AdwOutReferenceIdeal.τ) (Cert.AdwOutReferenceIdeal.main (F := Ideal))) ⟨m, fun _ => 0, g⟩ (fun r => (∀ c : Dev Cert.AdwOutReferenceIdeal.nD,
      r.2.mem ((c.tc : Thread Cert.AdwOutReferenceIdeal.nD Cert.AdwOutReferenceIdeal.τ).loc Cert.AdwOutReferenceIdeal.main_arg0) = m ((c.tc : Thread Cert.AdwOutReferenceIdeal.nD Cert.AdwOutReferenceIdeal.τ).loc Cert.AdwOutReferenceIdeal.main_arg0)
      ∧ r.2.mem ((c.tc : Thread Cert.AdwOutReferenceIdeal.nD Cert.AdwOutReferenceIdeal.τ).loc Cert.AdwOutReferenceIdeal.main_arg1) = m ((c.tc : Thread Cert.AdwOutReferenceIdeal.nD Cert.AdwOutReferenceIdeal.τ).loc Cert.AdwOutReferenceIdeal.main_arg1)
      ∧ r.2.mem ((c.tc : Thread Cert.AdwOutReferenceIdeal.nD Cert.AdwOutReferenceIdeal.τ).loc Cert.AdwOutReferenceIdeal.main_arg2) = m ((c.tc : Thread Cert.AdwOutReferenceIdeal.nD Cert.AdwOutReferenceIdeal.τ).loc Cert.AdwOutReferenceIdeal.main_arg2)
      ∧ r.2.mem ((c.tc : Thread Cert.AdwOutReferenceIdeal.nD Cert.AdwOutReferenceIdeal.τ).loc Cert.AdwOutReferenceIdeal.main_arg3) = m ((c.tc : Thread Cert.AdwOutReferenceIdeal.nD Cert.AdwOutReferenceIdeal.τ).loc Cert.AdwOutReferenceIdeal.main_arg3))
      ∧ r.2.sem = fun _ => 0)

def quiescent_AdwMlpKernel [hAdwMlpKernel : Cert.AdwMlpKernel.Facts] : Prop :=
  ∀ (m : (ℓ : Loc Cert.AdwMlpKernel.nD Cert.AdwMlpKernel.τ Cert.AdwMlpKernel.sig) → Buf (Elt Bits) ℓ) (g : Dev Cert.AdwMlpKernel.nD → PrngReg), Pre_AdwMlpKernel m →
    θ_run (Cert.AdwMlpKernel.defs (F := Bits)) (onTc (τ := Cert.AdwMlpKernel.τ) (Cert.AdwMlpKernel.main (F := Bits))) ⟨m, fun _ => 0, g⟩ (fun r => (∀ c : Dev Cert.AdwMlpKernel.nD,
      r.2.mem ((c.tc : Thread Cert.AdwMlpKernel.nD Cert.AdwMlpKernel.τ).loc Cert.AdwMlpKernel.main_arg0) = m ((c.tc : Thread Cert.AdwMlpKernel.nD Cert.AdwMlpKernel.τ).loc Cert.AdwMlpKernel.main_arg0)
      ∧ r.2.mem ((c.tc : Thread Cert.AdwMlpKernel.nD Cert.AdwMlpKernel.τ).loc Cert.AdwMlpKernel.main_arg1) = m ((c.tc : Thread Cert.AdwMlpKernel.nD Cert.AdwMlpKernel.τ).loc Cert.AdwMlpKernel.main_arg1)
      ∧ r.2.mem ((c.tc : Thread Cert.AdwMlpKernel.nD Cert.AdwMlpKernel.τ).loc Cert.AdwMlpKernel.main_arg2) = m ((c.tc : Thread Cert.AdwMlpKernel.nD Cert.AdwMlpKernel.τ).loc Cert.AdwMlpKernel.main_arg2)
      ∧ r.2.mem ((c.tc : Thread Cert.AdwMlpKernel.nD Cert.AdwMlpKernel.τ).loc Cert.AdwMlpKernel.main_arg3) = m ((c.tc : Thread Cert.AdwMlpKernel.nD Cert.AdwMlpKernel.τ).loc Cert.AdwMlpKernel.main_arg3))
      ∧ r.2.sem = fun _ => 0)

def quiescent_AdwMlpKernelIdeal [hAdwMlpKernelIdeal : Cert.AdwMlpKernelIdeal.Facts] : Prop :=
  ∀ (m : (ℓ : Loc Cert.AdwMlpKernelIdeal.nD Cert.AdwMlpKernelIdeal.τ Cert.AdwMlpKernelIdeal.sig) → Buf (Elt Ideal) ℓ) (g : Dev Cert.AdwMlpKernelIdeal.nD → PrngReg), Pre_AdwMlpKernelIdeal m →
    θ_run (Cert.AdwMlpKernelIdeal.defs (F := Ideal)) (onTc (τ := Cert.AdwMlpKernelIdeal.τ) (Cert.AdwMlpKernelIdeal.main (F := Ideal))) ⟨m, fun _ => 0, g⟩ (fun r => (∀ c : Dev Cert.AdwMlpKernelIdeal.nD,
      r.2.mem ((c.tc : Thread Cert.AdwMlpKernelIdeal.nD Cert.AdwMlpKernelIdeal.τ).loc Cert.AdwMlpKernelIdeal.main_arg0) = m ((c.tc : Thread Cert.AdwMlpKernelIdeal.nD Cert.AdwMlpKernelIdeal.τ).loc Cert.AdwMlpKernelIdeal.main_arg0)
      ∧ r.2.mem ((c.tc : Thread Cert.AdwMlpKernelIdeal.nD Cert.AdwMlpKernelIdeal.τ).loc Cert.AdwMlpKernelIdeal.main_arg1) = m ((c.tc : Thread Cert.AdwMlpKernelIdeal.nD Cert.AdwMlpKernelIdeal.τ).loc Cert.AdwMlpKernelIdeal.main_arg1)
      ∧ r.2.mem ((c.tc : Thread Cert.AdwMlpKernelIdeal.nD Cert.AdwMlpKernelIdeal.τ).loc Cert.AdwMlpKernelIdeal.main_arg2) = m ((c.tc : Thread Cert.AdwMlpKernelIdeal.nD Cert.AdwMlpKernelIdeal.τ).loc Cert.AdwMlpKernelIdeal.main_arg2)
      ∧ r.2.mem ((c.tc : Thread Cert.AdwMlpKernelIdeal.nD Cert.AdwMlpKernelIdeal.τ).loc Cert.AdwMlpKernelIdeal.main_arg3) = m ((c.tc : Thread Cert.AdwMlpKernelIdeal.nD Cert.AdwMlpKernelIdeal.τ).loc Cert.AdwMlpKernelIdeal.main_arg3))
      ∧ r.2.sem = fun _ => 0)

def quiescent_AdwMlpReferenceIdeal [hAdwMlpReferenceIdeal : Cert.AdwMlpReferenceIdeal.Facts] : Prop :=
  ∀ (m : (ℓ : Loc Cert.AdwMlpReferenceIdeal.nD Cert.AdwMlpReferenceIdeal.τ Cert.AdwMlpReferenceIdeal.sig) → Buf (Elt Ideal) ℓ) (g : Dev Cert.AdwMlpReferenceIdeal.nD → PrngReg), Pre_AdwMlpReferenceIdeal m →
    θ_run (Cert.AdwMlpReferenceIdeal.defs (F := Ideal)) (onTc (τ := Cert.AdwMlpReferenceIdeal.τ) (Cert.AdwMlpReferenceIdeal.main (F := Ideal))) ⟨m, fun _ => 0, g⟩ (fun r => (∀ c : Dev Cert.AdwMlpReferenceIdeal.nD,
      r.2.mem ((c.tc : Thread Cert.AdwMlpReferenceIdeal.nD Cert.AdwMlpReferenceIdeal.τ).loc Cert.AdwMlpReferenceIdeal.main_arg0) = m ((c.tc : Thread Cert.AdwMlpReferenceIdeal.nD Cert.AdwMlpReferenceIdeal.τ).loc Cert.AdwMlpReferenceIdeal.main_arg0)
      ∧ r.2.mem ((c.tc : Thread Cert.AdwMlpReferenceIdeal.nD Cert.AdwMlpReferenceIdeal.τ).loc Cert.AdwMlpReferenceIdeal.main_arg1) = m ((c.tc : Thread Cert.AdwMlpReferenceIdeal.nD Cert.AdwMlpReferenceIdeal.τ).loc Cert.AdwMlpReferenceIdeal.main_arg1)
      ∧ r.2.mem ((c.tc : Thread Cert.AdwMlpReferenceIdeal.nD Cert.AdwMlpReferenceIdeal.τ).loc Cert.AdwMlpReferenceIdeal.main_arg2) = m ((c.tc : Thread Cert.AdwMlpReferenceIdeal.nD Cert.AdwMlpReferenceIdeal.τ).loc Cert.AdwMlpReferenceIdeal.main_arg2)
      ∧ r.2.mem ((c.tc : Thread Cert.AdwMlpReferenceIdeal.nD Cert.AdwMlpReferenceIdeal.τ).loc Cert.AdwMlpReferenceIdeal.main_arg3) = m ((c.tc : Thread Cert.AdwMlpReferenceIdeal.nD Cert.AdwMlpReferenceIdeal.τ).loc Cert.AdwMlpReferenceIdeal.main_arg3))
      ∧ r.2.sem = fun _ => 0)

def quiescent_GdnPostFwdKernel [hGdnPostFwdKernel : Cert.GdnPostFwdKernel.Facts] : Prop :=
  ∀ (m : (ℓ : Loc Cert.GdnPostFwdKernel.nD Cert.GdnPostFwdKernel.τ Cert.GdnPostFwdKernel.sig) → Buf (Elt Bits) ℓ) (g : Dev Cert.GdnPostFwdKernel.nD → PrngReg), Pre_GdnPostFwdKernel m →
    θ_run (Cert.GdnPostFwdKernel.defs (F := Bits)) (onTc (τ := Cert.GdnPostFwdKernel.τ) (Cert.GdnPostFwdKernel.main (F := Bits))) ⟨m, fun _ => 0, g⟩ (fun r => (∀ c : Dev Cert.GdnPostFwdKernel.nD,
      r.2.mem ((c.tc : Thread Cert.GdnPostFwdKernel.nD Cert.GdnPostFwdKernel.τ).loc Cert.GdnPostFwdKernel.main_arg0) = m ((c.tc : Thread Cert.GdnPostFwdKernel.nD Cert.GdnPostFwdKernel.τ).loc Cert.GdnPostFwdKernel.main_arg0)
      ∧ r.2.mem ((c.tc : Thread Cert.GdnPostFwdKernel.nD Cert.GdnPostFwdKernel.τ).loc Cert.GdnPostFwdKernel.main_arg1) = m ((c.tc : Thread Cert.GdnPostFwdKernel.nD Cert.GdnPostFwdKernel.τ).loc Cert.GdnPostFwdKernel.main_arg1)
      ∧ r.2.mem ((c.tc : Thread Cert.GdnPostFwdKernel.nD Cert.GdnPostFwdKernel.τ).loc Cert.GdnPostFwdKernel.main_arg2) = m ((c.tc : Thread Cert.GdnPostFwdKernel.nD Cert.GdnPostFwdKernel.τ).loc Cert.GdnPostFwdKernel.main_arg2))
      ∧ r.2.sem = fun _ => 0)

def quiescent_GdnPostFwdKernelIdeal [hGdnPostFwdKernelIdeal : Cert.GdnPostFwdKernelIdeal.Facts] : Prop :=
  ∀ (m : (ℓ : Loc Cert.GdnPostFwdKernelIdeal.nD Cert.GdnPostFwdKernelIdeal.τ Cert.GdnPostFwdKernelIdeal.sig) → Buf (Elt Ideal) ℓ) (g : Dev Cert.GdnPostFwdKernelIdeal.nD → PrngReg), Pre_GdnPostFwdKernelIdeal m →
    θ_run (Cert.GdnPostFwdKernelIdeal.defs (F := Ideal)) (onTc (τ := Cert.GdnPostFwdKernelIdeal.τ) (Cert.GdnPostFwdKernelIdeal.main (F := Ideal))) ⟨m, fun _ => 0, g⟩ (fun r => (∀ c : Dev Cert.GdnPostFwdKernelIdeal.nD,
      r.2.mem ((c.tc : Thread Cert.GdnPostFwdKernelIdeal.nD Cert.GdnPostFwdKernelIdeal.τ).loc Cert.GdnPostFwdKernelIdeal.main_arg0) = m ((c.tc : Thread Cert.GdnPostFwdKernelIdeal.nD Cert.GdnPostFwdKernelIdeal.τ).loc Cert.GdnPostFwdKernelIdeal.main_arg0)
      ∧ r.2.mem ((c.tc : Thread Cert.GdnPostFwdKernelIdeal.nD Cert.GdnPostFwdKernelIdeal.τ).loc Cert.GdnPostFwdKernelIdeal.main_arg1) = m ((c.tc : Thread Cert.GdnPostFwdKernelIdeal.nD Cert.GdnPostFwdKernelIdeal.τ).loc Cert.GdnPostFwdKernelIdeal.main_arg1)
      ∧ r.2.mem ((c.tc : Thread Cert.GdnPostFwdKernelIdeal.nD Cert.GdnPostFwdKernelIdeal.τ).loc Cert.GdnPostFwdKernelIdeal.main_arg2) = m ((c.tc : Thread Cert.GdnPostFwdKernelIdeal.nD Cert.GdnPostFwdKernelIdeal.τ).loc Cert.GdnPostFwdKernelIdeal.main_arg2))
      ∧ r.2.sem = fun _ => 0)

def quiescent_GdnPostFwdReferenceIdeal [hGdnPostFwdReferenceIdeal : Cert.GdnPostFwdReferenceIdeal.Facts] : Prop :=
  ∀ (m : (ℓ : Loc Cert.GdnPostFwdReferenceIdeal.nD Cert.GdnPostFwdReferenceIdeal.τ Cert.GdnPostFwdReferenceIdeal.sig) → Buf (Elt Ideal) ℓ) (g : Dev Cert.GdnPostFwdReferenceIdeal.nD → PrngReg), Pre_GdnPostFwdReferenceIdeal m →
    θ_run (Cert.GdnPostFwdReferenceIdeal.defs (F := Ideal)) (onTc (τ := Cert.GdnPostFwdReferenceIdeal.τ) (Cert.GdnPostFwdReferenceIdeal.main (F := Ideal))) ⟨m, fun _ => 0, g⟩ (fun r => (∀ c : Dev Cert.GdnPostFwdReferenceIdeal.nD,
      r.2.mem ((c.tc : Thread Cert.GdnPostFwdReferenceIdeal.nD Cert.GdnPostFwdReferenceIdeal.τ).loc Cert.GdnPostFwdReferenceIdeal.main_arg0) = m ((c.tc : Thread Cert.GdnPostFwdReferenceIdeal.nD Cert.GdnPostFwdReferenceIdeal.τ).loc Cert.GdnPostFwdReferenceIdeal.main_arg0)
      ∧ r.2.mem ((c.tc : Thread Cert.GdnPostFwdReferenceIdeal.nD Cert.GdnPostFwdReferenceIdeal.τ).loc Cert.GdnPostFwdReferenceIdeal.main_arg1) = m ((c.tc : Thread Cert.GdnPostFwdReferenceIdeal.nD Cert.GdnPostFwdReferenceIdeal.τ).loc Cert.GdnPostFwdReferenceIdeal.main_arg1)
      ∧ r.2.mem ((c.tc : Thread Cert.GdnPostFwdReferenceIdeal.nD Cert.GdnPostFwdReferenceIdeal.τ).loc Cert.GdnPostFwdReferenceIdeal.main_arg2) = m ((c.tc : Thread Cert.GdnPostFwdReferenceIdeal.nD Cert.GdnPostFwdReferenceIdeal.τ).loc Cert.GdnPostFwdReferenceIdeal.main_arg2))
      ∧ r.2.sem = fun _ => 0)

def quiescent_MemKvKernel [hMemKvKernel : Cert.MemKvKernel.Facts] : Prop :=
  ∀ (m : (ℓ : Loc Cert.MemKvKernel.nD Cert.MemKvKernel.τ Cert.MemKvKernel.sig) → Buf (Elt Bits) ℓ) (g : Dev Cert.MemKvKernel.nD → PrngReg), Pre_MemKvKernel m →
    θ_run (Cert.MemKvKernel.defs (F := Bits)) (onTc (τ := Cert.MemKvKernel.τ) (Cert.MemKvKernel.main (F := Bits))) ⟨m, fun _ => 0, g⟩ (fun r => (∀ c : Dev Cert.MemKvKernel.nD,
      r.2.mem ((c.tc : Thread Cert.MemKvKernel.nD Cert.MemKvKernel.τ).loc Cert.MemKvKernel.main_arg0) = m ((c.tc : Thread Cert.MemKvKernel.nD Cert.MemKvKernel.τ).loc Cert.MemKvKernel.main_arg0)
      ∧ r.2.mem ((c.tc : Thread Cert.MemKvKernel.nD Cert.MemKvKernel.τ).loc Cert.MemKvKernel.main_arg1) = m ((c.tc : Thread Cert.MemKvKernel.nD Cert.MemKvKernel.τ).loc Cert.MemKvKernel.main_arg1))
      ∧ r.2.sem = fun _ => 0)

def quiescent_MemKvKernelIdeal [hMemKvKernelIdeal : Cert.MemKvKernelIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg), Pre_MemKvKernelIdeal m →
    θ_run (Cert.MemKvKernelIdeal.defs (F := Ideal)) (onTc (τ := Cert.MemKvKernelIdeal.τ) (Cert.MemKvKernelIdeal.main (F := Ideal))) ⟨m, fun _ => 0, g⟩ (fun r => (∀ c : Dev Cert.MemKvKernelIdeal.nD,
      r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
      ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_MemXKernel [hMemXKernel : Cert.MemXKernel.Facts] : Prop :=
  ∀ (m : (ℓ : Loc Cert.MemXKernel.nD Cert.MemXKernel.τ Cert.MemXKernel.sig) → Buf (Elt Bits) ℓ) (g : Dev Cert.MemXKernel.nD → PrngReg), Pre_MemXKernel m →
    θ_run (Cert.MemXKernel.defs (F := Bits)) (onTc (τ := Cert.MemXKernel.τ) (Cert.MemXKernel.main (F := Bits))) ⟨m, fun _ => 0, g⟩ (fun r => (∀ c : Dev Cert.MemXKernel.nD,
      r.2.mem ((c.tc : Thread Cert.MemXKernel.nD Cert.MemXKernel.τ).loc Cert.MemXKernel.main_arg0) = m ((c.tc : Thread Cert.MemXKernel.nD Cert.MemXKernel.τ).loc Cert.MemXKernel.main_arg0)
      ∧ r.2.mem ((c.tc : Thread Cert.MemXKernel.nD Cert.MemXKernel.τ).loc Cert.MemXKernel.main_arg1) = m ((c.tc : Thread Cert.MemXKernel.nD Cert.MemXKernel.τ).loc Cert.MemXKernel.main_arg1)
      ∧ r.2.mem ((c.tc : Thread Cert.MemXKernel.nD Cert.MemXKernel.τ).loc Cert.MemXKernel.main_arg2) = m ((c.tc : Thread Cert.MemXKernel.nD Cert.MemXKernel.τ).loc Cert.MemXKernel.main_arg2))
      ∧ r.2.sem = fun _ => 0)

def quiescent_MemXKernelIdeal [hMemXKernelIdeal : Cert.MemXKernelIdeal.Facts] : Prop :=
  ∀ (m : (ℓ : Loc Cert.MemXKernelIdeal.nD Cert.MemXKernelIdeal.τ Cert.MemXKernelIdeal.sig) → Buf (Elt Ideal) ℓ) (g : Dev Cert.MemXKernelIdeal.nD → PrngReg), Pre_MemXKernelIdeal m →
    θ_run (Cert.MemXKernelIdeal.defs (F := Ideal)) (onTc (τ := Cert.MemXKernelIdeal.τ) (Cert.MemXKernelIdeal.main (F := Ideal))) ⟨m, fun _ => 0, g⟩ (fun r => (∀ c : Dev Cert.MemXKernelIdeal.nD,
      r.2.mem ((c.tc : Thread Cert.MemXKernelIdeal.nD Cert.MemXKernelIdeal.τ).loc Cert.MemXKernelIdeal.main_arg0) = m ((c.tc : Thread Cert.MemXKernelIdeal.nD Cert.MemXKernelIdeal.τ).loc Cert.MemXKernelIdeal.main_arg0)
      ∧ r.2.mem ((c.tc : Thread Cert.MemXKernelIdeal.nD Cert.MemXKernelIdeal.τ).loc Cert.MemXKernelIdeal.main_arg1) = m ((c.tc : Thread Cert.MemXKernelIdeal.nD Cert.MemXKernelIdeal.τ).loc Cert.MemXKernelIdeal.main_arg1)
      ∧ r.2.mem ((c.tc : Thread Cert.MemXKernelIdeal.nD Cert.MemXKernelIdeal.τ).loc Cert.MemXKernelIdeal.main_arg2) = m ((c.tc : Thread Cert.MemXKernelIdeal.nD Cert.MemXKernelIdeal.τ).loc Cert.MemXKernelIdeal.main_arg2))
      ∧ r.2.sem = fun _ => 0)

def quiescent_MemXReferenceIdeal [hMemXReferenceIdeal : Cert.MemXReferenceIdeal.Facts] : Prop :=
  ∀ (m : (ℓ : Loc Cert.MemXReferenceIdeal.nD Cert.MemXReferenceIdeal.τ Cert.MemXReferenceIdeal.sig) → Buf (Elt Ideal) ℓ) (g : Dev Cert.MemXReferenceIdeal.nD → PrngReg), Pre_MemXReferenceIdeal m →
    θ_run (Cert.MemXReferenceIdeal.defs (F := Ideal)) (onTc (τ := Cert.MemXReferenceIdeal.τ) (Cert.MemXReferenceIdeal.main (F := Ideal))) ⟨m, fun _ => 0, g⟩ (fun r => (∀ c : Dev Cert.MemXReferenceIdeal.nD,
      r.2.mem ((c.tc : Thread Cert.MemXReferenceIdeal.nD Cert.MemXReferenceIdeal.τ).loc Cert.MemXReferenceIdeal.main_arg0) = m ((c.tc : Thread Cert.MemXReferenceIdeal.nD Cert.MemXReferenceIdeal.τ).loc Cert.MemXReferenceIdeal.main_arg0)
      ∧ r.2.mem ((c.tc : Thread Cert.MemXReferenceIdeal.nD Cert.MemXReferenceIdeal.τ).loc Cert.MemXReferenceIdeal.main_arg1) = m ((c.tc : Thread Cert.MemXReferenceIdeal.nD Cert.MemXReferenceIdeal.τ).loc Cert.MemXReferenceIdeal.main_arg1)
      ∧ r.2.mem ((c.tc : Thread Cert.MemXReferenceIdeal.nD Cert.MemXReferenceIdeal.τ).loc Cert.MemXReferenceIdeal.main_arg2) = m ((c.tc : Thread Cert.MemXReferenceIdeal.nD Cert.MemXReferenceIdeal.τ).loc Cert.MemXReferenceIdeal.main_arg2))
      ∧ r.2.sem = fun _ => 0)

def quiescent_MemWKernel [hMemWKernel : Cert.MemWKernel.Facts] : Prop :=
  ∀ (m : (ℓ : Loc Cert.MemWKernel.nD Cert.MemWKernel.τ Cert.MemWKernel.sig) → Buf (Elt Bits) ℓ) (g : Dev Cert.MemWKernel.nD → PrngReg), Pre_MemWKernel m →
    θ_run (Cert.MemWKernel.defs (F := Bits)) (onTc (τ := Cert.MemWKernel.τ) (Cert.MemWKernel.main (F := Bits))) ⟨m, fun _ => 0, g⟩ (fun r => (∀ c : Dev Cert.MemWKernel.nD,
      r.2.mem ((c.tc : Thread Cert.MemWKernel.nD Cert.MemWKernel.τ).loc Cert.MemWKernel.main_arg0) = m ((c.tc : Thread Cert.MemWKernel.nD Cert.MemWKernel.τ).loc Cert.MemWKernel.main_arg0)
      ∧ r.2.mem ((c.tc : Thread Cert.MemWKernel.nD Cert.MemWKernel.τ).loc Cert.MemWKernel.main_arg1) = m ((c.tc : Thread Cert.MemWKernel.nD Cert.MemWKernel.τ).loc Cert.MemWKernel.main_arg1)
      ∧ r.2.mem ((c.tc : Thread Cert.MemWKernel.nD Cert.MemWKernel.τ).loc Cert.MemWKernel.main_arg2) = m ((c.tc : Thread Cert.MemWKernel.nD Cert.MemWKernel.τ).loc Cert.MemWKernel.main_arg2))
      ∧ r.2.sem = fun _ => 0)

def quiescent_MemWKernelIdeal [hMemWKernelIdeal : Cert.MemWKernelIdeal.Facts] : Prop :=
  ∀ (m : (ℓ : Loc Cert.MemWKernelIdeal.nD Cert.MemWKernelIdeal.τ Cert.MemWKernelIdeal.sig) → Buf (Elt Ideal) ℓ) (g : Dev Cert.MemWKernelIdeal.nD → PrngReg), Pre_MemWKernelIdeal m →
    θ_run (Cert.MemWKernelIdeal.defs (F := Ideal)) (onTc (τ := Cert.MemWKernelIdeal.τ) (Cert.MemWKernelIdeal.main (F := Ideal))) ⟨m, fun _ => 0, g⟩ (fun r => (∀ c : Dev Cert.MemWKernelIdeal.nD,
      r.2.mem ((c.tc : Thread Cert.MemWKernelIdeal.nD Cert.MemWKernelIdeal.τ).loc Cert.MemWKernelIdeal.main_arg0) = m ((c.tc : Thread Cert.MemWKernelIdeal.nD Cert.MemWKernelIdeal.τ).loc Cert.MemWKernelIdeal.main_arg0)
      ∧ r.2.mem ((c.tc : Thread Cert.MemWKernelIdeal.nD Cert.MemWKernelIdeal.τ).loc Cert.MemWKernelIdeal.main_arg1) = m ((c.tc : Thread Cert.MemWKernelIdeal.nD Cert.MemWKernelIdeal.τ).loc Cert.MemWKernelIdeal.main_arg1)
      ∧ r.2.mem ((c.tc : Thread Cert.MemWKernelIdeal.nD Cert.MemWKernelIdeal.τ).loc Cert.MemWKernelIdeal.main_arg2) = m ((c.tc : Thread Cert.MemWKernelIdeal.nD Cert.MemWKernelIdeal.τ).loc Cert.MemWKernelIdeal.main_arg2))
      ∧ r.2.sem = fun _ => 0)

def quiescent_MemWReferenceIdeal [hMemWReferenceIdeal : Cert.MemWReferenceIdeal.Facts] : Prop :=
  ∀ (m : (ℓ : Loc Cert.MemWReferenceIdeal.nD Cert.MemWReferenceIdeal.τ Cert.MemWReferenceIdeal.sig) → Buf (Elt Ideal) ℓ) (g : Dev Cert.MemWReferenceIdeal.nD → PrngReg), Pre_MemWReferenceIdeal m →
    θ_run (Cert.MemWReferenceIdeal.defs (F := Ideal)) (onTc (τ := Cert.MemWReferenceIdeal.τ) (Cert.MemWReferenceIdeal.main (F := Ideal))) ⟨m, fun _ => 0, g⟩ (fun r => (∀ c : Dev Cert.MemWReferenceIdeal.nD,
      r.2.mem ((c.tc : Thread Cert.MemWReferenceIdeal.nD Cert.MemWReferenceIdeal.τ).loc Cert.MemWReferenceIdeal.main_arg0) = m ((c.tc : Thread Cert.MemWReferenceIdeal.nD Cert.MemWReferenceIdeal.τ).loc Cert.MemWReferenceIdeal.main_arg0)
      ∧ r.2.mem ((c.tc : Thread Cert.MemWReferenceIdeal.nD Cert.MemWReferenceIdeal.τ).loc Cert.MemWReferenceIdeal.main_arg1) = m ((c.tc : Thread Cert.MemWReferenceIdeal.nD Cert.MemWReferenceIdeal.τ).loc Cert.MemWReferenceIdeal.main_arg1)
      ∧ r.2.mem ((c.tc : Thread Cert.MemWReferenceIdeal.nD Cert.MemWReferenceIdeal.τ).loc Cert.MemWReferenceIdeal.main_arg2) = m ((c.tc : Thread Cert.MemWReferenceIdeal.nD Cert.MemWReferenceIdeal.τ).loc Cert.MemWReferenceIdeal.main_arg2))
      ∧ r.2.sem = fun _ => 0)

def quiescent_XaFwdKernel [hXaFwdKernel : Cert.XaFwdKernel.Facts] : Prop :=
  ∀ (m : (ℓ : Loc Cert.XaFwdKernel.nD Cert.XaFwdKernel.τ Cert.XaFwdKernel.sig) → Buf (Elt Bits) ℓ) (g : Dev Cert.XaFwdKernel.nD → PrngReg), Pre_XaFwdKernel m →
    θ_run (Cert.XaFwdKernel.defs (F := Bits)) (onTc (τ := Cert.XaFwdKernel.τ) (Cert.XaFwdKernel.main (F := Bits))) ⟨m, fun _ => 0, g⟩ (fun r => (∀ c : Dev Cert.XaFwdKernel.nD,
      r.2.mem ((c.tc : Thread Cert.XaFwdKernel.nD Cert.XaFwdKernel.τ).loc Cert.XaFwdKernel.main_arg0) = m ((c.tc : Thread Cert.XaFwdKernel.nD Cert.XaFwdKernel.τ).loc Cert.XaFwdKernel.main_arg0)
      ∧ r.2.mem ((c.tc : Thread Cert.XaFwdKernel.nD Cert.XaFwdKernel.τ).loc Cert.XaFwdKernel.main_arg1) = m ((c.tc : Thread Cert.XaFwdKernel.nD Cert.XaFwdKernel.τ).loc Cert.XaFwdKernel.main_arg1))
      ∧ r.2.sem = fun _ => 0)

def quiescent_XaFwdKernelIdeal [hXaFwdKernelIdeal : Cert.XaFwdKernelIdeal.Facts] : Prop :=
  ∀ (m : (ℓ : Loc Cert.XaFwdKernelIdeal.nD Cert.XaFwdKernelIdeal.τ Cert.XaFwdKernelIdeal.sig) → Buf (Elt Ideal) ℓ) (g : Dev Cert.XaFwdKernelIdeal.nD → PrngReg), Pre_XaFwdKernelIdeal m →
    θ_run (Cert.XaFwdKernelIdeal.defs (F := Ideal)) (onTc (τ := Cert.XaFwdKernelIdeal.τ) (Cert.XaFwdKernelIdeal.main (F := Ideal))) ⟨m, fun _ => 0, g⟩ (fun r => (∀ c : Dev Cert.XaFwdKernelIdeal.nD,
      r.2.mem ((c.tc : Thread Cert.XaFwdKernelIdeal.nD Cert.XaFwdKernelIdeal.τ).loc Cert.XaFwdKernelIdeal.main_arg0) = m ((c.tc : Thread Cert.XaFwdKernelIdeal.nD Cert.XaFwdKernelIdeal.τ).loc Cert.XaFwdKernelIdeal.main_arg0)
      ∧ r.2.mem ((c.tc : Thread Cert.XaFwdKernelIdeal.nD Cert.XaFwdKernelIdeal.τ).loc Cert.XaFwdKernelIdeal.main_arg1) = m ((c.tc : Thread Cert.XaFwdKernelIdeal.nD Cert.XaFwdKernelIdeal.τ).loc Cert.XaFwdKernelIdeal.main_arg1))
      ∧ r.2.sem = fun _ => 0)

def quiescent_XaFwdKernelIdeal_pre_xa_fwd_finite [hXaFwdKernelIdeal : Cert.XaFwdKernelIdeal.Facts] [hPre_xa_fwd_finite : Cert.Pre_xa_fwd_finite.Facts] : Prop :=
  ∀ (m : (ℓ : Loc Cert.XaFwdKernelIdeal.nD Cert.XaFwdKernelIdeal.τ Cert.XaFwdKernelIdeal.sig) → Buf (Elt Ideal) ℓ) (g : Dev Cert.XaFwdKernelIdeal.nD → PrngReg), Pre_XaFwdKernelIdeal_xa_fwd_finite m →
    θ_run (Cert.XaFwdKernelIdeal.defs (F := Ideal)) (onTc (τ := Cert.XaFwdKernelIdeal.τ) (Cert.XaFwdKernelIdeal.main (F := Ideal))) ⟨m, fun _ => 0, g⟩ (fun r => (∀ c : Dev Cert.XaFwdKernelIdeal.nD,
      r.2.mem ((c.tc : Thread Cert.XaFwdKernelIdeal.nD Cert.XaFwdKernelIdeal.τ).loc Cert.XaFwdKernelIdeal.main_arg0) = m ((c.tc : Thread Cert.XaFwdKernelIdeal.nD Cert.XaFwdKernelIdeal.τ).loc Cert.XaFwdKernelIdeal.main_arg0)
      ∧ r.2.mem ((c.tc : Thread Cert.XaFwdKernelIdeal.nD Cert.XaFwdKernelIdeal.τ).loc Cert.XaFwdKernelIdeal.main_arg1) = m ((c.tc : Thread Cert.XaFwdKernelIdeal.nD Cert.XaFwdKernelIdeal.τ).loc Cert.XaFwdKernelIdeal.main_arg1))
      ∧ r.2.sem = fun _ => 0)

def quiescent_XaFwdReferenceIdeal [hXaFwdReferenceIdeal : Cert.XaFwdReferenceIdeal.Facts] : Prop :=
  ∀ (m : (ℓ : Loc Cert.XaFwdReferenceIdeal.nD Cert.XaFwdReferenceIdeal.τ Cert.XaFwdReferenceIdeal.sig) → Buf (Elt Ideal) ℓ) (g : Dev Cert.XaFwdReferenceIdeal.nD → PrngReg), Pre_XaFwdReferenceIdeal m →
    θ_run (Cert.XaFwdReferenceIdeal.defs (F := Ideal)) (onTc (τ := Cert.XaFwdReferenceIdeal.τ) (Cert.XaFwdReferenceIdeal.main (F := Ideal))) ⟨m, fun _ => 0, g⟩ (fun r => (∀ c : Dev Cert.XaFwdReferenceIdeal.nD,
      r.2.mem ((c.tc : Thread Cert.XaFwdReferenceIdeal.nD Cert.XaFwdReferenceIdeal.τ).loc Cert.XaFwdReferenceIdeal.main_arg0) = m ((c.tc : Thread Cert.XaFwdReferenceIdeal.nD Cert.XaFwdReferenceIdeal.τ).loc Cert.XaFwdReferenceIdeal.main_arg0)
      ∧ r.2.mem ((c.tc : Thread Cert.XaFwdReferenceIdeal.nD Cert.XaFwdReferenceIdeal.τ).loc Cert.XaFwdReferenceIdeal.main_arg1) = m ((c.tc : Thread Cert.XaFwdReferenceIdeal.nD Cert.XaFwdReferenceIdeal.τ).loc Cert.XaFwdReferenceIdeal.main_arg1))
      ∧ r.2.sem = fun _ => 0)

def quiescent_XaFwdReferenceIdeal_pre_xa_fwd_finite [hXaFwdReferenceIdeal : Cert.XaFwdReferenceIdeal.Facts] [hPre_xa_fwd_finite : Cert.Pre_xa_fwd_finite.Facts] : Prop :=
  ∀ (m : (ℓ : Loc Cert.XaFwdReferenceIdeal.nD Cert.XaFwdReferenceIdeal.τ Cert.XaFwdReferenceIdeal.sig) → Buf (Elt Ideal) ℓ) (g : Dev Cert.XaFwdReferenceIdeal.nD → PrngReg), Pre_XaFwdReferenceIdeal_xa_fwd_finite m →
    θ_run (Cert.XaFwdReferenceIdeal.defs (F := Ideal)) (onTc (τ := Cert.XaFwdReferenceIdeal.τ) (Cert.XaFwdReferenceIdeal.main (F := Ideal))) ⟨m, fun _ => 0, g⟩ (fun r => (∀ c : Dev Cert.XaFwdReferenceIdeal.nD,
      r.2.mem ((c.tc : Thread Cert.XaFwdReferenceIdeal.nD Cert.XaFwdReferenceIdeal.τ).loc Cert.XaFwdReferenceIdeal.main_arg0) = m ((c.tc : Thread Cert.XaFwdReferenceIdeal.nD Cert.XaFwdReferenceIdeal.τ).loc Cert.XaFwdReferenceIdeal.main_arg0)
      ∧ r.2.mem ((c.tc : Thread Cert.XaFwdReferenceIdeal.nD Cert.XaFwdReferenceIdeal.τ).loc Cert.XaFwdReferenceIdeal.main_arg1) = m ((c.tc : Thread Cert.XaFwdReferenceIdeal.nD Cert.XaFwdReferenceIdeal.τ).loc Cert.XaFwdReferenceIdeal.main_arg1))
      ∧ r.2.sem = fun _ => 0)

def quiescent_SwaFwdKernel [hSwaFwdKernel : Cert.SwaFwdKernel.Facts] : Prop :=
  ∀ (m : (ℓ : Loc Cert.SwaFwdKernel.nD Cert.SwaFwdKernel.τ Cert.SwaFwdKernel.sig) → Buf (Elt Bits) ℓ) (g : Dev Cert.SwaFwdKernel.nD → PrngReg), Pre_SwaFwdKernel m →
    θ_run (Cert.SwaFwdKernel.defs (F := Bits)) (onTc (τ := Cert.SwaFwdKernel.τ) (Cert.SwaFwdKernel.main (F := Bits))) ⟨m, fun _ => 0, g⟩ (fun r => (∀ c : Dev Cert.SwaFwdKernel.nD,
      r.2.mem ((c.tc : Thread Cert.SwaFwdKernel.nD Cert.SwaFwdKernel.τ).loc Cert.SwaFwdKernel.main_arg0) = m ((c.tc : Thread Cert.SwaFwdKernel.nD Cert.SwaFwdKernel.τ).loc Cert.SwaFwdKernel.main_arg0)
      ∧ r.2.mem ((c.tc : Thread Cert.SwaFwdKernel.nD Cert.SwaFwdKernel.τ).loc Cert.SwaFwdKernel.main_arg1) = m ((c.tc : Thread Cert.SwaFwdKernel.nD Cert.SwaFwdKernel.τ).loc Cert.SwaFwdKernel.main_arg1)
      ∧ r.2.mem ((c.tc : Thread Cert.SwaFwdKernel.nD Cert.SwaFwdKernel.τ).loc Cert.SwaFwdKernel.main_arg2) = m ((c.tc : Thread Cert.SwaFwdKernel.nD Cert.SwaFwdKernel.τ).loc Cert.SwaFwdKernel.main_arg2))
      ∧ r.2.sem = fun _ => 0)

def quiescent_SwaFwdKernelIdeal [hSwaFwdKernelIdeal : Cert.SwaFwdKernelIdeal.Facts] : Prop :=
  ∀ (m : (ℓ : Loc Cert.SwaFwdKernelIdeal.nD Cert.SwaFwdKernelIdeal.τ Cert.SwaFwdKernelIdeal.sig) → Buf (Elt Ideal) ℓ) (g : Dev Cert.SwaFwdKernelIdeal.nD → PrngReg), Pre_SwaFwdKernelIdeal m →
    θ_run (Cert.SwaFwdKernelIdeal.defs (F := Ideal)) (onTc (τ := Cert.SwaFwdKernelIdeal.τ) (Cert.SwaFwdKernelIdeal.main (F := Ideal))) ⟨m, fun _ => 0, g⟩ (fun r => (∀ c : Dev Cert.SwaFwdKernelIdeal.nD,
      r.2.mem ((c.tc : Thread Cert.SwaFwdKernelIdeal.nD Cert.SwaFwdKernelIdeal.τ).loc Cert.SwaFwdKernelIdeal.main_arg0) = m ((c.tc : Thread Cert.SwaFwdKernelIdeal.nD Cert.SwaFwdKernelIdeal.τ).loc Cert.SwaFwdKernelIdeal.main_arg0)
      ∧ r.2.mem ((c.tc : Thread Cert.SwaFwdKernelIdeal.nD Cert.SwaFwdKernelIdeal.τ).loc Cert.SwaFwdKernelIdeal.main_arg1) = m ((c.tc : Thread Cert.SwaFwdKernelIdeal.nD Cert.SwaFwdKernelIdeal.τ).loc Cert.SwaFwdKernelIdeal.main_arg1)
      ∧ r.2.mem ((c.tc : Thread Cert.SwaFwdKernelIdeal.nD Cert.SwaFwdKernelIdeal.τ).loc Cert.SwaFwdKernelIdeal.main_arg2) = m ((c.tc : Thread Cert.SwaFwdKernelIdeal.nD Cert.SwaFwdKernelIdeal.τ).loc Cert.SwaFwdKernelIdeal.main_arg2))
      ∧ r.2.sem = fun _ => 0)

def quiescent_SwaFwdKernelIdeal_pre_swa_finite [hSwaFwdKernelIdeal : Cert.SwaFwdKernelIdeal.Facts] [hPre_swa_finite : Cert.Pre_swa_finite.Facts] : Prop :=
  ∀ (m : (ℓ : Loc Cert.SwaFwdKernelIdeal.nD Cert.SwaFwdKernelIdeal.τ Cert.SwaFwdKernelIdeal.sig) → Buf (Elt Ideal) ℓ) (g : Dev Cert.SwaFwdKernelIdeal.nD → PrngReg), Pre_SwaFwdKernelIdeal_swa_finite m →
    θ_run (Cert.SwaFwdKernelIdeal.defs (F := Ideal)) (onTc (τ := Cert.SwaFwdKernelIdeal.τ) (Cert.SwaFwdKernelIdeal.main (F := Ideal))) ⟨m, fun _ => 0, g⟩ (fun r => (∀ c : Dev Cert.SwaFwdKernelIdeal.nD,
      r.2.mem ((c.tc : Thread Cert.SwaFwdKernelIdeal.nD Cert.SwaFwdKernelIdeal.τ).loc Cert.SwaFwdKernelIdeal.main_arg0) = m ((c.tc : Thread Cert.SwaFwdKernelIdeal.nD Cert.SwaFwdKernelIdeal.τ).loc Cert.SwaFwdKernelIdeal.main_arg0)
      ∧ r.2.mem ((c.tc : Thread Cert.SwaFwdKernelIdeal.nD Cert.SwaFwdKernelIdeal.τ).loc Cert.SwaFwdKernelIdeal.main_arg1) = m ((c.tc : Thread Cert.SwaFwdKernelIdeal.nD Cert.SwaFwdKernelIdeal.τ).loc Cert.SwaFwdKernelIdeal.main_arg1)
      ∧ r.2.mem ((c.tc : Thread Cert.SwaFwdKernelIdeal.nD Cert.SwaFwdKernelIdeal.τ).loc Cert.SwaFwdKernelIdeal.main_arg2) = m ((c.tc : Thread Cert.SwaFwdKernelIdeal.nD Cert.SwaFwdKernelIdeal.τ).loc Cert.SwaFwdKernelIdeal.main_arg2))
      ∧ r.2.sem = fun _ => 0)

def quiescent_SwaFwdReferenceIdeal [hSwaFwdReferenceIdeal : Cert.SwaFwdReferenceIdeal.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2))
      ∧ r.2.sem = fun _ => 0)

def quiescent_SwaFwdReferenceIdeal_pre_swa_finite [hSwaFwdReferenceIdeal : Cert.SwaFwdReferenceIdeal.Facts] [hPre_swa_finite : Cert.Pre_swa_finite.Facts] : Prop :=
  ∀ (m : (ℓ : Loc Cert.SwaFwdReferenceIdeal.nD Cert.SwaFwdReferenceIdeal.τ Cert.SwaFwdReferenceIdeal.sig) → Buf (Elt Ideal) ℓ) (g : Dev Cert.SwaFwdReferenceIdeal.nD → PrngReg), Pre_SwaFwdReferenceIdeal_swa_finite m →
    θ_run (Cert.SwaFwdReferenceIdeal.defs (F := Ideal)) (onTc (τ := Cert.SwaFwdReferenceIdeal.τ) (Cert.SwaFwdReferenceIdeal.main (F := Ideal))) ⟨m, fun _ => 0, g⟩ (fun r => (∀ c : Dev Cert.SwaFwdReferenceIdeal.nD,
      r.2.mem ((c.tc : Thread Cert.SwaFwdReferenceIdeal.nD Cert.SwaFwdReferenceIdeal.τ).loc Cert.SwaFwdReferenceIdeal.main_arg0) = m ((c.tc : Thread Cert.SwaFwdReferenceIdeal.nD Cert.SwaFwdReferenceIdeal.τ).loc Cert.SwaFwdReferenceIdeal.main_arg0)
      ∧ r.2.mem ((c.tc : Thread Cert.SwaFwdReferenceIdeal.nD Cert.SwaFwdReferenceIdeal.τ).loc Cert.SwaFwdReferenceIdeal.main_arg1) = m ((c.tc : Thread Cert.SwaFwdReferenceIdeal.nD Cert.SwaFwdReferenceIdeal.τ).loc Cert.SwaFwdReferenceIdeal.main_arg1)
      ∧ r.2.mem ((c.tc : Thread Cert.SwaFwdReferenceIdeal.nD Cert.SwaFwdReferenceIdeal.τ).loc Cert.SwaFwdReferenceIdeal.main_arg2) = m ((c.tc : Thread Cert.SwaFwdReferenceIdeal.nD Cert.SwaFwdReferenceIdeal.τ).loc Cert.SwaFwdReferenceIdeal.main_arg2))
      ∧ r.2.sem = fun _ => 0)

def preserves_Kernel_KernelIdeal : Prop :=
  True

def algebraic_KernelIdeal_ReferenceIdeal_pre_xa_finite [hKernelIdeal : Cert.KernelIdeal.Facts] [hReferenceIdeal : Cert.ReferenceIdeal.Facts] [hPre_xa_finite : Cert.Pre_xa_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_xa_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MlpXKernel_MlpXKernelIdeal : Prop :=
  True

def algebraic_MlpXKernelIdeal_MlpXReferenceIdeal [hMlpXKernelIdeal : Cert.MlpXKernelIdeal.Facts] [hMlpXReferenceIdeal : Cert.MlpXReferenceIdeal.Facts] : Prop :=
  ∀ (m : (ℓ : Loc Cert.MlpXKernelIdeal.nD Cert.MlpXKernelIdeal.τ Cert.MlpXKernelIdeal.sig) → Buf (Elt Ideal) ℓ) (g : Dev Cert.MlpXKernelIdeal.nD → PrngReg)
    (m' : (ℓ : Loc Cert.MlpXReferenceIdeal.nD Cert.MlpXReferenceIdeal.τ Cert.MlpXReferenceIdeal.sig) → Buf (Elt Ideal) ℓ) (g' : Dev Cert.MlpXReferenceIdeal.nD → PrngReg), Pre_MlpXKernelIdeal m →
    (∀ c : Dev Cert.MlpXKernelIdeal.nD,
      m' ((c.tc : Thread Cert.MlpXReferenceIdeal.nD Cert.MlpXReferenceIdeal.τ).loc Cert.MlpXReferenceIdeal.main_arg0) = m ((c.tc : Thread Cert.MlpXKernelIdeal.nD Cert.MlpXKernelIdeal.τ).loc Cert.MlpXKernelIdeal.main_arg0)
      ∧ m' ((c.tc : Thread Cert.MlpXReferenceIdeal.nD Cert.MlpXReferenceIdeal.τ).loc Cert.MlpXReferenceIdeal.main_arg1) = m ((c.tc : Thread Cert.MlpXKernelIdeal.nD Cert.MlpXKernelIdeal.τ).loc Cert.MlpXKernelIdeal.main_arg1)
      ∧ m' ((c.tc : Thread Cert.MlpXReferenceIdeal.nD Cert.MlpXReferenceIdeal.τ).loc Cert.MlpXReferenceIdeal.main_arg2) = m ((c.tc : Thread Cert.MlpXKernelIdeal.nD Cert.MlpXKernelIdeal.τ).loc Cert.MlpXKernelIdeal.main_arg2)
      ∧ m' ((c.tc : Thread Cert.MlpXReferenceIdeal.nD Cert.MlpXReferenceIdeal.τ).loc Cert.MlpXReferenceIdeal.main_arg3) = m ((c.tc : Thread Cert.MlpXKernelIdeal.nD Cert.MlpXKernelIdeal.τ).loc Cert.MlpXKernelIdeal.main_arg3)) →
    ∃ (v0 : (c : Dev Cert.MlpXKernelIdeal.nD) → Buf (Elt Ideal) ((c.tc : Thread Cert.MlpXKernelIdeal.nD Cert.MlpXKernelIdeal.τ).loc Cert.MlpXKernelIdeal.main_v27)),
      θ_run (Cert.MlpXKernelIdeal.defs (F := Ideal)) (onTc (τ := Cert.MlpXKernelIdeal.τ) (Cert.MlpXKernelIdeal.main (F := Ideal))) ⟨m, fun _ => 0, g⟩ (fun r => ∀ c : Dev Cert.MlpXKernelIdeal.nD,
          r.2.mem ((c.tc : Thread Cert.MlpXKernelIdeal.nD Cert.MlpXKernelIdeal.τ).loc Cert.MlpXKernelIdeal.main_v27) = v0 c
          ∧ r.2.mem ((c.tc : Thread Cert.MlpXKernelIdeal.nD Cert.MlpXKernelIdeal.τ).loc Cert.MlpXKernelIdeal.main_arg0) = m ((c.tc : Thread Cert.MlpXKernelIdeal.nD Cert.MlpXKernelIdeal.τ).loc Cert.MlpXKernelIdeal.main_arg0)
          ∧ r.2.mem ((c.tc : Thread Cert.MlpXKernelIdeal.nD Cert.MlpXKernelIdeal.τ).loc Cert.MlpXKernelIdeal.main_arg1) = m ((c.tc : Thread Cert.MlpXKernelIdeal.nD Cert.MlpXKernelIdeal.τ).loc Cert.MlpXKernelIdeal.main_arg1)
          ∧ r.2.mem ((c.tc : Thread Cert.MlpXKernelIdeal.nD Cert.MlpXKernelIdeal.τ).loc Cert.MlpXKernelIdeal.main_arg2) = m ((c.tc : Thread Cert.MlpXKernelIdeal.nD Cert.MlpXKernelIdeal.τ).loc Cert.MlpXKernelIdeal.main_arg2)
          ∧ r.2.mem ((c.tc : Thread Cert.MlpXKernelIdeal.nD Cert.MlpXKernelIdeal.τ).loc Cert.MlpXKernelIdeal.main_arg3) = m ((c.tc : Thread Cert.MlpXKernelIdeal.nD Cert.MlpXKernelIdeal.τ).loc Cert.MlpXKernelIdeal.main_arg3))
      ∧ θ_run (Cert.MlpXReferenceIdeal.defs (F := Ideal)) (onTc (τ := Cert.MlpXReferenceIdeal.τ) (Cert.MlpXReferenceIdeal.main (F := Ideal))) ⟨m', fun _ => 0, g'⟩ (fun r => ∀ c : Dev Cert.MlpXReferenceIdeal.nD,
          r.2.mem ((c.tc : Thread Cert.MlpXReferenceIdeal.nD Cert.MlpXReferenceIdeal.τ).loc Cert.MlpXReferenceIdeal.main_v30) = v0 c
          ∧ r.2.mem ((c.tc : Thread Cert.MlpXReferenceIdeal.nD Cert.MlpXReferenceIdeal.τ).loc Cert.MlpXReferenceIdeal.main_arg0) = m' ((c.tc : Thread Cert.MlpXReferenceIdeal.nD Cert.MlpXReferenceIdeal.τ).loc Cert.MlpXReferenceIdeal.main_arg0)
          ∧ r.2.mem ((c.tc : Thread Cert.MlpXReferenceIdeal.nD Cert.MlpXReferenceIdeal.τ).loc Cert.MlpXReferenceIdeal.main_arg1) = m' ((c.tc : Thread Cert.MlpXReferenceIdeal.nD Cert.MlpXReferenceIdeal.τ).loc Cert.MlpXReferenceIdeal.main_arg1)
          ∧ r.2.mem ((c.tc : Thread Cert.MlpXReferenceIdeal.nD Cert.MlpXReferenceIdeal.τ).loc Cert.MlpXReferenceIdeal.main_arg2) = m' ((c.tc : Thread Cert.MlpXReferenceIdeal.nD Cert.MlpXReferenceIdeal.τ).loc Cert.MlpXReferenceIdeal.main_arg2)
          ∧ r.2.mem ((c.tc : Thread Cert.MlpXReferenceIdeal.nD Cert.MlpXReferenceIdeal.τ).loc Cert.MlpXReferenceIdeal.main_arg3) = m' ((c.tc : Thread Cert.MlpXReferenceIdeal.nD Cert.MlpXReferenceIdeal.τ).loc Cert.MlpXReferenceIdeal.main_arg3))

def preserves_MlpWinKernel_MlpWinKernelIdeal : Prop :=
  True

def algebraic_MlpWinKernelIdeal_MlpWinReferenceIdeal [hMlpWinKernelIdeal : Cert.MlpWinKernelIdeal.Facts] [hMlpWinReferenceIdeal : Cert.MlpWinReferenceIdeal.Facts] : Prop :=
  ∀ (m : (ℓ : Loc Cert.MlpWinKernelIdeal.nD Cert.MlpWinKernelIdeal.τ Cert.MlpWinKernelIdeal.sig) → Buf (Elt Ideal) ℓ) (g : Dev Cert.MlpWinKernelIdeal.nD → PrngReg)
    (m' : (ℓ : Loc Cert.MlpWinReferenceIdeal.nD Cert.MlpWinReferenceIdeal.τ Cert.MlpWinReferenceIdeal.sig) → Buf (Elt Ideal) ℓ) (g' : Dev Cert.MlpWinReferenceIdeal.nD → PrngReg), Pre_MlpWinKernelIdeal m →
    (∀ c : Dev Cert.MlpWinKernelIdeal.nD,
      m' ((c.tc : Thread Cert.MlpWinReferenceIdeal.nD Cert.MlpWinReferenceIdeal.τ).loc Cert.MlpWinReferenceIdeal.main_arg0) = m ((c.tc : Thread Cert.MlpWinKernelIdeal.nD Cert.MlpWinKernelIdeal.τ).loc Cert.MlpWinKernelIdeal.main_arg0)
      ∧ m' ((c.tc : Thread Cert.MlpWinReferenceIdeal.nD Cert.MlpWinReferenceIdeal.τ).loc Cert.MlpWinReferenceIdeal.main_arg1) = m ((c.tc : Thread Cert.MlpWinKernelIdeal.nD Cert.MlpWinKernelIdeal.τ).loc Cert.MlpWinKernelIdeal.main_arg1)
      ∧ m' ((c.tc : Thread Cert.MlpWinReferenceIdeal.nD Cert.MlpWinReferenceIdeal.τ).loc Cert.MlpWinReferenceIdeal.main_arg2) = m ((c.tc : Thread Cert.MlpWinKernelIdeal.nD Cert.MlpWinKernelIdeal.τ).loc Cert.MlpWinKernelIdeal.main_arg2)
      ∧ m' ((c.tc : Thread Cert.MlpWinReferenceIdeal.nD Cert.MlpWinReferenceIdeal.τ).loc Cert.MlpWinReferenceIdeal.main_arg3) = m ((c.tc : Thread Cert.MlpWinKernelIdeal.nD Cert.MlpWinKernelIdeal.τ).loc Cert.MlpWinKernelIdeal.main_arg3)) →
    ∃ (v0 : (c : Dev Cert.MlpWinKernelIdeal.nD) → Buf (Elt Ideal) ((c.tc : Thread Cert.MlpWinKernelIdeal.nD Cert.MlpWinKernelIdeal.τ).loc Cert.MlpWinKernelIdeal.main_v27)),
      θ_run (Cert.MlpWinKernelIdeal.defs (F := Ideal)) (onTc (τ := Cert.MlpWinKernelIdeal.τ) (Cert.MlpWinKernelIdeal.main (F := Ideal))) ⟨m, fun _ => 0, g⟩ (fun r => ∀ c : Dev Cert.MlpWinKernelIdeal.nD,
          r.2.mem ((c.tc : Thread Cert.MlpWinKernelIdeal.nD Cert.MlpWinKernelIdeal.τ).loc Cert.MlpWinKernelIdeal.main_v27) = v0 c
          ∧ r.2.mem ((c.tc : Thread Cert.MlpWinKernelIdeal.nD Cert.MlpWinKernelIdeal.τ).loc Cert.MlpWinKernelIdeal.main_arg0) = m ((c.tc : Thread Cert.MlpWinKernelIdeal.nD Cert.MlpWinKernelIdeal.τ).loc Cert.MlpWinKernelIdeal.main_arg0)
          ∧ r.2.mem ((c.tc : Thread Cert.MlpWinKernelIdeal.nD Cert.MlpWinKernelIdeal.τ).loc Cert.MlpWinKernelIdeal.main_arg1) = m ((c.tc : Thread Cert.MlpWinKernelIdeal.nD Cert.MlpWinKernelIdeal.τ).loc Cert.MlpWinKernelIdeal.main_arg1)
          ∧ r.2.mem ((c.tc : Thread Cert.MlpWinKernelIdeal.nD Cert.MlpWinKernelIdeal.τ).loc Cert.MlpWinKernelIdeal.main_arg2) = m ((c.tc : Thread Cert.MlpWinKernelIdeal.nD Cert.MlpWinKernelIdeal.τ).loc Cert.MlpWinKernelIdeal.main_arg2)
          ∧ r.2.mem ((c.tc : Thread Cert.MlpWinKernelIdeal.nD Cert.MlpWinKernelIdeal.τ).loc Cert.MlpWinKernelIdeal.main_arg3) = m ((c.tc : Thread Cert.MlpWinKernelIdeal.nD Cert.MlpWinKernelIdeal.τ).loc Cert.MlpWinKernelIdeal.main_arg3))
      ∧ θ_run (Cert.MlpWinReferenceIdeal.defs (F := Ideal)) (onTc (τ := Cert.MlpWinReferenceIdeal.τ) (Cert.MlpWinReferenceIdeal.main (F := Ideal))) ⟨m', fun _ => 0, g'⟩ (fun r => ∀ c : Dev Cert.MlpWinReferenceIdeal.nD,
          r.2.mem ((c.tc : Thread Cert.MlpWinReferenceIdeal.nD Cert.MlpWinReferenceIdeal.τ).loc Cert.MlpWinReferenceIdeal.main_v46) = v0 c
          ∧ r.2.mem ((c.tc : Thread Cert.MlpWinReferenceIdeal.nD Cert.MlpWinReferenceIdeal.τ).loc Cert.MlpWinReferenceIdeal.main_arg0) = m' ((c.tc : Thread Cert.MlpWinReferenceIdeal.nD Cert.MlpWinReferenceIdeal.τ).loc Cert.MlpWinReferenceIdeal.main_arg0)
          ∧ r.2.mem ((c.tc : Thread Cert.MlpWinReferenceIdeal.nD Cert.MlpWinReferenceIdeal.τ).loc Cert.MlpWinReferenceIdeal.main_arg1) = m' ((c.tc : Thread Cert.MlpWinReferenceIdeal.nD Cert.MlpWinReferenceIdeal.τ).loc Cert.MlpWinReferenceIdeal.main_arg1)
          ∧ r.2.mem ((c.tc : Thread Cert.MlpWinReferenceIdeal.nD Cert.MlpWinReferenceIdeal.τ).loc Cert.MlpWinReferenceIdeal.main_arg2) = m' ((c.tc : Thread Cert.MlpWinReferenceIdeal.nD Cert.MlpWinReferenceIdeal.τ).loc Cert.MlpWinReferenceIdeal.main_arg2)
          ∧ r.2.mem ((c.tc : Thread Cert.MlpWinReferenceIdeal.nD Cert.MlpWinReferenceIdeal.τ).loc Cert.MlpWinReferenceIdeal.main_arg3) = m' ((c.tc : Thread Cert.MlpWinReferenceIdeal.nD Cert.MlpWinReferenceIdeal.τ).loc Cert.MlpWinReferenceIdeal.main_arg3))

def preserves_MlpWoutKernel_MlpWoutKernelIdeal : Prop :=
  True

def algebraic_MlpWoutKernelIdeal_MlpWoutReferenceIdeal [hMlpWoutKernelIdeal : Cert.MlpWoutKernelIdeal.Facts] [hMlpWoutReferenceIdeal : Cert.MlpWoutReferenceIdeal.Facts] : Prop :=
  ∀ (m : (ℓ : Loc Cert.MlpWoutKernelIdeal.nD Cert.MlpWoutKernelIdeal.τ Cert.MlpWoutKernelIdeal.sig) → Buf (Elt Ideal) ℓ) (g : Dev Cert.MlpWoutKernelIdeal.nD → PrngReg)
    (m' : (ℓ : Loc Cert.MlpWoutReferenceIdeal.nD Cert.MlpWoutReferenceIdeal.τ Cert.MlpWoutReferenceIdeal.sig) → Buf (Elt Ideal) ℓ) (g' : Dev Cert.MlpWoutReferenceIdeal.nD → PrngReg), Pre_MlpWoutKernelIdeal m →
    (∀ c : Dev Cert.MlpWoutKernelIdeal.nD,
      m' ((c.tc : Thread Cert.MlpWoutReferenceIdeal.nD Cert.MlpWoutReferenceIdeal.τ).loc Cert.MlpWoutReferenceIdeal.main_arg0) = m ((c.tc : Thread Cert.MlpWoutKernelIdeal.nD Cert.MlpWoutKernelIdeal.τ).loc Cert.MlpWoutKernelIdeal.main_arg0)
      ∧ m' ((c.tc : Thread Cert.MlpWoutReferenceIdeal.nD Cert.MlpWoutReferenceIdeal.τ).loc Cert.MlpWoutReferenceIdeal.main_arg1) = m ((c.tc : Thread Cert.MlpWoutKernelIdeal.nD Cert.MlpWoutKernelIdeal.τ).loc Cert.MlpWoutKernelIdeal.main_arg1)
      ∧ m' ((c.tc : Thread Cert.MlpWoutReferenceIdeal.nD Cert.MlpWoutReferenceIdeal.τ).loc Cert.MlpWoutReferenceIdeal.main_arg2) = m ((c.tc : Thread Cert.MlpWoutKernelIdeal.nD Cert.MlpWoutKernelIdeal.τ).loc Cert.MlpWoutKernelIdeal.main_arg2)
      ∧ m' ((c.tc : Thread Cert.MlpWoutReferenceIdeal.nD Cert.MlpWoutReferenceIdeal.τ).loc Cert.MlpWoutReferenceIdeal.main_arg3) = m ((c.tc : Thread Cert.MlpWoutKernelIdeal.nD Cert.MlpWoutKernelIdeal.τ).loc Cert.MlpWoutKernelIdeal.main_arg3)) →
    ∃ (v0 : (c : Dev Cert.MlpWoutKernelIdeal.nD) → Buf (Elt Ideal) ((c.tc : Thread Cert.MlpWoutKernelIdeal.nD Cert.MlpWoutKernelIdeal.τ).loc Cert.MlpWoutKernelIdeal.main_v15)),
      θ_run (Cert.MlpWoutKernelIdeal.defs (F := Ideal)) (onTc (τ := Cert.MlpWoutKernelIdeal.τ) (Cert.MlpWoutKernelIdeal.main (F := Ideal))) ⟨m, fun _ => 0, g⟩ (fun r => ∀ c : Dev Cert.MlpWoutKernelIdeal.nD,
          r.2.mem ((c.tc : Thread Cert.MlpWoutKernelIdeal.nD Cert.MlpWoutKernelIdeal.τ).loc Cert.MlpWoutKernelIdeal.main_v15) = v0 c
          ∧ r.2.mem ((c.tc : Thread Cert.MlpWoutKernelIdeal.nD Cert.MlpWoutKernelIdeal.τ).loc Cert.MlpWoutKernelIdeal.main_arg0) = m ((c.tc : Thread Cert.MlpWoutKernelIdeal.nD Cert.MlpWoutKernelIdeal.τ).loc Cert.MlpWoutKernelIdeal.main_arg0)
          ∧ r.2.mem ((c.tc : Thread Cert.MlpWoutKernelIdeal.nD Cert.MlpWoutKernelIdeal.τ).loc Cert.MlpWoutKernelIdeal.main_arg1) = m ((c.tc : Thread Cert.MlpWoutKernelIdeal.nD Cert.MlpWoutKernelIdeal.τ).loc Cert.MlpWoutKernelIdeal.main_arg1)
          ∧ r.2.mem ((c.tc : Thread Cert.MlpWoutKernelIdeal.nD Cert.MlpWoutKernelIdeal.τ).loc Cert.MlpWoutKernelIdeal.main_arg2) = m ((c.tc : Thread Cert.MlpWoutKernelIdeal.nD Cert.MlpWoutKernelIdeal.τ).loc Cert.MlpWoutKernelIdeal.main_arg2)
          ∧ r.2.mem ((c.tc : Thread Cert.MlpWoutKernelIdeal.nD Cert.MlpWoutKernelIdeal.τ).loc Cert.MlpWoutKernelIdeal.main_arg3) = m ((c.tc : Thread Cert.MlpWoutKernelIdeal.nD Cert.MlpWoutKernelIdeal.τ).loc Cert.MlpWoutKernelIdeal.main_arg3))
      ∧ θ_run (Cert.MlpWoutReferenceIdeal.defs (F := Ideal)) (onTc (τ := Cert.MlpWoutReferenceIdeal.τ) (Cert.MlpWoutReferenceIdeal.main (F := Ideal))) ⟨m', fun _ => 0, g'⟩ (fun r => ∀ c : Dev Cert.MlpWoutReferenceIdeal.nD,
          r.2.mem ((c.tc : Thread Cert.MlpWoutReferenceIdeal.nD Cert.MlpWoutReferenceIdeal.τ).loc Cert.MlpWoutReferenceIdeal.main_v46) = v0 c
          ∧ r.2.mem ((c.tc : Thread Cert.MlpWoutReferenceIdeal.nD Cert.MlpWoutReferenceIdeal.τ).loc Cert.MlpWoutReferenceIdeal.main_arg0) = m' ((c.tc : Thread Cert.MlpWoutReferenceIdeal.nD Cert.MlpWoutReferenceIdeal.τ).loc Cert.MlpWoutReferenceIdeal.main_arg0)
          ∧ r.2.mem ((c.tc : Thread Cert.MlpWoutReferenceIdeal.nD Cert.MlpWoutReferenceIdeal.τ).loc Cert.MlpWoutReferenceIdeal.main_arg1) = m' ((c.tc : Thread Cert.MlpWoutReferenceIdeal.nD Cert.MlpWoutReferenceIdeal.τ).loc Cert.MlpWoutReferenceIdeal.main_arg1)
          ∧ r.2.mem ((c.tc : Thread Cert.MlpWoutReferenceIdeal.nD Cert.MlpWoutReferenceIdeal.τ).loc Cert.MlpWoutReferenceIdeal.main_arg2) = m' ((c.tc : Thread Cert.MlpWoutReferenceIdeal.nD Cert.MlpWoutReferenceIdeal.τ).loc Cert.MlpWoutReferenceIdeal.main_arg2)
          ∧ r.2.mem ((c.tc : Thread Cert.MlpWoutReferenceIdeal.nD Cert.MlpWoutReferenceIdeal.τ).loc Cert.MlpWoutReferenceIdeal.main_arg3) = m' ((c.tc : Thread Cert.MlpWoutReferenceIdeal.nD Cert.MlpWoutReferenceIdeal.τ).loc Cert.MlpWoutReferenceIdeal.main_arg3))

def preserves_MlpActKernel_MlpActKernelIdeal : Prop :=
  True

def algebraic_MlpActKernelIdeal_MlpActReferenceIdeal [hMlpActKernelIdeal : Cert.MlpActKernelIdeal.Facts] [hMlpActReferenceIdeal : Cert.MlpActReferenceIdeal.Facts] : Prop :=
  ∀ (m : (ℓ : Loc Cert.MlpActKernelIdeal.nD Cert.MlpActKernelIdeal.τ Cert.MlpActKernelIdeal.sig) → Buf (Elt Ideal) ℓ) (g : Dev Cert.MlpActKernelIdeal.nD → PrngReg)
    (m' : (ℓ : Loc Cert.MlpActReferenceIdeal.nD Cert.MlpActReferenceIdeal.τ Cert.MlpActReferenceIdeal.sig) → Buf (Elt Ideal) ℓ) (g' : Dev Cert.MlpActReferenceIdeal.nD → PrngReg), Pre_MlpActKernelIdeal m →
    (∀ c : Dev Cert.MlpActKernelIdeal.nD,
      m' ((c.tc : Thread Cert.MlpActReferenceIdeal.nD Cert.MlpActReferenceIdeal.τ).loc Cert.MlpActReferenceIdeal.main_arg0) = m ((c.tc : Thread Cert.MlpActKernelIdeal.nD Cert.MlpActKernelIdeal.τ).loc Cert.MlpActKernelIdeal.main_arg0)
      ∧ m' ((c.tc : Thread Cert.MlpActReferenceIdeal.nD Cert.MlpActReferenceIdeal.τ).loc Cert.MlpActReferenceIdeal.main_arg1) = m ((c.tc : Thread Cert.MlpActKernelIdeal.nD Cert.MlpActKernelIdeal.τ).loc Cert.MlpActKernelIdeal.main_arg1)) →
    ∃ (v0 : (c : Dev Cert.MlpActKernelIdeal.nD) → Buf (Elt Ideal) ((c.tc : Thread Cert.MlpActKernelIdeal.nD Cert.MlpActKernelIdeal.τ).loc Cert.MlpActKernelIdeal.main_v0_0)) (v1 : (c : Dev Cert.MlpActKernelIdeal.nD) → Buf (Elt Ideal) ((c.tc : Thread Cert.MlpActKernelIdeal.nD Cert.MlpActKernelIdeal.τ).loc Cert.MlpActKernelIdeal.main_v0_1)),
      θ_run (Cert.MlpActKernelIdeal.defs (F := Ideal)) (onTc (τ := Cert.MlpActKernelIdeal.τ) (Cert.MlpActKernelIdeal.main (F := Ideal))) ⟨m, fun _ => 0, g⟩ (fun r => ∀ c : Dev Cert.MlpActKernelIdeal.nD,
          r.2.mem ((c.tc : Thread Cert.MlpActKernelIdeal.nD Cert.MlpActKernelIdeal.τ).loc Cert.MlpActKernelIdeal.main_v0_0) = v0 c
          ∧ r.2.mem ((c.tc : Thread Cert.MlpActKernelIdeal.nD Cert.MlpActKernelIdeal.τ).loc Cert.MlpActKernelIdeal.main_v0_1) = v1 c
          ∧ r.2.mem ((c.tc : Thread Cert.MlpActKernelIdeal.nD Cert.MlpActKernelIdeal.τ).loc Cert.MlpActKernelIdeal.main_arg0) = m ((c.tc : Thread Cert.MlpActKernelIdeal.nD Cert.MlpActKernelIdeal.τ).loc Cert.MlpActKernelIdeal.main_arg0)
          ∧ r.2.mem ((c.tc : Thread Cert.MlpActKernelIdeal.nD Cert.MlpActKernelIdeal.τ).loc Cert.MlpActKernelIdeal.main_arg1) = m ((c.tc : Thread Cert.MlpActKernelIdeal.nD Cert.MlpActKernelIdeal.τ).loc Cert.MlpActKernelIdeal.main_arg1))
      ∧ θ_run (Cert.MlpActReferenceIdeal.defs (F := Ideal)) (onTc (τ := Cert.MlpActReferenceIdeal.τ) (Cert.MlpActReferenceIdeal.main (F := Ideal))) ⟨m', fun _ => 0, g'⟩ (fun r => ∀ c : Dev Cert.MlpActReferenceIdeal.nD,
          r.2.mem ((c.tc : Thread Cert.MlpActReferenceIdeal.nD Cert.MlpActReferenceIdeal.τ).loc Cert.MlpActReferenceIdeal.main_v12) = v0 c
          ∧ r.2.mem ((c.tc : Thread Cert.MlpActReferenceIdeal.nD Cert.MlpActReferenceIdeal.τ).loc Cert.MlpActReferenceIdeal.main_v15) = v1 c
          ∧ r.2.mem ((c.tc : Thread Cert.MlpActReferenceIdeal.nD Cert.MlpActReferenceIdeal.τ).loc Cert.MlpActReferenceIdeal.main_arg0) = m' ((c.tc : Thread Cert.MlpActReferenceIdeal.nD Cert.MlpActReferenceIdeal.τ).loc Cert.MlpActReferenceIdeal.main_arg0)
          ∧ r.2.mem ((c.tc : Thread Cert.MlpActReferenceIdeal.nD Cert.MlpActReferenceIdeal.τ).loc Cert.MlpActReferenceIdeal.main_arg1) = m' ((c.tc : Thread Cert.MlpActReferenceIdeal.nD Cert.MlpActReferenceIdeal.τ).loc Cert.MlpActReferenceIdeal.main_arg1))

def preserves_MlpYKernel_MlpYKernelIdeal : Prop :=
  True

def algebraic_MlpYKernelIdeal_MlpYReferenceIdeal [hMlpYKernelIdeal : Cert.MlpYKernelIdeal.Facts] [hMlpYReferenceIdeal : Cert.MlpYReferenceIdeal.Facts] : Prop :=
  ∀ (m : (ℓ : Loc Cert.MlpYKernelIdeal.nD Cert.MlpYKernelIdeal.τ Cert.MlpYKernelIdeal.sig) → Buf (Elt Ideal) ℓ) (g : Dev Cert.MlpYKernelIdeal.nD → PrngReg)
    (m' : (ℓ : Loc Cert.MlpYReferenceIdeal.nD Cert.MlpYReferenceIdeal.τ Cert.MlpYReferenceIdeal.sig) → Buf (Elt Ideal) ℓ) (g' : Dev Cert.MlpYReferenceIdeal.nD → PrngReg), Pre_MlpYKernelIdeal m →
    (∀ c : Dev Cert.MlpYKernelIdeal.nD,
      m' ((c.tc : Thread Cert.MlpYReferenceIdeal.nD Cert.MlpYReferenceIdeal.τ).loc Cert.MlpYReferenceIdeal.main_arg0) = m ((c.tc : Thread Cert.MlpYKernelIdeal.nD Cert.MlpYKernelIdeal.τ).loc Cert.MlpYKernelIdeal.main_arg0)
      ∧ m' ((c.tc : Thread Cert.MlpYReferenceIdeal.nD Cert.MlpYReferenceIdeal.τ).loc Cert.MlpYReferenceIdeal.main_arg1) = m ((c.tc : Thread Cert.MlpYKernelIdeal.nD Cert.MlpYKernelIdeal.τ).loc Cert.MlpYKernelIdeal.main_arg1)
      ∧ m' ((c.tc : Thread Cert.MlpYReferenceIdeal.nD Cert.MlpYReferenceIdeal.τ).loc Cert.MlpYReferenceIdeal.main_arg2) = m ((c.tc : Thread Cert.MlpYKernelIdeal.nD Cert.MlpYKernelIdeal.τ).loc Cert.MlpYKernelIdeal.main_arg2)
      ∧ m' ((c.tc : Thread Cert.MlpYReferenceIdeal.nD Cert.MlpYReferenceIdeal.τ).loc Cert.MlpYReferenceIdeal.main_arg3) = m ((c.tc : Thread Cert.MlpYKernelIdeal.nD Cert.MlpYKernelIdeal.τ).loc Cert.MlpYKernelIdeal.main_arg3)) →
    ∃ (v0 : (c : Dev Cert.MlpYKernelIdeal.nD) → Buf (Elt Ideal) ((c.tc : Thread Cert.MlpYKernelIdeal.nD Cert.MlpYKernelIdeal.τ).loc Cert.MlpYKernelIdeal.main_v15)),
      θ_run (Cert.MlpYKernelIdeal.defs (F := Ideal)) (onTc (τ := Cert.MlpYKernelIdeal.τ) (Cert.MlpYKernelIdeal.main (F := Ideal))) ⟨m, fun _ => 0, g⟩ (fun r => ∀ c : Dev Cert.MlpYKernelIdeal.nD,
          r.2.mem ((c.tc : Thread Cert.MlpYKernelIdeal.nD Cert.MlpYKernelIdeal.τ).loc Cert.MlpYKernelIdeal.main_v15) = v0 c
          ∧ r.2.mem ((c.tc : Thread Cert.MlpYKernelIdeal.nD Cert.MlpYKernelIdeal.τ).loc Cert.MlpYKernelIdeal.main_arg0) = m ((c.tc : Thread Cert.MlpYKernelIdeal.nD Cert.MlpYKernelIdeal.τ).loc Cert.MlpYKernelIdeal.main_arg0)
          ∧ r.2.mem ((c.tc : Thread Cert.MlpYKernelIdeal.nD Cert.MlpYKernelIdeal.τ).loc Cert.MlpYKernelIdeal.main_arg1) = m ((c.tc : Thread Cert.MlpYKernelIdeal.nD Cert.MlpYKernelIdeal.τ).loc Cert.MlpYKernelIdeal.main_arg1)
          ∧ r.2.mem ((c.tc : Thread Cert.MlpYKernelIdeal.nD Cert.MlpYKernelIdeal.τ).loc Cert.MlpYKernelIdeal.main_arg2) = m ((c.tc : Thread Cert.MlpYKernelIdeal.nD Cert.MlpYKernelIdeal.τ).loc Cert.MlpYKernelIdeal.main_arg2)
          ∧ r.2.mem ((c.tc : Thread Cert.MlpYKernelIdeal.nD Cert.MlpYKernelIdeal.τ).loc Cert.MlpYKernelIdeal.main_arg3) = m ((c.tc : Thread Cert.MlpYKernelIdeal.nD Cert.MlpYKernelIdeal.τ).loc Cert.MlpYKernelIdeal.main_arg3))
      ∧ θ_run (Cert.MlpYReferenceIdeal.defs (F := Ideal)) (onTc (τ := Cert.MlpYReferenceIdeal.τ) (Cert.MlpYReferenceIdeal.main (F := Ideal))) ⟨m', fun _ => 0, g'⟩ (fun r => ∀ c : Dev Cert.MlpYReferenceIdeal.nD,
          r.2.mem ((c.tc : Thread Cert.MlpYReferenceIdeal.nD Cert.MlpYReferenceIdeal.τ).loc Cert.MlpYReferenceIdeal.main_v16) = v0 c
          ∧ r.2.mem ((c.tc : Thread Cert.MlpYReferenceIdeal.nD Cert.MlpYReferenceIdeal.τ).loc Cert.MlpYReferenceIdeal.main_arg0) = m' ((c.tc : Thread Cert.MlpYReferenceIdeal.nD Cert.MlpYReferenceIdeal.τ).loc Cert.MlpYReferenceIdeal.main_arg0)
          ∧ r.2.mem ((c.tc : Thread Cert.MlpYReferenceIdeal.nD Cert.MlpYReferenceIdeal.τ).loc Cert.MlpYReferenceIdeal.main_arg1) = m' ((c.tc : Thread Cert.MlpYReferenceIdeal.nD Cert.MlpYReferenceIdeal.τ).loc Cert.MlpYReferenceIdeal.main_arg1)
          ∧ r.2.mem ((c.tc : Thread Cert.MlpYReferenceIdeal.nD Cert.MlpYReferenceIdeal.τ).loc Cert.MlpYReferenceIdeal.main_arg2) = m' ((c.tc : Thread Cert.MlpYReferenceIdeal.nD Cert.MlpYReferenceIdeal.τ).loc Cert.MlpYReferenceIdeal.main_arg2)
          ∧ r.2.mem ((c.tc : Thread Cert.MlpYReferenceIdeal.nD Cert.MlpYReferenceIdeal.τ).loc Cert.MlpYReferenceIdeal.main_arg3) = m' ((c.tc : Thread Cert.MlpYReferenceIdeal.nD Cert.MlpYReferenceIdeal.τ).loc Cert.MlpYReferenceIdeal.main_arg3))

def preserves_MlpDuKernel_MlpDuKernelIdeal : Prop :=
  True

def algebraic_MlpDuKernelIdeal_MlpDuReferenceIdeal [hMlpDuKernelIdeal : Cert.MlpDuKernelIdeal.Facts] [hMlpDuReferenceIdeal : Cert.MlpDuReferenceIdeal.Facts] : Prop :=
  ∀ (m : (ℓ : Loc Cert.MlpDuKernelIdeal.nD Cert.MlpDuKernelIdeal.τ Cert.MlpDuKernelIdeal.sig) → Buf (Elt Ideal) ℓ) (g : Dev Cert.MlpDuKernelIdeal.nD → PrngReg)
    (m' : (ℓ : Loc Cert.MlpDuReferenceIdeal.nD Cert.MlpDuReferenceIdeal.τ Cert.MlpDuReferenceIdeal.sig) → Buf (Elt Ideal) ℓ) (g' : Dev Cert.MlpDuReferenceIdeal.nD → PrngReg), Pre_MlpDuKernelIdeal m →
    (∀ c : Dev Cert.MlpDuKernelIdeal.nD,
      m' ((c.tc : Thread Cert.MlpDuReferenceIdeal.nD Cert.MlpDuReferenceIdeal.τ).loc Cert.MlpDuReferenceIdeal.main_arg0) = m ((c.tc : Thread Cert.MlpDuKernelIdeal.nD Cert.MlpDuKernelIdeal.τ).loc Cert.MlpDuKernelIdeal.main_arg0)
      ∧ m' ((c.tc : Thread Cert.MlpDuReferenceIdeal.nD Cert.MlpDuReferenceIdeal.τ).loc Cert.MlpDuReferenceIdeal.main_arg1) = m ((c.tc : Thread Cert.MlpDuKernelIdeal.nD Cert.MlpDuKernelIdeal.τ).loc Cert.MlpDuKernelIdeal.main_arg1)
      ∧ m' ((c.tc : Thread Cert.MlpDuReferenceIdeal.nD Cert.MlpDuReferenceIdeal.τ).loc Cert.MlpDuReferenceIdeal.main_arg2) = m ((c.tc : Thread Cert.MlpDuKernelIdeal.nD Cert.MlpDuKernelIdeal.τ).loc Cert.MlpDuKernelIdeal.main_arg2)
      ∧ m' ((c.tc : Thread Cert.MlpDuReferenceIdeal.nD Cert.MlpDuReferenceIdeal.τ).loc Cert.MlpDuReferenceIdeal.main_arg3) = m ((c.tc : Thread Cert.MlpDuKernelIdeal.nD Cert.MlpDuKernelIdeal.τ).loc Cert.MlpDuKernelIdeal.main_arg3)) →
    ∃ (v0 : (c : Dev Cert.MlpDuKernelIdeal.nD) → Buf (Elt Ideal) ((c.tc : Thread Cert.MlpDuKernelIdeal.nD Cert.MlpDuKernelIdeal.τ).loc Cert.MlpDuKernelIdeal.main_v13)),
      θ_run (Cert.MlpDuKernelIdeal.defs (F := Ideal)) (onTc (τ := Cert.MlpDuKernelIdeal.τ) (Cert.MlpDuKernelIdeal.main (F := Ideal))) ⟨m, fun _ => 0, g⟩ (fun r => ∀ c : Dev Cert.MlpDuKernelIdeal.nD,
          r.2.mem ((c.tc : Thread Cert.MlpDuKernelIdeal.nD Cert.MlpDuKernelIdeal.τ).loc Cert.MlpDuKernelIdeal.main_v13) = v0 c
          ∧ r.2.mem ((c.tc : Thread Cert.MlpDuKernelIdeal.nD Cert.MlpDuKernelIdeal.τ).loc Cert.MlpDuKernelIdeal.main_arg0) = m ((c.tc : Thread Cert.MlpDuKernelIdeal.nD Cert.MlpDuKernelIdeal.τ).loc Cert.MlpDuKernelIdeal.main_arg0)
          ∧ r.2.mem ((c.tc : Thread Cert.MlpDuKernelIdeal.nD Cert.MlpDuKernelIdeal.τ).loc Cert.MlpDuKernelIdeal.main_arg1) = m ((c.tc : Thread Cert.MlpDuKernelIdeal.nD Cert.MlpDuKernelIdeal.τ).loc Cert.MlpDuKernelIdeal.main_arg1)
          ∧ r.2.mem ((c.tc : Thread Cert.MlpDuKernelIdeal.nD Cert.MlpDuKernelIdeal.τ).loc Cert.MlpDuKernelIdeal.main_arg2) = m ((c.tc : Thread Cert.MlpDuKernelIdeal.nD Cert.MlpDuKernelIdeal.τ).loc Cert.MlpDuKernelIdeal.main_arg2)
          ∧ r.2.mem ((c.tc : Thread Cert.MlpDuKernelIdeal.nD Cert.MlpDuKernelIdeal.τ).loc Cert.MlpDuKernelIdeal.main_arg3) = m ((c.tc : Thread Cert.MlpDuKernelIdeal.nD Cert.MlpDuKernelIdeal.τ).loc Cert.MlpDuKernelIdeal.main_arg3))
      ∧ θ_run (Cert.MlpDuReferenceIdeal.defs (F := Ideal)) (onTc (τ := Cert.MlpDuReferenceIdeal.τ) (Cert.MlpDuReferenceIdeal.main (F := Ideal))) ⟨m', fun _ => 0, g'⟩ (fun r => ∀ c : Dev Cert.MlpDuReferenceIdeal.nD,
          r.2.mem ((c.tc : Thread Cert.MlpDuReferenceIdeal.nD Cert.MlpDuReferenceIdeal.τ).loc Cert.MlpDuReferenceIdeal.main_v26) = v0 c
          ∧ r.2.mem ((c.tc : Thread Cert.MlpDuReferenceIdeal.nD Cert.MlpDuReferenceIdeal.τ).loc Cert.MlpDuReferenceIdeal.main_arg0) = m' ((c.tc : Thread Cert.MlpDuReferenceIdeal.nD Cert.MlpDuReferenceIdeal.τ).loc Cert.MlpDuReferenceIdeal.main_arg0)
          ∧ r.2.mem ((c.tc : Thread Cert.MlpDuReferenceIdeal.nD Cert.MlpDuReferenceIdeal.τ).loc Cert.MlpDuReferenceIdeal.main_arg1) = m' ((c.tc : Thread Cert.MlpDuReferenceIdeal.nD Cert.MlpDuReferenceIdeal.τ).loc Cert.MlpDuReferenceIdeal.main_arg1)
          ∧ r.2.mem ((c.tc : Thread Cert.MlpDuReferenceIdeal.nD Cert.MlpDuReferenceIdeal.τ).loc Cert.MlpDuReferenceIdeal.main_arg2) = m' ((c.tc : Thread Cert.MlpDuReferenceIdeal.nD Cert.MlpDuReferenceIdeal.τ).loc Cert.MlpDuReferenceIdeal.main_arg2)
          ∧ r.2.mem ((c.tc : Thread Cert.MlpDuReferenceIdeal.nD Cert.MlpDuReferenceIdeal.τ).loc Cert.MlpDuReferenceIdeal.main_arg3) = m' ((c.tc : Thread Cert.MlpDuReferenceIdeal.nD Cert.MlpDuReferenceIdeal.τ).loc Cert.MlpDuReferenceIdeal.main_arg3))

def preserves_InQaKernel_InQaKernelIdeal : Prop :=
  True

def algebraic_InQaKernelIdeal_InQaReferenceIdeal [hInQaKernelIdeal : Cert.InQaKernelIdeal.Facts] [hInQaReferenceIdeal : Cert.InQaReferenceIdeal.Facts] : Prop :=
  ∀ (m : (ℓ : Loc Cert.InQaKernelIdeal.nD Cert.InQaKernelIdeal.τ Cert.InQaKernelIdeal.sig) → Buf (Elt Ideal) ℓ) (g : Dev Cert.InQaKernelIdeal.nD → PrngReg)
    (m' : (ℓ : Loc Cert.InQaReferenceIdeal.nD Cert.InQaReferenceIdeal.τ Cert.InQaReferenceIdeal.sig) → Buf (Elt Ideal) ℓ) (g' : Dev Cert.InQaReferenceIdeal.nD → PrngReg), Pre_InQaKernelIdeal m →
    (∀ c : Dev Cert.InQaKernelIdeal.nD,
      m' ((c.tc : Thread Cert.InQaReferenceIdeal.nD Cert.InQaReferenceIdeal.τ).loc Cert.InQaReferenceIdeal.main_arg0) = m ((c.tc : Thread Cert.InQaKernelIdeal.nD Cert.InQaKernelIdeal.τ).loc Cert.InQaKernelIdeal.main_arg0)
      ∧ m' ((c.tc : Thread Cert.InQaReferenceIdeal.nD Cert.InQaReferenceIdeal.τ).loc Cert.InQaReferenceIdeal.main_arg1) = m ((c.tc : Thread Cert.InQaKernelIdeal.nD Cert.InQaKernelIdeal.τ).loc Cert.InQaKernelIdeal.main_arg1)) →
    ∃ (v0 : (c : Dev Cert.InQaKernelIdeal.nD) → Buf (Elt Ideal) ((c.tc : Thread Cert.InQaKernelIdeal.nD Cert.InQaKernelIdeal.τ).loc Cert.InQaKernelIdeal.main_v9)),
      θ_run (Cert.InQaKernelIdeal.defs (F := Ideal)) (onTc (τ := Cert.InQaKernelIdeal.τ) (Cert.InQaKernelIdeal.main (F := Ideal))) ⟨m, fun _ => 0, g⟩ (fun r => ∀ c : Dev Cert.InQaKernelIdeal.nD,
          r.2.mem ((c.tc : Thread Cert.InQaKernelIdeal.nD Cert.InQaKernelIdeal.τ).loc Cert.InQaKernelIdeal.main_v9) = v0 c
          ∧ r.2.mem ((c.tc : Thread Cert.InQaKernelIdeal.nD Cert.InQaKernelIdeal.τ).loc Cert.InQaKernelIdeal.main_arg0) = m ((c.tc : Thread Cert.InQaKernelIdeal.nD Cert.InQaKernelIdeal.τ).loc Cert.InQaKernelIdeal.main_arg0)
          ∧ r.2.mem ((c.tc : Thread Cert.InQaKernelIdeal.nD Cert.InQaKernelIdeal.τ).loc Cert.InQaKernelIdeal.main_arg1) = m ((c.tc : Thread Cert.InQaKernelIdeal.nD Cert.InQaKernelIdeal.τ).loc Cert.InQaKernelIdeal.main_arg1))
      ∧ θ_run (Cert.InQaReferenceIdeal.defs (F := Ideal)) (onTc (τ := Cert.InQaReferenceIdeal.τ) (Cert.InQaReferenceIdeal.main (F := Ideal))) ⟨m', fun _ => 0, g'⟩ (fun r => ∀ c : Dev Cert.InQaReferenceIdeal.nD,
          r.2.mem ((c.tc : Thread Cert.InQaReferenceIdeal.nD Cert.InQaReferenceIdeal.τ).loc Cert.InQaReferenceIdeal.main_v12) = v0 c
          ∧ r.2.mem ((c.tc : Thread Cert.InQaReferenceIdeal.nD Cert.InQaReferenceIdeal.τ).loc Cert.InQaReferenceIdeal.main_arg0) = m' ((c.tc : Thread Cert.InQaReferenceIdeal.nD Cert.InQaReferenceIdeal.τ).loc Cert.InQaReferenceIdeal.main_arg0)
          ∧ r.2.mem ((c.tc : Thread Cert.InQaReferenceIdeal.nD Cert.InQaReferenceIdeal.τ).loc Cert.InQaReferenceIdeal.main_arg1) = m' ((c.tc : Thread Cert.InQaReferenceIdeal.nD Cert.InQaReferenceIdeal.τ).loc Cert.InQaReferenceIdeal.main_arg1))

def preserves_InKvAbKernel_InKvAbKernelIdeal : Prop :=
  True

def algebraic_InKvAbKernelIdeal_InKvAbReferenceIdeal [hInKvAbKernelIdeal : Cert.InKvAbKernelIdeal.Facts] [hInKvAbReferenceIdeal : Cert.InKvAbReferenceIdeal.Facts] : Prop :=
  ∀ (m : (ℓ : Loc Cert.InKvAbKernelIdeal.nD Cert.InKvAbKernelIdeal.τ Cert.InKvAbKernelIdeal.sig) → Buf (Elt Ideal) ℓ) (g : Dev Cert.InKvAbKernelIdeal.nD → PrngReg)
    (m' : (ℓ : Loc Cert.InKvAbReferenceIdeal.nD Cert.InKvAbReferenceIdeal.τ Cert.InKvAbReferenceIdeal.sig) → Buf (Elt Ideal) ℓ) (g' : Dev Cert.InKvAbReferenceIdeal.nD → PrngReg), Pre_InKvAbKernelIdeal m →
    (∀ c : Dev Cert.InKvAbKernelIdeal.nD,
      m' ((c.tc : Thread Cert.InKvAbReferenceIdeal.nD Cert.InKvAbReferenceIdeal.τ).loc Cert.InKvAbReferenceIdeal.main_arg0) = m ((c.tc : Thread Cert.InKvAbKernelIdeal.nD Cert.InKvAbKernelIdeal.τ).loc Cert.InKvAbKernelIdeal.main_arg0)
      ∧ m' ((c.tc : Thread Cert.InKvAbReferenceIdeal.nD Cert.InKvAbReferenceIdeal.τ).loc Cert.InKvAbReferenceIdeal.main_arg1) = m ((c.tc : Thread Cert.InKvAbKernelIdeal.nD Cert.InKvAbKernelIdeal.τ).loc Cert.InKvAbKernelIdeal.main_arg1)) →
    ∃ (v0 : (c : Dev Cert.InKvAbKernelIdeal.nD) → Buf (Elt Ideal) ((c.tc : Thread Cert.InKvAbKernelIdeal.nD Cert.InKvAbKernelIdeal.τ).loc Cert.InKvAbKernelIdeal.main_v9_0)) (v1 : (c : Dev Cert.InKvAbKernelIdeal.nD) → Buf (Elt Ideal) ((c.tc : Thread Cert.InKvAbKernelIdeal.nD Cert.InKvAbKernelIdeal.τ).loc Cert.InKvAbKernelIdeal.main_v9_1)),
      θ_run (Cert.InKvAbKernelIdeal.defs (F := Ideal)) (onTc (τ := Cert.InKvAbKernelIdeal.τ) (Cert.InKvAbKernelIdeal.main (F := Ideal))) ⟨m, fun _ => 0, g⟩ (fun r => ∀ c : Dev Cert.InKvAbKernelIdeal.nD,
          r.2.mem ((c.tc : Thread Cert.InKvAbKernelIdeal.nD Cert.InKvAbKernelIdeal.τ).loc Cert.InKvAbKernelIdeal.main_v9_0) = v0 c
          ∧ r.2.mem ((c.tc : Thread Cert.InKvAbKernelIdeal.nD Cert.InKvAbKernelIdeal.τ).loc Cert.InKvAbKernelIdeal.main_v9_1) = v1 c
          ∧ r.2.mem ((c.tc : Thread Cert.InKvAbKernelIdeal.nD Cert.InKvAbKernelIdeal.τ).loc Cert.InKvAbKernelIdeal.main_arg0) = m ((c.tc : Thread Cert.InKvAbKernelIdeal.nD Cert.InKvAbKernelIdeal.τ).loc Cert.InKvAbKernelIdeal.main_arg0)
          ∧ r.2.mem ((c.tc : Thread Cert.InKvAbKernelIdeal.nD Cert.InKvAbKernelIdeal.τ).loc Cert.InKvAbKernelIdeal.main_arg1) = m ((c.tc : Thread Cert.InKvAbKernelIdeal.nD Cert.InKvAbKernelIdeal.τ).loc Cert.InKvAbKernelIdeal.main_arg1))
      ∧ θ_run (Cert.InKvAbReferenceIdeal.defs (F := Ideal)) (onTc (τ := Cert.InKvAbReferenceIdeal.τ) (Cert.InKvAbReferenceIdeal.main (F := Ideal))) ⟨m', fun _ => 0, g'⟩ (fun r => ∀ c : Dev Cert.InKvAbReferenceIdeal.nD,
          r.2.mem ((c.tc : Thread Cert.InKvAbReferenceIdeal.nD Cert.InKvAbReferenceIdeal.τ).loc Cert.InKvAbReferenceIdeal.main_v14) = v0 c
          ∧ r.2.mem ((c.tc : Thread Cert.InKvAbReferenceIdeal.nD Cert.InKvAbReferenceIdeal.τ).loc Cert.InKvAbReferenceIdeal.main_v13) = v1 c
          ∧ r.2.mem ((c.tc : Thread Cert.InKvAbReferenceIdeal.nD Cert.InKvAbReferenceIdeal.τ).loc Cert.InKvAbReferenceIdeal.main_arg0) = m' ((c.tc : Thread Cert.InKvAbReferenceIdeal.nD Cert.InKvAbReferenceIdeal.τ).loc Cert.InKvAbReferenceIdeal.main_arg0)
          ∧ r.2.mem ((c.tc : Thread Cert.InKvAbReferenceIdeal.nD Cert.InKvAbReferenceIdeal.τ).loc Cert.InKvAbReferenceIdeal.main_arg1) = m' ((c.tc : Thread Cert.InKvAbReferenceIdeal.nD Cert.InKvAbReferenceIdeal.τ).loc Cert.InKvAbReferenceIdeal.main_arg1))

def preserves_InQkvBKernel_InQkvBKernelIdeal : Prop :=
  True

def algebraic_InQkvBKernelIdeal_InQkvBReferenceIdeal [hInQkvBKernelIdeal : Cert.InQkvBKernelIdeal.Facts] [hInQkvBReferenceIdeal : Cert.InQkvBReferenceIdeal.Facts] : Prop :=
  ∀ (m : (ℓ : Loc Cert.InQkvBKernelIdeal.nD Cert.InQkvBKernelIdeal.τ Cert.InQkvBKernelIdeal.sig) → Buf (Elt Ideal) ℓ) (g : Dev Cert.InQkvBKernelIdeal.nD → PrngReg)
    (m' : (ℓ : Loc Cert.InQkvBReferenceIdeal.nD Cert.InQkvBReferenceIdeal.τ Cert.InQkvBReferenceIdeal.sig) → Buf (Elt Ideal) ℓ) (g' : Dev Cert.InQkvBReferenceIdeal.nD → PrngReg), Pre_InQkvBKernelIdeal m →
    (∀ c : Dev Cert.InQkvBKernelIdeal.nD,
      m' ((c.tc : Thread Cert.InQkvBReferenceIdeal.nD Cert.InQkvBReferenceIdeal.τ).loc Cert.InQkvBReferenceIdeal.main_arg0) = m ((c.tc : Thread Cert.InQkvBKernelIdeal.nD Cert.InQkvBKernelIdeal.τ).loc Cert.InQkvBKernelIdeal.main_arg0)
      ∧ m' ((c.tc : Thread Cert.InQkvBReferenceIdeal.nD Cert.InQkvBReferenceIdeal.τ).loc Cert.InQkvBReferenceIdeal.main_arg1) = m ((c.tc : Thread Cert.InQkvBKernelIdeal.nD Cert.InQkvBKernelIdeal.τ).loc Cert.InQkvBKernelIdeal.main_arg1)) →
    ∃ (v0 : (c : Dev Cert.InQkvBKernelIdeal.nD) → Buf (Elt Ideal) ((c.tc : Thread Cert.InQkvBKernelIdeal.nD Cert.InQkvBKernelIdeal.τ).loc Cert.InQkvBKernelIdeal.main_v9)),
      θ_run (Cert.InQkvBKernelIdeal.defs (F := Ideal)) (onTc (τ := Cert.InQkvBKernelIdeal.τ) (Cert.InQkvBKernelIdeal.main (F := Ideal))) ⟨m, fun _ => 0, g⟩ (fun r => ∀ c : Dev Cert.InQkvBKernelIdeal.nD,
          r.2.mem ((c.tc : Thread Cert.InQkvBKernelIdeal.nD Cert.InQkvBKernelIdeal.τ).loc Cert.InQkvBKernelIdeal.main_v9) = v0 c
          ∧ r.2.mem ((c.tc : Thread Cert.InQkvBKernelIdeal.nD Cert.InQkvBKernelIdeal.τ).loc Cert.InQkvBKernelIdeal.main_arg0) = m ((c.tc : Thread Cert.InQkvBKernelIdeal.nD Cert.InQkvBKernelIdeal.τ).loc Cert.InQkvBKernelIdeal.main_arg0)
          ∧ r.2.mem ((c.tc : Thread Cert.InQkvBKernelIdeal.nD Cert.InQkvBKernelIdeal.τ).loc Cert.InQkvBKernelIdeal.main_arg1) = m ((c.tc : Thread Cert.InQkvBKernelIdeal.nD Cert.InQkvBKernelIdeal.τ).loc Cert.InQkvBKernelIdeal.main_arg1))
      ∧ θ_run (Cert.InQkvBReferenceIdeal.defs (F := Ideal)) (onTc (τ := Cert.InQkvBReferenceIdeal.τ) (Cert.InQkvBReferenceIdeal.main (F := Ideal))) ⟨m', fun _ => 0, g'⟩ (fun r => ∀ c : Dev Cert.InQkvBReferenceIdeal.nD,
          r.2.mem ((c.tc : Thread Cert.InQkvBReferenceIdeal.nD Cert.InQkvBReferenceIdeal.τ).loc Cert.InQkvBReferenceIdeal.main_v6) = v0 c
          ∧ r.2.mem ((c.tc : Thread Cert.InQkvBReferenceIdeal.nD Cert.InQkvBReferenceIdeal.τ).loc Cert.InQkvBReferenceIdeal.main_arg0) = m' ((c.tc : Thread Cert.InQkvBReferenceIdeal.nD Cert.InQkvBReferenceIdeal.τ).loc Cert.InQkvBReferenceIdeal.main_arg0)
          ∧ r.2.mem ((c.tc : Thread Cert.InQkvBReferenceIdeal.nD Cert.InQkvBReferenceIdeal.τ).loc Cert.InQkvBReferenceIdeal.main_arg1) = m' ((c.tc : Thread Cert.InQkvBReferenceIdeal.nD Cert.InQkvBReferenceIdeal.τ).loc Cert.InQkvBReferenceIdeal.main_arg1))

def preserves_InZKernel_InZKernelIdeal : Prop :=
  True

def algebraic_InZKernelIdeal_InZReferenceIdeal [hInZKernelIdeal : Cert.InZKernelIdeal.Facts] [hInZReferenceIdeal : Cert.InZReferenceIdeal.Facts] : Prop :=
  ∀ (m : (ℓ : Loc Cert.InZKernelIdeal.nD Cert.InZKernelIdeal.τ Cert.InZKernelIdeal.sig) → Buf (Elt Ideal) ℓ) (g : Dev Cert.InZKernelIdeal.nD → PrngReg)
    (m' : (ℓ : Loc Cert.InZReferenceIdeal.nD Cert.InZReferenceIdeal.τ Cert.InZReferenceIdeal.sig) → Buf (Elt Ideal) ℓ) (g' : Dev Cert.InZReferenceIdeal.nD → PrngReg), Pre_InZKernelIdeal m →
    (∀ c : Dev Cert.InZKernelIdeal.nD,
      m' ((c.tc : Thread Cert.InZReferenceIdeal.nD Cert.InZReferenceIdeal.τ).loc Cert.InZReferenceIdeal.main_arg0) = m ((c.tc : Thread Cert.InZKernelIdeal.nD Cert.InZKernelIdeal.τ).loc Cert.InZKernelIdeal.main_arg0)
      ∧ m' ((c.tc : Thread Cert.InZReferenceIdeal.nD Cert.InZReferenceIdeal.τ).loc Cert.InZReferenceIdeal.main_arg1) = m ((c.tc : Thread Cert.InZKernelIdeal.nD Cert.InZKernelIdeal.τ).loc Cert.InZKernelIdeal.main_arg1)) →
    ∃ (v0 : (c : Dev Cert.InZKernelIdeal.nD) → Buf (Elt Ideal) ((c.tc : Thread Cert.InZKernelIdeal.nD Cert.InZKernelIdeal.τ).loc Cert.InZKernelIdeal.main_v9)),
      θ_run (Cert.InZKernelIdeal.defs (F := Ideal)) (onTc (τ := Cert.InZKernelIdeal.τ) (Cert.InZKernelIdeal.main (F := Ideal))) ⟨m, fun _ => 0, g⟩ (fun r => ∀ c : Dev Cert.InZKernelIdeal.nD,
          r.2.mem ((c.tc : Thread Cert.InZKernelIdeal.nD Cert.InZKernelIdeal.τ).loc Cert.InZKernelIdeal.main_v9) = v0 c
          ∧ r.2.mem ((c.tc : Thread Cert.InZKernelIdeal.nD Cert.InZKernelIdeal.τ).loc Cert.InZKernelIdeal.main_arg0) = m ((c.tc : Thread Cert.InZKernelIdeal.nD Cert.InZKernelIdeal.τ).loc Cert.InZKernelIdeal.main_arg0)
          ∧ r.2.mem ((c.tc : Thread Cert.InZKernelIdeal.nD Cert.InZKernelIdeal.τ).loc Cert.InZKernelIdeal.main_arg1) = m ((c.tc : Thread Cert.InZKernelIdeal.nD Cert.InZKernelIdeal.τ).loc Cert.InZKernelIdeal.main_arg1))
      ∧ θ_run (Cert.InZReferenceIdeal.defs (F := Ideal)) (onTc (τ := Cert.InZReferenceIdeal.τ) (Cert.InZReferenceIdeal.main (F := Ideal))) ⟨m', fun _ => 0, g'⟩ (fun r => ∀ c : Dev Cert.InZReferenceIdeal.nD,
          r.2.mem ((c.tc : Thread Cert.InZReferenceIdeal.nD Cert.InZReferenceIdeal.τ).loc Cert.InZReferenceIdeal.main_v9) = v0 c
          ∧ r.2.mem ((c.tc : Thread Cert.InZReferenceIdeal.nD Cert.InZReferenceIdeal.τ).loc Cert.InZReferenceIdeal.main_arg0) = m' ((c.tc : Thread Cert.InZReferenceIdeal.nD Cert.InZReferenceIdeal.τ).loc Cert.InZReferenceIdeal.main_arg0)
          ∧ r.2.mem ((c.tc : Thread Cert.InZReferenceIdeal.nD Cert.InZReferenceIdeal.τ).loc Cert.InZReferenceIdeal.main_arg1) = m' ((c.tc : Thread Cert.InZReferenceIdeal.nD Cert.InZReferenceIdeal.τ).loc Cert.InZReferenceIdeal.main_arg1))

def preserves_InQcKernel_InQcKernelIdeal : Prop :=
  True

def algebraic_InQcKernelIdeal_InQcReferenceIdeal [hInQcKernelIdeal : Cert.InQcKernelIdeal.Facts] [hInQcReferenceIdeal : Cert.InQcReferenceIdeal.Facts] : Prop :=
  ∀ (m : (ℓ : Loc Cert.InQcKernelIdeal.nD Cert.InQcKernelIdeal.τ Cert.InQcKernelIdeal.sig) → Buf (Elt Ideal) ℓ) (g : Dev Cert.InQcKernelIdeal.nD → PrngReg)
    (m' : (ℓ : Loc Cert.InQcReferenceIdeal.nD Cert.InQcReferenceIdeal.τ Cert.InQcReferenceIdeal.sig) → Buf (Elt Ideal) ℓ) (g' : Dev Cert.InQcReferenceIdeal.nD → PrngReg), Pre_InQcKernelIdeal m →
    (∀ c : Dev Cert.InQcKernelIdeal.nD,
      m' ((c.tc : Thread Cert.InQcReferenceIdeal.nD Cert.InQcReferenceIdeal.τ).loc Cert.InQcReferenceIdeal.main_arg0) = m ((c.tc : Thread Cert.InQcKernelIdeal.nD Cert.InQcKernelIdeal.τ).loc Cert.InQcKernelIdeal.main_arg0)
      ∧ m' ((c.tc : Thread Cert.InQcReferenceIdeal.nD Cert.InQcReferenceIdeal.τ).loc Cert.InQcReferenceIdeal.main_arg1) = m ((c.tc : Thread Cert.InQcKernelIdeal.nD Cert.InQcKernelIdeal.τ).loc Cert.InQcKernelIdeal.main_arg1)) →
    ∃ (v0 : (c : Dev Cert.InQcKernelIdeal.nD) → Buf (Elt Ideal) ((c.tc : Thread Cert.InQcKernelIdeal.nD Cert.InQcKernelIdeal.τ).loc Cert.InQcKernelIdeal.main_v9)),
      θ_run (Cert.InQcKernelIdeal.defs (F := Ideal)) (onTc (τ := Cert.InQcKernelIdeal.τ) (Cert.InQcKernelIdeal.main (F := Ideal))) ⟨m, fun _ => 0, g⟩ (fun r => ∀ c : Dev Cert.InQcKernelIdeal.nD,
          r.2.mem ((c.tc : Thread Cert.InQcKernelIdeal.nD Cert.InQcKernelIdeal.τ).loc Cert.InQcKernelIdeal.main_v9) = v0 c
          ∧ r.2.mem ((c.tc : Thread Cert.InQcKernelIdeal.nD Cert.InQcKernelIdeal.τ).loc Cert.InQcKernelIdeal.main_arg0) = m ((c.tc : Thread Cert.InQcKernelIdeal.nD Cert.InQcKernelIdeal.τ).loc Cert.InQcKernelIdeal.main_arg0)
          ∧ r.2.mem ((c.tc : Thread Cert.InQcKernelIdeal.nD Cert.InQcKernelIdeal.τ).loc Cert.InQcKernelIdeal.main_arg1) = m ((c.tc : Thread Cert.InQcKernelIdeal.nD Cert.InQcKernelIdeal.τ).loc Cert.InQcKernelIdeal.main_arg1))
      ∧ θ_run (Cert.InQcReferenceIdeal.defs (F := Ideal)) (onTc (τ := Cert.InQcReferenceIdeal.τ) (Cert.InQcReferenceIdeal.main (F := Ideal))) ⟨m', fun _ => 0, g'⟩ (fun r => ∀ c : Dev Cert.InQcReferenceIdeal.nD,
          r.2.mem ((c.tc : Thread Cert.InQcReferenceIdeal.nD Cert.InQcReferenceIdeal.τ).loc Cert.InQcReferenceIdeal.main_v12) = v0 c
          ∧ r.2.mem ((c.tc : Thread Cert.InQcReferenceIdeal.nD Cert.InQcReferenceIdeal.τ).loc Cert.InQcReferenceIdeal.main_arg0) = m' ((c.tc : Thread Cert.InQcReferenceIdeal.nD Cert.InQcReferenceIdeal.τ).loc Cert.InQcReferenceIdeal.main_arg0)
          ∧ r.2.mem ((c.tc : Thread Cert.InQcReferenceIdeal.nD Cert.InQcReferenceIdeal.τ).loc Cert.InQcReferenceIdeal.main_arg1) = m' ((c.tc : Thread Cert.InQcReferenceIdeal.nD Cert.InQcReferenceIdeal.τ).loc Cert.InQcReferenceIdeal.main_arg1))

def preserves_InGatesKernel_InGatesKernelIdeal : Prop :=
  True

def algebraic_InGatesKernelIdeal_InGatesReferenceIdeal [hInGatesKernelIdeal : Cert.InGatesKernelIdeal.Facts] [hInGatesReferenceIdeal : Cert.InGatesReferenceIdeal.Facts] : Prop :=
  ∀ (m : (ℓ : Loc Cert.InGatesKernelIdeal.nD Cert.InGatesKernelIdeal.τ Cert.InGatesKernelIdeal.sig) → Buf (Elt Ideal) ℓ) (g : Dev Cert.InGatesKernelIdeal.nD → PrngReg)
    (m' : (ℓ : Loc Cert.InGatesReferenceIdeal.nD Cert.InGatesReferenceIdeal.τ Cert.InGatesReferenceIdeal.sig) → Buf (Elt Ideal) ℓ) (g' : Dev Cert.InGatesReferenceIdeal.nD → PrngReg), Pre_InGatesKernelIdeal m →
    (∀ c : Dev Cert.InGatesKernelIdeal.nD,
      m' ((c.tc : Thread Cert.InGatesReferenceIdeal.nD Cert.InGatesReferenceIdeal.τ).loc Cert.InGatesReferenceIdeal.main_arg0) = m ((c.tc : Thread Cert.InGatesKernelIdeal.nD Cert.InGatesKernelIdeal.τ).loc Cert.InGatesKernelIdeal.main_arg0)
      ∧ m' ((c.tc : Thread Cert.InGatesReferenceIdeal.nD Cert.InGatesReferenceIdeal.τ).loc Cert.InGatesReferenceIdeal.main_arg1) = m ((c.tc : Thread Cert.InGatesKernelIdeal.nD Cert.InGatesKernelIdeal.τ).loc Cert.InGatesKernelIdeal.main_arg1)) →
    ∃ (v0 : (c : Dev Cert.InGatesKernelIdeal.nD) → Buf (Elt Ideal) ((c.tc : Thread Cert.InGatesKernelIdeal.nD Cert.InGatesKernelIdeal.τ).loc Cert.InGatesKernelIdeal.main_v9)),
      θ_run (Cert.InGatesKernelIdeal.defs (F := Ideal)) (onTc (τ := Cert.InGatesKernelIdeal.τ) (Cert.InGatesKernelIdeal.main (F := Ideal))) ⟨m, fun _ => 0, g⟩ (fun r => ∀ c : Dev Cert.InGatesKernelIdeal.nD,
          r.2.mem ((c.tc : Thread Cert.InGatesKernelIdeal.nD Cert.InGatesKernelIdeal.τ).loc Cert.InGatesKernelIdeal.main_v9) = v0 c
          ∧ r.2.mem ((c.tc : Thread Cert.InGatesKernelIdeal.nD Cert.InGatesKernelIdeal.τ).loc Cert.InGatesKernelIdeal.main_arg0) = m ((c.tc : Thread Cert.InGatesKernelIdeal.nD Cert.InGatesKernelIdeal.τ).loc Cert.InGatesKernelIdeal.main_arg0)
          ∧ r.2.mem ((c.tc : Thread Cert.InGatesKernelIdeal.nD Cert.InGatesKernelIdeal.τ).loc Cert.InGatesKernelIdeal.main_arg1) = m ((c.tc : Thread Cert.InGatesKernelIdeal.nD Cert.InGatesKernelIdeal.τ).loc Cert.InGatesKernelIdeal.main_arg1))
      ∧ θ_run (Cert.InGatesReferenceIdeal.defs (F := Ideal)) (onTc (τ := Cert.InGatesReferenceIdeal.τ) (Cert.InGatesReferenceIdeal.main (F := Ideal))) ⟨m', fun _ => 0, g'⟩ (fun r => ∀ c : Dev Cert.InGatesReferenceIdeal.nD,
          r.2.mem ((c.tc : Thread Cert.InGatesReferenceIdeal.nD Cert.InGatesReferenceIdeal.τ).loc Cert.InGatesReferenceIdeal.main_v11) = v0 c
          ∧ r.2.mem ((c.tc : Thread Cert.InGatesReferenceIdeal.nD Cert.InGatesReferenceIdeal.τ).loc Cert.InGatesReferenceIdeal.main_arg0) = m' ((c.tc : Thread Cert.InGatesReferenceIdeal.nD Cert.InGatesReferenceIdeal.τ).loc Cert.InGatesReferenceIdeal.main_arg0)
          ∧ r.2.mem ((c.tc : Thread Cert.InGatesReferenceIdeal.nD Cert.InGatesReferenceIdeal.τ).loc Cert.InGatesReferenceIdeal.main_arg1) = m' ((c.tc : Thread Cert.InGatesReferenceIdeal.nD Cert.InGatesReferenceIdeal.τ).loc Cert.InGatesReferenceIdeal.main_arg1))

def preserves_InXKernel_InXKernelIdeal : Prop :=
  True

def algebraic_InXKernelIdeal_InXReferenceIdeal [hInXKernelIdeal : Cert.InXKernelIdeal.Facts] [hInXReferenceIdeal : Cert.InXReferenceIdeal.Facts] : Prop :=
  ∀ (m : (ℓ : Loc Cert.InXKernelIdeal.nD Cert.InXKernelIdeal.τ Cert.InXKernelIdeal.sig) → Buf (Elt Ideal) ℓ) (g : Dev Cert.InXKernelIdeal.nD → PrngReg)
    (m' : (ℓ : Loc Cert.InXReferenceIdeal.nD Cert.InXReferenceIdeal.τ Cert.InXReferenceIdeal.sig) → Buf (Elt Ideal) ℓ) (g' : Dev Cert.InXReferenceIdeal.nD → PrngReg), Pre_InXKernelIdeal m →
    (∀ c : Dev Cert.InXKernelIdeal.nD,
      m' ((c.tc : Thread Cert.InXReferenceIdeal.nD Cert.InXReferenceIdeal.τ).loc Cert.InXReferenceIdeal.main_arg0) = m ((c.tc : Thread Cert.InXKernelIdeal.nD Cert.InXKernelIdeal.τ).loc Cert.InXKernelIdeal.main_arg0)
      ∧ m' ((c.tc : Thread Cert.InXReferenceIdeal.nD Cert.InXReferenceIdeal.τ).loc Cert.InXReferenceIdeal.main_arg1) = m ((c.tc : Thread Cert.InXKernelIdeal.nD Cert.InXKernelIdeal.τ).loc Cert.InXKernelIdeal.main_arg1)
      ∧ m' ((c.tc : Thread Cert.InXReferenceIdeal.nD Cert.InXReferenceIdeal.τ).loc Cert.InXReferenceIdeal.main_arg2) = m ((c.tc : Thread Cert.InXKernelIdeal.nD Cert.InXKernelIdeal.τ).loc Cert.InXKernelIdeal.main_arg2)) →
    ∃ (v0 : (c : Dev Cert.InXKernelIdeal.nD) → Buf (Elt Ideal) ((c.tc : Thread Cert.InXKernelIdeal.nD Cert.InXKernelIdeal.τ).loc Cert.InXKernelIdeal.main_v18)),
      θ_run (Cert.InXKernelIdeal.defs (F := Ideal)) (onTc (τ := Cert.InXKernelIdeal.τ) (Cert.InXKernelIdeal.main (F := Ideal))) ⟨m, fun _ => 0, g⟩ (fun r => ∀ c : Dev Cert.InXKernelIdeal.nD,
          r.2.mem ((c.tc : Thread Cert.InXKernelIdeal.nD Cert.InXKernelIdeal.τ).loc Cert.InXKernelIdeal.main_v18) = v0 c
          ∧ r.2.mem ((c.tc : Thread Cert.InXKernelIdeal.nD Cert.InXKernelIdeal.τ).loc Cert.InXKernelIdeal.main_arg0) = m ((c.tc : Thread Cert.InXKernelIdeal.nD Cert.InXKernelIdeal.τ).loc Cert.InXKernelIdeal.main_arg0)
          ∧ r.2.mem ((c.tc : Thread Cert.InXKernelIdeal.nD Cert.InXKernelIdeal.τ).loc Cert.InXKernelIdeal.main_arg1) = m ((c.tc : Thread Cert.InXKernelIdeal.nD Cert.InXKernelIdeal.τ).loc Cert.InXKernelIdeal.main_arg1)
          ∧ r.2.mem ((c.tc : Thread Cert.InXKernelIdeal.nD Cert.InXKernelIdeal.τ).loc Cert.InXKernelIdeal.main_arg2) = m ((c.tc : Thread Cert.InXKernelIdeal.nD Cert.InXKernelIdeal.τ).loc Cert.InXKernelIdeal.main_arg2))
      ∧ θ_run (Cert.InXReferenceIdeal.defs (F := Ideal)) (onTc (τ := Cert.InXReferenceIdeal.τ) (Cert.InXReferenceIdeal.main (F := Ideal))) ⟨m', fun _ => 0, g'⟩ (fun r => ∀ c : Dev Cert.InXReferenceIdeal.nD,
          r.2.mem ((c.tc : Thread Cert.InXReferenceIdeal.nD Cert.InXReferenceIdeal.τ).loc Cert.InXReferenceIdeal.main_v6) = v0 c
          ∧ r.2.mem ((c.tc : Thread Cert.InXReferenceIdeal.nD Cert.InXReferenceIdeal.τ).loc Cert.InXReferenceIdeal.main_arg0) = m' ((c.tc : Thread Cert.InXReferenceIdeal.nD Cert.InXReferenceIdeal.τ).loc Cert.InXReferenceIdeal.main_arg0)
          ∧ r.2.mem ((c.tc : Thread Cert.InXReferenceIdeal.nD Cert.InXReferenceIdeal.τ).loc Cert.InXReferenceIdeal.main_arg1) = m' ((c.tc : Thread Cert.InXReferenceIdeal.nD Cert.InXReferenceIdeal.τ).loc Cert.InXReferenceIdeal.main_arg1)
          ∧ r.2.mem ((c.tc : Thread Cert.InXReferenceIdeal.nD Cert.InXReferenceIdeal.τ).loc Cert.InXReferenceIdeal.main_arg2) = m' ((c.tc : Thread Cert.InXReferenceIdeal.nD Cert.InXReferenceIdeal.τ).loc Cert.InXReferenceIdeal.main_arg2))

def preserves_InWKernel_InWKernelIdeal : Prop :=
  True

def algebraic_InWKernelIdeal_InWReferenceIdeal [hInWKernelIdeal : Cert.InWKernelIdeal.Facts] [hInWReferenceIdeal : Cert.InWReferenceIdeal.Facts] : Prop :=
  ∀ (m : (ℓ : Loc Cert.InWKernelIdeal.nD Cert.InWKernelIdeal.τ Cert.InWKernelIdeal.sig) → Buf (Elt Ideal) ℓ) (g : Dev Cert.InWKernelIdeal.nD → PrngReg)
    (m' : (ℓ : Loc Cert.InWReferenceIdeal.nD Cert.InWReferenceIdeal.τ Cert.InWReferenceIdeal.sig) → Buf (Elt Ideal) ℓ) (g' : Dev Cert.InWReferenceIdeal.nD → PrngReg), Pre_InWKernelIdeal m →
    (∀ c : Dev Cert.InWKernelIdeal.nD,
      m' ((c.tc : Thread Cert.InWReferenceIdeal.nD Cert.InWReferenceIdeal.τ).loc Cert.InWReferenceIdeal.main_arg0) = m ((c.tc : Thread Cert.InWKernelIdeal.nD Cert.InWKernelIdeal.τ).loc Cert.InWKernelIdeal.main_arg0)
      ∧ m' ((c.tc : Thread Cert.InWReferenceIdeal.nD Cert.InWReferenceIdeal.τ).loc Cert.InWReferenceIdeal.main_arg1) = m ((c.tc : Thread Cert.InWKernelIdeal.nD Cert.InWKernelIdeal.τ).loc Cert.InWKernelIdeal.main_arg1)
      ∧ m' ((c.tc : Thread Cert.InWReferenceIdeal.nD Cert.InWReferenceIdeal.τ).loc Cert.InWReferenceIdeal.main_arg2) = m ((c.tc : Thread Cert.InWKernelIdeal.nD Cert.InWKernelIdeal.τ).loc Cert.InWKernelIdeal.main_arg2)) →
    ∃ (v0 : (c : Dev Cert.InWKernelIdeal.nD) → Buf (Elt Ideal) ((c.tc : Thread Cert.InWKernelIdeal.nD Cert.InWKernelIdeal.τ).loc Cert.InWKernelIdeal.main_v9)),
      θ_run (Cert.InWKernelIdeal.defs (F := Ideal)) (onTc (τ := Cert.InWKernelIdeal.τ) (Cert.InWKernelIdeal.main (F := Ideal))) ⟨m, fun _ => 0, g⟩ (fun r => ∀ c : Dev Cert.InWKernelIdeal.nD,
          r.2.mem ((c.tc : Thread Cert.InWKernelIdeal.nD Cert.InWKernelIdeal.τ).loc Cert.InWKernelIdeal.main_v9) = v0 c
          ∧ r.2.mem ((c.tc : Thread Cert.InWKernelIdeal.nD Cert.InWKernelIdeal.τ).loc Cert.InWKernelIdeal.main_arg0) = m ((c.tc : Thread Cert.InWKernelIdeal.nD Cert.InWKernelIdeal.τ).loc Cert.InWKernelIdeal.main_arg0)
          ∧ r.2.mem ((c.tc : Thread Cert.InWKernelIdeal.nD Cert.InWKernelIdeal.τ).loc Cert.InWKernelIdeal.main_arg1) = m ((c.tc : Thread Cert.InWKernelIdeal.nD Cert.InWKernelIdeal.τ).loc Cert.InWKernelIdeal.main_arg1)
          ∧ r.2.mem ((c.tc : Thread Cert.InWKernelIdeal.nD Cert.InWKernelIdeal.τ).loc Cert.InWKernelIdeal.main_arg2) = m ((c.tc : Thread Cert.InWKernelIdeal.nD Cert.InWKernelIdeal.τ).loc Cert.InWKernelIdeal.main_arg2))
      ∧ θ_run (Cert.InWReferenceIdeal.defs (F := Ideal)) (onTc (τ := Cert.InWReferenceIdeal.τ) (Cert.InWReferenceIdeal.main (F := Ideal))) ⟨m', fun _ => 0, g'⟩ (fun r => ∀ c : Dev Cert.InWReferenceIdeal.nD,
          r.2.mem ((c.tc : Thread Cert.InWReferenceIdeal.nD Cert.InWReferenceIdeal.τ).loc Cert.InWReferenceIdeal.main_v18) = v0 c
          ∧ r.2.mem ((c.tc : Thread Cert.InWReferenceIdeal.nD Cert.InWReferenceIdeal.τ).loc Cert.InWReferenceIdeal.main_arg0) = m' ((c.tc : Thread Cert.InWReferenceIdeal.nD Cert.InWReferenceIdeal.τ).loc Cert.InWReferenceIdeal.main_arg0)
          ∧ r.2.mem ((c.tc : Thread Cert.InWReferenceIdeal.nD Cert.InWReferenceIdeal.τ).loc Cert.InWReferenceIdeal.main_arg1) = m' ((c.tc : Thread Cert.InWReferenceIdeal.nD Cert.InWReferenceIdeal.τ).loc Cert.InWReferenceIdeal.main_arg1)
          ∧ r.2.mem ((c.tc : Thread Cert.InWReferenceIdeal.nD Cert.InWReferenceIdeal.τ).loc Cert.InWReferenceIdeal.main_arg2) = m' ((c.tc : Thread Cert.InWReferenceIdeal.nD Cert.InWReferenceIdeal.τ).loc Cert.InWReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v16) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_OutXKernel_OutXKernelIdeal : Prop :=
  True

def algebraic_OutXKernelIdeal_OutXReferenceIdeal [hOutXKernelIdeal : Cert.OutXKernelIdeal.Facts] [hOutXReferenceIdeal : Cert.OutXReferenceIdeal.Facts] : Prop :=
  ∀ (m : (ℓ : Loc Cert.OutXKernelIdeal.nD Cert.OutXKernelIdeal.τ Cert.OutXKernelIdeal.sig) → Buf (Elt Ideal) ℓ) (g : Dev Cert.OutXKernelIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXKernelIdeal m →
    (∀ c : Dev Cert.OutXKernelIdeal.nD,
      m' ((c.tc : Thread Cert.OutXReferenceIdeal.nD Cert.OutXReferenceIdeal.τ).loc Cert.OutXReferenceIdeal.main_arg0) = m ((c.tc : Thread Cert.OutXKernelIdeal.nD Cert.OutXKernelIdeal.τ).loc Cert.OutXKernelIdeal.main_arg0)
      ∧ m' ((c.tc : Thread Cert.OutXReferenceIdeal.nD Cert.OutXReferenceIdeal.τ).loc Cert.OutXReferenceIdeal.main_arg1) = m ((c.tc : Thread Cert.OutXKernelIdeal.nD Cert.OutXKernelIdeal.τ).loc Cert.OutXKernelIdeal.main_arg1)
      ∧ m' ((c.tc : Thread Cert.OutXReferenceIdeal.nD Cert.OutXReferenceIdeal.τ).loc Cert.OutXReferenceIdeal.main_arg2) = m ((c.tc : Thread Cert.OutXKernelIdeal.nD Cert.OutXKernelIdeal.τ).loc Cert.OutXKernelIdeal.main_arg2)) →
    ∃ (v0 : (c : Dev Cert.OutXKernelIdeal.nD) → Buf (Elt Ideal) ((c.tc : Thread Cert.OutXKernelIdeal.nD Cert.OutXKernelIdeal.τ).loc Cert.OutXKernelIdeal.main_v0)),
      θ_run (Cert.OutXKernelIdeal.defs (F := Ideal)) (onTc (τ := Cert.OutXKernelIdeal.τ) (Cert.OutXKernelIdeal.main (F := Ideal))) ⟨m, fun _ => 0, g⟩ (fun r => ∀ c : Dev Cert.OutXKernelIdeal.nD,
          r.2.mem ((c.tc : Thread Cert.OutXKernelIdeal.nD Cert.OutXKernelIdeal.τ).loc Cert.OutXKernelIdeal.main_v0) = v0 c
          ∧ r.2.mem ((c.tc : Thread Cert.OutXKernelIdeal.nD Cert.OutXKernelIdeal.τ).loc Cert.OutXKernelIdeal.main_arg0) = m ((c.tc : Thread Cert.OutXKernelIdeal.nD Cert.OutXKernelIdeal.τ).loc Cert.OutXKernelIdeal.main_arg0)
          ∧ r.2.mem ((c.tc : Thread Cert.OutXKernelIdeal.nD Cert.OutXKernelIdeal.τ).loc Cert.OutXKernelIdeal.main_arg1) = m ((c.tc : Thread Cert.OutXKernelIdeal.nD Cert.OutXKernelIdeal.τ).loc Cert.OutXKernelIdeal.main_arg1)
          ∧ r.2.mem ((c.tc : Thread Cert.OutXKernelIdeal.nD Cert.OutXKernelIdeal.τ).loc Cert.OutXKernelIdeal.main_arg2) = m ((c.tc : Thread Cert.OutXKernelIdeal.nD Cert.OutXKernelIdeal.τ).loc Cert.OutXKernelIdeal.main_arg2))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v6) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1)
          ∧ r.2.mem ((c.tc : Thread Cert.OutXReferenceIdeal.nD Cert.OutXReferenceIdeal.τ).loc Cert.OutXReferenceIdeal.main_arg2) = m' ((c.tc : Thread Cert.OutXReferenceIdeal.nD Cert.OutXReferenceIdeal.τ).loc Cert.OutXReferenceIdeal.main_arg2))

def preserves_OutWKernel_OutWKernelIdeal : Prop :=
  True

def algebraic_OutWKernelIdeal_OutWReferenceIdeal [hOutWKernelIdeal : Cert.OutWKernelIdeal.Facts] [hOutWReferenceIdeal : Cert.OutWReferenceIdeal.Facts] : Prop :=
  ∀ (m : (ℓ : Loc Cert.OutWKernelIdeal.nD Cert.OutWKernelIdeal.τ Cert.OutWKernelIdeal.sig) → Buf (Elt Ideal) ℓ) (g : Dev Cert.OutWKernelIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWKernelIdeal m →
    (∀ c : Dev Cert.OutWKernelIdeal.nD,
      m' ((c.tc : Thread Cert.OutWReferenceIdeal.nD Cert.OutWReferenceIdeal.τ).loc Cert.OutWReferenceIdeal.main_arg0) = m ((c.tc : Thread Cert.OutWKernelIdeal.nD Cert.OutWKernelIdeal.τ).loc Cert.OutWKernelIdeal.main_arg0)
      ∧ m' ((c.tc : Thread Cert.OutWReferenceIdeal.nD Cert.OutWReferenceIdeal.τ).loc Cert.OutWReferenceIdeal.main_arg1) = m ((c.tc : Thread Cert.OutWKernelIdeal.nD Cert.OutWKernelIdeal.τ).loc Cert.OutWKernelIdeal.main_arg1)
      ∧ m' ((c.tc : Thread Cert.OutWReferenceIdeal.nD Cert.OutWReferenceIdeal.τ).loc Cert.OutWReferenceIdeal.main_arg2) = m ((c.tc : Thread Cert.OutWKernelIdeal.nD Cert.OutWKernelIdeal.τ).loc Cert.OutWKernelIdeal.main_arg2)) →
    ∃ (v0 : (c : Dev Cert.OutWKernelIdeal.nD) → Buf (Elt Ideal) ((c.tc : Thread Cert.OutWKernelIdeal.nD Cert.OutWKernelIdeal.τ).loc Cert.OutWKernelIdeal.main_v0)),
      θ_run (Cert.OutWKernelIdeal.defs (F := Ideal)) (onTc (τ := Cert.OutWKernelIdeal.τ) (Cert.OutWKernelIdeal.main (F := Ideal))) ⟨m, fun _ => 0, g⟩ (fun r => ∀ c : Dev Cert.OutWKernelIdeal.nD,
          r.2.mem ((c.tc : Thread Cert.OutWKernelIdeal.nD Cert.OutWKernelIdeal.τ).loc Cert.OutWKernelIdeal.main_v0) = v0 c
          ∧ r.2.mem ((c.tc : Thread Cert.OutWKernelIdeal.nD Cert.OutWKernelIdeal.τ).loc Cert.OutWKernelIdeal.main_arg0) = m ((c.tc : Thread Cert.OutWKernelIdeal.nD Cert.OutWKernelIdeal.τ).loc Cert.OutWKernelIdeal.main_arg0)
          ∧ r.2.mem ((c.tc : Thread Cert.OutWKernelIdeal.nD Cert.OutWKernelIdeal.τ).loc Cert.OutWKernelIdeal.main_arg1) = m ((c.tc : Thread Cert.OutWKernelIdeal.nD Cert.OutWKernelIdeal.τ).loc Cert.OutWKernelIdeal.main_arg1)
          ∧ r.2.mem ((c.tc : Thread Cert.OutWKernelIdeal.nD Cert.OutWKernelIdeal.τ).loc Cert.OutWKernelIdeal.main_arg2) = m ((c.tc : Thread Cert.OutWKernelIdeal.nD Cert.OutWKernelIdeal.τ).loc Cert.OutWKernelIdeal.main_arg2))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v7) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1)
          ∧ r.2.mem ((c.tc : Thread Cert.OutWReferenceIdeal.nD Cert.OutWReferenceIdeal.τ).loc Cert.OutWReferenceIdeal.main_arg2) = m' ((c.tc : Thread Cert.OutWReferenceIdeal.nD Cert.OutWReferenceIdeal.τ).loc Cert.OutWReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v59) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_DMergeKernel_DMergeKernelIdeal : Prop :=
  True

def algebraic_DMergeKernelIdeal_DMergeReferenceIdeal [hDMergeKernelIdeal : Cert.DMergeKernelIdeal.Facts] [hDMergeReferenceIdeal : Cert.DMergeReferenceIdeal.Facts] : Prop :=
  ∀ (m : (ℓ : Loc Cert.DMergeKernelIdeal.nD Cert.DMergeKernelIdeal.τ Cert.DMergeKernelIdeal.sig) → Buf (Elt Ideal) ℓ) (g : Dev Cert.DMergeKernelIdeal.nD → PrngReg)
    (m' : (ℓ : Loc Cert.DMergeReferenceIdeal.nD Cert.DMergeReferenceIdeal.τ Cert.DMergeReferenceIdeal.sig) → Buf (Elt Ideal) ℓ) (g' : Dev Cert.DMergeReferenceIdeal.nD → PrngReg), Pre_DMergeKernelIdeal m →
    (∀ c : Dev Cert.DMergeKernelIdeal.nD,
      m' ((c.tc : Thread Cert.DMergeReferenceIdeal.nD Cert.DMergeReferenceIdeal.τ).loc Cert.DMergeReferenceIdeal.main_arg0) = m ((c.tc : Thread Cert.DMergeKernelIdeal.nD Cert.DMergeKernelIdeal.τ).loc Cert.DMergeKernelIdeal.main_arg0)
      ∧ m' ((c.tc : Thread Cert.DMergeReferenceIdeal.nD Cert.DMergeReferenceIdeal.τ).loc Cert.DMergeReferenceIdeal.main_arg1) = m ((c.tc : Thread Cert.DMergeKernelIdeal.nD Cert.DMergeKernelIdeal.τ).loc Cert.DMergeKernelIdeal.main_arg1)
      ∧ m' ((c.tc : Thread Cert.DMergeReferenceIdeal.nD Cert.DMergeReferenceIdeal.τ).loc Cert.DMergeReferenceIdeal.main_arg2) = m ((c.tc : Thread Cert.DMergeKernelIdeal.nD Cert.DMergeKernelIdeal.τ).loc Cert.DMergeKernelIdeal.main_arg2)
      ∧ m' ((c.tc : Thread Cert.DMergeReferenceIdeal.nD Cert.DMergeReferenceIdeal.τ).loc Cert.DMergeReferenceIdeal.main_arg3) = m ((c.tc : Thread Cert.DMergeKernelIdeal.nD Cert.DMergeKernelIdeal.τ).loc Cert.DMergeKernelIdeal.main_arg3)
      ∧ m' ((c.tc : Thread Cert.DMergeReferenceIdeal.nD Cert.DMergeReferenceIdeal.τ).loc Cert.DMergeReferenceIdeal.main_arg4) = m ((c.tc : Thread Cert.DMergeKernelIdeal.nD Cert.DMergeKernelIdeal.τ).loc Cert.DMergeKernelIdeal.main_arg4)
      ∧ m' ((c.tc : Thread Cert.DMergeReferenceIdeal.nD Cert.DMergeReferenceIdeal.τ).loc Cert.DMergeReferenceIdeal.main_arg5) = m ((c.tc : Thread Cert.DMergeKernelIdeal.nD Cert.DMergeKernelIdeal.τ).loc Cert.DMergeKernelIdeal.main_arg5)
      ∧ m' ((c.tc : Thread Cert.DMergeReferenceIdeal.nD Cert.DMergeReferenceIdeal.τ).loc Cert.DMergeReferenceIdeal.main_arg6) = m ((c.tc : Thread Cert.DMergeKernelIdeal.nD Cert.DMergeKernelIdeal.τ).loc Cert.DMergeKernelIdeal.main_arg6)
      ∧ m' ((c.tc : Thread Cert.DMergeReferenceIdeal.nD Cert.DMergeReferenceIdeal.τ).loc Cert.DMergeReferenceIdeal.main_arg7) = m ((c.tc : Thread Cert.DMergeKernelIdeal.nD Cert.DMergeKernelIdeal.τ).loc Cert.DMergeKernelIdeal.main_arg7)) →
    ∃ (v0 : (c : Dev Cert.DMergeKernelIdeal.nD) → Buf (Elt Ideal) ((c.tc : Thread Cert.DMergeKernelIdeal.nD Cert.DMergeKernelIdeal.τ).loc Cert.DMergeKernelIdeal.main_v0_0)) (v1 : (c : Dev Cert.DMergeKernelIdeal.nD) → Buf (Elt Ideal) ((c.tc : Thread Cert.DMergeKernelIdeal.nD Cert.DMergeKernelIdeal.τ).loc Cert.DMergeKernelIdeal.main_v0_1)) (v2 : (c : Dev Cert.DMergeKernelIdeal.nD) → Buf (Elt Ideal) ((c.tc : Thread Cert.DMergeKernelIdeal.nD Cert.DMergeKernelIdeal.τ).loc Cert.DMergeKernelIdeal.main_v0_2)) (v3 : (c : Dev Cert.DMergeKernelIdeal.nD) → Buf (Elt Ideal) ((c.tc : Thread Cert.DMergeKernelIdeal.nD Cert.DMergeKernelIdeal.τ).loc Cert.DMergeKernelIdeal.main_v0_3)),
      θ_run (Cert.DMergeKernelIdeal.defs (F := Ideal)) (onTc (τ := Cert.DMergeKernelIdeal.τ) (Cert.DMergeKernelIdeal.main (F := Ideal))) ⟨m, fun _ => 0, g⟩ (fun r => ∀ c : Dev Cert.DMergeKernelIdeal.nD,
          r.2.mem ((c.tc : Thread Cert.DMergeKernelIdeal.nD Cert.DMergeKernelIdeal.τ).loc Cert.DMergeKernelIdeal.main_v0_0) = v0 c
          ∧ r.2.mem ((c.tc : Thread Cert.DMergeKernelIdeal.nD Cert.DMergeKernelIdeal.τ).loc Cert.DMergeKernelIdeal.main_v0_1) = v1 c
          ∧ r.2.mem ((c.tc : Thread Cert.DMergeKernelIdeal.nD Cert.DMergeKernelIdeal.τ).loc Cert.DMergeKernelIdeal.main_v0_2) = v2 c
          ∧ r.2.mem ((c.tc : Thread Cert.DMergeKernelIdeal.nD Cert.DMergeKernelIdeal.τ).loc Cert.DMergeKernelIdeal.main_v0_3) = v3 c
          ∧ r.2.mem ((c.tc : Thread Cert.DMergeKernelIdeal.nD Cert.DMergeKernelIdeal.τ).loc Cert.DMergeKernelIdeal.main_arg0) = m ((c.tc : Thread Cert.DMergeKernelIdeal.nD Cert.DMergeKernelIdeal.τ).loc Cert.DMergeKernelIdeal.main_arg0)
          ∧ r.2.mem ((c.tc : Thread Cert.DMergeKernelIdeal.nD Cert.DMergeKernelIdeal.τ).loc Cert.DMergeKernelIdeal.main_arg1) = m ((c.tc : Thread Cert.DMergeKernelIdeal.nD Cert.DMergeKernelIdeal.τ).loc Cert.DMergeKernelIdeal.main_arg1)
          ∧ r.2.mem ((c.tc : Thread Cert.DMergeKernelIdeal.nD Cert.DMergeKernelIdeal.τ).loc Cert.DMergeKernelIdeal.main_arg2) = m ((c.tc : Thread Cert.DMergeKernelIdeal.nD Cert.DMergeKernelIdeal.τ).loc Cert.DMergeKernelIdeal.main_arg2)
          ∧ r.2.mem ((c.tc : Thread Cert.DMergeKernelIdeal.nD Cert.DMergeKernelIdeal.τ).loc Cert.DMergeKernelIdeal.main_arg3) = m ((c.tc : Thread Cert.DMergeKernelIdeal.nD Cert.DMergeKernelIdeal.τ).loc Cert.DMergeKernelIdeal.main_arg3)
          ∧ r.2.mem ((c.tc : Thread Cert.DMergeKernelIdeal.nD Cert.DMergeKernelIdeal.τ).loc Cert.DMergeKernelIdeal.main_arg4) = m ((c.tc : Thread Cert.DMergeKernelIdeal.nD Cert.DMergeKernelIdeal.τ).loc Cert.DMergeKernelIdeal.main_arg4)
          ∧ r.2.mem ((c.tc : Thread Cert.DMergeKernelIdeal.nD Cert.DMergeKernelIdeal.τ).loc Cert.DMergeKernelIdeal.main_arg5) = m ((c.tc : Thread Cert.DMergeKernelIdeal.nD Cert.DMergeKernelIdeal.τ).loc Cert.DMergeKernelIdeal.main_arg5)
          ∧ r.2.mem ((c.tc : Thread Cert.DMergeKernelIdeal.nD Cert.DMergeKernelIdeal.τ).loc Cert.DMergeKernelIdeal.main_arg6) = m ((c.tc : Thread Cert.DMergeKernelIdeal.nD Cert.DMergeKernelIdeal.τ).loc Cert.DMergeKernelIdeal.main_arg6)
          ∧ r.2.mem ((c.tc : Thread Cert.DMergeKernelIdeal.nD Cert.DMergeKernelIdeal.τ).loc Cert.DMergeKernelIdeal.main_arg7) = m ((c.tc : Thread Cert.DMergeKernelIdeal.nD Cert.DMergeKernelIdeal.τ).loc Cert.DMergeKernelIdeal.main_arg7))
      ∧ θ_run (Cert.DMergeReferenceIdeal.defs (F := Ideal)) (onTc (τ := Cert.DMergeReferenceIdeal.τ) (Cert.DMergeReferenceIdeal.main (F := Ideal))) ⟨m', fun _ => 0, g'⟩ (fun r => ∀ c : Dev Cert.DMergeReferenceIdeal.nD,
          r.2.mem ((c.tc : Thread Cert.DMergeReferenceIdeal.nD Cert.DMergeReferenceIdeal.τ).loc Cert.DMergeReferenceIdeal.main_v72) = v0 c
          ∧ r.2.mem ((c.tc : Thread Cert.DMergeReferenceIdeal.nD Cert.DMergeReferenceIdeal.τ).loc Cert.DMergeReferenceIdeal.main_v73) = v1 c
          ∧ r.2.mem ((c.tc : Thread Cert.DMergeReferenceIdeal.nD Cert.DMergeReferenceIdeal.τ).loc Cert.DMergeReferenceIdeal.main_v74) = v2 c
          ∧ r.2.mem ((c.tc : Thread Cert.DMergeReferenceIdeal.nD Cert.DMergeReferenceIdeal.τ).loc Cert.DMergeReferenceIdeal.main_v75) = v3 c
          ∧ r.2.mem ((c.tc : Thread Cert.DMergeReferenceIdeal.nD Cert.DMergeReferenceIdeal.τ).loc Cert.DMergeReferenceIdeal.main_arg0) = m' ((c.tc : Thread Cert.DMergeReferenceIdeal.nD Cert.DMergeReferenceIdeal.τ).loc Cert.DMergeReferenceIdeal.main_arg0)
          ∧ r.2.mem ((c.tc : Thread Cert.DMergeReferenceIdeal.nD Cert.DMergeReferenceIdeal.τ).loc Cert.DMergeReferenceIdeal.main_arg1) = m' ((c.tc : Thread Cert.DMergeReferenceIdeal.nD Cert.DMergeReferenceIdeal.τ).loc Cert.DMergeReferenceIdeal.main_arg1)
          ∧ r.2.mem ((c.tc : Thread Cert.DMergeReferenceIdeal.nD Cert.DMergeReferenceIdeal.τ).loc Cert.DMergeReferenceIdeal.main_arg2) = m' ((c.tc : Thread Cert.DMergeReferenceIdeal.nD Cert.DMergeReferenceIdeal.τ).loc Cert.DMergeReferenceIdeal.main_arg2)
          ∧ r.2.mem ((c.tc : Thread Cert.DMergeReferenceIdeal.nD Cert.DMergeReferenceIdeal.τ).loc Cert.DMergeReferenceIdeal.main_arg3) = m' ((c.tc : Thread Cert.DMergeReferenceIdeal.nD Cert.DMergeReferenceIdeal.τ).loc Cert.DMergeReferenceIdeal.main_arg3)
          ∧ r.2.mem ((c.tc : Thread Cert.DMergeReferenceIdeal.nD Cert.DMergeReferenceIdeal.τ).loc Cert.DMergeReferenceIdeal.main_arg4) = m' ((c.tc : Thread Cert.DMergeReferenceIdeal.nD Cert.DMergeReferenceIdeal.τ).loc Cert.DMergeReferenceIdeal.main_arg4)
          ∧ r.2.mem ((c.tc : Thread Cert.DMergeReferenceIdeal.nD Cert.DMergeReferenceIdeal.τ).loc Cert.DMergeReferenceIdeal.main_arg5) = m' ((c.tc : Thread Cert.DMergeReferenceIdeal.nD Cert.DMergeReferenceIdeal.τ).loc Cert.DMergeReferenceIdeal.main_arg5)
          ∧ r.2.mem ((c.tc : Thread Cert.DMergeReferenceIdeal.nD Cert.DMergeReferenceIdeal.τ).loc Cert.DMergeReferenceIdeal.main_arg6) = m' ((c.tc : Thread Cert.DMergeReferenceIdeal.nD Cert.DMergeReferenceIdeal.τ).loc Cert.DMergeReferenceIdeal.main_arg6)
          ∧ r.2.mem ((c.tc : Thread Cert.DMergeReferenceIdeal.nD Cert.DMergeReferenceIdeal.τ).loc Cert.DMergeReferenceIdeal.main_arg7) = m' ((c.tc : Thread Cert.DMergeReferenceIdeal.nD Cert.DMergeReferenceIdeal.τ).loc Cert.DMergeReferenceIdeal.main_arg7))

def preserves_UpAXKernel_UpAXKernelIdeal : Prop :=
  True

def algebraic_UpAXKernelIdeal_UpAXReferenceIdeal [hUpAXKernelIdeal : Cert.UpAXKernelIdeal.Facts] [hUpAXReferenceIdeal : Cert.UpAXReferenceIdeal.Facts] : Prop :=
  ∀ (m : (ℓ : Loc Cert.UpAXKernelIdeal.nD Cert.UpAXKernelIdeal.τ Cert.UpAXKernelIdeal.sig) → Buf (Elt Ideal) ℓ) (g : Dev Cert.UpAXKernelIdeal.nD → PrngReg)
    (m' : (ℓ : Loc Cert.UpAXReferenceIdeal.nD Cert.UpAXReferenceIdeal.τ Cert.UpAXReferenceIdeal.sig) → Buf (Elt Ideal) ℓ) (g' : Dev Cert.UpAXReferenceIdeal.nD → PrngReg), Pre_UpAXKernelIdeal m →
    (∀ c : Dev Cert.UpAXKernelIdeal.nD,
      m' ((c.tc : Thread Cert.UpAXReferenceIdeal.nD Cert.UpAXReferenceIdeal.τ).loc Cert.UpAXReferenceIdeal.main_arg0) = m ((c.tc : Thread Cert.UpAXKernelIdeal.nD Cert.UpAXKernelIdeal.τ).loc Cert.UpAXKernelIdeal.main_arg0)
      ∧ m' ((c.tc : Thread Cert.UpAXReferenceIdeal.nD Cert.UpAXReferenceIdeal.τ).loc Cert.UpAXReferenceIdeal.main_arg1) = m ((c.tc : Thread Cert.UpAXKernelIdeal.nD Cert.UpAXKernelIdeal.τ).loc Cert.UpAXKernelIdeal.main_arg1)
      ∧ m' ((c.tc : Thread Cert.UpAXReferenceIdeal.nD Cert.UpAXReferenceIdeal.τ).loc Cert.UpAXReferenceIdeal.main_arg2) = m ((c.tc : Thread Cert.UpAXKernelIdeal.nD Cert.UpAXKernelIdeal.τ).loc Cert.UpAXKernelIdeal.main_arg2)
      ∧ m' ((c.tc : Thread Cert.UpAXReferenceIdeal.nD Cert.UpAXReferenceIdeal.τ).loc Cert.UpAXReferenceIdeal.main_arg3) = m ((c.tc : Thread Cert.UpAXKernelIdeal.nD Cert.UpAXKernelIdeal.τ).loc Cert.UpAXKernelIdeal.main_arg3)) →
    ∃ (v0 : (c : Dev Cert.UpAXKernelIdeal.nD) → Buf (Elt Ideal) ((c.tc : Thread Cert.UpAXKernelIdeal.nD Cert.UpAXKernelIdeal.τ).loc Cert.UpAXKernelIdeal.main_v8)),
      θ_run (Cert.UpAXKernelIdeal.defs (F := Ideal)) (onTc (τ := Cert.UpAXKernelIdeal.τ) (Cert.UpAXKernelIdeal.main (F := Ideal))) ⟨m, fun _ => 0, g⟩ (fun r => ∀ c : Dev Cert.UpAXKernelIdeal.nD,
          r.2.mem ((c.tc : Thread Cert.UpAXKernelIdeal.nD Cert.UpAXKernelIdeal.τ).loc Cert.UpAXKernelIdeal.main_v8) = v0 c
          ∧ r.2.mem ((c.tc : Thread Cert.UpAXKernelIdeal.nD Cert.UpAXKernelIdeal.τ).loc Cert.UpAXKernelIdeal.main_arg0) = m ((c.tc : Thread Cert.UpAXKernelIdeal.nD Cert.UpAXKernelIdeal.τ).loc Cert.UpAXKernelIdeal.main_arg0)
          ∧ r.2.mem ((c.tc : Thread Cert.UpAXKernelIdeal.nD Cert.UpAXKernelIdeal.τ).loc Cert.UpAXKernelIdeal.main_arg1) = m ((c.tc : Thread Cert.UpAXKernelIdeal.nD Cert.UpAXKernelIdeal.τ).loc Cert.UpAXKernelIdeal.main_arg1)
          ∧ r.2.mem ((c.tc : Thread Cert.UpAXKernelIdeal.nD Cert.UpAXKernelIdeal.τ).loc Cert.UpAXKernelIdeal.main_arg2) = m ((c.tc : Thread Cert.UpAXKernelIdeal.nD Cert.UpAXKernelIdeal.τ).loc Cert.UpAXKernelIdeal.main_arg2)
          ∧ r.2.mem ((c.tc : Thread Cert.UpAXKernelIdeal.nD Cert.UpAXKernelIdeal.τ).loc Cert.UpAXKernelIdeal.main_arg3) = m ((c.tc : Thread Cert.UpAXKernelIdeal.nD Cert.UpAXKernelIdeal.τ).loc Cert.UpAXKernelIdeal.main_arg3))
      ∧ θ_run (Cert.UpAXReferenceIdeal.defs (F := Ideal)) (onTc (τ := Cert.UpAXReferenceIdeal.τ) (Cert.UpAXReferenceIdeal.main (F := Ideal))) ⟨m', fun _ => 0, g'⟩ (fun r => ∀ c : Dev Cert.UpAXReferenceIdeal.nD,
          r.2.mem ((c.tc : Thread Cert.UpAXReferenceIdeal.nD Cert.UpAXReferenceIdeal.τ).loc Cert.UpAXReferenceIdeal.main_v38) = v0 c
          ∧ r.2.mem ((c.tc : Thread Cert.UpAXReferenceIdeal.nD Cert.UpAXReferenceIdeal.τ).loc Cert.UpAXReferenceIdeal.main_arg0) = m' ((c.tc : Thread Cert.UpAXReferenceIdeal.nD Cert.UpAXReferenceIdeal.τ).loc Cert.UpAXReferenceIdeal.main_arg0)
          ∧ r.2.mem ((c.tc : Thread Cert.UpAXReferenceIdeal.nD Cert.UpAXReferenceIdeal.τ).loc Cert.UpAXReferenceIdeal.main_arg1) = m' ((c.tc : Thread Cert.UpAXReferenceIdeal.nD Cert.UpAXReferenceIdeal.τ).loc Cert.UpAXReferenceIdeal.main_arg1)
          ∧ r.2.mem ((c.tc : Thread Cert.UpAXReferenceIdeal.nD Cert.UpAXReferenceIdeal.τ).loc Cert.UpAXReferenceIdeal.main_arg2) = m' ((c.tc : Thread Cert.UpAXReferenceIdeal.nD Cert.UpAXReferenceIdeal.τ).loc Cert.UpAXReferenceIdeal.main_arg2)
          ∧ r.2.mem ((c.tc : Thread Cert.UpAXReferenceIdeal.nD Cert.UpAXReferenceIdeal.τ).loc Cert.UpAXReferenceIdeal.main_arg3) = m' ((c.tc : Thread Cert.UpAXReferenceIdeal.nD Cert.UpAXReferenceIdeal.τ).loc Cert.UpAXReferenceIdeal.main_arg3))

def preserves_UpAWKernel_UpAWKernelIdeal : Prop :=
  True

def algebraic_UpAWKernelIdeal_UpAWReferenceIdeal [hUpAWKernelIdeal : Cert.UpAWKernelIdeal.Facts] [hUpAWReferenceIdeal : Cert.UpAWReferenceIdeal.Facts] : Prop :=
  ∀ (m : (ℓ : Loc Cert.UpAWKernelIdeal.nD Cert.UpAWKernelIdeal.τ Cert.UpAWKernelIdeal.sig) → Buf (Elt Ideal) ℓ) (g : Dev Cert.UpAWKernelIdeal.nD → PrngReg)
    (m' : (ℓ : Loc Cert.UpAWReferenceIdeal.nD Cert.UpAWReferenceIdeal.τ Cert.UpAWReferenceIdeal.sig) → Buf (Elt Ideal) ℓ) (g' : Dev Cert.UpAWReferenceIdeal.nD → PrngReg), Pre_UpAWKernelIdeal m →
    (∀ c : Dev Cert.UpAWKernelIdeal.nD,
      m' ((c.tc : Thread Cert.UpAWReferenceIdeal.nD Cert.UpAWReferenceIdeal.τ).loc Cert.UpAWReferenceIdeal.main_arg0) = m ((c.tc : Thread Cert.UpAWKernelIdeal.nD Cert.UpAWKernelIdeal.τ).loc Cert.UpAWKernelIdeal.main_arg0)
      ∧ m' ((c.tc : Thread Cert.UpAWReferenceIdeal.nD Cert.UpAWReferenceIdeal.τ).loc Cert.UpAWReferenceIdeal.main_arg1) = m ((c.tc : Thread Cert.UpAWKernelIdeal.nD Cert.UpAWKernelIdeal.τ).loc Cert.UpAWKernelIdeal.main_arg1)
      ∧ m' ((c.tc : Thread Cert.UpAWReferenceIdeal.nD Cert.UpAWReferenceIdeal.τ).loc Cert.UpAWReferenceIdeal.main_arg2) = m ((c.tc : Thread Cert.UpAWKernelIdeal.nD Cert.UpAWKernelIdeal.τ).loc Cert.UpAWKernelIdeal.main_arg2)
      ∧ m' ((c.tc : Thread Cert.UpAWReferenceIdeal.nD Cert.UpAWReferenceIdeal.τ).loc Cert.UpAWReferenceIdeal.main_arg3) = m ((c.tc : Thread Cert.UpAWKernelIdeal.nD Cert.UpAWKernelIdeal.τ).loc Cert.UpAWKernelIdeal.main_arg3)) →
    ∃ (v0 : (c : Dev Cert.UpAWKernelIdeal.nD) → Buf (Elt Ideal) ((c.tc : Thread Cert.UpAWKernelIdeal.nD Cert.UpAWKernelIdeal.τ).loc Cert.UpAWKernelIdeal.main_v8)),
      θ_run (Cert.UpAWKernelIdeal.defs (F := Ideal)) (onTc (τ := Cert.UpAWKernelIdeal.τ) (Cert.UpAWKernelIdeal.main (F := Ideal))) ⟨m, fun _ => 0, g⟩ (fun r => ∀ c : Dev Cert.UpAWKernelIdeal.nD,
          r.2.mem ((c.tc : Thread Cert.UpAWKernelIdeal.nD Cert.UpAWKernelIdeal.τ).loc Cert.UpAWKernelIdeal.main_v8) = v0 c
          ∧ r.2.mem ((c.tc : Thread Cert.UpAWKernelIdeal.nD Cert.UpAWKernelIdeal.τ).loc Cert.UpAWKernelIdeal.main_arg0) = m ((c.tc : Thread Cert.UpAWKernelIdeal.nD Cert.UpAWKernelIdeal.τ).loc Cert.UpAWKernelIdeal.main_arg0)
          ∧ r.2.mem ((c.tc : Thread Cert.UpAWKernelIdeal.nD Cert.UpAWKernelIdeal.τ).loc Cert.UpAWKernelIdeal.main_arg1) = m ((c.tc : Thread Cert.UpAWKernelIdeal.nD Cert.UpAWKernelIdeal.τ).loc Cert.UpAWKernelIdeal.main_arg1)
          ∧ r.2.mem ((c.tc : Thread Cert.UpAWKernelIdeal.nD Cert.UpAWKernelIdeal.τ).loc Cert.UpAWKernelIdeal.main_arg2) = m ((c.tc : Thread Cert.UpAWKernelIdeal.nD Cert.UpAWKernelIdeal.τ).loc Cert.UpAWKernelIdeal.main_arg2)
          ∧ r.2.mem ((c.tc : Thread Cert.UpAWKernelIdeal.nD Cert.UpAWKernelIdeal.τ).loc Cert.UpAWKernelIdeal.main_arg3) = m ((c.tc : Thread Cert.UpAWKernelIdeal.nD Cert.UpAWKernelIdeal.τ).loc Cert.UpAWKernelIdeal.main_arg3))
      ∧ θ_run (Cert.UpAWReferenceIdeal.defs (F := Ideal)) (onTc (τ := Cert.UpAWReferenceIdeal.τ) (Cert.UpAWReferenceIdeal.main (F := Ideal))) ⟨m', fun _ => 0, g'⟩ (fun r => ∀ c : Dev Cert.UpAWReferenceIdeal.nD,
          r.2.mem ((c.tc : Thread Cert.UpAWReferenceIdeal.nD Cert.UpAWReferenceIdeal.τ).loc Cert.UpAWReferenceIdeal.main_v38) = v0 c
          ∧ r.2.mem ((c.tc : Thread Cert.UpAWReferenceIdeal.nD Cert.UpAWReferenceIdeal.τ).loc Cert.UpAWReferenceIdeal.main_arg0) = m' ((c.tc : Thread Cert.UpAWReferenceIdeal.nD Cert.UpAWReferenceIdeal.τ).loc Cert.UpAWReferenceIdeal.main_arg0)
          ∧ r.2.mem ((c.tc : Thread Cert.UpAWReferenceIdeal.nD Cert.UpAWReferenceIdeal.τ).loc Cert.UpAWReferenceIdeal.main_arg1) = m' ((c.tc : Thread Cert.UpAWReferenceIdeal.nD Cert.UpAWReferenceIdeal.τ).loc Cert.UpAWReferenceIdeal.main_arg1)
          ∧ r.2.mem ((c.tc : Thread Cert.UpAWReferenceIdeal.nD Cert.UpAWReferenceIdeal.τ).loc Cert.UpAWReferenceIdeal.main_arg2) = m' ((c.tc : Thread Cert.UpAWReferenceIdeal.nD Cert.UpAWReferenceIdeal.τ).loc Cert.UpAWReferenceIdeal.main_arg2)
          ∧ r.2.mem ((c.tc : Thread Cert.UpAWReferenceIdeal.nD Cert.UpAWReferenceIdeal.τ).loc Cert.UpAWReferenceIdeal.main_arg3) = m' ((c.tc : Thread Cert.UpAWReferenceIdeal.nD Cert.UpAWReferenceIdeal.τ).loc Cert.UpAWReferenceIdeal.main_arg3))

def preserves_UpBXKernel_UpBXKernelIdeal : Prop :=
  True

def algebraic_UpBXKernelIdeal_UpBXReferenceIdeal [hUpBXKernelIdeal : Cert.UpBXKernelIdeal.Facts] [hUpBXReferenceIdeal : Cert.UpBXReferenceIdeal.Facts] : Prop :=
  ∀ (m : (ℓ : Loc Cert.UpBXKernelIdeal.nD Cert.UpBXKernelIdeal.τ Cert.UpBXKernelIdeal.sig) → Buf (Elt Ideal) ℓ) (g : Dev Cert.UpBXKernelIdeal.nD → PrngReg)
    (m' : (ℓ : Loc Cert.UpBXReferenceIdeal.nD Cert.UpBXReferenceIdeal.τ Cert.UpBXReferenceIdeal.sig) → Buf (Elt Ideal) ℓ) (g' : Dev Cert.UpBXReferenceIdeal.nD → PrngReg), Pre_UpBXKernelIdeal m →
    (∀ c : Dev Cert.UpBXKernelIdeal.nD,
      m' ((c.tc : Thread Cert.UpBXReferenceIdeal.nD Cert.UpBXReferenceIdeal.τ).loc Cert.UpBXReferenceIdeal.main_arg0) = m ((c.tc : Thread Cert.UpBXKernelIdeal.nD Cert.UpBXKernelIdeal.τ).loc Cert.UpBXKernelIdeal.main_arg0)
      ∧ m' ((c.tc : Thread Cert.UpBXReferenceIdeal.nD Cert.UpBXReferenceIdeal.τ).loc Cert.UpBXReferenceIdeal.main_arg1) = m ((c.tc : Thread Cert.UpBXKernelIdeal.nD Cert.UpBXKernelIdeal.τ).loc Cert.UpBXKernelIdeal.main_arg1)
      ∧ m' ((c.tc : Thread Cert.UpBXReferenceIdeal.nD Cert.UpBXReferenceIdeal.τ).loc Cert.UpBXReferenceIdeal.main_arg2) = m ((c.tc : Thread Cert.UpBXKernelIdeal.nD Cert.UpBXKernelIdeal.τ).loc Cert.UpBXKernelIdeal.main_arg2)
      ∧ m' ((c.tc : Thread Cert.UpBXReferenceIdeal.nD Cert.UpBXReferenceIdeal.τ).loc Cert.UpBXReferenceIdeal.main_arg3) = m ((c.tc : Thread Cert.UpBXKernelIdeal.nD Cert.UpBXKernelIdeal.τ).loc Cert.UpBXKernelIdeal.main_arg3)) →
    ∃ (v0 : (c : Dev Cert.UpBXKernelIdeal.nD) → Buf (Elt Ideal) ((c.tc : Thread Cert.UpBXKernelIdeal.nD Cert.UpBXKernelIdeal.τ).loc Cert.UpBXKernelIdeal.main_v8)),
      θ_run (Cert.UpBXKernelIdeal.defs (F := Ideal)) (onTc (τ := Cert.UpBXKernelIdeal.τ) (Cert.UpBXKernelIdeal.main (F := Ideal))) ⟨m, fun _ => 0, g⟩ (fun r => ∀ c : Dev Cert.UpBXKernelIdeal.nD,
          r.2.mem ((c.tc : Thread Cert.UpBXKernelIdeal.nD Cert.UpBXKernelIdeal.τ).loc Cert.UpBXKernelIdeal.main_v8) = v0 c
          ∧ r.2.mem ((c.tc : Thread Cert.UpBXKernelIdeal.nD Cert.UpBXKernelIdeal.τ).loc Cert.UpBXKernelIdeal.main_arg0) = m ((c.tc : Thread Cert.UpBXKernelIdeal.nD Cert.UpBXKernelIdeal.τ).loc Cert.UpBXKernelIdeal.main_arg0)
          ∧ r.2.mem ((c.tc : Thread Cert.UpBXKernelIdeal.nD Cert.UpBXKernelIdeal.τ).loc Cert.UpBXKernelIdeal.main_arg1) = m ((c.tc : Thread Cert.UpBXKernelIdeal.nD Cert.UpBXKernelIdeal.τ).loc Cert.UpBXKernelIdeal.main_arg1)
          ∧ r.2.mem ((c.tc : Thread Cert.UpBXKernelIdeal.nD Cert.UpBXKernelIdeal.τ).loc Cert.UpBXKernelIdeal.main_arg2) = m ((c.tc : Thread Cert.UpBXKernelIdeal.nD Cert.UpBXKernelIdeal.τ).loc Cert.UpBXKernelIdeal.main_arg2)
          ∧ r.2.mem ((c.tc : Thread Cert.UpBXKernelIdeal.nD Cert.UpBXKernelIdeal.τ).loc Cert.UpBXKernelIdeal.main_arg3) = m ((c.tc : Thread Cert.UpBXKernelIdeal.nD Cert.UpBXKernelIdeal.τ).loc Cert.UpBXKernelIdeal.main_arg3))
      ∧ θ_run (Cert.UpBXReferenceIdeal.defs (F := Ideal)) (onTc (τ := Cert.UpBXReferenceIdeal.τ) (Cert.UpBXReferenceIdeal.main (F := Ideal))) ⟨m', fun _ => 0, g'⟩ (fun r => ∀ c : Dev Cert.UpBXReferenceIdeal.nD,
          r.2.mem ((c.tc : Thread Cert.UpBXReferenceIdeal.nD Cert.UpBXReferenceIdeal.τ).loc Cert.UpBXReferenceIdeal.main_v38) = v0 c
          ∧ r.2.mem ((c.tc : Thread Cert.UpBXReferenceIdeal.nD Cert.UpBXReferenceIdeal.τ).loc Cert.UpBXReferenceIdeal.main_arg0) = m' ((c.tc : Thread Cert.UpBXReferenceIdeal.nD Cert.UpBXReferenceIdeal.τ).loc Cert.UpBXReferenceIdeal.main_arg0)
          ∧ r.2.mem ((c.tc : Thread Cert.UpBXReferenceIdeal.nD Cert.UpBXReferenceIdeal.τ).loc Cert.UpBXReferenceIdeal.main_arg1) = m' ((c.tc : Thread Cert.UpBXReferenceIdeal.nD Cert.UpBXReferenceIdeal.τ).loc Cert.UpBXReferenceIdeal.main_arg1)
          ∧ r.2.mem ((c.tc : Thread Cert.UpBXReferenceIdeal.nD Cert.UpBXReferenceIdeal.τ).loc Cert.UpBXReferenceIdeal.main_arg2) = m' ((c.tc : Thread Cert.UpBXReferenceIdeal.nD Cert.UpBXReferenceIdeal.τ).loc Cert.UpBXReferenceIdeal.main_arg2)
          ∧ r.2.mem ((c.tc : Thread Cert.UpBXReferenceIdeal.nD Cert.UpBXReferenceIdeal.τ).loc Cert.UpBXReferenceIdeal.main_arg3) = m' ((c.tc : Thread Cert.UpBXReferenceIdeal.nD Cert.UpBXReferenceIdeal.τ).loc Cert.UpBXReferenceIdeal.main_arg3))

def preserves_UpBWKernel_UpBWKernelIdeal : Prop :=
  True

def algebraic_UpBWKernelIdeal_UpBWReferenceIdeal [hUpBWKernelIdeal : Cert.UpBWKernelIdeal.Facts] [hUpBWReferenceIdeal : Cert.UpBWReferenceIdeal.Facts] : Prop :=
  ∀ (m : (ℓ : Loc Cert.UpBWKernelIdeal.nD Cert.UpBWKernelIdeal.τ Cert.UpBWKernelIdeal.sig) → Buf (Elt Ideal) ℓ) (g : Dev Cert.UpBWKernelIdeal.nD → PrngReg)
    (m' : (ℓ : Loc Cert.UpBWReferenceIdeal.nD Cert.UpBWReferenceIdeal.τ Cert.UpBWReferenceIdeal.sig) → Buf (Elt Ideal) ℓ) (g' : Dev Cert.UpBWReferenceIdeal.nD → PrngReg), Pre_UpBWKernelIdeal m →
    (∀ c : Dev Cert.UpBWKernelIdeal.nD,
      m' ((c.tc : Thread Cert.UpBWReferenceIdeal.nD Cert.UpBWReferenceIdeal.τ).loc Cert.UpBWReferenceIdeal.main_arg0) = m ((c.tc : Thread Cert.UpBWKernelIdeal.nD Cert.UpBWKernelIdeal.τ).loc Cert.UpBWKernelIdeal.main_arg0)
      ∧ m' ((c.tc : Thread Cert.UpBWReferenceIdeal.nD Cert.UpBWReferenceIdeal.τ).loc Cert.UpBWReferenceIdeal.main_arg1) = m ((c.tc : Thread Cert.UpBWKernelIdeal.nD Cert.UpBWKernelIdeal.τ).loc Cert.UpBWKernelIdeal.main_arg1)
      ∧ m' ((c.tc : Thread Cert.UpBWReferenceIdeal.nD Cert.UpBWReferenceIdeal.τ).loc Cert.UpBWReferenceIdeal.main_arg2) = m ((c.tc : Thread Cert.UpBWKernelIdeal.nD Cert.UpBWKernelIdeal.τ).loc Cert.UpBWKernelIdeal.main_arg2)
      ∧ m' ((c.tc : Thread Cert.UpBWReferenceIdeal.nD Cert.UpBWReferenceIdeal.τ).loc Cert.UpBWReferenceIdeal.main_arg3) = m ((c.tc : Thread Cert.UpBWKernelIdeal.nD Cert.UpBWKernelIdeal.τ).loc Cert.UpBWKernelIdeal.main_arg3)) →
    ∃ (v0 : (c : Dev Cert.UpBWKernelIdeal.nD) → Buf (Elt Ideal) ((c.tc : Thread Cert.UpBWKernelIdeal.nD Cert.UpBWKernelIdeal.τ).loc Cert.UpBWKernelIdeal.main_v8)),
      θ_run (Cert.UpBWKernelIdeal.defs (F := Ideal)) (onTc (τ := Cert.UpBWKernelIdeal.τ) (Cert.UpBWKernelIdeal.main (F := Ideal))) ⟨m, fun _ => 0, g⟩ (fun r => ∀ c : Dev Cert.UpBWKernelIdeal.nD,
          r.2.mem ((c.tc : Thread Cert.UpBWKernelIdeal.nD Cert.UpBWKernelIdeal.τ).loc Cert.UpBWKernelIdeal.main_v8) = v0 c
          ∧ r.2.mem ((c.tc : Thread Cert.UpBWKernelIdeal.nD Cert.UpBWKernelIdeal.τ).loc Cert.UpBWKernelIdeal.main_arg0) = m ((c.tc : Thread Cert.UpBWKernelIdeal.nD Cert.UpBWKernelIdeal.τ).loc Cert.UpBWKernelIdeal.main_arg0)
          ∧ r.2.mem ((c.tc : Thread Cert.UpBWKernelIdeal.nD Cert.UpBWKernelIdeal.τ).loc Cert.UpBWKernelIdeal.main_arg1) = m ((c.tc : Thread Cert.UpBWKernelIdeal.nD Cert.UpBWKernelIdeal.τ).loc Cert.UpBWKernelIdeal.main_arg1)
          ∧ r.2.mem ((c.tc : Thread Cert.UpBWKernelIdeal.nD Cert.UpBWKernelIdeal.τ).loc Cert.UpBWKernelIdeal.main_arg2) = m ((c.tc : Thread Cert.UpBWKernelIdeal.nD Cert.UpBWKernelIdeal.τ).loc Cert.UpBWKernelIdeal.main_arg2)
          ∧ r.2.mem ((c.tc : Thread Cert.UpBWKernelIdeal.nD Cert.UpBWKernelIdeal.τ).loc Cert.UpBWKernelIdeal.main_arg3) = m ((c.tc : Thread Cert.UpBWKernelIdeal.nD Cert.UpBWKernelIdeal.τ).loc Cert.UpBWKernelIdeal.main_arg3))
      ∧ θ_run (Cert.UpBWReferenceIdeal.defs (F := Ideal)) (onTc (τ := Cert.UpBWReferenceIdeal.τ) (Cert.UpBWReferenceIdeal.main (F := Ideal))) ⟨m', fun _ => 0, g'⟩ (fun r => ∀ c : Dev Cert.UpBWReferenceIdeal.nD,
          r.2.mem ((c.tc : Thread Cert.UpBWReferenceIdeal.nD Cert.UpBWReferenceIdeal.τ).loc Cert.UpBWReferenceIdeal.main_v38) = v0 c
          ∧ r.2.mem ((c.tc : Thread Cert.UpBWReferenceIdeal.nD Cert.UpBWReferenceIdeal.τ).loc Cert.UpBWReferenceIdeal.main_arg0) = m' ((c.tc : Thread Cert.UpBWReferenceIdeal.nD Cert.UpBWReferenceIdeal.τ).loc Cert.UpBWReferenceIdeal.main_arg0)
          ∧ r.2.mem ((c.tc : Thread Cert.UpBWReferenceIdeal.nD Cert.UpBWReferenceIdeal.τ).loc Cert.UpBWReferenceIdeal.main_arg1) = m' ((c.tc : Thread Cert.UpBWReferenceIdeal.nD Cert.UpBWReferenceIdeal.τ).loc Cert.UpBWReferenceIdeal.main_arg1)
          ∧ r.2.mem ((c.tc : Thread Cert.UpBWReferenceIdeal.nD Cert.UpBWReferenceIdeal.τ).loc Cert.UpBWReferenceIdeal.main_arg2) = m' ((c.tc : Thread Cert.UpBWReferenceIdeal.nD Cert.UpBWReferenceIdeal.τ).loc Cert.UpBWReferenceIdeal.main_arg2)
          ∧ r.2.mem ((c.tc : Thread Cert.UpBWReferenceIdeal.nD Cert.UpBWReferenceIdeal.τ).loc Cert.UpBWReferenceIdeal.main_arg3) = m' ((c.tc : Thread Cert.UpBWReferenceIdeal.nD Cert.UpBWReferenceIdeal.τ).loc Cert.UpBWReferenceIdeal.main_arg3))

def preserves_RmsFwdKernel_RmsFwdKernelIdeal : Prop :=
  True

def algebraic_RmsFwdKernelIdeal_RmsFwdReferenceIdeal [hRmsFwdKernelIdeal : Cert.RmsFwdKernelIdeal.Facts] [hRmsFwdReferenceIdeal : Cert.RmsFwdReferenceIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdKernelIdeal m →
    (∀ c : Dev Cert.RmsFwdKernelIdeal.nD,
      m' ((c.tc : Thread Cert.RmsFwdReferenceIdeal.nD Cert.RmsFwdReferenceIdeal.τ).loc Cert.RmsFwdReferenceIdeal.main_arg0) = m ((c.tc : Thread Cert.RmsFwdKernelIdeal.nD Cert.RmsFwdKernelIdeal.τ).loc Cert.RmsFwdKernelIdeal.main_arg0)
      ∧ m' ((c.tc : Thread Cert.RmsFwdReferenceIdeal.nD Cert.RmsFwdReferenceIdeal.τ).loc Cert.RmsFwdReferenceIdeal.main_arg1) = m ((c.tc : Thread Cert.RmsFwdKernelIdeal.nD Cert.RmsFwdKernelIdeal.τ).loc Cert.RmsFwdKernelIdeal.main_arg1)) →
    ∃ (v0 : (c : Dev Cert.RmsFwdKernelIdeal.nD) → Buf (Elt Ideal) ((c.tc : Thread Cert.RmsFwdKernelIdeal.nD Cert.RmsFwdKernelIdeal.τ).loc Cert.RmsFwdKernelIdeal.main_v0)),
      θ_run (Cert.RmsFwdKernelIdeal.defs (F := Ideal)) (onTc (τ := Cert.RmsFwdKernelIdeal.τ) (Cert.RmsFwdKernelIdeal.main (F := Ideal))) ⟨m, fun _ => 0, g⟩ (fun r => ∀ c : Dev Cert.RmsFwdKernelIdeal.nD,
          r.2.mem ((c.tc : Thread Cert.RmsFwdKernelIdeal.nD Cert.RmsFwdKernelIdeal.τ).loc Cert.RmsFwdKernelIdeal.main_v0) = v0 c
          ∧ r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
          ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v12) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_RmsBwdKernel_RmsBwdKernelIdeal : Prop :=
  True

def algebraic_RmsBwdKernelIdeal_RmsBwdReferenceIdeal [hRmsBwdKernelIdeal : Cert.RmsBwdKernelIdeal.Facts] [hRmsBwdReferenceIdeal : Cert.RmsBwdReferenceIdeal.Facts] : Prop :=
  ∀ (m : (ℓ : Loc Cert.RmsBwdKernelIdeal.nD Cert.RmsBwdKernelIdeal.τ Cert.RmsBwdKernelIdeal.sig) → Buf (Elt Ideal) ℓ) (g : Dev Cert.RmsBwdKernelIdeal.nD → PrngReg)
    (m' : (ℓ : Loc Cert.RmsBwdReferenceIdeal.nD Cert.RmsBwdReferenceIdeal.τ Cert.RmsBwdReferenceIdeal.sig) → Buf (Elt Ideal) ℓ) (g' : Dev Cert.RmsBwdReferenceIdeal.nD → PrngReg), Pre_RmsBwdKernelIdeal m →
    (∀ c : Dev Cert.RmsBwdKernelIdeal.nD,
      m' ((c.tc : Thread Cert.RmsBwdReferenceIdeal.nD Cert.RmsBwdReferenceIdeal.τ).loc Cert.RmsBwdReferenceIdeal.main_arg0) = m ((c.tc : Thread Cert.RmsBwdKernelIdeal.nD Cert.RmsBwdKernelIdeal.τ).loc Cert.RmsBwdKernelIdeal.main_arg0)
      ∧ m' ((c.tc : Thread Cert.RmsBwdReferenceIdeal.nD Cert.RmsBwdReferenceIdeal.τ).loc Cert.RmsBwdReferenceIdeal.main_arg1) = m ((c.tc : Thread Cert.RmsBwdKernelIdeal.nD Cert.RmsBwdKernelIdeal.τ).loc Cert.RmsBwdKernelIdeal.main_arg1)
      ∧ m' ((c.tc : Thread Cert.RmsBwdReferenceIdeal.nD Cert.RmsBwdReferenceIdeal.τ).loc Cert.RmsBwdReferenceIdeal.main_arg2) = m ((c.tc : Thread Cert.RmsBwdKernelIdeal.nD Cert.RmsBwdKernelIdeal.τ).loc Cert.RmsBwdKernelIdeal.main_arg2)
      ∧ m' ((c.tc : Thread Cert.RmsBwdReferenceIdeal.nD Cert.RmsBwdReferenceIdeal.τ).loc Cert.RmsBwdReferenceIdeal.main_arg3) = m ((c.tc : Thread Cert.RmsBwdKernelIdeal.nD Cert.RmsBwdKernelIdeal.τ).loc Cert.RmsBwdKernelIdeal.main_arg3)) →
    ∃ (v0 : (c : Dev Cert.RmsBwdKernelIdeal.nD) → Buf (Elt Ideal) ((c.tc : Thread Cert.RmsBwdKernelIdeal.nD Cert.RmsBwdKernelIdeal.τ).loc Cert.RmsBwdKernelIdeal.main_v0_0)) (v1 : (c : Dev Cert.RmsBwdKernelIdeal.nD) → Buf (Elt Ideal) ((c.tc : Thread Cert.RmsBwdKernelIdeal.nD Cert.RmsBwdKernelIdeal.τ).loc Cert.RmsBwdKernelIdeal.main_v0_1)) (v2 : (c : Dev Cert.RmsBwdKernelIdeal.nD) → Buf (Elt Ideal) ((c.tc : Thread Cert.RmsBwdKernelIdeal.nD Cert.RmsBwdKernelIdeal.τ).loc Cert.RmsBwdKernelIdeal.main_v0_2)),
      θ_run (Cert.RmsBwdKernelIdeal.defs (F := Ideal)) (onTc (τ := Cert.RmsBwdKernelIdeal.τ) (Cert.RmsBwdKernelIdeal.main (F := Ideal))) ⟨m, fun _ => 0, g⟩ (fun r => ∀ c : Dev Cert.RmsBwdKernelIdeal.nD,
          r.2.mem ((c.tc : Thread Cert.RmsBwdKernelIdeal.nD Cert.RmsBwdKernelIdeal.τ).loc Cert.RmsBwdKernelIdeal.main_v0_0) = v0 c
          ∧ r.2.mem ((c.tc : Thread Cert.RmsBwdKernelIdeal.nD Cert.RmsBwdKernelIdeal.τ).loc Cert.RmsBwdKernelIdeal.main_v0_1) = v1 c
          ∧ r.2.mem ((c.tc : Thread Cert.RmsBwdKernelIdeal.nD Cert.RmsBwdKernelIdeal.τ).loc Cert.RmsBwdKernelIdeal.main_v0_2) = v2 c
          ∧ r.2.mem ((c.tc : Thread Cert.RmsBwdKernelIdeal.nD Cert.RmsBwdKernelIdeal.τ).loc Cert.RmsBwdKernelIdeal.main_arg0) = m ((c.tc : Thread Cert.RmsBwdKernelIdeal.nD Cert.RmsBwdKernelIdeal.τ).loc Cert.RmsBwdKernelIdeal.main_arg0)
          ∧ r.2.mem ((c.tc : Thread Cert.RmsBwdKernelIdeal.nD Cert.RmsBwdKernelIdeal.τ).loc Cert.RmsBwdKernelIdeal.main_arg1) = m ((c.tc : Thread Cert.RmsBwdKernelIdeal.nD Cert.RmsBwdKernelIdeal.τ).loc Cert.RmsBwdKernelIdeal.main_arg1)
          ∧ r.2.mem ((c.tc : Thread Cert.RmsBwdKernelIdeal.nD Cert.RmsBwdKernelIdeal.τ).loc Cert.RmsBwdKernelIdeal.main_arg2) = m ((c.tc : Thread Cert.RmsBwdKernelIdeal.nD Cert.RmsBwdKernelIdeal.τ).loc Cert.RmsBwdKernelIdeal.main_arg2)
          ∧ r.2.mem ((c.tc : Thread Cert.RmsBwdKernelIdeal.nD Cert.RmsBwdKernelIdeal.τ).loc Cert.RmsBwdKernelIdeal.main_arg3) = m ((c.tc : Thread Cert.RmsBwdKernelIdeal.nD Cert.RmsBwdKernelIdeal.τ).loc Cert.RmsBwdKernelIdeal.main_arg3))
      ∧ θ_run (Cert.RmsBwdReferenceIdeal.defs (F := Ideal)) (onTc (τ := Cert.RmsBwdReferenceIdeal.τ) (Cert.RmsBwdReferenceIdeal.main (F := Ideal))) ⟨m', fun _ => 0, g'⟩ (fun r => ∀ c : Dev Cert.RmsBwdReferenceIdeal.nD,
          r.2.mem ((c.tc : Thread Cert.RmsBwdReferenceIdeal.nD Cert.RmsBwdReferenceIdeal.τ).loc Cert.RmsBwdReferenceIdeal.main_v34) = v0 c
          ∧ r.2.mem ((c.tc : Thread Cert.RmsBwdReferenceIdeal.nD Cert.RmsBwdReferenceIdeal.τ).loc Cert.RmsBwdReferenceIdeal.main_v35) = v1 c
          ∧ r.2.mem ((c.tc : Thread Cert.RmsBwdReferenceIdeal.nD Cert.RmsBwdReferenceIdeal.τ).loc Cert.RmsBwdReferenceIdeal.main_v17) = v2 c
          ∧ r.2.mem ((c.tc : Thread Cert.RmsBwdReferenceIdeal.nD Cert.RmsBwdReferenceIdeal.τ).loc Cert.RmsBwdReferenceIdeal.main_arg0) = m' ((c.tc : Thread Cert.RmsBwdReferenceIdeal.nD Cert.RmsBwdReferenceIdeal.τ).loc Cert.RmsBwdReferenceIdeal.main_arg0)
          ∧ r.2.mem ((c.tc : Thread Cert.RmsBwdReferenceIdeal.nD Cert.RmsBwdReferenceIdeal.τ).loc Cert.RmsBwdReferenceIdeal.main_arg1) = m' ((c.tc : Thread Cert.RmsBwdReferenceIdeal.nD Cert.RmsBwdReferenceIdeal.τ).loc Cert.RmsBwdReferenceIdeal.main_arg1)
          ∧ r.2.mem ((c.tc : Thread Cert.RmsBwdReferenceIdeal.nD Cert.RmsBwdReferenceIdeal.τ).loc Cert.RmsBwdReferenceIdeal.main_arg2) = m' ((c.tc : Thread Cert.RmsBwdReferenceIdeal.nD Cert.RmsBwdReferenceIdeal.τ).loc Cert.RmsBwdReferenceIdeal.main_arg2)
          ∧ r.2.mem ((c.tc : Thread Cert.RmsBwdReferenceIdeal.nD Cert.RmsBwdReferenceIdeal.τ).loc Cert.RmsBwdReferenceIdeal.main_arg3) = m' ((c.tc : Thread Cert.RmsBwdReferenceIdeal.nD Cert.RmsBwdReferenceIdeal.τ).loc Cert.RmsBwdReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v48) = v0 c
          ∧ r.2.mem ((c.tc : Thread Cert.LossReferenceIdeal.nD Cert.LossReferenceIdeal.τ).loc Cert.LossReferenceIdeal.main_v49) = v1 c
          ∧ r.2.mem ((c.tc : Thread Cert.LossReferenceIdeal.nD Cert.LossReferenceIdeal.τ).loc Cert.LossReferenceIdeal.main_v32) = v2 c
          ∧ r.2.mem ((c.tc : Thread Cert.LossReferenceIdeal.nD Cert.LossReferenceIdeal.τ).loc Cert.LossReferenceIdeal.main_v50) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AdwVecKernel_AdwVecKernelIdeal : Prop :=
  True

def algebraic_AdwVecKernelIdeal_AdwVecReferenceIdeal [hAdwVecKernelIdeal : Cert.AdwVecKernelIdeal.Facts] [hAdwVecReferenceIdeal : Cert.AdwVecReferenceIdeal.Facts] : Prop :=
  ∀ (m : (ℓ : Loc Cert.AdwVecKernelIdeal.nD Cert.AdwVecKernelIdeal.τ Cert.AdwVecKernelIdeal.sig) → Buf (Elt Ideal) ℓ) (g : Dev Cert.AdwVecKernelIdeal.nD → PrngReg)
    (m' : (ℓ : Loc Cert.AdwVecReferenceIdeal.nD Cert.AdwVecReferenceIdeal.τ Cert.AdwVecReferenceIdeal.sig) → Buf (Elt Ideal) ℓ) (g' : Dev Cert.AdwVecReferenceIdeal.nD → PrngReg), Pre_AdwVecKernelIdeal m →
    (∀ c : Dev Cert.AdwVecKernelIdeal.nD,
      m' ((c.tc : Thread Cert.AdwVecReferenceIdeal.nD Cert.AdwVecReferenceIdeal.τ).loc Cert.AdwVecReferenceIdeal.main_arg0) = m ((c.tc : Thread Cert.AdwVecKernelIdeal.nD Cert.AdwVecKernelIdeal.τ).loc Cert.AdwVecKernelIdeal.main_arg0)
      ∧ m' ((c.tc : Thread Cert.AdwVecReferenceIdeal.nD Cert.AdwVecReferenceIdeal.τ).loc Cert.AdwVecReferenceIdeal.main_arg1) = m ((c.tc : Thread Cert.AdwVecKernelIdeal.nD Cert.AdwVecKernelIdeal.τ).loc Cert.AdwVecKernelIdeal.main_arg1)
      ∧ m' ((c.tc : Thread Cert.AdwVecReferenceIdeal.nD Cert.AdwVecReferenceIdeal.τ).loc Cert.AdwVecReferenceIdeal.main_arg2) = m ((c.tc : Thread Cert.AdwVecKernelIdeal.nD Cert.AdwVecKernelIdeal.τ).loc Cert.AdwVecKernelIdeal.main_arg2)
      ∧ m' ((c.tc : Thread Cert.AdwVecReferenceIdeal.nD Cert.AdwVecReferenceIdeal.τ).loc Cert.AdwVecReferenceIdeal.main_arg3) = m ((c.tc : Thread Cert.AdwVecKernelIdeal.nD Cert.AdwVecKernelIdeal.τ).loc Cert.AdwVecKernelIdeal.main_arg3)) →
    ∃ (v0 : (c : Dev Cert.AdwVecKernelIdeal.nD) → Buf (Elt Ideal) ((c.tc : Thread Cert.AdwVecKernelIdeal.nD Cert.AdwVecKernelIdeal.τ).loc Cert.AdwVecKernelIdeal.main_v0_0)) (v1 : (c : Dev Cert.AdwVecKernelIdeal.nD) → Buf (Elt Ideal) ((c.tc : Thread Cert.AdwVecKernelIdeal.nD Cert.AdwVecKernelIdeal.τ).loc Cert.AdwVecKernelIdeal.main_v0_1)) (v2 : (c : Dev Cert.AdwVecKernelIdeal.nD) → Buf (Elt Ideal) ((c.tc : Thread Cert.AdwVecKernelIdeal.nD Cert.AdwVecKernelIdeal.τ).loc Cert.AdwVecKernelIdeal.main_v0_2)) (v3 : (c : Dev Cert.AdwVecKernelIdeal.nD) → Buf (Elt Ideal) ((c.tc : Thread Cert.AdwVecKernelIdeal.nD Cert.AdwVecKernelIdeal.τ).loc Cert.AdwVecKernelIdeal.main_v0_3)),
      θ_run (Cert.AdwVecKernelIdeal.defs (F := Ideal)) (onTc (τ := Cert.AdwVecKernelIdeal.τ) (Cert.AdwVecKernelIdeal.main (F := Ideal))) ⟨m, fun _ => 0, g⟩ (fun r => ∀ c : Dev Cert.AdwVecKernelIdeal.nD,
          r.2.mem ((c.tc : Thread Cert.AdwVecKernelIdeal.nD Cert.AdwVecKernelIdeal.τ).loc Cert.AdwVecKernelIdeal.main_v0_0) = v0 c
          ∧ r.2.mem ((c.tc : Thread Cert.AdwVecKernelIdeal.nD Cert.AdwVecKernelIdeal.τ).loc Cert.AdwVecKernelIdeal.main_v0_1) = v1 c
          ∧ r.2.mem ((c.tc : Thread Cert.AdwVecKernelIdeal.nD Cert.AdwVecKernelIdeal.τ).loc Cert.AdwVecKernelIdeal.main_v0_2) = v2 c
          ∧ r.2.mem ((c.tc : Thread Cert.AdwVecKernelIdeal.nD Cert.AdwVecKernelIdeal.τ).loc Cert.AdwVecKernelIdeal.main_v0_3) = v3 c
          ∧ r.2.mem ((c.tc : Thread Cert.AdwVecKernelIdeal.nD Cert.AdwVecKernelIdeal.τ).loc Cert.AdwVecKernelIdeal.main_arg0) = m ((c.tc : Thread Cert.AdwVecKernelIdeal.nD Cert.AdwVecKernelIdeal.τ).loc Cert.AdwVecKernelIdeal.main_arg0)
          ∧ r.2.mem ((c.tc : Thread Cert.AdwVecKernelIdeal.nD Cert.AdwVecKernelIdeal.τ).loc Cert.AdwVecKernelIdeal.main_arg1) = m ((c.tc : Thread Cert.AdwVecKernelIdeal.nD Cert.AdwVecKernelIdeal.τ).loc Cert.AdwVecKernelIdeal.main_arg1)
          ∧ r.2.mem ((c.tc : Thread Cert.AdwVecKernelIdeal.nD Cert.AdwVecKernelIdeal.τ).loc Cert.AdwVecKernelIdeal.main_arg2) = m ((c.tc : Thread Cert.AdwVecKernelIdeal.nD Cert.AdwVecKernelIdeal.τ).loc Cert.AdwVecKernelIdeal.main_arg2)
          ∧ r.2.mem ((c.tc : Thread Cert.AdwVecKernelIdeal.nD Cert.AdwVecKernelIdeal.τ).loc Cert.AdwVecKernelIdeal.main_arg3) = m ((c.tc : Thread Cert.AdwVecKernelIdeal.nD Cert.AdwVecKernelIdeal.τ).loc Cert.AdwVecKernelIdeal.main_arg3))
      ∧ θ_run (Cert.AdwVecReferenceIdeal.defs (F := Ideal)) (onTc (τ := Cert.AdwVecReferenceIdeal.τ) (Cert.AdwVecReferenceIdeal.main (F := Ideal))) ⟨m', fun _ => 0, g'⟩ (fun r => ∀ c : Dev Cert.AdwVecReferenceIdeal.nD,
          r.2.mem ((c.tc : Thread Cert.AdwVecReferenceIdeal.nD Cert.AdwVecReferenceIdeal.τ).loc Cert.AdwVecReferenceIdeal.main_arg1) = v0 c
          ∧ r.2.mem ((c.tc : Thread Cert.AdwVecReferenceIdeal.nD Cert.AdwVecReferenceIdeal.τ).loc Cert.AdwVecReferenceIdeal.main_v23) = v1 c
          ∧ r.2.mem ((c.tc : Thread Cert.AdwVecReferenceIdeal.nD Cert.AdwVecReferenceIdeal.τ).loc Cert.AdwVecReferenceIdeal.main_v4) = v2 c
          ∧ r.2.mem ((c.tc : Thread Cert.AdwVecReferenceIdeal.nD Cert.AdwVecReferenceIdeal.τ).loc Cert.AdwVecReferenceIdeal.main_v10) = v3 c
          ∧ r.2.mem ((c.tc : Thread Cert.AdwVecReferenceIdeal.nD Cert.AdwVecReferenceIdeal.τ).loc Cert.AdwVecReferenceIdeal.main_arg0) = m' ((c.tc : Thread Cert.AdwVecReferenceIdeal.nD Cert.AdwVecReferenceIdeal.τ).loc Cert.AdwVecReferenceIdeal.main_arg0)
          ∧ r.2.mem ((c.tc : Thread Cert.AdwVecReferenceIdeal.nD Cert.AdwVecReferenceIdeal.τ).loc Cert.AdwVecReferenceIdeal.main_arg1) = m' ((c.tc : Thread Cert.AdwVecReferenceIdeal.nD Cert.AdwVecReferenceIdeal.τ).loc Cert.AdwVecReferenceIdeal.main_arg1)
          ∧ r.2.mem ((c.tc : Thread Cert.AdwVecReferenceIdeal.nD Cert.AdwVecReferenceIdeal.τ).loc Cert.AdwVecReferenceIdeal.main_arg2) = m' ((c.tc : Thread Cert.AdwVecReferenceIdeal.nD Cert.AdwVecReferenceIdeal.τ).loc Cert.AdwVecReferenceIdeal.main_arg2)
          ∧ r.2.mem ((c.tc : Thread Cert.AdwVecReferenceIdeal.nD Cert.AdwVecReferenceIdeal.τ).loc Cert.AdwVecReferenceIdeal.main_arg3) = m' ((c.tc : Thread Cert.AdwVecReferenceIdeal.nD Cert.AdwVecReferenceIdeal.τ).loc Cert.AdwVecReferenceIdeal.main_arg3))

def preserves_AdwInKernel_AdwInKernelIdeal : Prop :=
  True

def algebraic_AdwInKernelIdeal_AdwInReferenceIdeal [hAdwInKernelIdeal : Cert.AdwInKernelIdeal.Facts] [hAdwInReferenceIdeal : Cert.AdwInReferenceIdeal.Facts] : Prop :=
  ∀ (m : (ℓ : Loc Cert.AdwInKernelIdeal.nD Cert.AdwInKernelIdeal.τ Cert.AdwInKernelIdeal.sig) → Buf (Elt Ideal) ℓ) (g : Dev Cert.AdwInKernelIdeal.nD → PrngReg)
    (m' : (ℓ : Loc Cert.AdwInReferenceIdeal.nD Cert.AdwInReferenceIdeal.τ Cert.AdwInReferenceIdeal.sig) → Buf (Elt Ideal) ℓ) (g' : Dev Cert.AdwInReferenceIdeal.nD → PrngReg), Pre_AdwInKernelIdeal m →
    (∀ c : Dev Cert.AdwInKernelIdeal.nD,
      m' ((c.tc : Thread Cert.AdwInReferenceIdeal.nD Cert.AdwInReferenceIdeal.τ).loc Cert.AdwInReferenceIdeal.main_arg0) = m ((c.tc : Thread Cert.AdwInKernelIdeal.nD Cert.AdwInKernelIdeal.τ).loc Cert.AdwInKernelIdeal.main_arg0)
      ∧ m' ((c.tc : Thread Cert.AdwInReferenceIdeal.nD Cert.AdwInReferenceIdeal.τ).loc Cert.AdwInReferenceIdeal.main_arg1) = m ((c.tc : Thread Cert.AdwInKernelIdeal.nD Cert.AdwInKernelIdeal.τ).loc Cert.AdwInKernelIdeal.main_arg1)
      ∧ m' ((c.tc : Thread Cert.AdwInReferenceIdeal.nD Cert.AdwInReferenceIdeal.τ).loc Cert.AdwInReferenceIdeal.main_arg2) = m ((c.tc : Thread Cert.AdwInKernelIdeal.nD Cert.AdwInKernelIdeal.τ).loc Cert.AdwInKernelIdeal.main_arg2)
      ∧ m' ((c.tc : Thread Cert.AdwInReferenceIdeal.nD Cert.AdwInReferenceIdeal.τ).loc Cert.AdwInReferenceIdeal.main_arg3) = m ((c.tc : Thread Cert.AdwInKernelIdeal.nD Cert.AdwInKernelIdeal.τ).loc Cert.AdwInKernelIdeal.main_arg3)) →
    ∃ (v0 : (c : Dev Cert.AdwInKernelIdeal.nD) → Buf (Elt Ideal) ((c.tc : Thread Cert.AdwInKernelIdeal.nD Cert.AdwInKernelIdeal.τ).loc Cert.AdwInKernelIdeal.main_v4_0)) (v1 : (c : Dev Cert.AdwInKernelIdeal.nD) → Buf (Elt Ideal) ((c.tc : Thread Cert.AdwInKernelIdeal.nD Cert.AdwInKernelIdeal.τ).loc Cert.AdwInKernelIdeal.main_v4_1)) (v2 : (c : Dev Cert.AdwInKernelIdeal.nD) → Buf (Elt Ideal) ((c.tc : Thread Cert.AdwInKernelIdeal.nD Cert.AdwInKernelIdeal.τ).loc Cert.AdwInKernelIdeal.main_v4_2)) (v3 : (c : Dev Cert.AdwInKernelIdeal.nD) → Buf (Elt Ideal) ((c.tc : Thread Cert.AdwInKernelIdeal.nD Cert.AdwInKernelIdeal.τ).loc Cert.AdwInKernelIdeal.main_v4_3)),
      θ_run (Cert.AdwInKernelIdeal.defs (F := Ideal)) (onTc (τ := Cert.AdwInKernelIdeal.τ) (Cert.AdwInKernelIdeal.main (F := Ideal))) ⟨m, fun _ => 0, g⟩ (fun r => ∀ c : Dev Cert.AdwInKernelIdeal.nD,
          r.2.mem ((c.tc : Thread Cert.AdwInKernelIdeal.nD Cert.AdwInKernelIdeal.τ).loc Cert.AdwInKernelIdeal.main_v4_0) = v0 c
          ∧ r.2.mem ((c.tc : Thread Cert.AdwInKernelIdeal.nD Cert.AdwInKernelIdeal.τ).loc Cert.AdwInKernelIdeal.main_v4_1) = v1 c
          ∧ r.2.mem ((c.tc : Thread Cert.AdwInKernelIdeal.nD Cert.AdwInKernelIdeal.τ).loc Cert.AdwInKernelIdeal.main_v4_2) = v2 c
          ∧ r.2.mem ((c.tc : Thread Cert.AdwInKernelIdeal.nD Cert.AdwInKernelIdeal.τ).loc Cert.AdwInKernelIdeal.main_v4_3) = v3 c
          ∧ r.2.mem ((c.tc : Thread Cert.AdwInKernelIdeal.nD Cert.AdwInKernelIdeal.τ).loc Cert.AdwInKernelIdeal.main_arg0) = m ((c.tc : Thread Cert.AdwInKernelIdeal.nD Cert.AdwInKernelIdeal.τ).loc Cert.AdwInKernelIdeal.main_arg0)
          ∧ r.2.mem ((c.tc : Thread Cert.AdwInKernelIdeal.nD Cert.AdwInKernelIdeal.τ).loc Cert.AdwInKernelIdeal.main_arg1) = m ((c.tc : Thread Cert.AdwInKernelIdeal.nD Cert.AdwInKernelIdeal.τ).loc Cert.AdwInKernelIdeal.main_arg1)
          ∧ r.2.mem ((c.tc : Thread Cert.AdwInKernelIdeal.nD Cert.AdwInKernelIdeal.τ).loc Cert.AdwInKernelIdeal.main_arg2) = m ((c.tc : Thread Cert.AdwInKernelIdeal.nD Cert.AdwInKernelIdeal.τ).loc Cert.AdwInKernelIdeal.main_arg2)
          ∧ r.2.mem ((c.tc : Thread Cert.AdwInKernelIdeal.nD Cert.AdwInKernelIdeal.τ).loc Cert.AdwInKernelIdeal.main_arg3) = m ((c.tc : Thread Cert.AdwInKernelIdeal.nD Cert.AdwInKernelIdeal.τ).loc Cert.AdwInKernelIdeal.main_arg3))
      ∧ θ_run (Cert.AdwInReferenceIdeal.defs (F := Ideal)) (onTc (τ := Cert.AdwInReferenceIdeal.τ) (Cert.AdwInReferenceIdeal.main (F := Ideal))) ⟨m', fun _ => 0, g'⟩ (fun r => ∀ c : Dev Cert.AdwInReferenceIdeal.nD,
          r.2.mem ((c.tc : Thread Cert.AdwInReferenceIdeal.nD Cert.AdwInReferenceIdeal.τ).loc Cert.AdwInReferenceIdeal.main_v25) = v0 c
          ∧ r.2.mem ((c.tc : Thread Cert.AdwInReferenceIdeal.nD Cert.AdwInReferenceIdeal.τ).loc Cert.AdwInReferenceIdeal.main_v26) = v1 c
          ∧ r.2.mem ((c.tc : Thread Cert.AdwInReferenceIdeal.nD Cert.AdwInReferenceIdeal.τ).loc Cert.AdwInReferenceIdeal.main_v27) = v2 c
          ∧ r.2.mem ((c.tc : Thread Cert.AdwInReferenceIdeal.nD Cert.AdwInReferenceIdeal.τ).loc Cert.AdwInReferenceIdeal.main_v28) = v3 c
          ∧ r.2.mem ((c.tc : Thread Cert.AdwInReferenceIdeal.nD Cert.AdwInReferenceIdeal.τ).loc Cert.AdwInReferenceIdeal.main_arg0) = m' ((c.tc : Thread Cert.AdwInReferenceIdeal.nD Cert.AdwInReferenceIdeal.τ).loc Cert.AdwInReferenceIdeal.main_arg0)
          ∧ r.2.mem ((c.tc : Thread Cert.AdwInReferenceIdeal.nD Cert.AdwInReferenceIdeal.τ).loc Cert.AdwInReferenceIdeal.main_arg1) = m' ((c.tc : Thread Cert.AdwInReferenceIdeal.nD Cert.AdwInReferenceIdeal.τ).loc Cert.AdwInReferenceIdeal.main_arg1)
          ∧ r.2.mem ((c.tc : Thread Cert.AdwInReferenceIdeal.nD Cert.AdwInReferenceIdeal.τ).loc Cert.AdwInReferenceIdeal.main_arg2) = m' ((c.tc : Thread Cert.AdwInReferenceIdeal.nD Cert.AdwInReferenceIdeal.τ).loc Cert.AdwInReferenceIdeal.main_arg2)
          ∧ r.2.mem ((c.tc : Thread Cert.AdwInReferenceIdeal.nD Cert.AdwInReferenceIdeal.τ).loc Cert.AdwInReferenceIdeal.main_arg3) = m' ((c.tc : Thread Cert.AdwInReferenceIdeal.nD Cert.AdwInReferenceIdeal.τ).loc Cert.AdwInReferenceIdeal.main_arg3))

def preserves_AdwSinksKernel_AdwSinksKernelIdeal : Prop :=
  True

def algebraic_AdwSinksKernelIdeal_AdwSinksReferenceIdeal [hAdwSinksKernelIdeal : Cert.AdwSinksKernelIdeal.Facts] [hAdwSinksReferenceIdeal : Cert.AdwSinksReferenceIdeal.Facts] : Prop :=
  ∀ (m : (ℓ : Loc Cert.AdwSinksKernelIdeal.nD Cert.AdwSinksKernelIdeal.τ Cert.AdwSinksKernelIdeal.sig) → Buf (Elt Ideal) ℓ) (g : Dev Cert.AdwSinksKernelIdeal.nD → PrngReg)
    (m' : (ℓ : Loc Cert.AdwSinksReferenceIdeal.nD Cert.AdwSinksReferenceIdeal.τ Cert.AdwSinksReferenceIdeal.sig) → Buf (Elt Ideal) ℓ) (g' : Dev Cert.AdwSinksReferenceIdeal.nD → PrngReg), Pre_AdwSinksKernelIdeal m →
    (∀ c : Dev Cert.AdwSinksKernelIdeal.nD,
      m' ((c.tc : Thread Cert.AdwSinksReferenceIdeal.nD Cert.AdwSinksReferenceIdeal.τ).loc Cert.AdwSinksReferenceIdeal.main_arg0) = m ((c.tc : Thread Cert.AdwSinksKernelIdeal.nD Cert.AdwSinksKernelIdeal.τ).loc Cert.AdwSinksKernelIdeal.main_arg0)
      ∧ m' ((c.tc : Thread Cert.AdwSinksReferenceIdeal.nD Cert.AdwSinksReferenceIdeal.τ).loc Cert.AdwSinksReferenceIdeal.main_arg1) = m ((c.tc : Thread Cert.AdwSinksKernelIdeal.nD Cert.AdwSinksKernelIdeal.τ).loc Cert.AdwSinksKernelIdeal.main_arg1)
      ∧ m' ((c.tc : Thread Cert.AdwSinksReferenceIdeal.nD Cert.AdwSinksReferenceIdeal.τ).loc Cert.AdwSinksReferenceIdeal.main_arg2) = m ((c.tc : Thread Cert.AdwSinksKernelIdeal.nD Cert.AdwSinksKernelIdeal.τ).loc Cert.AdwSinksKernelIdeal.main_arg2)
      ∧ m' ((c.tc : Thread Cert.AdwSinksReferenceIdeal.nD Cert.AdwSinksReferenceIdeal.τ).loc Cert.AdwSinksReferenceIdeal.main_arg3) = m ((c.tc : Thread Cert.AdwSinksKernelIdeal.nD Cert.AdwSinksKernelIdeal.τ).loc Cert.AdwSinksKernelIdeal.main_arg3)) →
    ∃ (v0 : (c : Dev Cert.AdwSinksKernelIdeal.nD) → Buf (Elt Ideal) ((c.tc : Thread Cert.AdwSinksKernelIdeal.nD Cert.AdwSinksKernelIdeal.τ).loc Cert.AdwSinksKernelIdeal.main_v0_0)) (v1 : (c : Dev Cert.AdwSinksKernelIdeal.nD) → Buf (Elt Ideal) ((c.tc : Thread Cert.AdwSinksKernelIdeal.nD Cert.AdwSinksKernelIdeal.τ).loc Cert.AdwSinksKernelIdeal.main_v0_1)) (v2 : (c : Dev Cert.AdwSinksKernelIdeal.nD) → Buf (Elt Ideal) ((c.tc : Thread Cert.AdwSinksKernelIdeal.nD Cert.AdwSinksKernelIdeal.τ).loc Cert.AdwSinksKernelIdeal.main_v0_2)) (v3 : (c : Dev Cert.AdwSinksKernelIdeal.nD) → Buf (Elt Ideal) ((c.tc : Thread Cert.AdwSinksKernelIdeal.nD Cert.AdwSinksKernelIdeal.τ).loc Cert.AdwSinksKernelIdeal.main_v0_3)),
      θ_run (Cert.AdwSinksKernelIdeal.defs (F := Ideal)) (onTc (τ := Cert.AdwSinksKernelIdeal.τ) (Cert.AdwSinksKernelIdeal.main (F := Ideal))) ⟨m, fun _ => 0, g⟩ (fun r => ∀ c : Dev Cert.AdwSinksKernelIdeal.nD,
          r.2.mem ((c.tc : Thread Cert.AdwSinksKernelIdeal.nD Cert.AdwSinksKernelIdeal.τ).loc Cert.AdwSinksKernelIdeal.main_v0_0) = v0 c
          ∧ r.2.mem ((c.tc : Thread Cert.AdwSinksKernelIdeal.nD Cert.AdwSinksKernelIdeal.τ).loc Cert.AdwSinksKernelIdeal.main_v0_1) = v1 c
          ∧ r.2.mem ((c.tc : Thread Cert.AdwSinksKernelIdeal.nD Cert.AdwSinksKernelIdeal.τ).loc Cert.AdwSinksKernelIdeal.main_v0_2) = v2 c
          ∧ r.2.mem ((c.tc : Thread Cert.AdwSinksKernelIdeal.nD Cert.AdwSinksKernelIdeal.τ).loc Cert.AdwSinksKernelIdeal.main_v0_3) = v3 c
          ∧ r.2.mem ((c.tc : Thread Cert.AdwSinksKernelIdeal.nD Cert.AdwSinksKernelIdeal.τ).loc Cert.AdwSinksKernelIdeal.main_arg0) = m ((c.tc : Thread Cert.AdwSinksKernelIdeal.nD Cert.AdwSinksKernelIdeal.τ).loc Cert.AdwSinksKernelIdeal.main_arg0)
          ∧ r.2.mem ((c.tc : Thread Cert.AdwSinksKernelIdeal.nD Cert.AdwSinksKernelIdeal.τ).loc Cert.AdwSinksKernelIdeal.main_arg1) = m ((c.tc : Thread Cert.AdwSinksKernelIdeal.nD Cert.AdwSinksKernelIdeal.τ).loc Cert.AdwSinksKernelIdeal.main_arg1)
          ∧ r.2.mem ((c.tc : Thread Cert.AdwSinksKernelIdeal.nD Cert.AdwSinksKernelIdeal.τ).loc Cert.AdwSinksKernelIdeal.main_arg2) = m ((c.tc : Thread Cert.AdwSinksKernelIdeal.nD Cert.AdwSinksKernelIdeal.τ).loc Cert.AdwSinksKernelIdeal.main_arg2)
          ∧ r.2.mem ((c.tc : Thread Cert.AdwSinksKernelIdeal.nD Cert.AdwSinksKernelIdeal.τ).loc Cert.AdwSinksKernelIdeal.main_arg3) = m ((c.tc : Thread Cert.AdwSinksKernelIdeal.nD Cert.AdwSinksKernelIdeal.τ).loc Cert.AdwSinksKernelIdeal.main_arg3))
      ∧ θ_run (Cert.AdwSinksReferenceIdeal.defs (F := Ideal)) (onTc (τ := Cert.AdwSinksReferenceIdeal.τ) (Cert.AdwSinksReferenceIdeal.main (F := Ideal))) ⟨m', fun _ => 0, g'⟩ (fun r => ∀ c : Dev Cert.AdwSinksReferenceIdeal.nD,
          r.2.mem ((c.tc : Thread Cert.AdwSinksReferenceIdeal.nD Cert.AdwSinksReferenceIdeal.τ).loc Cert.AdwSinksReferenceIdeal.main_arg1) = v0 c
          ∧ r.2.mem ((c.tc : Thread Cert.AdwSinksReferenceIdeal.nD Cert.AdwSinksReferenceIdeal.τ).loc Cert.AdwSinksReferenceIdeal.main_v23) = v1 c
          ∧ r.2.mem ((c.tc : Thread Cert.AdwSinksReferenceIdeal.nD Cert.AdwSinksReferenceIdeal.τ).loc Cert.AdwSinksReferenceIdeal.main_v4) = v2 c
          ∧ r.2.mem ((c.tc : Thread Cert.AdwSinksReferenceIdeal.nD Cert.AdwSinksReferenceIdeal.τ).loc Cert.AdwSinksReferenceIdeal.main_v10) = v3 c
          ∧ r.2.mem ((c.tc : Thread Cert.AdwSinksReferenceIdeal.nD Cert.AdwSinksReferenceIdeal.τ).loc Cert.AdwSinksReferenceIdeal.main_arg0) = m' ((c.tc : Thread Cert.AdwSinksReferenceIdeal.nD Cert.AdwSinksReferenceIdeal.τ).loc Cert.AdwSinksReferenceIdeal.main_arg0)
          ∧ r.2.mem ((c.tc : Thread Cert.AdwSinksReferenceIdeal.nD Cert.AdwSinksReferenceIdeal.τ).loc Cert.AdwSinksReferenceIdeal.main_arg1) = m' ((c.tc : Thread Cert.AdwSinksReferenceIdeal.nD Cert.AdwSinksReferenceIdeal.τ).loc Cert.AdwSinksReferenceIdeal.main_arg1)
          ∧ r.2.mem ((c.tc : Thread Cert.AdwSinksReferenceIdeal.nD Cert.AdwSinksReferenceIdeal.τ).loc Cert.AdwSinksReferenceIdeal.main_arg2) = m' ((c.tc : Thread Cert.AdwSinksReferenceIdeal.nD Cert.AdwSinksReferenceIdeal.τ).loc Cert.AdwSinksReferenceIdeal.main_arg2)
          ∧ r.2.mem ((c.tc : Thread Cert.AdwSinksReferenceIdeal.nD Cert.AdwSinksReferenceIdeal.τ).loc Cert.AdwSinksReferenceIdeal.main_arg3) = m' ((c.tc : Thread Cert.AdwSinksReferenceIdeal.nD Cert.AdwSinksReferenceIdeal.τ).loc Cert.AdwSinksReferenceIdeal.main_arg3))

def preserves_AdwConvKernel_AdwConvKernelIdeal : Prop :=
  True

def algebraic_AdwConvKernelIdeal_AdwConvReferenceIdeal [hAdwConvKernelIdeal : Cert.AdwConvKernelIdeal.Facts] [hAdwConvReferenceIdeal : Cert.AdwConvReferenceIdeal.Facts] : Prop :=
  ∀ (m : (ℓ : Loc Cert.AdwConvKernelIdeal.nD Cert.AdwConvKernelIdeal.τ Cert.AdwConvKernelIdeal.sig) → Buf (Elt Ideal) ℓ) (g : Dev Cert.AdwConvKernelIdeal.nD → PrngReg)
    (m' : (ℓ : Loc Cert.AdwConvReferenceIdeal.nD Cert.AdwConvReferenceIdeal.τ Cert.AdwConvReferenceIdeal.sig) → Buf (Elt Ideal) ℓ) (g' : Dev Cert.AdwConvReferenceIdeal.nD → PrngReg), Pre_AdwConvKernelIdeal m →
    (∀ c : Dev Cert.AdwConvKernelIdeal.nD,
      m' ((c.tc : Thread Cert.AdwConvReferenceIdeal.nD Cert.AdwConvReferenceIdeal.τ).loc Cert.AdwConvReferenceIdeal.main_arg0) = m ((c.tc : Thread Cert.AdwConvKernelIdeal.nD Cert.AdwConvKernelIdeal.τ).loc Cert.AdwConvKernelIdeal.main_arg0)
      ∧ m' ((c.tc : Thread Cert.AdwConvReferenceIdeal.nD Cert.AdwConvReferenceIdeal.τ).loc Cert.AdwConvReferenceIdeal.main_arg1) = m ((c.tc : Thread Cert.AdwConvKernelIdeal.nD Cert.AdwConvKernelIdeal.τ).loc Cert.AdwConvKernelIdeal.main_arg1)
      ∧ m' ((c.tc : Thread Cert.AdwConvReferenceIdeal.nD Cert.AdwConvReferenceIdeal.τ).loc Cert.AdwConvReferenceIdeal.main_arg2) = m ((c.tc : Thread Cert.AdwConvKernelIdeal.nD Cert.AdwConvKernelIdeal.τ).loc Cert.AdwConvKernelIdeal.main_arg2)
      ∧ m' ((c.tc : Thread Cert.AdwConvReferenceIdeal.nD Cert.AdwConvReferenceIdeal.τ).loc Cert.AdwConvReferenceIdeal.main_arg3) = m ((c.tc : Thread Cert.AdwConvKernelIdeal.nD Cert.AdwConvKernelIdeal.τ).loc Cert.AdwConvKernelIdeal.main_arg3)) →
    ∃ (v0 : (c : Dev Cert.AdwConvKernelIdeal.nD) → Buf (Elt Ideal) ((c.tc : Thread Cert.AdwConvKernelIdeal.nD Cert.AdwConvKernelIdeal.τ).loc Cert.AdwConvKernelIdeal.main_v0_0)) (v1 : (c : Dev Cert.AdwConvKernelIdeal.nD) → Buf (Elt Ideal) ((c.tc : Thread Cert.AdwConvKernelIdeal.nD Cert.AdwConvKernelIdeal.τ).loc Cert.AdwConvKernelIdeal.main_v0_1)) (v2 : (c : Dev Cert.AdwConvKernelIdeal.nD) → Buf (Elt Ideal) ((c.tc : Thread Cert.AdwConvKernelIdeal.nD Cert.AdwConvKernelIdeal.τ).loc Cert.AdwConvKernelIdeal.main_v0_2)) (v3 : (c : Dev Cert.AdwConvKernelIdeal.nD) → Buf (Elt Ideal) ((c.tc : Thread Cert.AdwConvKernelIdeal.nD Cert.AdwConvKernelIdeal.τ).loc Cert.AdwConvKernelIdeal.main_v0_3)),
      θ_run (Cert.AdwConvKernelIdeal.defs (F := Ideal)) (onTc (τ := Cert.AdwConvKernelIdeal.τ) (Cert.AdwConvKernelIdeal.main (F := Ideal))) ⟨m, fun _ => 0, g⟩ (fun r => ∀ c : Dev Cert.AdwConvKernelIdeal.nD,
          r.2.mem ((c.tc : Thread Cert.AdwConvKernelIdeal.nD Cert.AdwConvKernelIdeal.τ).loc Cert.AdwConvKernelIdeal.main_v0_0) = v0 c
          ∧ r.2.mem ((c.tc : Thread Cert.AdwConvKernelIdeal.nD Cert.AdwConvKernelIdeal.τ).loc Cert.AdwConvKernelIdeal.main_v0_1) = v1 c
          ∧ r.2.mem ((c.tc : Thread Cert.AdwConvKernelIdeal.nD Cert.AdwConvKernelIdeal.τ).loc Cert.AdwConvKernelIdeal.main_v0_2) = v2 c
          ∧ r.2.mem ((c.tc : Thread Cert.AdwConvKernelIdeal.nD Cert.AdwConvKernelIdeal.τ).loc Cert.AdwConvKernelIdeal.main_v0_3) = v3 c
          ∧ r.2.mem ((c.tc : Thread Cert.AdwConvKernelIdeal.nD Cert.AdwConvKernelIdeal.τ).loc Cert.AdwConvKernelIdeal.main_arg0) = m ((c.tc : Thread Cert.AdwConvKernelIdeal.nD Cert.AdwConvKernelIdeal.τ).loc Cert.AdwConvKernelIdeal.main_arg0)
          ∧ r.2.mem ((c.tc : Thread Cert.AdwConvKernelIdeal.nD Cert.AdwConvKernelIdeal.τ).loc Cert.AdwConvKernelIdeal.main_arg1) = m ((c.tc : Thread Cert.AdwConvKernelIdeal.nD Cert.AdwConvKernelIdeal.τ).loc Cert.AdwConvKernelIdeal.main_arg1)
          ∧ r.2.mem ((c.tc : Thread Cert.AdwConvKernelIdeal.nD Cert.AdwConvKernelIdeal.τ).loc Cert.AdwConvKernelIdeal.main_arg2) = m ((c.tc : Thread Cert.AdwConvKernelIdeal.nD Cert.AdwConvKernelIdeal.τ).loc Cert.AdwConvKernelIdeal.main_arg2)
          ∧ r.2.mem ((c.tc : Thread Cert.AdwConvKernelIdeal.nD Cert.AdwConvKernelIdeal.τ).loc Cert.AdwConvKernelIdeal.main_arg3) = m ((c.tc : Thread Cert.AdwConvKernelIdeal.nD Cert.AdwConvKernelIdeal.τ).loc Cert.AdwConvKernelIdeal.main_arg3))
      ∧ θ_run (Cert.AdwConvReferenceIdeal.defs (F := Ideal)) (onTc (τ := Cert.AdwConvReferenceIdeal.τ) (Cert.AdwConvReferenceIdeal.main (F := Ideal))) ⟨m', fun _ => 0, g'⟩ (fun r => ∀ c : Dev Cert.AdwConvReferenceIdeal.nD,
          r.2.mem ((c.tc : Thread Cert.AdwConvReferenceIdeal.nD Cert.AdwConvReferenceIdeal.τ).loc Cert.AdwConvReferenceIdeal.main_v0) = v0 c
          ∧ r.2.mem ((c.tc : Thread Cert.AdwConvReferenceIdeal.nD Cert.AdwConvReferenceIdeal.τ).loc Cert.AdwConvReferenceIdeal.main_v24) = v1 c
          ∧ r.2.mem ((c.tc : Thread Cert.AdwConvReferenceIdeal.nD Cert.AdwConvReferenceIdeal.τ).loc Cert.AdwConvReferenceIdeal.main_v5) = v2 c
          ∧ r.2.mem ((c.tc : Thread Cert.AdwConvReferenceIdeal.nD Cert.AdwConvReferenceIdeal.τ).loc Cert.AdwConvReferenceIdeal.main_v11) = v3 c
          ∧ r.2.mem ((c.tc : Thread Cert.AdwConvReferenceIdeal.nD Cert.AdwConvReferenceIdeal.τ).loc Cert.AdwConvReferenceIdeal.main_arg0) = m' ((c.tc : Thread Cert.AdwConvReferenceIdeal.nD Cert.AdwConvReferenceIdeal.τ).loc Cert.AdwConvReferenceIdeal.main_arg0)
          ∧ r.2.mem ((c.tc : Thread Cert.AdwConvReferenceIdeal.nD Cert.AdwConvReferenceIdeal.τ).loc Cert.AdwConvReferenceIdeal.main_arg1) = m' ((c.tc : Thread Cert.AdwConvReferenceIdeal.nD Cert.AdwConvReferenceIdeal.τ).loc Cert.AdwConvReferenceIdeal.main_arg1)
          ∧ r.2.mem ((c.tc : Thread Cert.AdwConvReferenceIdeal.nD Cert.AdwConvReferenceIdeal.τ).loc Cert.AdwConvReferenceIdeal.main_arg2) = m' ((c.tc : Thread Cert.AdwConvReferenceIdeal.nD Cert.AdwConvReferenceIdeal.τ).loc Cert.AdwConvReferenceIdeal.main_arg2)
          ∧ r.2.mem ((c.tc : Thread Cert.AdwConvReferenceIdeal.nD Cert.AdwConvReferenceIdeal.τ).loc Cert.AdwConvReferenceIdeal.main_arg3) = m' ((c.tc : Thread Cert.AdwConvReferenceIdeal.nD Cert.AdwConvReferenceIdeal.τ).loc Cert.AdwConvReferenceIdeal.main_arg3))

def preserves_AdwHeadsKernel_AdwHeadsKernelIdeal : Prop :=
  True

def algebraic_AdwHeadsKernelIdeal_AdwHeadsReferenceIdeal [hAdwHeadsKernelIdeal : Cert.AdwHeadsKernelIdeal.Facts] [hAdwHeadsReferenceIdeal : Cert.AdwHeadsReferenceIdeal.Facts] : Prop :=
  ∀ (m : (ℓ : Loc Cert.AdwHeadsKernelIdeal.nD Cert.AdwHeadsKernelIdeal.τ Cert.AdwHeadsKernelIdeal.sig) → Buf (Elt Ideal) ℓ) (g : Dev Cert.AdwHeadsKernelIdeal.nD → PrngReg)
    (m' : (ℓ : Loc Cert.AdwHeadsReferenceIdeal.nD Cert.AdwHeadsReferenceIdeal.τ Cert.AdwHeadsReferenceIdeal.sig) → Buf (Elt Ideal) ℓ) (g' : Dev Cert.AdwHeadsReferenceIdeal.nD → PrngReg), Pre_AdwHeadsKernelIdeal m →
    (∀ c : Dev Cert.AdwHeadsKernelIdeal.nD,
      m' ((c.tc : Thread Cert.AdwHeadsReferenceIdeal.nD Cert.AdwHeadsReferenceIdeal.τ).loc Cert.AdwHeadsReferenceIdeal.main_arg0) = m ((c.tc : Thread Cert.AdwHeadsKernelIdeal.nD Cert.AdwHeadsKernelIdeal.τ).loc Cert.AdwHeadsKernelIdeal.main_arg0)
      ∧ m' ((c.tc : Thread Cert.AdwHeadsReferenceIdeal.nD Cert.AdwHeadsReferenceIdeal.τ).loc Cert.AdwHeadsReferenceIdeal.main_arg1) = m ((c.tc : Thread Cert.AdwHeadsKernelIdeal.nD Cert.AdwHeadsKernelIdeal.τ).loc Cert.AdwHeadsKernelIdeal.main_arg1)
      ∧ m' ((c.tc : Thread Cert.AdwHeadsReferenceIdeal.nD Cert.AdwHeadsReferenceIdeal.τ).loc Cert.AdwHeadsReferenceIdeal.main_arg2) = m ((c.tc : Thread Cert.AdwHeadsKernelIdeal.nD Cert.AdwHeadsKernelIdeal.τ).loc Cert.AdwHeadsKernelIdeal.main_arg2)
      ∧ m' ((c.tc : Thread Cert.AdwHeadsReferenceIdeal.nD Cert.AdwHeadsReferenceIdeal.τ).loc Cert.AdwHeadsReferenceIdeal.main_arg3) = m ((c.tc : Thread Cert.AdwHeadsKernelIdeal.nD Cert.AdwHeadsKernelIdeal.τ).loc Cert.AdwHeadsKernelIdeal.main_arg3)) →
    ∃ (v0 : (c : Dev Cert.AdwHeadsKernelIdeal.nD) → Buf (Elt Ideal) ((c.tc : Thread Cert.AdwHeadsKernelIdeal.nD Cert.AdwHeadsKernelIdeal.τ).loc Cert.AdwHeadsKernelIdeal.main_v0_0)) (v1 : (c : Dev Cert.AdwHeadsKernelIdeal.nD) → Buf (Elt Ideal) ((c.tc : Thread Cert.AdwHeadsKernelIdeal.nD Cert.AdwHeadsKernelIdeal.τ).loc Cert.AdwHeadsKernelIdeal.main_v0_1)) (v2 : (c : Dev Cert.AdwHeadsKernelIdeal.nD) → Buf (Elt Ideal) ((c.tc : Thread Cert.AdwHeadsKernelIdeal.nD Cert.AdwHeadsKernelIdeal.τ).loc Cert.AdwHeadsKernelIdeal.main_v0_2)) (v3 : (c : Dev Cert.AdwHeadsKernelIdeal.nD) → Buf (Elt Ideal) ((c.tc : Thread Cert.AdwHeadsKernelIdeal.nD Cert.AdwHeadsKernelIdeal.τ).loc Cert.AdwHeadsKernelIdeal.main_v0_3)),
      θ_run (Cert.AdwHeadsKernelIdeal.defs (F := Ideal)) (onTc (τ := Cert.AdwHeadsKernelIdeal.τ) (Cert.AdwHeadsKernelIdeal.main (F := Ideal))) ⟨m, fun _ => 0, g⟩ (fun r => ∀ c : Dev Cert.AdwHeadsKernelIdeal.nD,
          r.2.mem ((c.tc : Thread Cert.AdwHeadsKernelIdeal.nD Cert.AdwHeadsKernelIdeal.τ).loc Cert.AdwHeadsKernelIdeal.main_v0_0) = v0 c
          ∧ r.2.mem ((c.tc : Thread Cert.AdwHeadsKernelIdeal.nD Cert.AdwHeadsKernelIdeal.τ).loc Cert.AdwHeadsKernelIdeal.main_v0_1) = v1 c
          ∧ r.2.mem ((c.tc : Thread Cert.AdwHeadsKernelIdeal.nD Cert.AdwHeadsKernelIdeal.τ).loc Cert.AdwHeadsKernelIdeal.main_v0_2) = v2 c
          ∧ r.2.mem ((c.tc : Thread Cert.AdwHeadsKernelIdeal.nD Cert.AdwHeadsKernelIdeal.τ).loc Cert.AdwHeadsKernelIdeal.main_v0_3) = v3 c
          ∧ r.2.mem ((c.tc : Thread Cert.AdwHeadsKernelIdeal.nD Cert.AdwHeadsKernelIdeal.τ).loc Cert.AdwHeadsKernelIdeal.main_arg0) = m ((c.tc : Thread Cert.AdwHeadsKernelIdeal.nD Cert.AdwHeadsKernelIdeal.τ).loc Cert.AdwHeadsKernelIdeal.main_arg0)
          ∧ r.2.mem ((c.tc : Thread Cert.AdwHeadsKernelIdeal.nD Cert.AdwHeadsKernelIdeal.τ).loc Cert.AdwHeadsKernelIdeal.main_arg1) = m ((c.tc : Thread Cert.AdwHeadsKernelIdeal.nD Cert.AdwHeadsKernelIdeal.τ).loc Cert.AdwHeadsKernelIdeal.main_arg1)
          ∧ r.2.mem ((c.tc : Thread Cert.AdwHeadsKernelIdeal.nD Cert.AdwHeadsKernelIdeal.τ).loc Cert.AdwHeadsKernelIdeal.main_arg2) = m ((c.tc : Thread Cert.AdwHeadsKernelIdeal.nD Cert.AdwHeadsKernelIdeal.τ).loc Cert.AdwHeadsKernelIdeal.main_arg2)
          ∧ r.2.mem ((c.tc : Thread Cert.AdwHeadsKernelIdeal.nD Cert.AdwHeadsKernelIdeal.τ).loc Cert.AdwHeadsKernelIdeal.main_arg3) = m ((c.tc : Thread Cert.AdwHeadsKernelIdeal.nD Cert.AdwHeadsKernelIdeal.τ).loc Cert.AdwHeadsKernelIdeal.main_arg3))
      ∧ θ_run (Cert.AdwHeadsReferenceIdeal.defs (F := Ideal)) (onTc (τ := Cert.AdwHeadsReferenceIdeal.τ) (Cert.AdwHeadsReferenceIdeal.main (F := Ideal))) ⟨m', fun _ => 0, g'⟩ (fun r => ∀ c : Dev Cert.AdwHeadsReferenceIdeal.nD,
          r.2.mem ((c.tc : Thread Cert.AdwHeadsReferenceIdeal.nD Cert.AdwHeadsReferenceIdeal.τ).loc Cert.AdwHeadsReferenceIdeal.main_arg1) = v0 c
          ∧ r.2.mem ((c.tc : Thread Cert.AdwHeadsReferenceIdeal.nD Cert.AdwHeadsReferenceIdeal.τ).loc Cert.AdwHeadsReferenceIdeal.main_v23) = v1 c
          ∧ r.2.mem ((c.tc : Thread Cert.AdwHeadsReferenceIdeal.nD Cert.AdwHeadsReferenceIdeal.τ).loc Cert.AdwHeadsReferenceIdeal.main_v4) = v2 c
          ∧ r.2.mem ((c.tc : Thread Cert.AdwHeadsReferenceIdeal.nD Cert.AdwHeadsReferenceIdeal.τ).loc Cert.AdwHeadsReferenceIdeal.main_v10) = v3 c
          ∧ r.2.mem ((c.tc : Thread Cert.AdwHeadsReferenceIdeal.nD Cert.AdwHeadsReferenceIdeal.τ).loc Cert.AdwHeadsReferenceIdeal.main_arg0) = m' ((c.tc : Thread Cert.AdwHeadsReferenceIdeal.nD Cert.AdwHeadsReferenceIdeal.τ).loc Cert.AdwHeadsReferenceIdeal.main_arg0)
          ∧ r.2.mem ((c.tc : Thread Cert.AdwHeadsReferenceIdeal.nD Cert.AdwHeadsReferenceIdeal.τ).loc Cert.AdwHeadsReferenceIdeal.main_arg1) = m' ((c.tc : Thread Cert.AdwHeadsReferenceIdeal.nD Cert.AdwHeadsReferenceIdeal.τ).loc Cert.AdwHeadsReferenceIdeal.main_arg1)
          ∧ r.2.mem ((c.tc : Thread Cert.AdwHeadsReferenceIdeal.nD Cert.AdwHeadsReferenceIdeal.τ).loc Cert.AdwHeadsReferenceIdeal.main_arg2) = m' ((c.tc : Thread Cert.AdwHeadsReferenceIdeal.nD Cert.AdwHeadsReferenceIdeal.τ).loc Cert.AdwHeadsReferenceIdeal.main_arg2)
          ∧ r.2.mem ((c.tc : Thread Cert.AdwHeadsReferenceIdeal.nD Cert.AdwHeadsReferenceIdeal.τ).loc Cert.AdwHeadsReferenceIdeal.main_arg3) = m' ((c.tc : Thread Cert.AdwHeadsReferenceIdeal.nD Cert.AdwHeadsReferenceIdeal.τ).loc Cert.AdwHeadsReferenceIdeal.main_arg3))

def preserves_AdwNormKernel_AdwNormKernelIdeal : Prop :=
  True

def algebraic_AdwNormKernelIdeal_AdwNormReferenceIdeal [hAdwNormKernelIdeal : Cert.AdwNormKernelIdeal.Facts] [hAdwNormReferenceIdeal : Cert.AdwNormReferenceIdeal.Facts] : Prop :=
  ∀ (m : (ℓ : Loc Cert.AdwNormKernelIdeal.nD Cert.AdwNormKernelIdeal.τ Cert.AdwNormKernelIdeal.sig) → Buf (Elt Ideal) ℓ) (g : Dev Cert.AdwNormKernelIdeal.nD → PrngReg)
    (m' : (ℓ : Loc Cert.AdwNormReferenceIdeal.nD Cert.AdwNormReferenceIdeal.τ Cert.AdwNormReferenceIdeal.sig) → Buf (Elt Ideal) ℓ) (g' : Dev Cert.AdwNormReferenceIdeal.nD → PrngReg), Pre_AdwNormKernelIdeal m →
    (∀ c : Dev Cert.AdwNormKernelIdeal.nD,
      m' ((c.tc : Thread Cert.AdwNormReferenceIdeal.nD Cert.AdwNormReferenceIdeal.τ).loc Cert.AdwNormReferenceIdeal.main_arg0) = m ((c.tc : Thread Cert.AdwNormKernelIdeal.nD Cert.AdwNormKernelIdeal.τ).loc Cert.AdwNormKernelIdeal.main_arg0)
      ∧ m' ((c.tc : Thread Cert.AdwNormReferenceIdeal.nD Cert.AdwNormReferenceIdeal.τ).loc Cert.AdwNormReferenceIdeal.main_arg1) = m ((c.tc : Thread Cert.AdwNormKernelIdeal.nD Cert.AdwNormKernelIdeal.τ).loc Cert.AdwNormKernelIdeal.main_arg1)
      ∧ m' ((c.tc : Thread Cert.AdwNormReferenceIdeal.nD Cert.AdwNormReferenceIdeal.τ).loc Cert.AdwNormReferenceIdeal.main_arg2) = m ((c.tc : Thread Cert.AdwNormKernelIdeal.nD Cert.AdwNormKernelIdeal.τ).loc Cert.AdwNormKernelIdeal.main_arg2)
      ∧ m' ((c.tc : Thread Cert.AdwNormReferenceIdeal.nD Cert.AdwNormReferenceIdeal.τ).loc Cert.AdwNormReferenceIdeal.main_arg3) = m ((c.tc : Thread Cert.AdwNormKernelIdeal.nD Cert.AdwNormKernelIdeal.τ).loc Cert.AdwNormKernelIdeal.main_arg3)) →
    ∃ (v0 : (c : Dev Cert.AdwNormKernelIdeal.nD) → Buf (Elt Ideal) ((c.tc : Thread Cert.AdwNormKernelIdeal.nD Cert.AdwNormKernelIdeal.τ).loc Cert.AdwNormKernelIdeal.main_v0_0)) (v1 : (c : Dev Cert.AdwNormKernelIdeal.nD) → Buf (Elt Ideal) ((c.tc : Thread Cert.AdwNormKernelIdeal.nD Cert.AdwNormKernelIdeal.τ).loc Cert.AdwNormKernelIdeal.main_v0_1)) (v2 : (c : Dev Cert.AdwNormKernelIdeal.nD) → Buf (Elt Ideal) ((c.tc : Thread Cert.AdwNormKernelIdeal.nD Cert.AdwNormKernelIdeal.τ).loc Cert.AdwNormKernelIdeal.main_v0_2)) (v3 : (c : Dev Cert.AdwNormKernelIdeal.nD) → Buf (Elt Ideal) ((c.tc : Thread Cert.AdwNormKernelIdeal.nD Cert.AdwNormKernelIdeal.τ).loc Cert.AdwNormKernelIdeal.main_v0_3)),
      θ_run (Cert.AdwNormKernelIdeal.defs (F := Ideal)) (onTc (τ := Cert.AdwNormKernelIdeal.τ) (Cert.AdwNormKernelIdeal.main (F := Ideal))) ⟨m, fun _ => 0, g⟩ (fun r => ∀ c : Dev Cert.AdwNormKernelIdeal.nD,
          r.2.mem ((c.tc : Thread Cert.AdwNormKernelIdeal.nD Cert.AdwNormKernelIdeal.τ).loc Cert.AdwNormKernelIdeal.main_v0_0) = v0 c
          ∧ r.2.mem ((c.tc : Thread Cert.AdwNormKernelIdeal.nD Cert.AdwNormKernelIdeal.τ).loc Cert.AdwNormKernelIdeal.main_v0_1) = v1 c
          ∧ r.2.mem ((c.tc : Thread Cert.AdwNormKernelIdeal.nD Cert.AdwNormKernelIdeal.τ).loc Cert.AdwNormKernelIdeal.main_v0_2) = v2 c
          ∧ r.2.mem ((c.tc : Thread Cert.AdwNormKernelIdeal.nD Cert.AdwNormKernelIdeal.τ).loc Cert.AdwNormKernelIdeal.main_v0_3) = v3 c
          ∧ r.2.mem ((c.tc : Thread Cert.AdwNormKernelIdeal.nD Cert.AdwNormKernelIdeal.τ).loc Cert.AdwNormKernelIdeal.main_arg0) = m ((c.tc : Thread Cert.AdwNormKernelIdeal.nD Cert.AdwNormKernelIdeal.τ).loc Cert.AdwNormKernelIdeal.main_arg0)
          ∧ r.2.mem ((c.tc : Thread Cert.AdwNormKernelIdeal.nD Cert.AdwNormKernelIdeal.τ).loc Cert.AdwNormKernelIdeal.main_arg1) = m ((c.tc : Thread Cert.AdwNormKernelIdeal.nD Cert.AdwNormKernelIdeal.τ).loc Cert.AdwNormKernelIdeal.main_arg1)
          ∧ r.2.mem ((c.tc : Thread Cert.AdwNormKernelIdeal.nD Cert.AdwNormKernelIdeal.τ).loc Cert.AdwNormKernelIdeal.main_arg2) = m ((c.tc : Thread Cert.AdwNormKernelIdeal.nD Cert.AdwNormKernelIdeal.τ).loc Cert.AdwNormKernelIdeal.main_arg2)
          ∧ r.2.mem ((c.tc : Thread Cert.AdwNormKernelIdeal.nD Cert.AdwNormKernelIdeal.τ).loc Cert.AdwNormKernelIdeal.main_arg3) = m ((c.tc : Thread Cert.AdwNormKernelIdeal.nD Cert.AdwNormKernelIdeal.τ).loc Cert.AdwNormKernelIdeal.main_arg3))
      ∧ θ_run (Cert.AdwNormReferenceIdeal.defs (F := Ideal)) (onTc (τ := Cert.AdwNormReferenceIdeal.τ) (Cert.AdwNormReferenceIdeal.main (F := Ideal))) ⟨m', fun _ => 0, g'⟩ (fun r => ∀ c : Dev Cert.AdwNormReferenceIdeal.nD,
          r.2.mem ((c.tc : Thread Cert.AdwNormReferenceIdeal.nD Cert.AdwNormReferenceIdeal.τ).loc Cert.AdwNormReferenceIdeal.main_arg1) = v0 c
          ∧ r.2.mem ((c.tc : Thread Cert.AdwNormReferenceIdeal.nD Cert.AdwNormReferenceIdeal.τ).loc Cert.AdwNormReferenceIdeal.main_v23) = v1 c
          ∧ r.2.mem ((c.tc : Thread Cert.AdwNormReferenceIdeal.nD Cert.AdwNormReferenceIdeal.τ).loc Cert.AdwNormReferenceIdeal.main_v4) = v2 c
          ∧ r.2.mem ((c.tc : Thread Cert.AdwNormReferenceIdeal.nD Cert.AdwNormReferenceIdeal.τ).loc Cert.AdwNormReferenceIdeal.main_v10) = v3 c
          ∧ r.2.mem ((c.tc : Thread Cert.AdwNormReferenceIdeal.nD Cert.AdwNormReferenceIdeal.τ).loc Cert.AdwNormReferenceIdeal.main_arg0) = m' ((c.tc : Thread Cert.AdwNormReferenceIdeal.nD Cert.AdwNormReferenceIdeal.τ).loc Cert.AdwNormReferenceIdeal.main_arg0)
          ∧ r.2.mem ((c.tc : Thread Cert.AdwNormReferenceIdeal.nD Cert.AdwNormReferenceIdeal.τ).loc Cert.AdwNormReferenceIdeal.main_arg1) = m' ((c.tc : Thread Cert.AdwNormReferenceIdeal.nD Cert.AdwNormReferenceIdeal.τ).loc Cert.AdwNormReferenceIdeal.main_arg1)
          ∧ r.2.mem ((c.tc : Thread Cert.AdwNormReferenceIdeal.nD Cert.AdwNormReferenceIdeal.τ).loc Cert.AdwNormReferenceIdeal.main_arg2) = m' ((c.tc : Thread Cert.AdwNormReferenceIdeal.nD Cert.AdwNormReferenceIdeal.τ).loc Cert.AdwNormReferenceIdeal.main_arg2)
          ∧ r.2.mem ((c.tc : Thread Cert.AdwNormReferenceIdeal.nD Cert.AdwNormReferenceIdeal.τ).loc Cert.AdwNormReferenceIdeal.main_arg3) = m' ((c.tc : Thread Cert.AdwNormReferenceIdeal.nD Cert.AdwNormReferenceIdeal.τ).loc Cert.AdwNormReferenceIdeal.main_arg3))

def preserves_AdwMemKernel_AdwMemKernelIdeal : Prop :=
  True

def algebraic_AdwMemKernelIdeal_AdwMemReferenceIdeal [hAdwMemKernelIdeal : Cert.AdwMemKernelIdeal.Facts] [hAdwMemReferenceIdeal : Cert.AdwMemReferenceIdeal.Facts] : Prop :=
  ∀ (m : (ℓ : Loc Cert.AdwMemKernelIdeal.nD Cert.AdwMemKernelIdeal.τ Cert.AdwMemKernelIdeal.sig) → Buf (Elt Ideal) ℓ) (g : Dev Cert.AdwMemKernelIdeal.nD → PrngReg)
    (m' : (ℓ : Loc Cert.AdwMemReferenceIdeal.nD Cert.AdwMemReferenceIdeal.τ Cert.AdwMemReferenceIdeal.sig) → Buf (Elt Ideal) ℓ) (g' : Dev Cert.AdwMemReferenceIdeal.nD → PrngReg), Pre_AdwMemKernelIdeal m →
    (∀ c : Dev Cert.AdwMemKernelIdeal.nD,
      m' ((c.tc : Thread Cert.AdwMemReferenceIdeal.nD Cert.AdwMemReferenceIdeal.τ).loc Cert.AdwMemReferenceIdeal.main_arg0) = m ((c.tc : Thread Cert.AdwMemKernelIdeal.nD Cert.AdwMemKernelIdeal.τ).loc Cert.AdwMemKernelIdeal.main_arg0)
      ∧ m' ((c.tc : Thread Cert.AdwMemReferenceIdeal.nD Cert.AdwMemReferenceIdeal.τ).loc Cert.AdwMemReferenceIdeal.main_arg1) = m ((c.tc : Thread Cert.AdwMemKernelIdeal.nD Cert.AdwMemKernelIdeal.τ).loc Cert.AdwMemKernelIdeal.main_arg1)
      ∧ m' ((c.tc : Thread Cert.AdwMemReferenceIdeal.nD Cert.AdwMemReferenceIdeal.τ).loc Cert.AdwMemReferenceIdeal.main_arg2) = m ((c.tc : Thread Cert.AdwMemKernelIdeal.nD Cert.AdwMemKernelIdeal.τ).loc Cert.AdwMemKernelIdeal.main_arg2)
      ∧ m' ((c.tc : Thread Cert.AdwMemReferenceIdeal.nD Cert.AdwMemReferenceIdeal.τ).loc Cert.AdwMemReferenceIdeal.main_arg3) = m ((c.tc : Thread Cert.AdwMemKernelIdeal.nD Cert.AdwMemKernelIdeal.τ).loc Cert.AdwMemKernelIdeal.main_arg3)) →
    ∃ (v0 : (c : Dev Cert.AdwMemKernelIdeal.nD) → Buf (Elt Ideal) ((c.tc : Thread Cert.AdwMemKernelIdeal.nD Cert.AdwMemKernelIdeal.τ).loc Cert.AdwMemKernelIdeal.main_v0_0)) (v1 : (c : Dev Cert.AdwMemKernelIdeal.nD) → Buf (Elt Ideal) ((c.tc : Thread Cert.AdwMemKernelIdeal.nD Cert.AdwMemKernelIdeal.τ).loc Cert.AdwMemKernelIdeal.main_v0_1)) (v2 : (c : Dev Cert.AdwMemKernelIdeal.nD) → Buf (Elt Ideal) ((c.tc : Thread Cert.AdwMemKernelIdeal.nD Cert.AdwMemKernelIdeal.τ).loc Cert.AdwMemKernelIdeal.main_v0_2)) (v3 : (c : Dev Cert.AdwMemKernelIdeal.nD) → Buf (Elt Ideal) ((c.tc : Thread Cert.AdwMemKernelIdeal.nD Cert.AdwMemKernelIdeal.τ).loc Cert.AdwMemKernelIdeal.main_v0_3)),
      θ_run (Cert.AdwMemKernelIdeal.defs (F := Ideal)) (onTc (τ := Cert.AdwMemKernelIdeal.τ) (Cert.AdwMemKernelIdeal.main (F := Ideal))) ⟨m, fun _ => 0, g⟩ (fun r => ∀ c : Dev Cert.AdwMemKernelIdeal.nD,
          r.2.mem ((c.tc : Thread Cert.AdwMemKernelIdeal.nD Cert.AdwMemKernelIdeal.τ).loc Cert.AdwMemKernelIdeal.main_v0_0) = v0 c
          ∧ r.2.mem ((c.tc : Thread Cert.AdwMemKernelIdeal.nD Cert.AdwMemKernelIdeal.τ).loc Cert.AdwMemKernelIdeal.main_v0_1) = v1 c
          ∧ r.2.mem ((c.tc : Thread Cert.AdwMemKernelIdeal.nD Cert.AdwMemKernelIdeal.τ).loc Cert.AdwMemKernelIdeal.main_v0_2) = v2 c
          ∧ r.2.mem ((c.tc : Thread Cert.AdwMemKernelIdeal.nD Cert.AdwMemKernelIdeal.τ).loc Cert.AdwMemKernelIdeal.main_v0_3) = v3 c
          ∧ r.2.mem ((c.tc : Thread Cert.AdwMemKernelIdeal.nD Cert.AdwMemKernelIdeal.τ).loc Cert.AdwMemKernelIdeal.main_arg0) = m ((c.tc : Thread Cert.AdwMemKernelIdeal.nD Cert.AdwMemKernelIdeal.τ).loc Cert.AdwMemKernelIdeal.main_arg0)
          ∧ r.2.mem ((c.tc : Thread Cert.AdwMemKernelIdeal.nD Cert.AdwMemKernelIdeal.τ).loc Cert.AdwMemKernelIdeal.main_arg1) = m ((c.tc : Thread Cert.AdwMemKernelIdeal.nD Cert.AdwMemKernelIdeal.τ).loc Cert.AdwMemKernelIdeal.main_arg1)
          ∧ r.2.mem ((c.tc : Thread Cert.AdwMemKernelIdeal.nD Cert.AdwMemKernelIdeal.τ).loc Cert.AdwMemKernelIdeal.main_arg2) = m ((c.tc : Thread Cert.AdwMemKernelIdeal.nD Cert.AdwMemKernelIdeal.τ).loc Cert.AdwMemKernelIdeal.main_arg2)
          ∧ r.2.mem ((c.tc : Thread Cert.AdwMemKernelIdeal.nD Cert.AdwMemKernelIdeal.τ).loc Cert.AdwMemKernelIdeal.main_arg3) = m ((c.tc : Thread Cert.AdwMemKernelIdeal.nD Cert.AdwMemKernelIdeal.τ).loc Cert.AdwMemKernelIdeal.main_arg3))
      ∧ θ_run (Cert.AdwMemReferenceIdeal.defs (F := Ideal)) (onTc (τ := Cert.AdwMemReferenceIdeal.τ) (Cert.AdwMemReferenceIdeal.main (F := Ideal))) ⟨m', fun _ => 0, g'⟩ (fun r => ∀ c : Dev Cert.AdwMemReferenceIdeal.nD,
          r.2.mem ((c.tc : Thread Cert.AdwMemReferenceIdeal.nD Cert.AdwMemReferenceIdeal.τ).loc Cert.AdwMemReferenceIdeal.main_v0) = v0 c
          ∧ r.2.mem ((c.tc : Thread Cert.AdwMemReferenceIdeal.nD Cert.AdwMemReferenceIdeal.τ).loc Cert.AdwMemReferenceIdeal.main_v24) = v1 c
          ∧ r.2.mem ((c.tc : Thread Cert.AdwMemReferenceIdeal.nD Cert.AdwMemReferenceIdeal.τ).loc Cert.AdwMemReferenceIdeal.main_v5) = v2 c
          ∧ r.2.mem ((c.tc : Thread Cert.AdwMemReferenceIdeal.nD Cert.AdwMemReferenceIdeal.τ).loc Cert.AdwMemReferenceIdeal.main_v11) = v3 c
          ∧ r.2.mem ((c.tc : Thread Cert.AdwMemReferenceIdeal.nD Cert.AdwMemReferenceIdeal.τ).loc Cert.AdwMemReferenceIdeal.main_arg0) = m' ((c.tc : Thread Cert.AdwMemReferenceIdeal.nD Cert.AdwMemReferenceIdeal.τ).loc Cert.AdwMemReferenceIdeal.main_arg0)
          ∧ r.2.mem ((c.tc : Thread Cert.AdwMemReferenceIdeal.nD Cert.AdwMemReferenceIdeal.τ).loc Cert.AdwMemReferenceIdeal.main_arg1) = m' ((c.tc : Thread Cert.AdwMemReferenceIdeal.nD Cert.AdwMemReferenceIdeal.τ).loc Cert.AdwMemReferenceIdeal.main_arg1)
          ∧ r.2.mem ((c.tc : Thread Cert.AdwMemReferenceIdeal.nD Cert.AdwMemReferenceIdeal.τ).loc Cert.AdwMemReferenceIdeal.main_arg2) = m' ((c.tc : Thread Cert.AdwMemReferenceIdeal.nD Cert.AdwMemReferenceIdeal.τ).loc Cert.AdwMemReferenceIdeal.main_arg2)
          ∧ r.2.mem ((c.tc : Thread Cert.AdwMemReferenceIdeal.nD Cert.AdwMemReferenceIdeal.τ).loc Cert.AdwMemReferenceIdeal.main_arg3) = m' ((c.tc : Thread Cert.AdwMemReferenceIdeal.nD Cert.AdwMemReferenceIdeal.τ).loc Cert.AdwMemReferenceIdeal.main_arg3))

def preserves_AdwSwaUpKernel_AdwSwaUpKernelIdeal : Prop :=
  True

def algebraic_AdwSwaUpKernelIdeal_AdwSwaUpReferenceIdeal [hAdwSwaUpKernelIdeal : Cert.AdwSwaUpKernelIdeal.Facts] [hAdwSwaUpReferenceIdeal : Cert.AdwSwaUpReferenceIdeal.Facts] : Prop :=
  ∀ (m : (ℓ : Loc Cert.AdwSwaUpKernelIdeal.nD Cert.AdwSwaUpKernelIdeal.τ Cert.AdwSwaUpKernelIdeal.sig) → Buf (Elt Ideal) ℓ) (g : Dev Cert.AdwSwaUpKernelIdeal.nD → PrngReg)
    (m' : (ℓ : Loc Cert.AdwSwaUpReferenceIdeal.nD Cert.AdwSwaUpReferenceIdeal.τ Cert.AdwSwaUpReferenceIdeal.sig) → Buf (Elt Ideal) ℓ) (g' : Dev Cert.AdwSwaUpReferenceIdeal.nD → PrngReg), Pre_AdwSwaUpKernelIdeal m →
    (∀ c : Dev Cert.AdwSwaUpKernelIdeal.nD,
      m' ((c.tc : Thread Cert.AdwSwaUpReferenceIdeal.nD Cert.AdwSwaUpReferenceIdeal.τ).loc Cert.AdwSwaUpReferenceIdeal.main_arg0) = m ((c.tc : Thread Cert.AdwSwaUpKernelIdeal.nD Cert.AdwSwaUpKernelIdeal.τ).loc Cert.AdwSwaUpKernelIdeal.main_arg0)
      ∧ m' ((c.tc : Thread Cert.AdwSwaUpReferenceIdeal.nD Cert.AdwSwaUpReferenceIdeal.τ).loc Cert.AdwSwaUpReferenceIdeal.main_arg1) = m ((c.tc : Thread Cert.AdwSwaUpKernelIdeal.nD Cert.AdwSwaUpKernelIdeal.τ).loc Cert.AdwSwaUpKernelIdeal.main_arg1)
      ∧ m' ((c.tc : Thread Cert.AdwSwaUpReferenceIdeal.nD Cert.AdwSwaUpReferenceIdeal.τ).loc Cert.AdwSwaUpReferenceIdeal.main_arg2) = m ((c.tc : Thread Cert.AdwSwaUpKernelIdeal.nD Cert.AdwSwaUpKernelIdeal.τ).loc Cert.AdwSwaUpKernelIdeal.main_arg2)
      ∧ m' ((c.tc : Thread Cert.AdwSwaUpReferenceIdeal.nD Cert.AdwSwaUpReferenceIdeal.τ).loc Cert.AdwSwaUpReferenceIdeal.main_arg3) = m ((c.tc : Thread Cert.AdwSwaUpKernelIdeal.nD Cert.AdwSwaUpKernelIdeal.τ).loc Cert.AdwSwaUpKernelIdeal.main_arg3)) →
    ∃ (v0 : (c : Dev Cert.AdwSwaUpKernelIdeal.nD) → Buf (Elt Ideal) ((c.tc : Thread Cert.AdwSwaUpKernelIdeal.nD Cert.AdwSwaUpKernelIdeal.τ).loc Cert.AdwSwaUpKernelIdeal.main_v0_0)) (v1 : (c : Dev Cert.AdwSwaUpKernelIdeal.nD) → Buf (Elt Ideal) ((c.tc : Thread Cert.AdwSwaUpKernelIdeal.nD Cert.AdwSwaUpKernelIdeal.τ).loc Cert.AdwSwaUpKernelIdeal.main_v0_1)) (v2 : (c : Dev Cert.AdwSwaUpKernelIdeal.nD) → Buf (Elt Ideal) ((c.tc : Thread Cert.AdwSwaUpKernelIdeal.nD Cert.AdwSwaUpKernelIdeal.τ).loc Cert.AdwSwaUpKernelIdeal.main_v0_2)) (v3 : (c : Dev Cert.AdwSwaUpKernelIdeal.nD) → Buf (Elt Ideal) ((c.tc : Thread Cert.AdwSwaUpKernelIdeal.nD Cert.AdwSwaUpKernelIdeal.τ).loc Cert.AdwSwaUpKernelIdeal.main_v0_3)),
      θ_run (Cert.AdwSwaUpKernelIdeal.defs (F := Ideal)) (onTc (τ := Cert.AdwSwaUpKernelIdeal.τ) (Cert.AdwSwaUpKernelIdeal.main (F := Ideal))) ⟨m, fun _ => 0, g⟩ (fun r => ∀ c : Dev Cert.AdwSwaUpKernelIdeal.nD,
          r.2.mem ((c.tc : Thread Cert.AdwSwaUpKernelIdeal.nD Cert.AdwSwaUpKernelIdeal.τ).loc Cert.AdwSwaUpKernelIdeal.main_v0_0) = v0 c
          ∧ r.2.mem ((c.tc : Thread Cert.AdwSwaUpKernelIdeal.nD Cert.AdwSwaUpKernelIdeal.τ).loc Cert.AdwSwaUpKernelIdeal.main_v0_1) = v1 c
          ∧ r.2.mem ((c.tc : Thread Cert.AdwSwaUpKernelIdeal.nD Cert.AdwSwaUpKernelIdeal.τ).loc Cert.AdwSwaUpKernelIdeal.main_v0_2) = v2 c
          ∧ r.2.mem ((c.tc : Thread Cert.AdwSwaUpKernelIdeal.nD Cert.AdwSwaUpKernelIdeal.τ).loc Cert.AdwSwaUpKernelIdeal.main_v0_3) = v3 c
          ∧ r.2.mem ((c.tc : Thread Cert.AdwSwaUpKernelIdeal.nD Cert.AdwSwaUpKernelIdeal.τ).loc Cert.AdwSwaUpKernelIdeal.main_arg0) = m ((c.tc : Thread Cert.AdwSwaUpKernelIdeal.nD Cert.AdwSwaUpKernelIdeal.τ).loc Cert.AdwSwaUpKernelIdeal.main_arg0)
          ∧ r.2.mem ((c.tc : Thread Cert.AdwSwaUpKernelIdeal.nD Cert.AdwSwaUpKernelIdeal.τ).loc Cert.AdwSwaUpKernelIdeal.main_arg1) = m ((c.tc : Thread Cert.AdwSwaUpKernelIdeal.nD Cert.AdwSwaUpKernelIdeal.τ).loc Cert.AdwSwaUpKernelIdeal.main_arg1)
          ∧ r.2.mem ((c.tc : Thread Cert.AdwSwaUpKernelIdeal.nD Cert.AdwSwaUpKernelIdeal.τ).loc Cert.AdwSwaUpKernelIdeal.main_arg2) = m ((c.tc : Thread Cert.AdwSwaUpKernelIdeal.nD Cert.AdwSwaUpKernelIdeal.τ).loc Cert.AdwSwaUpKernelIdeal.main_arg2)
          ∧ r.2.mem ((c.tc : Thread Cert.AdwSwaUpKernelIdeal.nD Cert.AdwSwaUpKernelIdeal.τ).loc Cert.AdwSwaUpKernelIdeal.main_arg3) = m ((c.tc : Thread Cert.AdwSwaUpKernelIdeal.nD Cert.AdwSwaUpKernelIdeal.τ).loc Cert.AdwSwaUpKernelIdeal.main_arg3))
      ∧ θ_run (Cert.AdwSwaUpReferenceIdeal.defs (F := Ideal)) (onTc (τ := Cert.AdwSwaUpReferenceIdeal.τ) (Cert.AdwSwaUpReferenceIdeal.main (F := Ideal))) ⟨m', fun _ => 0, g'⟩ (fun r => ∀ c : Dev Cert.AdwSwaUpReferenceIdeal.nD,
          r.2.mem ((c.tc : Thread Cert.AdwSwaUpReferenceIdeal.nD Cert.AdwSwaUpReferenceIdeal.τ).loc Cert.AdwSwaUpReferenceIdeal.main_v0) = v0 c
          ∧ r.2.mem ((c.tc : Thread Cert.AdwSwaUpReferenceIdeal.nD Cert.AdwSwaUpReferenceIdeal.τ).loc Cert.AdwSwaUpReferenceIdeal.main_v24) = v1 c
          ∧ r.2.mem ((c.tc : Thread Cert.AdwSwaUpReferenceIdeal.nD Cert.AdwSwaUpReferenceIdeal.τ).loc Cert.AdwSwaUpReferenceIdeal.main_v5) = v2 c
          ∧ r.2.mem ((c.tc : Thread Cert.AdwSwaUpReferenceIdeal.nD Cert.AdwSwaUpReferenceIdeal.τ).loc Cert.AdwSwaUpReferenceIdeal.main_v11) = v3 c
          ∧ r.2.mem ((c.tc : Thread Cert.AdwSwaUpReferenceIdeal.nD Cert.AdwSwaUpReferenceIdeal.τ).loc Cert.AdwSwaUpReferenceIdeal.main_arg0) = m' ((c.tc : Thread Cert.AdwSwaUpReferenceIdeal.nD Cert.AdwSwaUpReferenceIdeal.τ).loc Cert.AdwSwaUpReferenceIdeal.main_arg0)
          ∧ r.2.mem ((c.tc : Thread Cert.AdwSwaUpReferenceIdeal.nD Cert.AdwSwaUpReferenceIdeal.τ).loc Cert.AdwSwaUpReferenceIdeal.main_arg1) = m' ((c.tc : Thread Cert.AdwSwaUpReferenceIdeal.nD Cert.AdwSwaUpReferenceIdeal.τ).loc Cert.AdwSwaUpReferenceIdeal.main_arg1)
          ∧ r.2.mem ((c.tc : Thread Cert.AdwSwaUpReferenceIdeal.nD Cert.AdwSwaUpReferenceIdeal.τ).loc Cert.AdwSwaUpReferenceIdeal.main_arg2) = m' ((c.tc : Thread Cert.AdwSwaUpReferenceIdeal.nD Cert.AdwSwaUpReferenceIdeal.τ).loc Cert.AdwSwaUpReferenceIdeal.main_arg2)
          ∧ r.2.mem ((c.tc : Thread Cert.AdwSwaUpReferenceIdeal.nD Cert.AdwSwaUpReferenceIdeal.τ).loc Cert.AdwSwaUpReferenceIdeal.main_arg3) = m' ((c.tc : Thread Cert.AdwSwaUpReferenceIdeal.nD Cert.AdwSwaUpReferenceIdeal.τ).loc Cert.AdwSwaUpReferenceIdeal.main_arg3))

def preserves_AdwUpKernel_AdwUpKernelIdeal : Prop :=
  True

def algebraic_AdwUpKernelIdeal_AdwUpReferenceIdeal [hAdwUpKernelIdeal : Cert.AdwUpKernelIdeal.Facts] [hAdwUpReferenceIdeal : Cert.AdwUpReferenceIdeal.Facts] : Prop :=
  ∀ (m : (ℓ : Loc Cert.AdwUpKernelIdeal.nD Cert.AdwUpKernelIdeal.τ Cert.AdwUpKernelIdeal.sig) → Buf (Elt Ideal) ℓ) (g : Dev Cert.AdwUpKernelIdeal.nD → PrngReg)
    (m' : (ℓ : Loc Cert.AdwUpReferenceIdeal.nD Cert.AdwUpReferenceIdeal.τ Cert.AdwUpReferenceIdeal.sig) → Buf (Elt Ideal) ℓ) (g' : Dev Cert.AdwUpReferenceIdeal.nD → PrngReg), Pre_AdwUpKernelIdeal m →
    (∀ c : Dev Cert.AdwUpKernelIdeal.nD,
      m' ((c.tc : Thread Cert.AdwUpReferenceIdeal.nD Cert.AdwUpReferenceIdeal.τ).loc Cert.AdwUpReferenceIdeal.main_arg0) = m ((c.tc : Thread Cert.AdwUpKernelIdeal.nD Cert.AdwUpKernelIdeal.τ).loc Cert.AdwUpKernelIdeal.main_arg0)
      ∧ m' ((c.tc : Thread Cert.AdwUpReferenceIdeal.nD Cert.AdwUpReferenceIdeal.τ).loc Cert.AdwUpReferenceIdeal.main_arg1) = m ((c.tc : Thread Cert.AdwUpKernelIdeal.nD Cert.AdwUpKernelIdeal.τ).loc Cert.AdwUpKernelIdeal.main_arg1)
      ∧ m' ((c.tc : Thread Cert.AdwUpReferenceIdeal.nD Cert.AdwUpReferenceIdeal.τ).loc Cert.AdwUpReferenceIdeal.main_arg2) = m ((c.tc : Thread Cert.AdwUpKernelIdeal.nD Cert.AdwUpKernelIdeal.τ).loc Cert.AdwUpKernelIdeal.main_arg2)
      ∧ m' ((c.tc : Thread Cert.AdwUpReferenceIdeal.nD Cert.AdwUpReferenceIdeal.τ).loc Cert.AdwUpReferenceIdeal.main_arg3) = m ((c.tc : Thread Cert.AdwUpKernelIdeal.nD Cert.AdwUpKernelIdeal.τ).loc Cert.AdwUpKernelIdeal.main_arg3)) →
    ∃ (v0 : (c : Dev Cert.AdwUpKernelIdeal.nD) → Buf (Elt Ideal) ((c.tc : Thread Cert.AdwUpKernelIdeal.nD Cert.AdwUpKernelIdeal.τ).loc Cert.AdwUpKernelIdeal.main_v0_0)) (v1 : (c : Dev Cert.AdwUpKernelIdeal.nD) → Buf (Elt Ideal) ((c.tc : Thread Cert.AdwUpKernelIdeal.nD Cert.AdwUpKernelIdeal.τ).loc Cert.AdwUpKernelIdeal.main_v0_1)) (v2 : (c : Dev Cert.AdwUpKernelIdeal.nD) → Buf (Elt Ideal) ((c.tc : Thread Cert.AdwUpKernelIdeal.nD Cert.AdwUpKernelIdeal.τ).loc Cert.AdwUpKernelIdeal.main_v0_2)) (v3 : (c : Dev Cert.AdwUpKernelIdeal.nD) → Buf (Elt Ideal) ((c.tc : Thread Cert.AdwUpKernelIdeal.nD Cert.AdwUpKernelIdeal.τ).loc Cert.AdwUpKernelIdeal.main_v0_3)),
      θ_run (Cert.AdwUpKernelIdeal.defs (F := Ideal)) (onTc (τ := Cert.AdwUpKernelIdeal.τ) (Cert.AdwUpKernelIdeal.main (F := Ideal))) ⟨m, fun _ => 0, g⟩ (fun r => ∀ c : Dev Cert.AdwUpKernelIdeal.nD,
          r.2.mem ((c.tc : Thread Cert.AdwUpKernelIdeal.nD Cert.AdwUpKernelIdeal.τ).loc Cert.AdwUpKernelIdeal.main_v0_0) = v0 c
          ∧ r.2.mem ((c.tc : Thread Cert.AdwUpKernelIdeal.nD Cert.AdwUpKernelIdeal.τ).loc Cert.AdwUpKernelIdeal.main_v0_1) = v1 c
          ∧ r.2.mem ((c.tc : Thread Cert.AdwUpKernelIdeal.nD Cert.AdwUpKernelIdeal.τ).loc Cert.AdwUpKernelIdeal.main_v0_2) = v2 c
          ∧ r.2.mem ((c.tc : Thread Cert.AdwUpKernelIdeal.nD Cert.AdwUpKernelIdeal.τ).loc Cert.AdwUpKernelIdeal.main_v0_3) = v3 c
          ∧ r.2.mem ((c.tc : Thread Cert.AdwUpKernelIdeal.nD Cert.AdwUpKernelIdeal.τ).loc Cert.AdwUpKernelIdeal.main_arg0) = m ((c.tc : Thread Cert.AdwUpKernelIdeal.nD Cert.AdwUpKernelIdeal.τ).loc Cert.AdwUpKernelIdeal.main_arg0)
          ∧ r.2.mem ((c.tc : Thread Cert.AdwUpKernelIdeal.nD Cert.AdwUpKernelIdeal.τ).loc Cert.AdwUpKernelIdeal.main_arg1) = m ((c.tc : Thread Cert.AdwUpKernelIdeal.nD Cert.AdwUpKernelIdeal.τ).loc Cert.AdwUpKernelIdeal.main_arg1)
          ∧ r.2.mem ((c.tc : Thread Cert.AdwUpKernelIdeal.nD Cert.AdwUpKernelIdeal.τ).loc Cert.AdwUpKernelIdeal.main_arg2) = m ((c.tc : Thread Cert.AdwUpKernelIdeal.nD Cert.AdwUpKernelIdeal.τ).loc Cert.AdwUpKernelIdeal.main_arg2)
          ∧ r.2.mem ((c.tc : Thread Cert.AdwUpKernelIdeal.nD Cert.AdwUpKernelIdeal.τ).loc Cert.AdwUpKernelIdeal.main_arg3) = m ((c.tc : Thread Cert.AdwUpKernelIdeal.nD Cert.AdwUpKernelIdeal.τ).loc Cert.AdwUpKernelIdeal.main_arg3))
      ∧ θ_run (Cert.AdwUpReferenceIdeal.defs (F := Ideal)) (onTc (τ := Cert.AdwUpReferenceIdeal.τ) (Cert.AdwUpReferenceIdeal.main (F := Ideal))) ⟨m', fun _ => 0, g'⟩ (fun r => ∀ c : Dev Cert.AdwUpReferenceIdeal.nD,
          r.2.mem ((c.tc : Thread Cert.AdwUpReferenceIdeal.nD Cert.AdwUpReferenceIdeal.τ).loc Cert.AdwUpReferenceIdeal.main_v0) = v0 c
          ∧ r.2.mem ((c.tc : Thread Cert.AdwUpReferenceIdeal.nD Cert.AdwUpReferenceIdeal.τ).loc Cert.AdwUpReferenceIdeal.main_v24) = v1 c
          ∧ r.2.mem ((c.tc : Thread Cert.AdwUpReferenceIdeal.nD Cert.AdwUpReferenceIdeal.τ).loc Cert.AdwUpReferenceIdeal.main_v5) = v2 c
          ∧ r.2.mem ((c.tc : Thread Cert.AdwUpReferenceIdeal.nD Cert.AdwUpReferenceIdeal.τ).loc Cert.AdwUpReferenceIdeal.main_v11) = v3 c
          ∧ r.2.mem ((c.tc : Thread Cert.AdwUpReferenceIdeal.nD Cert.AdwUpReferenceIdeal.τ).loc Cert.AdwUpReferenceIdeal.main_arg0) = m' ((c.tc : Thread Cert.AdwUpReferenceIdeal.nD Cert.AdwUpReferenceIdeal.τ).loc Cert.AdwUpReferenceIdeal.main_arg0)
          ∧ r.2.mem ((c.tc : Thread Cert.AdwUpReferenceIdeal.nD Cert.AdwUpReferenceIdeal.τ).loc Cert.AdwUpReferenceIdeal.main_arg1) = m' ((c.tc : Thread Cert.AdwUpReferenceIdeal.nD Cert.AdwUpReferenceIdeal.τ).loc Cert.AdwUpReferenceIdeal.main_arg1)
          ∧ r.2.mem ((c.tc : Thread Cert.AdwUpReferenceIdeal.nD Cert.AdwUpReferenceIdeal.τ).loc Cert.AdwUpReferenceIdeal.main_arg2) = m' ((c.tc : Thread Cert.AdwUpReferenceIdeal.nD Cert.AdwUpReferenceIdeal.τ).loc Cert.AdwUpReferenceIdeal.main_arg2)
          ∧ r.2.mem ((c.tc : Thread Cert.AdwUpReferenceIdeal.nD Cert.AdwUpReferenceIdeal.τ).loc Cert.AdwUpReferenceIdeal.main_arg3) = m' ((c.tc : Thread Cert.AdwUpReferenceIdeal.nD Cert.AdwUpReferenceIdeal.τ).loc Cert.AdwUpReferenceIdeal.main_arg3))

def preserves_AdwOutKernel_AdwOutKernelIdeal : Prop :=
  True

def algebraic_AdwOutKernelIdeal_AdwOutReferenceIdeal [hAdwOutKernelIdeal : Cert.AdwOutKernelIdeal.Facts] [hAdwOutReferenceIdeal : Cert.AdwOutReferenceIdeal.Facts] : Prop :=
  ∀ (m : (ℓ : Loc Cert.AdwOutKernelIdeal.nD Cert.AdwOutKernelIdeal.τ Cert.AdwOutKernelIdeal.sig) → Buf (Elt Ideal) ℓ) (g : Dev Cert.AdwOutKernelIdeal.nD → PrngReg)
    (m' : (ℓ : Loc Cert.AdwOutReferenceIdeal.nD Cert.AdwOutReferenceIdeal.τ Cert.AdwOutReferenceIdeal.sig) → Buf (Elt Ideal) ℓ) (g' : Dev Cert.AdwOutReferenceIdeal.nD → PrngReg), Pre_AdwOutKernelIdeal m →
    (∀ c : Dev Cert.AdwOutKernelIdeal.nD,
      m' ((c.tc : Thread Cert.AdwOutReferenceIdeal.nD Cert.AdwOutReferenceIdeal.τ).loc Cert.AdwOutReferenceIdeal.main_arg0) = m ((c.tc : Thread Cert.AdwOutKernelIdeal.nD Cert.AdwOutKernelIdeal.τ).loc Cert.AdwOutKernelIdeal.main_arg0)
      ∧ m' ((c.tc : Thread Cert.AdwOutReferenceIdeal.nD Cert.AdwOutReferenceIdeal.τ).loc Cert.AdwOutReferenceIdeal.main_arg1) = m ((c.tc : Thread Cert.AdwOutKernelIdeal.nD Cert.AdwOutKernelIdeal.τ).loc Cert.AdwOutKernelIdeal.main_arg1)
      ∧ m' ((c.tc : Thread Cert.AdwOutReferenceIdeal.nD Cert.AdwOutReferenceIdeal.τ).loc Cert.AdwOutReferenceIdeal.main_arg2) = m ((c.tc : Thread Cert.AdwOutKernelIdeal.nD Cert.AdwOutKernelIdeal.τ).loc Cert.AdwOutKernelIdeal.main_arg2)
      ∧ m' ((c.tc : Thread Cert.AdwOutReferenceIdeal.nD Cert.AdwOutReferenceIdeal.τ).loc Cert.AdwOutReferenceIdeal.main_arg3) = m ((c.tc : Thread Cert.AdwOutKernelIdeal.nD Cert.AdwOutKernelIdeal.τ).loc Cert.AdwOutKernelIdeal.main_arg3)) →
    ∃ (v0 : (c : Dev Cert.AdwOutKernelIdeal.nD) → Buf (Elt Ideal) ((c.tc : Thread Cert.AdwOutKernelIdeal.nD Cert.AdwOutKernelIdeal.τ).loc Cert.AdwOutKernelIdeal.main_v0_0)) (v1 : (c : Dev Cert.AdwOutKernelIdeal.nD) → Buf (Elt Ideal) ((c.tc : Thread Cert.AdwOutKernelIdeal.nD Cert.AdwOutKernelIdeal.τ).loc Cert.AdwOutKernelIdeal.main_v0_1)) (v2 : (c : Dev Cert.AdwOutKernelIdeal.nD) → Buf (Elt Ideal) ((c.tc : Thread Cert.AdwOutKernelIdeal.nD Cert.AdwOutKernelIdeal.τ).loc Cert.AdwOutKernelIdeal.main_v0_2)) (v3 : (c : Dev Cert.AdwOutKernelIdeal.nD) → Buf (Elt Ideal) ((c.tc : Thread Cert.AdwOutKernelIdeal.nD Cert.AdwOutKernelIdeal.τ).loc Cert.AdwOutKernelIdeal.main_v0_3)),
      θ_run (Cert.AdwOutKernelIdeal.defs (F := Ideal)) (onTc (τ := Cert.AdwOutKernelIdeal.τ) (Cert.AdwOutKernelIdeal.main (F := Ideal))) ⟨m, fun _ => 0, g⟩ (fun r => ∀ c : Dev Cert.AdwOutKernelIdeal.nD,
          r.2.mem ((c.tc : Thread Cert.AdwOutKernelIdeal.nD Cert.AdwOutKernelIdeal.τ).loc Cert.AdwOutKernelIdeal.main_v0_0) = v0 c
          ∧ r.2.mem ((c.tc : Thread Cert.AdwOutKernelIdeal.nD Cert.AdwOutKernelIdeal.τ).loc Cert.AdwOutKernelIdeal.main_v0_1) = v1 c
          ∧ r.2.mem ((c.tc : Thread Cert.AdwOutKernelIdeal.nD Cert.AdwOutKernelIdeal.τ).loc Cert.AdwOutKernelIdeal.main_v0_2) = v2 c
          ∧ r.2.mem ((c.tc : Thread Cert.AdwOutKernelIdeal.nD Cert.AdwOutKernelIdeal.τ).loc Cert.AdwOutKernelIdeal.main_v0_3) = v3 c
          ∧ r.2.mem ((c.tc : Thread Cert.AdwOutKernelIdeal.nD Cert.AdwOutKernelIdeal.τ).loc Cert.AdwOutKernelIdeal.main_arg0) = m ((c.tc : Thread Cert.AdwOutKernelIdeal.nD Cert.AdwOutKernelIdeal.τ).loc Cert.AdwOutKernelIdeal.main_arg0)
          ∧ r.2.mem ((c.tc : Thread Cert.AdwOutKernelIdeal.nD Cert.AdwOutKernelIdeal.τ).loc Cert.AdwOutKernelIdeal.main_arg1) = m ((c.tc : Thread Cert.AdwOutKernelIdeal.nD Cert.AdwOutKernelIdeal.τ).loc Cert.AdwOutKernelIdeal.main_arg1)
          ∧ r.2.mem ((c.tc : Thread Cert.AdwOutKernelIdeal.nD Cert.AdwOutKernelIdeal.τ).loc Cert.AdwOutKernelIdeal.main_arg2) = m ((c.tc : Thread Cert.AdwOutKernelIdeal.nD Cert.AdwOutKernelIdeal.τ).loc Cert.AdwOutKernelIdeal.main_arg2)
          ∧ r.2.mem ((c.tc : Thread Cert.AdwOutKernelIdeal.nD Cert.AdwOutKernelIdeal.τ).loc Cert.AdwOutKernelIdeal.main_arg3) = m ((c.tc : Thread Cert.AdwOutKernelIdeal.nD Cert.AdwOutKernelIdeal.τ).loc Cert.AdwOutKernelIdeal.main_arg3))
      ∧ θ_run (Cert.AdwOutReferenceIdeal.defs (F := Ideal)) (onTc (τ := Cert.AdwOutReferenceIdeal.τ) (Cert.AdwOutReferenceIdeal.main (F := Ideal))) ⟨m', fun _ => 0, g'⟩ (fun r => ∀ c : Dev Cert.AdwOutReferenceIdeal.nD,
          r.2.mem ((c.tc : Thread Cert.AdwOutReferenceIdeal.nD Cert.AdwOutReferenceIdeal.τ).loc Cert.AdwOutReferenceIdeal.main_v0) = v0 c
          ∧ r.2.mem ((c.tc : Thread Cert.AdwOutReferenceIdeal.nD Cert.AdwOutReferenceIdeal.τ).loc Cert.AdwOutReferenceIdeal.main_v24) = v1 c
          ∧ r.2.mem ((c.tc : Thread Cert.AdwOutReferenceIdeal.nD Cert.AdwOutReferenceIdeal.τ).loc Cert.AdwOutReferenceIdeal.main_v5) = v2 c
          ∧ r.2.mem ((c.tc : Thread Cert.AdwOutReferenceIdeal.nD Cert.AdwOutReferenceIdeal.τ).loc Cert.AdwOutReferenceIdeal.main_v11) = v3 c
          ∧ r.2.mem ((c.tc : Thread Cert.AdwOutReferenceIdeal.nD Cert.AdwOutReferenceIdeal.τ).loc Cert.AdwOutReferenceIdeal.main_arg0) = m' ((c.tc : Thread Cert.AdwOutReferenceIdeal.nD Cert.AdwOutReferenceIdeal.τ).loc Cert.AdwOutReferenceIdeal.main_arg0)
          ∧ r.2.mem ((c.tc : Thread Cert.AdwOutReferenceIdeal.nD Cert.AdwOutReferenceIdeal.τ).loc Cert.AdwOutReferenceIdeal.main_arg1) = m' ((c.tc : Thread Cert.AdwOutReferenceIdeal.nD Cert.AdwOutReferenceIdeal.τ).loc Cert.AdwOutReferenceIdeal.main_arg1)
          ∧ r.2.mem ((c.tc : Thread Cert.AdwOutReferenceIdeal.nD Cert.AdwOutReferenceIdeal.τ).loc Cert.AdwOutReferenceIdeal.main_arg2) = m' ((c.tc : Thread Cert.AdwOutReferenceIdeal.nD Cert.AdwOutReferenceIdeal.τ).loc Cert.AdwOutReferenceIdeal.main_arg2)
          ∧ r.2.mem ((c.tc : Thread Cert.AdwOutReferenceIdeal.nD Cert.AdwOutReferenceIdeal.τ).loc Cert.AdwOutReferenceIdeal.main_arg3) = m' ((c.tc : Thread Cert.AdwOutReferenceIdeal.nD Cert.AdwOutReferenceIdeal.τ).loc Cert.AdwOutReferenceIdeal.main_arg3))

def preserves_AdwMlpKernel_AdwMlpKernelIdeal : Prop :=
  True

def algebraic_AdwMlpKernelIdeal_AdwMlpReferenceIdeal [hAdwMlpKernelIdeal : Cert.AdwMlpKernelIdeal.Facts] [hAdwMlpReferenceIdeal : Cert.AdwMlpReferenceIdeal.Facts] : Prop :=
  ∀ (m : (ℓ : Loc Cert.AdwMlpKernelIdeal.nD Cert.AdwMlpKernelIdeal.τ Cert.AdwMlpKernelIdeal.sig) → Buf (Elt Ideal) ℓ) (g : Dev Cert.AdwMlpKernelIdeal.nD → PrngReg)
    (m' : (ℓ : Loc Cert.AdwMlpReferenceIdeal.nD Cert.AdwMlpReferenceIdeal.τ Cert.AdwMlpReferenceIdeal.sig) → Buf (Elt Ideal) ℓ) (g' : Dev Cert.AdwMlpReferenceIdeal.nD → PrngReg), Pre_AdwMlpKernelIdeal m →
    (∀ c : Dev Cert.AdwMlpKernelIdeal.nD,
      m' ((c.tc : Thread Cert.AdwMlpReferenceIdeal.nD Cert.AdwMlpReferenceIdeal.τ).loc Cert.AdwMlpReferenceIdeal.main_arg0) = m ((c.tc : Thread Cert.AdwMlpKernelIdeal.nD Cert.AdwMlpKernelIdeal.τ).loc Cert.AdwMlpKernelIdeal.main_arg0)
      ∧ m' ((c.tc : Thread Cert.AdwMlpReferenceIdeal.nD Cert.AdwMlpReferenceIdeal.τ).loc Cert.AdwMlpReferenceIdeal.main_arg1) = m ((c.tc : Thread Cert.AdwMlpKernelIdeal.nD Cert.AdwMlpKernelIdeal.τ).loc Cert.AdwMlpKernelIdeal.main_arg1)
      ∧ m' ((c.tc : Thread Cert.AdwMlpReferenceIdeal.nD Cert.AdwMlpReferenceIdeal.τ).loc Cert.AdwMlpReferenceIdeal.main_arg2) = m ((c.tc : Thread Cert.AdwMlpKernelIdeal.nD Cert.AdwMlpKernelIdeal.τ).loc Cert.AdwMlpKernelIdeal.main_arg2)
      ∧ m' ((c.tc : Thread Cert.AdwMlpReferenceIdeal.nD Cert.AdwMlpReferenceIdeal.τ).loc Cert.AdwMlpReferenceIdeal.main_arg3) = m ((c.tc : Thread Cert.AdwMlpKernelIdeal.nD Cert.AdwMlpKernelIdeal.τ).loc Cert.AdwMlpKernelIdeal.main_arg3)) →
    ∃ (v0 : (c : Dev Cert.AdwMlpKernelIdeal.nD) → Buf (Elt Ideal) ((c.tc : Thread Cert.AdwMlpKernelIdeal.nD Cert.AdwMlpKernelIdeal.τ).loc Cert.AdwMlpKernelIdeal.main_v0_0)) (v1 : (c : Dev Cert.AdwMlpKernelIdeal.nD) → Buf (Elt Ideal) ((c.tc : Thread Cert.AdwMlpKernelIdeal.nD Cert.AdwMlpKernelIdeal.τ).loc Cert.AdwMlpKernelIdeal.main_v0_1)) (v2 : (c : Dev Cert.AdwMlpKernelIdeal.nD) → Buf (Elt Ideal) ((c.tc : Thread Cert.AdwMlpKernelIdeal.nD Cert.AdwMlpKernelIdeal.τ).loc Cert.AdwMlpKernelIdeal.main_v0_2)) (v3 : (c : Dev Cert.AdwMlpKernelIdeal.nD) → Buf (Elt Ideal) ((c.tc : Thread Cert.AdwMlpKernelIdeal.nD Cert.AdwMlpKernelIdeal.τ).loc Cert.AdwMlpKernelIdeal.main_v0_3)),
      θ_run (Cert.AdwMlpKernelIdeal.defs (F := Ideal)) (onTc (τ := Cert.AdwMlpKernelIdeal.τ) (Cert.AdwMlpKernelIdeal.main (F := Ideal))) ⟨m, fun _ => 0, g⟩ (fun r => ∀ c : Dev Cert.AdwMlpKernelIdeal.nD,
          r.2.mem ((c.tc : Thread Cert.AdwMlpKernelIdeal.nD Cert.AdwMlpKernelIdeal.τ).loc Cert.AdwMlpKernelIdeal.main_v0_0) = v0 c
          ∧ r.2.mem ((c.tc : Thread Cert.AdwMlpKernelIdeal.nD Cert.AdwMlpKernelIdeal.τ).loc Cert.AdwMlpKernelIdeal.main_v0_1) = v1 c
          ∧ r.2.mem ((c.tc : Thread Cert.AdwMlpKernelIdeal.nD Cert.AdwMlpKernelIdeal.τ).loc Cert.AdwMlpKernelIdeal.main_v0_2) = v2 c
          ∧ r.2.mem ((c.tc : Thread Cert.AdwMlpKernelIdeal.nD Cert.AdwMlpKernelIdeal.τ).loc Cert.AdwMlpKernelIdeal.main_v0_3) = v3 c
          ∧ r.2.mem ((c.tc : Thread Cert.AdwMlpKernelIdeal.nD Cert.AdwMlpKernelIdeal.τ).loc Cert.AdwMlpKernelIdeal.main_arg0) = m ((c.tc : Thread Cert.AdwMlpKernelIdeal.nD Cert.AdwMlpKernelIdeal.τ).loc Cert.AdwMlpKernelIdeal.main_arg0)
          ∧ r.2.mem ((c.tc : Thread Cert.AdwMlpKernelIdeal.nD Cert.AdwMlpKernelIdeal.τ).loc Cert.AdwMlpKernelIdeal.main_arg1) = m ((c.tc : Thread Cert.AdwMlpKernelIdeal.nD Cert.AdwMlpKernelIdeal.τ).loc Cert.AdwMlpKernelIdeal.main_arg1)
          ∧ r.2.mem ((c.tc : Thread Cert.AdwMlpKernelIdeal.nD Cert.AdwMlpKernelIdeal.τ).loc Cert.AdwMlpKernelIdeal.main_arg2) = m ((c.tc : Thread Cert.AdwMlpKernelIdeal.nD Cert.AdwMlpKernelIdeal.τ).loc Cert.AdwMlpKernelIdeal.main_arg2)
          ∧ r.2.mem ((c.tc : Thread Cert.AdwMlpKernelIdeal.nD Cert.AdwMlpKernelIdeal.τ).loc Cert.AdwMlpKernelIdeal.main_arg3) = m ((c.tc : Thread Cert.AdwMlpKernelIdeal.nD Cert.AdwMlpKernelIdeal.τ).loc Cert.AdwMlpKernelIdeal.main_arg3))
      ∧ θ_run (Cert.AdwMlpReferenceIdeal.defs (F := Ideal)) (onTc (τ := Cert.AdwMlpReferenceIdeal.τ) (Cert.AdwMlpReferenceIdeal.main (F := Ideal))) ⟨m', fun _ => 0, g'⟩ (fun r => ∀ c : Dev Cert.AdwMlpReferenceIdeal.nD,
          r.2.mem ((c.tc : Thread Cert.AdwMlpReferenceIdeal.nD Cert.AdwMlpReferenceIdeal.τ).loc Cert.AdwMlpReferenceIdeal.main_v0) = v0 c
          ∧ r.2.mem ((c.tc : Thread Cert.AdwMlpReferenceIdeal.nD Cert.AdwMlpReferenceIdeal.τ).loc Cert.AdwMlpReferenceIdeal.main_v24) = v1 c
          ∧ r.2.mem ((c.tc : Thread Cert.AdwMlpReferenceIdeal.nD Cert.AdwMlpReferenceIdeal.τ).loc Cert.AdwMlpReferenceIdeal.main_v5) = v2 c
          ∧ r.2.mem ((c.tc : Thread Cert.AdwMlpReferenceIdeal.nD Cert.AdwMlpReferenceIdeal.τ).loc Cert.AdwMlpReferenceIdeal.main_v11) = v3 c
          ∧ r.2.mem ((c.tc : Thread Cert.AdwMlpReferenceIdeal.nD Cert.AdwMlpReferenceIdeal.τ).loc Cert.AdwMlpReferenceIdeal.main_arg0) = m' ((c.tc : Thread Cert.AdwMlpReferenceIdeal.nD Cert.AdwMlpReferenceIdeal.τ).loc Cert.AdwMlpReferenceIdeal.main_arg0)
          ∧ r.2.mem ((c.tc : Thread Cert.AdwMlpReferenceIdeal.nD Cert.AdwMlpReferenceIdeal.τ).loc Cert.AdwMlpReferenceIdeal.main_arg1) = m' ((c.tc : Thread Cert.AdwMlpReferenceIdeal.nD Cert.AdwMlpReferenceIdeal.τ).loc Cert.AdwMlpReferenceIdeal.main_arg1)
          ∧ r.2.mem ((c.tc : Thread Cert.AdwMlpReferenceIdeal.nD Cert.AdwMlpReferenceIdeal.τ).loc Cert.AdwMlpReferenceIdeal.main_arg2) = m' ((c.tc : Thread Cert.AdwMlpReferenceIdeal.nD Cert.AdwMlpReferenceIdeal.τ).loc Cert.AdwMlpReferenceIdeal.main_arg2)
          ∧ r.2.mem ((c.tc : Thread Cert.AdwMlpReferenceIdeal.nD Cert.AdwMlpReferenceIdeal.τ).loc Cert.AdwMlpReferenceIdeal.main_arg3) = m' ((c.tc : Thread Cert.AdwMlpReferenceIdeal.nD Cert.AdwMlpReferenceIdeal.τ).loc Cert.AdwMlpReferenceIdeal.main_arg3))

def preserves_GdnPostFwdKernel_GdnPostFwdKernelIdeal : Prop :=
  True

def algebraic_GdnPostFwdKernelIdeal_GdnPostFwdReferenceIdeal [hGdnPostFwdKernelIdeal : Cert.GdnPostFwdKernelIdeal.Facts] [hGdnPostFwdReferenceIdeal : Cert.GdnPostFwdReferenceIdeal.Facts] : Prop :=
  ∀ (m : (ℓ : Loc Cert.GdnPostFwdKernelIdeal.nD Cert.GdnPostFwdKernelIdeal.τ Cert.GdnPostFwdKernelIdeal.sig) → Buf (Elt Ideal) ℓ) (g : Dev Cert.GdnPostFwdKernelIdeal.nD → PrngReg)
    (m' : (ℓ : Loc Cert.GdnPostFwdReferenceIdeal.nD Cert.GdnPostFwdReferenceIdeal.τ Cert.GdnPostFwdReferenceIdeal.sig) → Buf (Elt Ideal) ℓ) (g' : Dev Cert.GdnPostFwdReferenceIdeal.nD → PrngReg), Pre_GdnPostFwdKernelIdeal m →
    (∀ c : Dev Cert.GdnPostFwdKernelIdeal.nD,
      m' ((c.tc : Thread Cert.GdnPostFwdReferenceIdeal.nD Cert.GdnPostFwdReferenceIdeal.τ).loc Cert.GdnPostFwdReferenceIdeal.main_arg0) = m ((c.tc : Thread Cert.GdnPostFwdKernelIdeal.nD Cert.GdnPostFwdKernelIdeal.τ).loc Cert.GdnPostFwdKernelIdeal.main_arg0)
      ∧ m' ((c.tc : Thread Cert.GdnPostFwdReferenceIdeal.nD Cert.GdnPostFwdReferenceIdeal.τ).loc Cert.GdnPostFwdReferenceIdeal.main_arg1) = m ((c.tc : Thread Cert.GdnPostFwdKernelIdeal.nD Cert.GdnPostFwdKernelIdeal.τ).loc Cert.GdnPostFwdKernelIdeal.main_arg1)
      ∧ m' ((c.tc : Thread Cert.GdnPostFwdReferenceIdeal.nD Cert.GdnPostFwdReferenceIdeal.τ).loc Cert.GdnPostFwdReferenceIdeal.main_arg2) = m ((c.tc : Thread Cert.GdnPostFwdKernelIdeal.nD Cert.GdnPostFwdKernelIdeal.τ).loc Cert.GdnPostFwdKernelIdeal.main_arg2)) →
    ∃ (v0 : (c : Dev Cert.GdnPostFwdKernelIdeal.nD) → Buf (Elt Ideal) ((c.tc : Thread Cert.GdnPostFwdKernelIdeal.nD Cert.GdnPostFwdKernelIdeal.τ).loc Cert.GdnPostFwdKernelIdeal.main_v0)),
      θ_run (Cert.GdnPostFwdKernelIdeal.defs (F := Ideal)) (onTc (τ := Cert.GdnPostFwdKernelIdeal.τ) (Cert.GdnPostFwdKernelIdeal.main (F := Ideal))) ⟨m, fun _ => 0, g⟩ (fun r => ∀ c : Dev Cert.GdnPostFwdKernelIdeal.nD,
          r.2.mem ((c.tc : Thread Cert.GdnPostFwdKernelIdeal.nD Cert.GdnPostFwdKernelIdeal.τ).loc Cert.GdnPostFwdKernelIdeal.main_v0) = v0 c
          ∧ r.2.mem ((c.tc : Thread Cert.GdnPostFwdKernelIdeal.nD Cert.GdnPostFwdKernelIdeal.τ).loc Cert.GdnPostFwdKernelIdeal.main_arg0) = m ((c.tc : Thread Cert.GdnPostFwdKernelIdeal.nD Cert.GdnPostFwdKernelIdeal.τ).loc Cert.GdnPostFwdKernelIdeal.main_arg0)
          ∧ r.2.mem ((c.tc : Thread Cert.GdnPostFwdKernelIdeal.nD Cert.GdnPostFwdKernelIdeal.τ).loc Cert.GdnPostFwdKernelIdeal.main_arg1) = m ((c.tc : Thread Cert.GdnPostFwdKernelIdeal.nD Cert.GdnPostFwdKernelIdeal.τ).loc Cert.GdnPostFwdKernelIdeal.main_arg1)
          ∧ r.2.mem ((c.tc : Thread Cert.GdnPostFwdKernelIdeal.nD Cert.GdnPostFwdKernelIdeal.τ).loc Cert.GdnPostFwdKernelIdeal.main_arg2) = m ((c.tc : Thread Cert.GdnPostFwdKernelIdeal.nD Cert.GdnPostFwdKernelIdeal.τ).loc Cert.GdnPostFwdKernelIdeal.main_arg2))
      ∧ θ_run (Cert.GdnPostFwdReferenceIdeal.defs (F := Ideal)) (onTc (τ := Cert.GdnPostFwdReferenceIdeal.τ) (Cert.GdnPostFwdReferenceIdeal.main (F := Ideal))) ⟨m', fun _ => 0, g'⟩ (fun r => ∀ c : Dev Cert.GdnPostFwdReferenceIdeal.nD,
          r.2.mem ((c.tc : Thread Cert.GdnPostFwdReferenceIdeal.nD Cert.GdnPostFwdReferenceIdeal.τ).loc Cert.GdnPostFwdReferenceIdeal.main_v18) = v0 c
          ∧ r.2.mem ((c.tc : Thread Cert.GdnPostFwdReferenceIdeal.nD Cert.GdnPostFwdReferenceIdeal.τ).loc Cert.GdnPostFwdReferenceIdeal.main_arg0) = m' ((c.tc : Thread Cert.GdnPostFwdReferenceIdeal.nD Cert.GdnPostFwdReferenceIdeal.τ).loc Cert.GdnPostFwdReferenceIdeal.main_arg0)
          ∧ r.2.mem ((c.tc : Thread Cert.GdnPostFwdReferenceIdeal.nD Cert.GdnPostFwdReferenceIdeal.τ).loc Cert.GdnPostFwdReferenceIdeal.main_arg1) = m' ((c.tc : Thread Cert.GdnPostFwdReferenceIdeal.nD Cert.GdnPostFwdReferenceIdeal.τ).loc Cert.GdnPostFwdReferenceIdeal.main_arg1)
          ∧ r.2.mem ((c.tc : Thread Cert.GdnPostFwdReferenceIdeal.nD Cert.GdnPostFwdReferenceIdeal.τ).loc Cert.GdnPostFwdReferenceIdeal.main_arg2) = m' ((c.tc : Thread Cert.GdnPostFwdReferenceIdeal.nD Cert.GdnPostFwdReferenceIdeal.τ).loc Cert.GdnPostFwdReferenceIdeal.main_arg2))

def preserves_MemKvKernel_MemKvKernelIdeal : Prop :=
  True

def algebraic_MemKvKernelIdeal_MemKvReferenceIdeal [hMemKvKernelIdeal : Cert.MemKvKernelIdeal.Facts] [hMemKvReferenceIdeal : Cert.MemKvReferenceIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvKernelIdeal m →
    (∀ c : Dev Cert.MemKvKernelIdeal.nD,
      m' ((c.tc : Thread Cert.MemKvReferenceIdeal.nD Cert.MemKvReferenceIdeal.τ).loc Cert.MemKvReferenceIdeal.main_arg0) = m ((c.tc : Thread Cert.MemKvKernelIdeal.nD Cert.MemKvKernelIdeal.τ).loc Cert.MemKvKernelIdeal.main_arg0)
      ∧ m' ((c.tc : Thread Cert.MemKvReferenceIdeal.nD Cert.MemKvReferenceIdeal.τ).loc Cert.MemKvReferenceIdeal.main_arg1) = m ((c.tc : Thread Cert.MemKvKernelIdeal.nD Cert.MemKvKernelIdeal.τ).loc Cert.MemKvKernelIdeal.main_arg1)) →
    ∃ (v0 : (c : Dev Cert.MemKvKernelIdeal.nD) → Buf (Elt Ideal) ((c.tc : Thread Cert.MemKvKernelIdeal.nD Cert.MemKvKernelIdeal.τ).loc Cert.MemKvKernelIdeal.main_v0)),
      θ_run (Cert.MemKvKernelIdeal.defs (F := Ideal)) (onTc (τ := Cert.MemKvKernelIdeal.τ) (Cert.MemKvKernelIdeal.main (F := Ideal))) ⟨m, fun _ => 0, g⟩ (fun r => ∀ c : Dev Cert.MemKvKernelIdeal.nD,
          r.2.mem ((c.tc : Thread Cert.MemKvKernelIdeal.nD Cert.MemKvKernelIdeal.τ).loc Cert.MemKvKernelIdeal.main_v0) = v0 c
          ∧ r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
          ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_MemXKernel_MemXKernelIdeal : Prop :=
  True

def algebraic_MemXKernelIdeal_MemXReferenceIdeal [hMemXKernelIdeal : Cert.MemXKernelIdeal.Facts] [hMemXReferenceIdeal : Cert.MemXReferenceIdeal.Facts] : Prop :=
  ∀ (m : (ℓ : Loc Cert.MemXKernelIdeal.nD Cert.MemXKernelIdeal.τ Cert.MemXKernelIdeal.sig) → Buf (Elt Ideal) ℓ) (g : Dev Cert.MemXKernelIdeal.nD → PrngReg)
    (m' : (ℓ : Loc Cert.MemXReferenceIdeal.nD Cert.MemXReferenceIdeal.τ Cert.MemXReferenceIdeal.sig) → Buf (Elt Ideal) ℓ) (g' : Dev Cert.MemXReferenceIdeal.nD → PrngReg), Pre_MemXKernelIdeal m →
    (∀ c : Dev Cert.MemXKernelIdeal.nD,
      m' ((c.tc : Thread Cert.MemXReferenceIdeal.nD Cert.MemXReferenceIdeal.τ).loc Cert.MemXReferenceIdeal.main_arg0) = m ((c.tc : Thread Cert.MemXKernelIdeal.nD Cert.MemXKernelIdeal.τ).loc Cert.MemXKernelIdeal.main_arg0)
      ∧ m' ((c.tc : Thread Cert.MemXReferenceIdeal.nD Cert.MemXReferenceIdeal.τ).loc Cert.MemXReferenceIdeal.main_arg1) = m ((c.tc : Thread Cert.MemXKernelIdeal.nD Cert.MemXKernelIdeal.τ).loc Cert.MemXKernelIdeal.main_arg1)
      ∧ m' ((c.tc : Thread Cert.MemXReferenceIdeal.nD Cert.MemXReferenceIdeal.τ).loc Cert.MemXReferenceIdeal.main_arg2) = m ((c.tc : Thread Cert.MemXKernelIdeal.nD Cert.MemXKernelIdeal.τ).loc Cert.MemXKernelIdeal.main_arg2)) →
    ∃ (v0 : (c : Dev Cert.MemXKernelIdeal.nD) → Buf (Elt Ideal) ((c.tc : Thread Cert.MemXKernelIdeal.nD Cert.MemXKernelIdeal.τ).loc Cert.MemXKernelIdeal.main_v0)),
      θ_run (Cert.MemXKernelIdeal.defs (F := Ideal)) (onTc (τ := Cert.MemXKernelIdeal.τ) (Cert.MemXKernelIdeal.main (F := Ideal))) ⟨m, fun _ => 0, g⟩ (fun r => ∀ c : Dev Cert.MemXKernelIdeal.nD,
          r.2.mem ((c.tc : Thread Cert.MemXKernelIdeal.nD Cert.MemXKernelIdeal.τ).loc Cert.MemXKernelIdeal.main_v0) = v0 c
          ∧ r.2.mem ((c.tc : Thread Cert.MemXKernelIdeal.nD Cert.MemXKernelIdeal.τ).loc Cert.MemXKernelIdeal.main_arg0) = m ((c.tc : Thread Cert.MemXKernelIdeal.nD Cert.MemXKernelIdeal.τ).loc Cert.MemXKernelIdeal.main_arg0)
          ∧ r.2.mem ((c.tc : Thread Cert.MemXKernelIdeal.nD Cert.MemXKernelIdeal.τ).loc Cert.MemXKernelIdeal.main_arg1) = m ((c.tc : Thread Cert.MemXKernelIdeal.nD Cert.MemXKernelIdeal.τ).loc Cert.MemXKernelIdeal.main_arg1)
          ∧ r.2.mem ((c.tc : Thread Cert.MemXKernelIdeal.nD Cert.MemXKernelIdeal.τ).loc Cert.MemXKernelIdeal.main_arg2) = m ((c.tc : Thread Cert.MemXKernelIdeal.nD Cert.MemXKernelIdeal.τ).loc Cert.MemXKernelIdeal.main_arg2))
      ∧ θ_run (Cert.MemXReferenceIdeal.defs (F := Ideal)) (onTc (τ := Cert.MemXReferenceIdeal.τ) (Cert.MemXReferenceIdeal.main (F := Ideal))) ⟨m', fun _ => 0, g'⟩ (fun r => ∀ c : Dev Cert.MemXReferenceIdeal.nD,
          r.2.mem ((c.tc : Thread Cert.MemXReferenceIdeal.nD Cert.MemXReferenceIdeal.τ).loc Cert.MemXReferenceIdeal.main_v5) = v0 c
          ∧ r.2.mem ((c.tc : Thread Cert.MemXReferenceIdeal.nD Cert.MemXReferenceIdeal.τ).loc Cert.MemXReferenceIdeal.main_arg0) = m' ((c.tc : Thread Cert.MemXReferenceIdeal.nD Cert.MemXReferenceIdeal.τ).loc Cert.MemXReferenceIdeal.main_arg0)
          ∧ r.2.mem ((c.tc : Thread Cert.MemXReferenceIdeal.nD Cert.MemXReferenceIdeal.τ).loc Cert.MemXReferenceIdeal.main_arg1) = m' ((c.tc : Thread Cert.MemXReferenceIdeal.nD Cert.MemXReferenceIdeal.τ).loc Cert.MemXReferenceIdeal.main_arg1)
          ∧ r.2.mem ((c.tc : Thread Cert.MemXReferenceIdeal.nD Cert.MemXReferenceIdeal.τ).loc Cert.MemXReferenceIdeal.main_arg2) = m' ((c.tc : Thread Cert.MemXReferenceIdeal.nD Cert.MemXReferenceIdeal.τ).loc Cert.MemXReferenceIdeal.main_arg2))

def preserves_MemWKernel_MemWKernelIdeal : Prop :=
  True

def algebraic_MemWKernelIdeal_MemWReferenceIdeal [hMemWKernelIdeal : Cert.MemWKernelIdeal.Facts] [hMemWReferenceIdeal : Cert.MemWReferenceIdeal.Facts] : Prop :=
  ∀ (m : (ℓ : Loc Cert.MemWKernelIdeal.nD Cert.MemWKernelIdeal.τ Cert.MemWKernelIdeal.sig) → Buf (Elt Ideal) ℓ) (g : Dev Cert.MemWKernelIdeal.nD → PrngReg)
    (m' : (ℓ : Loc Cert.MemWReferenceIdeal.nD Cert.MemWReferenceIdeal.τ Cert.MemWReferenceIdeal.sig) → Buf (Elt Ideal) ℓ) (g' : Dev Cert.MemWReferenceIdeal.nD → PrngReg), Pre_MemWKernelIdeal m →
    (∀ c : Dev Cert.MemWKernelIdeal.nD,
      m' ((c.tc : Thread Cert.MemWReferenceIdeal.nD Cert.MemWReferenceIdeal.τ).loc Cert.MemWReferenceIdeal.main_arg0) = m ((c.tc : Thread Cert.MemWKernelIdeal.nD Cert.MemWKernelIdeal.τ).loc Cert.MemWKernelIdeal.main_arg0)
      ∧ m' ((c.tc : Thread Cert.MemWReferenceIdeal.nD Cert.MemWReferenceIdeal.τ).loc Cert.MemWReferenceIdeal.main_arg1) = m ((c.tc : Thread Cert.MemWKernelIdeal.nD Cert.MemWKernelIdeal.τ).loc Cert.MemWKernelIdeal.main_arg1)
      ∧ m' ((c.tc : Thread Cert.MemWReferenceIdeal.nD Cert.MemWReferenceIdeal.τ).loc Cert.MemWReferenceIdeal.main_arg2) = m ((c.tc : Thread Cert.MemWKernelIdeal.nD Cert.MemWKernelIdeal.τ).loc Cert.MemWKernelIdeal.main_arg2)) →
    ∃ (v0 : (c : Dev Cert.MemWKernelIdeal.nD) → Buf (Elt Ideal) ((c.tc : Thread Cert.MemWKernelIdeal.nD Cert.MemWKernelIdeal.τ).loc Cert.MemWKernelIdeal.main_v0)),
      θ_run (Cert.MemWKernelIdeal.defs (F := Ideal)) (onTc (τ := Cert.MemWKernelIdeal.τ) (Cert.MemWKernelIdeal.main (F := Ideal))) ⟨m, fun _ => 0, g⟩ (fun r => ∀ c : Dev Cert.MemWKernelIdeal.nD,
          r.2.mem ((c.tc : Thread Cert.MemWKernelIdeal.nD Cert.MemWKernelIdeal.τ).loc Cert.MemWKernelIdeal.main_v0) = v0 c
          ∧ r.2.mem ((c.tc : Thread Cert.MemWKernelIdeal.nD Cert.MemWKernelIdeal.τ).loc Cert.MemWKernelIdeal.main_arg0) = m ((c.tc : Thread Cert.MemWKernelIdeal.nD Cert.MemWKernelIdeal.τ).loc Cert.MemWKernelIdeal.main_arg0)
          ∧ r.2.mem ((c.tc : Thread Cert.MemWKernelIdeal.nD Cert.MemWKernelIdeal.τ).loc Cert.MemWKernelIdeal.main_arg1) = m ((c.tc : Thread Cert.MemWKernelIdeal.nD Cert.MemWKernelIdeal.τ).loc Cert.MemWKernelIdeal.main_arg1)
          ∧ r.2.mem ((c.tc : Thread Cert.MemWKernelIdeal.nD Cert.MemWKernelIdeal.τ).loc Cert.MemWKernelIdeal.main_arg2) = m ((c.tc : Thread Cert.MemWKernelIdeal.nD Cert.MemWKernelIdeal.τ).loc Cert.MemWKernelIdeal.main_arg2))
      ∧ θ_run (Cert.MemWReferenceIdeal.defs (F := Ideal)) (onTc (τ := Cert.MemWReferenceIdeal.τ) (Cert.MemWReferenceIdeal.main (F := Ideal))) ⟨m', fun _ => 0, g'⟩ (fun r => ∀ c : Dev Cert.MemWReferenceIdeal.nD,
          r.2.mem ((c.tc : Thread Cert.MemWReferenceIdeal.nD Cert.MemWReferenceIdeal.τ).loc Cert.MemWReferenceIdeal.main_v6) = v0 c
          ∧ r.2.mem ((c.tc : Thread Cert.MemWReferenceIdeal.nD Cert.MemWReferenceIdeal.τ).loc Cert.MemWReferenceIdeal.main_arg0) = m' ((c.tc : Thread Cert.MemWReferenceIdeal.nD Cert.MemWReferenceIdeal.τ).loc Cert.MemWReferenceIdeal.main_arg0)
          ∧ r.2.mem ((c.tc : Thread Cert.MemWReferenceIdeal.nD Cert.MemWReferenceIdeal.τ).loc Cert.MemWReferenceIdeal.main_arg1) = m' ((c.tc : Thread Cert.MemWReferenceIdeal.nD Cert.MemWReferenceIdeal.τ).loc Cert.MemWReferenceIdeal.main_arg1)
          ∧ r.2.mem ((c.tc : Thread Cert.MemWReferenceIdeal.nD Cert.MemWReferenceIdeal.τ).loc Cert.MemWReferenceIdeal.main_arg2) = m' ((c.tc : Thread Cert.MemWReferenceIdeal.nD Cert.MemWReferenceIdeal.τ).loc Cert.MemWReferenceIdeal.main_arg2))

def preserves_XaFwdKernel_XaFwdKernelIdeal : Prop :=
  True

def algebraic_XaFwdKernelIdeal_XaFwdReferenceIdeal_pre_xa_fwd_finite [hXaFwdKernelIdeal : Cert.XaFwdKernelIdeal.Facts] [hXaFwdReferenceIdeal : Cert.XaFwdReferenceIdeal.Facts] [hPre_xa_fwd_finite : Cert.Pre_xa_fwd_finite.Facts] : Prop :=
  ∀ (m : (ℓ : Loc Cert.XaFwdKernelIdeal.nD Cert.XaFwdKernelIdeal.τ Cert.XaFwdKernelIdeal.sig) → Buf (Elt Ideal) ℓ) (g : Dev Cert.XaFwdKernelIdeal.nD → PrngReg)
    (m' : (ℓ : Loc Cert.XaFwdReferenceIdeal.nD Cert.XaFwdReferenceIdeal.τ Cert.XaFwdReferenceIdeal.sig) → Buf (Elt Ideal) ℓ) (g' : Dev Cert.XaFwdReferenceIdeal.nD → PrngReg), Pre_XaFwdKernelIdeal_xa_fwd_finite m →
    (∀ c : Dev Cert.XaFwdKernelIdeal.nD,
      m' ((c.tc : Thread Cert.XaFwdReferenceIdeal.nD Cert.XaFwdReferenceIdeal.τ).loc Cert.XaFwdReferenceIdeal.main_arg0) = m ((c.tc : Thread Cert.XaFwdKernelIdeal.nD Cert.XaFwdKernelIdeal.τ).loc Cert.XaFwdKernelIdeal.main_arg0)
      ∧ m' ((c.tc : Thread Cert.XaFwdReferenceIdeal.nD Cert.XaFwdReferenceIdeal.τ).loc Cert.XaFwdReferenceIdeal.main_arg1) = m ((c.tc : Thread Cert.XaFwdKernelIdeal.nD Cert.XaFwdKernelIdeal.τ).loc Cert.XaFwdKernelIdeal.main_arg1)) →
    ∃ (v0 : (c : Dev Cert.XaFwdKernelIdeal.nD) → Buf (Elt Ideal) ((c.tc : Thread Cert.XaFwdKernelIdeal.nD Cert.XaFwdKernelIdeal.τ).loc Cert.XaFwdKernelIdeal.main_v0)),
      θ_run (Cert.XaFwdKernelIdeal.defs (F := Ideal)) (onTc (τ := Cert.XaFwdKernelIdeal.τ) (Cert.XaFwdKernelIdeal.main (F := Ideal))) ⟨m, fun _ => 0, g⟩ (fun r => ∀ c : Dev Cert.XaFwdKernelIdeal.nD,
          r.2.mem ((c.tc : Thread Cert.XaFwdKernelIdeal.nD Cert.XaFwdKernelIdeal.τ).loc Cert.XaFwdKernelIdeal.main_v0) = v0 c
          ∧ r.2.mem ((c.tc : Thread Cert.XaFwdKernelIdeal.nD Cert.XaFwdKernelIdeal.τ).loc Cert.XaFwdKernelIdeal.main_arg0) = m ((c.tc : Thread Cert.XaFwdKernelIdeal.nD Cert.XaFwdKernelIdeal.τ).loc Cert.XaFwdKernelIdeal.main_arg0)
          ∧ r.2.mem ((c.tc : Thread Cert.XaFwdKernelIdeal.nD Cert.XaFwdKernelIdeal.τ).loc Cert.XaFwdKernelIdeal.main_arg1) = m ((c.tc : Thread Cert.XaFwdKernelIdeal.nD Cert.XaFwdKernelIdeal.τ).loc Cert.XaFwdKernelIdeal.main_arg1))
      ∧ θ_run (Cert.XaFwdReferenceIdeal.defs (F := Ideal)) (onTc (τ := Cert.XaFwdReferenceIdeal.τ) (Cert.XaFwdReferenceIdeal.main (F := Ideal))) ⟨m', fun _ => 0, g'⟩ (fun r => ∀ c : Dev Cert.XaFwdReferenceIdeal.nD,
          r.2.mem ((c.tc : Thread Cert.XaFwdReferenceIdeal.nD Cert.XaFwdReferenceIdeal.τ).loc Cert.XaFwdReferenceIdeal.main_v27) = v0 c
          ∧ r.2.mem ((c.tc : Thread Cert.XaFwdReferenceIdeal.nD Cert.XaFwdReferenceIdeal.τ).loc Cert.XaFwdReferenceIdeal.main_arg0) = m' ((c.tc : Thread Cert.XaFwdReferenceIdeal.nD Cert.XaFwdReferenceIdeal.τ).loc Cert.XaFwdReferenceIdeal.main_arg0)
          ∧ r.2.mem ((c.tc : Thread Cert.XaFwdReferenceIdeal.nD Cert.XaFwdReferenceIdeal.τ).loc Cert.XaFwdReferenceIdeal.main_arg1) = m' ((c.tc : Thread Cert.XaFwdReferenceIdeal.nD Cert.XaFwdReferenceIdeal.τ).loc Cert.XaFwdReferenceIdeal.main_arg1))

def preserves_SwaFwdKernel_SwaFwdKernelIdeal : Prop :=
  True

def algebraic_SwaFwdKernelIdeal_SwaFwdReferenceIdeal_pre_swa_finite [hSwaFwdKernelIdeal : Cert.SwaFwdKernelIdeal.Facts] [hSwaFwdReferenceIdeal : Cert.SwaFwdReferenceIdeal.Facts] [hPre_swa_finite : Cert.Pre_swa_finite.Facts] : Prop :=
  ∀ (m : (ℓ : Loc Cert.SwaFwdKernelIdeal.nD Cert.SwaFwdKernelIdeal.τ Cert.SwaFwdKernelIdeal.sig) → Buf (Elt Ideal) ℓ) (g : Dev Cert.SwaFwdKernelIdeal.nD → PrngReg)
    (m' : (ℓ : Loc Cert.SwaFwdReferenceIdeal.nD Cert.SwaFwdReferenceIdeal.τ Cert.SwaFwdReferenceIdeal.sig) → Buf (Elt Ideal) ℓ) (g' : Dev Cert.SwaFwdReferenceIdeal.nD → PrngReg), Pre_SwaFwdKernelIdeal_swa_finite m →
    (∀ c : Dev Cert.SwaFwdKernelIdeal.nD,
      m' ((c.tc : Thread Cert.SwaFwdReferenceIdeal.nD Cert.SwaFwdReferenceIdeal.τ).loc Cert.SwaFwdReferenceIdeal.main_arg0) = m ((c.tc : Thread Cert.SwaFwdKernelIdeal.nD Cert.SwaFwdKernelIdeal.τ).loc Cert.SwaFwdKernelIdeal.main_arg0)
      ∧ m' ((c.tc : Thread Cert.SwaFwdReferenceIdeal.nD Cert.SwaFwdReferenceIdeal.τ).loc Cert.SwaFwdReferenceIdeal.main_arg1) = m ((c.tc : Thread Cert.SwaFwdKernelIdeal.nD Cert.SwaFwdKernelIdeal.τ).loc Cert.SwaFwdKernelIdeal.main_arg1)
      ∧ m' ((c.tc : Thread Cert.SwaFwdReferenceIdeal.nD Cert.SwaFwdReferenceIdeal.τ).loc Cert.SwaFwdReferenceIdeal.main_arg2) = m ((c.tc : Thread Cert.SwaFwdKernelIdeal.nD Cert.SwaFwdKernelIdeal.τ).loc Cert.SwaFwdKernelIdeal.main_arg2)) →
    ∃ (v0 : (c : Dev Cert.SwaFwdKernelIdeal.nD) → Buf (Elt Ideal) ((c.tc : Thread Cert.SwaFwdKernelIdeal.nD Cert.SwaFwdKernelIdeal.τ).loc Cert.SwaFwdKernelIdeal.main_v0_0)) (v1 : (c : Dev Cert.SwaFwdKernelIdeal.nD) → Buf (Elt Ideal) ((c.tc : Thread Cert.SwaFwdKernelIdeal.nD Cert.SwaFwdKernelIdeal.τ).loc Cert.SwaFwdKernelIdeal.main_v0_1)),
      θ_run (Cert.SwaFwdKernelIdeal.defs (F := Ideal)) (onTc (τ := Cert.SwaFwdKernelIdeal.τ) (Cert.SwaFwdKernelIdeal.main (F := Ideal))) ⟨m, fun _ => 0, g⟩ (fun r => ∀ c : Dev Cert.SwaFwdKernelIdeal.nD,
          r.2.mem ((c.tc : Thread Cert.SwaFwdKernelIdeal.nD Cert.SwaFwdKernelIdeal.τ).loc Cert.SwaFwdKernelIdeal.main_v0_0) = v0 c
          ∧ r.2.mem ((c.tc : Thread Cert.SwaFwdKernelIdeal.nD Cert.SwaFwdKernelIdeal.τ).loc Cert.SwaFwdKernelIdeal.main_v0_1) = v1 c
          ∧ r.2.mem ((c.tc : Thread Cert.SwaFwdKernelIdeal.nD Cert.SwaFwdKernelIdeal.τ).loc Cert.SwaFwdKernelIdeal.main_arg0) = m ((c.tc : Thread Cert.SwaFwdKernelIdeal.nD Cert.SwaFwdKernelIdeal.τ).loc Cert.SwaFwdKernelIdeal.main_arg0)
          ∧ r.2.mem ((c.tc : Thread Cert.SwaFwdKernelIdeal.nD Cert.SwaFwdKernelIdeal.τ).loc Cert.SwaFwdKernelIdeal.main_arg1) = m ((c.tc : Thread Cert.SwaFwdKernelIdeal.nD Cert.SwaFwdKernelIdeal.τ).loc Cert.SwaFwdKernelIdeal.main_arg1)
          ∧ r.2.mem ((c.tc : Thread Cert.SwaFwdKernelIdeal.nD Cert.SwaFwdKernelIdeal.τ).loc Cert.SwaFwdKernelIdeal.main_arg2) = m ((c.tc : Thread Cert.SwaFwdKernelIdeal.nD Cert.SwaFwdKernelIdeal.τ).loc Cert.SwaFwdKernelIdeal.main_arg2))
      ∧ θ_run (Cert.SwaFwdReferenceIdeal.defs (F := Ideal)) (onTc (τ := Cert.SwaFwdReferenceIdeal.τ) (Cert.SwaFwdReferenceIdeal.main (F := Ideal))) ⟨m', fun _ => 0, g'⟩ (fun r => ∀ c : Dev Cert.SwaFwdReferenceIdeal.nD,
          r.2.mem ((c.tc : Thread Cert.SwaFwdReferenceIdeal.nD Cert.SwaFwdReferenceIdeal.τ).loc Cert.SwaFwdReferenceIdeal.main_v80) = v0 c
          ∧ r.2.mem ((c.tc : Thread Cert.SwaFwdReferenceIdeal.nD Cert.SwaFwdReferenceIdeal.τ).loc Cert.SwaFwdReferenceIdeal.main_v81) = v1 c
          ∧ r.2.mem ((c.tc : Thread Cert.SwaFwdReferenceIdeal.nD Cert.SwaFwdReferenceIdeal.τ).loc Cert.SwaFwdReferenceIdeal.main_arg0) = m' ((c.tc : Thread Cert.SwaFwdReferenceIdeal.nD Cert.SwaFwdReferenceIdeal.τ).loc Cert.SwaFwdReferenceIdeal.main_arg0)
          ∧ r.2.mem ((c.tc : Thread Cert.SwaFwdReferenceIdeal.nD Cert.SwaFwdReferenceIdeal.τ).loc Cert.SwaFwdReferenceIdeal.main_arg1) = m' ((c.tc : Thread Cert.SwaFwdReferenceIdeal.nD Cert.SwaFwdReferenceIdeal.τ).loc Cert.SwaFwdReferenceIdeal.main_arg1)
          ∧ r.2.mem ((c.tc : Thread Cert.SwaFwdReferenceIdeal.nD Cert.SwaFwdReferenceIdeal.τ).loc Cert.SwaFwdReferenceIdeal.main_arg2) = m' ((c.tc : Thread Cert.SwaFwdReferenceIdeal.nD Cert.SwaFwdReferenceIdeal.τ).loc Cert.SwaFwdReferenceIdeal.main_arg2))

def Claim : Prop :=
  ∃ (hKernel : Cert.Kernel.Facts) (hKernelIdeal : Cert.KernelIdeal.Facts) (hReferenceIdeal : Cert.ReferenceIdeal.Facts) (hMlpXKernel : Cert.MlpXKernel.Facts) (hMlpXKernelIdeal : Cert.MlpXKernelIdeal.Facts) (hMlpXReferenceIdeal : Cert.MlpXReferenceIdeal.Facts) (hMlpWinKernel : Cert.MlpWinKernel.Facts) (hMlpWinKernelIdeal : Cert.MlpWinKernelIdeal.Facts) (hMlpWinReferenceIdeal : Cert.MlpWinReferenceIdeal.Facts) (hMlpWoutKernel : Cert.MlpWoutKernel.Facts) (hMlpWoutKernelIdeal : Cert.MlpWoutKernelIdeal.Facts) (hMlpWoutReferenceIdeal : Cert.MlpWoutReferenceIdeal.Facts) (hMlpActKernel : Cert.MlpActKernel.Facts) (hMlpActKernelIdeal : Cert.MlpActKernelIdeal.Facts) (hMlpActReferenceIdeal : Cert.MlpActReferenceIdeal.Facts) (hMlpYKernel : Cert.MlpYKernel.Facts) (hMlpYKernelIdeal : Cert.MlpYKernelIdeal.Facts) (hMlpYReferenceIdeal : Cert.MlpYReferenceIdeal.Facts) (hMlpDuKernel : Cert.MlpDuKernel.Facts) (hMlpDuKernelIdeal : Cert.MlpDuKernelIdeal.Facts) (hMlpDuReferenceIdeal : Cert.MlpDuReferenceIdeal.Facts) (hInQaKernel : Cert.InQaKernel.Facts) (hInQaKernelIdeal : Cert.InQaKernelIdeal.Facts) (hInQaReferenceIdeal : Cert.InQaReferenceIdeal.Facts) (hInKvAbKernel : Cert.InKvAbKernel.Facts) (hInKvAbKernelIdeal : Cert.InKvAbKernelIdeal.Facts) (hInKvAbReferenceIdeal : Cert.InKvAbReferenceIdeal.Facts) (hInQkvBKernel : Cert.InQkvBKernel.Facts) (hInQkvBKernelIdeal : Cert.InQkvBKernelIdeal.Facts) (hInQkvBReferenceIdeal : Cert.InQkvBReferenceIdeal.Facts) (hInZKernel : Cert.InZKernel.Facts) (hInZKernelIdeal : Cert.InZKernelIdeal.Facts) (hInZReferenceIdeal : Cert.InZReferenceIdeal.Facts) (hInQcKernel : Cert.InQcKernel.Facts) (hInQcKernelIdeal : Cert.InQcKernelIdeal.Facts) (hInQcReferenceIdeal : Cert.InQcReferenceIdeal.Facts) (hInGatesKernel : Cert.InGatesKernel.Facts) (hInGatesKernelIdeal : Cert.InGatesKernelIdeal.Facts) (hInGatesReferenceIdeal : Cert.InGatesReferenceIdeal.Facts) (hInXKernel : Cert.InXKernel.Facts) (hInXKernelIdeal : Cert.InXKernelIdeal.Facts) (hInXReferenceIdeal : Cert.InXReferenceIdeal.Facts) (hInWKernel : Cert.InWKernel.Facts) (hInWKernelIdeal : Cert.InWKernelIdeal.Facts) (hInWReferenceIdeal : Cert.InWReferenceIdeal.Facts) (hOutKernel : Cert.OutKernel.Facts) (hOutKernelIdeal : Cert.OutKernelIdeal.Facts) (hOutReferenceIdeal : Cert.OutReferenceIdeal.Facts) (hOutXKernel : Cert.OutXKernel.Facts) (hOutXKernelIdeal : Cert.OutXKernelIdeal.Facts) (hOutXReferenceIdeal : Cert.OutXReferenceIdeal.Facts) (hOutWKernel : Cert.OutWKernel.Facts) (hOutWKernelIdeal : Cert.OutWKernelIdeal.Facts) (hOutWReferenceIdeal : Cert.OutWReferenceIdeal.Facts) (hMergeKernel : Cert.MergeKernel.Facts) (hMergeKernelIdeal : Cert.MergeKernelIdeal.Facts) (hMergeReferenceIdeal : Cert.MergeReferenceIdeal.Facts) (hDMergeKernel : Cert.DMergeKernel.Facts) (hDMergeKernelIdeal : Cert.DMergeKernelIdeal.Facts) (hDMergeReferenceIdeal : Cert.DMergeReferenceIdeal.Facts) (hUpAXKernel : Cert.UpAXKernel.Facts) (hUpAXKernelIdeal : Cert.UpAXKernelIdeal.Facts) (hUpAXReferenceIdeal : Cert.UpAXReferenceIdeal.Facts) (hUpAWKernel : Cert.UpAWKernel.Facts) (hUpAWKernelIdeal : Cert.UpAWKernelIdeal.Facts) (hUpAWReferenceIdeal : Cert.UpAWReferenceIdeal.Facts) (hUpBXKernel : Cert.UpBXKernel.Facts) (hUpBXKernelIdeal : Cert.UpBXKernelIdeal.Facts) (hUpBXReferenceIdeal : Cert.UpBXReferenceIdeal.Facts) (hUpBWKernel : Cert.UpBWKernel.Facts) (hUpBWKernelIdeal : Cert.UpBWKernelIdeal.Facts) (hUpBWReferenceIdeal : Cert.UpBWReferenceIdeal.Facts) (hRmsFwdKernel : Cert.RmsFwdKernel.Facts) (hRmsFwdKernelIdeal : Cert.RmsFwdKernelIdeal.Facts) (hRmsFwdReferenceIdeal : Cert.RmsFwdReferenceIdeal.Facts) (hRmsBwdKernel : Cert.RmsBwdKernel.Facts) (hRmsBwdKernelIdeal : Cert.RmsBwdKernelIdeal.Facts) (hRmsBwdReferenceIdeal : Cert.RmsBwdReferenceIdeal.Facts) (hLossKernel : Cert.LossKernel.Facts) (hLossKernelIdeal : Cert.LossKernelIdeal.Facts) (hLossReferenceIdeal : Cert.LossReferenceIdeal.Facts) (hAdwVecKernel : Cert.AdwVecKernel.Facts) (hAdwVecKernelIdeal : Cert.AdwVecKernelIdeal.Facts) (hAdwVecReferenceIdeal : Cert.AdwVecReferenceIdeal.Facts) (hAdwInKernel : Cert.AdwInKernel.Facts) (hAdwInKernelIdeal : Cert.AdwInKernelIdeal.Facts) (hAdwInReferenceIdeal : Cert.AdwInReferenceIdeal.Facts) (hAdwSinksKernel : Cert.AdwSinksKernel.Facts) (hAdwSinksKernelIdeal : Cert.AdwSinksKernelIdeal.Facts) (hAdwSinksReferenceIdeal : Cert.AdwSinksReferenceIdeal.Facts) (hAdwConvKernel : Cert.AdwConvKernel.Facts) (hAdwConvKernelIdeal : Cert.AdwConvKernelIdeal.Facts) (hAdwConvReferenceIdeal : Cert.AdwConvReferenceIdeal.Facts) (hAdwHeadsKernel : Cert.AdwHeadsKernel.Facts) (hAdwHeadsKernelIdeal : Cert.AdwHeadsKernelIdeal.Facts) (hAdwHeadsReferenceIdeal : Cert.AdwHeadsReferenceIdeal.Facts) (hAdwNormKernel : Cert.AdwNormKernel.Facts) (hAdwNormKernelIdeal : Cert.AdwNormKernelIdeal.Facts) (hAdwNormReferenceIdeal : Cert.AdwNormReferenceIdeal.Facts) (hAdwMemKernel : Cert.AdwMemKernel.Facts) (hAdwMemKernelIdeal : Cert.AdwMemKernelIdeal.Facts) (hAdwMemReferenceIdeal : Cert.AdwMemReferenceIdeal.Facts) (hAdwSwaUpKernel : Cert.AdwSwaUpKernel.Facts) (hAdwSwaUpKernelIdeal : Cert.AdwSwaUpKernelIdeal.Facts) (hAdwSwaUpReferenceIdeal : Cert.AdwSwaUpReferenceIdeal.Facts) (hAdwUpKernel : Cert.AdwUpKernel.Facts) (hAdwUpKernelIdeal : Cert.AdwUpKernelIdeal.Facts) (hAdwUpReferenceIdeal : Cert.AdwUpReferenceIdeal.Facts) (hAdwOutKernel : Cert.AdwOutKernel.Facts) (hAdwOutKernelIdeal : Cert.AdwOutKernelIdeal.Facts) (hAdwOutReferenceIdeal : Cert.AdwOutReferenceIdeal.Facts) (hAdwMlpKernel : Cert.AdwMlpKernel.Facts) (hAdwMlpKernelIdeal : Cert.AdwMlpKernelIdeal.Facts) (hAdwMlpReferenceIdeal : Cert.AdwMlpReferenceIdeal.Facts) (hGdnPostFwdKernel : Cert.GdnPostFwdKernel.Facts) (hGdnPostFwdKernelIdeal : Cert.GdnPostFwdKernelIdeal.Facts) (hGdnPostFwdReferenceIdeal : Cert.GdnPostFwdReferenceIdeal.Facts) (hMemKvKernel : Cert.MemKvKernel.Facts) (hMemKvKernelIdeal : Cert.MemKvKernelIdeal.Facts) (hMemKvReferenceIdeal : Cert.MemKvReferenceIdeal.Facts) (hMemXKernel : Cert.MemXKernel.Facts) (hMemXKernelIdeal : Cert.MemXKernelIdeal.Facts) (hMemXReferenceIdeal : Cert.MemXReferenceIdeal.Facts) (hMemWKernel : Cert.MemWKernel.Facts) (hMemWKernelIdeal : Cert.MemWKernelIdeal.Facts) (hMemWReferenceIdeal : Cert.MemWReferenceIdeal.Facts) (hXaFwdKernel : Cert.XaFwdKernel.Facts) (hXaFwdKernelIdeal : Cert.XaFwdKernelIdeal.Facts) (hXaFwdReferenceIdeal : Cert.XaFwdReferenceIdeal.Facts) (hSwaFwdKernel : Cert.SwaFwdKernel.Facts) (hSwaFwdKernelIdeal : Cert.SwaFwdKernelIdeal.Facts) (hSwaFwdReferenceIdeal : Cert.SwaFwdReferenceIdeal.Facts) (hPre_xa_finite : Cert.Pre_xa_finite.Facts) (hPre_xa_fwd_finite : Cert.Pre_xa_fwd_finite.Facts) (hPre_swa_finite : Cert.Pre_swa_finite.Facts),
    quiescent_Kernel (hKernel := hKernel)
    ∧ quiescent_KernelIdeal (hKernelIdeal := hKernelIdeal)
    ∧ quiescent_KernelIdeal_pre_xa_finite (hKernelIdeal := hKernelIdeal) (hPre_xa_finite := hPre_xa_finite)
    ∧ quiescent_ReferenceIdeal (hReferenceIdeal := hReferenceIdeal)
    ∧ quiescent_ReferenceIdeal_pre_xa_finite (hReferenceIdeal := hReferenceIdeal) (hPre_xa_finite := hPre_xa_finite)
    ∧ quiescent_MlpXKernel (hMlpXKernel := hMlpXKernel)
    ∧ quiescent_MlpXKernelIdeal (hMlpXKernelIdeal := hMlpXKernelIdeal)
    ∧ quiescent_MlpXReferenceIdeal (hMlpXReferenceIdeal := hMlpXReferenceIdeal)
    ∧ quiescent_MlpWinKernel (hMlpWinKernel := hMlpWinKernel)
    ∧ quiescent_MlpWinKernelIdeal (hMlpWinKernelIdeal := hMlpWinKernelIdeal)
    ∧ quiescent_MlpWinReferenceIdeal (hMlpWinReferenceIdeal := hMlpWinReferenceIdeal)
    ∧ quiescent_MlpWoutKernel (hMlpWoutKernel := hMlpWoutKernel)
    ∧ quiescent_MlpWoutKernelIdeal (hMlpWoutKernelIdeal := hMlpWoutKernelIdeal)
    ∧ quiescent_MlpWoutReferenceIdeal (hMlpWoutReferenceIdeal := hMlpWoutReferenceIdeal)
    ∧ quiescent_MlpActKernel (hMlpActKernel := hMlpActKernel)
    ∧ quiescent_MlpActKernelIdeal (hMlpActKernelIdeal := hMlpActKernelIdeal)
    ∧ quiescent_MlpActReferenceIdeal (hMlpActReferenceIdeal := hMlpActReferenceIdeal)
    ∧ quiescent_MlpYKernel (hMlpYKernel := hMlpYKernel)
    ∧ quiescent_MlpYKernelIdeal (hMlpYKernelIdeal := hMlpYKernelIdeal)
    ∧ quiescent_MlpYReferenceIdeal (hMlpYReferenceIdeal := hMlpYReferenceIdeal)
    ∧ quiescent_MlpDuKernel (hMlpDuKernel := hMlpDuKernel)
    ∧ quiescent_MlpDuKernelIdeal (hMlpDuKernelIdeal := hMlpDuKernelIdeal)
    ∧ quiescent_MlpDuReferenceIdeal (hMlpDuReferenceIdeal := hMlpDuReferenceIdeal)
    ∧ quiescent_InQaKernel (hInQaKernel := hInQaKernel)
    ∧ quiescent_InQaKernelIdeal (hInQaKernelIdeal := hInQaKernelIdeal)
    ∧ quiescent_InQaReferenceIdeal (hInQaReferenceIdeal := hInQaReferenceIdeal)
    ∧ quiescent_InKvAbKernel (hInKvAbKernel := hInKvAbKernel)
    ∧ quiescent_InKvAbKernelIdeal (hInKvAbKernelIdeal := hInKvAbKernelIdeal)
    ∧ quiescent_InKvAbReferenceIdeal (hInKvAbReferenceIdeal := hInKvAbReferenceIdeal)
    ∧ quiescent_InQkvBKernel (hInQkvBKernel := hInQkvBKernel)
    ∧ quiescent_InQkvBKernelIdeal (hInQkvBKernelIdeal := hInQkvBKernelIdeal)
    ∧ quiescent_InQkvBReferenceIdeal (hInQkvBReferenceIdeal := hInQkvBReferenceIdeal)
    ∧ quiescent_InZKernel (hInZKernel := hInZKernel)
    ∧ quiescent_InZKernelIdeal (hInZKernelIdeal := hInZKernelIdeal)
    ∧ quiescent_InZReferenceIdeal (hInZReferenceIdeal := hInZReferenceIdeal)
    ∧ quiescent_InQcKernel (hInQcKernel := hInQcKernel)
    ∧ quiescent_InQcKernelIdeal (hInQcKernelIdeal := hInQcKernelIdeal)
    ∧ quiescent_InQcReferenceIdeal (hInQcReferenceIdeal := hInQcReferenceIdeal)
    ∧ quiescent_InGatesKernel (hInGatesKernel := hInGatesKernel)
    ∧ quiescent_InGatesKernelIdeal (hInGatesKernelIdeal := hInGatesKernelIdeal)
    ∧ quiescent_InGatesReferenceIdeal (hInGatesReferenceIdeal := hInGatesReferenceIdeal)
    ∧ quiescent_InXKernel (hInXKernel := hInXKernel)
    ∧ quiescent_InXKernelIdeal (hInXKernelIdeal := hInXKernelIdeal)
    ∧ quiescent_InXReferenceIdeal (hInXReferenceIdeal := hInXReferenceIdeal)
    ∧ quiescent_InWKernel (hInWKernel := hInWKernel)
    ∧ quiescent_InWKernelIdeal (hInWKernelIdeal := hInWKernelIdeal)
    ∧ quiescent_InWReferenceIdeal (hInWReferenceIdeal := hInWReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_OutXKernel (hOutXKernel := hOutXKernel)
    ∧ quiescent_OutXKernelIdeal (hOutXKernelIdeal := hOutXKernelIdeal)
    ∧ quiescent_OutXReferenceIdeal (hOutXReferenceIdeal := hOutXReferenceIdeal)
    ∧ quiescent_OutWKernel (hOutWKernel := hOutWKernel)
    ∧ quiescent_OutWKernelIdeal (hOutWKernelIdeal := hOutWKernelIdeal)
    ∧ quiescent_OutWReferenceIdeal (hOutWReferenceIdeal := hOutWReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_DMergeKernel (hDMergeKernel := hDMergeKernel)
    ∧ quiescent_DMergeKernelIdeal (hDMergeKernelIdeal := hDMergeKernelIdeal)
    ∧ quiescent_DMergeReferenceIdeal (hDMergeReferenceIdeal := hDMergeReferenceIdeal)
    ∧ quiescent_UpAXKernel (hUpAXKernel := hUpAXKernel)
    ∧ quiescent_UpAXKernelIdeal (hUpAXKernelIdeal := hUpAXKernelIdeal)
    ∧ quiescent_UpAXReferenceIdeal (hUpAXReferenceIdeal := hUpAXReferenceIdeal)
    ∧ quiescent_UpAWKernel (hUpAWKernel := hUpAWKernel)
    ∧ quiescent_UpAWKernelIdeal (hUpAWKernelIdeal := hUpAWKernelIdeal)
    ∧ quiescent_UpAWReferenceIdeal (hUpAWReferenceIdeal := hUpAWReferenceIdeal)
    ∧ quiescent_UpBXKernel (hUpBXKernel := hUpBXKernel)
    ∧ quiescent_UpBXKernelIdeal (hUpBXKernelIdeal := hUpBXKernelIdeal)
    ∧ quiescent_UpBXReferenceIdeal (hUpBXReferenceIdeal := hUpBXReferenceIdeal)
    ∧ quiescent_UpBWKernel (hUpBWKernel := hUpBWKernel)
    ∧ quiescent_UpBWKernelIdeal (hUpBWKernelIdeal := hUpBWKernelIdeal)
    ∧ quiescent_UpBWReferenceIdeal (hUpBWReferenceIdeal := hUpBWReferenceIdeal)
    ∧ quiescent_RmsFwdKernel (hRmsFwdKernel := hRmsFwdKernel)
    ∧ quiescent_RmsFwdKernelIdeal (hRmsFwdKernelIdeal := hRmsFwdKernelIdeal)
    ∧ quiescent_RmsFwdReferenceIdeal (hRmsFwdReferenceIdeal := hRmsFwdReferenceIdeal)
    ∧ quiescent_RmsBwdKernel (hRmsBwdKernel := hRmsBwdKernel)
    ∧ quiescent_RmsBwdKernelIdeal (hRmsBwdKernelIdeal := hRmsBwdKernelIdeal)
    ∧ quiescent_RmsBwdReferenceIdeal (hRmsBwdReferenceIdeal := hRmsBwdReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AdwVecKernel (hAdwVecKernel := hAdwVecKernel)
    ∧ quiescent_AdwVecKernelIdeal (hAdwVecKernelIdeal := hAdwVecKernelIdeal)
    ∧ quiescent_AdwVecReferenceIdeal (hAdwVecReferenceIdeal := hAdwVecReferenceIdeal)
    ∧ quiescent_AdwInKernel (hAdwInKernel := hAdwInKernel)
    ∧ quiescent_AdwInKernelIdeal (hAdwInKernelIdeal := hAdwInKernelIdeal)
    ∧ quiescent_AdwInReferenceIdeal (hAdwInReferenceIdeal := hAdwInReferenceIdeal)
    ∧ quiescent_AdwSinksKernel (hAdwSinksKernel := hAdwSinksKernel)
    ∧ quiescent_AdwSinksKernelIdeal (hAdwSinksKernelIdeal := hAdwSinksKernelIdeal)
    ∧ quiescent_AdwSinksReferenceIdeal (hAdwSinksReferenceIdeal := hAdwSinksReferenceIdeal)
    ∧ quiescent_AdwConvKernel (hAdwConvKernel := hAdwConvKernel)
    ∧ quiescent_AdwConvKernelIdeal (hAdwConvKernelIdeal := hAdwConvKernelIdeal)
    ∧ quiescent_AdwConvReferenceIdeal (hAdwConvReferenceIdeal := hAdwConvReferenceIdeal)
    ∧ quiescent_AdwHeadsKernel (hAdwHeadsKernel := hAdwHeadsKernel)
    ∧ quiescent_AdwHeadsKernelIdeal (hAdwHeadsKernelIdeal := hAdwHeadsKernelIdeal)
    ∧ quiescent_AdwHeadsReferenceIdeal (hAdwHeadsReferenceIdeal := hAdwHeadsReferenceIdeal)
    ∧ quiescent_AdwNormKernel (hAdwNormKernel := hAdwNormKernel)
    ∧ quiescent_AdwNormKernelIdeal (hAdwNormKernelIdeal := hAdwNormKernelIdeal)
    ∧ quiescent_AdwNormReferenceIdeal (hAdwNormReferenceIdeal := hAdwNormReferenceIdeal)
    ∧ quiescent_AdwMemKernel (hAdwMemKernel := hAdwMemKernel)
    ∧ quiescent_AdwMemKernelIdeal (hAdwMemKernelIdeal := hAdwMemKernelIdeal)
    ∧ quiescent_AdwMemReferenceIdeal (hAdwMemReferenceIdeal := hAdwMemReferenceIdeal)
    ∧ quiescent_AdwSwaUpKernel (hAdwSwaUpKernel := hAdwSwaUpKernel)
    ∧ quiescent_AdwSwaUpKernelIdeal (hAdwSwaUpKernelIdeal := hAdwSwaUpKernelIdeal)
    ∧ quiescent_AdwSwaUpReferenceIdeal (hAdwSwaUpReferenceIdeal := hAdwSwaUpReferenceIdeal)
    ∧ quiescent_AdwUpKernel (hAdwUpKernel := hAdwUpKernel)
    ∧ quiescent_AdwUpKernelIdeal (hAdwUpKernelIdeal := hAdwUpKernelIdeal)
    ∧ quiescent_AdwUpReferenceIdeal (hAdwUpReferenceIdeal := hAdwUpReferenceIdeal)
    ∧ quiescent_AdwOutKernel (hAdwOutKernel := hAdwOutKernel)
    ∧ quiescent_AdwOutKernelIdeal (hAdwOutKernelIdeal := hAdwOutKernelIdeal)
    ∧ quiescent_AdwOutReferenceIdeal (hAdwOutReferenceIdeal := hAdwOutReferenceIdeal)
    ∧ quiescent_AdwMlpKernel (hAdwMlpKernel := hAdwMlpKernel)
    ∧ quiescent_AdwMlpKernelIdeal (hAdwMlpKernelIdeal := hAdwMlpKernelIdeal)
    ∧ quiescent_AdwMlpReferenceIdeal (hAdwMlpReferenceIdeal := hAdwMlpReferenceIdeal)
    ∧ quiescent_GdnPostFwdKernel (hGdnPostFwdKernel := hGdnPostFwdKernel)
    ∧ quiescent_GdnPostFwdKernelIdeal (hGdnPostFwdKernelIdeal := hGdnPostFwdKernelIdeal)
    ∧ quiescent_GdnPostFwdReferenceIdeal (hGdnPostFwdReferenceIdeal := hGdnPostFwdReferenceIdeal)
    ∧ quiescent_MemKvKernel (hMemKvKernel := hMemKvKernel)
    ∧ quiescent_MemKvKernelIdeal (hMemKvKernelIdeal := hMemKvKernelIdeal)
    ∧ quiescent_MemKvReferenceIdeal (hMemKvReferenceIdeal := hMemKvReferenceIdeal)
    ∧ quiescent_MemXKernel (hMemXKernel := hMemXKernel)
    ∧ quiescent_MemXKernelIdeal (hMemXKernelIdeal := hMemXKernelIdeal)
    ∧ quiescent_MemXReferenceIdeal (hMemXReferenceIdeal := hMemXReferenceIdeal)
    ∧ quiescent_MemWKernel (hMemWKernel := hMemWKernel)
    ∧ quiescent_MemWKernelIdeal (hMemWKernelIdeal := hMemWKernelIdeal)
    ∧ quiescent_MemWReferenceIdeal (hMemWReferenceIdeal := hMemWReferenceIdeal)
    ∧ quiescent_XaFwdKernel (hXaFwdKernel := hXaFwdKernel)
    ∧ quiescent_XaFwdKernelIdeal (hXaFwdKernelIdeal := hXaFwdKernelIdeal)
    ∧ quiescent_XaFwdKernelIdeal_pre_xa_fwd_finite (hXaFwdKernelIdeal := hXaFwdKernelIdeal) (hPre_xa_fwd_finite := hPre_xa_fwd_finite)
    ∧ quiescent_XaFwdReferenceIdeal (hXaFwdReferenceIdeal := hXaFwdReferenceIdeal)
    ∧ quiescent_XaFwdReferenceIdeal_pre_xa_fwd_finite (hXaFwdReferenceIdeal := hXaFwdReferenceIdeal) (hPre_xa_fwd_finite := hPre_xa_fwd_finite)
    ∧ quiescent_SwaFwdKernel (hSwaFwdKernel := hSwaFwdKernel)
    ∧ quiescent_SwaFwdKernelIdeal (hSwaFwdKernelIdeal := hSwaFwdKernelIdeal)
    ∧ quiescent_SwaFwdKernelIdeal_pre_swa_finite (hSwaFwdKernelIdeal := hSwaFwdKernelIdeal) (hPre_swa_finite := hPre_swa_finite)
    ∧ quiescent_SwaFwdReferenceIdeal (hSwaFwdReferenceIdeal := hSwaFwdReferenceIdeal)
    ∧ quiescent_SwaFwdReferenceIdeal_pre_swa_finite (hSwaFwdReferenceIdeal := hSwaFwdReferenceIdeal) (hPre_swa_finite := hPre_swa_finite)
    ∧ preserves_Kernel_KernelIdeal
    ∧ algebraic_KernelIdeal_ReferenceIdeal_pre_xa_finite (hKernelIdeal := hKernelIdeal) (hReferenceIdeal := hReferenceIdeal) (hPre_xa_finite := hPre_xa_finite)
    ∧ preserves_MlpXKernel_MlpXKernelIdeal
    ∧ algebraic_MlpXKernelIdeal_MlpXReferenceIdeal (hMlpXKernelIdeal := hMlpXKernelIdeal) (hMlpXReferenceIdeal := hMlpXReferenceIdeal)
    ∧ preserves_MlpWinKernel_MlpWinKernelIdeal
    ∧ algebraic_MlpWinKernelIdeal_MlpWinReferenceIdeal (hMlpWinKernelIdeal := hMlpWinKernelIdeal) (hMlpWinReferenceIdeal := hMlpWinReferenceIdeal)
    ∧ preserves_MlpWoutKernel_MlpWoutKernelIdeal
    ∧ algebraic_MlpWoutKernelIdeal_MlpWoutReferenceIdeal (hMlpWoutKernelIdeal := hMlpWoutKernelIdeal) (hMlpWoutReferenceIdeal := hMlpWoutReferenceIdeal)
    ∧ preserves_MlpActKernel_MlpActKernelIdeal
    ∧ algebraic_MlpActKernelIdeal_MlpActReferenceIdeal (hMlpActKernelIdeal := hMlpActKernelIdeal) (hMlpActReferenceIdeal := hMlpActReferenceIdeal)
    ∧ preserves_MlpYKernel_MlpYKernelIdeal
    ∧ algebraic_MlpYKernelIdeal_MlpYReferenceIdeal (hMlpYKernelIdeal := hMlpYKernelIdeal) (hMlpYReferenceIdeal := hMlpYReferenceIdeal)
    ∧ preserves_MlpDuKernel_MlpDuKernelIdeal
    ∧ algebraic_MlpDuKernelIdeal_MlpDuReferenceIdeal (hMlpDuKernelIdeal := hMlpDuKernelIdeal) (hMlpDuReferenceIdeal := hMlpDuReferenceIdeal)
    ∧ preserves_InQaKernel_InQaKernelIdeal
    ∧ algebraic_InQaKernelIdeal_InQaReferenceIdeal (hInQaKernelIdeal := hInQaKernelIdeal) (hInQaReferenceIdeal := hInQaReferenceIdeal)
    ∧ preserves_InKvAbKernel_InKvAbKernelIdeal
    ∧ algebraic_InKvAbKernelIdeal_InKvAbReferenceIdeal (hInKvAbKernelIdeal := hInKvAbKernelIdeal) (hInKvAbReferenceIdeal := hInKvAbReferenceIdeal)
    ∧ preserves_InQkvBKernel_InQkvBKernelIdeal
    ∧ algebraic_InQkvBKernelIdeal_InQkvBReferenceIdeal (hInQkvBKernelIdeal := hInQkvBKernelIdeal) (hInQkvBReferenceIdeal := hInQkvBReferenceIdeal)
    ∧ preserves_InZKernel_InZKernelIdeal
    ∧ algebraic_InZKernelIdeal_InZReferenceIdeal (hInZKernelIdeal := hInZKernelIdeal) (hInZReferenceIdeal := hInZReferenceIdeal)
    ∧ preserves_InQcKernel_InQcKernelIdeal
    ∧ algebraic_InQcKernelIdeal_InQcReferenceIdeal (hInQcKernelIdeal := hInQcKernelIdeal) (hInQcReferenceIdeal := hInQcReferenceIdeal)
    ∧ preserves_InGatesKernel_InGatesKernelIdeal
    ∧ algebraic_InGatesKernelIdeal_InGatesReferenceIdeal (hInGatesKernelIdeal := hInGatesKernelIdeal) (hInGatesReferenceIdeal := hInGatesReferenceIdeal)
    ∧ preserves_InXKernel_InXKernelIdeal
    ∧ algebraic_InXKernelIdeal_InXReferenceIdeal (hInXKernelIdeal := hInXKernelIdeal) (hInXReferenceIdeal := hInXReferenceIdeal)
    ∧ preserves_InWKernel_InWKernelIdeal
    ∧ algebraic_InWKernelIdeal_InWReferenceIdeal (hInWKernelIdeal := hInWKernelIdeal) (hInWReferenceIdeal := hInWReferenceIdeal)
    ∧ preserves_OutKernel_OutKernelIdeal
    ∧ algebraic_OutKernelIdeal_OutReferenceIdeal (hOutKernelIdeal := hOutKernelIdeal) (hOutReferenceIdeal := hOutReferenceIdeal)
    ∧ preserves_OutXKernel_OutXKernelIdeal
    ∧ algebraic_OutXKernelIdeal_OutXReferenceIdeal (hOutXKernelIdeal := hOutXKernelIdeal) (hOutXReferenceIdeal := hOutXReferenceIdeal)
    ∧ preserves_OutWKernel_OutWKernelIdeal
    ∧ algebraic_OutWKernelIdeal_OutWReferenceIdeal (hOutWKernelIdeal := hOutWKernelIdeal) (hOutWReferenceIdeal := hOutWReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_DMergeKernel_DMergeKernelIdeal
    ∧ algebraic_DMergeKernelIdeal_DMergeReferenceIdeal (hDMergeKernelIdeal := hDMergeKernelIdeal) (hDMergeReferenceIdeal := hDMergeReferenceIdeal)
    ∧ preserves_UpAXKernel_UpAXKernelIdeal
    ∧ algebraic_UpAXKernelIdeal_UpAXReferenceIdeal (hUpAXKernelIdeal := hUpAXKernelIdeal) (hUpAXReferenceIdeal := hUpAXReferenceIdeal)
    ∧ preserves_UpAWKernel_UpAWKernelIdeal
    ∧ algebraic_UpAWKernelIdeal_UpAWReferenceIdeal (hUpAWKernelIdeal := hUpAWKernelIdeal) (hUpAWReferenceIdeal := hUpAWReferenceIdeal)
    ∧ preserves_UpBXKernel_UpBXKernelIdeal
    ∧ algebraic_UpBXKernelIdeal_UpBXReferenceIdeal (hUpBXKernelIdeal := hUpBXKernelIdeal) (hUpBXReferenceIdeal := hUpBXReferenceIdeal)
    ∧ preserves_UpBWKernel_UpBWKernelIdeal
    ∧ algebraic_UpBWKernelIdeal_UpBWReferenceIdeal (hUpBWKernelIdeal := hUpBWKernelIdeal) (hUpBWReferenceIdeal := hUpBWReferenceIdeal)
    ∧ preserves_RmsFwdKernel_RmsFwdKernelIdeal
    ∧ algebraic_RmsFwdKernelIdeal_RmsFwdReferenceIdeal (hRmsFwdKernelIdeal := hRmsFwdKernelIdeal) (hRmsFwdReferenceIdeal := hRmsFwdReferenceIdeal)
    ∧ preserves_RmsBwdKernel_RmsBwdKernelIdeal
    ∧ algebraic_RmsBwdKernelIdeal_RmsBwdReferenceIdeal (hRmsBwdKernelIdeal := hRmsBwdKernelIdeal) (hRmsBwdReferenceIdeal := hRmsBwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_AdwVecKernel_AdwVecKernelIdeal
    ∧ algebraic_AdwVecKernelIdeal_AdwVecReferenceIdeal (hAdwVecKernelIdeal := hAdwVecKernelIdeal) (hAdwVecReferenceIdeal := hAdwVecReferenceIdeal)
    ∧ preserves_AdwInKernel_AdwInKernelIdeal
    ∧ algebraic_AdwInKernelIdeal_AdwInReferenceIdeal (hAdwInKernelIdeal := hAdwInKernelIdeal) (hAdwInReferenceIdeal := hAdwInReferenceIdeal)
    ∧ preserves_AdwSinksKernel_AdwSinksKernelIdeal
    ∧ algebraic_AdwSinksKernelIdeal_AdwSinksReferenceIdeal (hAdwSinksKernelIdeal := hAdwSinksKernelIdeal) (hAdwSinksReferenceIdeal := hAdwSinksReferenceIdeal)
    ∧ preserves_AdwConvKernel_AdwConvKernelIdeal
    ∧ algebraic_AdwConvKernelIdeal_AdwConvReferenceIdeal (hAdwConvKernelIdeal := hAdwConvKernelIdeal) (hAdwConvReferenceIdeal := hAdwConvReferenceIdeal)
    ∧ preserves_AdwHeadsKernel_AdwHeadsKernelIdeal
    ∧ algebraic_AdwHeadsKernelIdeal_AdwHeadsReferenceIdeal (hAdwHeadsKernelIdeal := hAdwHeadsKernelIdeal) (hAdwHeadsReferenceIdeal := hAdwHeadsReferenceIdeal)
    ∧ preserves_AdwNormKernel_AdwNormKernelIdeal
    ∧ algebraic_AdwNormKernelIdeal_AdwNormReferenceIdeal (hAdwNormKernelIdeal := hAdwNormKernelIdeal) (hAdwNormReferenceIdeal := hAdwNormReferenceIdeal)
    ∧ preserves_AdwMemKernel_AdwMemKernelIdeal
    ∧ algebraic_AdwMemKernelIdeal_AdwMemReferenceIdeal (hAdwMemKernelIdeal := hAdwMemKernelIdeal) (hAdwMemReferenceIdeal := hAdwMemReferenceIdeal)
    ∧ preserves_AdwSwaUpKernel_AdwSwaUpKernelIdeal
    ∧ algebraic_AdwSwaUpKernelIdeal_AdwSwaUpReferenceIdeal (hAdwSwaUpKernelIdeal := hAdwSwaUpKernelIdeal) (hAdwSwaUpReferenceIdeal := hAdwSwaUpReferenceIdeal)
    ∧ preserves_AdwUpKernel_AdwUpKernelIdeal
    ∧ algebraic_AdwUpKernelIdeal_AdwUpReferenceIdeal (hAdwUpKernelIdeal := hAdwUpKernelIdeal) (hAdwUpReferenceIdeal := hAdwUpReferenceIdeal)
    ∧ preserves_AdwOutKernel_AdwOutKernelIdeal
    ∧ algebraic_AdwOutKernelIdeal_AdwOutReferenceIdeal (hAdwOutKernelIdeal := hAdwOutKernelIdeal) (hAdwOutReferenceIdeal := hAdwOutReferenceIdeal)
    ∧ preserves_AdwMlpKernel_AdwMlpKernelIdeal
    ∧ algebraic_AdwMlpKernelIdeal_AdwMlpReferenceIdeal (hAdwMlpKernelIdeal := hAdwMlpKernelIdeal) (hAdwMlpReferenceIdeal := hAdwMlpReferenceIdeal)
    ∧ preserves_GdnPostFwdKernel_GdnPostFwdKernelIdeal
    ∧ algebraic_GdnPostFwdKernelIdeal_GdnPostFwdReferenceIdeal (hGdnPostFwdKernelIdeal := hGdnPostFwdKernelIdeal) (hGdnPostFwdReferenceIdeal := hGdnPostFwdReferenceIdeal)
    ∧ preserves_MemKvKernel_MemKvKernelIdeal
    ∧ algebraic_MemKvKernelIdeal_MemKvReferenceIdeal (hMemKvKernelIdeal := hMemKvKernelIdeal) (hMemKvReferenceIdeal := hMemKvReferenceIdeal)
    ∧ preserves_MemXKernel_MemXKernelIdeal
    ∧ algebraic_MemXKernelIdeal_MemXReferenceIdeal (hMemXKernelIdeal := hMemXKernelIdeal) (hMemXReferenceIdeal := hMemXReferenceIdeal)
    ∧ preserves_MemWKernel_MemWKernelIdeal
    ∧ algebraic_MemWKernelIdeal_MemWReferenceIdeal (hMemWKernelIdeal := hMemWKernelIdeal) (hMemWReferenceIdeal := hMemWReferenceIdeal)
    ∧ preserves_XaFwdKernel_XaFwdKernelIdeal
    ∧ algebraic_XaFwdKernelIdeal_XaFwdReferenceIdeal_pre_xa_fwd_finite (hXaFwdKernelIdeal := hXaFwdKernelIdeal) (hXaFwdReferenceIdeal := hXaFwdReferenceIdeal) (hPre_xa_fwd_finite := hPre_xa_fwd_finite)
    ∧ preserves_SwaFwdKernel_SwaFwdKernelIdeal
    ∧ algebraic_SwaFwdKernelIdeal_SwaFwdReferenceIdeal_pre_swa_finite (hSwaFwdKernelIdeal := hSwaFwdKernelIdeal) (hSwaFwdReferenceIdeal := hSwaFwdReferenceIdeal) (hPre_swa_finite := hPre_swa_finite)
-- ==== Pre_swa_finite.lean ====
abbrev S8192x1024 : Shape := ⟨2, ![8192, 1024]⟩
abbrev S8192x256 : Shape := ⟨2, ![8192, 256]⟩
abbrev S1x16 : Shape := ⟨2, ![1, 16]⟩
abbrev S8192x128 : Shape := ⟨2, ![8192, 128]⟩
abbrev S_ : Shape := ⟨0, ![]⟩

class Facts : Prop where
  bitsLt_bf16_f32 : FTy.bits .bf16 < FTy.bits .f32
  slices_S8192x256_S8192x128_0_0 : S8192x256.Slices ![0, 0] S8192x128
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x1024 .bf16) (main_arg1 : FVec F S8192x256 .bf16) (main_arg2 : FVec F S1x16 .f32) : IVec S_ 1 :=
  let main_v0 : FVec F S8192x1024 .f32 := (extf .f32 · bitsLt_bf16_f32) main_arg0
  let main_v1 : FVec F S8192x128 .bf16 := (extractStridedSlice S8192x128 ![0, 0] · slices_S8192x256_S8192x128_0_0) main_arg1
  let main_v2 : FVec F S8192x128 .f32 := (extf .f32 · bitsLt_bf16_f32) main_v1
  let main_v3 : FVec F S8192x1024 .f32 := Host.absf main_v0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_c : IVec S_ 1 := constantI S_ 1 1#1
  let main_v6 : IVec S_ 1 := (fun x v => Host.reduce IntOp.andi x v reducesTo_S8192x1024_S_d0_1 h_S_) main_v5 main_c
  let main_v7 : FVec F S8192x128 .f32 := Host.absf main_v2
  let main_cst_0 : FVec F S_ .f32 := constant S_ .f32 0x7F800000#32
  let main_v8 : FVec F S8192x128 .f32 := broadcastInDim S8192x128 ![] bcast_S_S8192x128 main_cst_0
  let main_v9 : IVec S8192x128 1 := cmpf .olt main_v7 main_v8
  let main_c_1 : IVec S_ 1 := constantI S_ 1 1#1
  let main_v10 : IVec S_ 1 := (fun x v => Host.reduce IntOp.andi x v reducesTo_S8192x128_S_d0_1 h_S_) main_v9 main_c_1
  let main_v11 : IVec S_ 1 := andi main_v6 main_v10
  let main_v12 : FVec F S1x16 .f32 := Host.absf main_arg2
  let main_cst_2 : FVec F S_ .f32 := constant S_ .f32 0x7F800000#32
  let main_v13 : FVec F S1x16 .f32 := broadcastInDim S1x16 ![] bcast_S_S1x16 main_cst_2
  let main_v14 : IVec S1x16 1 := cmpf .olt main_v12 main_v13
  let main_c_3 : IVec S_ 1 := constantI S_ 1 1#1
  let main_v15 : IVec S_ 1 := (fun x v => Host.reduce IntOp.andi x v reducesTo_S1x16_S_d0_1 h_S_) main_v14 main_c_3
  let main_v16 : IVec S_ 1 := andi main_v11 main_v15
  main_v16
-- ==== Pre_xa_finite.lean ====
abbrev S8192x512 : Shape := ⟨2, ![8192, 512]⟩
abbrev S256x1024 : Shape := ⟨2, ![256, 1024]⟩
abbrev S8192x10240 : Shape := ⟨2, ![8192, 10240]⟩
abbrev S256x512 : Shape := ⟨2, ![256, 512]⟩
abbrev S_ : Shape := ⟨0, ![]⟩

class Facts : Prop where
  bitsLt_bf16_f32 : FTy.bits .bf16 < FTy.bits .f32
  slices_S256x1024_S256x512_0_0 : S256x1024.Slices ![0, 0] S256x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .bf16) (main_arg1 : FVec F S256x1024 .bf16) (main_arg2 : FVec F S8192x512 .bf16) (main_arg3 : FVec F S8192x10240 .bf16) : IVec S_ 1 :=
  let main_v0 : FVec F S8192x512 .f32 := (extf .f32 · bitsLt_bf16_f32) main_arg0
  let main_v1 : FVec F S256x512 .bf16 := (extractStridedSlice S256x512 ![0, 0] · slices_S256x1024_S256x512_0_0) main_arg1
  let main_v2 : FVec F S256x512 .f32 := (extf .f32 · bitsLt_bf16_f32) main_v1
  let main_v3 : FVec F S8192x512 .f32 := Host.absf main_v0
  let main_cst : FVec F S_ .f32 := constant S_ .f32 0x7F800000#32
  let main_v4 : FVec F S8192x512 .f32 := broadcastInDim S8192x512 ![] bcast_S_S8192x512 main_cst
  let main_v5 : IVec S8192x512 1 := cmpf .olt main_v3 main_v4
  let main_c : IVec S_ 1 := constantI S_ 1 1#1
  let main_v6 : IVec S_ 1 := (fun x v => Host.reduce IntOp.andi x v reducesTo_S8192x512_S_d0_1 h_S_) main_v5 main_c
  let main_v7 : FVec F S256x512 .f32 := Host.absf main_v2
  let main_cst_0 : FVec F S_ .f32 := constant S_ .f32 0x7F800000#32
  let main_v8 : FVec F S256x512 .f32 := broadcastInDim S256x512 ![] bcast_S_S256x512 main_cst_0
  let main_v9 : IVec S256x512 1 := cmpf .olt main_v7 main_v8
  let main_c_1 : IVec S_ 1 := constantI S_ 1 1#1
  let main_v10 : IVec S_ 1 := (fun x v => Host.reduce IntOp.andi x v reducesTo_S256x512_S_d0_1 h_S_) main_v9 main_c_1
  let main_v11 : IVec S_ 1 := andi main_v6 main_v10
  main_v11
-- ==== Pre_xa_fwd_finite.lean ====
abbrev S8192x512 : Shape := ⟨2, ![8192, 512]⟩
abbrev S256x1024 : Shape := ⟨2, ![256, 1024]⟩
abbrev S256x512 : Shape := ⟨2, ![256, 512]⟩
abbrev S_ : Shape := ⟨0, ![]⟩

class Facts : Prop where
  bitsLt_bf16_f32 : FTy.bits .bf16 < FTy.bits .f32
  slices_S256x1024_S256x512_0_0 : S256x1024.Slices ![0, 0] S256x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .bf16) (main_arg1 : FVec F S256x1024 .bf16) : IVec S_ 1 :=
  let main_v0 : FVec F S8192x512 .f32 := (extf .f32 · bitsLt_bf16_f32) main_arg0
  let main_v1 : FVec F S256x512 .bf16 := (extractStridedSlice S256x512 ![0, 0] · slices_S256x1024_S256x512_0_0) main_arg1
  let main_v2 : FVec F S256x512 .f32 := (extf .f32 · bitsLt_bf16_f32) main_v1
  let main_v3 : FVec F S8192x512 .f32 := Host.absf main_v0
  let main_cst : FVec F S_ .f32 := constant S_ .f32 0x7F800000#32
  let main_v4 : FVec F S8192x512 .f32 := broadcastInDim S8192x512 ![] bcast_S_S8192x512 main_cst
  let main_v5 : IVec S8192x512 1 := cmpf .olt main_v3 main_v4
  let main_c : IVec S_ 1 := constantI S_ 1 1#1
  let main_v6 : IVec S_ 1 := (fun x v => Host.reduce IntOp.andi x v reducesTo_S8192x512_S_d0_1 h_S_) main_v5 main_c
  let main_v7 : FVec F S256x512 .f32 := Host.absf main_v2
  let main_cst_0 : FVec F S_ .f32 := constant S_ .f32 0x7F800000#32
  let main_v8 : FVec F S256x512 .f32 := broadcastInDim S256x512 ![] bcast_S_S256x512 main_cst_0
  let main_v9 : IVec S256x512 1 := cmpf .olt main_v7 main_v8
  let main_c_1 : IVec S_ 1 := constantI S_ 1 1#1
  let main_v10 : IVec S_ 1 := (fun x v => Host.reduce IntOp.andi x v reducesTo_S256x512_S_d0_1 h_S_) main_v9 main_c_1
  let main_v11 : IVec S_ 1 := andi main_v6 main_v10
  main_v11
-- ==== Kernel.lean ====
abbrev S8192x512 : Shape := ⟨2, ![8192, 512]⟩
abbrev S256x1024 : Shape := ⟨2, ![256, 1024]⟩
abbrev S8192x10240 : Shape := ⟨2, ![8192, 10240]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .hbm, ⟨3, _⟩ => ⟨S8192x10240, .bf16⟩
  | .hbm, ⟨4, _⟩ => ⟨S8192x10240, .bf16⟩
  | .hbm, ⟨5, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v144 : BitVec 1 := Scalar.cmpi .eq arg0 c0_i32
  let v145 : BitVec 32 := Scalar.extui v144
  let c0_i32_93 : BitVec 32 := 0#32
  let v146 : BitVec 1 := Scalar.cmpi .ne v145 c0_i32_93
  v146

def k0_cond2 (i : grid0.Coords) : BitVec 1 :=
  let arg0 : BitVec 32 := BitVec.ofNat 32 (i 0).val
  let c0_i32_94 : BitVec 32 := 0#32
  let v147 : BitVec 1 := Scalar.cmpi .sgt arg0 c0_i32_94
  let v148 : BitVec 32 := Scalar.extui v147
  let c0_i32_95 : BitVec 32 := 0#32
  let v149 : BitVec 1 := Scalar.cmpi .ne v148 c0_i32_95
  v149

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x512 : Shape := ⟨2, ![8192, 512]⟩
abbrev S256x1024 : Shape := ⟨2, ![256, 1024]⟩
abbrev S8192x10240 : Shape := ⟨2, ![8192, 10240]⟩
abbrev S1x8192x512 : Shape := ⟨3, ![1, 8192, 512]⟩
abbrev S1x256x1024 : Shape := ⟨3, ![1, 256, 1024]⟩
abbrev S1x8192x4x128 : Shape := ⟨4, ![1, 8192, 4, 128]⟩
abbrev S1x256x512 : Shape := ⟨3, ![1, 256, 512]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩
abbrev S8192x9216 : Shape := ⟨2, ![8192, 9216]⟩

abbrev nBuf : Space → Nat
  | .hbm => 97
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .hbm, ⟨3, _⟩ => ⟨S8192x10240, .bf16⟩
  | .hbm, ⟨4, _⟩ => ⟨S8192x512, .f32⟩
  | .hbm, ⟨5, _⟩ => ⟨S1x8192x512, .f32⟩
  | .hbm, ⟨6, _⟩ => ⟨S256x1024, .f32⟩
  | .hbm, ⟨7, _⟩ => ⟨S1x256x1024, .f32⟩
  | .hbm, ⟨8, _⟩ => ⟨S8192x512, .f32⟩
  | .hbm, ⟨9, _⟩ => ⟨S1x8192x512, .f32⟩
  | .hbm, ⟨10, _⟩ => ⟨S1x8192x4x128, .f32⟩
  | .hbm, ⟨11, _⟩ => ⟨S1x256x512, .f32⟩
  | .hbm, ⟨12, _⟩ => ⟨S1x256x512, .f32⟩
  | .hbm, ⟨13, _⟩ => ⟨S1x256x4x128, .f32⟩
  | .hbm, ⟨14, _⟩ => ⟨S1x256x4x128, .f32⟩
  | .hbm, ⟨15, _⟩ => ⟨S1x4x8192x256, .f32⟩
  | .hbm, ⟨16, _⟩ => ⟨S_, .f32⟩
  | .hbm, ⟨17, _⟩ => ⟨S1x4x8192x256, .f32⟩
  | .hbm, ⟨18, _⟩ => ⟨S1x4x8192x256, .f32⟩
  | .hbm, ⟨19, _⟩ => ⟨S_, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .i1⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S_, .f32⟩
  | .hbm, ⟨28, _⟩ => ⟨S1x4x8192, .f32⟩
  | .hbm, ⟨29, _⟩ => ⟨S1x4x8192, .f32⟩
  | .hbm, ⟨30, _⟩ => ⟨S_, .f32⟩
  | .hbm, ⟨31, _⟩ => ⟨S1x4x8192, .f32⟩
  | .hbm, ⟨32, _⟩ => ⟨S1x4x8192, .i1⟩
  | .hbm, ⟨33, _⟩ => ⟨S_, .f32⟩
  | .hbm, ⟨34, _⟩ => ⟨S1x4x8192, .f32⟩
  | .hbm, ⟨35, _⟩ => ⟨S1x4x8192, .i1⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S_, .f32⟩
  | .hbm, ⟨41, _⟩ => ⟨S1x4x8192, .f32⟩
  | .hbm, ⟨42, _⟩ => ⟨S1x4x8192, .f32⟩
  | .hbm, ⟨43, _⟩ => ⟨S1x4x8192, .f32⟩
  | .hbm, ⟨44, _⟩ => ⟨S1x4x8192x1, .f32⟩
  | .hbm, ⟨45, _⟩ => ⟨S1x4x8192x256, .f32⟩
  | .hbm, ⟨46, _⟩ => ⟨S1x4x8192x256, .f32⟩
  | .hbm, ⟨47, _⟩ => ⟨S1x4x8192x256, .f32⟩
  | .hbm, ⟨48, _⟩ => ⟨S_, .f32⟩
  | .hbm, ⟨49, _⟩ => ⟨S1x4x8192, .f32⟩
  | .hbm, ⟨50, _⟩ => ⟨S1x4x8192x1, .f32⟩
  | .hbm, ⟨51, _⟩ => ⟨S1x4x8192x256, .f32⟩
  | .hbm, ⟨52, _⟩ => ⟨S1x4x8192x256, .f32⟩
  | .hbm, ⟨53, _⟩ => ⟨S1x4x8192x1, .f32⟩
  | .hbm, ⟨54, _⟩ => ⟨S_, .f32⟩
  | .hbm, ⟨55, _⟩ => ⟨S1x4x8192x1, .f32⟩
  | .hbm, ⟨56, _⟩ => ⟨S1x4x8192x1, .f32⟩
  | .hbm, ⟨57, _⟩ => ⟨S1x4x128x8192, .f32⟩
  | .hbm, ⟨58, _⟩ => ⟨S1x8192x4x128, .f32⟩
  | .hbm, ⟨59, _⟩ => ⟨S1x8192x512, .f32⟩
  | .hbm, ⟨60, _⟩ => ⟨S1x8192x4x128, .f32⟩
  | .hbm, ⟨61, _⟩ => ⟨S1x4x128x8192, .f32⟩
  | .hbm, ⟨62, _⟩ => ⟨S1x4x8192x256, .f32⟩
  | .hbm, ⟨63, _⟩ => ⟨S1x4x128x256, .f32⟩
  | .hbm, ⟨64, _⟩ => ⟨S1x256x4x128, .f32⟩
  | .hbm, ⟨65, _⟩ => ⟨S1x4x8192x256, .f32⟩
  | .hbm, ⟨66, _⟩ => ⟨S1x4x8192x256, .f32⟩
  | .hbm, ⟨67, _⟩ => ⟨S1x4x8192x256, .f32⟩
  | .hbm, ⟨68, _⟩ => ⟨S_, .f32⟩
  | .hbm, ⟨69, _⟩ => ⟨S1x4x8192, .f32⟩
  | .hbm, ⟨70, _⟩ => ⟨S1x4x8192x1, .f32⟩
  | .hbm, ⟨71, _⟩ => ⟨S1x4x8192x1, .f32⟩
  | .hbm, ⟨72, _⟩ => ⟨S1x4x8192x256, .f32⟩
  | .hbm, ⟨73, _⟩ => ⟨S1x4x8192x256, .f32⟩
  | .hbm, ⟨74, _⟩ => ⟨S_, .f32⟩
  | .hbm, ⟨75, _⟩ => ⟨S4x8192, .f32⟩
  | .hbm, ⟨76, _⟩ => ⟨S1x4x8192, .f32⟩
  | .hbm, ⟨77, _⟩ => ⟨S1x4x8192x256, .f32⟩
  | .hbm, ⟨78, _⟩ => ⟨S1x4x8192x256, .f32⟩
  | .hbm, ⟨79, _⟩ => ⟨S1x4x8192x256, .f32⟩
  | .hbm, ⟨80, _⟩ => ⟨S_, .f32⟩
  | .hbm, ⟨81, _⟩ => ⟨S1x4x8192x256, .f32⟩
  | .hbm, ⟨82, _⟩ => ⟨S1x4x8192x256, .f32⟩
  | .hbm, ⟨83, _⟩ => ⟨S1x4x256x128, .f32⟩
  | .hbm, ⟨84, _⟩ => ⟨S1x256x4x128, .f32⟩
  | .hbm, ⟨85, _⟩ => ⟨S1x4x8192x128, .f32⟩
  | .hbm, ⟨86, _⟩ => ⟨S1x8192x4x128, .f32⟩
  | .hbm, ⟨87, _⟩ => ⟨S1x256x512, .f32⟩
  | .hbm, ⟨88, _⟩ => ⟨S1x256x512, .f32⟩
  | .hbm, ⟨89, _⟩ => ⟨S1x256x1024, .f32⟩
  | .hbm, ⟨90, _⟩ => ⟨S1x8192x512, .f32⟩
  | .hbm, ⟨91, _⟩ => ⟨S8192x9216, .bf16⟩
  | .hbm, ⟨92, _⟩ => ⟨S8192x512, .f32⟩
  | .hbm, ⟨93, _⟩ => ⟨S8192x512, .bf16⟩
  | .hbm, ⟨94, _⟩ => ⟨S8192x512, .bf16⟩
  | .hbm, ⟨95, _⟩ => ⟨S8192x10240, .bf16⟩
  | .hbm, ⟨96, _⟩ => ⟨S256x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== MlpXKernel.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 38
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S2048x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | .hbm, ⟨37, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpXReferenceIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S2048x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S2048x8192, .f32⟩
  | .hbm, ⟨32, _⟩ => ⟨S8192x2048, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x2048, .f32⟩
  | .hbm, ⟨39, _⟩ => ⟨S2048x8192, .f32⟩
  | .hbm, ⟨40, _⟩ => ⟨S8192x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S1x2048x2048, .f32⟩
  | .hbm, ⟨46, _⟩ => ⟨S_, .f32⟩
  | .hbm, ⟨47, _⟩ => ⟨S4x2048x2048, .f32⟩
  | .hbm, ⟨48, _⟩ => ⟨S1x2048x2048, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S1x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S1x2048x2048, .f32⟩
  | .hbm, ⟨57, _⟩ => ⟨S_, .f32⟩
  | .hbm, ⟨58, _⟩ => ⟨S4x2048x2048, .f32⟩
  | .hbm, ⟨59, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== MlpWinKernel.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 38
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S2048x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | .hbm, ⟨37, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpWinReferenceIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S2048x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S2048x8192, .f32⟩
  | .hbm, ⟨32, _⟩ => ⟨S8192x2048, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x2048, .f32⟩
  | .hbm, ⟨39, _⟩ => ⟨S2048x8192, .f32⟩
  | .hbm, ⟨40, _⟩ => ⟨S8192x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S1x2048x2048, .f32⟩
  | .hbm, ⟨46, _⟩ => ⟨S_, .f32⟩
  | .hbm, ⟨47, _⟩ => ⟨S4x2048x2048, .f32⟩
  | .hbm, ⟨48, _⟩ => ⟨S1x2048x2048, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S1x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S1x2048x2048, .f32⟩
  | .hbm, ⟨57, _⟩ => ⟨S_, .f32⟩
  | .hbm, ⟨58, _⟩ => ⟨S4x2048x2048, .f32⟩
  | .hbm, ⟨59, _⟩ => ⟨S4x2048x2048, .f32⟩
  | .hbm, ⟨60, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== MlpWoutKernel.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .bf16⟩
  | .hbm, ⟨21, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpWoutReferenceIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S2048x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S2048x8192, .f32⟩
  | .hbm, ⟨32, _⟩ => ⟨S8192x2048, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x2048, .f32⟩
  | .hbm, ⟨39, _⟩ => ⟨S2048x8192, .f32⟩
  | .hbm, ⟨40, _⟩ => ⟨S8192x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S1x2048x2048, .f32⟩
  | .hbm, ⟨46, _⟩ => ⟨S_, .f32⟩
  | .hbm, ⟨47, _⟩ => ⟨S4x2048x2048, .f32⟩
  | .hbm, ⟨48, _⟩ => ⟨S1x2048x2048, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S1x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S1x2048x2048, .f32⟩
  | .hbm, ⟨57, _⟩ => ⟨S_, .f32⟩
  | .hbm, ⟨58, _⟩ => ⟨S4x2048x2048, .f32⟩
  | .hbm, ⟨59, _⟩ => ⟨S4x2048x2048, .f32⟩
  | .hbm, ⟨60, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== MlpActKernel.lean ====
abbrev S8192x2048 : Shape := ⟨2, ![8192, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpActReferenceIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .f32⟩
  | .hbm, ⟨3, _⟩ => ⟨S4x2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S8192x8192, .f32⟩
  | .hbm, ⟨14, _⟩ => ⟨S8192x8192, .bf16⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_cst : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== MlpYKernel.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 22
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S4x2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .bf16⟩
  | .hbm, ⟨21, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpYReferenceIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S2048x2048, .f32⟩
  | .hbm, ⟨13, _⟩ => ⟨S1x2048x2048, .f32⟩
  | .hbm, ⟨14, _⟩ => ⟨S2048x2048, .f32⟩
  | .hbm, ⟨15, _⟩ => ⟨S2048x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MlpDuKernel.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 18
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x8192, .f32⟩
  | .hbm, ⟨15, _⟩ => ⟨S8192x8192, .f32⟩
  | .hbm, ⟨16, _⟩ => ⟨S8192x8192, .bf16⟩
  | .hbm, ⟨17, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDuReferenceIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S4x2048x2048, .f32⟩
  | .hbm, ⟨6, _⟩ => ⟨S8192x2048, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S2048x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x2048, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== InQaKernel.lean ====
abbrev S8192x2048 : Shape := ⟨2, ![8192, 2048]⟩
abbrev S2048x9992 : Shape := ⟨2, ![2048, 9992]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 13
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S2048x1024, .bf16⟩
  | .hbm, ⟨3, _⟩ => ⟨S2048x256, .bf16⟩
  | .hbm, ⟨4, _⟩ => ⟨S2048x1536, .bf16⟩
  | .hbm, ⟨5, _⟩ => ⟨S2048x8, .bf16⟩
  | .hbm, ⟨6, _⟩ => ⟨S2048x512, .bf16⟩
  | .hbm, ⟨7, _⟩ => ⟨S2048x512, .bf16⟩
  | .hbm, ⟨8, _⟩ => ⟨S2048x6144, .bf16⟩
  | .hbm, ⟨9, _⟩ => ⟨S_, .bf16⟩
  | .hbm, ⟨10, _⟩ => ⟨S2048x248, .bf16⟩
  | .hbm, ⟨11, _⟩ => ⟨S2048x10240, .bf16⟩
  | .hbm, ⟨12, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQaReferenceIdeal.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x128 : Shape := ⟨2, ![8192, 128]⟩
abbrev S8192x1536 : Shape := ⟨2, ![8192, 1536]⟩
abbrev S8192x4 : Shape := ⟨2, ![8192, 4]⟩
abbrev S8192x512 : Shape := ⟨2, ![8192, 512]⟩
abbrev S8192x6144 : Shape := ⟨2, ![8192, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x2048, .f32⟩
  | .hbm, ⟨3, _⟩ => ⟨S2048x9992, .f32⟩
  | .hbm, ⟨4, _⟩ => ⟨S8192x9992, .f32⟩
  | .hbm, ⟨5, _⟩ => ⟨S8192x1024, .f32⟩
  | .hbm, ⟨6, _⟩ => ⟨S8192x128, .f32⟩
  | .hbm, ⟨7, _⟩ => ⟨S8192x128, .f32⟩
  | .hbm, ⟨8, _⟩ => ⟨S8192x1536, .f32⟩
  | .hbm, ⟨9, _⟩ => ⟨S8192x4, .f32⟩
  | .hbm, ⟨10, _⟩ => ⟨S8192x4, .f32⟩
  | .hbm, ⟨11, _⟩ => ⟨S8192x512, .f32⟩
  | .hbm, ⟨12, _⟩ => ⟨S8192x512, .f32⟩
  | .hbm, ⟨13, _⟩ => ⟨S8192x6144, .f32⟩
  | .hbm, ⟨14, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== InKvAbKernel.lean ====
abbrev S8192x2048 : Shape := ⟨2, ![8192, 2048]⟩
abbrev S2048x9992 : Shape := ⟨2, ![2048, 9992]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 14
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S2048x1024, .bf16⟩
  | .hbm, ⟨3, _⟩ => ⟨S2048x256, .bf16⟩
  | .hbm, ⟨4, _⟩ => ⟨S2048x1536, .bf16⟩
  | .hbm, ⟨5, _⟩ => ⟨S2048x8, .bf16⟩
  | .hbm, ⟨6, _⟩ => ⟨S2048x512, .bf16⟩
  | .hbm, ⟨7, _⟩ => ⟨S2048x512, .bf16⟩
  | .hbm, ⟨8, _⟩ => ⟨S2048x6144, .bf16⟩
  | .hbm, ⟨9, _⟩ => ⟨S_, .bf16⟩
  | .hbm, ⟨10, _⟩ => ⟨S2048x248, .bf16⟩
  | .hbm, ⟨11, _⟩ => ⟨S2048x10240, .bf16⟩
  | .hbm, ⟨12, _⟩ => ⟨S8192x512, .bf16⟩
  | .hbm, ⟨13, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.addi arg1 c19_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InKvAbReferenceIdeal.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x128 : Shape := ⟨2, ![8192, 128]⟩
abbrev S8192x1536 : Shape := ⟨2, ![8192, 1536]⟩
abbrev S8192x4 : Shape := ⟨2, ![8192, 4]⟩
abbrev S8192x512 : Shape := ⟨2, ![8192, 512]⟩
abbrev S8192x6144 : Shape := ⟨2, ![8192, 6144]⟩
abbrev S_ : Shape := ⟨0, ![]⟩
abbrev S8192x248 : Shape := ⟨2, ![8192, 248]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x2048, .f32⟩
  | .hbm, ⟨3, _⟩ => ⟨S2048x9992, .f32⟩
  | .hbm, ⟨4, _⟩ => ⟨S8192x9992, .f32⟩
  | .hbm, ⟨5, _⟩ => ⟨S8192x1024, .f32⟩
  | .hbm, ⟨6, _⟩ => ⟨S8192x128, .f32⟩
  | .hbm, ⟨7, _⟩ => ⟨S8192x128, .f32⟩
  | .hbm, ⟨8, _⟩ => ⟨S8192x1536, .f32⟩
  | .hbm, ⟨9, _⟩ => ⟨S8192x4, .f32⟩
  | .hbm, ⟨10, _⟩ => ⟨S8192x4, .f32⟩
  | .hbm, ⟨11, _⟩ => ⟨S8192x512, .f32⟩
  | .hbm, ⟨12, _⟩ => ⟨S8192x512, .f32⟩
  | .hbm, ⟨13, _⟩ => ⟨S8192x6144, .f32⟩
  | .hbm, ⟨14, _⟩ => ⟨S_, .f32⟩
  | .hbm, ⟨15, _⟩ => ⟨S8192x248, .f32⟩
  | .hbm, ⟨16, _⟩ => ⟨S8192x512, .f32⟩
  | .hbm, ⟨17, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== InQkvBKernel.lean ====
abbrev S8192x2048 : Shape := ⟨2, ![8192, 2048]⟩
abbrev S2048x9992 : Shape := ⟨2, ![2048, 9992]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩
abbrev S8192x1536 : Shape := ⟨2, ![8192, 1536]⟩
abbrev S1024x2048 : Shape := ⟨2, ![1024, 2048]⟩
abbrev S1024x512 : Shape := ⟨2, ![1024, 512]⟩

abbrev nBuf : Space → Nat
  | .hbm => 13
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S2048x1024, .bf16⟩
  | .hbm, ⟨3, _⟩ => ⟨S2048x256, .bf16⟩
  | .hbm, ⟨4, _⟩ => ⟨S2048x1536, .bf16⟩
  | .hbm, ⟨5, _⟩ => ⟨S2048x8, .bf16⟩
  | .hbm, ⟨6, _⟩ => ⟨S2048x512, .bf16⟩
  | .hbm, ⟨7, _⟩ => ⟨S2048x512, .bf16⟩
  | .hbm, ⟨8, _⟩ => ⟨S2048x6144, .bf16⟩
  | .hbm, ⟨9, _⟩ => ⟨S_, .bf16⟩
  | .hbm, ⟨10, _⟩ => ⟨S2048x248, .bf16⟩
  | .hbm, ⟨11, _⟩ => ⟨S2048x10240, .bf16⟩
  | .hbm, ⟨12, _⟩ => ⟨S8192x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvBReferenceIdeal.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x128 : Shape := ⟨2, ![8192, 128]⟩
abbrev S8192x1536 : Shape := ⟨2, ![8192, 1536]⟩
abbrev S8192x4 : Shape := ⟨2, ![8192, 4]⟩
abbrev S8192x512 : Shape := ⟨2, ![8192, 512]⟩
abbrev S8192x6144 : Shape := ⟨2, ![8192, 6144]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x2048, .f32⟩
  | .hbm, ⟨3, _⟩ => ⟨S2048x9992, .f32⟩
  | .hbm, ⟨4, _⟩ => ⟨S8192x9992, .f32⟩
  | .hbm, ⟨5, _⟩ => ⟨S8192x1024, .f32⟩
  | .hbm, ⟨6, _⟩ => ⟨S8192x128, .f32⟩
  | .hbm, ⟨7, _⟩ => ⟨S8192x128, .f32⟩
  | .hbm, ⟨8, _⟩ => ⟨S8192x1536, .f32⟩
  | .hbm, ⟨9, _⟩ => ⟨S8192x4, .f32⟩
  | .hbm, ⟨10, _⟩ => ⟨S8192x4, .f32⟩
  | .hbm, ⟨11, _⟩ => ⟨S8192x512, .f32⟩
  | .hbm, ⟨12, _⟩ => ⟨S8192x512, .f32⟩
  | .hbm, ⟨13, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== InZKernel.lean ====
abbrev S8192x2048 : Shape := ⟨2, ![8192, 2048]⟩
abbrev S2048x9992 : Shape := ⟨2, ![2048, 9992]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 13
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S2048x1024, .bf16⟩
  | .hbm, ⟨3, _⟩ => ⟨S2048x256, .bf16⟩
  | .hbm, ⟨4, _⟩ => ⟨S2048x1536, .bf16⟩
  | .hbm, ⟨5, _⟩ => ⟨S2048x8, .bf16⟩
  | .hbm, ⟨6, _⟩ => ⟨S2048x512, .bf16⟩
  | .hbm, ⟨7, _⟩ => ⟨S2048x512, .bf16⟩
  | .hbm, ⟨8, _⟩ => ⟨S2048x6144, .bf16⟩
  | .hbm, ⟨9, _⟩ => ⟨S_, .bf16⟩
  | .hbm, ⟨10, _⟩ => ⟨S2048x248, .bf16⟩
  | .hbm, ⟨11, _⟩ => ⟨S2048x10240, .bf16⟩
  | .hbm, ⟨12, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi arg1 c17_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZReferenceIdeal.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x128 : Shape := ⟨2, ![8192, 128]⟩
abbrev S8192x1536 : Shape := ⟨2, ![8192, 1536]⟩
abbrev S8192x4 : Shape := ⟨2, ![8192, 4]⟩
abbrev S8192x512 : Shape := ⟨2, ![8192, 512]⟩
abbrev S8192x6144 : Shape := ⟨2, ![8192, 6144]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x2048, .f32⟩
  | .hbm, ⟨3, _⟩ => ⟨S2048x9992, .f32⟩
  | .hbm, ⟨4, _⟩ => ⟨S8192x9992, .f32⟩
  | .hbm, ⟨5, _⟩ => ⟨S8192x1024, .f32⟩
  | .hbm, ⟨6, _⟩ => ⟨S8192x128, .f32⟩
  | .hbm, ⟨7, _⟩ => ⟨S8192x128, .f32⟩
  | .hbm, ⟨8, _⟩ => ⟨S8192x1536, .f32⟩
  | .hbm, ⟨9, _⟩ => ⟨S8192x4, .f32⟩
  | .hbm, ⟨10, _⟩ => ⟨S8192x4, .f32⟩
  | .hbm, ⟨11, _⟩ => ⟨S8192x512, .f32⟩
  | .hbm, ⟨12, _⟩ => ⟨S8192x512, .f32⟩
  | .hbm, ⟨13, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== InQcKernel.lean ====
abbrev S8192x2048 : Shape := ⟨2, ![8192, 2048]⟩
abbrev S2048x9992 : Shape := ⟨2, ![2048, 9992]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 13
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S2048x1024, .bf16⟩
  | .hbm, ⟨3, _⟩ => ⟨S2048x256, .bf16⟩
  | .hbm, ⟨4, _⟩ => ⟨S2048x1536, .bf16⟩
  | .hbm, ⟨5, _⟩ => ⟨S2048x8, .bf16⟩
  | .hbm, ⟨6, _⟩ => ⟨S2048x512, .bf16⟩
  | .hbm, ⟨7, _⟩ => ⟨S2048x512, .bf16⟩
  | .hbm, ⟨8, _⟩ => ⟨S2048x6144, .bf16⟩
  | .hbm, ⟨9, _⟩ => ⟨S_, .bf16⟩
  | .hbm, ⟨10, _⟩ => ⟨S2048x248, .bf16⟩
  | .hbm, ⟨11, _⟩ => ⟨S2048x10240, .bf16⟩
  | .hbm, ⟨12, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQcReferenceIdeal.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x128 : Shape := ⟨2, ![8192, 128]⟩
abbrev S8192x1536 : Shape := ⟨2, ![8192, 1536]⟩
abbrev S8192x4 : Shape := ⟨2, ![8192, 4]⟩
abbrev S8192x512 : Shape := ⟨2, ![8192, 512]⟩
abbrev S8192x6144 : Shape := ⟨2, ![8192, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x2048, .f32⟩
  | .hbm, ⟨3, _⟩ => ⟨S2048x9992, .f32⟩
  | .hbm, ⟨4, _⟩ => ⟨S8192x9992, .f32⟩
  | .hbm, ⟨5, _⟩ => ⟨S8192x1024, .f32⟩
  | .hbm, ⟨6, _⟩ => ⟨S8192x128, .f32⟩
  | .hbm, ⟨7, _⟩ => ⟨S8192x128, .f32⟩
  | .hbm, ⟨8, _⟩ => ⟨S8192x1536, .f32⟩
  | .hbm, ⟨9, _⟩ => ⟨S8192x4, .f32⟩
  | .hbm, ⟨10, _⟩ => ⟨S8192x4, .f32⟩
  | .hbm, ⟨11, _⟩ => ⟨S8192x512, .f32⟩
  | .hbm, ⟨12, _⟩ => ⟨S8192x512, .f32⟩
  | .hbm, ⟨13, _⟩ => ⟨S8192x6144, .f32⟩
  | .hbm, ⟨14, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== InGatesKernel.lean ====
abbrev S8192x2048 : Shape := ⟨2, ![8192, 2048]⟩
abbrev S2048x9992 : Shape := ⟨2, ![2048, 9992]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩
abbrev S8192x6144 : Shape := ⟨2, ![8192, 6144]⟩
abbrev S1024x2048 : Shape := ⟨2, ![1024, 2048]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S2048x1024, .bf16⟩
  | .hbm, ⟨3, _⟩ => ⟨S2048x256, .bf16⟩
  | .hbm, ⟨4, _⟩ => ⟨S2048x1536, .bf16⟩
  | .hbm, ⟨5, _⟩ => ⟨S2048x8, .bf16⟩
  | .hbm, ⟨6, _⟩ => ⟨S2048x512, .bf16⟩
  | .hbm, ⟨7, _⟩ => ⟨S2048x512, .bf16⟩
  | .hbm, ⟨8, _⟩ => ⟨S2048x6144, .bf16⟩
  | .hbm, ⟨9, _⟩ => ⟨S_, .bf16⟩
  | .hbm, ⟨10, _⟩ => ⟨S2048x248, .bf16⟩
  | .hbm, ⟨11, _⟩ => ⟨S2048x10240, .bf16⟩
  | .hbm, ⟨12, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGatesReferenceIdeal.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x128 : Shape := ⟨2, ![8192, 128]⟩
abbrev S8192x1536 : Shape := ⟨2, ![8192, 1536]⟩
abbrev S8192x4 : Shape := ⟨2, ![8192, 4]⟩
abbrev S8192x512 : Shape := ⟨2, ![8192, 512]⟩
abbrev S8192x6144 : Shape := ⟨2, ![8192, 6144]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x2048, .f32⟩
  | .hbm, ⟨3, _⟩ => ⟨S2048x9992, .f32⟩
  | .hbm, ⟨4, _⟩ => ⟨S8192x9992, .f32⟩
  | .hbm, ⟨5, _⟩ => ⟨S8192x1024, .f32⟩
  | .hbm, ⟨6, _⟩ => ⟨S8192x128, .f32⟩
  | .hbm, ⟨7, _⟩ => ⟨S8192x128, .f32⟩
  | .hbm, ⟨8, _⟩ => ⟨S8192x1536, .f32⟩
  | .hbm, ⟨9, _⟩ => ⟨S8192x4, .f32⟩
  | .hbm, ⟨10, _⟩ => ⟨S8192x4, .f32⟩
  | .hbm, ⟨11, _⟩ => ⟨S8192x512, .f32⟩
  | .hbm, ⟨12, _⟩ => ⟨S8192x512, .f32⟩
  | .hbm, ⟨13, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== InXKernel.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x256 : Shape := ⟨2, ![8192, 256]⟩
abbrev S8192x1536 : Shape := ⟨2, ![8192, 1536]⟩
abbrev S8192x8 : Shape := ⟨2, ![8192, 8]⟩
abbrev S8192x512 : Shape := ⟨2, ![8192, 512]⟩
abbrev S8192x6144 : Shape := ⟨2, ![8192, 6144]⟩
abbrev S_ : Shape := ⟨0, ![]⟩
abbrev S8192x248 : Shape := ⟨2, ![8192, 248]⟩
abbrev S8192x10240 : Shape := ⟨2, ![8192, 10240]⟩
abbrev S2048x1024 : Shape := ⟨2, ![2048, 1024]⟩
abbrev S2048x256 : Shape := ⟨2, ![2048, 256]⟩
abbrev S2048x1536 : Shape := ⟨2, ![2048, 1536]⟩
abbrev S2048x8 : Shape := ⟨2, ![2048, 8]⟩
abbrev S2048x512 : Shape := ⟨2, ![2048, 512]⟩
abbrev S2048x6144 : Shape := ⟨2, ![2048, 6144]⟩
abbrev S2048x248 : Shape := ⟨2, ![2048, 248]⟩
abbrev S2048x10240 : Shape := ⟨2, ![2048, 10240]⟩
abbrev S1024x2048 : Shape := ⟨2, ![1024, 2048]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x9992, .bf16⟩
  | .hbm, ⟨3, _⟩ => ⟨S8192x1024, .bf16⟩
  | .hbm, ⟨4, _⟩ => ⟨S8192x256, .bf16⟩
  | .hbm, ⟨5, _⟩ => ⟨S8192x1536, .bf16⟩
  | .hbm, ⟨6, _⟩ => ⟨S8192x8, .bf16⟩
  | .hbm, ⟨7, _⟩ => ⟨S8192x512, .bf16⟩
  | .hbm, ⟨8, _⟩ => ⟨S8192x512, .bf16⟩
  | .hbm, ⟨9, _⟩ => ⟨S8192x6144, .bf16⟩
  | .hbm, ⟨10, _⟩ => ⟨S_, .bf16⟩
  | .hbm, ⟨11, _⟩ => ⟨S8192x248, .bf16⟩
  | .hbm, ⟨12, _⟩ => ⟨S8192x10240, .bf16⟩
  | .hbm, ⟨13, _⟩ => ⟨S2048x1024, .bf16⟩
  | .hbm, ⟨14, _⟩ => ⟨S2048x256, .bf16⟩
  | .hbm, ⟨15, _⟩ => ⟨S2048x1536, .bf16⟩
  | .hbm, ⟨16, _⟩ => ⟨S2048x8, .bf16⟩
  | .hbm, ⟨17, _⟩ => ⟨S2048x512, .bf16⟩
  | .hbm, ⟨18, _⟩ => ⟨S2048x512, .bf16⟩
  | .hbm, ⟨19, _⟩ => ⟨S2048x6144, .bf16⟩
  | .hbm, ⟨20, _⟩ => ⟨S_, .bf16⟩
  | .hbm, ⟨21, _⟩ => ⟨S2048x248, .bf16⟩
  | .hbm, ⟨22, _⟩ => ⟨S2048x10240, .bf16⟩
  | .hbm, ⟨23, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXReferenceIdeal.lean ====
abbrev S8192x2048 : Shape := ⟨2, ![8192, 2048]⟩
abbrev S2048x9992 : Shape := ⟨2, ![2048, 9992]⟩
abbrev S8192x9992 : Shape := ⟨2, ![8192, 9992]⟩
abbrev S9992x2048 : Shape := ⟨2, ![9992, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x9992, .bf16⟩
  | .hbm, ⟨3, _⟩ => ⟨S8192x2048, .f32⟩
  | .hbm, ⟨4, _⟩ => ⟨S2048x9992, .f32⟩
  | .hbm, ⟨5, _⟩ => ⟨S8192x9992, .f32⟩
  | .hbm, ⟨6, _⟩ => ⟨S8192x9992, .f32⟩
  | .hbm, ⟨7, _⟩ => ⟨S9992x2048, .f32⟩
  | .hbm, ⟨8, _⟩ => ⟨S2048x9992, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWKernel.lean ====
abbrev S8192x2048 : Shape := ⟨2, ![8192, 2048]⟩
abbrev S2048x9992 : Shape := ⟨2, ![2048, 9992]⟩
abbrev S8192x9992 : Shape := ⟨2, ![8192, 9992]⟩
abbrev S8192x1024 : Shape := ⟨2, ![8192, 1024]⟩
abbrev S8192x256 : Shape := ⟨2, ![8192, 256]⟩
abbrev S8192x1536 : Shape := ⟨2, ![8192, 1536]⟩
abbrev S8192x8 : Shape := ⟨2, ![8192, 8]⟩
abbrev S8192x512 : Shape := ⟨2, ![8192, 512]⟩
abbrev S8192x6144 : Shape := ⟨2, ![8192, 6144]⟩
abbrev S_ : Shape := ⟨0, ![]⟩
abbrev S8192x248 : Shape := ⟨2, ![8192, 248]⟩
abbrev S8192x10240 : Shape := ⟨2, ![8192, 10240]⟩
abbrev S2048x10240 : Shape := ⟨2, ![2048, 10240]⟩
abbrev S2048x1024 : Shape := ⟨2, ![2048, 1024]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x9992, .bf16⟩
  | .hbm, ⟨3, _⟩ => ⟨S8192x1024, .bf16⟩
  | .hbm, ⟨4, _⟩ => ⟨S8192x256, .bf16⟩
  | .hbm, ⟨5, _⟩ => ⟨S8192x1536, .bf16⟩
  | .hbm, ⟨6, _⟩ => ⟨S8192x8, .bf16⟩
  | .hbm, ⟨7, _⟩ => ⟨S8192x512, .bf16⟩
  | .hbm, ⟨8, _⟩ => ⟨S8192x512, .bf16⟩
  | .hbm, ⟨9, _⟩ => ⟨S8192x6144, .bf16⟩
  | .hbm, ⟨10, _⟩ => ⟨S_, .bf16⟩
  | .hbm, ⟨11, _⟩ => ⟨S8192x248, .bf16⟩
  | .hbm, ⟨12, _⟩ => ⟨S8192x10240, .bf16⟩
  | .hbm, ⟨13, _⟩ => ⟨S2048x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWReferenceIdeal.lean ====
abbrev S8192x2048 : Shape := ⟨2, ![8192, 2048]⟩
abbrev S2048x9992 : Shape := ⟨2, ![2048, 9992]⟩
abbrev S8192x9992 : Shape := ⟨2, ![8192, 9992]⟩
abbrev S9992x2048 : Shape := ⟨2, ![9992, 2048]⟩
abbrev S2048x1024 : Shape := ⟨2, ![2048, 1024]⟩
abbrev S2048x128 : Shape := ⟨2, ![2048, 128]⟩
abbrev S2048x1536 : Shape := ⟨2, ![2048, 1536]⟩
abbrev S2048x4 : Shape := ⟨2, ![2048, 4]⟩
abbrev S2048x512 : Shape := ⟨2, ![2048, 512]⟩
abbrev S2048x6144 : Shape := ⟨2, ![2048, 6144]⟩
abbrev S_ : Shape := ⟨0, ![]⟩
abbrev S2048x248 : Shape := ⟨2, ![2048, 248]⟩
abbrev S2048x10240 : Shape := ⟨2, ![2048, 10240]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x9992, .bf16⟩
  | .hbm, ⟨2, _⟩ => ⟨S8192x9992, .bf16⟩
  | .hbm, ⟨3, _⟩ => ⟨S8192x2048, .f32⟩
  | .hbm, ⟨4, _⟩ => ⟨S2048x9992, .f32⟩
  | .hbm, ⟨5, _⟩ => ⟨S8192x9992, .f32⟩
  | .hbm, ⟨6, _⟩ => ⟨S8192x9992, .f32⟩
  | .hbm, ⟨7, _⟩ => ⟨S9992x2048, .f32⟩
  | .hbm, ⟨8, _⟩ => ⟨S2048x9992, .f32⟩
  | .hbm, ⟨9, _⟩ => ⟨S8192x2048, .f32⟩
  | .hbm, ⟨10, _⟩ => ⟨S2048x1024, .f32⟩
  | .hbm, ⟨11, _⟩ => ⟨S2048x128, .f32⟩
  | .hbm, ⟨12, _⟩ => ⟨S2048x128, .f32⟩
  | .hbm, ⟨13, _⟩ => ⟨S2048x1536, .f32⟩
  | .hbm, ⟨14, _⟩ => ⟨S2048x4, .f32⟩
  | .hbm, ⟨15, _⟩ => ⟨S2048x4, .f32⟩
  | .hbm, ⟨16, _⟩ => ⟨S2048x512, .f32⟩
  | .hbm, ⟨17, _⟩ => ⟨S2048x512, .f32⟩
  | .hbm, ⟨18, _⟩ => ⟨S2048x6144, .f32⟩
  | .hbm, ⟨19, _⟩ => ⟨S_, .f32⟩
  | .hbm, ⟨20, _⟩ => ⟨S2048x248, .f32⟩
  | .hbm, ⟨21, _⟩ => ⟨S2048x10240, .f32⟩
  | .hbm, ⟨22, _⟩ => ⟨S2048x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== OutKernel.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutXKernel.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWKernel.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWReferenceIdeal.lean ====
abbrev S8192x2048 : Shape := ⟨2, ![8192, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MergeKernel.lean ====
abbrev S8192x1024 : Shape := ⟨2, ![8192, 1024]⟩
abbrev S8192x512 : Shape := ⟨2, ![8192, 512]⟩
abbrev S4x1024x512 : Shape := ⟨3, ![4, 1024, 512]⟩
abbrev S4x512x512 : Shape := ⟨3, ![4, 512, 512]⟩
abbrev S8192x6144 : Shape := ⟨2, ![8192, 6144]⟩
abbrev S8192x2048 : Shape := ⟨2, ![8192, 2048]⟩
abbrev S256x1024 : Shape := ⟨2, ![256, 1024]⟩
abbrev S256x512 : Shape := ⟨2, ![256, 512]⟩
abbrev S256x6144 : Shape := ⟨2, ![256, 6144]⟩
abbrev S256x2048 : Shape := ⟨2, ![256, 2048]⟩
abbrev S1x1024x512 : Shape := ⟨3, ![1, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S4x1024x512, .bf16⟩
  | .hbm, ⟨4, _⟩ => ⟨S4x512x512, .bf16⟩
  | .hbm, ⟨5, _⟩ => ⟨S4x512x512, .bf16⟩
  | .hbm, ⟨6, _⟩ => ⟨S8192x6144, .f32⟩
  | .hbm, ⟨7, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S4x1024x512, .bf16⟩
  | .local _ .vmem, ⟨7, _⟩ => ⟨S4x512x512, .bf16⟩
  | .local _ .vmem, ⟨8, _⟩ => ⟨S4x512x512, .bf16⟩
  | .local _ .vmem, ⟨9, _⟩ => ⟨S256x6144, .f32⟩
  | .local _ .vmem, ⟨10, _⟩ => ⟨S256x6144, .f32⟩
  | .local _ .vmem, ⟨11, _⟩ => ⟨S256x2048, .bf16⟩
  | .local _ .vmem, ⟨12, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeReferenceIdeal.lean ====
abbrev S8192x1024 : Shape := ⟨2, ![8192, 1024]⟩
abbrev S8192x512 : Shape := ⟨2, ![8192, 512]⟩
abbrev S4x1024x512 : Shape := ⟨3, ![4, 1024, 512]⟩
abbrev S4x512x512 : Shape := ⟨3, ![4, 512, 512]⟩
abbrev S8192x6144 : Shape := ⟨2, ![8192, 6144]⟩
abbrev S1x1024x512 : Shape := ⟨3, ![1, 1024, 512]⟩
abbrev S1024x512 : Shape := ⟨2, ![1024, 512]⟩
abbrev S1024x2048 : Shape := ⟨2, ![1024, 2048]⟩
abbrev S8192x2048 : Shape := ⟨2, ![8192, 2048]⟩
abbrev S1x512x512 : Shape := ⟨3, ![1, 512, 512]⟩
abbrev S512x512 : Shape := ⟨2, ![512, 512]⟩
abbrev S512x2048 : Shape := ⟨2, ![512, 2048]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S4x1024x512, .bf16⟩
  | .hbm, ⟨4, _⟩ => ⟨S4x512x512, .bf16⟩
  | .hbm, ⟨5, _⟩ => ⟨S4x512x512, .bf16⟩
  | .hbm, ⟨6, _⟩ => ⟨S8192x6144, .f32⟩
  | .hbm, ⟨7, _⟩ => ⟨S8192x1024, .f32⟩
  | .hbm, ⟨8, _⟩ => ⟨S1x1024x512, .bf16⟩
  | .hbm, ⟨9, _⟩ => ⟨S1024x512, .bf16⟩
  | .hbm, ⟨10, _⟩ => ⟨S1024x512, .f32⟩
  | .hbm, ⟨11, _⟩ => ⟨S1x1024x512, .bf16⟩
  | .hbm, ⟨12, _⟩ => ⟨S1024x512, .bf16⟩
  | .hbm, ⟨13, _⟩ => ⟨S1024x512, .f32⟩
  | .hbm, ⟨14, _⟩ => ⟨S1x1024x512, .bf16⟩
  | .hbm, ⟨15, _⟩ => ⟨S1024x512, .bf16⟩
  | .hbm, ⟨16, _⟩ => ⟨S1024x512, .f32⟩
  | .hbm, ⟨17, _⟩ => ⟨S1x1024x512, .bf16⟩
  | .hbm, ⟨18, _⟩ => ⟨S1024x512, .bf16⟩
  | .hbm, ⟨19, _⟩ => ⟨S1024x512, .f32⟩
  | .hbm, ⟨20, _⟩ => ⟨S1024x2048, .f32⟩
  | .hbm, ⟨21, _⟩ => ⟨S8192x2048, .f32⟩
  | .hbm, ⟨22, _⟩ => ⟨S8192x512, .f32⟩
  | .hbm, ⟨23, _⟩ => ⟨S1x512x512, .bf16⟩
  | .hbm, ⟨24, _⟩ => ⟨S512x512, .bf16⟩
  | .hbm, ⟨25, _⟩ => ⟨S512x512, .f32⟩
  | .hbm, ⟨26, _⟩ => ⟨S1x512x512, .bf16⟩
  | .hbm, ⟨27, _⟩ => ⟨S512x512, .bf16⟩
  | .hbm, ⟨28, _⟩ => ⟨S512x512, .f32⟩
  | .hbm, ⟨29, _⟩ => ⟨S1x512x512, .bf16⟩
  | .hbm, ⟨30, _⟩ => ⟨S512x512, .bf16⟩
  | .hbm, ⟨31, _⟩ => ⟨S512x512, .f32⟩
  | .hbm, ⟨32, _⟩ => ⟨S1x512x512, .bf16⟩
  | .hbm, ⟨33, _⟩ => ⟨S512x512, .bf16⟩
  | .hbm, ⟨34, _⟩ => ⟨S512x512, .f32⟩
  | .hbm, ⟨35, _⟩ => ⟨S512x2048, .f32⟩
  | .hbm, ⟨36, _⟩ => ⟨S8192x2048, .f32⟩
  | .hbm, ⟨37, _⟩ => ⟨S8192x512, .f32⟩
  | .hbm, ⟨38, _⟩ => ⟨S1x512x512, .bf16⟩
  | .hbm, ⟨39, _⟩ => ⟨S512x512, .bf16⟩
  | .hbm, ⟨40, _⟩ => ⟨S512x512, .f32⟩
  | .hbm, ⟨41, _⟩ => ⟨S1x512x512, .bf16⟩
  | .hbm, ⟨42, _⟩ => ⟨S512x512, .bf16⟩
  | .hbm, ⟨43, _⟩ => ⟨S512x512, .f32⟩
  | .hbm, ⟨44, _⟩ => ⟨S1x512x512, .bf16⟩
  | .hbm, ⟨45, _⟩ => ⟨S512x512, .bf16⟩
  | .hbm, ⟨46, _⟩ => ⟨S512x512, .f32⟩
  | .hbm, ⟨47, _⟩ => ⟨S1x512x512, .bf16⟩
  | .hbm, ⟨48, _⟩ => ⟨S512x512, .bf16⟩
  | .hbm, ⟨49, _⟩ => ⟨S512x512, .f32⟩
  | .hbm, ⟨50, _⟩ => ⟨S512x2048, .f32⟩
  | .hbm, ⟨51, _⟩ => ⟨S8192x2048, .f32⟩
  | .hbm, ⟨52, _⟩ => ⟨S8192x6144, .f32⟩
  | .hbm, ⟨53, _⟩ => ⟨S8192x6144, .f32⟩
  | .hbm, ⟨54, _⟩ => ⟨S_, .f32⟩
  | .hbm, ⟨55, _⟩ => ⟨S8192x6144, .f32⟩
  | .hbm, ⟨56, _⟩ => ⟨S8192x6144, .f32⟩
  | .hbm, ⟨57, _⟩ => ⟨S_, .f32⟩
  | .hbm, ⟨58, _⟩ => ⟨S8192x6144, .f32⟩
  | .hbm, ⟨59, _⟩ => ⟨S8192x6144, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst : Ref sig .tc := ⟨.hbm, 54, rfl⟩
abbrev main_v47 : Ref sig .tc := ⟨.hbm, 55, rfl⟩
abbrev main_v48 : Ref sig .tc := ⟨.hbm, 56, rfl⟩
abbrev main_cst_0 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩

abbrev nD : Nat := 1
abbrev τ : Topo := Topo.v7x

variable {F : FTy → Type} [FloatOps F]
-- ==== DMergeKernel.lean ====
abbrev S8192x1024 : Shape := ⟨2, ![8192, 1024]⟩
abbrev S8192x512 : Shape := ⟨2, ![8192, 512]⟩
abbrev S4x1024x512 : Shape := ⟨3, ![4, 1024, 512]⟩
abbrev S4x512x512 : Shape := ⟨3, ![4, 512, 512]⟩
abbrev S8192x6144 : Shape := ⟨2, ![8192, 6144]⟩
abbrev S8192x2048 : Shape := ⟨2, ![8192, 2048]⟩
abbrev S256x1024 : Shape := ⟨2, ![256, 1024]⟩
abbrev S256x512 : Shape := ⟨2, ![256, 512]⟩
abbrev S256x6144 : Shape := ⟨2, ![256, 6144]⟩
abbrev S256x2048 : Shape := ⟨2, ![256, 2048]⟩
abbrev S1x1024x512 : Shape := ⟨3, ![1, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S4x1024x512, .bf16⟩
  | .hbm, ⟨4, _⟩ => ⟨S4x512x512, .bf16⟩
  | .hbm, ⟨5, _⟩ => ⟨S4x512x512, .bf16⟩
  | .hbm, ⟨6, _⟩ => ⟨S8192x6144, .f32⟩
  | .hbm, ⟨7, _⟩ => ⟨S8192x2048, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S8192x6144, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S4x1024x512, .bf16⟩
  | .local _ .vmem, ⟨7, _⟩ => ⟨S4x512x512, .bf16⟩
  | .local _ .vmem, ⟨8, _⟩ => ⟨S4x512x512, .bf16⟩
  | .local _ .vmem, ⟨9, _⟩ => ⟨S256x6144, .f32⟩
  | .local _ .vmem, ⟨10, _⟩ => ⟨S256x6144, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x6144, .bf16⟩
  | .local _ .vmem, ⟨20, _⟩ => ⟨S256x6144, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x6144 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DMergeReferenceIdeal.lean ====
abbrev S8192x1024 : Shape := ⟨2, ![8192, 1024]⟩
abbrev S8192x512 : Shape := ⟨2, ![8192, 512]⟩
abbrev S4x1024x512 : Shape := ⟨3, ![4, 1024, 512]⟩
abbrev S4x512x512 : Shape := ⟨3, ![4, 512, 512]⟩
abbrev S8192x6144 : Shape := ⟨2, ![8192, 6144]⟩
abbrev S8192x2048 : Shape := ⟨2, ![8192, 2048]⟩
abbrev S1x1024x512 : Shape := ⟨3, ![1, 1024, 512]⟩
abbrev S1024x512 : Shape := ⟨2, ![1024, 512]⟩
abbrev S1024x2048 : Shape := ⟨2, ![1024, 2048]⟩
abbrev S1x512x512 : Shape := ⟨3, ![1, 512, 512]⟩
abbrev S512x512 : Shape := ⟨2, ![512, 512]⟩
abbrev S512x2048 : Shape := ⟨2, ![512, 2048]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S4x1024x512, .bf16⟩
  | .hbm, ⟨4, _⟩ => ⟨S4x512x512, .bf16⟩
  | .hbm, ⟨5, _⟩ => ⟨S4x512x512, .bf16⟩
  | .hbm, ⟨6, _⟩ => ⟨S8192x6144, .f32⟩
  | .hbm, ⟨7, _⟩ => ⟨S8192x2048, .f32⟩
  | .hbm, ⟨8, _⟩ => ⟨S8192x1024, .f32⟩
  | .hbm, ⟨9, _⟩ => ⟨S1x1024x512, .bf16⟩
  | .hbm, ⟨10, _⟩ => ⟨S1024x512, .bf16⟩
  | .hbm, ⟨11, _⟩ => ⟨S1024x512, .f32⟩
  | .hbm, ⟨12, _⟩ => ⟨S1x1024x512, .bf16⟩
  | .hbm, ⟨13, _⟩ => ⟨S1024x512, .bf16⟩
  | .hbm, ⟨14, _⟩ => ⟨S1024x512, .f32⟩
  | .hbm, ⟨15, _⟩ => ⟨S1x1024x512, .bf16⟩
  | .hbm, ⟨16, _⟩ => ⟨S1024x512, .bf16⟩
  | .hbm, ⟨17, _⟩ => ⟨S1024x512, .f32⟩
  | .hbm, ⟨18, _⟩ => ⟨S1x1024x512, .bf16⟩
  | .hbm, ⟨19, _⟩ => ⟨S1024x512, .bf16⟩
  | .hbm, ⟨20, _⟩ => ⟨S1024x512, .f32⟩
  | .hbm, ⟨21, _⟩ => ⟨S1024x2048, .f32⟩
  | .hbm, ⟨22, _⟩ => ⟨S8192x2048, .f32⟩
  | .hbm, ⟨23, _⟩ => ⟨S8192x512, .f32⟩
  | .hbm, ⟨24, _⟩ => ⟨S1x512x512, .bf16⟩
  | .hbm, ⟨25, _⟩ => ⟨S512x512, .bf16⟩
  | .hbm, ⟨26, _⟩ => ⟨S512x512, .f32⟩
  | .hbm, ⟨27, _⟩ => ⟨S1x512x512, .bf16⟩
  | .hbm, ⟨28, _⟩ => ⟨S512x512, .bf16⟩
  | .hbm, ⟨29, _⟩ => ⟨S512x512, .f32⟩
  | .hbm, ⟨30, _⟩ => ⟨S1x512x512, .bf16⟩
  | .hbm, ⟨31, _⟩ => ⟨S512x512, .bf16⟩
  | .hbm, ⟨32, _⟩ => ⟨S512x512, .f32⟩
  | .hbm, ⟨33, _⟩ => ⟨S1x512x512, .bf16⟩
  | .hbm, ⟨34, _⟩ => ⟨S512x512, .bf16⟩
  | .hbm, ⟨35, _⟩ => ⟨S512x512, .f32⟩
  | .hbm, ⟨36, _⟩ => ⟨S512x2048, .f32⟩
  | .hbm, ⟨37, _⟩ => ⟨S8192x2048, .f32⟩
  | .hbm, ⟨38, _⟩ => ⟨S8192x512, .f32⟩
  | .hbm, ⟨39, _⟩ => ⟨S1x512x512, .bf16⟩
  | .hbm, ⟨40, _⟩ => ⟨S512x512, .bf16⟩
  | .hbm, ⟨41, _⟩ => ⟨S512x512, .f32⟩
  | .hbm, ⟨42, _⟩ => ⟨S1x512x512, .bf16⟩
  | .hbm, ⟨43, _⟩ => ⟨S512x512, .bf16⟩
  | .hbm, ⟨44, _⟩ => ⟨S512x512, .f32⟩
  | .hbm, ⟨45, _⟩ => ⟨S1x512x512, .bf16⟩
  | .hbm, ⟨46, _⟩ => ⟨S512x512, .bf16⟩
  | .hbm, ⟨47, _⟩ => ⟨S512x512, .f32⟩
  | .hbm, ⟨48, _⟩ => ⟨S1x512x512, .bf16⟩
  | .hbm, ⟨49, _⟩ => ⟨S512x512, .bf16⟩
  | .hbm, ⟨50, _⟩ => ⟨S512x512, .f32⟩
  | .hbm, ⟨51, _⟩ => ⟨S512x2048, .f32⟩
  | .hbm, ⟨52, _⟩ => ⟨S8192x2048, .f32⟩
  | .hbm, ⟨53, _⟩ => ⟨S8192x6144, .f32⟩
  | .hbm, ⟨54, _⟩ => ⟨S8192x6144, .f32⟩
  | .hbm, ⟨55, _⟩ => ⟨S_, .f32⟩
  | .hbm, ⟨56, _⟩ => ⟨S8192x6144, .f32⟩
  | .hbm, ⟨57, _⟩ => ⟨S8192x6144, .f32⟩
  | .hbm, ⟨58, _⟩ => ⟨S_, .f32⟩
  | .hbm, ⟨59, _⟩ => ⟨S8192x6144, .f32⟩
  | .hbm, ⟨60, _⟩ => ⟨S8192x6144, .f32⟩
  | .hbm, ⟨61, _⟩ => ⟨S_, .f32⟩
  | .hbm, ⟨62, _⟩ => ⟨S8192x6144, .f32⟩
  | .hbm, ⟨63, _⟩ => ⟨S8192x6144, .f32⟩
  | .hbm, ⟨64, _⟩ => ⟨S8192x6144, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x6144, .f32⟩
  | .hbm, ⟨82, _⟩ => ⟨S8192x6144, .f32⟩
  | .hbm, ⟨83, _⟩ => ⟨S8192x2048, .bf16⟩
  | .hbm, ⟨84, _⟩ => ⟨S8192x2048, .bf16⟩
  | .hbm, ⟨85, _⟩ => ⟨S8192x2048, .bf16⟩
  | .hbm, ⟨86, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst : Ref sig .tc := ⟨.hbm, 55, rfl⟩
abbrev main_v47 : Ref sig .tc := ⟨.hbm, 56, rfl⟩
abbrev main_v48 : Ref sig .tc := ⟨.hbm, 57, rfl⟩
abbrev main_cst_0 : Ref sig .tc := ⟨.hbm, 58, rfl⟩
abbrev main_v49 : Ref sig .tc := ⟨.hbm, 59, rfl⟩
abbrev main_v50 : Ref sig .tc := ⟨.hbm, 60, rfl⟩
abbrev main_cst_1 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== UpAXKernel.lean ====
abbrev S8192x1024 : Shape := ⟨2, ![8192, 1024]⟩
abbrev S4x1024x512 : Shape := ⟨3, ![4, 1024, 512]⟩
abbrev S8192x2048 : Shape := ⟨2, ![8192, 2048]⟩
abbrev S_ : Shape := ⟨0, ![]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpAXKernelIdeal.lean ====
abbrev S8192x1024 : Shape := ⟨2, ![8192, 1024]⟩
abbrev S4x1024x512 : Shape := ⟨3, ![4, 1024, 512]⟩
abbrev S8192x2048 : Shape := ⟨2, ![8192, 2048]⟩
abbrev S_ : Shape := ⟨0, ![]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpAXReferenceIdeal.lean ====
abbrev S8192x1024 : Shape := ⟨2, ![8192, 1024]⟩
abbrev S4x1024x512 : Shape := ⟨3, ![4, 1024, 512]⟩
abbrev S8192x2048 : Shape := ⟨2, ![8192, 2048]⟩
abbrev S_ : Shape := ⟨0, ![]⟩
abbrev S1x1024x512 : Shape := ⟨3, ![1, 1024, 512]⟩
abbrev S1024x512 : Shape := ⟨2, ![1024, 512]⟩
abbrev S1024x2048 : Shape := ⟨2, ![1024, 2048]⟩
abbrev S2048x1024 : Shape := ⟨2, ![2048, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S4x1024x512, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x1024x512, .f32⟩
  | .hbm, ⟨15, _⟩ => ⟨S1024x512, .f32⟩
  | .hbm, ⟨16, _⟩ => ⟨S1x1024x512, .f32⟩
  | .hbm, ⟨17, _⟩ => ⟨S1024x512, .f32⟩
  | .hbm, ⟨18, _⟩ => ⟨S1x1024x512, .f32⟩
  | .hbm, ⟨19, _⟩ => ⟨S1024x512, .f32⟩
  | .hbm, ⟨20, _⟩ => ⟨S1x1024x512, .f32⟩
  | .hbm, ⟨21, _⟩ => ⟨S1024x512, .f32⟩
  | .hbm, ⟨22, _⟩ => ⟨S1024x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x1024, .f32⟩
  | .hbm, ⟨27, _⟩ => ⟨S1024x2048, .f32⟩
  | .hbm, ⟨28, _⟩ => ⟨S8192x1024, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1x1024x512, .f32⟩
  | .hbm, ⟨34, _⟩ => ⟨S_, .f32⟩
  | .hbm, ⟨35, _⟩ => ⟨S4x1024x512, .f32⟩
  | .hbm, ⟨36, _⟩ => ⟨S1x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S1x1024x512, .f32⟩
  | .hbm, ⟨41, _⟩ => ⟨S_, .f32⟩
  | .hbm, ⟨42, _⟩ => ⟨S4x1024x512, .f32⟩
  | .hbm, ⟨43, _⟩ => ⟨S4x1024x512, .f32⟩
  | .hbm, ⟨44, _⟩ => ⟨S1x1024x512, .f32⟩
  | .hbm, ⟨45, _⟩ => ⟨S_, .f32⟩
  | .hbm, ⟨46, _⟩ => ⟨S4x1024x512, .f32⟩
  | .hbm, ⟨47, _⟩ => ⟨S4x1024x512, .f32⟩
  | .hbm, ⟨48, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== UpAWKernel.lean ====
abbrev S8192x1024 : Shape := ⟨2, ![8192, 1024]⟩
abbrev S4x1024x512 : Shape := ⟨3, ![4, 1024, 512]⟩
abbrev S8192x2048 : Shape := ⟨2, ![8192, 2048]⟩
abbrev S_ : Shape := ⟨0, ![]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpAWKernelIdeal.lean ====
abbrev S8192x1024 : Shape := ⟨2, ![8192, 1024]⟩
abbrev S4x1024x512 : Shape := ⟨3, ![4, 1024, 512]⟩
abbrev S8192x2048 : Shape := ⟨2, ![8192, 2048]⟩
abbrev S_ : Shape := ⟨0, ![]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpAWReferenceIdeal.lean ====
abbrev S8192x1024 : Shape := ⟨2, ![8192, 1024]⟩
abbrev S4x1024x512 : Shape := ⟨3, ![4, 1024, 512]⟩
abbrev S8192x2048 : Shape := ⟨2, ![8192, 2048]⟩
abbrev S_ : Shape := ⟨0, ![]⟩
abbrev S1x1024x512 : Shape := ⟨3, ![1, 1024, 512]⟩
abbrev S1024x512 : Shape := ⟨2, ![1024, 512]⟩
abbrev S1024x2048 : Shape := ⟨2, ![1024, 2048]⟩
abbrev S2048x1024 : Shape := ⟨2, ![2048, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x512, .bf16⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S4x1024x512, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x1024x512, .f32⟩
  | .hbm, ⟨15, _⟩ => ⟨S1024x512, .f32⟩
  | .hbm, ⟨16, _⟩ => ⟨S1x1024x512, .f32⟩
  | .hbm, ⟨17, _⟩ => ⟨S1024x512, .f32⟩
  | .hbm, ⟨18, _⟩ => ⟨S1x1024x512, .f32⟩
  | .hbm, ⟨19, _⟩ => ⟨S1024x512, .f32⟩
  | .hbm, ⟨20, _⟩ => ⟨S1x1024x512, .f32⟩
  | .hbm, ⟨21, _⟩ => ⟨S1024x512, .f32⟩
  | .hbm, ⟨22, _⟩ => ⟨S1024x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x1024, .f32⟩
  | .hbm, ⟨27, _⟩ => ⟨S1024x2048, .f32⟩
  | .hbm, ⟨28, _⟩ => ⟨S8192x1024, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1x1024x512, .f32⟩
  | .hbm, ⟨34, _⟩ => ⟨S_, .f32⟩
  | .hbm, ⟨35, _⟩ => ⟨S4x1024x512, .f32⟩
  | .hbm, ⟨36, _⟩ => ⟨S1x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S1x1024x512, .f32⟩
  | .hbm, ⟨41, _⟩ => ⟨S_, .f32⟩
  | .hbm, ⟨42, _⟩ => ⟨S4x1024x512, .f32⟩
  | .hbm, ⟨43, _⟩ => ⟨S4x1024x512, .f32⟩
  | .hbm, ⟨44, _⟩ => ⟨S1x1024x512, .f32⟩
  | .hbm, ⟨45, _⟩ => ⟨S_, .f32⟩
  | .hbm, ⟨46, _⟩ => ⟨S4x1024x512, .f32⟩
  | .hbm, ⟨47, _⟩ => ⟨S4x1024x512, .f32⟩
  | .hbm, ⟨48, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== UpBXKernel.lean ====
abbrev S8192x512 : Shape := ⟨2, ![8192, 512]⟩
abbrev S4x512x512 : Shape := ⟨3, ![4, 512, 512]⟩
abbrev S8192x2048 : Shape := ⟨2, ![8192, 2048]⟩
abbrev S_ : Shape := ⟨0, ![]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 15
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S4x512x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBXReferenceIdeal.lean ====
abbrev S8192x512 : Shape := ⟨2, ![8192, 512]⟩
abbrev S4x512x512 : Shape := ⟨3, ![4, 512, 512]⟩
abbrev S8192x2048 : Shape := ⟨2, ![8192, 2048]⟩
abbrev S_ : Shape := ⟨0, ![]⟩
abbrev S1x512x512 : Shape := ⟨3, ![1, 512, 512]⟩
abbrev S512x512 : Shape := ⟨2, ![512, 512]⟩
abbrev S512x2048 : Shape := ⟨2, ![512, 2048]⟩
abbrev S2048x512 : Shape := ⟨2, ![2048, 512]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x512, .bf16⟩
  | .hbm, ⟨2, _⟩ => ⟨S8192x2048, .f32⟩
  | .hbm, ⟨3, _⟩ => ⟨S8192x2048, .f32⟩
  | .hbm, ⟨4, _⟩ => ⟨S8192x512, .f32⟩
  | .hbm, ⟨5, _⟩ => ⟨S4x512x512, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x512x512, .f32⟩
  | .hbm, ⟨15, _⟩ => ⟨S512x512, .f32⟩
  | .hbm, ⟨16, _⟩ => ⟨S1x512x512, .f32⟩
  | .hbm, ⟨17, _⟩ => ⟨S512x512, .f32⟩
  | .hbm, ⟨18, _⟩ => ⟨S1x512x512, .f32⟩
  | .hbm, ⟨19, _⟩ => ⟨S512x512, .f32⟩
  | .hbm, ⟨20, _⟩ => ⟨S1x512x512, .f32⟩
  | .hbm, ⟨21, _⟩ => ⟨S512x512, .f32⟩
  | .hbm, ⟨22, _⟩ => ⟨S512x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x512, .f32⟩
  | .hbm, ⟨27, _⟩ => ⟨S512x2048, .f32⟩
  | .hbm, ⟨28, _⟩ => ⟨S8192x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S1x512x512, .f32⟩
  | .hbm, ⟨34, _⟩ => ⟨S_, .f32⟩
  | .hbm, ⟨35, _⟩ => ⟨S4x512x512, .f32⟩
  | .hbm, ⟨36, _⟩ => ⟨S1x512x512, .f32⟩
  | .hbm, ⟨37, _⟩ => ⟨S_, .f32⟩
  | .hbm, ⟨38, _⟩ => ⟨S4x512x512, .f32⟩
  | .hbm, ⟨39, _⟩ => ⟨S4x512x512, .f32⟩
  | .hbm, ⟨40, _⟩ => ⟨S1x512x512, .f32⟩
  | .hbm, ⟨41, _⟩ => ⟨S_, .f32⟩
  | .hbm, ⟨42, _⟩ => ⟨S4x512x512, .f32⟩
  | .hbm, ⟨43, _⟩ => ⟨S4x512x512, .f32⟩
  | .hbm, ⟨44, _⟩ => ⟨S1x512x512, .f32⟩
  | .hbm, ⟨45, _⟩ => ⟨S_, .f32⟩
  | .hbm, ⟨46, _⟩ => ⟨S4x512x512, .f32⟩
  | .hbm, ⟨47, _⟩ => ⟨S4x512x512, .f32⟩
  | .hbm, ⟨48, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== UpBWKernel.lean ====
abbrev S8192x512 : Shape := ⟨2, ![8192, 512]⟩
abbrev S4x512x512 : Shape := ⟨3, ![4, 512, 512]⟩
abbrev S8192x2048 : Shape := ⟨2, ![8192, 2048]⟩
abbrev S_ : Shape := ⟨0, ![]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 15
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S4x512x512, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBWReferenceIdeal.lean ====
abbrev S8192x512 : Shape := ⟨2, ![8192, 512]⟩
abbrev S4x512x512 : Shape := ⟨3, ![4, 512, 512]⟩
abbrev S8192x2048 : Shape := ⟨2, ![8192, 2048]⟩
abbrev S_ : Shape := ⟨0, ![]⟩
abbrev S1x512x512 : Shape := ⟨3, ![1, 512, 512]⟩
abbrev S512x512 : Shape := ⟨2, ![512, 512]⟩
abbrev S512x2048 : Shape := ⟨2, ![512, 2048]⟩
abbrev S2048x512 : Shape := ⟨2, ![2048, 512]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x512, .bf16⟩
  | .hbm, ⟨2, _⟩ => ⟨S8192x2048, .f32⟩
  | .hbm, ⟨3, _⟩ => ⟨S8192x2048, .f32⟩
  | .hbm, ⟨4, _⟩ => ⟨S8192x512, .f32⟩
  | .hbm, ⟨5, _⟩ => ⟨S4x512x512, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x512x512, .f32⟩
  | .hbm, ⟨15, _⟩ => ⟨S512x512, .f32⟩
  | .hbm, ⟨16, _⟩ => ⟨S1x512x512, .f32⟩
  | .hbm, ⟨17, _⟩ => ⟨S512x512, .f32⟩
  | .hbm, ⟨18, _⟩ => ⟨S1x512x512, .f32⟩
  | .hbm, ⟨19, _⟩ => ⟨S512x512, .f32⟩
  | .hbm, ⟨20, _⟩ => ⟨S1x512x512, .f32⟩
  | .hbm, ⟨21, _⟩ => ⟨S512x512, .f32⟩
  | .hbm, ⟨22, _⟩ => ⟨S512x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x512, .f32⟩
  | .hbm, ⟨27, _⟩ => ⟨S512x2048, .f32⟩
  | .hbm, ⟨28, _⟩ => ⟨S8192x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S1x512x512, .f32⟩
  | .hbm, ⟨34, _⟩ => ⟨S_, .f32⟩
  | .hbm, ⟨35, _⟩ => ⟨S4x512x512, .f32⟩
  | .hbm, ⟨36, _⟩ => ⟨S1x512x512, .f32⟩
  | .hbm, ⟨37, _⟩ => ⟨S_, .f32⟩
  | .hbm, ⟨38, _⟩ => ⟨S4x512x512, .f32⟩
  | .hbm, ⟨39, _⟩ => ⟨S4x512x512, .f32⟩
  | .hbm, ⟨40, _⟩ => ⟨S1x512x512, .f32⟩
  | .hbm, ⟨41, _⟩ => ⟨S_, .f32⟩
  | .hbm, ⟨42, _⟩ => ⟨S4x512x512, .f32⟩
  | .hbm, ⟨43, _⟩ => ⟨S4x512x512, .f32⟩
  | .hbm, ⟨44, _⟩ => ⟨S1x512x512, .f32⟩
  | .hbm, ⟨45, _⟩ => ⟨S_, .f32⟩
  | .hbm, ⟨46, _⟩ => ⟨S4x512x512, .f32⟩
  | .hbm, ⟨47, _⟩ => ⟨S4x512x512, .f32⟩
  | .hbm, ⟨48, _⟩ => ⟨S4x512x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== RmsFwdKernel.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsBwdKernel.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== LossKernel.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_20 : BitVec 32 := 0#32
  let v46 : BitVec 1 := Scalar.cmpi .ne v45 c0_i32_20
  v46

def k0_cond2 (i : grid0.Coords) : BitVec 1 :=
  let arg0 : BitVec 32 := BitVec.ofNat 32 (i 0).val
  let c0_i32_21 : BitVec 32 := 0#32
  let v47 : BitVec 1 := Scalar.cmpi .sgt arg0 c0_i32_21
  let v48 : BitVec 32 := Scalar.extui v47
  let c0_i32_22 : BitVec 32 := 0#32
  let v49 : BitVec 1 := Scalar.cmpi .ne v48 c0_i32_22
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== AdwVecKernel.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwVecKernelIdeal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwVecReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdwInKernel.lean ====
abbrev S1x2048x2498 : Shape := ⟨3, ![1, 2048, 2498]⟩
abbrev S2048x2498 : Shape := ⟨2, ![2048, 2498]⟩
abbrev S1x2498x2048 : Shape := ⟨3, ![1, 2498, 2048]⟩
abbrev S2498x2048 : Shape := ⟨2, ![2498, 2048]⟩
abbrev S1x2498x256 : Shape := ⟨3, ![1, 2498, 256]⟩
abbrev S2498x256 : Shape := ⟨2, ![2498, 256]⟩

abbrev nBuf : Space → Nat
  | .hbm => 12
  | .vmem => 16
  | .smem => 0
  | _ => 0

abbrev bufTy : (tb : Table) → Fin (tcTables nBuf tb) → BufTy
  | .hbm, ⟨0, _⟩ => ⟨S1x2048x2498, .f32⟩
  | .hbm, ⟨1, _⟩ => ⟨S2048x2498, .f32⟩
  | .hbm, ⟨2, _⟩ => ⟨S1x2048x2498, .f32⟩
  | .hbm, ⟨3, _⟩ => ⟨S1x2048x2498, .f32⟩
  | .hbm, ⟨4, _⟩ => ⟨S1x2498x2048, .f32⟩
  | .hbm, ⟨5, _⟩ => ⟨S2498x2048, .f32⟩
  | .hbm, ⟨6, _⟩ => ⟨S1x2498x2048, .f32⟩
  | .hbm, ⟨7, _⟩ => ⟨S1x2498x2048, .f32⟩
  | .hbm, ⟨8, _⟩ => ⟨S1x2498x2048, .f32⟩
  | .hbm, ⟨9, _⟩ => ⟨S1x2498x2048, .f32⟩
  | .hbm, ⟨10, _⟩ => ⟨S1x2498x2048, .f32⟩
  | .hbm, ⟨11, _⟩ => ⟨S1x2498x2048, .f32⟩
  | .local _ .vmem, ⟨0, _⟩ => ⟨S1x2498x256, .f32⟩
  | .local _ .vmem, ⟨1, _⟩ => ⟨S1x2498x256, .f32⟩
  | .local _ .vmem, ⟨2, _⟩ => ⟨S2498x256, .f32⟩
  | .local _ .vmem, ⟨3, _⟩ => ⟨S2498x256, .f32⟩
  | .local _ .vmem, ⟨4, _⟩ => ⟨S1x2498x256, .f32⟩
  | .local _ .vmem, ⟨5, _⟩ => ⟨S1x2498x256, .f32⟩
  | .local _ .vmem, ⟨6, _⟩ => ⟨S1x2498x256, .f32⟩
  | .local _ .vmem, ⟨7, _⟩ => ⟨S1x2498x256, .f32⟩
  | .local _ .vmem, ⟨8, _⟩ => ⟨S1x2498x256, .f32⟩
  | .local _ .vmem, ⟨9, _⟩ => ⟨S1x2498x256, .f32⟩
  | .local _ .vmem, ⟨10, _⟩ => ⟨S1x2498x256, .f32⟩
  | .local _ .vmem, ⟨11, _⟩ => ⟨S1x2498x256, .f32⟩
  | .local _ .vmem, ⟨12, _⟩ => ⟨S1x2498x256, .f32⟩
  | .local _ .vmem, ⟨13, _⟩ => ⟨S1x2498x256, .f32⟩
  | .local _ .vmem, ⟨14, _⟩ => ⟨S1x2498x256, .f32⟩
  | .local _ .vmem, ⟨15, _⟩ => ⟨S1x2498x256, .f32⟩
  | _, _ => ⟨S1x2048x2498, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

abbrev stage0_0 : Fin 2 → Memref sig .tc .vmem S1x2498x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2498x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2498x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2498x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2498x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2498x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2498x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2498x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwInReferenceIdeal.lean ====
abbrev S1x2048x2498 : Shape := ⟨3, ![1, 2048, 2498]⟩
abbrev S2048x2498 : Shape := ⟨2, ![2048, 2498]⟩
abbrev S_ : Shape := ⟨0, ![]⟩
abbrev S1x2498x2048 : Shape := ⟨3, ![1, 2498, 2048]⟩

abbrev nBuf : Space → Nat
  | .hbm => 42
  | .vmem => 0
  | .smem => 0
  | _ => 0

abbrev bufTy : (tb : Table) → Fin (tcTables nBuf tb) → BufTy
  | .hbm, ⟨0, _⟩ => ⟨S1x2048x2498, .f32⟩
  | .hbm, ⟨1, _⟩ => ⟨S2048x2498, .f32⟩
  | .hbm, ⟨2, _⟩ => ⟨S1x2048x2498, .f32⟩
  | .hbm, ⟨3, _⟩ => ⟨S1x2048x2498, .f32⟩
  | .hbm, ⟨4, _⟩ => ⟨S1x2048x2498, .f32⟩
  | .hbm, ⟨5, _⟩ => ⟨S_, .f32⟩
  | .hbm, ⟨6, _⟩ => ⟨S1x2048x2498, .f32⟩
  | .hbm, ⟨7, _⟩ => ⟨S1x2048x2498, .f32⟩
  | .hbm, ⟨8, _⟩ => ⟨S_, .f32⟩
  | .hbm, ⟨9, _⟩ => ⟨S1x2048x2498, .f32⟩
  | .hbm, ⟨10, _⟩ => ⟨S1x2048x2498, .f32⟩
  | .hbm, ⟨11, _⟩ => ⟨S1x2048x2498, .f32⟩
  | .hbm, ⟨12, _⟩ => ⟨S_, .f32⟩
  | .hbm, ⟨13, _⟩ => ⟨S1x2048x2498, .f32⟩
  | .hbm, ⟨14, _⟩ => ⟨S1x2048x2498, .f32⟩
  | .hbm, ⟨15, _⟩ => ⟨S1x2048x2498, .f32⟩
  | .hbm, ⟨16, _⟩ => ⟨S_, .f32⟩
  | .hbm, ⟨17, _⟩ => ⟨S1x2048x2498, .f32⟩
  | .hbm, ⟨18, _⟩ => ⟨S1x2048x2498, .f32⟩
  | .hbm, ⟨19, _⟩ => ⟨S1x2048x2498, .f32⟩
  | .hbm, ⟨20, _⟩ => ⟨S_, .f32⟩
  | .hbm, ⟨21, _⟩ => ⟨S1x2048x2498, .f32⟩
  | .hbm, ⟨22, _⟩ => ⟨S1x2048x2498, .f32⟩
  | .hbm, ⟨23, _⟩ => ⟨S_, .f32⟩
  | .hbm, ⟨24, _⟩ => ⟨S1x2048x2498, .f32⟩
  | .hbm, ⟨25, _⟩ => ⟨S1x2048x2498, .f32⟩
  | .hbm, ⟨26, _⟩ => ⟨S1x2048x2498, .f32⟩
  | .hbm, ⟨27, _⟩ => ⟨S_, .f32⟩
  | .hbm, ⟨28, _⟩ => ⟨S1x2048x2498, .f32⟩
  | .hbm, ⟨29, _⟩ => ⟨S1x2048x2498, .f32⟩
  | .hbm, ⟨30, _⟩ => ⟨S1x2048x2498, .f32⟩
  | .hbm, ⟨31, _⟩ => ⟨S_, .f32⟩
  | .hbm, ⟨32, _⟩ => ⟨S1x2048x2498, .f32⟩
  | .hbm, ⟨33, _⟩ => ⟨S1x2048x2498, .f32⟩
  | .hbm, ⟨34, _⟩ => ⟨S1x2048x2498, .f32⟩
  | .hbm, ⟨35, _⟩ => ⟨S_, .f32⟩
  | .hbm, ⟨36, _⟩ => ⟨S1x2048x2498, .f32⟩
  | .hbm, ⟨37, _⟩ => ⟨S1x2048x2498, .f32⟩
  | .hbm, ⟨38, _⟩ => ⟨S1x2498x2048, .f32⟩
  | .hbm, ⟨39, _⟩ => ⟨S1x2498x2048, .f32⟩
  | .hbm, ⟨40, _⟩ => ⟨S1x2498x2048, .f32⟩
  | .hbm, ⟨41, _⟩ => ⟨S1x2498x2048, .f32⟩
  | _, _ => ⟨S1x2048x2498, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdwSinksKernel.lean ====
abbrev S1x16 : Shape := ⟨2, ![1, 16]⟩

abbrev nBuf : Space → Nat
  | .hbm => 8
  | .vmem => 8
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwSinksKernelIdeal.lean ====
abbrev S1x16 : Shape := ⟨2, ![1, 16]⟩

abbrev nBuf : Space → Nat
  | .hbm => 8
  | .vmem => 8
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwSinksReferenceIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdwConvKernel.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwConvKernelIdeal.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwConvReferenceIdeal.lean ====
abbrev S1x4x384 : Shape := ⟨3, ![1, 4, 384]⟩
abbrev S4x384 : Shape := ⟨2, ![4, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S_, .f32⟩
  | .hbm, ⟨6, _⟩ => ⟨S1x4x384, .f32⟩
  | .hbm, ⟨7, _⟩ => ⟨S1x4x384, .f32⟩
  | .hbm, ⟨8, _⟩ => ⟨S_, .f32⟩
  | .hbm, ⟨9, _⟩ => ⟨S1x4x384, .f32⟩
  | .hbm, ⟨10, _⟩ => ⟨S1x4x384, .f32⟩
  | .hbm, ⟨11, _⟩ => ⟨S1x4x384, .f32⟩
  | .hbm, ⟨12, _⟩ => ⟨S_, .f32⟩
  | .hbm, ⟨13, _⟩ => ⟨S1x4x384, .f32⟩
  | .hbm, ⟨14, _⟩ => ⟨S1x4x384, .f32⟩
  | .hbm, ⟨15, _⟩ => ⟨S1x4x384, .f32⟩
  | .hbm, ⟨16, _⟩ => ⟨S_, .f32⟩
  | .hbm, ⟨17, _⟩ => ⟨S1x4x384, .f32⟩
  | .hbm, ⟨18, _⟩ => ⟨S1x4x384, .f32⟩
  | .hbm, ⟨19, _⟩ => ⟨S1x4x384, .f32⟩
  | .hbm, ⟨20, _⟩ => ⟨S_, .f32⟩
  | .hbm, ⟨21, _⟩ => ⟨S1x4x384, .f32⟩
  | .hbm, ⟨22, _⟩ => ⟨S1x4x384, .f32⟩
  | .hbm, ⟨23, _⟩ => ⟨S_, .f32⟩
  | .hbm, ⟨24, _⟩ => ⟨S1x4x384, .f32⟩
  | .hbm, ⟨25, _⟩ => ⟨S1x4x384, .f32⟩
  | .hbm, ⟨26, _⟩ => ⟨S1x4x384, .f32⟩
  | .hbm, ⟨27, _⟩ => ⟨S_, .f32⟩
  | .hbm, ⟨28, _⟩ => ⟨S1x4x384, .f32⟩
  | .hbm, ⟨29, _⟩ => ⟨S1x4x384, .f32⟩
  | .hbm, ⟨30, _⟩ => ⟨S1x4x384, .f32⟩
  | .hbm, ⟨31, _⟩ => ⟨S_, .f32⟩
  | .hbm, ⟨32, _⟩ => ⟨S1x4x384, .f32⟩
  | .hbm, ⟨33, _⟩ => ⟨S1x4x384, .f32⟩
  | .hbm, ⟨34, _⟩ => ⟨S1x4x384, .f32⟩
  | .hbm, ⟨35, _⟩ => ⟨S_, .f32⟩
  | .hbm, ⟨36, _⟩ => ⟨S1x4x384, .f32⟩
  | .hbm, ⟨37, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdwHeadsKernel.lean ====
abbrev S1x4 : Shape := ⟨2, ![1, 4]⟩

abbrev nBuf : Space → Nat
  | .hbm => 8
  | .vmem => 8
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .hbm, ⟨7, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | .local _ .vmem, ⟨7, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwHeadsKernelIdeal.lean ====
abbrev S1x4 : Shape := ⟨2, ![1, 4]⟩

abbrev nBuf : Space → Nat
  | .hbm => 8
  | .vmem => 8
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .hbm, ⟨7, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | .local _ .vmem, ⟨7, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwHeadsReferenceIdeal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdwNormKernel.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwNormKernelIdeal.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_4 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_5 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_6 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdwNormReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdwMemKernel.lean ====
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwMemKernelIdeal.lean ====
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwMemReferenceIdeal.lean ====
abbrev S1x512x1024 : Shape := ⟨3, ![1, 512, 1024]⟩
abbrev S512x1024 : Shape := ⟨2, ![512, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S_, .f32⟩
  | .hbm, ⟨6, _⟩ => ⟨S1x512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S_, .f32⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S_, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S1x512x1024, .f32⟩
  | .hbm, ⟨35, _⟩ => ⟨S_, .f32⟩
  | .hbm, ⟨36, _⟩ => ⟨S1x512x1024, .f32⟩
  | .hbm, ⟨37, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdwSwaUpKernel.lean ====
abbrev S1x1024x512 : Shape := ⟨3, ![1, 1024, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwSwaUpKernelIdeal.lean ====
abbrev S1x1024x512 : Shape := ⟨3, ![1, 1024, 512]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwSwaUpReferenceIdeal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S_, .f32⟩
  | .hbm, ⟨6, _⟩ => ⟨S1x1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S_, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S_, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S_, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S_, .f32⟩
  | .hbm, ⟨28, _⟩ => ⟨S1x1024x512, .f32⟩
  | .hbm, ⟨29, _⟩ => ⟨S1x1024x512, .f32⟩
  | .hbm, ⟨30, _⟩ => ⟨S1x1024x512, .f32⟩
  | .hbm, ⟨31, _⟩ => ⟨S_, .f32⟩
  | .hbm, ⟨32, _⟩ => ⟨S1x1024x512, .f32⟩
  | .hbm, ⟨33, _⟩ => ⟨S1x1024x512, .f32⟩
  | .hbm, ⟨34, _⟩ => ⟨S1x1024x512, .f32⟩
  | .hbm, ⟨35, _⟩ => ⟨S_, .f32⟩
  | .hbm, ⟨36, _⟩ => ⟨S1x1024x512, .f32⟩
  | .hbm, ⟨37, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdwUpKernel.lean ====
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S1x512x512, .f32⟩
  | .hbm, ⟨3, _⟩ => ⟨S1x512x512, .f32⟩
  | .hbm, ⟨4, _⟩ => ⟨S1x512x512, .f32⟩
  | .hbm, ⟨5, _⟩ => ⟨S1x512x512, .f32⟩
  | .hbm, ⟨6, _⟩ => ⟨S1x512x512, .f32⟩
  | .hbm, ⟨7, _⟩ => ⟨S1x512x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwUpKernelIdeal.lean ====
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S1x512x512, .f32⟩
  | .hbm, ⟨3, _⟩ => ⟨S1x512x512, .f32⟩
  | .hbm, ⟨4, _⟩ => ⟨S1x512x512, .f32⟩
  | .hbm, ⟨5, _⟩ => ⟨S1x512x512, .f32⟩
  | .hbm, ⟨6, _⟩ => ⟨S1x512x512, .f32⟩
  | .hbm, ⟨7, _⟩ => ⟨S1x512x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwUpReferenceIdeal.lean ====
abbrev S1x512x512 : Shape := ⟨3, ![1, 512, 512]⟩
abbrev S512x512 : Shape := ⟨2, ![512, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S1x512x512, .f32⟩
  | .hbm, ⟨3, _⟩ => ⟨S1x512x512, .f32⟩
  | .hbm, ⟨4, _⟩ => ⟨S1x512x512, .f32⟩
  | .hbm, ⟨5, _⟩ => ⟨S_, .f32⟩
  | .hbm, ⟨6, _⟩ => ⟨S1x512x512, .f32⟩
  | .hbm, ⟨7, _⟩ => ⟨S1x512x512, .f32⟩
  | .hbm, ⟨8, _⟩ => ⟨S_, .f32⟩
  | .hbm, ⟨9, _⟩ => ⟨S1x512x512, .f32⟩
  | .hbm, ⟨10, _⟩ => ⟨S1x512x512, .f32⟩
  | .hbm, ⟨11, _⟩ => ⟨S1x512x512, .f32⟩
  | .hbm, ⟨12, _⟩ => ⟨S_, .f32⟩
  | .hbm, ⟨13, _⟩ => ⟨S1x512x512, .f32⟩
  | .hbm, ⟨14, _⟩ => ⟨S1x512x512, .f32⟩
  | .hbm, ⟨15, _⟩ => ⟨S1x512x512, .f32⟩
  | .hbm, ⟨16, _⟩ => ⟨S_, .f32⟩
  | .hbm, ⟨17, _⟩ => ⟨S1x512x512, .f32⟩
  | .hbm, ⟨18, _⟩ => ⟨S1x512x512, .f32⟩
  | .hbm, ⟨19, _⟩ => ⟨S1x512x512, .f32⟩
  | .hbm, ⟨20, _⟩ => ⟨S_, .f32⟩
  | .hbm, ⟨21, _⟩ => ⟨S1x512x512, .f32⟩
  | .hbm, ⟨22, _⟩ => ⟨S1x512x512, .f32⟩
  | .hbm, ⟨23, _⟩ => ⟨S_, .f32⟩
  | .hbm, ⟨24, _⟩ => ⟨S1x512x512, .f32⟩
  | .hbm, ⟨25, _⟩ => ⟨S1x512x512, .f32⟩
  | .hbm, ⟨26, _⟩ => ⟨S1x512x512, .f32⟩
  | .hbm, ⟨27, _⟩ => ⟨S_, .f32⟩
  | .hbm, ⟨28, _⟩ => ⟨S1x512x512, .f32⟩
  | .hbm, ⟨29, _⟩ => ⟨S1x512x512, .f32⟩
  | .hbm, ⟨30, _⟩ => ⟨S1x512x512, .f32⟩
  | .hbm, ⟨31, _⟩ => ⟨S_, .f32⟩
  | .hbm, ⟨32, _⟩ => ⟨S1x512x512, .f32⟩
  | .hbm, ⟨33, _⟩ => ⟨S1x512x512, .f32⟩
  | .hbm, ⟨34, _⟩ => ⟨S1x512x512, .f32⟩
  | .hbm, ⟨35, _⟩ => ⟨S_, .f32⟩
  | .hbm, ⟨36, _⟩ => ⟨S1x512x512, .f32⟩
  | .hbm, ⟨37, _⟩ => ⟨S1x512x512, .f32⟩
  | _, _ => ⟨S1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdwOutKernel.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwOutKernelIdeal.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwOutReferenceIdeal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S_, .f32⟩
  | .hbm, ⟨6, _⟩ => ⟨S1x512x2048, .f32⟩
  | .hbm, ⟨7, _⟩ => ⟨S1x512x2048, .f32⟩
  | .hbm, ⟨8, _⟩ => ⟨S_, .f32⟩
  | .hbm, ⟨9, _⟩ => ⟨S1x512x2048, .f32⟩
  | .hbm, ⟨10, _⟩ => ⟨S1x512x2048, .f32⟩
  | .hbm, ⟨11, _⟩ => ⟨S1x512x2048, .f32⟩
  | .hbm, ⟨12, _⟩ => ⟨S_, .f32⟩
  | .hbm, ⟨13, _⟩ => ⟨S1x512x2048, .f32⟩
  | .hbm, ⟨14, _⟩ => ⟨S1x512x2048, .f32⟩
  | .hbm, ⟨15, _⟩ => ⟨S1x512x2048, .f32⟩
  | .hbm, ⟨16, _⟩ => ⟨S_, .f32⟩
  | .hbm, ⟨17, _⟩ => ⟨S1x512x2048, .f32⟩
  | .hbm, ⟨18, _⟩ => ⟨S1x512x2048, .f32⟩
  | .hbm, ⟨19, _⟩ => ⟨S1x512x2048, .f32⟩
  | .hbm, ⟨20, _⟩ => ⟨S_, .f32⟩
  | .hbm, ⟨21, _⟩ => ⟨S1x512x2048, .f32⟩
  | .hbm, ⟨22, _⟩ => ⟨S1x512x2048, .f32⟩
  | .hbm, ⟨23, _⟩ => ⟨S_, .f32⟩
  | .hbm, ⟨24, _⟩ => ⟨S1x512x2048, .f32⟩
  | .hbm, ⟨25, _⟩ => ⟨S1x512x2048, .f32⟩
  | .hbm, ⟨26, _⟩ => ⟨S1x512x2048, .f32⟩
  | .hbm, ⟨27, _⟩ => ⟨S_, .f32⟩
  | .hbm, ⟨28, _⟩ => ⟨S1x512x2048, .f32⟩
  | .hbm, ⟨29, _⟩ => ⟨S1x512x2048, .f32⟩
  | .hbm, ⟨30, _⟩ => ⟨S1x512x2048, .f32⟩
  | .hbm, ⟨31, _⟩ => ⟨S_, .f32⟩
  | .hbm, ⟨32, _⟩ => ⟨S1x512x2048, .f32⟩
  | .hbm, ⟨33, _⟩ => ⟨S1x512x2048, .f32⟩
  | .hbm, ⟨34, _⟩ => ⟨S1x512x2048, .f32⟩
  | .hbm, ⟨35, _⟩ => ⟨S_, .f32⟩
  | .hbm, ⟨36, _⟩ => ⟨S1x512x2048, .f32⟩
  | .hbm, ⟨37, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdwMlpKernel.lean ====
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, v26.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdwMlpReferenceIdeal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S_, .f32⟩
  | .hbm, ⟨6, _⟩ => ⟨S1x2048x2048, .f32⟩
  | .hbm, ⟨7, _⟩ => ⟨S1x2048x2048, .f32⟩
  | .hbm, ⟨8, _⟩ => ⟨S_, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S_, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048x2048, .f32⟩
  | .hbm, ⟨37, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== GdnPostFwdKernel.lean ====
abbrev S8192x512 : Shape := ⟨2, ![8192, 512]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x128, .f32⟩
  | .hbm, ⟨3, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnPostFwdReferenceIdeal.lean ====
abbrev S8192x512 : Shape := ⟨2, ![8192, 512]⟩
abbrev S1x128 : Shape := ⟨2, ![1, 128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x128, .f32⟩
  | .hbm, ⟨3, _⟩ => ⟨S8192x4x128, .f32⟩
  | .hbm, ⟨4, _⟩ => ⟨S8192x4x128, .f32⟩
  | .hbm, ⟨5, _⟩ => ⟨S8192x4x128, .f32⟩
  | .hbm, ⟨6, _⟩ => ⟨S_, .f32⟩
  | .hbm, ⟨7, _⟩ => ⟨S8192x4, .f32⟩
  | .hbm, ⟨8, _⟩ => ⟨S8192x4x1, .f32⟩
  | .hbm, ⟨9, _⟩ => ⟨S_, .f32⟩
  | .hbm, ⟨10, _⟩ => ⟨S8192x4x1, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S8192x4x1, .f32⟩
  | .hbm, ⟨16, _⟩ => ⟨S8192x4x128, .f32⟩
  | .hbm, ⟨17, _⟩ => ⟨S8192x4x128, .f32⟩
  | .hbm, ⟨18, _⟩ => ⟨S1x1x128, .f32⟩
  | .hbm, ⟨19, _⟩ => ⟨S8192x4x128, .f32⟩
  | .hbm, ⟨20, _⟩ => ⟨S8192x4x128, .f32⟩
  | .hbm, ⟨21, _⟩ => ⟨S8192x4x128, .f32⟩
  | .hbm, ⟨22, _⟩ => ⟨S8192x4x128, .f32⟩
  | .hbm, ⟨23, _⟩ => ⟨S_, .f32⟩
  | .hbm, ⟨24, _⟩ => ⟨S8192x4x128, .f32⟩
  | .hbm, ⟨25, _⟩ => ⟨S8192x4x128, .f32⟩
  | .hbm, ⟨26, _⟩ => ⟨S_, .f32⟩
  | .hbm, ⟨27, _⟩ => ⟨S8192x4x128, .f32⟩
  | .hbm, ⟨28, _⟩ => ⟨S8192x4x128, .f32⟩
  | .hbm, ⟨29, _⟩ => ⟨S8192x4x128, .f32⟩
  | .hbm, ⟨30, _⟩ => ⟨S8192x4x128, .f32⟩
  | .hbm, ⟨31, _⟩ => ⟨S8192x512, .f32⟩
  | .hbm, ⟨32, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== MemKvKernel.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvReferenceIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | .hbm, ⟨5, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemXKernel.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemXReferenceIdeal.lean ====
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemWKernel.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemWReferenceIdeal.lean ====
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S256x2048, .f32⟩
  | .hbm, ⟨9, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== XaFwdKernel.lean ====
abbrev S8192x512 : Shape := ⟨2, ![8192, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XaFwdReferenceIdeal.lean ====
abbrev S8192x512 : Shape := ⟨2, ![8192, 512]⟩
abbrev S256x1024 : Shape := ⟨2, ![256, 1024]⟩
abbrev S1x8192x512 : Shape := ⟨3, ![1, 8192, 512]⟩
abbrev S1x256x1024 : Shape := ⟨3, ![1, 256, 1024]⟩
abbrev S1x8192x4x128 : Shape := ⟨4, ![1, 8192, 4, 128]⟩
abbrev S1x256x512 : Shape := ⟨3, ![1, 256, 512]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x1024, .bf16⟩
  | .hbm, ⟨2, _⟩ => ⟨S8192x512, .f32⟩
  | .hbm, ⟨3, _⟩ => ⟨S1x8192x512, .f32⟩
  | .hbm, ⟨4, _⟩ => ⟨S256x1024, .f32⟩
  | .hbm, ⟨5, _⟩ => ⟨S1x256x1024, .f32⟩
  | .hbm, ⟨6, _⟩ => ⟨S1x8192x4x128, .f32⟩
  | .hbm, ⟨7, _⟩ => ⟨S1x256x512, .f32⟩
  | .hbm, ⟨8, _⟩ => ⟨S1x256x512, .f32⟩
  | .hbm, ⟨9, _⟩ => ⟨S1x256x4x128, .f32⟩
  | .hbm, ⟨10, _⟩ => ⟨S1x256x4x128, .f32⟩
  | .hbm, ⟨11, _⟩ => ⟨S1x4x8192x256, .f32⟩
  | .hbm, ⟨12, _⟩ => ⟨S_, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S_, .f32⟩
  | .hbm, ⟨18, _⟩ => ⟨S1x4x8192, .f32⟩
  | .hbm, ⟨19, _⟩ => ⟨S1x4x8192, .f32⟩
  | .hbm, ⟨20, _⟩ => ⟨S1x4x8192x1, .f32⟩
  | .hbm, ⟨21, _⟩ => ⟨S1x4x8192x256, .f32⟩
  | .hbm, ⟨22, _⟩ => ⟨S1x4x8192x256, .f32⟩
  | .hbm, ⟨23, _⟩ => ⟨S1x4x8192x256, .f32⟩
  | .hbm, ⟨24, _⟩ => ⟨S_, .f32⟩
  | .hbm, ⟨25, _⟩ => ⟨S1x4x8192, .f32⟩
  | .hbm, ⟨26, _⟩ => ⟨S1x4x8192x1, .f32⟩
  | .hbm, ⟨27, _⟩ => ⟨S1x4x8192x256, .f32⟩
  | .hbm, ⟨28, _⟩ => ⟨S1x4x8192x256, .f32⟩
  | .hbm, ⟨29, _⟩ => ⟨S1x4x128x8192, .f32⟩
  | .hbm, ⟨30, _⟩ => ⟨S1x8192x4x128, .f32⟩
  | .hbm, ⟨31, _⟩ => ⟨S1x8192x512, .f32⟩
  | .hbm, ⟨32, _⟩ => ⟨S8192x512, .f32⟩
  | .hbm, ⟨33, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== SwaFwdKernel.lean ====
abbrev S8192x1024 : Shape := ⟨2, ![8192, 1024]⟩
abbrev S8192x256 : Shape := ⟨2, ![8192, 256]⟩
abbrev S1x16 : Shape := ⟨2, ![1, 16]⟩
abbrev S8192x16 : Shape := ⟨2, ![8192, 16]⟩
abbrev S128x1024 : Shape := ⟨2, ![128, 1024]⟩
abbrev S128x256 : Shape := ⟨2, ![128, 256]⟩
abbrev S128x16 : Shape := ⟨2, ![128, 16]⟩
abbrev S1024x256 : Shape := ⟨2, ![1024, 256]⟩
abbrev S256x256 : Shape := ⟨2, ![256, 256]⟩
abbrev S1x1 : Shape := ⟨2, ![1, 1]⟩
abbrev S128x1 : Shape := ⟨2, ![128, 1]⟩
abbrev S1024x1 : Shape := ⟨2, ![1024, 1]⟩
abbrev S128x64 : Shape := ⟨2, ![128, 64]⟩
abbrev S1024x64 : Shape := ⟨2, ![1024, 64]⟩
abbrev S256x64 : Shape := ⟨2, ![256, 64]⟩
abbrev S1024 : Shape := ⟨1, ![1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1x16, .f32⟩
  | .hbm, ⟨3, _⟩ => ⟨S8192x1024, .bf16⟩
  | .hbm, ⟨4, _⟩ => ⟨S8192x16, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S1x16, .f32⟩
  | .local _ .vmem, ⟨7, _⟩ => ⟨S128x1024, .bf16⟩
  | .local _ .vmem, ⟨8, _⟩ => ⟨S128x1024, .bf16⟩
  | .local _ .vmem, ⟨9, _⟩ => ⟨S128x16, .f32⟩
  | .local _ .vmem, ⟨10, _⟩ => ⟨S128x16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SwaFwdReferenceIdeal.lean ====
abbrev S8192x1024 : Shape := ⟨2, ![8192, 1024]⟩
abbrev S8192x256 : Shape := ⟨2, ![8192, 256]⟩
abbrev S1x16 : Shape := ⟨2, ![1, 16]⟩
abbrev S1x8192x16x64 : Shape := ⟨4, ![1, 8192, 16, 64]⟩
abbrev S8192x128 : Shape := ⟨2, ![8192, 128]⟩
abbrev S1x8192x2x64 : Shape := ⟨4, ![1, 8192, 2, 64]⟩
abbrev S16 : Shape := ⟨1, ![16]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S_ : Shape := ⟨0, ![]⟩
abbrev S1x63x128x2x64 : Shape := ⟨5, ![1, 63, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S2x8 : Shape := ⟨2, ![2, 8]⟩
abbrev S1x1x2x8x1x1 : Shape := ⟨6, ![1, 1, 2, 8, 1, 1]⟩
abbrev S1x64x2x8x128 : Shape := ⟨5, ![1, 64, 2, 8, 128]⟩
abbrev S1x64x2x8x128x1 : Shape := ⟨6, ![1, 64, 2, 8, 128, 1]⟩
abbrev S1x64x2x64x8x128 : Shape := ⟨6, ![1, 64, 2, 64, 8, 128]⟩
abbrev S1x8192x1024 : Shape := ⟨3, ![1, 8192, 1024]⟩
abbrev S1x64x128x2x8 : Shape := ⟨5, ![1, 64, 128, 2, 8]⟩
abbrev S1x8192x16 : Shape := ⟨3, ![1, 8192, 16]⟩
abbrev S8192x16 : Shape := ⟨2, ![8192, 16]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1x16, .f32⟩
  | .hbm, ⟨3, _⟩ => ⟨S8192x1024, .f32⟩
  | .hbm, ⟨4, _⟩ => ⟨S8192x256, .f32⟩
  | .hbm, ⟨5, _⟩ => ⟨S1x8192x16x64, .f32⟩
  | .hbm, ⟨6, _⟩ => ⟨S8192x128, .f32⟩
  | .hbm, ⟨7, _⟩ => ⟨S1x8192x2x64, .f32⟩
  | .hbm, ⟨8, _⟩ => ⟨S8192x128, .f32⟩
  | .hbm, ⟨9, _⟩ => ⟨S1x8192x2x64, .f32⟩
  | .hbm, ⟨10, _⟩ => ⟨S16, .f32⟩
  | .hbm, ⟨11, _⟩ => ⟨S1x64x128x2x8x64, .f32⟩
  | .hbm, ⟨12, _⟩ => ⟨S1x64x128x2x64, .f32⟩
  | .hbm, ⟨13, _⟩ => ⟨S1x64x128x2x64, .f32⟩
  | .hbm, ⟨14, _⟩ => ⟨S1x1x128x2x64, .f32⟩
  | .hbm, ⟨15, _⟩ => ⟨S_, .f32⟩
  | .hbm, ⟨16, _⟩ => ⟨S1x1x128x2x64, .f32⟩
  | .hbm, ⟨17, _⟩ => ⟨S1x63x128x2x64, .f32⟩
  | .hbm, ⟨18, _⟩ => ⟨S1x64x128x2x64, .f32⟩
  | .hbm, ⟨19, _⟩ => ⟨S1x64x256x2x64, .f32⟩
  | .hbm, ⟨20, _⟩ => ⟨S1x1x128x2x64, .f32⟩
  | .hbm, ⟨21, _⟩ => ⟨S_, .f32⟩
  | .hbm, ⟨22, _⟩ => ⟨S1x1x128x2x64, .f32⟩
  | .hbm, ⟨23, _⟩ => ⟨S1x63x128x2x64, .f32⟩
  | .hbm, ⟨24, _⟩ => ⟨S1x64x128x2x64, .f32⟩
  | .hbm, ⟨25, _⟩ => ⟨S1x64x256x2x64, .f32⟩
  | .hbm, ⟨26, _⟩ => ⟨S1x64x2x256x128x8, .f32⟩
  | .hbm, ⟨27, _⟩ => ⟨S1x64x2x8x128x256, .f32⟩
  | .hbm, ⟨28, _⟩ => ⟨S_, .f32⟩
  | .hbm, ⟨29, _⟩ => ⟨S1x64x2x8x128x256, .f32⟩
  | .hbm, ⟨30, _⟩ => ⟨S1x64x2x8x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S128x256, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x256, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S64, .i32⟩
  | .hbm, ⟨46, _⟩ => ⟨S64x1x1, .i32⟩
  | .hbm, ⟨47, _⟩ => ⟨S_, .i32⟩
  | .hbm, ⟨48, _⟩ => ⟨S64x1x1, .i32⟩
  | .hbm, ⟨49, _⟩ => ⟨S64x1x1, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S1x1x256, .i1⟩
  | .hbm, ⟨54, _⟩ => ⟨S64x1x256, .i1⟩
  | .hbm, ⟨55, _⟩ => ⟨S64x1x256, .i1⟩
  | .hbm, ⟨56, _⟩ => ⟨S64x1x256, .i1⟩
  | .hbm, ⟨57, _⟩ => ⟨S1x128x256, .i1⟩
  | .hbm, ⟨58, _⟩ => ⟨S64x128x256, .i1⟩
  | .hbm, ⟨59, _⟩ => ⟨S64x128x256, .i1⟩
  | .hbm, ⟨60, _⟩ => ⟨S64x128x256, .i1⟩
  | .hbm, ⟨61, _⟩ => ⟨S1x64x1x1x128x256, .i1⟩
  | .hbm, ⟨62, _⟩ => ⟨S_, .f32⟩
  | .hbm, ⟨63, _⟩ => ⟨S_, .f32⟩
  | .hbm, ⟨64, _⟩ => ⟨S1x64x2x8x128x256, .i1⟩
  | .hbm, ⟨65, _⟩ => ⟨S1x64x2x8x128x256, .f32⟩
  | .hbm, ⟨66, _⟩ => ⟨S1x64x2x8x128x256, .f32⟩
  | .hbm, ⟨67, _⟩ => ⟨S2x8, .f32⟩
  | .hbm, ⟨68, _⟩ => ⟨S1x1x2x8x1x1, .f32⟩
  | .hbm, ⟨69, _⟩ => ⟨S_, .f32⟩
  | .hbm, ⟨70, _⟩ => ⟨S1x64x2x8x128, .f32⟩
  | .hbm, ⟨71, _⟩ => ⟨S1x64x2x8x128x1, .f32⟩
  | .hbm, ⟨72, _⟩ => ⟨S1x64x2x8x128x1, .f32⟩
  | .hbm, ⟨73, _⟩ => ⟨S1x64x2x8x128x1, .f32⟩
  | .hbm, ⟨74, _⟩ => ⟨S1x64x2x8x128x256, .f32⟩
  | .hbm, ⟨75, _⟩ => ⟨S1x64x2x8x128x256, .f32⟩
  | .hbm, ⟨76, _⟩ => ⟨S1x64x2x8x128x256, .f32⟩
  | .hbm, ⟨77, _⟩ => ⟨S_, .f32⟩
  | .hbm, ⟨78, _⟩ => ⟨S1x64x2x8x128, .f32⟩
  | .hbm, ⟨79, _⟩ => ⟨S1x64x2x8x128x1, .f32⟩
  | .hbm, ⟨80, _⟩ => ⟨S1x64x2x8x128x1, .f32⟩
  | .hbm, ⟨81, _⟩ => ⟨S1x64x2x8x128x1, .f32⟩
  | .hbm, ⟨82, _⟩ => ⟨S1x64x2x8x128x1, .f32⟩
  | .hbm, ⟨83, _⟩ => ⟨S1x64x2x8x128x1, .f32⟩
  | .hbm, ⟨84, _⟩ => ⟨S1x64x2x8x128x256, .f32⟩
  | .hbm, ⟨85, _⟩ => ⟨S1x64x2x8x128x256, .f32⟩
  | .hbm, ⟨86, _⟩ => ⟨S1x64x2x64x8x128, .f32⟩
  | .hbm, ⟨87, _⟩ => ⟨S1x64x128x2x8x64, .f32⟩
  | .hbm, ⟨88, _⟩ => ⟨S1x8192x1024, .f32⟩
  | .hbm, ⟨89, _⟩ => ⟨S1x64x2x8x128x1, .f32⟩
  | .hbm, ⟨90, _⟩ => ⟨S1x64x2x8x128x1, .f32⟩
  | .hbm, ⟨91, _⟩ => ⟨S1x64x2x8x128, .f32⟩
  | .hbm, ⟨92, _⟩ => ⟨S1x64x128x2x8, .f32⟩
  | .hbm, ⟨93, _⟩ => ⟨S1x8192x16, .f32⟩
  | .hbm, ⟨94, _⟩ => ⟨S8192x1024, .f32⟩
  | .hbm, ⟨95, _⟩ => ⟨S8192x1024, .bf16⟩
  | .hbm, ⟨96, _⟩ => ⟨S8192x16, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩

abbrev nD : Nat := 1
abbrev τ : Topo := Topo.v7x

variable {F : FTy → Type} [FloatOps F]
-- ==== Proof.XaMath.lean ====
module

public import Idealize.ShloMosaic.PureOps.Ideal.Laws
public import Idealize.ShloMosaic.Lib.IdealHost

/-! One row of the cross-attention on the memory, over the extended reals: the scores, the probabilities and the
scores' gradient as the kernel writes them, the gradient as the derivative of the softmax writes it, and that the two
agree when the scores are real numbers. -/

@[expose] public section
noncomputable section
open Idealize.ShloMosaic

namespace Cert.Xa

/-- The factor on the scores, `128 ^ (-1/2)` as its float word. -/
abbrev kap : EReal := Ideal.ofBits FTy.f32 1035273459#32
/-- Minus infinity's word. -/
abbrev ninf : EReal := Ideal.ofBits FTy.f32 4286578688#32

/-- A score: a query against a key. -/
def sc (a b : Fin 128 → EReal) : EReal := (∑ x, a x * b x) * kap
/-- The largest score of a row. -/
def mx (s : Fin 256 → EReal) : EReal := Finset.univ.fold max ninf s
/-- The exponential of a score less the row's largest. -/
def ex (s : Fin 256 → EReal) (j : Fin 256) : EReal := Ideal.exp (s j - mx s)
/-- A probability: the exponential times the inverse of the row's sum. -/
def prob (s : Fin 256 → EReal) (j : Fin 256) : EReal := ex s j * Ideal.div 1 (∑ x, ex s x)
/-- The gradient of a score, as the kernel writes it. -/
def dsc (s dp : Fin 256 → EReal) (j : Fin 256) : EReal := prob s j * (dp j - ∑ x, prob s x * dp x) * kap

/-- A probability, as a quotient. -/
def probR (s : Fin 256 → EReal) (j : Fin 256) : EReal := Ideal.div (ex s j) (∑ x, ex s x)
/-- The gradient of a score, as the derivative of `exp (s - max) / sum` writes it. -/
def dscR (s dp : Fin 256 → EReal) (j : Fin 256) : EReal :=
  (Ideal.div (dp j) (∑ x, ex s x)
    + -(∑ x, dp x * Ideal.div 1 ((∑ x, ex s x) * (∑ x, ex s x)) * ex s x)) * ex s j * kap

theorem ninf_eq : ninf = ⊥ := by simp [ninf, Ideal.ofBits, Ideal.ieee]

/-- The larger of minus infinity and the row's largest score is the row's largest score. -/
theorem max_mx (s : Fin 256 → EReal) : max ninf (Finset.univ.fold max ninf fun x => s x) = mx s := by
  rw [max_eq_right]
  · rfl
  · rw [ninf_eq]; exact bot_le

theorem kap_real : ∃ r : ℝ, kap = (r : EReal) := by
  refine ⟨11863283 * (2 ^ 27)⁻¹, ?_⟩
  rw [EReal.coe_mul]
  simp [kap, Ideal.ofBits, Ideal.ieee]

/-- A sum of reals is a real. -/
theorem sum_coe {ι : Type} (S : Finset ι) (f : ι → ℝ) : ∑ x ∈ S, (f x : EReal) = ((∑ x ∈ S, f x : ℝ) : EReal) := by
  classical
  induction S using Finset.induction_on with
  | empty => simp
  | insert a S h ih => rw [Finset.sum_insert h, Finset.sum_insert h, ih, EReal.coe_add]

/-- A nonnegative real goes into a sum of extended reals. -/
theorem mul_sum_coe {ι : Type} (S : Finset ι) (f : ι → EReal) (c : ℝ) (hc : 0 ≤ c) :
    (c : EReal) * ∑ x ∈ S, f x = ∑ x ∈ S, (c : EReal) * f x := by
  classical
  have hc' : (0 : EReal) ≤ (c : EReal) := EReal.coe_nonneg.2 hc
  induction S using Finset.induction_on with
  | empty => simp
  | insert a S h ih =>
    rw [Finset.sum_insert h, Finset.sum_insert h, EReal.left_distrib_of_nonneg_of_ne_top hc' (EReal.coe_ne_top c), ih]

/-- A score of real rows is real. -/
theorem sc_real (a b : Fin 128 → ℝ) : ∃ r : ℝ, sc (fun x => a x) (fun x => b x) = (r : EReal) := by
  obtain ⟨k, hk⟩ := kap_real
  refine ⟨(∑ x, a x * b x) * k, ?_⟩
  rw [sc, hk, EReal.coe_mul, ← sum_coe]
  simp only [EReal.coe_mul]

/-- A row of real scores has a real maximum. -/
theorem mx_real (s : Fin 256 → ℝ) : ∃ m : ℝ, mx (fun x => s x) = (m : EReal) := by
  have h : mx (fun x => (s x : EReal)) = Finset.univ.sup (fun x => (s x : EReal)) := by
    rw [mx, ninf_eq]; rfl
  obtain ⟨x, -, hx⟩ := Finset.exists_mem_eq_sup (Finset.univ : Finset (Fin 256)) ⟨0, Finset.mem_univ _⟩ (fun x => (s x : EReal))
  exact ⟨s x, h.trans hx⟩

/-- Of real scores, the exponentials and the inverse of their sum are positive reals. -/
theorem row_real (s : Fin 256 → ℝ) : ∃ (e : Fin 256 → ℝ) (c : ℝ), (∀ j, 0 < e j) ∧ 0 < c ∧
    (∀ j, ex (fun x => s x) j = (e j : EReal)) ∧ ((∑ x, ex (fun x => (s x : EReal)) x) = ((c⁻¹ : ℝ) : EReal)) := by
  obtain ⟨m, hm⟩ := mx_real s
  have he : ∀ j, ex (fun x => (s x : EReal)) j = ((Real.exp (s j - m) : ℝ) : EReal) := fun j => by
    rw [ex, hm, ← EReal.coe_sub]; rfl
  have hpos : 0 < ∑ x : Fin 256, Real.exp (s x - m) :=
    Finset.sum_pos (fun x _ => Real.exp_pos _) ⟨0, Finset.mem_univ _⟩
  refine ⟨fun j => Real.exp (s j - m), (∑ x : Fin 256, Real.exp (s x - m))⁻¹, fun j => Real.exp_pos _, inv_pos.2 hpos, he, ?_⟩
  simp only [he]
  rw [sum_coe, inv_inv]

theorem div_inv_coe (x : EReal) (c : ℝ) (hc : 0 < c) : Ideal.div x ((c⁻¹ : ℝ) : EReal) = x * (c : EReal) := by
  have h : ((c⁻¹ : ℝ) : EReal) ≠ 0 := by
    rw [ne_eq, EReal.coe_eq_zero]; exact (inv_pos.2 hc).ne'
  rw [Ideal.div, if_neg h, ← EReal.coe_inv, inv_inv]

/-- The quotient is the product by the inverse. -/
theorem prob_eq (s : Fin 256 → ℝ) (j : Fin 256) : prob (fun x => s x) j = probR (fun x => s x) j := by
  obtain ⟨e, c, he, hc, hex, hS⟩ := row_real s
  rw [prob, probR, hS, div_inv_coe _ c hc, div_inv_coe _ c hc, one_mul]

/-- The two gradients of a score agree, whatever the gradients of the probabilities are. -/
theorem dsc_eq (s : Fin 256 → ℝ) (dp : Fin 256 → EReal) (j : Fin 256) :
    dsc (fun x => s x) dp j = dscR (fun x => s x) dp j := by
  obtain ⟨e, c, he, hc, hex, hS⟩ := row_real s
  have hp : ∀ x, prob (fun x => (s x : EReal)) x = (e x : EReal) * (c : EReal) := fun x => by
    rw [prob, hS, div_inv_coe _ c hc, one_mul, hex]
  rw [dsc, dscR, hS]
  simp only [hp, hex]
  have hcc : ((c⁻¹ : ℝ) : EReal) * ((c⁻¹ : ℝ) : EReal) = (((c * c)⁻¹ : ℝ) : EReal) := by
    rw [← EReal.coe_mul, mul_inv]
  rw [hcc, div_inv_coe _ c hc]
  refine congrArg (· * kap) ?_
  have hs : ∑ x, dp x * Ideal.div 1 (((c * c)⁻¹ : ℝ) : EReal) * (e x : EReal)
      = (c : EReal) * ∑ x, (e x : EReal) * (c : EReal) * dp x := by
    rw [mul_sum_coe _ _ c hc.le]
    refine Finset.sum_congr rfl fun x _ => ?_
    rw [div_inv_coe _ _ (mul_pos hc hc), one_mul, EReal.coe_mul]
    generalize (c : EReal) = c', (e x : EReal) = e', dp x = d
    rw [mul_comm e' c', mul_comm d, mul_assoc, mul_assoc, mul_assoc, mul_comm d]
  rw [hs]
  generalize ∑ x, (e x : EReal) * (c : EReal) * dp x = T
  rw [mul_comm (dp j) (c : EReal), ← mul_neg, ← EReal.left_distrib_of_nonneg_of_ne_top (EReal.coe_nonneg.2 hc.le)
    (EReal.coe_ne_top c), sub_eq_add_neg]
  generalize (c : EReal) = c', (e j : EReal) = e', dp j + -T = d
  rw [mul_comm e' c', mul_assoc, mul_assoc, mul_comm e' d]

/-! ### Heads -/

/-- Column `x` of head `h` of the queries. -/
def hc (h : Fin 4) (x : Fin 128) : Fin 512 := ⟨h.val * 128 + x.val, by omega⟩
/-- Column `x` of head `h` of the keys, the first half of the memory's columns. -/
def kc (h : Fin 4) (x : Fin 128) : Fin 1024 := ⟨h.val * 128 + x.val, by omega⟩
/-- Column `x` of head `h` of the values, the second half of the memory's columns. -/
def vc (h : Fin 4) (x : Fin 128) : Fin 1024 := ⟨512 + (h.val * 128 + x.val), by omega⟩

theorem hc_div (h : Fin 4) (x : Fin 128) (p) : (⟨(hc h x).val / 128, p⟩ : Fin 4) = h := Fin.ext (by simp only [hc]; omega)
theorem hc_mod (h : Fin 4) (x : Fin 128) (p) : (⟨(hc h x).val % 128, p⟩ : Fin 128) = x := Fin.ext (by simp only [hc]; omega)
theorem kc_div (h : Fin 4) (x : Fin 128) (p) : (⟨(kc h x).val / 128, p⟩ : Fin 4) = h := Fin.ext (by simp only [kc]; omega)
theorem kc_mod (h : Fin 4) (x : Fin 128) (p) : (⟨(kc h x).val % 128, p⟩ : Fin 128) = x := Fin.ext (by simp only [kc]; omega)
theorem vc_div (h : Fin 4) (x : Fin 128) (p) : (⟨((vc h x).val - 512) / 128, p⟩ : Fin 4) = h := Fin.ext (by simp only [vc]; omega)
theorem vc_mod (h : Fin 4) (x : Fin 128) (p) : (⟨((vc h x).val - 512) % 128, p⟩ : Fin 128) = x := Fin.ext (by simp only [vc]; omega)
theorem kc_lt (h : Fin 4) (x : Fin 128) : (kc h x).val < 512 := by simp only [kc]; omega
theorem vc_not_lt (h : Fin 4) (x : Fin 128) : ¬(vc h x).val < 512 := by simp only [vc]; omega

/-- The scores of a row of queries in a head. -/
def srow (q : Fin 512 → EReal) (kv : Fin 256 → Fin 1024 → EReal) (h : Fin 4) (j : Fin 256) : EReal :=
  sc (fun x => q (hc h x)) (fun x => kv j (kc h x))
/-- The gradients of a row's probabilities in a head. -/
def dprow (o : Fin 512 → EReal) (kv : Fin 256 → Fin 1024 → EReal) (h : Fin 4) (j : Fin 256) : EReal :=
  ∑ x, o (hc h x) * kv j (vc h x)

/-- The scores of real rows are real. -/
theorem srow_real (q : Fin 512 → EReal) (kv : Fin 256 → Fin 1024 → EReal) (h : Fin 4)
    (hq : ∀ x, ∃ r : ℝ, q x = r) (hk : ∀ j x, ∃ r : ℝ, kv j (kc h x) = r) : ∃ s : Fin 256 → ℝ, srow q kv h = fun j => (s j : EReal) := by
  choose q' hq' using hq
  choose k' hk' using hk
  choose s hs using fun j => sc_real (fun x => q' (hc h x)) (fun x => k' j x)
  refine ⟨s, funext fun j => ?_⟩
  rw [← hs j, srow]
  simp only [hq', hk']

/-- The two gradients of a score agree in a head whose queries and keys are real. -/
theorem dsc_row (q : Fin 512 → EReal) (kv : Fin 256 → Fin 1024 → EReal) (h : Fin 4) (dp : Fin 256 → EReal) (j : Fin 256)
    (hq : ∀ x, ∃ r : ℝ, q x = r) (hk : ∀ j x, ∃ r : ℝ, kv j (kc h x) = r) :
    dsc (srow q kv h) dp j = dscR (srow q kv h) dp j := by
  obtain ⟨s, hs⟩ := srow_real q kv h hq hk
  rw [hs]
  exact dsc_eq s dp j
/-- The two probabilities agree in a head whose queries and keys are real. -/
theorem prob_row (q : Fin 512 → EReal) (kv : Fin 256 → Fin 1024 → EReal) (h : Fin 4) (j : Fin 256)
    (hq : ∀ x, ∃ r : ℝ, q x = r) (hk : ∀ j x, ∃ r : ℝ, kv j (kc h x) = r) :
    prob (srow q kv h) j = probR (srow q kv h) j := by
  obtain ⟨s, hs⟩ := srow_real q kv h hq hk
  rw [hs]
  exact prob_eq s j

end Cert.Xa
-- ==== Proof.XaBody.lean ====
module

public import proofs.«01_k».proof.Proof.Gen.KernelIdeal.Value
public import proofs.«01_k».proof.Proof.XaMath
public import Idealize.ShloMosaic.Lib.Pipeline.ValueKit

/-! What one grid point of the kernel computes from its 512 rows of queries and of the output's gradient and from the
memory's keys and values: each payload read at an index, then the block of the queries' gradient and the point's part
of the memory's gradient. -/

@[expose] public section
set_option maxRecDepth 16384
noncomputable section
open Idealize.ShloMosaic Idealize.ShloMosaic.TcCoe Idealize.SL.Sem
namespace Cert.KernelIdeal.Xa
open Cert.KernelIdeal Cert.KernelIdeal.Gen Cert.Xa

/-! ### Scores, probabilities, and the scores' gradient, head by head -/

theorem s0_apply (a : Vec Ideal S512x128 .bf16) (b : Vec Ideal S256x128 .bf16) (r : Fin 512) (j : Fin 256) :
    k0_pay4 a b (ix2 r j) = sc (fun x => a (ix2 r x)) (fun x => b (ix2 j x)) := by
  pointwise [k0_pay4]
  rfl
theorem dp0_apply (a : Vec Ideal S512x128 .bf16) (b : Vec Ideal S256x128 .bf16) (r : Fin 512) (j : Fin 256) :
    k0_pay8 a b (ix2 r j) = ∑ x, a (ix2 r x) * b (ix2 j x) := by
  pointwise [k0_pay8]
theorem s1_apply (a : Vec Ideal S512x128 .bf16) (b : Vec Ideal S256x128 .bf16) (r : Fin 512) (j : Fin 256) :
    k0_pay5 a b (ix2 r j) = sc (fun x => a (ix2 r x)) (fun x => b (ix2 j x)) := by
  pointwise [k0_pay5]
  rfl
theorem dp1_apply (a : Vec Ideal S512x128 .bf16) (b : Vec Ideal S256x128 .bf16) (r : Fin 512) (j : Fin 256) :
    k0_pay9 a b (constant S512x256 FTy.f32 0#32) (ix2 r j) = ∑ x, a (ix2 r x) * b (ix2 j x) := by
  pointwise [k0_pay9]
theorem s2_apply (a : Vec Ideal S512x128 .bf16) (b : Vec Ideal S256x128 .bf16) (r : Fin 512) (j : Fin 256) :
    k0_pay6 a b (ix2 r j) = sc (fun x => a (ix2 r x)) (fun x => b (ix2 j x)) := by
  pointwise [k0_pay6]
  rfl
theorem dp2_apply (a : Vec Ideal S512x128 .bf16) (b : Vec Ideal S256x128 .bf16) (r : Fin 512) (j : Fin 256) :
    k0_pay10 a b (ix2 r j) = ∑ x, a (ix2 r x) * b (ix2 j x) := by
  pointwise [k0_pay10]
theorem s3_apply (a : Vec Ideal S512x128 .bf16) (b : Vec Ideal S256x128 .bf16) (r : Fin 512) (j : Fin 256) :
    k0_pay7 a b (ix2 r j) = sc (fun x => a (ix2 r x)) (fun x => b (ix2 j x)) := by
  pointwise [k0_pay7]
  rfl
theorem dp3_apply (a : Vec Ideal S512x128 .bf16) (b : Vec Ideal S256x128 .bf16) (r : Fin 512) (j : Fin 256) :
    k0_pay11 a b (ix2 r j) = ∑ x, a (ix2 r x) * b (ix2 j x) := by
  pointwise [k0_pay11]
theorem p0_apply (s : FVec Ideal S512x256 .f32) (r : Fin 512) (j : Fin 256) :
    k0_pay14 s (ix2 r j) = prob (fun x => s (ix2 r x)) j := by
  pointwise [k0_pay14]
  rfl
theorem ds0_apply (s d : FVec Ideal S512x256 .f32) (r : Fin 512) (j : Fin 256) :
    k0_pay19 d (k0_pay14 s) (ix2 r j) = dsc (fun x => s (ix2 r x)) (fun x => d (ix2 r x)) j := by
  pointwise [k0_pay19]
  simp only [p0_apply]; rfl
theorem dq0_apply (a : FVec Ideal S512x256 .bf16) (b : Vec Ideal S256x128 .bf16) (r : Fin 512) (x : Fin 128) :
    k0_pay23 a b (ix2 r x) = ∑ j, a (ix2 r j) * b (ix2 j x) := by
  pointwise [k0_pay23]
theorem dk0_apply (a : FVec Ideal S512x256 .bf16) (b : Vec Ideal S512x128 .bf16) (j : Fin 256) (x : Fin 128) :
    k0_pay27 a b (ix2 j x) = ∑ r, a (ix2 r j) * b (ix2 r x) := by
  pointwise [k0_pay27]
theorem dv0_apply (a : FVec Ideal S512x256 .f32) (b : Vec Ideal S512x128 .bf16) (j : Fin 256) (x : Fin 128) :
    k0_pay31 a b (ix2 j x) = ∑ r, a (ix2 r j) * b (ix2 r x) := by
  pointwise [k0_pay31]
theorem p1_apply (s : FVec Ideal S512x256 .f32) (r : Fin 512) (j : Fin 256) :
    k0_pay15 s (ix2 r j) = prob (fun x => s (ix2 r x)) j := by
  pointwise [k0_pay15]
  rfl
theorem ds1_apply (s d : FVec Ideal S512x256 .f32) (r : Fin 512) (j : Fin 256) :
    k0_pay20 d (k0_pay15 s) (ix2 r j) = dsc (fun x => s (ix2 r x)) (fun x => d (ix2 r x)) j := by
  pointwise [k0_pay20]
  simp only [p1_apply]; rfl
theorem dq1_apply (a : FVec Ideal S512x256 .bf16) (b : Vec Ideal S256x128 .bf16) (r : Fin 512) (x : Fin 128) :
    k0_pay24 a b (ix2 r x) = ∑ j, a (ix2 r j) * b (ix2 j x) := by
  pointwise [k0_pay24]
theorem dk1_apply (a : FVec Ideal S512x256 .bf16) (b : Vec Ideal S512x128 .bf16) (j : Fin 256) (x : Fin 128) :
    k0_pay28 a b (ix2 j x) = ∑ r, a (ix2 r j) * b (ix2 r x) := by
  pointwise [k0_pay28]
theorem dv1_apply (a : FVec Ideal S512x256 .f32) (b : Vec Ideal S512x128 .bf16) (j : Fin 256) (x : Fin 128) :
    k0_pay32 a b (ix2 j x) = ∑ r, a (ix2 r j) * b (ix2 r x) := by
  pointwise [k0_pay32]
theorem p2_apply (s : FVec Ideal S512x256 .f32) (r : Fin 512) (j : Fin 256) :
    k0_pay17 (k0_pay12 s) (k0_pay16 s) (ix2 r j) = prob (fun x => s (ix2 r x)) j := by
  pointwise [k0_pay17, k0_pay12, k0_pay16]
  rfl
theorem ds2_apply (s d : FVec Ideal S512x256 .f32) (r : Fin 512) (j : Fin 256) :
    k0_pay21 d (k0_pay12 s) (k0_pay16 s) (ix2 r j) = dsc (fun x => s (ix2 r x)) (fun x => d (ix2 r x)) j := by
  pointwise [k0_pay21, k0_pay17, k0_pay12, k0_pay16]
  rfl
theorem dq2_apply (a : FVec Ideal S512x256 .bf16) (b : Vec Ideal S256x128 .bf16) (r : Fin 512) (x : Fin 128) :
    k0_pay25 a b (ix2 r x) = ∑ j, a (ix2 r j) * b (ix2 j x) := by
  pointwise [k0_pay25]
theorem dk2_apply (a : FVec Ideal S512x256 .bf16) (b : Vec Ideal S512x128 .bf16) (j : Fin 256) (x : Fin 128) :
    k0_pay29 a b (ix2 j x) = ∑ r, a (ix2 r j) * b (ix2 r x) := by
  pointwise [k0_pay29]
theorem dv2_apply (a : FVec Ideal S512x256 .f32) (b : Vec Ideal S512x128 .bf16) (j : Fin 256) (x : Fin 128) :
    k0_pay33 a b (ix2 j x) = ∑ r, a (ix2 r j) * b (ix2 r x) := by
  pointwise [k0_pay33]
theorem p3_apply (s : FVec Ideal S512x256 .f32) (r : Fin 512) (j : Fin 256) :
    k0_pay18 (k0_pay13 s) (ix2 r j) = prob (fun x => s (ix2 r x)) j := by
  pointwise [k0_pay18, k0_pay13]
  rfl
theorem ds3_apply (s d : FVec Ideal S512x256 .f32) (r : Fin 512) (j : Fin 256) :
    k0_pay22 d (k0_pay13 s) (ix2 r j) = dsc (fun x => s (ix2 r x)) (fun x => d (ix2 r x)) j := by
  pointwise [k0_pay22, k0_pay18, k0_pay13]
  rfl
theorem dq3_apply (a : FVec Ideal S512x256 .bf16) (b : Vec Ideal S256x128 .bf16) (r : Fin 512) (x : Fin 128) :
    k0_pay26 a b (ix2 r x) = ∑ j, a (ix2 r j) * b (ix2 j x) := by
  pointwise [k0_pay26]
theorem dk3_apply (a : FVec Ideal S512x256 .bf16) (b : Vec Ideal S512x128 .bf16) (j : Fin 256) (x : Fin 128) :
    k0_pay30 a b (ix2 j x) = ∑ r, a (ix2 r j) * b (ix2 r x) := by
  pointwise [k0_pay30]

theorem cast3_apply (a : FVec Ideal S512x256 .f32) (r : Fin 512) (j : Fin 256) : k0_pay34 a (ix2 r j) = a (ix2 r j) := by
  pointwise [k0_pay34]

/-! ### The four heads side by side -/

/-- The four heads' gradients of the queries, joined. -/
theorem cat_q (a b c d : FVec Ideal S512x128 .f32) (r : Fin 512) (h : Fin 4) (x : Fin 128) :
    k0_pay1 a b c d (ix2 r (hc h x)) = (![a, b, c, d] h) (ix2 r x) := by
  pointwise [k0_pay1]
  have := x.isLt
  match h with
  | ⟨0, _⟩ => rw [dif_pos (by simp only [hc]; omega)]; exact congrArg (fun y => a (ix2 r y)) (Fin.ext (by simp only [hc]; omega))
  | ⟨1, _⟩ =>
    rw [dif_neg (by simp only [hc]; omega), dif_pos (by simp only [hc]; omega)]
    exact congrArg (fun y => b (ix2 r y)) (Fin.ext (by simp only [hc]; omega))
  | ⟨2, _⟩ =>
    rw [dif_neg (by simp only [hc]; omega), dif_neg (by simp only [hc]; omega), dif_pos (by simp only [hc]; omega)]
    exact congrArg (fun y => c (ix2 r y)) (Fin.ext (by simp only [hc]; omega))
  | ⟨3, _⟩ =>
    rw [dif_neg (by simp only [hc]; omega), dif_neg (by simp only [hc]; omega), dif_neg (by simp only [hc]; omega)]
    exact congrArg (fun y => d (ix2 r y)) (Fin.ext (by simp only [hc]; omega))

/-- A column of the keys among the eight parts joined. -/
theorem cat_k (a b c d e f g : FVec Ideal S256x128 .f32) (p : FVec Ideal S512x256 .bf16) (o : Vec Ideal S512x128 .bf16)
    (z : FVec Ideal S256x128 .f32) (j : Fin 256) (h : Fin 4) (x : Fin 128) :
    k0_pay2 a b c d e f g p o z (ix2 j (kc h x)) = (![a, b, c, d] h) (ix2 j x) := by
  pointwise [k0_pay2]
  have := x.isLt
  match h with
  | ⟨0, _⟩ =>
    rw [dif_pos (by simp only [kc]; omega)]
    exact congrArg (fun y => a (ix2 j y)) (Fin.ext (by simp only [kc]; omega))
  | ⟨1, _⟩ =>
    rw [dif_neg (by simp only [kc]; omega), dif_pos (by simp only [kc]; omega)]
    exact congrArg (fun y => b (ix2 j y)) (Fin.ext (by simp only [kc]; omega))
  | ⟨2, _⟩ =>
    rw [dif_neg (by simp only [kc]; omega), dif_neg (by simp only [kc]; omega), dif_pos (by simp only [kc]; omega)]
    exact congrArg (fun y => c (ix2 j y)) (Fin.ext (by simp only [kc]; omega))
  | ⟨3, _⟩ =>
    rw [dif_neg (by simp only [kc]; omega), dif_neg (by simp only [kc]; omega), dif_neg (by simp only [kc]; omega), dif_pos (by simp only [kc]; omega)]
    exact congrArg (fun y => d (ix2 j y)) (Fin.ext (by simp only [kc]; omega))

/-- A column of the values among the eight parts joined. -/
theorem cat_v (a b c d e f g : FVec Ideal S256x128 .f32) (p : FVec Ideal S512x256 .bf16) (o : Vec Ideal S512x128 .bf16)
    (j : Fin 256) (h : Fin 4) (x : Fin 128) :
    k0_pay2 a b c d e f g p o (constant S256x128 FTy.f32 0#32) (ix2 j (vc h x))
      = ![e (ix2 j x), f (ix2 j x), g (ix2 j x), ∑ r, p (ix2 r j) * o (ix2 r x)] h := by
  pointwise [k0_pay2]
  have := x.isLt
  match h with
  | ⟨0, _⟩ =>
    rw [dif_neg (by simp only [vc]; omega), dif_neg (by simp only [vc]; omega), dif_neg (by simp only [vc]; omega), dif_neg (by simp only [vc]; omega), dif_pos (by simp only [vc]; omega)]
    exact congrArg (fun y => e (ix2 j y)) (Fin.ext (by simp only [vc]; omega))
  | ⟨1, _⟩ =>
    rw [dif_neg (by simp only [vc]; omega), dif_neg (by simp only [vc]; omega), dif_neg (by simp only [vc]; omega), dif_neg (by simp only [vc]; omega), dif_neg (by simp only [vc]; omega), dif_pos (by simp only [vc]; omega)]
    exact congrArg (fun y => f (ix2 j y)) (Fin.ext (by simp only [vc]; omega))
  | ⟨2, _⟩ =>
    rw [dif_neg (by simp only [vc]; omega), dif_neg (by simp only [vc]; omega), dif_neg (by simp only [vc]; omega), dif_neg (by simp only [vc]; omega), dif_neg (by simp only [vc]; omega), dif_neg (by simp only [vc]; omega), dif_pos (by simp only [vc]; omega)]
    exact congrArg (fun y => g (ix2 j y)) (Fin.ext (by simp only [vc]; omega))
  | ⟨3, _⟩ =>
    rw [dif_neg (by simp only [vc]; omega), dif_neg (by simp only [vc]; omega), dif_neg (by simp only [vc]; omega), dif_neg (by simp only [vc]; omega), dif_neg (by simp only [vc]; omega), dif_neg (by simp only [vc]; omega), dif_neg (by simp only [vc]; omega)]
    refine (Finset.sum_congr rfl fun r _ => ?_ : (∑ r : Fin 512, _) = ∑ r : Fin 512, p (ix2 r j) * o (ix2 r x))
    exact congrArg (fun y => p (ix2 r j) * o (ix2 r y)) (Fin.ext (by simp only [vc]; omega))

/-- The accumulating store adds the point's part to what the block held. -/
theorem acc_apply (a b c d e f g : FVec Ideal S256x128 .f32) (p : FVec Ideal S512x256 .bf16) (o : Vec Ideal S512x128 .bf16)
    (z : FVec Ideal S256x128 .f32) (old : Vec Ideal S256x1024 .f32) (i : S256x1024.Idx) :
    k0_pay3 a b c d e f g p o z old i = old i + k0_pay2 a b c d e f g p o z i := by
  pointwise [k0_pay3]

/-! ### One grid point -/

variable (Q : Vec Ideal S512x512 .bf16) (M : Vec Ideal S256x1024 .bf16) (D : Vec Ideal S512x512 .bf16)

/-- The block of the queries' gradient that a grid point writes. -/
def dqBlk : Vec Ideal S512x512 .bf16 :=
  k0_pay1
    (k0_pay23 (k0_pay19 (k0_pay8 (View.ld D (Rect.unit ![0, 0] ![512, 128] inb_S512x512_S512x128_0_0)) (View.ld M (Rect.unit ![0, 512] ![256, 128] inb_S256x1024_S256x128_0_512))) (k0_pay14 (k0_pay4 (View.ld Q (Rect.unit ![0, 0] ![512, 128] inb_S512x512_S512x128_0_0)) (View.ld M (Rect.unit ![0, 0] ![256, 128] inb_S256x1024_S256x128_0_0))))) (View.ld M (Rect.unit ![0, 0] ![256, 128] inb_S256x1024_S256x128_0_0)))
    (k0_pay24 (k0_pay20 (k0_pay9 (View.ld D (Rect.unit ![0, 128] ![512, 128] inb_S512x512_S512x128_0_128)) (View.ld M (Rect.unit ![0, 640] ![256, 128] inb_S256x1024_S256x128_0_640)) (constant S512x256 FTy.f32 0#32)) (k0_pay15 (k0_pay5 (View.ld Q (Rect.unit ![0, 128] ![512, 128] inb_S512x512_S512x128_0_128)) (View.ld M (Rect.unit ![0, 128] ![256, 128] inb_S256x1024_S256x128_0_128))))) (View.ld M (Rect.unit ![0, 128] ![256, 128] inb_S256x1024_S256x128_0_128)))
    (k0_pay25 (k0_pay21 (k0_pay10 (View.ld D (Rect.unit ![0, 256] ![512, 128] inb_S512x512_S512x128_0_256)) (View.ld M (Rect.unit ![0, 768] ![256, 128] inb_S256x1024_S256x128_0_768))) (k0_pay12 (k0_pay6 (View.ld Q (Rect.unit ![0, 256] ![512, 128] inb_S512x512_S512x128_0_256)) (View.ld M (Rect.unit ![0, 256] ![256, 128] inb_S256x1024_S256x128_0_256)))) (k0_pay16 (k0_pay6 (View.ld Q (Rect.unit ![0, 256] ![512, 128] inb_S512x512_S512x128_0_256)) (View.ld M (Rect.unit ![0, 256] ![256, 128] inb_S256x1024_S256x128_0_256))))) (View.ld M (Rect.unit ![0, 256] ![256, 128] inb_S256x1024_S256x128_0_256)))
    (k0_pay26 (k0_pay22 (k0_pay11 (View.ld D (Rect.unit ![0, 384] ![512, 128] inb_S512x512_S512x128_0_384)) (View.ld M (Rect.unit ![0, 896] ![256, 128] inb_S256x1024_S256x128_0_896))) (k0_pay13 (k0_pay7 (View.ld Q (Rect.unit ![0, 384] ![512, 128] inb_S512x512_S512x128_0_384)) (View.ld M (Rect.unit ![0, 384] ![256, 128] inb_S256x1024_S256x128_0_384))))) (View.ld M (Rect.unit ![0, 384] ![256, 128] inb_S256x1024_S256x128_0_384)))

/-- A grid point's part of the memory's gradient. -/
def dkvBlk : Vec Ideal S256x1024 .f32 :=
  k0_pay2
    (k0_pay27 (k0_pay19 (k0_pay8 (View.ld D (Rect.unit ![0, 0] ![512, 128] inb_S512x512_S512x128_0_0)) (View.ld M (Rect.unit ![0, 512] ![256, 128] inb_S256x1024_S256x128_0_512))) (k0_pay14 (k0_pay4 (View.ld Q (Rect.unit ![0, 0] ![512, 128] inb_S512x512_S512x128_0_0)) (View.ld M (Rect.unit ![0, 0] ![256, 128] inb_S256x1024_S256x128_0_0))))) (View.ld Q (Rect.unit ![0, 0] ![512, 128] inb_S512x512_S512x128_0_0)))
    (k0_pay28 (k0_pay20 (k0_pay9 (View.ld D (Rect.unit ![0, 128] ![512, 128] inb_S512x512_S512x128_0_128)) (View.ld M (Rect.unit ![0, 640] ![256, 128] inb_S256x1024_S256x128_0_640)) (constant S512x256 FTy.f32 0#32)) (k0_pay15 (k0_pay5 (View.ld Q (Rect.unit ![0, 128] ![512, 128] inb_S512x512_S512x128_0_128)) (View.ld M (Rect.unit ![0, 128] ![256, 128] inb_S256x1024_S256x128_0_128))))) (View.ld Q (Rect.unit ![0, 128] ![512, 128] inb_S512x512_S512x128_0_128)))
    (k0_pay29 (k0_pay21 (k0_pay10 (View.ld D (Rect.unit ![0, 256] ![512, 128] inb_S512x512_S512x128_0_256)) (View.ld M (Rect.unit ![0, 768] ![256, 128] inb_S256x1024_S256x128_0_768))) (k0_pay12 (k0_pay6 (View.ld Q (Rect.unit ![0, 256] ![512, 128] inb_S512x512_S512x128_0_256)) (View.ld M (Rect.unit ![0, 256] ![256, 128] inb_S256x1024_S256x128_0_256)))) (k0_pay16 (k0_pay6 (View.ld Q (Rect.unit ![0, 256] ![512, 128] inb_S512x512_S512x128_0_256)) (View.ld M (Rect.unit ![0, 256] ![256, 128] inb_S256x1024_S256x128_0_256))))) (View.ld Q (Rect.unit ![0, 256] ![512, 128] inb_S512x512_S512x128_0_256)))
    (k0_pay30 (k0_pay22 (k0_pay11 (View.ld D (Rect.unit ![0, 384] ![512, 128] inb_S512x512_S512x128_0_384)) (View.ld M (Rect.unit ![0, 896] ![256, 128] inb_S256x1024_S256x128_0_896))) (k0_pay13 (k0_pay7 (View.ld Q (Rect.unit ![0, 384] ![512, 128] inb_S512x512_S512x128_0_384)) (View.ld M (Rect.unit ![0, 384] ![256, 128] inb_S256x1024_S256x128_0_384))))) (View.ld Q (Rect.unit ![0, 384] ![512, 128] inb_S512x512_S512x128_0_384)))
    (k0_pay31 (k0_pay14 (k0_pay4 (View.ld Q (Rect.unit ![0, 0] ![512, 128] inb_S512x512_S512x128_0_0)) (View.ld M (Rect.unit ![0, 0] ![256, 128] inb_S256x1024_S256x128_0_0)))) (View.ld D (Rect.unit ![0, 0] ![512, 128] inb_S512x512_S512x128_0_0)))
    (k0_pay32 (k0_pay15 (k0_pay5 (View.ld Q (Rect.unit ![0, 128] ![512, 128] inb_S512x512_S512x128_0_128)) (View.ld M (Rect.unit ![0, 128] ![256, 128] inb_S256x1024_S256x128_0_128)))) (View.ld D (Rect.unit ![0, 128] ![512, 128] inb_S512x512_S512x128_0_128)))
    (k0_pay33 (k0_pay17 (k0_pay12 (k0_pay6 (View.ld Q (Rect.unit ![0, 256] ![512, 128] inb_S512x512_S512x128_0_256)) (View.ld M (Rect.unit ![0, 256] ![256, 128] inb_S256x1024_S256x128_0_256)))) (k0_pay16 (k0_pay6 (View.ld Q (Rect.unit ![0, 256] ![512, 128] inb_S512x512_S512x128_0_256)) (View.ld M (Rect.unit ![0, 256] ![256, 128] inb_S256x1024_S256x128_0_256))))) (View.ld D (Rect.unit ![0, 256] ![512, 128] inb_S512x512_S512x128_0_256)))
    (k0_pay34 (k0_pay18 (k0_pay13 (k0_pay7 (View.ld Q (Rect.unit ![0, 384] ![512, 128] inb_S512x512_S512x128_0_384)) (View.ld M (Rect.unit ![0, 384] ![256, 128] inb_S256x1024_S256x128_0_384)))))) (View.ld D (Rect.unit ![0, 384] ![512, 128] inb_S512x512_S512x128_0_384)) (constant S256x128 FTy.f32 0#32)

/-- A row of a block of queries or of the output's gradient. -/
abbrev brow (a : Vec Ideal S512x512 .bf16) (r : Fin 512) : Fin 512 → EReal := fun k => a (ix2 r k)
/-- The memory's block by row and column. -/
abbrev bmat (a : Vec Ideal S256x1024 .bf16) : Fin 256 → Fin 1024 → EReal := fun j k => a (ix2 j k)

theorem ld_q0 (a : Vec Ideal S512x512 .bf16) (r : Fin 512) (x : Fin 128) :
    View.ld a (Rect.unit ![0, 0] ![512, 128] inb_S512x512_S512x128_0_0) (ix2 r x) = a (ix2 r (hc 0 x)) := by
  pointwise []
  exact congrArg (fun y => a (ix2 r y)) (Fin.ext (by simp only [hc]; omega))
theorem ld_q1 (a : Vec Ideal S512x512 .bf16) (r : Fin 512) (x : Fin 128) :
    View.ld a (Rect.unit ![0, 128] ![512, 128] inb_S512x512_S512x128_0_128) (ix2 r x) = a (ix2 r (hc 1 x)) := by
  pointwise []
  exact congrArg (fun y => a (ix2 r y)) (Fin.ext (by simp only [hc]; omega))
theorem ld_q2 (a : Vec Ideal S512x512 .bf16) (r : Fin 512) (x : Fin 128) :
    View.ld a (Rect.unit ![0, 256] ![512, 128] inb_S512x512_S512x128_0_256) (ix2 r x) = a (ix2 r (hc 2 x)) := by
  pointwise []
  exact congrArg (fun y => a (ix2 r y)) (Fin.ext (by simp only [hc]; omega))
theorem ld_q3 (a : Vec Ideal S512x512 .bf16) (r : Fin 512) (x : Fin 128) :
    View.ld a (Rect.unit ![0, 384] ![512, 128] inb_S512x512_S512x128_0_384) (ix2 r x) = a (ix2 r (hc 3 x)) := by
  pointwise []
  exact congrArg (fun y => a (ix2 r y)) (Fin.ext (by simp only [hc]; omega))
theorem ld_k0 (a : Vec Ideal S256x1024 .bf16) (r : Fin 256) (x : Fin 128) :
    View.ld a (Rect.unit ![0, 0] ![256, 128] inb_S256x1024_S256x128_0_0) (ix2 r x) = a (ix2 r (kc 0 x)) := by
  pointwise []
  exact congrArg (fun y => a (ix2 r y)) (Fin.ext (by simp only [kc]; omega))
theorem ld_k1 (a : Vec Ideal S256x1024 .bf16) (r : Fin 256) (x : Fin 128) :
    View.ld a (Rect.unit ![0, 128] ![256, 128] inb_S256x1024_S256x128_0_128) (ix2 r x) = a (ix2 r (kc 1 x)) := by
  pointwise []
  exact congrArg (fun y => a (ix2 r y)) (Fin.ext (by simp only [kc]; omega))
theorem ld_k2 (a : Vec Ideal S256x1024 .bf16) (r : Fin 256) (x : Fin 128) :
    View.ld a (Rect.unit ![0, 256] ![256, 128] inb_S256x1024_S256x128_0_256) (ix2 r x) = a (ix2 r (kc 2 x)) := by
  pointwise []
  exact congrArg (fun y => a (ix2 r y)) (Fin.ext (by simp only [kc]; omega))
theorem ld_k3 (a : Vec Ideal S256x1024 .bf16) (r : Fin 256) (x : Fin 128) :
    View.ld a (Rect.unit ![0, 384] ![256, 128] inb_S256x1024_S256x128_0_384) (ix2 r x) = a (ix2 r (kc 3 x)) := by
  pointwise []
  exact congrArg (fun y => a (ix2 r y)) (Fin.ext (by simp only [kc]; omega))
theorem ld_v0 (a : Vec Ideal S256x1024 .bf16) (r : Fin 256) (x : Fin 128) :
    View.ld a (Rect.unit ![0, 512] ![256, 128] inb_S256x1024_S256x128_0_512) (ix2 r x) = a (ix2 r (vc 0 x)) := by
  pointwise []
  exact congrArg (fun y => a (ix2 r y)) (Fin.ext (by simp only [vc]; omega))
theorem ld_v1 (a : Vec Ideal S256x1024 .bf16) (r : Fin 256) (x : Fin 128) :
    View.ld a (Rect.unit ![0, 640] ![256, 128] inb_S256x1024_S256x128_0_640) (ix2 r x) = a (ix2 r (vc 1 x)) := by
  pointwise []
  exact congrArg (fun y => a (ix2 r y)) (Fin.ext (by simp only [vc]; omega))
theorem ld_v2 (a : Vec Ideal S256x1024 .bf16) (r : Fin 256) (x : Fin 128) :
    View.ld a (Rect.unit ![0, 768] ![256, 128] inb_S256x1024_S256x128_0_768) (ix2 r x) = a (ix2 r (vc 2 x)) := by
  pointwise []
  exact congrArg (fun y => a (ix2 r y)) (Fin.ext (by simp only [vc]; omega))
theorem ld_v3 (a : Vec Ideal S256x1024 .bf16) (r : Fin 256) (x : Fin 128) :
    View.ld a (Rect.unit ![0, 896] ![256, 128] inb_S256x1024_S256x128_0_896) (ix2 r x) = a (ix2 r (vc 3 x)) := by
  pointwise []
  exact congrArg (fun y => a (ix2 r y)) (Fin.ext (by simp only [vc]; omega))
/-- Head 0's scores of a grid point. -/
theorem srow0 (r : Fin 512) : (fun j => (k0_pay4 (View.ld Q (Rect.unit ![0, 0] ![512, 128] inb_S512x512_S512x128_0_0)) (View.ld M (Rect.unit ![0, 0] ![256, 128] inb_S256x1024_S256x128_0_0))) (ix2 r j)) = srow (brow Q r) (bmat M) 0 :=
  funext fun j => (s0_apply _ _ r j).trans (congrArg₂ sc (funext fun x => ld_q0 Q r x) (funext fun x => ld_k0 M j x))
/-- Head 0's gradients of the probabilities. -/
theorem dprow0 (r : Fin 512) : (fun j => (k0_pay8 (View.ld D (Rect.unit ![0, 0] ![512, 128] inb_S512x512_S512x128_0_0)) (View.ld M (Rect.unit ![0, 512] ![256, 128] inb_S256x1024_S256x128_0_512))) (ix2 r j)) = dprow (brow D r) (bmat M) 0 :=
  funext fun j => (dp0_apply _ _ r j).trans (Finset.sum_congr rfl fun x _ => congrArg₂ (fun a b : EReal => a * b) (ld_q0 D r x) (ld_v0 M j x))
/-- Head 0's probabilities. -/
theorem prow0 (r : Fin 512) (j : Fin 256) : (k0_pay14 (k0_pay4 (View.ld Q (Rect.unit ![0, 0] ![512, 128] inb_S512x512_S512x128_0_0)) (View.ld M (Rect.unit ![0, 0] ![256, 128] inb_S256x1024_S256x128_0_0)))) (ix2 r j) = prob (srow (brow Q r) (bmat M) 0) j :=
  (p0_apply _ r j).trans (congrArg (fun s => prob s j) (srow0 Q M r))
/-- Head 0's gradients of the scores. -/
theorem dsrow0 (r : Fin 512) (j : Fin 256) :
    (k0_pay19 (k0_pay8 (View.ld D (Rect.unit ![0, 0] ![512, 128] inb_S512x512_S512x128_0_0)) (View.ld M (Rect.unit ![0, 512] ![256, 128] inb_S256x1024_S256x128_0_512))) (k0_pay14 (k0_pay4 (View.ld Q (Rect.unit ![0, 0] ![512, 128] inb_S512x512_S512x128_0_0)) (View.ld M (Rect.unit ![0, 0] ![256, 128] inb_S256x1024_S256x128_0_0))))) (ix2 r j) = dsc (srow (brow Q r) (bmat M) 0) (dprow (brow D r) (bmat M) 0) j :=
  (ds0_apply _ _ r j).trans (congrArg₂ (fun s d => dsc s d j) (srow0 Q M r) (dprow0 M D r))
/-- Head 1's scores of a grid point. -/
theorem srow1 (r : Fin 512) : (fun j => (k0_pay5 (View.ld Q (Rect.unit ![0, 128] ![512, 128] inb_S512x512_S512x128_0_128)) (View.ld M (Rect.unit ![0, 128] ![256, 128] inb_S256x1024_S256x128_0_128))) (ix2 r j)) = srow (brow Q r) (bmat M) 1 :=
  funext fun j => (s1_apply _ _ r j).trans (congrArg₂ sc (funext fun x => ld_q1 Q r x) (funext fun x => ld_k1 M j x))
/-- Head 1's gradients of the probabilities. -/
theorem dprow1 (r : Fin 512) : (fun j => (k0_pay9 (View.ld D (Rect.unit ![0, 128] ![512, 128] inb_S512x512_S512x128_0_128)) (View.ld M (Rect.unit ![0, 640] ![256, 128] inb_S256x1024_S256x128_0_640)) (constant S512x256 FTy.f32 0#32)) (ix2 r j)) = dprow (brow D r) (bmat M) 1 :=
  funext fun j => (dp1_apply _ _ r j).trans (Finset.sum_congr rfl fun x _ => congrArg₂ (fun a b : EReal => a * b) (ld_q1 D r x) (ld_v1 M j x))
/-- Head 1's probabilities. -/
theorem prow1 (r : Fin 512) (j : Fin 256) : (k0_pay15 (k0_pay5 (View.ld Q (Rect.unit ![0, 128] ![512, 128] inb_S512x512_S512x128_0_128)) (View.ld M (Rect.unit ![0, 128] ![256, 128] inb_S256x1024_S256x128_0_128)))) (ix2 r j) = prob (srow (brow Q r) (bmat M) 1) j :=
  (p1_apply _ r j).trans (congrArg (fun s => prob s j) (srow1 Q M r))
/-- Head 1's gradients of the scores. -/
theorem dsrow1 (r : Fin 512) (j : Fin 256) :
    (k0_pay20 (k0_pay9 (View.ld D (Rect.unit ![0, 128] ![512, 128] inb_S512x512_S512x128_0_128)) (View.ld M (Rect.unit ![0, 640] ![256, 128] inb_S256x1024_S256x128_0_640)) (constant S512x256 FTy.f32 0#32)) (k0_pay15 (k0_pay5 (View.ld Q (Rect.unit ![0, 128] ![512, 128] inb_S512x512_S512x128_0_128)) (View.ld M (Rect.unit ![0, 128] ![256, 128] inb_S256x1024_S256x128_0_128))))) (ix2 r j) = dsc (srow (brow Q r) (bmat M) 1) (dprow (brow D r) (bmat M) 1) j :=
  (ds1_apply _ _ r j).trans (congrArg₂ (fun s d => dsc s d j) (srow1 Q M r) (dprow1 M D r))
/-- Head 2's scores of a grid point. -/
theorem srow2 (r : Fin 512) : (fun j => (k0_pay6 (View.ld Q (Rect.unit ![0, 256] ![512, 128] inb_S512x512_S512x128_0_256)) (View.ld M (Rect.unit ![0, 256] ![256, 128] inb_S256x1024_S256x128_0_256))) (ix2 r j)) = srow (brow Q r) (bmat M) 2 :=
  funext fun j => (s2_apply _ _ r j).trans (congrArg₂ sc (funext fun x => ld_q2 Q r x) (funext fun x => ld_k2 M j x))
/-- Head 2's gradients of the probabilities. -/
theorem dprow2 (r : Fin 512) : (fun j => (k0_pay10 (View.ld D (Rect.unit ![0, 256] ![512, 128] inb_S512x512_S512x128_0_256)) (View.ld M (Rect.unit ![0, 768] ![256, 128] inb_S256x1024_S256x128_0_768))) (ix2 r j)) = dprow (brow D r) (bmat M) 2 :=
  funext fun j => (dp2_apply _ _ r j).trans (Finset.sum_congr rfl fun x _ => congrArg₂ (fun a b : EReal => a * b) (ld_q2 D r x) (ld_v2 M j x))
/-- Head 2's probabilities. -/
theorem prow2 (r : Fin 512) (j : Fin 256) : (k0_pay17 (k0_pay12 (k0_pay6 (View.ld Q (Rect.unit ![0, 256] ![512, 128] inb_S512x512_S512x128_0_256)) (View.ld M (Rect.unit ![0, 256] ![256, 128] inb_S256x1024_S256x128_0_256)))) (k0_pay16 (k0_pay6 (View.ld Q (Rect.unit ![0, 256] ![512, 128] inb_S512x512_S512x128_0_256)) (View.ld M (Rect.unit ![0, 256] ![256, 128] inb_S256x1024_S256x128_0_256))))) (ix2 r j) = prob (srow (brow Q r) (bmat M) 2) j :=
  (p2_apply _ r j).trans (congrArg (fun s => prob s j) (srow2 Q M r))
/-- Head 2's gradients of the scores. -/
theorem dsrow2 (r : Fin 512) (j : Fin 256) :
    (k0_pay21 (k0_pay10 (View.ld D (Rect.unit ![0, 256] ![512, 128] inb_S512x512_S512x128_0_256)) (View.ld M (Rect.unit ![0, 768] ![256, 128] inb_S256x1024_S256x128_0_768))) (k0_pay12 (k0_pay6 (View.ld Q (Rect.unit ![0, 256] ![512, 128] inb_S512x512_S512x128_0_256)) (View.ld M (Rect.unit ![0, 256] ![256, 128] inb_S256x1024_S256x128_0_256)))) (k0_pay16 (k0_pay6 (View.ld Q (Rect.unit ![0, 256] ![512, 128] inb_S512x512_S512x128_0_256)) (View.ld M (Rect.unit ![0, 256] ![256, 128] inb_S256x1024_S256x128_0_256))))) (ix2 r j) = dsc (srow (brow Q r) (bmat M) 2) (dprow (brow D r) (bmat M) 2) j :=
  (ds2_apply _ _ r j).trans (congrArg₂ (fun s d => dsc s d j) (srow2 Q M r) (dprow2 M D r))
/-- Head 3's scores of a grid point. -/
theorem srow3 (r : Fin 512) : (fun j => (k0_pay7 (View.ld Q (Rect.unit ![0, 384] ![512, 128] inb_S512x512_S512x128_0_384)) (View.ld M (Rect.unit ![0, 384] ![256, 128] inb_S256x1024_S256x128_0_384))) (ix2 r j)) = srow (brow Q r) (bmat M) 3 :=
  funext fun j => (s3_apply _ _ r j).trans (congrArg₂ sc (funext fun x => ld_q3 Q r x) (funext fun x => ld_k3 M j x))
/-- Head 3's gradients of the probabilities. -/
theorem dprow3 (r : Fin 512) : (fun j => (k0_pay11 (View.ld D (Rect.unit ![0, 384] ![512, 128] inb_S512x512_S512x128_0_384)) (View.ld M (Rect.unit ![0, 896] ![256, 128] inb_S256x1024_S256x128_0_896))) (ix2 r j)) = dprow (brow D r) (bmat M) 3 :=
  funext fun j => (dp3_apply _ _ r j).trans (Finset.sum_congr rfl fun x _ => congrArg₂ (fun a b : EReal => a * b) (ld_q3 D r x) (ld_v3 M j x))
/-- Head 3's probabilities. -/
theorem prow3 (r : Fin 512) (j : Fin 256) : (k0_pay18 (k0_pay13 (k0_pay7 (View.ld Q (Rect.unit ![0, 384] ![512, 128] inb_S512x512_S512x128_0_384)) (View.ld M (Rect.unit ![0, 384] ![256, 128] inb_S256x1024_S256x128_0_384))))) (ix2 r j) = prob (srow (brow Q r) (bmat M) 3) j :=
  (p3_apply _ r j).trans (congrArg (fun s => prob s j) (srow3 Q M r))
/-- Head 3's gradients of the scores. -/
theorem dsrow3 (r : Fin 512) (j : Fin 256) :
    (k0_pay22 (k0_pay11 (View.ld D (Rect.unit ![0, 384] ![512, 128] inb_S512x512_S512x128_0_384)) (View.ld M (Rect.unit ![0, 896] ![256, 128] inb_S256x1024_S256x128_0_896))) (k0_pay13 (k0_pay7 (View.ld Q (Rect.unit ![0, 384] ![512, 128] inb_S512x512_S512x128_0_384)) (View.ld M (Rect.unit ![0, 384] ![256, 128] inb_S256x1024_S256x128_0_384))))) (ix2 r j) = dsc (srow (brow Q r) (bmat M) 3) (dprow (brow D r) (bmat M) 3) j :=
  (ds3_apply _ _ r j).trans (congrArg₂ (fun s d => dsc s d j) (srow3 Q M r) (dprow3 M D r))

/-- The queries' gradient of a grid point, element by element. -/
theorem dqBlk_apply (r : Fin 512) (h : Fin 4) (x : Fin 128) :
    dqBlk Q M D (ix2 r (hc h x))
      = ∑ j, dsc (srow (brow Q r) (bmat M) h) (dprow (brow D r) (bmat M) h) j * bmat M j (kc h x) := by
  rw [dqBlk, cat_q]
  match h with
  | ⟨0, _⟩ => exact (dq0_apply _ _ r x).trans (Finset.sum_congr rfl fun j _ => congrArg₂ (fun a b : EReal => a * b) (dsrow0 Q M D r j) (ld_k0 M j x))
  | ⟨1, _⟩ => exact (dq1_apply _ _ r x).trans (Finset.sum_congr rfl fun j _ => congrArg₂ (fun a b : EReal => a * b) (dsrow1 Q M D r j) (ld_k1 M j x))
  | ⟨2, _⟩ => exact (dq2_apply _ _ r x).trans (Finset.sum_congr rfl fun j _ => congrArg₂ (fun a b : EReal => a * b) (dsrow2 Q M D r j) (ld_k2 M j x))
  | ⟨3, _⟩ => exact (dq3_apply _ _ r x).trans (Finset.sum_congr rfl fun j _ => congrArg₂ (fun a b : EReal => a * b) (dsrow3 Q M D r j) (ld_k3 M j x))

/-- The keys' part of a grid point's share of the memory's gradient. -/
theorem dkvBlk_k (j : Fin 256) (h : Fin 4) (x : Fin 128) :
    dkvBlk Q M D (ix2 j (kc h x))
      = ∑ r, dsc (srow (brow Q r) (bmat M) h) (dprow (brow D r) (bmat M) h) j * brow Q r (hc h x) := by
  rw [dkvBlk, cat_k]
  match h with
  | ⟨0, _⟩ => exact (dk0_apply _ _ j x).trans (Finset.sum_congr rfl fun r _ => congrArg₂ (fun a b : EReal => a * b) (dsrow0 Q M D r j) (ld_q0 Q r x))
  | ⟨1, _⟩ => exact (dk1_apply _ _ j x).trans (Finset.sum_congr rfl fun r _ => congrArg₂ (fun a b : EReal => a * b) (dsrow1 Q M D r j) (ld_q1 Q r x))
  | ⟨2, _⟩ => exact (dk2_apply _ _ j x).trans (Finset.sum_congr rfl fun r _ => congrArg₂ (fun a b : EReal => a * b) (dsrow2 Q M D r j) (ld_q2 Q r x))
  | ⟨3, _⟩ => exact (dk3_apply _ _ j x).trans (Finset.sum_congr rfl fun r _ => congrArg₂ (fun a b : EReal => a * b) (dsrow3 Q M D r j) (ld_q3 Q r x))

/-- The values' part of a grid point's share of the memory's gradient. -/
theorem dkvBlk_v (j : Fin 256) (h : Fin 4) (x : Fin 128) :
    dkvBlk Q M D (ix2 j (vc h x)) = ∑ r, prob (srow (brow Q r) (bmat M) h) j * brow D r (hc h x) := by
  rw [dkvBlk, cat_v]
  match h with
  | ⟨0, _⟩ => exact (dv0_apply _ _ j x).trans (Finset.sum_congr rfl fun r _ => congrArg₂ (fun a b : EReal => a * b) (prow0 Q M r j) (ld_q0 D r x))
  | ⟨1, _⟩ => exact (dv1_apply _ _ j x).trans (Finset.sum_congr rfl fun r _ => congrArg₂ (fun a b : EReal => a * b) (prow1 Q M r j) (ld_q1 D r x))
  | ⟨2, _⟩ => exact (dv2_apply _ _ j x).trans (Finset.sum_congr rfl fun r _ => congrArg₂ (fun a b : EReal => a * b) (prow2 Q M r j) (ld_q2 D r x))
  | ⟨3, _⟩ =>
    show (∑ r : Fin 512, k0_pay34 (k0_pay18 (k0_pay13 (k0_pay7 (View.ld Q (Rect.unit ![0, 384] ![512, 128] inb_S512x512_S512x128_0_384)) (View.ld M (Rect.unit ![0, 384] ![256, 128] inb_S256x1024_S256x128_0_384))))) (ix2 r j) * (View.ld D (Rect.unit ![0, 384] ![512, 128] inb_S512x512_S512x128_0_384)) (ix2 r x)) = _
    exact Finset.sum_congr rfl fun r _ => congrArg₂ (fun a b : EReal => a * b) ((cast3_apply _ r j).trans (prow3 Q M r j)) (ld_q3 D r x)

end Cert.KernelIdeal.Xa
-- ==== Proof.XaKernel.lean ====
module

public import proofs.«01_k».proof.Proof.XaBody

/-! What the kernel leaves in its two results: the queries' gradient in columns 9216 to 9727 of the first, whose other
columns keep what they held, and in the second the memory's gradient, summed over the grid's sixteen points. -/

@[expose] public section
set_option maxRecDepth 16384
noncomputable section
open Idealize.ShloMosaic Idealize.ShloMosaic.TcCoe Idealize.SL.Sem
open Idealize.ShloMosaic.Pipeline (Dat)
namespace Cert.KernelIdeal.Xa
open Cert.KernelIdeal Cert.KernelIdeal.Gen Cert.Xa

variable (m : (ℓ : Loc nD τ sig) → Buf (Elt Ideal) ℓ)

/-- Row `r` of the queries or of the output's gradient. -/
abbrev row (a : Vec Ideal S8192x512 .bf16) (r : Fin 8192) : Fin 512 → EReal := fun k => a (ix2 r k)

/-- The gradient of the queries as the kernel computes it. -/
def dqK (q : Vec Ideal S8192x512 .bf16) (kv : Vec Ideal S256x1024 .bf16) (o : Vec Ideal S8192x512 .bf16) (r : Fin 8192) (h : Fin 4) (x : Fin 128) : EReal :=
  ∑ j, dsc (srow (row q r) (bmat kv) h) (dprow (row o r) (bmat kv) h) j * bmat kv j (kc h x)
/-- The gradient of the keys as the kernel computes it. -/
def dkK (q : Vec Ideal S8192x512 .bf16) (kv : Vec Ideal S256x1024 .bf16) (o : Vec Ideal S8192x512 .bf16) (j : Fin 256) (h : Fin 4) (x : Fin 128) : EReal :=
  ∑ r, dsc (srow (row q r) (bmat kv) h) (dprow (row o r) (bmat kv) h) j * row q r (hc h x)
/-- The gradient of the values as the kernel computes it. -/
def dvK (q : Vec Ideal S8192x512 .bf16) (kv : Vec Ideal S256x1024 .bf16) (o : Vec Ideal S8192x512 .bf16) (j : Fin 256) (h : Fin 4) (x : Fin 128) : EReal :=
  ∑ r, prob (srow (row q r) (bmat kv) h) j * row o r (hc h x)

theorem idx0 : ∀ t : Fin cfg0.N, win0_0.index t = ![t.val, 0] ∧ win0_1.index t = ![0, 0] ∧ win0_2.index t = ![t.val, 0]
    ∧ win0_3.index t = ![t.val, 18] :=
  (by decide +kernel : ∀ t : Fin grid0.N, _)

/-- A grid point's rows of the queries are rows of the array. -/
theorem q_blk (c : Dev nD) (t : Fin cfg0.N) (r : Fin 512) (h : t.val * 512 + r.val < 8192) :
    brow (iblk m c 0 t) r = row (m ((c.tc : Thread nD τ).loc main_arg0)) ⟨t.val * 512 + r.val, h⟩ := by
  funext k
  show (show Vec Ideal S512x512 .bf16 from iblk m c 0 t) (ix2 r k) = (show Vec Ideal S8192x512 .bf16 from m ((c.tc : Thread nD τ).loc main_arg0)) (ix2 ⟨t.val * 512 + r.val, h⟩ k)
  blk_point [iblk, V, idx0 t]
theorem o_blk (c : Dev nD) (t : Fin cfg0.N) (r : Fin 512) (h : t.val * 512 + r.val < 8192) :
    brow (iblk m c 2 t) r = row (m ((c.tc : Thread nD τ).loc main_arg2)) ⟨t.val * 512 + r.val, h⟩ := by
  funext k
  show (show Vec Ideal S512x512 .bf16 from iblk m c 2 t) (ix2 r k) = (show Vec Ideal S8192x512 .bf16 from m ((c.tc : Thread nD τ).loc main_arg2)) (ix2 ⟨t.val * 512 + r.val, h⟩ k)
  blk_point [iblk, V, idx0 t]
theorem kv_blk (c : Dev nD) (t : Fin cfg0.N) :
    bmat (iblk m c 1 t) = bmat (m ((c.tc : Thread nD τ).loc main_arg1)) := by
  funext j k
  blk_point [iblk, V, idx0 t]

/-- Every grid point writes its block of the queries' gradient. -/
theorem out3 (c : Dev nD) (t : Fin cfg0.N) :
    (outsAt0 m c t.val t.isLt).1 = dqBlk (iblk m c 0 t) (iblk m c 1 t) (iblk m c 2 t) := by
  by_cases h0 : t.val % 16 = 0
  · have h1 : ¬1 ≤ t.val := by have : t.val < 16 := lt_of_lt_of_eq t.isLt N_0; omega
    rw [outsAt0_A m c t h0 h1]
    frame_out
    rfl
  · have h1 : 1 ≤ t.val := by omega
    rw [outsAt0_B m c t h0 h1]
    frame_out
    rfl
/-- The first grid point writes its part of the memory's gradient. -/
theorem out4_first (c : Dev nD) (t : Fin cfg0.N) (h0 : t.val % 16 = 0) :
    (outsAt0 m c t.val t.isLt).2 = dkvBlk (iblk m c 0 t) (iblk m c 1 t) (iblk m c 2 t) := by
  have h1 : ¬1 ≤ t.val := by have : t.val < 16 := lt_of_lt_of_eq t.isLt N_0; omega
  rw [outsAt0_A m c t h0 h1]
  frame_out
  rfl
/-- Every later grid point adds its part. -/
theorem out4_next (c : Dev nD) (t : Fin cfg0.N) (h0 : ¬t.val % 16 = 0) (i : S256x1024.Idx) :
    (outsAt0 m c t.val t.isLt).2 i
      = (outsAt0 m c (t.val - 1) (Nat.lt_of_le_of_lt (Nat.sub_le _ _) t.isLt)).2 i + dkvBlk (iblk m c 0 t) (iblk m c 1 t) (iblk m c 2 t) i := by
  have h1 : 1 ≤ t.val := by omega
  rw [outsAt0_B m c t h0 h1]
  frame_out
  exact acc_apply _ _ _ _ _ _ _ _ _ _ _ _

/-- The head of a column of the queries' gradient in the first result, and the column in the head. -/
abbrev ch (i : S8192x10240.Idx) : Fin 4 := ⟨((i 1).val / 128) % 4, Nat.mod_lt _ (by decide)⟩
abbrev cx (i : S8192x10240.Idx) : Fin 128 := ⟨(i 1).val % 128, Nat.mod_lt _ (by decide)⟩

/-- Where a point's block lies in the first result. -/
theorem emb3_0 (t : Fin cfg0.N) (y : S512x512.Idx) : ((win0_3.blk t).view.emb y 0).val = t.val * 512 + (y 0).val := by
  blk_simp [(idx0 t).2.2.2]
theorem emb3_1 (t : Fin cfg0.N) (y : S512x512.Idx) : ((win0_3.blk t).view.emb y 1).val = 18 * 512 + (y 1).val := by
  blk_simp [(idx0 t).2.2.2]
/-- The first result at a block's element. -/
theorem dqBlk_eq (c : Dev nD) (t : Fin cfg0.N) (y : S512x512.Idx) (i : S8192x10240.Idx)
    (h0 : (i 0).val = t.val * 512 + (y 0).val) (h1 : (i 1).val = 18 * 512 + (y 1).val) :
    dqBlk (iblk m c 0 t) (iblk m c 1 t) (iblk m c 2 t) y =
    dqK (m (c.tc.loc main_arg0)) (m (c.tc.loc main_arg1)) (m (c.tc.loc main_arg2)) (i 0) (ch i) (cx i) := by
  have ht : t.val < 16 := lt_of_lt_of_eq t.isLt N_0
  have hy0 : (y 0).val < 512 := (y 0).isLt
  have hy1 : (y 1).val < 512 := (y 1).isLt
  have hb : t.val * 512 + (y 0).val < 8192 := by omega
  have hy : y = ix2 (⟨(y 0).val, hy0⟩ : Fin 512) (hc (ch i) (cx i)) := by
    funext a
    apply Fin.ext
    match a with
    | ⟨0, _⟩ => rfl
    | ⟨1, _⟩ => show (y 1).val = (i 1).val / 128 % 4 * 128 + (i 1).val % 128; omega
  have hi : (⟨t.val * 512 + (y 0).val, hb⟩ : Fin 8192) = i 0 := Fin.ext h0.symm
  rw [hy, dqBlk_apply, kv_blk, q_blk m c t (⟨(y 0).val, hy0⟩ : Fin 512) hb, o_blk m c t (⟨(y 0).val, hy0⟩ : Fin 512) hb, hi]
  rfl

/-- The first result after the run. -/
theorem final3 (c : Dev nD) : (dats m 0 c).arrAt 3 cfg0.N
    = fun i => if (i 1).val / 512 = 18 then
        dqK (m ((c.tc : Thread nD τ).loc main_arg0)) (m ((c.tc : Thread nD τ).loc main_arg1)) (m ((c.tc : Thread nD τ).loc main_arg2))
          (i 0) (ch i) (cx i)
      else m ((c.tc : Thread nD τ).loc main_arg3) i := by
  refine (dats m 0 c).arrAt_eq_of_coversWhere 3 _ (fun β => β 1 = 18) (by decide +kernel) (fun t hf y => ?_)
    (fun j => by blk_simp [Pipeline.Window.cell_apply])
  blk_simp
  rw [after0_3, out3]
  exact dqBlk_eq m c t y _ (emb3_0 t y) (emb3_1 t y)

/-- The second result after the run. -/
theorem final4 (c : Dev nD) : (dats m 0 c).arrAt 4 cfg0.N
    = fun i => ∑ t : Fin cfg0.N, dkvBlk (iblk m c 0 t) (iblk m c 1 t) (iblk m c 2 t) i := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun t j => dkvBlk (iblk m c 0 t) (iblk m c 1 t) (iblk m c 2 t) j)
    (fun t h j => by rw [out4_first m c t h, zero_add])
    (fun t h j => out4_next m c t h j)
    (le_of_eq N_0) t0_15 rfl j, zero_add]

/-- The keys' gradient: the points' parts are the rows of the array. -/
theorem final4_k (c : Dev nD) (j : Fin 256) (h : Fin 4) (x : Fin 128) :
    ∑ t : Fin cfg0.N, dkvBlk (iblk m c 0 t) (iblk m c 1 t) (iblk m c 2 t) (ix2 j (kc h x))
      = dkK (m (c.tc.loc main_arg0)) (m (c.tc.loc main_arg1)) (m (c.tc.loc main_arg2)) j h x := by
  simp only [dkvBlk_k]
  rw [dkK]
  refine Fin.sum_mul_add_congr fun t r hb => ?_
  rw [kv_blk, q_blk m c t _ hb, o_blk m c t _ hb]
/-- The values' gradient likewise. -/
theorem final4_v (c : Dev nD) (j : Fin 256) (h : Fin 4) (x : Fin 128) :
    ∑ t : Fin cfg0.N, dkvBlk (iblk m c 0 t) (iblk m c 1 t) (iblk m c 2 t) (ix2 j (vc h x))
      = dvK (m (c.tc.loc main_arg0)) (m (c.tc.loc main_arg1)) (m (c.tc.loc main_arg2)) j h x := by
  simp only [dkvBlk_v]
  rw [dvK]
  refine Fin.sum_mul_add_congr fun t r hb => ?_
  rw [kv_blk, q_blk m c t _ hb, o_blk m c t _ hb]
end Cert.KernelIdeal.Xa
-- ==== Proof.XaRef.lean ====
module

public import proofs.«01_k».proof.Proof.Gen.ReferenceIdeal.Read
public import proofs.«01_k».proof.Proof.XaMath
public import Idealize.ShloMosaic.Lib.Pipeline.ValueKit

/-! The reference, the derivative of the cross-attention's forward lines, read at an index. -/

@[expose] public section
set_option maxRecDepth 16384
noncomputable section
open Idealize.ShloMosaic Idealize.ShloMosaic.TcCoe Idealize.SL.Sem
namespace Cert.ReferenceIdeal.Xa
open Cert.ReferenceIdeal Cert.ReferenceIdeal.Gen Cert.ReferenceIdeal.Read Cert.Xa

variable (q : Vec Ideal S8192x512 .bf16) (kv : Vec Ideal S256x1024 .bf16) (o : Vec Ideal S8192x512 .bf16)

/-- Row `r` of the queries or of the output's gradient. -/
abbrev row (a : Vec Ideal S8192x512 .bf16) (r : Fin 8192) : Fin 512 → EReal := fun k => a (ix2 r k)
/-- The memory's array by row and column. -/
abbrev mat (a : Vec Ideal S256x1024 .bf16) : Fin 256 → Fin 1024 → EReal := fun j k => a (ix2 j k)

theorem s_apply (h : Fin 4) (r : Fin 8192) (j : Fin 256) :
    val_main_v13 q kv (ix4 0 h r j) = srow (row q r) (mat kv) h j := by
  pointwise [val_main_v13, val_main_v12,val_main_cst, val_main_v11, val_main_v6, val_main_v9, val_main_v7,  val_main_v3, val_main_v2, val_main_v1,  val_main_v0]
  rfl
theorem fold_apply (h : Fin 4) (r : Fin 8192) :
    val_main_v14 q kv (ix3 0 h r) = mx (srow (row q r) (mat kv) h) := by
  pointwise [val_main_v14]
  simp only [s_apply]
  rfl
theorem mx_apply (h : Fin 4) (r : Fin 8192) :
    val_main_v21 q kv (ix3 0 h r) = mx (srow (row q r) (mat kv) h) := by
  rw [val_main_v21_apply, val_main_v20_apply, val_main_cst_2_apply, fold_apply]
  exact max_mx _
theorem ex_apply (h : Fin 4) (r : Fin 8192) (j : Fin 256) :
    val_main_v34 q kv (ix4 0 h r j) = ex (srow (row q r) (mat kv) h) j := by
  pointwise [val_main_v34, val_main_v33, val_main_v32, val_main_v31]
  rw [s_apply, mx_apply]; rfl
theorem sum_apply (h : Fin 4) (r : Fin 8192) :
    val_main_v35 q kv (ix3 0 h r) = ∑ x, ex (srow (row q r) (mat kv) h) x := by
  pointwise [val_main_v35, val_main_cst_8]
  simp only [ex_apply]
theorem prob_apply (h : Fin 4) (r : Fin 8192) (j : Fin 256) :
    val_main_v38 q kv (ix4 0 h r j) = probR (srow (row q r) (mat kv) h) j := by
  pointwise [val_main_v38, val_main_v37, val_main_v36]
  rw [ex_apply, sum_apply]; rfl
theorem dp_apply (h : Fin 4) (r : Fin 8192) (j : Fin 256) :
    val_main_v47 kv o (ix4 0 h r j) = dprow (row o r) (mat kv) h j := by
  pointwise [val_main_v47, val_main_v46, val_main_v45, val_main_v10, val_main_v8, val_main_v5, val_main_v4, val_main_v3, val_main_v2]
  rfl
theorem neg_apply (h : Fin 4) (r : Fin 8192) :
    val_main_v55 q kv o (ix4 0 h r 0) = -(∑ x, dprow (row o r) (mat kv) h x
      * Ideal.div 1 ((∑ x, ex (srow (row q r) (mat kv) h) x) * (∑ x, ex (srow (row q r) (mat kv) h) x))
      * ex (srow (row q r) (mat kv) h) x) := by
  pointwise [val_main_v55, val_main_v54, val_main_v53, val_main_v52, val_main_v51, val_main_v50, val_main_v41, val_main_v40, val_main_v39, val_main_cst_10, val_main_cst_9, val_main_v42, val_main_v36]
  simp only [dp_apply, sum_apply, ex_apply]
/-- A sum over two axes of size one is the element. -/
theorem drop_apply (h : Fin 4) (r : Fin 8192) :
    val_main_v58 q kv o (ix2 h r) = val_main_v55 q kv o (ix4 0 h r 0) := by
  pointwise [val_main_v58, val_main_cst_11]
  generalize val_main_v55 q kv o = y
  rw [Ideal.hostReduceAdd, zero_add]
  have hf : (Finset.univ.filter fun i => reducesTo_S1x4x8192x1_S4x8192_d0_3.drop i = ix2 h r) = {ix4 0 h r 0} := by
    ext i
    simp only [Finset.mem_filter, Finset.mem_univ, true_and, Finset.mem_singleton]
    constructor
    · intro hi
      have h0 : (i 1).val = h.val := congrArg Fin.val (congrFun hi 0)
      have h1 : (i 2).val = r.val := congrArg Fin.val (congrFun hi 1)
      funext a
      apply Fin.ext
      match a with
      | ⟨0, _⟩ => have := (i 0).isLt; exact Nat.lt_one_iff.1 this
      | ⟨1, _⟩ => exact h0
      | ⟨2, _⟩ => exact h1
      | ⟨3, _⟩ => have := (i 3).isLt; exact Nat.lt_one_iff.1 this
    · rintro rfl
      funext a
      match a with
      | ⟨0, _⟩ => rfl
      | ⟨1, _⟩ => rfl
  rw [hf, Finset.sum_singleton]
theorem ds_apply (h : Fin 4) (r : Fin 8192) (j : Fin 256) :
    val_main_v64 q kv o (ix4 0 h r j) = dscR (srow (row q r) (mat kv) h) (dprow (row o r) (mat kv) h) j := by
  pointwise [val_main_v64, val_main_v63, val_main_v62, val_main_v61, val_main_v60, val_main_v59, val_main_v57, val_main_v56, val_main_v36, val_main_cst_12]
  rw [drop_apply, neg_apply, dp_apply, ex_apply, sum_apply]
  rfl
/-- The gradient of the queries. -/
theorem dq_apply (h : Fin 4) (r : Fin 8192) (x : Fin 128) :
    val_main_v75 q kv o (ix2 r (hc h x))
      = ∑ j, dscR (srow (row q r) (mat kv) h) (dprow (row o r) (mat kv) h) j * mat kv j (kc h x) := by
  pointwise [val_main_v75, val_main_v74, val_main_v72, val_main_v68, val_main_v67]
  simp only [hc_div, hc_mod, ds_apply]
  refine Finset.sum_congr rfl fun j _ => ?_
  pointwise [val_main_v9, val_main_v7, val_main_v3, val_main_v2]
  rfl
/-- The gradient of the keys. -/
theorem dk_apply (h : Fin 4) (j : Fin 256) (x : Fin 128) :
    val_main_v78 q kv o (ix2 j (kc h x))
      = ∑ r, dscR (srow (row q r) (mat kv) h) (dprow (row o r) (mat kv) h) j * row q r (hc h x) := by
  pointwise [val_main_v78, val_main_v71, val_main_v70, val_main_v66, val_main_v65]
  rw [dif_pos (kc_lt h x)]
  simp only [kc_div, kc_mod, ds_apply]
  refine Finset.sum_congr rfl fun r _ => ?_
  pointwise [val_main_v6, val_main_v1, val_main_v0]
  rfl
/-- The gradient of the values. -/
theorem dv_apply (h : Fin 4) (j : Fin 256) (x : Fin 128) :
    val_main_v78 q kv o (ix2 j (vc h x))
      = ∑ r, probR (srow (row q r) (mat kv) h) j * row o r (hc h x) := by
  pointwise [val_main_v78, val_main_v71, val_main_v69, val_main_v49, val_main_v48]
  rw [dif_neg (vc_not_lt h x)]
  simp only [vc_div, vc_mod, prob_apply]
  refine Finset.sum_congr rfl fun r _ => ?_
  rw [mul_comm]
  pointwise [val_main_v46, val_main_v45, val_main_v5, val_main_v4]
  rfl
end Cert.ReferenceIdeal.Xa
-- ==== Proof.XaEq.lean ====
module

public import proofs.«01_k».proof.Proof.XaKernel
public import proofs.«01_k».proof.Proof.XaRef
public import proofs.«01_k».proof.Proof.Gen.Pre_xa_finite
public import proofs.«01_k».proof.Pre_xa_finite
public import Idealize.ShloMosaic.Lib.ReduceAll

/-! The kernel's results are the reference's, where the queries and the memory's keys are finite. -/

@[expose] public section
set_option maxRecDepth 16384
noncomputable section
open Idealize.ShloMosaic Idealize.ShloMosaic.TcCoe Idealize.SL.Sem
namespace Cert.XaEq
open Cert.Xa
open Cert.ReferenceIdeal (S8192x512 S256x1024 S8192x10240)
open Cert.ReferenceIdeal.Read

/-- A number whose absolute value is below infinity is real. -/
theorem real_of_lt (x : EReal) (h : max x (-x) < ⊤) : ∃ r : ℝ, x = r := by
  induction x using EReal.rec with
  | bot => simp at h
  | coe r => exact ⟨r, rfl⟩
  | top => simp at h

theorem inf_eq : Ideal.ofBits .f32 0x7F800000#32 = ⊤ := by simp [Ideal.ofBits, Ideal.ieee]

/-- A comparison `|x| < inf` that holds says that `x` is real. -/
theorem real_of_cmp {s : Shape} (x y : FVec Ideal s .f32) (i : s.Idx) (hy : y i = ⊤) (h : cmpf .olt (Host.absf x) y i = 1#1) :
    ∃ r : ℝ, x i = (r : EReal) := by
  refine real_of_lt (x i) ?_
  have h' : BitVec.ofBool (decide (max (x i) (-(x i)) < y i)) = 1#1 := h
  rw [hy] at h'
  by_contra hn
  rw [decide_eq_false hn] at h'
  exact absurd h' (by decide)

variable (q : Vec Ideal S8192x512 .bf16) (kv : Vec Ideal S256x1024 .bf16) (o : Vec Ideal S8192x512 .bf16) (dp : Vec Ideal S8192x10240 .bf16)

/-- The precondition says that the queries and the keys are real. -/
theorem pre_real [Cert.Pre_xa_finite.Facts] (h : Cert.Pre_xa_finite.fn (F := Ideal) q kv o dp = fun _ => 1#1) :
    (∀ r k, ∃ x : ℝ, q (ix2 r k) = (x : EReal)) ∧ (∀ j h x, ∃ y : ℝ, kv (ix2 j (kc h x)) = (y : EReal)) := by
  have hs : Subsingleton Cert.Pre_xa_finite.S_.Idx := ⟨fun a b => funext fun i => i.elim0⟩
  have h0 := congrFun h (fun i => i.elim0)
  dsimp only [Cert.Pre_xa_finite.fn] at h0
  obtain ⟨h1, h2⟩ := IntOp.andi_eq_one.1 h0
  refine ⟨fun r k => ?_, fun j h x => ?_⟩
  · exact real_of_cmp _ _ (ix2 r k) inf_eq (Host.reduce_andi_all _ _ _ _ _ h1 (ix2 r k))
  · obtain ⟨y, hy⟩ := real_of_cmp _ _ (ix2 j ⟨(kc h x).val, kc_lt h x⟩) inf_eq (Host.reduce_andi_all _ _ _ _ _ h2 (ix2 j ⟨(kc h x).val, kc_lt h x⟩))
    refine ⟨y, Eq.trans (congrArg kv ?_) hy⟩
    funext a
    refine Fin.ext ?_
    match a with
    | 0 => exact (Nat.zero_add _).symm
    | 1 => exact (Nat.zero_add _).symm

/-- The queries' gradient of the kernel is the reference's. -/
theorem dq_eq (hq : ∀ r k, ∃ x : ℝ, q (ix2 r k) = (x : EReal)) (hk : ∀ j h x, ∃ y : ℝ, kv (ix2 j (kc h x)) = (y : EReal))
    (r : Fin 8192) (h : Fin 4) (x : Fin 128) :
    Cert.KernelIdeal.Xa.dqK q kv o r h x = val_main_v75 q kv o (ix2 r (hc h x)) := by
  rw [Cert.ReferenceIdeal.Xa.dq_apply]
  exact Finset.sum_congr rfl fun j _ => congrArg (· * kv (ix2 j (kc h x))) (dsc_row _ _ h _ j (fun x => hq r x) (fun j x => hk j h x))

/-- The keys' gradient of the kernel is the reference's. -/
theorem dk_eq (hq : ∀ r k, ∃ x : ℝ, q (ix2 r k) = (x : EReal)) (hk : ∀ j h x, ∃ y : ℝ, kv (ix2 j (kc h x)) = (y : EReal))
    (j : Fin 256) (h : Fin 4) (x : Fin 128) :
    Cert.KernelIdeal.Xa.dkK q kv o j h x = val_main_v78 q kv o (ix2 j (kc h x)) := by
  rw [Cert.ReferenceIdeal.Xa.dk_apply]
  exact Finset.sum_congr rfl fun r _ => congrArg (· * q (ix2 r (hc h x))) (dsc_row _ _ h _ j (fun x => hq r x) (fun j x => hk j h x))

/-- The values' gradient of the kernel is the reference's. -/
theorem dv_eq (hq : ∀ r k, ∃ x : ℝ, q (ix2 r k) = (x : EReal)) (hk : ∀ j h x, ∃ y : ℝ, kv (ix2 j (kc h x)) = (y : EReal))
    (j : Fin 256) (h : Fin 4) (x : Fin 128) :
    Cert.KernelIdeal.Xa.dvK q kv o j h x = val_main_v78 q kv o (ix2 j (vc h x)) := by
  rw [Cert.ReferenceIdeal.Xa.dv_apply]
  exact Finset.sum_congr rfl fun r _ => congrArg (· * o (ix2 r (hc h x))) (prob_row _ _ h j (fun x => hq r x) (fun j x => hk j h x))

/-- The reference's first result, by column. -/
theorem ref0 (r : Fin 8192) (c : Fin 10240) : val_main_v77 q kv o dp (ix2 r c)
    = if h : c.val / 512 = 18 then val_main_v75 q kv o (ix2 r ⟨c.val % 512, Nat.mod_lt _ (by decide)⟩) else dp (ix2 r c) := by
  have e : ∀ (a b : Fin 10240), a.val = b.val → dp (ix2 r a) = dp (ix2 r b) := fun a b h => by rw [Fin.ext h]
  have e2 : ∀ (a b : Fin 512), a.val = b.val → val_main_v75 q kv o (ix2 r a) = val_main_v75 q kv o (ix2 r b) := fun a b h => by rw [Fin.ext h]
  pointwise [val_main_v77, val_main_v73, val_main_v76]
  by_cases h1 : c.val < 9216
  · rw [dif_pos h1, dif_neg (by omega)]
  · by_cases h2 : c.val - 9216 < 512
    · rw [dif_neg h1, dif_pos h2, dif_pos (by omega)]
      exact e2 _ _ (show c.val - 9216 = c.val % 512 by omega)
    · rw [dif_neg h1, dif_neg h2, dif_neg (by omega)]
      exact e _ _ (show 9728 + (c.val - 9216 - 512) = c.val by omega)

/-- The memory's columns are the keys' and then the values'. -/
theorem col_cases (p : Fin 1024 → Prop) (hk : ∀ h x, p (kc h x)) (hv : ∀ h x, p (vc h x)) (c : Fin 1024) : p c := by
  by_cases h : c.val < 512
  · have := hk ⟨c.val / 128, by omega⟩ ⟨c.val % 128, by omega⟩
    rwa [show kc ⟨c.val / 128, by omega⟩ ⟨c.val % 128, by omega⟩ = c from Fin.ext (by simp only [kc]; omega)] at this
  · have := hv ⟨(c.val - 512) / 128, by omega⟩ ⟨c.val % 128, by omega⟩
    rwa [show vc ⟨(c.val - 512) / 128, by omega⟩ ⟨c.val % 128, by omega⟩ = c from Fin.ext (by simp only [vc]; omega)] at this

open Cert.KernelIdeal Cert.KernelIdeal.Gen in
/-- What the kernel leaves in its first result is the reference's. -/
theorem result0 [Cert.Pre_xa_finite.Facts] (m : (ℓ : Loc nD τ sig) → Buf (Elt Ideal) ℓ) (c : Dev nD)
    (h : Cert.Pre_xa_finite.fn (F := Ideal) (m (c.tc.loc main_arg0)) (m (c.tc.loc main_arg1)) (m (c.tc.loc main_arg2)) (m (c.tc.loc main_arg3)) = fun _ => 1#1) :
    (dats m 0 c).arrAt 3 cfg0.N = val_main_v77 (F := Ideal) (m (c.tc.loc main_arg0)) (m (c.tc.loc main_arg1)) (m (c.tc.loc main_arg2)) (m (c.tc.loc main_arg3)) := by
  obtain ⟨hq, hk⟩ := pre_real _ _ _ _ h
  rw [Cert.KernelIdeal.Xa.final3]
  funext i
  rw [show i = ix2 (i 0) (i 1) from eq_ix2 i]
  generalize i 0 = r, i 1 = k
  refine Eq.trans ?_ (ref0 _ _ _ _ r k).symm
  show (if k.val / 512 = 18 then _ else _) = _
  split_ifs with hc18
  · refine (dq_eq _ _ _ hq hk _ _ _).trans (congrArg (fun k => val_main_v75 _ _ _ (ix2 r k)) (Fin.ext ?_))
    show (k.val / 128 % 4) * 128 + k.val % 128 = k.val % 512
    omega
  · rfl

open Cert.KernelIdeal Cert.KernelIdeal.Gen in
/-- What the kernel leaves in its second result is the reference's. -/
theorem result1 [Cert.Pre_xa_finite.Facts] (m : (ℓ : Loc nD τ sig) → Buf (Elt Ideal) ℓ) (c : Dev nD)
    (h : Cert.Pre_xa_finite.fn (F := Ideal) (m (c.tc.loc main_arg0)) (m (c.tc.loc main_arg1)) (m (c.tc.loc main_arg2)) (m (c.tc.loc main_arg3)) = fun _ => 1#1) :
    (dats m 0 c).arrAt 4 cfg0.N = val_main_v78 (F := Ideal) (m (c.tc.loc main_arg0)) (m (c.tc.loc main_arg1)) (m (c.tc.loc main_arg2)) := by
  obtain ⟨hq, hk⟩ := pre_real _ _ _ _ h
  rw [Cert.KernelIdeal.Xa.final4]
  funext i
  rw [show i = ix2 (i 0) (i 1) from eq_ix2 i]
  generalize i 0 = r, i 1 = k
  revert k
  refine col_cases _ (fun h x => ?_) (fun h x => ?_)
  · exact (Cert.KernelIdeal.Xa.final4_k m c r h x).trans (dk_eq _ _ _ hq hk r h x)
  · exact (Cert.KernelIdeal.Xa.final4_v m c r h x).trans (dv_eq _ _ _ hq hk r h x)
end Cert.XaEq
-- ==== Proof.MlpX.lean ====
module

public import proofs.«01_k».proof.Proof.Gen.MlpXKernelIdeal.Value
public import proofs.«01_k».proof.Proof.Gen.MlpXReferenceIdeal.Read
public import Idealize.ShloMosaic.Lib.Pipeline.ValueKit
public import Idealize.ShloMosaic.Lib.Pipeline.ReadBack
public import Idealize.ShloMosaic.Lib.Claim

/-! The squared-ReLU layer's gradient by its input: the kernel's blocked product, summed over four steps of 2048
hidden columns in a scratch, is the reference's product over all 8192. -/

@[expose] public section
set_option maxRecDepth 16384
noncomputable section
open Idealize.ShloMosaic Idealize.ShloMosaic.TcCoe Idealize.SL.Sem
open Idealize.ShloMosaic.Pipeline (Dat)
namespace Cert.MlpX
open Cert.MlpXKernelIdeal Cert.MlpXKernelIdeal.Gen

variable (m : (ℓ : Loc nD τ sig) → Buf (Elt Ideal) ℓ)

theorem idx0 : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The product of two blocks at an element. -/
theorem part_apply (a : Vec Ideal S1024x2048 .bf16) (b : Vec Ideal S1x1024x2048 .bf16) (r c : Fin 1024) :
    k0_pay1 (F := Ideal) a b (ix2 r c) = ∑ k : Fin 2048, a (ix2 r k) * b (ix3 0 c k) := by
  pointwise [k0_pay1]

theorem first_eq (a : Vec Ideal S1024x2048 .bf16) (b : Vec Ideal S1x1024x2048 .bf16) :
    k0_pay2 (F := Ideal) a b = k0_pay1 (F := Ideal) a b := shapeCast_self _ _
theorem next_apply (a : Vec Ideal S1024x2048 .bf16) (b : Vec Ideal S1x1024x2048 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S1024x2048 .bf16) (b : Vec Ideal S1x1024x2048 .bf16) (s : Vec Ideal S1024x1024 .f32)
    (i : S1024x1024.Idx) : k0_pay4 (F := Ideal) a b s i = s i + k0_pay1 (F := Ideal) a b i := rfl

/-- What the running sum is after point `n`: the result's block at the last step of a block, the scratch before. -/
def acc (c : Dev nD) (n : ℕ) (h : n < cfg0.N) : Vec Ideal S1024x1024 .f32 :=
  if n % 4 = 3 then (outsAt0 m c n h).1 else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3, outsAt0_C m c t h (by omega) h3]
    frame_out
    rw [read_unread_whole]
    exact last_apply _ _ _ _
  · rw [if_neg h3, outsAt0_B m c t h (by omega) h3]
    frame_out
    rw [read_unread_whole]
    exact next_apply _ _ _ _

/-- The kernel's result at an element: the sum over the four steps. -/
theorem result (c : Dev nD) : (dats m 0 c).arrAt 2 cfg0.N
    = fun i => ∑ k : Fin 8192, (show Vec Ideal S8192x8192 .bf16 from V m c main_v26) (ix2 (i 0) k)
        * (show Vec Ideal S4x2048x2048 .bf16 from m ((c.tc : Thread nD τ).loc main_arg1)) (ix3 ⟨k.val / 2048, by omega⟩ (i 1) ⟨k.val % 2048, by omega⟩) := by
  refine (dats m 0 c).arrAt_eq_of_covers 2 _ (by decide +kernel) fun t hf y => ?_
  have h3 : t.val % 4 = 3 := (flush0_2 t).mp hf
  blk_simp
  rw [after0_2]
  have e : (outsAt0 m c t.val t.isLt).1 y = acc m c t.val t.isLt y := by rw [acc, if_pos h3]
  rw [e, Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h3 y, zero_add]
  obtain ⟨r, x, rfl⟩ : ∃ r x : Fin 1024, y = ix2 r x := ⟨y 0, y 1, eq_ix2 y⟩
  simp only [part_apply]
  refine Fin.sum_mul_add_congr fun s k hl => ?_
  have ht : t.val < 64 := lt_of_lt_of_eq t.isLt N_0
  blk_point [iblk, V, idx0 t, idx0 ⟨_, Pipeline.run_point_lt_of_flush t h3 s⟩]

open Cert.MlpXReferenceIdeal.Read in
/-- The product's left operand, computed before the launch, is the reference's gradient by the pre-activation. -/
theorem du_eq (c : Dev nD) : V m c main_v26 = val_main_v27 (F := Ideal) (m ((c.tc : Thread nD τ).loc main_arg0))
    (m ((c.tc : Thread nD τ).loc main_arg1)) (m ((c.tc : Thread nD τ).loc main_arg2)) (m ((c.tc : Thread nD τ).loc main_arg3)) := by
  entry_read
  rfl

open Cert.MlpXReferenceIdeal.Read in
/-- The weight's four column shards side by side. -/
theorem w_apply (w : Vec Ideal S4x2048x2048 .bf16) (r : Fin 2048) (k : Fin 8192) :
    val_main_v12 (F := Ideal) w (ix2 r k) = w (ix3 ⟨k.val / 2048, by omega⟩ r ⟨k.val % 2048, by omega⟩) := by
  pointwise [val_main_v12, val_main_v11, val_main_v10, val_main_v9, val_main_v8, val_main_v7, val_main_v6, val_main_v5, val_main_v4, val_main_v1]
  have e : ∀ (a a' : Fin 4) (b b' : Fin 2048), a.val = a'.val → b.val = b'.val → w (ix3 a r b) = w (ix3 a' r b') := by
    intro a a' b b' h h'; rw [Fin.ext h, Fin.ext h']
  have hk := k.isLt
  by_cases h0 : k.val < 2048
  · rw [dif_pos h0]
    exact e _ _ _ _ (show 0 = k.val / 2048 by omega) (show k.val = k.val % 2048 by omega)
  rw [dif_neg h0]
  by_cases h1 : k.val - 2048 < 2048
  · rw [dif_pos h1]
    exact e _ _ _ _ (show 1 = k.val / 2048 by omega) (show k.val - 2048 = k.val % 2048 by omega)
  rw [dif_neg h1]
  by_cases h2 : k.val - 2048 - 2048 < 2048
  · rw [dif_pos h2]
    exact e _ _ _ _ (show 2 = k.val / 2048 by omega) (show k.val - 2048 - 2048 = k.val % 2048 by omega)
  rw [dif_neg h2]
  exact e _ _ _ _ (show 3 = k.val / 2048 by omega) (show k.val - 2048 - 2048 - 2048 = k.val % 2048 by omega)

open Cert.MlpXReferenceIdeal.Read in
/-- The kernel's result is the reference's. -/
theorem result_eq (c : Dev nD) : (dats m 0 c).arrAt 2 cfg0.N = val_main_v30 (F := Ideal) (m ((c.tc : Thread nD τ).loc main_arg0))
    (m ((c.tc : Thread nD τ).loc main_arg1)) (m ((c.tc : Thread nD τ).loc main_arg2)) (m ((c.tc : Thread nD τ).loc main_arg3)) := by
  rw [result]
  funext i
  rw [du_eq]
  refine Eq.trans ?_ (val_main_v30_apply _ _ _ _ i).symm
  refine Finset.sum_congr rfl fun k _ => ?_
  rw [show ridx_main_v30 i k = ix2 (i 1) k from eq_ix2 _, show lidx_main_v30 i k = ix2 (i 0) k from eq_ix2 _]
  exact congrArg (_ * ·) (w_apply _ (i 1) k).symm
end Cert.MlpX
-- ==== Proof.MlpWin.lean ====
module

public import proofs.«01_k».proof.Proof.Gen.MlpWinKernelIdeal.Value
public import proofs.«01_k».proof.Proof.Gen.MlpWinReferenceIdeal.Read
public import Idealize.ShloMosaic.Lib.Pipeline.ValueKit
public import Idealize.ShloMosaic.Lib.Pipeline.ReadBack
public import Idealize.ShloMosaic.Lib.Claim

/-! The squared-ReLU layer's gradient by its first weight, in its four column shards: the kernel's product of
the transposed input with the pre-activation's gradient, summed over four steps of 2048 tokens, is the reference's. -/

@[expose] public section
set_option maxRecDepth 16384
noncomputable section
open Idealize.ShloMosaic Idealize.ShloMosaic.TcCoe Idealize.SL.Sem
open Idealize.ShloMosaic.Pipeline (Dat)
namespace Cert.MlpWin
open Cert.MlpWinKernelIdeal Cert.MlpWinKernelIdeal.Gen

variable (m : (ℓ : Loc nD τ sig) → Buf (Elt Ideal) ℓ)

theorem idx0 : ∀ t : Fin cfg0.N, win0_0.index t = ![t.val % 4, t.val / 32] ∧ win0_1.index t = ![t.val % 4, t.val / 4 % 8]
    ∧ win0_2.index t = ![t.val / 8 % 4, t.val / 32, t.val / 4 % 2] :=
  (by decide +kernel : ∀ t : Fin grid0.N, _)

/-- The product of two blocks at an element. -/
theorem part_apply (a : Vec Ideal S2048x1024 .bf16) (b : Vec Ideal S2048x1024 .bf16) (r c : Fin 1024) :
    k0_pay1 (F := Ideal) a b (ix2 r c) = ∑ k : Fin 2048, a (ix2 k r) * b (ix2 k c) := by
  pointwise [k0_pay1]

theorem first_eq (a : Vec Ideal S2048x1024 .bf16) (b : Vec Ideal S2048x1024 .bf16) :
    k0_pay2 (F := Ideal) a b = k0_pay1 (F := Ideal) a b := shapeCast_self _ _
theorem next_apply (a : Vec Ideal S2048x1024 .bf16) (b : Vec Ideal S2048x1024 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S2048x1024 .bf16) (b : Vec Ideal S2048x1024 .bf16) (s : Vec Ideal S1024x1024 .f32)
    (r x : Fin 1024) : k0_pay4 (F := Ideal) a b s (ix3 0 r x) = s (ix2 r x) + k0_pay1 (F := Ideal) a b (ix2 r x) := by
  pointwise [k0_pay4]

/-- The running sum after point `n`: the scratch, and at a block's last step the scratch's contents with that
step's product added. -/
def acc (c : Dev nD) (n : ℕ) (h : n < cfg0.N) : Vec Ideal S1024x1024 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _

/-- The sum at a block's last point is the sum of the steps' products. -/
theorem acc_last (c : Dev nD) (t : Fin cfg0.N) (h : t.val % 4 = 3) (i : S1024x1024.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the sum over the tokens. -/
theorem result (c : Dev nD) : (dats m 0 c).arrAt 2 cfg0.N
    = fun i => ∑ k : Fin 8192, (show Vec Ideal S8192x2048 .bf16 from m ((c.tc : Thread nD τ).loc main_arg0)) (ix2 k (i 1))
        * (show Vec Ideal S8192x8192 .bf16 from V m c main_v26) (ix2 k ⟨(i 0).val * 2048 + (i 2).val, by
            have h0 : (i 0).val < 4 := (i 0).isLt
            have h2 : (i 2).val < 2048 := (i 2).isLt
            omega⟩) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ r x : Fin 1024, y = ix3 0 r x := ⟨y 1, y 2, by
    rw [show (0 : Fin 1) = y 0 from Subsingleton.elim (α := Fin 1) _ _]; exact eq_ix3 y⟩
  have e : (outsAt0 m c t.val t.isLt).1 (ix3 0 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 64 := lt_of_lt_of_eq t.isLt N_0
  blk_point [iblk, V, idx0 t, idx0 ⟨_, Pipeline.run_point_lt_of_flush t h3 s⟩]

open Cert.MlpWinReferenceIdeal.Read in
/-- The pre-activation's gradient, computed before the launch, is the reference's. -/
theorem du_eq (c : Dev nD) : V m c main_v26 = val_main_v27 (F := Ideal) (m ((c.tc : Thread nD τ).loc main_arg0)) (m ((c.tc : Thread nD τ).loc main_arg1)) (m ((c.tc : Thread nD τ).loc main_arg2)) (m ((c.tc : Thread nD τ).loc main_arg3)) := by
  entry_read
  rfl

open Cert.MlpWinReferenceIdeal.Read in
/-- The reference's product, transposed. -/
theorem t_apply (x0 : Vec Ideal S8192x2048 .bf16) (x1 : Vec Ideal S4x2048x2048 .bf16) (x2 x3 : Vec Ideal S8192x2048 .bf16)
    (r : Fin 2048) (x : Fin 8192) : val_main_v29 (F := Ideal) x0 x1 x2 x3 (ix2 r x) = val_main_v28 (F := Ideal) x0 x1 x2 x3 (ix2 x r) := by
  pointwise [val_main_v29]

open Cert.MlpWinReferenceIdeal.Read in
/-- The reference's four shards, each placed at its own index and added, are the four column blocks. -/
theorem shards_apply (x0 : Vec Ideal S8192x2048 .bf16) (x1 : Vec Ideal S4x2048x2048 .bf16) (x2 x3 : Vec Ideal S8192x2048 .bf16)
    (s : Fin 4) (r x : Fin 2048) : val_main_v46 (F := Ideal) x0 x1 x2 x3 (ix3 s r x)
      = val_main_v29 (F := Ideal) x0 x1 x2 x3 (ix2 r ⟨s.val * 2048 + x.val, by omega⟩) := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_cst_3, val_main_cst_4, val_main_cst_5, val_main_cst_6]
  have e : ∀ k k' : Fin 8192, k.val = k'.val → val_main_v29 (F := Ideal) x0 x1 x2 x3 (ix2 r k) = val_main_v29 (F := Ideal) x0 x1 x2 x3 (ix2 r k') := by
    intro k k' h; rw [Fin.ext h]
  have hs : s.val = 0 ∨ s.val = 1 ∨ s.val = 2 ∨ s.val = 3 := by omega
  rcases hs with h | h | h | h
  · rw [dif_neg (by omega), dif_neg (by omega), dif_neg (by omega), dif_pos (by omega), zero_add, zero_add, zero_add]
    exact e _ _ (show x.val = s.val * 2048 + x.val by omega)
  · rw [dif_neg (by omega), dif_neg (by omega), dif_pos (by omega), dif_neg (by omega), zero_add, zero_add, add_zero]
    exact e _ _ (show 2048 + x.val = s.val * 2048 + x.val by omega)
  · rw [dif_neg (by omega), dif_pos (by omega), dif_neg (by omega), dif_neg (by omega), zero_add, add_zero, add_zero]
    exact e _ _ (show 4096 + x.val = s.val * 2048 + x.val by omega)
  · rw [dif_pos (by omega), dif_neg (by omega), dif_neg (by omega), dif_neg (by omega), add_zero, add_zero, add_zero]
    exact e _ _ (show 6144 + x.val = s.val * 2048 + x.val by omega)

open Cert.MlpWinReferenceIdeal.Read in
/-- The kernel's result is the reference's. -/
theorem result_eq (c : Dev nD) : (dats m 0 c).arrAt 2 cfg0.N = val_main_v46 (F := Ideal) (m ((c.tc : Thread nD τ).loc main_arg0)) (m ((c.tc : Thread nD τ).loc main_arg1)) (m ((c.tc : Thread nD τ).loc main_arg2)) (m ((c.tc : Thread nD τ).loc main_arg3)) := by
  rw [result]
  funext i
  rw [du_eq]
  obtain ⟨s, r, x, rfl⟩ : ∃ (s : Fin 4) (r x : Fin 2048), i = ix3 s r x := ⟨i 0, i 1, i 2, eq_ix3 i⟩
  refine Eq.trans ?_ (shards_apply _ _ _ _ s r x).symm
  refine Eq.trans ?_ (t_apply _ _ _ _ r _).symm
  refine Eq.trans ?_ (val_main_v28_apply _ _ _ _ _).symm
  refine Finset.sum_congr rfl fun k _ => ?_
  rw [show lidx_main_v28 (ix2 (⟨s.val * 2048 + x.val, by omega⟩ : Fin 8192) r) k = ix2 k ⟨s.val * 2048 + x.val, by omega⟩ from eq_ix2 _,
    show ridx_main_v28 (ix2 (⟨s.val * 2048 + x.val, by omega⟩ : Fin 8192) r) k = ix2 k r from eq_ix2 _]
  exact mul_comm _ _
end Cert.MlpWin
-- ==== Proof.MlpWout.lean ====
module

public import proofs.«01_k».proof.Proof.Gen.MlpWoutKernelIdeal.Value
public import proofs.«01_k».proof.Proof.Gen.MlpWoutReferenceIdeal.Read
public import Idealize.ShloMosaic.Lib.Pipeline.ValueKit
public import Idealize.ShloMosaic.Lib.Pipeline.ReadBack
public import Idealize.ShloMosaic.Lib.Claim

/-! The squared-ReLU layer's gradient by its second weight: the kernel's product of the transposed activation
with the output's gradient, summed over four steps of 2048 tokens, is the reference's. -/

@[expose] public section
set_option maxRecDepth 16384
noncomputable section
open Idealize.ShloMosaic Idealize.ShloMosaic.TcCoe Idealize.SL.Sem
open Idealize.ShloMosaic.Pipeline (Dat)
namespace Cert.MlpWout
open Cert.MlpWoutKernelIdeal Cert.MlpWoutKernelIdeal.Gen

variable (m : (ℓ : Loc nD τ sig) → Buf (Elt Ideal) ℓ)

theorem idx0 : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The product of two blocks at an element. -/
theorem part_apply (a : Vec Ideal S2048x1024 .bf16) (b : Vec Ideal S2048x1024 .bf16) (r c : Fin 1024) :
    k0_pay1 (F := Ideal) a b (ix2 r c) = ∑ k : Fin 2048, a (ix2 k r) * b (ix2 k c) := by
  pointwise [k0_pay1]

theorem first_eq (a : Vec Ideal S2048x1024 .bf16) (b : Vec Ideal S2048x1024 .bf16) :
    k0_pay2 (F := Ideal) a b = k0_pay1 (F := Ideal) a b := shapeCast_self _ _
theorem next_apply (a : Vec Ideal S2048x1024 .bf16) (b : Vec Ideal S2048x1024 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S2048x1024 .bf16) (b : Vec Ideal S2048x1024 .bf16) (s : Vec Ideal S1024x1024 .f32)
    (i : S1024x1024.Idx) : k0_pay4 (F := Ideal) a b s i = s i + k0_pay1 (F := Ideal) a b i := rfl

/-- The running sum after point `n`: the scratch, and at a block's last step the scratch's contents with that
step's product added. -/
def acc (c : Dev nD) (n : ℕ) (h : n < cfg0.N) : Vec Ideal S1024x1024 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _

/-- The sum at a block's last point is the sum of the steps' products. -/
theorem acc_last (c : Dev nD) (t : Fin cfg0.N) (h : t.val % 4 = 3) (i : S1024x1024.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the sum over the tokens. -/
theorem result (c : Dev nD) : (dats m 0 c).arrAt 2 cfg0.N
    = fun i => ∑ k : Fin 8192, (show Vec Ideal S8192x8192 .bf16 from V m c main_v14) (ix2 k (i 0))
        * (show Vec Ideal S8192x2048 .bf16 from m ((c.tc : Thread nD τ).loc main_arg3)) (ix2 k (i 1)) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ r x : Fin 1024, y = ix2 r x := ⟨y 0, y 1, eq_ix2 y⟩
  have e : (outsAt0 m c t.val t.isLt).1 (ix2 r x) = acc m c t.val t.isLt (ix2 r x) := by
    rw [acc, if_pos h3, outsAt0_C m c t (by omega) (by omega) h3]
    frame_out
    rw [read_unread_whole]
    exact last_apply _ _ _ _
  rw [e, acc_last m c t h3]
  simp only [part_apply]
  refine Fin.sum_mul_add_congr fun s k hl => ?_
  have ht : t.val < 64 := lt_of_lt_of_eq t.isLt N_0
  blk_point [iblk, V, idx0 t, idx0 ⟨_, Pipeline.run_point_lt_of_flush t h3 s⟩]

open Cert.MlpWoutReferenceIdeal.Read in
/-- The activation, computed before the launch, is the reference's. -/
theorem act_eq (c : Dev nD) : V m c main_v14 = val_main_v18 (F := Ideal) (m ((c.tc : Thread nD τ).loc main_arg0)) (m ((c.tc : Thread nD τ).loc main_arg1)) := by
  entry_read
  rfl

open Cert.MlpWoutReferenceIdeal.Read in
/-- The reference's product, transposed. -/
theorem t_apply (x0 : Vec Ideal S8192x2048 .bf16) (x1 : Vec Ideal S4x2048x2048 .bf16) (x3 : Vec Ideal S8192x2048 .bf16)
    (r : Fin 8192) (x : Fin 2048) : val_main_v46 (F := Ideal) x0 x1 x3 (ix2 r x) = val_main_v22 (F := Ideal) x0 x1 x3 (ix2 x r) := by
  pointwise [val_main_v46, val_main_v23]

open Cert.MlpWoutReferenceIdeal.Read in
/-- The kernel's result is the reference's. -/
theorem result_eq (c : Dev nD) : (dats m 0 c).arrAt 2 cfg0.N = val_main_v46 (F := Ideal) (m ((c.tc : Thread nD τ).loc main_arg0)) (m ((c.tc : Thread nD τ).loc main_arg1)) (m ((c.tc : Thread nD τ).loc main_arg3)) := by
  rw [result]
  funext i
  rw [act_eq]
  obtain ⟨r, x, rfl⟩ : ∃ (r : Fin 8192) (x : Fin 2048), i = ix2 r x := ⟨i 0, i 1, eq_ix2 i⟩
  refine Eq.trans ?_ (t_apply _ _ _ r x).symm
  refine Eq.trans ?_ (val_main_v22_apply _ _ _ _).symm
  refine Finset.sum_congr rfl fun k _ => ?_
  rw [show ridx_main_v22 (ix2 x r) k = ix2 k r from eq_ix2 _, show lidx_main_v22 (ix2 x r) k = ix2 k x from eq_ix2 _]
  exact mul_comm _ _
end Cert.MlpWout
-- ==== Proof.MlpAct.lean ====
module

public import proofs.«01_k».proof.Proof.Gen.MlpActKernelIdeal.Value
public import proofs.«01_k».proof.Proof.Gen.MlpActReferenceIdeal.Read
public import proofs.«01_k».proof.Proof.MlpX
public import Idealize.ShloMosaic.Lib.Pipeline.ValueKit
public import Idealize.ShloMosaic.Lib.Pipeline.ReadBack
public import Idealize.ShloMosaic.Lib.Claim

/-! The squared-ReLU layer's first product: the kernel's blocks of the pre-activation and of its squared
positive part are the reference's. -/

@[expose] public section
set_option maxRecDepth 16384
noncomputable section
open Idealize.ShloMosaic Idealize.ShloMosaic.TcCoe Idealize.SL.Sem
open Idealize.ShloMosaic.Pipeline (Dat)
namespace Cert.MlpAct
open Cert.MlpActKernelIdeal Cert.MlpActKernelIdeal.Gen

variable (m : (ℓ : Loc nD τ sig) → Buf (Elt Ideal) ℓ)

theorem idx0 : ∀ t : Fin cfg0.N, win0_0.index t = ![t.val / 8, 0] ∧ win0_1.index t = ![t.val / 2 % 4, 0, t.val % 2]
    ∧ win0_2.index t = ![t.val / 8, t.val % 8] ∧ win0_3.index t = ![t.val / 8, t.val % 8] :=
  (by decide +kernel : ∀ t : Fin grid0.N, _)

/-- The product of two blocks at an element. -/
theorem part_apply (a : Vec Ideal S1024x2048 .bf16) (b : Vec Ideal S1x2048x1024 .bf16) (r c : Fin 1024) :
    k0_pay1 (F := Ideal) a b (ix2 r c) = ∑ k : Fin 2048, a (ix2 r k) * b (ix3 0 k c) := by
  pointwise [k0_pay1]

theorem sq_apply (a : Vec Ideal S1024x2048 .bf16) (b : Vec Ideal S1x2048x1024 .bf16) (i : S1024x1024.Idx) :
    k0_pay3 (F := Ideal) a b i = Max.max (k0_pay1 (F := Ideal) a b i) 0 * Max.max (k0_pay1 (F := Ideal) a b i) 0 := by
  rw [eq_ix2 i]
  pointwise [k0_pay3]

/-- The pre-activation at an element, the weight in its four column shards. -/
def pre (n : Vec Ideal S8192x2048 .bf16) (w : Vec Ideal S4x2048x2048 .bf16) (i : S8192x8192.Idx) : EReal :=
  ∑ k : Fin 2048, n (ix2 (i 0) k) * w (ix3 ⟨(i 1).val / 2048, by have h : (i 1).val < 8192 := (i 1).isLt; omega⟩ k ⟨(i 1).val % 2048, by omega⟩)

/-- The kernel's first result. -/
theorem result_u (c : Dev nD) : (dats m 0 c).arrAt 2 cfg0.N = fun i => pre (m ((c.tc : Thread nD τ).loc main_arg0)) (m ((c.tc : Thread nD τ).loc main_arg1)) i := by
  refine (dats m 0 c).arrAt_eq_of_covers 2 _ (by decide +kernel) fun t _ y => ?_
  blk_simp
  rw [after0_2]
  frame_out
  obtain ⟨r, x, rfl⟩ : ∃ r x : Fin 1024, y = ix2 r x := ⟨y 0, y 1, eq_ix2 y⟩
  have ht : t.val < 64 := lt_of_lt_of_eq t.isLt N_0
  refine (part_apply _ _ r x).trans (Finset.sum_congr rfl fun k _ => ?_)
  blk_point [iblk, V, idx0 t]

/-- The kernel's second result. -/
theorem result_act (c : Dev nD) : (dats m 0 c).arrAt 3 cfg0.N
    = fun i => Max.max (pre (m ((c.tc : Thread nD τ).loc main_arg0)) (m ((c.tc : Thread nD τ).loc main_arg1)) i) 0 * Max.max (pre (m ((c.tc : Thread nD τ).loc main_arg0)) (m ((c.tc : Thread nD τ).loc main_arg1)) i) 0 := by
  refine (dats m 0 c).arrAt_eq_of_covers 3 _ (by decide +kernel) fun t _ y => ?_
  blk_simp
  rw [after0_3]
  frame_out
  obtain ⟨r, x, rfl⟩ : ∃ r x : Fin 1024, y = ix2 r x := ⟨y 0, y 1, eq_ix2 y⟩
  have ht : t.val < 64 := lt_of_lt_of_eq t.isLt N_0
  refine (sq_apply _ _ _).trans (congrArg (fun z => Max.max z 0 * Max.max z 0) ((part_apply _ _ r x).trans (Finset.sum_congr rfl fun k _ => ?_)))
  blk_point [iblk, V, idx0 t]

open Cert.MlpActReferenceIdeal.Read in
/-- The reference's pre-activation. -/
theorem pre_eq (n : Vec Ideal S8192x2048 .bf16) (w : Vec Ideal S4x2048x2048 .bf16) :
    val_main_v11 (F := Ideal) n w = fun i => pre n w i := by
  funext i
  refine (val_main_v11_apply _ _ i).trans ?_
  refine Finset.sum_congr rfl fun k _ => ?_
  rw [show ridx_main_v11 i k = ix2 k (i 1) from eq_ix2 _, show lidx_main_v11 i k = ix2 (i 0) k from eq_ix2 _]
  exact congrArg (_ * ·) (Cert.MlpX.w_apply w k (i 1))

open Cert.MlpActReferenceIdeal.Read in
/-- The reference's activation. -/
theorem square_apply (n : Vec Ideal S8192x2048 .bf16) (w : Vec Ideal S4x2048x2048 .bf16) (r x : Fin 8192) :
    val_main_v15 (F := Ideal) n w (ix2 r x) = Max.max (val_main_v11 (F := Ideal) n w (ix2 r x)) 0 * Max.max (val_main_v11 (F := Ideal) n w (ix2 r x)) 0 := by
  pointwise [val_main_v15, val_main_v14, val_main_v13, val_main_call0_v0, val_main_call0_cst]

open Cert.MlpActReferenceIdeal.Read in
theorem u_eq (c : Dev nD) : (dats m 0 c).arrAt 2 cfg0.N = val_main_v12 (F := Ideal) (m ((c.tc : Thread nD τ).loc main_arg0)) (m ((c.tc : Thread nD τ).loc main_arg1)) := by
  rw [result_u]
  exact (pre_eq _ _).symm

open Cert.MlpActReferenceIdeal.Read in
theorem act_eq (c : Dev nD) : (dats m 0 c).arrAt 3 cfg0.N = val_main_v15 (F := Ideal) (m ((c.tc : Thread nD τ).loc main_arg0)) (m ((c.tc : Thread nD τ).loc main_arg1)) := by
  rw [result_act]
  funext i
  rw [eq_ix2 i]
  refine Eq.trans ?_ (square_apply _ _ _ _).symm
  rw [pre_eq]
end Cert.MlpAct
-- ==== Proof.MlpY.lean ====
module

public import proofs.«01_k».proof.Proof.Gen.MlpYKernelIdeal.Value
public import proofs.«01_k».proof.Proof.Gen.MlpYReferenceIdeal.Read
public import Idealize.ShloMosaic.Lib.Pipeline.ValueKit
public import Idealize.ShloMosaic.Lib.Pipeline.ReadBack
public import Idealize.ShloMosaic.Lib.Claim

/-! The squared-ReLU layer's output added to its residual: the kernel's blocked product, summed over four
steps of 2048 hidden columns, and the residual's block added at the last, is the reference's. -/

@[expose] public section
set_option maxRecDepth 16384
noncomputable section
open Idealize.ShloMosaic Idealize.ShloMosaic.TcCoe Idealize.SL.Sem
open Idealize.ShloMosaic.Pipeline (Dat)
namespace Cert.MlpY
open Cert.MlpYKernelIdeal Cert.MlpYKernelIdeal.Gen

variable (m : (ℓ : Loc nD τ sig) → Buf (Elt Ideal) ℓ)

theorem idx0 : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

/-- The product of two blocks at an element. -/
theorem part_apply (a : Vec Ideal S1024x2048 .bf16) (b : Vec Ideal S2048x1024 .bf16) (r c : Fin 1024) :
    k0_pay1 (F := Ideal) a b (ix2 r c) = ∑ k : Fin 2048, a (ix2 r k) * b (ix2 k c) := by
  pointwise [k0_pay1]

theorem first_eq (a : Vec Ideal S1024x2048 .bf16) (b : Vec Ideal S2048x1024 .bf16) :
    k0_pay2 (F := Ideal) a b = k0_pay1 (F := Ideal) a b := shapeCast_self _ _
theorem next_apply (a : Vec Ideal S1024x2048 .bf16) (b : Vec Ideal S2048x1024 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S1024x2048 .bf16) (b : Vec Ideal S2048x1024 .bf16) (s h : Vec Ideal S1024x1024 .f32)
    (i : S1024x1024.Idx) : k0_pay4 (F := Ideal) a b s h i = s i + k0_pay1 (F := Ideal) a b i + h i := rfl

/-- The running sum after point `n`: the scratch, and at a block's last step the scratch's contents with that
step's product added. -/
def acc (c : Dev nD) (n : ℕ) (h : n < cfg0.N) : Vec Ideal S1024x1024 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _

/-- The sum at a block's last point is the sum of the steps' products. -/
theorem acc_last (c : Dev nD) (t : Fin cfg0.N) (h : t.val % 4 = 3) (i : S1024x1024.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the sum over the hidden columns, and the residual. -/
theorem result (c : Dev nD) : (dats m 0 c).arrAt 3 cfg0.N
    = fun i => (∑ k : Fin 8192, (show Vec Ideal S8192x8192 .bf16 from V m c main_v14) (ix2 (i 0) k)
        * (show Vec Ideal S8192x2048 .bf16 from m ((c.tc : Thread nD τ).loc main_arg2)) (ix2 k (i 1)))
        + (show Vec Ideal S8192x2048 .f32 from m ((c.tc : Thread nD τ).loc main_arg3)) i := by
  refine (dats m 0 c).arrAt_eq_of_covers 3 _ (by decide +kernel) fun t hf y => ?_
  have h3 : t.val % 4 = 3 := (flush0_3 t).mp hf
  have ht : t.val < 64 := lt_of_lt_of_eq t.isLt N_0
  blk_simp
  rw [after0_3]
  obtain ⟨r, x, rfl⟩ : ∃ r x : Fin 1024, y = ix2 r x := ⟨y 0, y 1, eq_ix2 y⟩
  have e : (outsAt0 m c t.val t.isLt).1 (ix2 r x) = acc m c t.val t.isLt (ix2 r x) + (iblk m c 2 t : Vec Ideal S1024x1024 .f32) (ix2 r x) := by
    rw [acc, if_pos h3, outsAt0_C m c t (by omega) (by omega) h3]
    frame_out
    rw [read_unread_whole]
    exact last_apply _ _ _ _ _
  rw [e, acc_last m c t h3]
  simp only [part_apply]
  refine congrArg₂ (· + ·) (Fin.sum_mul_add_congr fun s k hl => ?_) ?_
  · blk_point [iblk, V, idx0 t, idx0 ⟨_, Pipeline.run_point_lt_of_flush t h3 s⟩]
  · blk_point [iblk, V, idx0 t]

open Cert.MlpYReferenceIdeal.Read in
/-- The activation, computed before the launch, is the reference's. -/
theorem act_eq (c : Dev nD) : V m c main_v14 = val_main_v14 (F := Ideal) (m ((c.tc : Thread nD τ).loc main_arg0)) (m ((c.tc : Thread nD τ).loc main_arg1)) := by
  entry_read
  rfl

open Cert.MlpYReferenceIdeal.Read in
/-- The kernel's result is the reference's. -/
theorem result_eq (c : Dev nD) : (dats m 0 c).arrAt 3 cfg0.N = val_main_v16 (F := Ideal) (m ((c.tc : Thread nD τ).loc main_arg0)) (m ((c.tc : Thread nD τ).loc main_arg1)) (m ((c.tc : Thread nD τ).loc main_arg2)) (m ((c.tc : Thread nD τ).loc main_arg3)) := by
  rw [result]
  funext i
  rw [act_eq]
  refine (add_comm _ _).trans (congrArg (_ + ·) ?_)
  refine Eq.trans ?_ (val_main_v15_apply _ _ _ i).symm
  refine Finset.sum_congr rfl fun k _ => ?_
  rw [show ridx_main_v15 i k = ix2 k (i 1) from eq_ix2 _, show lidx_main_v15 i k = ix2 (i 0) k from eq_ix2 _]
  rfl
end Cert.MlpY
-- ==== Proof.MlpDu.lean ====
module

public import proofs.«01_k».proof.Proof.Gen.MlpDuKernelIdeal.Value
public import proofs.«01_k».proof.Proof.Gen.MlpDuReferenceIdeal.Read
public import Idealize.ShloMosaic.Lib.StableHlo.RunRead
public import Idealize.ShloMosaic.Lib.Pipeline.ValueKit
public import Idealize.ShloMosaic.Lib.Pipeline.ReadBack
public import Idealize.ShloMosaic.Lib.Claim

/-! The gradient by the squared-ReLU layer's pre-activation: the kernel's blocks of the product with the second
weight, times twice the pre-activation's positive part, are the reference's. -/

@[expose] public section
set_option maxRecDepth 16384
noncomputable section
open Idealize.ShloMosaic Idealize.ShloMosaic.TcCoe Idealize.SL.Sem
open Idealize.ShloMosaic.Pipeline (Dat)
namespace Cert.MlpDu
open Cert.MlpDuKernelIdeal Cert.MlpDuKernelIdeal.Gen

variable (m : (ℓ : Loc nD τ sig) → Buf (Elt Ideal) ℓ)

theorem idx0 : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- A block of the result at an element. -/
theorem part_apply (a b : Vec Ideal S1024x2048 .bf16) (u : Vec Ideal S1024x1024 .bf16) (r c : Fin 1024) :
    k0_pay1 (F := Ideal) a b u (ix2 r c) = (∑ k : Fin 2048, a (ix2 r k) * b (ix2 c k)) * (Ideal.ofBits .f32 0x40000000#32 * Max.max (u (ix2 r c)) 0) := by
  pointwise [k0_pay1]

/-- The kernel's result. -/
theorem result (c : Dev nD) : (dats m 0 c).arrAt 3 cfg0.N = fun i =>
    (∑ k : Fin 2048, (show Vec Ideal S8192x2048 .bf16 from m ((c.tc : Thread nD τ).loc main_arg3)) (ix2 (i 0) k)
      * (show Vec Ideal S8192x2048 .bf16 from m ((c.tc : Thread nD τ).loc main_arg2)) (ix2 (i 1) k))
      * (Ideal.ofBits .f32 0x40000000#32 * Max.max ((show Vec Ideal S8192x8192 .bf16 from V m c main_v12) i) 0) := by
  refine (dats m 0 c).arrAt_eq_of_covers 3 _ (by decide +kernel) fun t _ y => ?_
  have ht : t.val < 64 := lt_of_lt_of_eq t.isLt N_0
  blk_simp
  rw [after0_3]
  frame_out
  obtain ⟨r, x, rfl⟩ : ∃ r x : Fin 1024, y = ix2 r x := ⟨y 0, y 1, eq_ix2 y⟩
  refine (part_apply _ _ _ r x).trans ?_
  refine congrArg₂ (· * ·) (Finset.sum_congr rfl fun k _ => ?_) (congrArg (fun z => Ideal.ofBits .f32 0x40000000#32 * Max.max z 0) ?_)
  · blk_point [iblk, V, idx0 t]
  · blk_point [iblk, V, idx0 t]

open Cert.MlpDuReferenceIdeal.Read in
/-- The pre-activation, computed before the launch, is the reference's. -/
theorem u_eq (c : Dev nD) : V m c main_v12 = val_main_v13 (F := Ideal) (m ((c.tc : Thread nD τ).loc main_arg0)) (m ((c.tc : Thread nD τ).loc main_arg1)) := by
  unfold V
  after_reads_simp
  rfl

open Cert.MlpDuReferenceIdeal.Read in
/-- The reference's gradient at an element. -/
theorem select_apply (x0 : Vec Ideal S8192x2048 .bf16) (x1 : Vec Ideal S4x2048x2048 .bf16) (x2 x3 : Vec Ideal S8192x2048 .bf16)
    (r x : Fin 8192) : val_main_v26 (F := Ideal) x0 x1 x2 x3 (ix2 r x)
      = if val_main_v13 (F := Ideal) x0 x1 (ix2 r x) > 0 then val_main_v22 (F := Ideal) x2 x3 (ix2 r x)
          * (Ideal.ofBits .f32 0x40000000#32 * Max.max (val_main_v13 (F := Ideal) x0 x1 (ix2 r x)) 0) else 0 := by
  pointwise [val_main_v26, val_main_v25, val_main_v24, val_main_v23, val_main_v20, val_main_v19, val_main_v17, val_main_v16, val_main_v15, val_main_v14, val_main_call0_v0, val_main_call0_cst, val_main_cst, val_main_cst_0, val_main_cst_1, val_main_cst_2]

/-- A factor of twice the positive part needs no choice by the sign. -/
theorem relu_grad (g u a : EReal) : g * (a * Max.max u 0) = if u > 0 then g * (a * Max.max u 0) else 0 := by
  split_ifs with h
  · rfl
  · rw [max_eq_right (not_lt.mp h), mul_zero, mul_zero]

open Cert.MlpDuReferenceIdeal.Read in
/-- The kernel's result is the reference's. -/
theorem result_eq (c : Dev nD) : (dats m 0 c).arrAt 3 cfg0.N = val_main_v26 (F := Ideal) (m ((c.tc : Thread nD τ).loc main_arg0)) (m ((c.tc : Thread nD τ).loc main_arg1)) (m ((c.tc : Thread nD τ).loc main_arg2)) (m ((c.tc : Thread nD τ).loc main_arg3)) := by
  rw [result]
  funext i
  rw [u_eq]
  rw [eq_ix2 i]
  refine (relu_grad _ _ _).trans (Eq.trans ?_ (select_apply _ _ _ _ _ _).symm)
  refine if_congr Iff.rfl (congrArg (· * _) ?_) rfl
  refine Eq.trans ?_ (val_main_v22_apply _ _ _).symm
  refine Finset.sum_congr rfl fun k _ => ?_
  rw [show ridx_main_v22 (ix2 (i 0) (i 1)) k = ix2 (i 1) k from eq_ix2 _, show lidx_main_v22 (ix2 (i 0) (i 1)) k = ix2 (i 0) k from eq_ix2 _]
  rfl
end Cert.MlpDu
-- ==== Proof.InCat.lean ====
module

public import Idealize.ShloMosaic.Lib.Pipeline.ValueKit

/-! The in-projection's columns in the order in which its calls read them. -/

@[expose] public section
set_option maxRecDepth 16384
noncomputable section
open Idealize.ShloMosaic Idealize.ShloMosaic.TcCoe Idealize.SL.Sem
namespace Cert.InCat

/-- The column of reference.py's split that stands at column `j` of the calls' order, for `j` before the zeros. -/
def src (j : ℕ) : ℕ :=
  if j < 6144 then 3848 + j else if j < 7168 then j - 6144 else if j < 8704 then j - 7168 + 1280
  else if j < 9216 then j - 8704 + 2824 else if j < 9728 then j - 9216 + 3336 else if j < 9984 then j - 9728 + 1024
  else j - 9984 + 2816

theorem src_lt {j : ℕ} (h : j < 9992) : src j < 9992 := by
  unfold src; split_ifs <;> omega

/-- A row in the calls' order of columns, zero in the last 248. -/
def cat (f : Fin 9992 → EReal) (j : ℕ) : EReal := if h : j < 9992 then f ⟨src j, src_lt h⟩ else 0

/-- The column `j` of the calls' order is the column `s` of the split. -/
theorem cat_at (f : Fin 9992 → EReal) {j s : ℕ} (hj : j < 9992) (hs : s < 9992) (h : src j = s) : cat f j = f ⟨s, hs⟩ := by
  subst h
  rw [cat, dif_pos hj]

/-- The seven pieces of the split and the zeros, side by side, are the row in the calls' order. -/
theorem pieces_eq (f : Fin 9992 → EReal) (j : Fin 10240) :
    (if h : j.val < 6144 then f ⟨3848 + j.val, by omega⟩
    else if h : j.val - 6144 < 1024 then f ⟨j.val - 6144, by omega⟩
    else if h : j.val - 6144 - 1024 < 1536 then f ⟨1280 + (j.val - 6144 - 1024), by omega⟩
    else if h : j.val - 6144 - 1024 - 1536 < 512 then f ⟨2824 + (j.val - 6144 - 1024 - 1536), by omega⟩
    else if h : j.val - 6144 - 1024 - 1536 - 512 < 512 then f ⟨3336 + (j.val - 6144 - 1024 - 1536 - 512), by omega⟩
    else if h : j.val - 6144 - 1024 - 1536 - 512 - 512 < 256 then
      f ⟨1024 + (j.val - 6144 - 1024 - 1536 - 512 - 512), by omega⟩
    else if h : j.val - 6144 - 1024 - 1536 - 512 - 512 - 256 < 8 then
      f ⟨2816 + (j.val - 6144 - 1024 - 1536 - 512 - 512 - 256), by omega⟩
    else 0) = cat f j.val := by
  by_cases h0 : j.val < 9992
  · rw [cat, dif_pos h0]
    split_ifs <;> first
      | omega
      | exact congrArg f (Fin.ext (by unfold src; dsimp only; split_ifs <;> omega))
  · rw [cat, dif_neg h0]
    split_ifs <;> first | omega | rfl

/-- The last 512 columns of the calls' order: the windowed attention's keys and values, the delta rule's decay and step, and
the zeros. -/
theorem kv_pieces_eq (f : Fin 9992 → EReal) (x : Fin 512) :
    (if h : x.val < 128 then f ⟨1024 + x.val, by omega⟩
    else if h : x.val - 128 < 128 then f ⟨1152 + (x.val - 128), by omega⟩
    else if h : x.val - 128 - 128 < 4 then f ⟨2816 + (x.val - 128 - 128), by omega⟩
    else if h : x.val - 128 - 128 - 4 < 4 then f ⟨2820 + (x.val - 128 - 128 - 4), by omega⟩
    else 0) = cat f (9728 + x.val) := by
  by_cases h0 : x.val < 264
  · rw [cat, dif_pos (show 9728 + x.val < 9992 by omega)]
    split_ifs <;> first
      | omega
      | exact congrArg f (Fin.ext (by unfold src; dsimp only; split_ifs <;> omega))
  · rw [cat, dif_neg (show ¬9728 + x.val < 9992 by omega)]
    split_ifs <;> first | omega | rfl

/-- A sum of products with rows in the calls' order is the sums of products in that order. -/
theorem sum_cat {n : ℕ} (g : Fin n → EReal) (w : Fin n → Fin 9992 → EReal) (j : ℕ) :
    ∑ k, g k * cat (w k) j = cat (fun x => ∑ k, g k * w k x) j := by
  by_cases h : j < 9992
  · simp only [cat, dif_pos h]
  · simp only [cat, dif_neg h, mul_zero, Finset.sum_const_zero]

set_option maxHeartbeats 1000000 in
/-- The ten pieces of the projection's gradient and the zeros, side by side, are the row in the calls' order. -/
theorem pieces10_eq (f : Fin 9992 → EReal) (j : Fin 10240) :
    (if h : j.val < 6144 then f ⟨3848 + j.val, by omega⟩
    else if h : j.val - 6144 < 1024 then f ⟨j.val - 6144, by omega⟩
    else if h : j.val - 6144 - 1024 < 1536 then f ⟨1280 + (j.val - 6144 - 1024), by omega⟩
    else if h : j.val - 6144 - 1024 - 1536 < 512 then f ⟨2824 + (j.val - 6144 - 1024 - 1536), by omega⟩
    else if h : j.val - 6144 - 1024 - 1536 - 512 < 512 then f ⟨3336 + (j.val - 6144 - 1024 - 1536 - 512), by omega⟩
    else if h : j.val - 6144 - 1024 - 1536 - 512 - 512 < 128 then
      f ⟨1024 + (j.val - 6144 - 1024 - 1536 - 512 - 512), by omega⟩
    else if h : j.val - 6144 - 1024 - 1536 - 512 - 512 - 128 < 128 then
      f ⟨1152 + (j.val - 6144 - 1024 - 1536 - 512 - 512 - 128), by omega⟩
    else if h : j.val - 6144 - 1024 - 1536 - 512 - 512 - 128 - 128 < 4 then
      f ⟨2816 + (j.val - 6144 - 1024 - 1536 - 512 - 512 - 128 - 128), by omega⟩
    else if h : j.val - 6144 - 1024 - 1536 - 512 - 512 - 128 - 128 - 4 < 4 then
      f ⟨2820 + (j.val - 6144 - 1024 - 1536 - 512 - 512 - 128 - 128 - 4), by omega⟩
    else 0) = cat f j.val := by
  by_cases h0 : j.val < 9992
  · rw [cat, dif_pos h0]
    split_ifs <;> first
      | omega
      | exact congrArg f (Fin.ext (by unfold src; dsimp only; split_ifs <;> omega))
  · rw [cat, dif_neg h0]
    split_ifs <;> first | omega | rfl

/-- The products of two rows in the calls' order are the products in that order. -/
theorem cat_mul (f g : Fin 9992 → EReal) (j : ℕ) : cat f j * cat g j = cat (fun x => f x * g x) j := by
  by_cases h : j < 9992
  · simp only [cat, dif_pos h]
  · simp only [cat, dif_neg h, mul_zero]

/-- The column of the calls' order at which the split's column `x` stands. -/
def dst (x : ℕ) : ℕ :=
  if x < 1024 then x + 6144 else if x < 1280 then x - 1024 + 9728 else if x < 2816 then x - 1280 + 7168
  else if x < 2824 then x - 2816 + 9984 else if x < 3336 then x - 2824 + 8704 else if x < 3848 then x - 3336 + 9216
  else x - 3848

theorem dst_lt {x : ℕ} (h : x < 9992) : dst x < 9992 := by
  unfold dst; split_ifs <;> omega
theorem dst_src {j : ℕ} (h : j < 9992) : dst (src j) = j := by
  unfold src; split_ifs <;> unfold dst <;> split_ifs <;> omega
theorem src_dst {x : ℕ} (h : x < 9992) : src (dst x) = x := by
  unfold dst; split_ifs <;> (unfold src; split_ifs <;> omega)

/-- A sum over columns whose last are zero is the sum over the first. -/
theorem sum_zeros (g : ℕ → EReal) {a b : ℕ} (hab : a ≤ b) (h : ∀ j, a ≤ j → g j = 0) : ∑ j : Fin b, g j.val = ∑ j : Fin a, g j.val := by
  rw [Fin.sum_univ_eq_sum_range g b, Fin.sum_univ_eq_sum_range g a]
  exact (Finset.sum_subset (Finset.range_mono hab) fun j _ hj =>
    h j (not_lt.mp fun hlt => hj (Finset.mem_range.mpr hlt))).symm

/-- The sum over a row in the calls' order is the sum over the split's columns. -/
theorem sum_all (f : Fin 9992 → EReal) : ∑ j : Fin 10240, cat f j.val = ∑ x, f x := by
  refine (sum_zeros (cat f) (show 9992 ≤ 10240 by omega) fun j h => by rw [cat, dif_neg (by omega)]).trans ?_
  refine Fintype.sum_equiv ⟨fun j => ⟨src j.val, src_lt j.isLt⟩, fun x => ⟨dst x.val, dst_lt x.isLt⟩,
    fun j => Fin.ext (dst_src j.isLt), fun x => Fin.ext (src_dst x.isLt)⟩ _ _ fun j => ?_
  rw [cat, dif_pos j.isLt]
  rfl

end Cert.InCat
-- ==== Proof.InQa.lean ====
module

public import proofs.«01_k».proof.Proof.Gen.InQaKernelIdeal.Value
public import proofs.«01_k».proof.Proof.Gen.InQaReferenceIdeal.Read
public import proofs.«01_k».proof.Proof.InCat
public import Idealize.ShloMosaic.Lib.Pipeline.ValueKit
public import Idealize.ShloMosaic.Lib.StableHlo.RunRead
public import Idealize.ShloMosaic.Lib.Claim

/-! The in-projection to the queries of the windowed attention. -/

@[expose] public section
set_option maxRecDepth 16384
noncomputable section
open Idealize.ShloMosaic Idealize.ShloMosaic.TcCoe Idealize.SL.Sem
open Idealize.ShloMosaic.Pipeline (Dat)
namespace Cert.InQa
open Cert.InQaKernelIdeal Cert.InQaKernelIdeal.Gen

variable (m : (ℓ : Loc nD τ sig) → Buf (Elt Ideal) ℓ)

theorem idx0 : ∀ t : Fin cfg0.N, win0_0.index t = ![t.val, 0] ∧ win0_1.index t = ![0, 6]
    ∧ win0_2.index t = ![t.val, 0] :=
  (by decide +kernel : ∀ t : Fin grid0.N, _)

/-- The product of two blocks at an element. -/
theorem part_apply2 (a : Vec Ideal S1024x2048 .bf16) (b : Vec Ideal S2048x1024 .bf16) (r : Fin 1024) (c : Fin 1024) :
    k0_pay1 (F := Ideal) a b (ix2 r c) = ∑ k : Fin 2048, a (ix2 r k) * b (ix2 k c) := by
  pointwise [k0_pay1, k0_pay1]

/-- The kernel's result at an element. -/
theorem result2 (c : Dev nD) : (dats m 0 c).arrAt 2 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨6144 + (i 1).val, by
        have h : (i 1).val < 1024 := (i 1).isLt
        omega⟩) := by
  refine (dats m 0 c).arrAt_eq_of_covers 2 _ (by decide +kernel) fun t _ y => ?_
  have ht : t.val < 8 := lt_of_lt_of_eq t.isLt N_0
  blk_simp
  rw [after0_2]
  frame_out
  obtain ⟨r, x, rfl⟩ : ∃ (r : Fin 1024) (x : Fin 1024), y = ix2 r x := ⟨y 0, y 1, eq_ix2 y⟩
  refine (part_apply2 _ _ r x).trans (Finset.sum_congr rfl fun k _ => ?_)
  blk_point [iblk, V, idx0 t]

/-- The weight in the calls' order of columns. -/
theorem w_apply (c : Dev nD) (k : Fin 2048) (j : Fin 10240) :
    (show Vec Ideal S2048x10240 .bf16 from V m c main_v8) (ix2 k j)
      = Cert.InCat.cat (fun x => (show Vec Ideal S2048x9992 .bf16 from m ((c.tc : Thread nD τ).loc main_arg1)) (ix2 k x)) j.val := by
  show V m c main_v8 (ix2 k j) = _
  unfold V
  after_reads_simp
  pointwise []
  after_reads_simp
  pointwise []
  exact Cert.InCat.pieces_eq (fun x => m (c.tc.loc main_arg1) (ix2 k x)) j

open Cert.InQaReferenceIdeal.Read in
/-- The reference's whole product at an element. -/
theorem dot_apply (n : Vec Ideal S8192x2048 .bf16) (w : Vec Ideal S2048x9992 .bf16) (r : Fin 8192) (x : Fin 9992) :
    val_main_v2 (F := Ideal) n w (ix2 r x) = ∑ k : Fin 2048, n (ix2 r k) * w (ix2 k x) := by
  pointwise [val_main_v2, val_main_v1, val_main_v0]

/-- The columns that the call reads are the split's. -/
theorem w_at (c : Dev nD) (k : Fin 2048) (x : Fin 1024) :
    (show Vec Ideal S2048x10240 .bf16 from V m c main_v8) (ix2 k ⟨6144 + x.val, by omega⟩)
      = (show Vec Ideal S2048x9992 .bf16 from m ((c.tc : Thread nD τ).loc main_arg1)) (ix2 k ⟨0 + x.val, by omega⟩) := by
  rw [w_apply]
  refine Cert.InCat.cat_at _ ?_ ?_ ?_
  · dsimp only
    omega
  · unfold Cert.InCat.src
    dsimp only
    split_ifs <;> omega

open Cert.InQaReferenceIdeal.Read in
/-- The reference's result is its columns of the whole product. -/
theorem ref_apply2 (n : Vec Ideal S8192x2048 .bf16) (w : Vec Ideal S2048x9992 .bf16) (r : Fin 8192) (x : Fin 1024) :
    val_main_v12 (F := Ideal) n w (ix2 r x) = val_main_v2 (F := Ideal) n w (ix2 r ⟨0 + x.val, by omega⟩) := by
  pointwise [val_main_v12, val_main_v3]

open Cert.InQaReferenceIdeal.Read in
/-- The kernel's result is the reference's. -/
theorem result_eq (c : Dev nD) : (dats m 0 c).arrAt 2 cfg0.N = val_main_v12 (F := Ideal) (m ((c.tc : Thread nD τ).loc main_arg0)) (m ((c.tc : Thread nD τ).loc main_arg1)) := by
  rw [result2]
  funext i
  obtain ⟨r, x, rfl⟩ : ∃ (r : Fin 8192) (x : Fin 1024), i = ix2 r x := ⟨i 0, i 1, eq_ix2 i⟩
  refine Eq.trans ?_ (ref_apply2 _ _ _ _).symm
  refine Eq.trans ?_ (dot_apply _ _ _ _).symm
  refine Finset.sum_congr rfl fun k _ => ?_
  exact congrArg (_ * ·) (w_at m c k _)

end Cert.InQa
-- ==== Proof.InKvAb.lean ====
module

public import proofs.«01_k».proof.Proof.Gen.InKvAbKernelIdeal.Value
public import proofs.«01_k».proof.Proof.Gen.InKvAbReferenceIdeal.Read
public import proofs.«01_k».proof.Proof.InCat
public import Idealize.ShloMosaic.Lib.Pipeline.ValueKit
public import Idealize.ShloMosaic.Lib.StableHlo.RunRead
public import Idealize.ShloMosaic.Lib.Claim

/-! The in-projection to the windowed attention's keys and values, and to the delta rule's decay and step, with zeros
after them: once in bf16 and once in f32. -/

@[expose] public section
set_option maxRecDepth 16384
noncomputable section
open Idealize.ShloMosaic Idealize.ShloMosaic.TcCoe Idealize.SL.Sem
open Idealize.ShloMosaic.Pipeline (Dat)
namespace Cert.InKvAb
open Cert.InKvAbKernelIdeal Cert.InKvAbKernelIdeal.Gen

variable (m : (ℓ : Loc nD τ sig) → Buf (Elt Ideal) ℓ)

theorem idx0 : ∀ t : Fin cfg0.N, win0_0.index t = ![t.val, 0] ∧ win0_1.index t = ![0, 19]
    ∧ win0_2.index t = ![t.val, 0]
    ∧ win0_3.index t = ![t.val, 0] :=
  (by decide +kernel : ∀ t : Fin grid0.N, _)

/-- The product of two blocks at an element. -/
theorem part_apply2 (a : Vec Ideal S1024x2048 .bf16) (b : Vec Ideal S2048x512 .bf16) (r : Fin 1024) (c : Fin 512) :
    k0_pay2 (F := Ideal) a b (ix2 r c) = ∑ k : Fin 2048, a (ix2 r k) * b (ix2 k c) := by
  pointwise [k0_pay2, k0_pay1]

/-- The kernel's result at an element. -/
theorem result2 (c : Dev nD) : (dats m 0 c).arrAt 2 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨9728 + (i 1).val, by
        have h : (i 1).val < 512 := (i 1).isLt
        omega⟩) := by
  refine (dats m 0 c).arrAt_eq_of_covers 2 _ (by decide +kernel) fun t _ y => ?_
  have ht : t.val < 8 := lt_of_lt_of_eq t.isLt N_0
  blk_simp
  rw [after0_2]
  frame_out
  obtain ⟨r, x, rfl⟩ : ∃ (r : Fin 1024) (x : Fin 512), y = ix2 r x := ⟨y 0, y 1, eq_ix2 y⟩
  refine (part_apply2 _ _ r x).trans (Finset.sum_congr rfl fun k _ => ?_)
  blk_point [iblk, V, idx0 t]

/-- The product of two blocks at an element. -/
theorem part_apply3 (a : Vec Ideal S1024x2048 .bf16) (b : Vec Ideal S2048x512 .bf16) (r : Fin 1024) (c : Fin 512) :
    k0_pay1 (F := Ideal) a b (ix2 r c) = ∑ k : Fin 2048, a (ix2 r k) * b (ix2 k c) := by
  pointwise [k0_pay1, k0_pay1]

/-- The kernel's result at an element. -/
theorem result3 (c : Dev nD) : (dats m 0 c).arrAt 3 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨9728 + (i 1).val, by
        have h : (i 1).val < 512 := (i 1).isLt
        omega⟩) := by
  refine (dats m 0 c).arrAt_eq_of_covers 3 _ (by decide +kernel) fun t _ y => ?_
  have ht : t.val < 8 := lt_of_lt_of_eq t.isLt N_0
  blk_simp
  rw [after0_3]
  frame_out
  obtain ⟨r, x, rfl⟩ : ∃ (r : Fin 1024) (x : Fin 512), y = ix2 r x := ⟨y 0, y 1, eq_ix2 y⟩
  refine (part_apply3 _ _ r x).trans (Finset.sum_congr rfl fun k _ => ?_)
  blk_point [iblk, V, idx0 t]

/-- The weight in the calls' order of columns. -/
theorem w_apply (c : Dev nD) (k : Fin 2048) (j : Fin 10240) :
    (show Vec Ideal S2048x10240 .bf16 from V m c main_v8) (ix2 k j)
      = Cert.InCat.cat (fun x => (show Vec Ideal S2048x9992 .bf16 from m ((c.tc : Thread nD τ).loc main_arg1)) (ix2 k x)) j.val := by
  show V m c main_v8 (ix2 k j) = _
  unfold V
  after_reads_simp
  pointwise []
  after_reads_simp
  pointwise []
  exact Cert.InCat.pieces_eq (fun x => m (c.tc.loc main_arg1) (ix2 k x)) j

open Cert.InKvAbReferenceIdeal.Read in
/-- The reference's whole product at an element. -/
theorem dot_apply (n : Vec Ideal S8192x2048 .bf16) (w : Vec Ideal S2048x9992 .bf16) (r : Fin 8192) (x : Fin 9992) :
    val_main_v2 (F := Ideal) n w (ix2 r x) = ∑ k : Fin 2048, n (ix2 r k) * w (ix2 k x) := by
  pointwise [val_main_v2, val_main_v1, val_main_v0]

open Cert.InKvAbReferenceIdeal.Read in
/-- The reference's result is its columns of the whole product, then zeros. -/
theorem ref_apply2 (n : Vec Ideal S8192x2048 .bf16) (w : Vec Ideal S2048x9992 .bf16) (r : Fin 8192) (x : Fin 512) :
    val_main_v14 (F := Ideal) n w (ix2 r x) = Cert.InCat.cat (fun j => val_main_v2 (F := Ideal) n w (ix2 r j)) (9728 + x.val) := by
  pointwise [val_main_v14, val_main_v13, val_main_v12, val_main_cst, val_main_v4, val_main_v5, val_main_v7, val_main_v8]
  exact Cert.InCat.kv_pieces_eq (fun j => val_main_v2 (F := Ideal) n w (ix2 r j)) x

open Cert.InKvAbReferenceIdeal.Read in
/-- The kernel's result is the reference's. -/
theorem result_eq2 (c : Dev nD) : (dats m 0 c).arrAt 2 cfg0.N = val_main_v14 (F := Ideal) (m ((c.tc : Thread nD τ).loc main_arg0)) (m ((c.tc : Thread nD τ).loc main_arg1)) := by
  rw [result2]
  funext i
  obtain ⟨r, x, rfl⟩ : ∃ (r : Fin 8192) (x : Fin 512), i = ix2 r x := ⟨i 0, i 1, eq_ix2 i⟩
  refine Eq.trans ?_ (ref_apply2 _ _ _ _).symm
  refine Eq.trans (Finset.sum_congr rfl fun k _ => congrArg (_ * ·) (w_apply m c k _)) ?_
  refine (Cert.InCat.sum_cat _ _ _).trans (congrArg (fun f => Cert.InCat.cat f (9728 + x.val)) (funext fun j => ?_))
  exact (dot_apply _ _ r j).symm

open Cert.InKvAbReferenceIdeal.Read in
/-- The reference's result is its columns of the whole product, then zeros. -/
theorem ref_apply3 (n : Vec Ideal S8192x2048 .bf16) (w : Vec Ideal S2048x9992 .bf16) (r : Fin 8192) (x : Fin 512) :
    val_main_v13 (F := Ideal) n w (ix2 r x) = Cert.InCat.cat (fun j => val_main_v2 (F := Ideal) n w (ix2 r j)) (9728 + x.val) := by
  pointwise [val_main_v13, val_main_v12, val_main_cst, val_main_v4, val_main_v5, val_main_v7, val_main_v8]
  exact Cert.InCat.kv_pieces_eq (fun j => val_main_v2 (F := Ideal) n w (ix2 r j)) x

open Cert.InKvAbReferenceIdeal.Read in
/-- The kernel's result is the reference's. -/
theorem result_eq3 (c : Dev nD) : (dats m 0 c).arrAt 3 cfg0.N = val_main_v13 (F := Ideal) (m ((c.tc : Thread nD τ).loc main_arg0)) (m ((c.tc : Thread nD τ).loc main_arg1)) := by
  rw [result3]
  funext i
  obtain ⟨r, x, rfl⟩ : ∃ (r : Fin 8192) (x : Fin 512), i = ix2 r x := ⟨i 0, i 1, eq_ix2 i⟩
  refine Eq.trans ?_ (ref_apply3 _ _ _ _).symm
  refine Eq.trans (Finset.sum_congr rfl fun k _ => congrArg (_ * ·) (w_apply m c k _)) ?_
  refine (Cert.InCat.sum_cat _ _ _).trans (congrArg (fun f => Cert.InCat.cat f (9728 + x.val)) (funext fun j => ?_))
  exact (dot_apply _ _ r j).symm

end Cert.InKvAb
-- ==== Proof.InQkvB.lean ====
module

public import proofs.«01_k».proof.Proof.Gen.InQkvBKernelIdeal.Value
public import proofs.«01_k».proof.Proof.Gen.InQkvBReferenceIdeal.Read
public import proofs.«01_k».proof.Proof.InCat
public import Idealize.ShloMosaic.Lib.Pipeline.ValueKit
public import Idealize.ShloMosaic.Lib.StableHlo.RunRead
public import Idealize.ShloMosaic.Lib.Claim

/-! The in-projection to the delta rule's queries, keys and values. -/

@[expose] public section
set_option maxRecDepth 16384
noncomputable section
open Idealize.ShloMosaic Idealize.ShloMosaic.TcCoe Idealize.SL.Sem
open Idealize.ShloMosaic.Pipeline (Dat)
namespace Cert.InQkvB
open Cert.InQkvBKernelIdeal Cert.InQkvBKernelIdeal.Gen

variable (m : (ℓ : Loc nD τ sig) → Buf (Elt Ideal) ℓ)

theorem idx0 : ∀ t : Fin cfg0.N, win0_0.index t = ![t.val / 3, 0] ∧ win0_1.index t = ![0, 14 + t.val % 3]
    ∧ win0_2.index t = ![t.val / 3, t.val % 3] :=
  (by decide +kernel : ∀ t : Fin grid0.N, _)

/-- The product of two blocks at an element. -/
theorem part_apply2 (a : Vec Ideal S1024x2048 .bf16) (b : Vec Ideal S2048x512 .bf16) (r : Fin 1024) (c : Fin 512) :
    k0_pay1 (F := Ideal) a b (ix2 r c) = ∑ k : Fin 2048, a (ix2 r k) * b (ix2 k c) := by
  pointwise [k0_pay1, k0_pay1]

/-- The kernel's result at an element. -/
theorem result2 (c : Dev nD) : (dats m 0 c).arrAt 2 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨7168 + (i 1).val, by
        have h : (i 1).val < 1536 := (i 1).isLt
        omega⟩) := by
  refine (dats m 0 c).arrAt_eq_of_covers 2 _ (by decide +kernel) fun t _ y => ?_
  have ht : t.val < 24 := lt_of_lt_of_eq t.isLt N_0
  blk_simp
  rw [after0_2]
  frame_out
  obtain ⟨r, x, rfl⟩ : ∃ (r : Fin 1024) (x : Fin 512), y = ix2 r x := ⟨y 0, y 1, eq_ix2 y⟩
  refine (part_apply2 _ _ r x).trans (Finset.sum_congr rfl fun k _ => ?_)
  blk_point [iblk, V, idx0 t]

/-- The weight in the calls' order of columns. -/
theorem w_apply (c : Dev nD) (k : Fin 2048) (j : Fin 10240) :
    (show Vec Ideal S2048x10240 .bf16 from V m c main_v8) (ix2 k j)
      = Cert.InCat.cat (fun x => (show Vec Ideal S2048x9992 .bf16 from m ((c.tc : Thread nD τ).loc main_arg1)) (ix2 k x)) j.val := by
  show V m c main_v8 (ix2 k j) = _
  unfold V
  after_reads_simp
  pointwise []
  after_reads_simp
  pointwise []
  exact Cert.InCat.pieces_eq (fun x => m (c.tc.loc main_arg1) (ix2 k x)) j

open Cert.InQkvBReferenceIdeal.Read in
/-- The reference's whole product at an element. -/
theorem dot_apply (n : Vec Ideal S8192x2048 .bf16) (w : Vec Ideal S2048x9992 .bf16) (r : Fin 8192) (x : Fin 9992) :
    val_main_v2 (F := Ideal) n w (ix2 r x) = ∑ k : Fin 2048, n (ix2 r k) * w (ix2 k x) := by
  pointwise [val_main_v2, val_main_v1, val_main_v0]

/-- The columns that the call reads are the split's. -/
theorem w_at (c : Dev nD) (k : Fin 2048) (x : Fin 1536) :
    (show Vec Ideal S2048x10240 .bf16 from V m c main_v8) (ix2 k ⟨7168 + x.val, by omega⟩)
      = (show Vec Ideal S2048x9992 .bf16 from m ((c.tc : Thread nD τ).loc main_arg1)) (ix2 k ⟨1280 + x.val, by omega⟩) := by
  rw [w_apply]
  refine Cert.InCat.cat_at _ ?_ ?_ ?_
  · dsimp only
    omega
  · unfold Cert.InCat.src
    dsimp only
    split_ifs <;> omega

open Cert.InQkvBReferenceIdeal.Read in
/-- The reference's result is its columns of the whole product. -/
theorem ref_apply2 (n : Vec Ideal S8192x2048 .bf16) (w : Vec Ideal S2048x9992 .bf16) (r : Fin 8192) (x : Fin 1536) :
    val_main_v6 (F := Ideal) n w (ix2 r x) = val_main_v2 (F := Ideal) n w (ix2 r ⟨1280 + x.val, by omega⟩) := by
  pointwise [val_main_v6]

open Cert.InQkvBReferenceIdeal.Read in
/-- The kernel's result is the reference's. -/
theorem result_eq (c : Dev nD) : (dats m 0 c).arrAt 2 cfg0.N = val_main_v6 (F := Ideal) (m ((c.tc : Thread nD τ).loc main_arg0)) (m ((c.tc : Thread nD τ).loc main_arg1)) := by
  rw [result2]
  funext i
  obtain ⟨r, x, rfl⟩ : ∃ (r : Fin 8192) (x : Fin 1536), i = ix2 r x := ⟨i 0, i 1, eq_ix2 i⟩
  refine Eq.trans ?_ (ref_apply2 _ _ _ _).symm
  refine Eq.trans ?_ (dot_apply _ _ _ _).symm
  refine Finset.sum_congr rfl fun k _ => ?_
  exact congrArg (_ * ·) (w_at m c k _)

end Cert.InQkvB
-- ==== Proof.InZ.lean ====
module

public import proofs.«01_k».proof.Proof.Gen.InZKernelIdeal.Value
public import proofs.«01_k».proof.Proof.Gen.InZReferenceIdeal.Read
public import proofs.«01_k».proof.Proof.InCat
public import Idealize.ShloMosaic.Lib.Pipeline.ValueKit
public import Idealize.ShloMosaic.Lib.StableHlo.RunRead
public import Idealize.ShloMosaic.Lib.Claim

/-! The in-projection to the delta rule's output gate. -/

@[expose] public section
set_option maxRecDepth 16384
noncomputable section
open Idealize.ShloMosaic Idealize.ShloMosaic.TcCoe Idealize.SL.Sem
open Idealize.ShloMosaic.Pipeline (Dat)
namespace Cert.InZ
open Cert.InZKernelIdeal Cert.InZKernelIdeal.Gen

variable (m : (ℓ : Loc nD τ sig) → Buf (Elt Ideal) ℓ)

theorem idx0 : ∀ t : Fin cfg0.N, win0_0.index t = ![t.val, 0] ∧ win0_1.index t = ![0, 17]
    ∧ win0_2.index t = ![t.val, 0] :=
  (by decide +kernel : ∀ t : Fin grid0.N, _)

/-- The product of two blocks at an element. -/
theorem part_apply2 (a : Vec Ideal S1024x2048 .bf16) (b : Vec Ideal S2048x512 .bf16) (r : Fin 1024) (c : Fin 512) :
    k0_pay1 (F := Ideal) a b (ix2 r c) = ∑ k : Fin 2048, a (ix2 r k) * b (ix2 k c) := by
  pointwise [k0_pay1, k0_pay1]

/-- The kernel's result at an element. -/
theorem result2 (c : Dev nD) : (dats m 0 c).arrAt 2 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨8704 + (i 1).val, by
        have h : (i 1).val < 512 := (i 1).isLt
        omega⟩) := by
  refine (dats m 0 c).arrAt_eq_of_covers 2 _ (by decide +kernel) fun t _ y => ?_
  have ht : t.val < 8 := lt_of_lt_of_eq t.isLt N_0
  blk_simp
  rw [after0_2]
  frame_out
  obtain ⟨r, x, rfl⟩ : ∃ (r : Fin 1024) (x : Fin 512), y = ix2 r x := ⟨y 0, y 1, eq_ix2 y⟩
  refine (part_apply2 _ _ r x).trans (Finset.sum_congr rfl fun k _ => ?_)
  blk_point [iblk, V, idx0 t]

/-- The weight in the calls' order of columns. -/
theorem w_apply (c : Dev nD) (k : Fin 2048) (j : Fin 10240) :
    (show Vec Ideal S2048x10240 .bf16 from V m c main_v8) (ix2 k j)
      = Cert.InCat.cat (fun x => (show Vec Ideal S2048x9992 .bf16 from m ((c.tc : Thread nD τ).loc main_arg1)) (ix2 k x)) j.val := by
  show V m c main_v8 (ix2 k j) = _
  unfold V
  after_reads_simp
  pointwise []
  after_reads_simp
  pointwise []
  exact Cert.InCat.pieces_eq (fun x => m (c.tc.loc main_arg1) (ix2 k x)) j

open Cert.InZReferenceIdeal.Read in
/-- The reference's whole product at an element. -/
theorem dot_apply (n : Vec Ideal S8192x2048 .bf16) (w : Vec Ideal S2048x9992 .bf16) (r : Fin 8192) (x : Fin 9992) :
    val_main_v2 (F := Ideal) n w (ix2 r x) = ∑ k : Fin 2048, n (ix2 r k) * w (ix2 k x) := by
  pointwise [val_main_v2, val_main_v1, val_main_v0]

/-- The columns that the call reads are the split's. -/
theorem w_at (c : Dev nD) (k : Fin 2048) (x : Fin 512) :
    (show Vec Ideal S2048x10240 .bf16 from V m c main_v8) (ix2 k ⟨8704 + x.val, by omega⟩)
      = (show Vec Ideal S2048x9992 .bf16 from m ((c.tc : Thread nD τ).loc main_arg1)) (ix2 k ⟨2824 + x.val, by omega⟩) := by
  rw [w_apply]
  refine Cert.InCat.cat_at _ ?_ ?_ ?_
  · dsimp only
    omega
  · unfold Cert.InCat.src
    dsimp only
    split_ifs <;> omega

open Cert.InZReferenceIdeal.Read in
/-- The reference's result is its columns of the whole product. -/
theorem ref_apply2 (n : Vec Ideal S8192x2048 .bf16) (w : Vec Ideal S2048x9992 .bf16) (r : Fin 8192) (x : Fin 512) :
    val_main_v9 (F := Ideal) n w (ix2 r x) = val_main_v2 (F := Ideal) n w (ix2 r ⟨2824 + x.val, by omega⟩) := by
  pointwise [val_main_v9]

open Cert.InZReferenceIdeal.Read in
/-- The kernel's result is the reference's. -/
theorem result_eq (c : Dev nD) : (dats m 0 c).arrAt 2 cfg0.N = val_main_v9 (F := Ideal) (m ((c.tc : Thread nD τ).loc main_arg0)) (m ((c.tc : Thread nD τ).loc main_arg1)) := by
  rw [result2]
  funext i
  obtain ⟨r, x, rfl⟩ : ∃ (r : Fin 8192) (x : Fin 512), i = ix2 r x := ⟨i 0, i 1, eq_ix2 i⟩
  refine Eq.trans ?_ (ref_apply2 _ _ _ _).symm
  refine Eq.trans ?_ (dot_apply _ _ _ _).symm
  refine Finset.sum_congr rfl fun k _ => ?_
  exact congrArg (_ * ·) (w_at m c k _)

end Cert.InZ
-- ==== Proof.InQc.lean ====
module

public import proofs.«01_k».proof.Proof.Gen.InQcKernelIdeal.Value
public import proofs.«01_k».proof.Proof.Gen.InQcReferenceIdeal.Read
public import proofs.«01_k».proof.Proof.InCat
public import Idealize.ShloMosaic.Lib.Pipeline.ValueKit
public import Idealize.ShloMosaic.Lib.StableHlo.RunRead
public import Idealize.ShloMosaic.Lib.Claim

/-! The in-projection to the queries of the attention on the memory. -/

@[expose] public section
set_option maxRecDepth 16384
noncomputable section
open Idealize.ShloMosaic Idealize.ShloMosaic.TcCoe Idealize.SL.Sem
open Idealize.ShloMosaic.Pipeline (Dat)
namespace Cert.InQc
open Cert.InQcKernelIdeal Cert.InQcKernelIdeal.Gen

variable (m : (ℓ : Loc nD τ sig) → Buf (Elt Ideal) ℓ)

theorem idx0 : ∀ t : Fin cfg0.N, win0_0.index t = ![t.val, 0] ∧ win0_1.index t = ![0, 18]
    ∧ win0_2.index t = ![t.val, 0] :=
  (by decide +kernel : ∀ t : Fin grid0.N, _)

/-- The product of two blocks at an element. -/
theorem part_apply2 (a : Vec Ideal S1024x2048 .bf16) (b : Vec Ideal S2048x512 .bf16) (r : Fin 1024) (c : Fin 512) :
    k0_pay1 (F := Ideal) a b (ix2 r c) = ∑ k : Fin 2048, a (ix2 r k) * b (ix2 k c) := by
  pointwise [k0_pay1, k0_pay1]

/-- The kernel's result at an element. -/
theorem result2 (c : Dev nD) : (dats m 0 c).arrAt 2 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨9216 + (i 1).val, by
        have h : (i 1).val < 512 := (i 1).isLt
        omega⟩) := by
  refine (dats m 0 c).arrAt_eq_of_covers 2 _ (by decide +kernel) fun t _ y => ?_
  have ht : t.val < 8 := lt_of_lt_of_eq t.isLt N_0
  blk_simp
  rw [after0_2]
  frame_out
  obtain ⟨r, x, rfl⟩ : ∃ (r : Fin 1024) (x : Fin 512), y = ix2 r x := ⟨y 0, y 1, eq_ix2 y⟩
  refine (part_apply2 _ _ r x).trans (Finset.sum_congr rfl fun k _ => ?_)
  blk_point [iblk, V, idx0 t]

/-- The weight in the calls' order of columns. -/
theorem w_apply (c : Dev nD) (k : Fin 2048) (j : Fin 10240) :
    (show Vec Ideal S2048x10240 .bf16 from V m c main_v8) (ix2 k j)
      = Cert.InCat.cat (fun x => (show Vec Ideal S2048x9992 .bf16 from m ((c.tc : Thread nD τ).loc main_arg1)) (ix2 k x)) j.val := by
  show V m c main_v8 (ix2 k j) = _
  unfold V
  after_reads_simp
  pointwise []
  after_reads_simp
  pointwise []
  exact Cert.InCat.pieces_eq (fun x => m (c.tc.loc main_arg1) (ix2 k x)) j

open Cert.InQcReferenceIdeal.Read in
/-- The reference's whole product at an element. -/
theorem dot_apply (n : Vec Ideal S8192x2048 .bf16) (w : Vec Ideal S2048x9992 .bf16) (r : Fin 8192) (x : Fin 9992) :
    val_main_v2 (F := Ideal) n w (ix2 r x) = ∑ k : Fin 2048, n (ix2 r k) * w (ix2 k x) := by
  pointwise [val_main_v2, val_main_v1, val_main_v0]

/-- The columns that the call reads are the split's. -/
theorem w_at (c : Dev nD) (k : Fin 2048) (x : Fin 512) :
    (show Vec Ideal S2048x10240 .bf16 from V m c main_v8) (ix2 k ⟨9216 + x.val, by omega⟩)
      = (show Vec Ideal S2048x9992 .bf16 from m ((c.tc : Thread nD τ).loc main_arg1)) (ix2 k ⟨3336 + x.val, by omega⟩) := by
  rw [w_apply]
  refine Cert.InCat.cat_at _ ?_ ?_ ?_
  · dsimp only
    omega
  · unfold Cert.InCat.src
    dsimp only
    split_ifs <;> omega

open Cert.InQcReferenceIdeal.Read in
/-- The reference's result is its columns of the whole product. -/
theorem ref_apply2 (n : Vec Ideal S8192x2048 .bf16) (w : Vec Ideal S2048x9992 .bf16) (r : Fin 8192) (x : Fin 512) :
    val_main_v12 (F := Ideal) n w (ix2 r x) = val_main_v2 (F := Ideal) n w (ix2 r ⟨3336 + x.val, by omega⟩) := by
  pointwise [val_main_v12, val_main_v10]

open Cert.InQcReferenceIdeal.Read in
/-- The kernel's result is the reference's. -/
theorem result_eq (c : Dev nD) : (dats m 0 c).arrAt 2 cfg0.N = val_main_v12 (F := Ideal) (m ((c.tc : Thread nD τ).loc main_arg0)) (m ((c.tc : Thread nD τ).loc main_arg1)) := by
  rw [result2]
  funext i
  obtain ⟨r, x, rfl⟩ : ∃ (r : Fin 8192) (x : Fin 512), i = ix2 r x := ⟨i 0, i 1, eq_ix2 i⟩
  refine Eq.trans ?_ (ref_apply2 _ _ _ _).symm
  refine Eq.trans ?_ (dot_apply _ _ _ _).symm
  refine Finset.sum_congr rfl fun k _ => ?_
  exact congrArg (_ * ·) (w_at m c k _)

end Cert.InQc
-- ==== Proof.InGates.lean ====
module

public import proofs.«01_k».proof.Proof.Gen.InGatesKernelIdeal.Value
public import proofs.«01_k».proof.Proof.Gen.InGatesReferenceIdeal.Read
public import proofs.«01_k».proof.Proof.InCat
public import Idealize.ShloMosaic.Lib.Pipeline.ValueKit
public import Idealize.ShloMosaic.Lib.StableHlo.RunRead
public import Idealize.ShloMosaic.Lib.Claim

/-! The in-projection to the gates of the three branches. -/

@[expose] public section
set_option maxRecDepth 16384
noncomputable section
open Idealize.ShloMosaic Idealize.ShloMosaic.TcCoe Idealize.SL.Sem
open Idealize.ShloMosaic.Pipeline (Dat)
namespace Cert.InGates
open Cert.InGatesKernelIdeal Cert.InGatesKernelIdeal.Gen

variable (m : (ℓ : Loc nD τ sig) → Buf (Elt Ideal) ℓ)

theorem idx0 : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The product of two blocks at an element. -/
theorem part_apply2 (a : Vec Ideal S1024x2048 .bf16) (b : Vec Ideal S2048x1024 .bf16) (r : Fin 1024) (c : Fin 1024) :
    k0_pay1 (F := Ideal) a b (ix2 r c) = ∑ k : Fin 2048, a (ix2 r k) * b (ix2 k c) := by
  pointwise [k0_pay1, k0_pay1]

/-- The kernel's result at an element. -/
theorem result2 (c : Dev nD) : (dats m 0 c).arrAt 2 cfg0.N = fun i =>
    ∑ k : Fin 2048, (show Vec Ideal S8192x2048 .bf16 from m ((c.tc : Thread nD τ).loc main_arg0)) (ix2 (i 0) k)
      * (show Vec Ideal S2048x10240 .bf16 from V m c main_v8) (ix2 k ⟨0 + (i 1).val, by
        have h : (i 1).val < 6144 := (i 1).isLt
        omega⟩) := by
  refine (dats m 0 c).arrAt_eq_of_covers 2 _ (by decide +kernel) fun t _ y => ?_
  have ht : t.val < 48 := lt_of_lt_of_eq t.isLt N_0
  blk_simp
  rw [after0_2]
  frame_out
  obtain ⟨r, x, rfl⟩ : ∃ (r : Fin 1024) (x : Fin 1024), y = ix2 r x := ⟨y 0, y 1, eq_ix2 y⟩
  refine (part_apply2 _ _ r x).trans (Finset.sum_congr rfl fun k _ => ?_)
  blk_point [iblk, V, idx0 t]

/-- The weight in the calls' order of columns. -/
theorem w_apply (c : Dev nD) (k : Fin 2048) (j : Fin 10240) :
    (show Vec Ideal S2048x10240 .bf16 from V m c main_v8) (ix2 k j)
      = Cert.InCat.cat (fun x => (show Vec Ideal S2048x9992 .bf16 from m ((c.tc : Thread nD τ).loc main_arg1)) (ix2 k x)) j.val := by
  show V m c main_v8 (ix2 k j) = _
  unfold V
  after_reads_simp
  pointwise []
  after_reads_simp
  pointwise []
  exact Cert.InCat.pieces_eq (fun x => m (c.tc.loc main_arg1) (ix2 k x)) j

open Cert.InGatesReferenceIdeal.Read in
/-- The reference's whole product at an element. -/
theorem dot_apply (n : Vec Ideal S8192x2048 .bf16) (w : Vec Ideal S2048x9992 .bf16) (r : Fin 8192) (x : Fin 9992) :
    val_main_v2 (F := Ideal) n w (ix2 r x) = ∑ k : Fin 2048, n (ix2 r k) * w (ix2 k x) := by
  pointwise [val_main_v2, val_main_v1, val_main_v0]

/-- The columns that the call reads are the split's. -/
theorem w_at (c : Dev nD) (k : Fin 2048) (x : Fin 6144) :
    (show Vec Ideal S2048x10240 .bf16 from V m c main_v8) (ix2 k ⟨0 + x.val, by omega⟩)
      = (show Vec Ideal S2048x9992 .bf16 from m ((c.tc : Thread nD τ).loc main_arg1)) (ix2 k ⟨3848 + x.val, by omega⟩) := by
  rw [w_apply]
  refine Cert.InCat.cat_at _ ?_ ?_ ?_
  · dsimp only
    omega
  · unfold Cert.InCat.src
    dsimp only
    split_ifs <;> omega

open Cert.InGatesReferenceIdeal.Read in
/-- The reference's result is its columns of the whole product. -/
theorem ref_apply2 (n : Vec Ideal S8192x2048 .bf16) (w : Vec Ideal S2048x9992 .bf16) (r : Fin 8192) (x : Fin 6144) :
    val_main_v11 (F := Ideal) n w (ix2 r x) = val_main_v2 (F := Ideal) n w (ix2 r ⟨3848 + x.val, by omega⟩) := by
  pointwise [val_main_v11]

open Cert.InGatesReferenceIdeal.Read in
/-- The kernel's result is the reference's. -/
theorem result_eq (c : Dev nD) : (dats m 0 c).arrAt 2 cfg0.N = val_main_v11 (F := Ideal) (m ((c.tc : Thread nD τ).loc main_arg0)) (m ((c.tc : Thread nD τ).loc main_arg1)) := by
  rw [result2]
  funext i
  obtain ⟨r, x, rfl⟩ : ∃ (r : Fin 8192) (x : Fin 6144), i = ix2 r x := ⟨i 0, i 1, eq_ix2 i⟩
  refine Eq.trans ?_ (ref_apply2 _ _ _ _).symm
  refine Eq.trans ?_ (dot_apply _ _ _ _).symm
  refine Finset.sum_congr rfl fun k _ => ?_
  exact congrArg (_ * ·) (w_at m c k _)

end Cert.InGates
-- ==== Proof.InX.lean ====
module

public import proofs.«01_k».proof.Proof.Gen.InXKernelIdeal.Value
public import proofs.«01_k».proof.Proof.Gen.InXReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim
public import proofs.«01_k».proof.Proof.InCat

/-! The in-projection's gradient by its input: the kernel's blocked product over the calls' order of columns, summed over five
steps of 2048 columns in a scratch, is the reference's product over all 9992 columns. -/

@[expose] public section
set_option maxRecDepth 16384
noncomputable section
open Idealize.ShloMosaic Idealize.ShloMosaic.TcCoe Idealize.SL.Sem
open Idealize.ShloMosaic.Pipeline (Dat)
namespace Cert.InX
open Cert.InXKernelIdeal Cert.InXKernelIdeal.Gen

variable (m : (ℓ : Loc nD τ sig) → Buf (Elt Ideal) ℓ)

theorem idx0 : ∀ t : Fin cfg0.N, win0_0.index t = ![t.val / 10, t.val % 5] ∧ win0_1.index t = ![t.val / 5 % 2, t.val % 5]
    ∧ win0_2.index t = ![t.val / 10, t.val / 5 % 2] :=
  (by decide +kernel : ∀ t : Fin grid0.N, _)

/-- The product of two blocks at an element. -/
theorem part_apply (a : Vec Ideal S1024x2048 .bf16) (b : Vec Ideal S1024x2048 .bf16) (r : Fin 1024) (c : Fin 1024) :
    k0_pay1 (F := Ideal) a b (ix2 r c) = ∑ k : Fin 2048, a (ix2 r k) * b (ix2 c k) := by
  pointwise [k0_pay1]

theorem first_eq (a : Vec Ideal S1024x2048 .bf16) (b : Vec Ideal S1024x2048 .bf16) :
    k0_pay2 (F := Ideal) a b = k0_pay1 (F := Ideal) a b := shapeCast_self _ _
theorem next_apply (a : Vec Ideal S1024x2048 .bf16) (b : Vec Ideal S1024x2048 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S1024x2048 .bf16) (b : Vec Ideal S1024x2048 .bf16) (s : Vec Ideal S1024x1024 .f32)
    (r : Fin 1024) (x : Fin 1024) : k0_pay4 (F := Ideal) a b s (ix2 r x) = s (ix2 r x) + k0_pay1 (F := Ideal) a b (ix2 r x) := by
  rfl

/-- The running sum after point `n`: the scratch, and at a block's last step the scratch's contents with that
step's product added. -/
def acc (c : Dev nD) (n : ℕ) (h : n < cfg0.N) : Vec Ideal S1024x1024 .f32 :=
  if n % 5 = 4 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 5 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 5 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 5 = 4 by omega)]
  by_cases h3 : t.val % 5 = 4
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 5 = 4) (i : S1024x1024.Idx) :
    acc m c t.val t.isLt i = ∑ s : Fin 5, (fun (t : Fin cfg0.N) i => k0_pay1 (F := Ideal) (iblk m c 0 t) (iblk m c 1 t) i)
      ⟨5 * (t.val / 5) + s.val, Pipeline.run_point_lt_of_flush t h s⟩ i := by
  rw [Pipeline.eq_sum_fin_of_reset_step_apply_of_flush (acc m c) 5 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 10240, (show Vec Ideal S8192x10240 .bf16 from V m c main_v8) (ix2 (i 0) k)
        * (show Vec Ideal S2048x10240 .bf16 from V m c main_v17) (ix2 (i 1) k) := by
  refine (dats m 0 c).arrAt_eq_of_covers 2 _ (by decide +kernel) fun t hf y => ?_
  have h3 : t.val % 5 = 4 := (flush0_2 t).mp hf
  blk_simp
  rw [after0_2]
  obtain ⟨r, x, rfl⟩ : ∃ (r : Fin 1024) (x : Fin 1024), y = ix2 r x := ⟨y 0, y 1, eq_ix2 y⟩
  have e : (outsAt0 m c t.val t.isLt).1 (ix2 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 80 := lt_of_lt_of_eq t.isLt N_0
  blk_point [iblk, V, idx0 t, idx0 ⟨_, Pipeline.run_point_lt_of_flush t h3 s⟩]

/-- The host's layout of the projection's gradient at an element. -/
theorem d_apply (c : Dev nD) (k : Fin 8192) (j : Fin 10240) :
    (show Vec Ideal S8192x10240 .bf16 from V m c main_v8) (ix2 k j)
      = Cert.InCat.cat (fun x => (show Vec Ideal S8192x9992 .bf16 from m ((c.tc : Thread nD τ).loc main_arg2)) (ix2 k x)) j.val := by
  show V m c main_v8 (ix2 k j) = _
  unfold V
  after_reads_simp
  pointwise []
  after_reads_simp
  pointwise []
  exact Cert.InCat.pieces_eq (fun x => m (c.tc.loc main_arg2) (ix2 k x)) j

/-- The host's layout of the projection's weight at an element. -/
theorem w_apply (c : Dev nD) (k : Fin 2048) (j : Fin 10240) :
    (show Vec Ideal S2048x10240 .bf16 from V m c main_v17) (ix2 k j)
      = Cert.InCat.cat (fun x => (show Vec Ideal S2048x9992 .bf16 from m ((c.tc : Thread nD τ).loc main_arg1)) (ix2 k x)) j.val := by
  show V m c main_v17 (ix2 k j) = _
  unfold V
  after_reads_simp
  pointwise []
  after_reads_simp
  pointwise []
  exact Cert.InCat.pieces_eq (fun x => m (c.tc.loc main_arg1) (ix2 k x)) j

open Cert.InXReferenceIdeal.Read in
/-- The kernel's result is the reference's: the order of the summed columns does not matter, and the zeros add nothing. -/
theorem result_eq (c : Dev nD) : (dats m 0 c).arrAt 2 cfg0.N = val_main_v6 (F := Ideal) (m ((c.tc : Thread nD τ).loc main_arg1)) (m ((c.tc : Thread nD τ).loc main_arg2)) := by
  rw [result]
  funext i
  obtain ⟨r, x, rfl⟩ : ∃ (r : Fin 8192) (x : Fin 2048), i = ix2 r x := ⟨i 0, i 1, eq_ix2 i⟩
  refine (Finset.sum_congr rfl fun k _ => congrArg₂ (· * ·) (d_apply m c r k) (w_apply m c x k)).trans ?_
  simp only [Cert.InCat.cat_mul]
  refine (Cert.InCat.sum_all _).trans ?_
  pointwise [val_main_v6, val_main_v3, val_main_v1]

end Cert.InX
-- ==== Proof.InW.lean ====
module

public import proofs.«01_k».proof.Proof.Gen.InWKernelIdeal.Value
public import proofs.«01_k».proof.Proof.Gen.InWReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim
public import proofs.«01_k».proof.Proof.InCat

/-! The in-projection's gradient by its weight: the kernel's product of the transposed input with the gradient in the calls'
order of columns, summed over four steps of 2048 tokens, is the reference's columns in that order. -/

@[expose] public section
set_option maxRecDepth 16384
noncomputable section
open Idealize.ShloMosaic Idealize.ShloMosaic.TcCoe Idealize.SL.Sem
open Idealize.ShloMosaic.Pipeline (Dat)
namespace Cert.InW
open Cert.InWKernelIdeal Cert.InWKernelIdeal.Gen

variable (m : (ℓ : Loc nD τ sig) → Buf (Elt Ideal) ℓ)

theorem idx0 : ∀ t : Fin cfg0.N, win0_0.index t = ![t.val % 4, t.val / 40] ∧ win0_1.index t = ![t.val % 4, t.val / 4 % 10]
    ∧ win0_2.index t = ![t.val / 40, t.val / 4 % 10] :=
  (by decide +kernel : ∀ t : Fin grid0.N, _)

/-- The product of two blocks at an element. -/
theorem part_apply (a : Vec Ideal S2048x1024 .bf16) (b : Vec Ideal S2048x1024 .bf16) (r : Fin 1024) (c : Fin 1024) :
    k0_pay1 (F := Ideal) a b (ix2 r c) = ∑ k : Fin 2048, a (ix2 k r) * b (ix2 k c) := by
  pointwise [k0_pay1]

theorem first_eq (a : Vec Ideal S2048x1024 .bf16) (b : Vec Ideal S2048x1024 .bf16) :
    k0_pay2 (F := Ideal) a b = k0_pay1 (F := Ideal) a b := shapeCast_self _ _
theorem next_apply (a : Vec Ideal S2048x1024 .bf16) (b : Vec Ideal S2048x1024 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S2048x1024 .bf16) (b : Vec Ideal S2048x1024 .bf16) (s : Vec Ideal S1024x1024 .f32)
    (r : Fin 1024) (x : Fin 1024) : k0_pay4 (F := Ideal) a b s (ix2 r x) = s (ix2 r x) + k0_pay1 (F := Ideal) a b (ix2 r x) := by
  rfl

/-- The running sum after point `n`: the scratch, and at a block's last step the scratch's contents with that
step's product added. -/
def acc (c : Dev nD) (n : ℕ) (h : n < cfg0.N) : Vec Ideal S1024x1024 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 4 = 3) (i : S1024x1024.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 8192, (show Vec Ideal S8192x2048 .bf16 from m ((c.tc : Thread nD τ).loc main_arg0)) (ix2 k (i 0))
        * (show Vec Ideal S8192x10240 .bf16 from V m c main_v8) (ix2 k (i 1)) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ (r : Fin 1024) (x : Fin 1024), y = ix2 r x := ⟨y 0, y 1, eq_ix2 y⟩
  have e : (outsAt0 m c t.val t.isLt).1 (ix2 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 80 := lt_of_lt_of_eq t.isLt N_0
  blk_point [iblk, V, idx0 t, idx0 ⟨_, Pipeline.run_point_lt_of_flush t h3 s⟩]

/-- The host's layout of the projection's gradient at an element. -/
theorem d_apply (c : Dev nD) (k : Fin 8192) (j : Fin 10240) :
    (show Vec Ideal S8192x10240 .bf16 from V m c main_v8) (ix2 k j)
      = Cert.InCat.cat (fun x => (show Vec Ideal S8192x9992 .bf16 from m ((c.tc : Thread nD τ).loc main_arg2)) (ix2 k x)) j.val := by
  show V m c main_v8 (ix2 k j) = _
  unfold V
  after_reads_simp
  pointwise []
  after_reads_simp
  pointwise []
  exact Cert.InCat.pieces_eq (fun x => m (c.tc.loc main_arg2) (ix2 k x)) j

open Cert.InWReferenceIdeal.Read in
/-- The reference's product at an element. -/
theorem dot_apply (n : Vec Ideal S8192x2048 .bf16) (d : Vec Ideal S8192x9992 .bf16) (r : Fin 2048) (x : Fin 9992) :
    val_main_v5 (F := Ideal) n d (ix2 r x) = ∑ k : Fin 8192, n (ix2 k r) * d (ix2 k x) := by
  pointwise [val_main_v5, val_main_v4, val_main_v3, val_main_v0]
  exact Finset.sum_congr rfl fun k _ => mul_comm _ _

open Cert.InWReferenceIdeal.Read in
/-- The reference's gradient in the calls' order of columns. -/
theorem ref_apply (n : Vec Ideal S8192x2048 .bf16) (d : Vec Ideal S8192x9992 .bf16) (r : Fin 2048) (j : Fin 10240) :
    val_main_v18 (F := Ideal) n d (ix2 r j) = Cert.InCat.cat (fun x => val_main_v5 (F := Ideal) n d (ix2 r x)) j.val := by
  pointwise [val_main_v18, val_main_v17, val_main_v16, val_main_v15, val_main_v14, val_main_v13, val_main_v12, val_main_v11, val_main_v10, val_main_v9, val_main_v8, val_main_v7, val_main_v6, val_main_cst]
  exact Cert.InCat.pieces10_eq (fun x => val_main_v5 (F := Ideal) n d (ix2 r x)) j

open Cert.InWReferenceIdeal.Read in
/-- The kernel's result is the reference's. -/
theorem result_eq (c : Dev nD) : (dats m 0 c).arrAt 2 cfg0.N = val_main_v18 (F := Ideal) (m ((c.tc : Thread nD τ).loc main_arg0)) (m ((c.tc : Thread nD τ).loc main_arg2)) := by
  rw [result]
  funext i
  obtain ⟨r, x, rfl⟩ : ∃ (r : Fin 2048) (x : Fin 10240), i = ix2 r x := ⟨i 0, i 1, eq_ix2 i⟩
  refine Eq.trans ?_ (ref_apply _ _ r x).symm
  refine (Finset.sum_congr rfl fun k _ => congrArg (_ * ·) (d_apply m c k x)).trans ?_
  refine (Cert.InCat.sum_cat _ _ _).trans (congrArg (fun f => Cert.InCat.cat f x.val) (funext fun j => ?_))
  exact (dot_apply _ _ r j).symm

end Cert.InW
-- ==== Proof.Out.lean ====
module

public import proofs.«01_k».proof.Proof.Gen.OutKernelIdeal.Value
public import proofs.«01_k».proof.Proof.Gen.OutReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The out-projection: the kernel's product with the residual added, and that row's norm, are the reference's. -/

@[expose] public section
set_option maxRecDepth 16384
noncomputable section
open Idealize.ShloMosaic Idealize.ShloMosaic.TcCoe Idealize.SL.Sem
open Idealize.ShloMosaic.Pipeline (Dat)
namespace Cert.Out
open Cert.OutKernelIdeal Cert.OutKernelIdeal.Gen

variable (m : (ℓ : Loc nD τ sig) → Buf (Elt Ideal) ℓ)

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The product of two blocks with the residual's block added, at an element. -/
theorem part_apply (a : Vec Ideal S512x2048 .bf16) (b : Vec Ideal S2048x2048 .bf16) (s : Vec Ideal S512x2048 .f32) (r : Fin 512) (x : Fin 2048) :
    k0_pay1 (F := Ideal) a b s (ix2 r x) = (∑ k : Fin 2048, a (ix2 r k) * b (ix2 k x)) + s (ix2 r x) := by
  pointwise [k0_pay1]

/-- A row scaled by the inverse root of its mean square and by the gain, at an element. -/
def norm (h : Fin 2048 → EReal) (g : EReal) (x : Fin 2048) : EReal :=
  h x * Ideal.rsqrt (Ideal.div (∑ k, h k * h k) (Ideal.ofBits .f32 0x45000000#32) + Ideal.ofBits .f32 0x358637BD#32) * g

/-- The second result's block at an element. -/
theorem norm_apply (a : Vec Ideal S512x2048 .bf16) (b : Vec Ideal S2048x2048 .bf16) (s : Vec Ideal S512x2048 .f32) (g : Vec Ideal S1x2048 .f32)
    (r : Fin 512) (x : Fin 2048) :
    k0_pay2 (F := Ideal) a b s g (ix2 r x) = norm (fun k => k0_pay1 (F := Ideal) a b s (ix2 r k)) (g (ix2 0 x)) x := by
  unfold norm
  pointwise [k0_pay2]

/-- The residual after the projection. -/
def res (c : Dev nD) (r : Fin 8192) (x : Fin 2048) : EReal :=
  (∑ k : Fin 2048, (show Vec Ideal S8192x2048 .bf16 from m ((c.tc : Thread nD τ).loc main_arg0)) (ix2 r k)
      * (show Vec Ideal S2048x2048 .bf16 from m ((c.tc : Thread nD τ).loc main_arg1)) (ix2 k x))
    + (show Vec Ideal S8192x2048 .f32 from m ((c.tc : Thread nD τ).loc main_arg2)) (ix2 r x)

/-- The first payload over a point's blocks is the residual's rows of that point. -/
theorem part_blk (c : Dev nD) (t : Fin cfg0.N) (r : Fin 512) (x : Fin 2048) (R : Fin 8192) (hR : R.val = t.val * 512 + r.val) :
    k0_pay1 (F := Ideal) (iblk m c 0 t) (iblk m c 1 t) (iblk m c 2 t) (ix2 r x) = res m c R x := by
  have ht : t.val < 16 := lt_of_lt_of_eq t.isLt N_0
  refine (part_apply _ _ _ r x).trans (congrArg₂ (· + ·) (Finset.sum_congr rfl fun k _ => ?_) ?_)
  all_goals blk_point [iblk, V, idx0 t]

/-- The kernel's first result at an element. -/
theorem result4 (c : Dev nD) : (dats m 0 c).arrAt 4 cfg0.N = fun i => res m c (i 0) (i 1) := by
  refine (dats m 0 c).arrAt_eq_of_covers 4 _ (by decide +kernel) fun t _ y => ?_
  have ht : t.val < 16 := lt_of_lt_of_eq t.isLt N_0
  blk_simp
  rw [after0_4]
  frame_out
  obtain ⟨r, x, rfl⟩ : ∃ (r : Fin 512) (x : Fin 2048), y = ix2 r x := ⟨y 0, y 1, eq_ix2 y⟩
  refine (part_blk m c t r x ⟨t.val * 512 + r.val, by omega⟩ rfl).trans ?_
  blk_point [idx0 t]

/-- The kernel's second result at an element. -/
theorem result5 (c : Dev nD) : (dats m 0 c).arrAt 5 cfg0.N = fun i => norm (fun k => res m c (i 0) k)
    ((show Vec Ideal S1x2048 .f32 from m ((c.tc : Thread nD τ).loc main_arg3)) (ix2 0 (i 1))) (i 1) := by
  refine (dats m 0 c).arrAt_eq_of_covers 5 _ (by decide +kernel) fun t _ y => ?_
  have ht : t.val < 16 := lt_of_lt_of_eq t.isLt N_0
  blk_simp
  rw [after0_5]
  frame_out
  obtain ⟨r, x, rfl⟩ : ∃ (r : Fin 512) (x : Fin 2048), y = ix2 r x := ⟨y 0, y 1, eq_ix2 y⟩
  refine (norm_apply _ _ _ _ r x).trans ?_
  refine (congrArg₂ (fun h g => norm h g x) (funext fun k => part_blk m c t r k ⟨t.val * 512 + r.val, by omega⟩ rfl)
    (show _ = (show Vec Ideal S1x2048 .f32 from m ((c.tc : Thread nD τ).loc main_arg3)) (ix2 0 x) from by blk_point [iblk, V, idx0 t])).trans ?_
  blk_point [idx0 t]

open Cert.OutReferenceIdeal.Read in
/-- The kernel's first result is the reference's. -/
theorem result_eq4 (c : Dev nD) : (dats m 0 c).arrAt 4 cfg0.N = val_main_v3 (F := Ideal) (m ((c.tc : Thread nD τ).loc main_arg0))
    (m ((c.tc : Thread nD τ).loc main_arg1)) (m ((c.tc : Thread nD τ).loc main_arg2)) := by
  rw [result4]
  funext i
  obtain ⟨r, x, rfl⟩ : ∃ (r : Fin 8192) (x : Fin 2048), i = ix2 r x := ⟨i 0, i 1, eq_ix2 i⟩
  pointwise [val_main_v3, val_main_v2, val_main_v1, val_main_v0]
  exact add_comm _ _

open Cert.OutReferenceIdeal.Read in
/-- The kernel's second result is the reference's. -/
theorem result_eq5 (c : Dev nD) : (dats m 0 c).arrAt 5 cfg0.N = val_main_v16 (F := Ideal) (m ((c.tc : Thread nD τ).loc main_arg0))
    (m ((c.tc : Thread nD τ).loc main_arg1)) (m ((c.tc : Thread nD τ).loc main_arg2)) (m ((c.tc : Thread nD τ).loc main_arg3)) := by
  have e : ∀ i, res m c (i 0) (i 1) = val_main_v3 (F := Ideal) (m ((c.tc : Thread nD τ).loc main_arg0))
    (m ((c.tc : Thread nD τ).loc main_arg1)) (m ((c.tc : Thread nD τ).loc main_arg2)) i := fun i =>
    (congrFun (result4 m c) i).symm.trans (congrFun (result_eq4 m c) i)
  rw [result5]
  funext i
  obtain ⟨r, x, rfl⟩ : ∃ (r : Fin 8192) (x : Fin 2048), i = ix2 r x := ⟨i 0, i 1, eq_ix2 i⟩
  refine (congrArg (fun h => norm h _ _) (funext fun k => e (ix2 r k))).trans ?_
  unfold norm
  pointwise [val_main_v16, val_main_v15, val_main_v14, val_main_v13, val_main_v12, val_main_v11, val_main_v10, val_main_v9, val_main_v8, val_main_v7, val_main_v6, val_main_v5, val_main_v4, val_main_cst, val_main_cst_0, val_main_cst_1]

end Cert.Out
-- ==== Proof.OutX.lean ====
module

public import proofs.«01_k».proof.Proof.Gen.OutXKernelIdeal.Value
public import proofs.«01_k».proof.Proof.Gen.OutXReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The out-projection's gradient by its input: the kernel's tiled product of the residual's gradient with the transposed
weight is the reference's. -/

@[expose] public section
set_option maxRecDepth 16384
noncomputable section
open Idealize.ShloMosaic Idealize.ShloMosaic.TcCoe Idealize.SL.Sem
open Idealize.ShloMosaic.Pipeline (Dat)
namespace Cert.OutX
open Cert.OutXKernelIdeal Cert.OutXKernelIdeal.Gen

variable (m : (ℓ : Loc nD τ sig) → Buf (Elt Ideal) ℓ)

theorem idx0 : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The product of two blocks at an element. -/
theorem part_apply (a : Vec Ideal S1024x2048 .bf16) (b : Vec Ideal S1024x2048 .bf16) (r c : Fin 1024) :
    k0_pay1 (F := Ideal) a b (ix2 r c) = ∑ k : Fin 2048, a (ix2 r k) * b (ix2 c k) := by
  pointwise [k0_pay1]

/-- The kernel's result at an element. -/
theorem result (c : Dev nD) : (dats m 0 c).arrAt 2 cfg0.N = fun i =>
    ∑ k : Fin 2048, (show Vec Ideal S8192x2048 .bf16 from m ((c.tc : Thread nD τ).loc main_arg2)) (ix2 (i 0) k)
      * (show Vec Ideal S2048x2048 .bf16 from m ((c.tc : Thread nD τ).loc main_arg1)) (ix2 (i 1) k) := by
  refine (dats m 0 c).arrAt_eq_of_covers 2 _ (by decide +kernel) fun t _ y => ?_
  have ht : t.val < 16 := lt_of_lt_of_eq t.isLt N_0
  blk_simp
  rw [after0_2]
  frame_out
  obtain ⟨r, x, rfl⟩ : ∃ (r x : Fin 1024), y = ix2 r x := ⟨y 0, y 1, eq_ix2 y⟩
  refine (part_apply _ _ r x).trans (Finset.sum_congr rfl fun k _ => ?_)
  blk_point [iblk, V, idx0 t]

open Cert.OutXReferenceIdeal.Read in
/-- The kernel's result is the reference's. -/
theorem result_eq (c : Dev nD) : (dats m 0 c).arrAt 2 cfg0.N = val_main_v6 (F := Ideal) (m ((c.tc : Thread nD τ).loc main_arg1)) (m ((c.tc : Thread nD τ).loc main_arg2)) := by
  rw [result]
  funext i
  obtain ⟨r, x, rfl⟩ : ∃ (r : Fin 8192) (x : Fin 2048), i = ix2 r x := ⟨i 0, i 1, eq_ix2 i⟩
  pointwise [val_main_v6, val_main_v3, val_main_v1]

end Cert.OutX
-- ==== Proof.OutW.lean ====
module

public import proofs.«01_k».proof.Proof.Gen.OutWKernelIdeal.Value
public import proofs.«01_k».proof.Proof.Gen.OutWReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The out-projection's gradient by its weight: the kernel's product of the transposed merged branches with the residual's
gradient, summed over four steps of 2048 tokens in a scratch, is the reference's. -/

@[expose] public section
set_option maxRecDepth 16384
noncomputable section
open Idealize.ShloMosaic Idealize.ShloMosaic.TcCoe Idealize.SL.Sem
open Idealize.ShloMosaic.Pipeline (Dat)
namespace Cert.OutW
open Cert.OutWKernelIdeal Cert.OutWKernelIdeal.Gen

variable (m : (ℓ : Loc nD τ sig) → Buf (Elt Ideal) ℓ)

theorem idx0 : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The product of two blocks at an element. -/
theorem part_apply (a : Vec Ideal S2048x1024 .bf16) (b : Vec Ideal S2048x1024 .bf16) (r : Fin 1024) (c : Fin 1024) :
    k0_pay1 (F := Ideal) a b (ix2 r c) = ∑ k : Fin 2048, a (ix2 k r) * b (ix2 k c) := by
  pointwise [k0_pay1]

theorem first_eq (a : Vec Ideal S2048x1024 .bf16) (b : Vec Ideal S2048x1024 .bf16) :
    k0_pay2 (F := Ideal) a b = k0_pay1 (F := Ideal) a b := shapeCast_self _ _
theorem next_apply (a : Vec Ideal S2048x1024 .bf16) (b : Vec Ideal S2048x1024 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S2048x1024 .bf16) (b : Vec Ideal S2048x1024 .bf16) (s : Vec Ideal S1024x1024 .f32)
    (r : Fin 1024) (x : Fin 1024) : k0_pay4 (F := Ideal) a b s (ix2 r x) = s (ix2 r x) + k0_pay1 (F := Ideal) a b (ix2 r x) := by
  rfl

/-- The running sum after point `n`: the scratch, and at a block's last step the scratch's contents with that
step's product added. -/
def acc (c : Dev nD) (n : ℕ) (h : n < cfg0.N) : Vec Ideal S1024x1024 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 4 = 3) (i : S1024x1024.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 8192, (show Vec Ideal S8192x2048 .bf16 from m ((c.tc : Thread nD τ).loc main_arg0)) (ix2 k (i 0))
        * (show Vec Ideal S8192x2048 .bf16 from m ((c.tc : Thread nD τ).loc main_arg2)) (ix2 k (i 1)) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ (r : Fin 1024) (x : Fin 1024), y = ix2 r x := ⟨y 0, y 1, eq_ix2 y⟩
  have e : (outsAt0 m c t.val t.isLt).1 (ix2 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 16 := lt_of_lt_of_eq t.isLt N_0
  blk_point [iblk, V, idx0 t, idx0 ⟨_, Pipeline.run_point_lt_of_flush t h3 s⟩]

open Cert.OutWReferenceIdeal.Read in
/-- The kernel's result is the reference's. -/
theorem result_eq (c : Dev nD) : (dats m 0 c).arrAt 2 cfg0.N = val_main_v7 (F := Ideal) (m ((c.tc : Thread nD τ).loc main_arg0)) (m ((c.tc : Thread nD τ).loc main_arg2)) := by
  rw [result]
  funext i
  obtain ⟨r, x, rfl⟩ : ∃ (r : Fin 2048) (x : Fin 2048), i = ix2 r x := ⟨i 0, i 1, eq_ix2 i⟩
  pointwise [val_main_v7, val_main_v5, val_main_v4, val_main_v3, val_main_v0]
  exact Finset.sum_congr rfl fun k _ => mul_comm _ _

end Cert.OutW
-- ==== Proof.RmsMath.lean ====
module

public import Idealize.ShloMosaic.Lib.Claim
public import Idealize.ShloMosaic.Lib.IdealHost
public import Idealize.ShloMosaic.Lib.Pipeline.ValueKit

/-! The gradient of the root-mean-square norm over the extended reals: the kernels' form, which takes the mean of the
normalised row's product with its gradient, is the derivative's form, which takes the row's own product. No finiteness is
needed: where a row holds an infinity the norm's factor is zero, and where only the gradient does, both forms have
the same infinities. -/

@[expose] public section
noncomputable section
open Idealize.ShloMosaic
namespace Cert.RmsMath

/-- 2048 and 128, the numbers of columns. -/
abbrev n2048 : EReal := Ideal.ofBits .f32 0x45000000#32
abbrev n128 : EReal := Ideal.ofBits .f32 0x43000000#32
/-- The number that keeps the norm's root off zero. -/
abbrev eps : EReal := Ideal.ofBits .f32 0x358637BD#32
/-- −1/2. -/
abbrev mhalf : EReal := Ideal.ofBits .f32 0xBF000000#32

theorem n2048_eq : n2048 = ((2048 : ℝ) : EReal) := by
  simp [n2048, Ideal.ofBits, Ideal.ieee, -EReal.coe_mul]; norm_num
theorem n128_eq : n128 = ((128 : ℝ) : EReal) := by
  simp [n128, Ideal.ofBits, Ideal.ieee, -EReal.coe_mul]; norm_num
theorem mhalf_eq : mhalf = ((-(1 / 2) : ℝ) : EReal) := by
  simp [mhalf, Ideal.ofBits, Ideal.ieee, -EReal.coe_mul, -EReal.coe_neg]; norm_num
theorem eps_eq : ∃ e : ℝ, 0 < e ∧ eps = (e : EReal) := by
  refine ⟨8796093 * (2 : ℝ) ^ (-43 : ℤ), by positivity, ?_⟩
  simp [eps, Ideal.ofBits, Ideal.ieee, -EReal.coe_mul]

/-- A division by a real other than zero is a product. -/
theorem div_coe (x : EReal) (r : ℝ) (h : r ≠ 0) : Ideal.div x (r : EReal) = ((r⁻¹ : ℝ) : EReal) * x := by
  rw [Ideal.div, if_neg (by exact_mod_cast h), EReal.coe_inv, mul_comm]

/-- A factor that is a nonnegative real goes through a sum. -/
theorem coe_mul_add (r : ℝ) (h : 0 ≤ r) (x y : EReal) : (r : EReal) * (x + y) = r * x + r * y :=
  EReal.left_distrib_of_nonneg_of_ne_top (by exact_mod_cast h) (EReal.coe_ne_top r) x y

theorem coe_mul_sum {ι : Type*} (s : Finset ι) (r : ℝ) (h : 0 ≤ r) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, coe_mul_add r h, ih]

/-- The sum of reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Twice a real's product is the sum of two. -/
theorem twice (r : ℝ) (x : EReal) : (r : EReal) * x + (r : EReal) * x = ((2 * r : ℝ) : EReal) * x := by
  induction x with
  | coe x => rw [← EReal.coe_mul, ← EReal.coe_add, ← EReal.coe_mul]; congr 1; ring
  | top =>
    rcases lt_trichotomy r 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy r 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-! The norm, with the number of columns as a parameter. -/

/-- The row's mean square with the small number added. -/
def ms (N : EReal) {n : ℕ} (x : Fin n → EReal) : EReal := Ideal.div (∑ k, x k * x k) N + eps

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A row's mean square is a positive real, and the row's entries are reals; or the factor is zero. -/
theorem ms_cases {N : EReal} (c : ℝ) (hc : 0 < c) (hN : N = c) {n : ℕ} (x : Fin n → EReal) :
    (∃ (X : Fin n → ℝ) (M : ℝ), 0 < M ∧ (∀ k, x k = X k) ∧ ms N x = M) ∨ ms N x = ⊤ := by
  obtain ⟨e, he, hE⟩ := eps_eq
  by_cases h : ∀ k, ∃ r : ℝ, x k = r
  · choose X hX using h
    refine .inl ⟨X, c⁻¹ * (∑ k, X k * X k) + e, ?_, hX, ?_⟩
    · have : 0 ≤ ∑ k, X k * X k := Finset.sum_nonneg fun k _ => mul_self_nonneg _
      positivity
    · simp only [ms, hX, hN, hE]
      rw [div_coe _ _ hc.ne', EReal.coe_add, EReal.coe_mul, coe_sum]
      simp only [EReal.coe_mul]
  · refine .inr ?_
    push Not at h
    obtain ⟨k, hk⟩ := h
    have hs : x k * x k = ⊤ := by
      induction hx : x k with
      | coe r => exact absurd hx (hk r)
      | top => exact EReal.top_mul_top
      | bot => exact EReal.bot_mul_bot
    have hsum : ∑ k, x k * x k = ⊤ := top_le_iff.mp (hs ▸ Finset.single_le_sum (f := fun k => x k * x k) (fun k _ => sq_nonneg _) (Finset.mem_univ k))
    rw [ms, hsum, hN, div_coe _ _ hc.ne', EReal.coe_mul_top_of_pos (by positivity), hE]
    rfl

/-- The norm's factor. -/
def fac (N : EReal) {n : ℕ} (x : Fin n → EReal) : EReal := Ideal.rsqrt (ms N x)

/-- The kernels' gradient of the norm at one element. -/
def kgrad (N : EReal) {n : ℕ} (x dxh : Fin n → EReal) (k : Fin n) : EReal :=
  fac N x * (dxh k - x k * fac N x * Ideal.div (∑ j, dxh j * (x j * fac N x)) N)

/-- The derivative's coefficient of the row. -/
def coef (N : EReal) {n : ℕ} (x dxh : Fin n → EReal) : EReal :=
  Ideal.div ((∑ j, x j * dxh j) * (mhalf * Ideal.div (fac N x) (ms N x))) N

/-- The two forms of the gradient agree. -/
theorem grad_eq {N : EReal} (c : ℝ) (hc : 0 < c) (hN : N = c) {n : ℕ} (d : EReal) (x dxh : Fin n → EReal) (k : Fin n) :
    d + kgrad N x dxh k = d + dxh k * fac N x + x k * coef N x dxh + coef N x dxh * x k := by
  rw [add_assoc, add_assoc, ← add_assoc (dxh k * fac N x)]
  congr 1
  rw [kgrad, coef]
  rcases ms_cases c hc hN x with ⟨X, M, hM, hX, hm⟩ | hm
  · have hf : fac N x = (((Real.sqrt M)⁻¹ : ℝ) : EReal) := by
      rw [fac, hm, Ideal.rsqrt_coe, if_neg (by linarith), if_neg hM.ne']
    have hp : 0 < Real.sqrt M := Real.sqrt_pos.mpr hM
    have hsq : M = Real.sqrt M * Real.sqrt M := (Real.mul_self_sqrt hM.le).symm
    generalize hq : Real.sqrt M = q at hf hp hsq
    have hS : ∑ j, dxh j * (x j * fac N x) = ((q⁻¹ : ℝ) : EReal) * ∑ j, x j * dxh j := by
      rw [coe_mul_sum _ _ (by positivity), hf]
      exact Finset.sum_congr rfl fun j _ => by rw [mul_comm, mul_comm (x j), mul_assoc]
    rw [hS, hm, hf, hN, mhalf_eq, hX k, div_coe _ _ hc.ne', div_coe _ _ hc.ne', div_coe _ _ hM.ne',
      mul_comm (_ : EReal) ((X k : ℝ) : EReal)]
    generalize ∑ j, x j * dxh j = S
    generalize dxh k = D
    have e1 : ((X k : ℝ) : EReal) * ((q⁻¹ : ℝ) : EReal) * (((c⁻¹ : ℝ) : EReal) * (((q⁻¹ : ℝ) : EReal) * S))
        = ((X k * q⁻¹ * c⁻¹ * q⁻¹ : ℝ) : EReal) * S := by
      simp only [EReal.coe_mul, mul_assoc]
    have e2 : ((X k : ℝ) : EReal) * (((c⁻¹ : ℝ) : EReal) * (S * (((-(1 / 2) : ℝ) : EReal) * (((M⁻¹ : ℝ) : EReal) * ((q⁻¹ : ℝ) : EReal)))))
        = ((X k * c⁻¹ * (-(1 / 2) * (M⁻¹ * q⁻¹)) : ℝ) : EReal) * S := by
      simp only [EReal.coe_mul, mul_assoc]
      rw [mul_comm S]
      simp only [mul_assoc]
    rw [e1, e2, add_assoc, twice, sub_eq_add_neg, coe_mul_add _ (by positivity), ← neg_mul, ← EReal.coe_neg, ← mul_assoc,
      ← EReal.coe_mul, mul_comm D]
    congr 3
    rw [hsq]
    field_simp
  · have hf : fac N x = 0 := by rw [fac, hm, Ideal.rsqrt_top]
    have hz : Ideal.div 0 N = 0 := by rw [hN, div_coe _ _ hc.ne', mul_zero]
    have hz2 : Ideal.div 0 (⊤ : EReal) = 0 := by rw [Ideal.div, if_neg (by simp), zero_mul]
    rw [hm, hf, hz2]
    simp only [mul_zero, zero_mul, hz, add_zero]

end Cert.RmsMath
-- ==== Proof.Sigmoid.lean ====
module

public import Idealize.ShloMosaic.Lib.Claim
public import Idealize.ShloMosaic.Lib.IdealHost
public import proofs.«01_k».proof.Proof.RmsMath

/-! The sigmoid over the extended reals: the kernels take it from the tangent of half the argument, the reference from the
exponential. They agree everywhere, the infinities included. -/

@[expose] public section
noncomputable section
open Idealize.ShloMosaic
namespace Cert.Sigmoid
open Cert.RmsMath

/-- One half. -/
abbrev half : EReal := Ideal.ofBits .f32 0x3F000000#32
/-- One. -/
abbrev one : EReal := Ideal.ofBits .f32 0x3F800000#32
theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num

/-- The kernels' sigmoid. -/
def sg (z : EReal) : EReal := half * Ideal.tanh (half * z) + half

/-- The real identity. -/
theorem real_eq (z : ℝ) : 1 / 2 * Real.tanh (1 / 2 * z) + 1 / 2 = (1 + Real.exp (-z))⁻¹ := by
  have h : Real.exp (-z) = Real.exp (-(1 / 2 * z)) * Real.exp (-(1 / 2 * z)) := by rw [← Real.exp_add]; congr 1; ring
  rw [h, Real.tanh_eq_sinh_div_cosh, Real.sinh_eq, Real.cosh_eq, Real.exp_neg]
  have hp := Real.exp_pos (1 / 2 * z)
  generalize Real.exp (1 / 2 * z) = e at hp
  field_simp
  ring

/-- At a real the sigmoid is a real. -/
theorem sg_coe (z : ℝ) : sg (z : EReal) = (((1 + Real.exp (-z))⁻¹ : ℝ) : EReal) := by
  rw [sg, half_eq, ← EReal.coe_mul, ← real_eq]
  show ((1 / 2 : ℝ) : EReal) * ((Real.tanh (1 / 2 * z) : ℝ) : EReal) + _ = _
  rw [← EReal.coe_mul, ← EReal.coe_add]
theorem sg_top : sg ⊤ = 1 := by
  rw [sg, half_eq, EReal.coe_mul_top_of_pos (by norm_num)]
  show ((1 / 2 : ℝ) : EReal) * (1 : EReal) + _ = _
  rw [mul_one, ← EReal.coe_add]
  norm_num
theorem sg_bot : sg ⊥ = 0 := by
  rw [sg, half_eq, EReal.coe_mul_bot_of_pos (by norm_num)]
  show ((1 / 2 : ℝ) : EReal) * (-1 : EReal) + _ = _
  rw [mul_neg, mul_one, ← EReal.coe_neg, ← EReal.coe_add]
  norm_num

/-- The two sigmoids agree. -/
theorem sg_eq (z : EReal) : sg z = Ideal.div one (one + Ideal.exp (-z)) := by
  rw [one_eq]
  induction z with
  | coe z =>
    rw [sg_coe]
    show _ = Ideal.div _ (_ + ((Real.exp (-z) : ℝ) : EReal))
    have hp := Real.exp_pos (-z)
    rw [← EReal.coe_add, div_coe _ _ (by positivity), EReal.coe_one, mul_one]
  | top =>
    rw [sg_top]
    show _ = Ideal.div ((1 : ℝ) : EReal) (((1 : ℝ) : EReal) + Ideal.exp ⊥)
    show _ = Ideal.div ((1 : ℝ) : EReal) (((1 : ℝ) : EReal) + 0)
    rw [add_zero, div_coe _ _ (by norm_num)]
    norm_num
  | bot =>
    rw [sg_bot]
    show _ = Ideal.div ((1 : ℝ) : EReal) (((1 : ℝ) : EReal) + ⊤)
    rw [EReal.coe_add_top, Ideal.div, if_neg (by simp)]
    simp

end Cert.Sigmoid
-- ==== Proof.Merge.lean ====
module

public import proofs.«01_k».proof.Proof.Gen.MergeKernelIdeal.Value
public import proofs.«01_k».proof.Proof.Gen.MergeReferenceIdeal.Read
public import Idealize.ShloMosaic.Lib.Pipeline.ValueKit
public import Idealize.ShloMosaic.Lib.Pipeline.ReadBack
public import Idealize.ShloMosaic.Lib.Claim
public import proofs.«01_k».proof.Proof.Sigmoid

/-! The gated merge of the three branches: the kernel's products with the column shards of the up-projections, each times the sigmoid of
its gate, are the reference's. -/

@[expose] public section
set_option maxRecDepth 16384
noncomputable section
open Idealize.ShloMosaic Idealize.ShloMosaic.TcCoe Idealize.SL.Sem
open Idealize.ShloMosaic.Pipeline (Dat)
namespace Cert.Merge
open Cert.MergeKernelIdeal Cert.MergeKernelIdeal.Gen Cert.Sigmoid

variable (m : (ℓ : Loc nD τ sig) → Buf (Elt Ideal) ℓ)

theorem idx0 : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![t.val, 0]
    ∧ win0_7.index t = ![t.val, 0] :=
  (by decide +kernel : ∀ t : Fin grid0.N, _)

/-- One element of the merge: three gates, three rows of the branches and three columns of their up-projections. -/
def mix (ga gb gc : EReal) (ya wa : Fin 1024 → EReal) (yb wb yc wc : Fin 512 → EReal) : EReal :=
  sg ga * (∑ k, ya k * wa k) + sg gb * (∑ k, yb k * wb k) + sg gc * (∑ k, yc k * wc k)

variable (ga gb gc : Vec Ideal S256x512 .f32) (ya : Vec Ideal S256x1024 .bf16) (yb yc : Vec Ideal S256x512 .bf16)
  (wa : Vec Ideal S1x1024x512 .bf16) (wb wc : Vec Ideal S1x512x512 .bf16) (r : Fin 256) (x : Fin 512)

/-- One tile of the merge. -/
def tile (ga gb gc : Vec Ideal S256x512 .f32) (ya : Vec Ideal S256x1024 .bf16) (yb yc : Vec Ideal S256x512 .bf16)
    (wa : Vec Ideal S1x1024x512 .bf16) (wb wc : Vec Ideal S1x512x512 .bf16) (r : Fin 256) (x : Fin 512) : EReal :=
  mix (ga (ix2 r x)) (gb (ix2 r x)) (gc (ix2 r x)) (fun k => ya (ix2 r k)) (fun k => wa (ix3 0 k x))
    (fun k => yb (ix2 r k)) (fun k => wb (ix3 0 k x)) (fun k => yc (ix2 r k)) (fun k => wc (ix3 0 k x))

/-- The four tiles' stores, each the same function of what it loads. -/
theorem tile0 : k0_pay4 (F := Ideal) (k0_pay2 ga ya wa gb yb wb) (k0_pay3 gc) yc wc (ix2 r x) = tile ga gb gc ya yb yc wa wb wc r x := by
  unfold tile mix sg
  pointwise [k0_pay4, k0_pay2, k0_pay3]
theorem tile1 : k0_pay7 (F := Ideal) (k0_pay5 ga ya wa) (k0_pay6 gb) yb wb gc yc wc (ix2 r x) = tile ga gb gc ya yb yc wa wb wc r x := by
  unfold tile mix sg
  pointwise [k0_pay7, k0_pay5, k0_pay6]
theorem tile2 : k0_pay10 (F := Ideal) (k0_pay8 ga) ya (k0_pay9 wa) gb yb wb gc yc wc (ix2 r x) = tile ga gb gc ya yb yc wa wb wc r x := by
  unfold tile mix sg
  pointwise [k0_pay10, k0_pay8, k0_pay9]
theorem tile3 : k0_pay1 (F := Ideal) (k0_pay11 ga ya wa gb yb wb) (k0_pay12 gc) yc wc (ix2 r x) = tile ga gb gc ya yb yc wa wb wc r x := by
  unfold tile mix sg
  pointwise [k0_pay1, k0_pay11, k0_pay12]

/-- The whole block at an element. -/
def blkf (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (r : Fin 256) (j : Fin 2048) : EReal :=
  mix (x6 (ix2 r ⟨j.val, by omega⟩)) (x6 (ix2 r ⟨2048 + j.val, by omega⟩)) (x6 (ix2 r ⟨4096 + j.val, by omega⟩))
    (fun k => x0 (ix2 r k)) (fun k => x3 (ix3 ⟨j.val / 512, by omega⟩ k ⟨j.val % 512, by omega⟩))
    (fun k => x1 (ix2 r k)) (fun k => x4 (ix3 ⟨j.val / 512, by omega⟩ k ⟨j.val % 512, by omega⟩))
    (fun k => x2 (ix2 r k)) (fun k => x5 (ix3 ⟨j.val / 512, by omega⟩ k ⟨j.val % 512, by omega⟩))

/-- A tile's loads are the block's at the tile's columns. -/
theorem tile_blkf (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (s : Fin 4) (j : Fin 2048) (h : j.val = 512 * s.val + x.val)
    (ha : ga (ix2 r x) = x6 (ix2 r ⟨512 * s.val + x.val, by omega⟩)) (hb : gb (ix2 r x) = x6 (ix2 r ⟨2048 + (512 * s.val + x.val), by omega⟩))
    (hc : gc (ix2 r x) = x6 (ix2 r ⟨4096 + (512 * s.val + x.val), by omega⟩)) (hya : ya = x0) (hyb : yb = x1) (hyc : yc = x2)
    (hwa : ∀ k, wa (ix3 0 k x) = x3 (ix3 s k x)) (hwb : ∀ k, wb (ix3 0 k x) = x4 (ix3 s k x)) (hwc : ∀ k, wc (ix3 0 k x) = x5 (ix3 s k x)) :
    tile ga gb gc ya yb yc wa wb wc r x = blkf x0 x1 x2 x3 x4 x5 x6 r j := by
  obtain ⟨j, hj⟩ := j
  obtain rfl : j = 512 * s.val + x.val := h
  have e1 : (⟨(512 * s.val + x.val) / 512, by omega⟩ : Fin 4) = s := Fin.ext (by show (512 * s.val + x.val) / 512 = s.val; omega)
  have e2 : (⟨(512 * s.val + x.val) % 512, by omega⟩ : Fin 512) = x := Fin.ext (by show (512 * s.val + x.val) % 512 = x.val; omega)
  unfold tile blkf
  simp only [ha, hb, hc, hya, hyb, hyc, hwa, hwb, hwc, e1, e2]

/-- A load of 512 columns of the gates. -/
theorem ld_gate (X : Vec Ideal S256x6144 .f32) (off : ℕ) (inb) (r : Fin 256) (x : Fin 512) (j : Fin 6144) (h : j.val = off + x.val) :
    View.ld X (Rect.unit (s := S256x6144) ![0, off] S256x512.size inb) (ix2 r x) = X (ix2 r j) := by
  refine congrArg X (funext fun a => Fin.ext ?_)
  match a with
  | ⟨0, _⟩ => show 0 + 1 * r.val = r.val; omega
  | ⟨1, _⟩ => show off + 1 * x.val = j.val; omega
/-- A load of a column shard of an up-projection. -/
theorem ld_wa (X : Vec Ideal S4x1024x512 .bf16) (s : Fin 4) (inb) (k : Fin 1024) (x : Fin 512) :
    View.ld X (Rect.unit (s := S4x1024x512) ![s.val, 0, 0] S1x1024x512.size inb) (ix3 0 k x) = X (ix3 s k x) := by
  refine congrArg X (funext fun a => Fin.ext ?_)
  match a with
  | ⟨0, _⟩ => show s.val + 1 * 0 = s.val; omega
  | ⟨1, _⟩ => show 0 + 1 * k.val = k.val; omega
  | ⟨2, _⟩ => show 0 + 1 * x.val = x.val; omega
theorem ld_wb (X : Vec Ideal S4x512x512 .bf16) (s : Fin 4) (inb) (k : Fin 512) (x : Fin 512) :
    View.ld X (Rect.unit (s := S4x512x512) ![s.val, 0, 0] S1x512x512.size inb) (ix3 0 k x) = X (ix3 s k x) := by
  refine congrArg X (funext fun a => Fin.ext ?_)
  match a with
  | ⟨0, _⟩ => show s.val + 1 * 0 = s.val; omega
  | ⟨1, _⟩ => show 0 + 1 * k.val = k.val; omega
  | ⟨2, _⟩ => show 0 + 1 * x.val = x.val; omega

theorem piece0 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (y : S256x512.Idx) :
    k0_pay4 (F := Ideal) (k0_pay2 (View.ld x6 r0_0) (View.ld x0 r0_1) (View.ld x3 r0_2) (View.ld x6 r0_3) (View.ld x1 r0_4) (View.ld x4 r0_5)) (k0_pay3 (View.ld x6 r0_6)) (View.ld x2 r0_4) (View.ld x5 r0_5) y = blkf x0 x1 x2 x3 x4 x5 x6 (r0_7.emb y 0) (r0_7.emb y 1) := by
  obtain ⟨r, x, rfl⟩ : ∃ (r : Fin 256) (x : Fin 512), y = ix2 r x := ⟨y 0, y 1, eq_ix2 y⟩
  refine (tile0 _ _ _ _ _ _ _ _ _ r x).trans ?_
  refine (tile_blkf _ _ _ _ _ _ _ _ _ r x x0 x1 x2 x3 x4 x5 x6 0 ⟨0 + x.val, by omega⟩ rfl (ld_gate _ _ _ r x _ ?_) (ld_gate _ _ _ r x _ ?_) (ld_gate _ _ _ r x _ ?_)
    (View.ld_unit_zero (by decide) _ _) (View.ld_unit_zero (by decide) _ _) (View.ld_unit_zero (by decide) _ _)
    (fun k => ld_wa x3 0 _ k x) (fun k => ld_wb x4 0 _ k x) (fun k => ld_wb x5 0 _ k x)).trans ?_
  · show 512 * 0 + x.val = 0 + x.val; omega
  · show 2048 + (512 * 0 + x.val) = 2048 + x.val; omega
  · show 4096 + (512 * 0 + x.val) = 4096 + x.val; omega
  · refine congrArg₂ (blkf x0 x1 x2 x3 x4 x5 x6) (Fin.ext ?_) (Fin.ext ?_)
    · show r.val = 0 + 1 * r.val; omega
    · show 0 + x.val = 0 + 1 * x.val; omega
theorem piece1 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (y : S256x512.Idx) :
    k0_pay7 (F := Ideal) (k0_pay5 (View.ld x6 r0_8) (View.ld x0 r0_1) (View.ld x3 r0_9)) (k0_pay6 (View.ld x6 r0_10)) (View.ld x1 r0_4) (View.ld x4 r0_11) (View.ld x6 r0_12) (View.ld x2 r0_4) (View.ld x5 r0_11) y = blkf x0 x1 x2 x3 x4 x5 x6 (r0_13.emb y 0) (r0_13.emb y 1) := by
  obtain ⟨r, x, rfl⟩ : ∃ (r : Fin 256) (x : Fin 512), y = ix2 r x := ⟨y 0, y 1, eq_ix2 y⟩
  refine (tile1 _ _ _ _ _ _ _ _ _ r x).trans ?_
  refine (tile_blkf _ _ _ _ _ _ _ _ _ r x x0 x1 x2 x3 x4 x5 x6 1 ⟨512 + x.val, by omega⟩ rfl (ld_gate _ _ _ r x _ ?_) (ld_gate _ _ _ r x _ ?_) (ld_gate _ _ _ r x _ ?_)
    (View.ld_unit_zero (by decide) _ _) (View.ld_unit_zero (by decide) _ _) (View.ld_unit_zero (by decide) _ _)
    (fun k => ld_wa x3 1 _ k x) (fun k => ld_wb x4 1 _ k x) (fun k => ld_wb x5 1 _ k x)).trans ?_
  · show 512 * 1 + x.val = 512 + x.val; omega
  · show 2048 + (512 * 1 + x.val) = 2560 + x.val; omega
  · show 4096 + (512 * 1 + x.val) = 4608 + x.val; omega
  · refine congrArg₂ (blkf x0 x1 x2 x3 x4 x5 x6) (Fin.ext ?_) (Fin.ext ?_)
    · show r.val = 0 + 1 * r.val; omega
    · show 512 + x.val = 512 + 1 * x.val; omega
theorem piece2 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (y : S256x512.Idx) :
    k0_pay10 (F := Ideal) (k0_pay8 (View.ld x6 r0_14)) (View.ld x0 r0_1) (k0_pay9 (View.ld x3 r0_15)) (View.ld x6 r0_16) (View.ld x1 r0_4) (View.ld x4 r0_17) (View.ld x6 r0_18) (View.ld x2 r0_4) (View.ld x5 r0_17) y = blkf x0 x1 x2 x3 x4 x5 x6 (r0_19.emb y 0) (r0_19.emb y 1) := by
  obtain ⟨r, x, rfl⟩ : ∃ (r : Fin 256) (x : Fin 512), y = ix2 r x := ⟨y 0, y 1, eq_ix2 y⟩
  refine (tile2 _ _ _ _ _ _ _ _ _ r x).trans ?_
  refine (tile_blkf _ _ _ _ _ _ _ _ _ r x x0 x1 x2 x3 x4 x5 x6 2 ⟨1024 + x.val, by omega⟩ rfl (ld_gate _ _ _ r x _ ?_) (ld_gate _ _ _ r x _ ?_) (ld_gate _ _ _ r x _ ?_)
    (View.ld_unit_zero (by decide) _ _) (View.ld_unit_zero (by decide) _ _) (View.ld_unit_zero (by decide) _ _)
    (fun k => ld_wa x3 2 _ k x) (fun k => ld_wb x4 2 _ k x) (fun k => ld_wb x5 2 _ k x)).trans ?_
  · show 512 * 2 + x.val = 1024 + x.val; omega
  · show 2048 + (512 * 2 + x.val) = 3072 + x.val; omega
  · show 4096 + (512 * 2 + x.val) = 5120 + x.val; omega
  · refine congrArg₂ (blkf x0 x1 x2 x3 x4 x5 x6) (Fin.ext ?_) (Fin.ext ?_)
    · show r.val = 0 + 1 * r.val; omega
    · show 1024 + x.val = 1024 + 1 * x.val; omega
theorem piece3 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (y : S256x512.Idx) :
    k0_pay1 (F := Ideal) (k0_pay11 (View.ld x6 r0_20) (View.ld x0 r0_1) (View.ld x3 r0_21) (View.ld x6 r0_22) (View.ld x1 r0_4) (View.ld x4 r0_23)) (k0_pay12 (View.ld x6 r0_24)) (View.ld x2 r0_4) (View.ld x5 r0_23) y = blkf x0 x1 x2 x3 x4 x5 x6 (r0_25.emb y 0) (r0_25.emb y 1) := by
  obtain ⟨r, x, rfl⟩ : ∃ (r : Fin 256) (x : Fin 512), y = ix2 r x := ⟨y 0, y 1, eq_ix2 y⟩
  refine (tile3 _ _ _ _ _ _ _ _ _ r x).trans ?_
  refine (tile_blkf _ _ _ _ _ _ _ _ _ r x x0 x1 x2 x3 x4 x5 x6 3 ⟨1536 + x.val, by omega⟩ rfl (ld_gate _ _ _ r x _ ?_) (ld_gate _ _ _ r x _ ?_) (ld_gate _ _ _ r x _ ?_)
    (View.ld_unit_zero (by decide) _ _) (View.ld_unit_zero (by decide) _ _) (View.ld_unit_zero (by decide) _ _)
    (fun k => ld_wa x3 3 _ k x) (fun k => ld_wb x4 3 _ k x) (fun k => ld_wb x5 3 _ k x)).trans ?_
  · show 512 * 3 + x.val = 1536 + x.val; omega
  · show 2048 + (512 * 3 + x.val) = 3584 + x.val; omega
  · show 4096 + (512 * 3 + x.val) = 5632 + x.val; omega
  · refine congrArg₂ (blkf x0 x1 x2 x3 x4 x5 x6) (Fin.ext ?_) (Fin.ext ?_)
    · show r.val = 0 + 1 * r.val; omega
    · show 1536 + x.val = 1536 + 1 * x.val; omega
/-- What the body leaves in its output block. -/
theorem out_apply (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (y : S256x2048.Idx) :
    out0_7 (F := Ideal) x0 x1 x2 x3 x4 x5 x6 y = blkf x0 x1 x2 x3 x4 x5 x6 (y 0) (y 1) := by
  unfold out0_7
  refine View.canon_apply_of_pieces (Val := Elt Ideal) (fun y => blkf x0 x1 x2 x3 x4 x5 x6 (y 0) (y 1)) _ ?_ y (cover0_7 _ _ _ _ y)
  intro p hp
  simp only [List.mem_cons, List.not_mem_nil, or_false] at hp
  rcases hp with rfl | rfl | rfl | rfl
  · exact piece3 x0 x1 x2 x3 x4 x5 x6
  · exact piece2 x0 x1 x2 x3 x4 x5 x6
  · exact piece1 x0 x1 x2 x3 x4 x5 x6
  · exact piece0 x0 x1 x2 x3 x4 x5 x6

/-- The arguments at an element. -/
def YA (c : Dev nD) (r : Fin 8192) (k : Fin 1024) : EReal := (show Vec Ideal S8192x1024 .bf16 from m ((c.tc : Thread nD τ).loc main_arg0)) (ix2 r k)
def YB (c : Dev nD) (r : Fin 8192) (k : Fin 512) : EReal := (show Vec Ideal S8192x512 .bf16 from m ((c.tc : Thread nD τ).loc main_arg1)) (ix2 r k)
def YC (c : Dev nD) (r : Fin 8192) (k : Fin 512) : EReal := (show Vec Ideal S8192x512 .bf16 from m ((c.tc : Thread nD τ).loc main_arg2)) (ix2 r k)
def GT (c : Dev nD) (r : Fin 8192) (k : Fin 6144) : EReal := (show Vec Ideal S8192x6144 .f32 from m ((c.tc : Thread nD τ).loc main_arg6)) (ix2 r k)

/-- The arguments' blocks are their rows. -/
theorem blk0 (c : Dev nD) (t : Fin cfg0.N) (r : Fin 256) (k : Fin 1024) (R : Fin 8192) (h : R.val = t.val * 256 + r.val) :
    (iblk m c 0 t : Vec Ideal S256x1024 .bf16) (ix2 r k) = YA m c R k := by
  have ht : t.val < 32 := lt_of_lt_of_eq t.isLt N_0
  have hb : t.val * 256 + r.val < 8192 := h ▸ R.isLt
  obtain rfl : R = ⟨t.val * 256 + r.val, hb⟩ := Fin.ext h
  unfold YA; blk_point [iblk, V, idx0 t]
theorem blk1 (c : Dev nD) (t : Fin cfg0.N) (r : Fin 256) (k : Fin 512) (R : Fin 8192) (h : R.val = t.val * 256 + r.val) :
    (iblk m c 1 t : Vec Ideal S256x512 .bf16) (ix2 r k) = YB m c R k := by
  have ht : t.val < 32 := lt_of_lt_of_eq t.isLt N_0
  have hb : t.val * 256 + r.val < 8192 := h ▸ R.isLt
  obtain rfl : R = ⟨t.val * 256 + r.val, hb⟩ := Fin.ext h
  unfold YB; blk_point [iblk, V, idx0 t]
theorem blk2 (c : Dev nD) (t : Fin cfg0.N) (r : Fin 256) (k : Fin 512) (R : Fin 8192) (h : R.val = t.val * 256 + r.val) :
    (iblk m c 2 t : Vec Ideal S256x512 .bf16) (ix2 r k) = YC m c R k := by
  have ht : t.val < 32 := lt_of_lt_of_eq t.isLt N_0
  have hb : t.val * 256 + r.val < 8192 := h ▸ R.isLt
  obtain rfl : R = ⟨t.val * 256 + r.val, hb⟩ := Fin.ext h
  unfold YC; blk_point [iblk, V, idx0 t]
theorem blk6 (c : Dev nD) (t : Fin cfg0.N) (r : Fin 256) (k : Fin 6144) (R : Fin 8192) (h : R.val = t.val * 256 + r.val) :
    (iblk m c 6 t : Vec Ideal S256x6144 .f32) (ix2 r k) = GT m c R k := by
  have ht : t.val < 32 := lt_of_lt_of_eq t.isLt N_0
  have hb : t.val * 256 + r.val < 8192 := h ▸ R.isLt
  obtain rfl : R = ⟨t.val * 256 + r.val, hb⟩ := Fin.ext h
  unfold GT; blk_point [iblk, V, idx0 t]
theorem blk3 (c : Dev nD) (t : Fin cfg0.N) (s : Fin 4) (k : Fin 1024) (x : Fin 512) :
    (iblk m c 3 t : Vec Ideal S4x1024x512 .bf16) (ix3 s k x) = (show Vec Ideal S4x1024x512 .bf16 from m ((c.tc : Thread nD τ).loc main_arg3)) (ix3 s k x) := by
  have ht : t.val < 32 := lt_of_lt_of_eq t.isLt N_0
  blk_point [iblk, V, idx0 t]
theorem blk4 (c : Dev nD) (t : Fin cfg0.N) (s : Fin 4) (k : Fin 512) (x : Fin 512) :
    (iblk m c 4 t : Vec Ideal S4x512x512 .bf16) (ix3 s k x) = (show Vec Ideal S4x512x512 .bf16 from m ((c.tc : Thread nD τ).loc main_arg4)) (ix3 s k x) := by
  have ht : t.val < 32 := lt_of_lt_of_eq t.isLt N_0
  blk_point [iblk, V, idx0 t]
theorem blk5 (c : Dev nD) (t : Fin cfg0.N) (s : Fin 4) (k : Fin 512) (x : Fin 512) :
    (iblk m c 5 t : Vec Ideal S4x512x512 .bf16) (ix3 s k x) = (show Vec Ideal S4x512x512 .bf16 from m ((c.tc : Thread nD τ).loc main_arg5)) (ix3 s k x) := by
  have ht : t.val < 32 := lt_of_lt_of_eq t.isLt N_0
  blk_point [iblk, V, idx0 t]

/-- The kernel's result at an element of the array. -/
def res (c : Dev nD) (r : Fin 8192) (j : Fin 2048) : EReal :=
  mix (GT m c r ⟨j.val, by omega⟩) (GT m c r ⟨2048 + j.val, by omega⟩) (GT m c r ⟨4096 + j.val, by omega⟩)
    (YA m c r) (fun k => (show Vec Ideal S4x1024x512 .bf16 from m ((c.tc : Thread nD τ).loc main_arg3)) (ix3 ⟨j.val / 512, by omega⟩ k ⟨j.val % 512, by omega⟩))
    (YB m c r) (fun k => (show Vec Ideal S4x512x512 .bf16 from m ((c.tc : Thread nD τ).loc main_arg4)) (ix3 ⟨j.val / 512, by omega⟩ k ⟨j.val % 512, by omega⟩))
    (YC m c r) (fun k => (show Vec Ideal S4x512x512 .bf16 from m ((c.tc : Thread nD τ).loc main_arg5)) (ix3 ⟨j.val / 512, by omega⟩ k ⟨j.val % 512, by omega⟩))

theorem res_blk (c : Dev nD) (t : Fin cfg0.N) (r : Fin 256) (j : Fin 2048) (R : Fin 8192) (h : R.val = t.val * 256 + r.val) :
    blkf (iblk m c 0 t) (iblk m c 1 t) (iblk m c 2 t) (iblk m c 3 t) (iblk m c 4 t) (iblk m c 5 t) (iblk m c 6 t) r j = res m c R j := by
  unfold blkf res
  simp only [blk0 m c t r _ R h, blk1 m c t r _ R h, blk2 m c t r _ R h, blk6 m c t r _ R h, blk3 m c t, blk4 m c t, blk5 m c t]

/-- The kernel's result. -/
theorem result (c : Dev nD) : (dats m 0 c).arrAt 7 cfg0.N = fun i => res m c (i 0) (i 1) := by
  refine (dats m 0 c).arrAt_eq_of_covers 7 _ (by decide +kernel) fun t _ y => ?_
  have ht : t.val < 32 := lt_of_lt_of_eq t.isLt N_0
  blk_simp
  rw [after0_7]
  obtain ⟨r, x, rfl⟩ : ∃ (r : Fin 256) (x : Fin 2048), y = ix2 r x := ⟨y 0, y 1, eq_ix2 y⟩
  refine (out_apply _ _ _ _ _ _ _ _).trans ?_
  refine (res_blk m c t r x ⟨t.val * 256 + r.val, by omega⟩ rfl).trans ?_
  generalize res m c = f
  refine congrArg₂ f (Fin.ext ?_) (Fin.ext ?_) <;> blk_point [idx0 t]

open Cert.MergeReferenceIdeal.Read in
/-- The weight's four column shards side by side. -/
theorem wa_apply (w : Vec Ideal S4x1024x512 .bf16) (r : Fin 1024) (k : Fin 2048) :
    val_main_v13 (F := Ideal) w (ix2 r k) = w (ix3 ⟨k.val / 512, by omega⟩ r ⟨k.val % 512, by omega⟩) := by
  pointwise [val_main_v1, val_main_v2, val_main_v3, val_main_v4, val_main_v5, val_main_v6, val_main_v7, val_main_v8, val_main_v9, val_main_v10, val_main_v11, val_main_v12, val_main_v13]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.MergeReferenceIdeal.Read in
/-- The weight's four column shards side by side. -/
theorem wb_apply (w : Vec Ideal S4x512x512 .bf16) (r : Fin 512) (k : Fin 2048) :
    val_main_v28 (F := Ideal) w (ix2 r k) = w (ix3 ⟨k.val / 512, by omega⟩ r ⟨k.val % 512, by omega⟩) := by
  pointwise [val_main_v16, val_main_v17, val_main_v18, val_main_v19, val_main_v20, val_main_v21, val_main_v22, val_main_v23, val_main_v24, val_main_v25, val_main_v26, val_main_v27, val_main_v28]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.MergeReferenceIdeal.Read in
/-- The weight's four column shards side by side. -/
theorem wc_apply (w : Vec Ideal S4x512x512 .bf16) (r : Fin 512) (k : Fin 2048) :
    val_main_v43 (F := Ideal) w (ix2 r k) = w (ix3 ⟨k.val / 512, by omega⟩ r ⟨k.val % 512, by omega⟩) := by
  pointwise [val_main_v31, val_main_v32, val_main_v33, val_main_v34, val_main_v35, val_main_v36, val_main_v37, val_main_v38, val_main_v39, val_main_v40, val_main_v41, val_main_v42, val_main_v43]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.MergeReferenceIdeal.Read in
/-- The kernel's result is the reference's. -/
theorem result_eq (c : Dev nD) : (dats m 0 c).arrAt 7 cfg0.N = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [result]
  funext i
  obtain ⟨r, x, rfl⟩ : ∃ (r : Fin 8192) (x : Fin 2048), i = ix2 r x := ⟨i 0, i 1, eq_ix2 i⟩
  show res m c r x = _
  unfold res mix
  simp only [sg_eq]
  pointwise [val_main_v59, val_main_v58, val_main_v57, val_main_v56, val_main_v55, val_main_v54, val_main_v53, val_main_v52, val_main_v51, val_main_v50, val_main_v49, val_main_cst_0, val_main_v48, val_main_v47, val_main_cst, val_main_v46, val_main_v45, val_main_v44, val_main_v30, val_main_v29, val_main_v15, val_main_v14, val_main_v0]
  simp only [wa_apply, wb_apply, wc_apply]
  rfl

end Cert.Merge
-- ==== Proof.DMerge.lean ====
module

public import proofs.«01_k».proof.Proof.Gen.DMergeKernelIdeal.Value
public import proofs.«01_k».proof.Proof.Gen.DMergeReferenceIdeal.Read
public import Idealize.ShloMosaic.Lib.Pipeline.ValueKit
public import Idealize.ShloMosaic.Lib.Pipeline.ReadBack
public import Idealize.ShloMosaic.Lib.Claim
public import proofs.«01_k».proof.Proof.Sigmoid

/-! The gradient of the gated merge of the three branches: by each branch's product, the incoming gradient times the sigmoid of its gate;
by the gates, the incoming gradient times the product times the sigmoid's derivative. -/

@[expose] public section
set_option maxRecDepth 16384
noncomputable section
open Idealize.ShloMosaic Idealize.ShloMosaic.TcCoe Idealize.SL.Sem
open Idealize.ShloMosaic.Pipeline (Dat)
namespace Cert.DMerge
open Cert.DMergeKernelIdeal Cert.DMergeKernelIdeal.Gen Cert.Sigmoid

variable (m : (ℓ : Loc nD τ sig) → Buf (Elt Ideal) ℓ)

theorem idx0 : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- One element of a gradient by a branch's product. -/
def du (dm g : EReal) : EReal := dm * sg g
/-- One element of the gradient by a branch's gate: the incoming gradient, the gate, a row of the branch and a column of its up-projection. -/
def dg {n : ℕ} (dm g : EReal) (y w : Fin n → EReal) : EReal := dm * (∑ k, y k * w k) * sg g * (one - sg g)

/-- A load of 512 columns of the gates. -/
theorem ld_gate (X : Vec Ideal S256x6144 .f32) (off : ℕ) (inb) (r : Fin 256) (x : Fin 512) (j : Fin 6144) (h : j.val = off + x.val) :
    View.ld X (Rect.unit (s := S256x6144) ![0, off] S256x512.size inb) (ix2 r x) = X (ix2 r j) := by
  refine congrArg X (funext fun a => Fin.ext ?_)
  match a with
  | ⟨0, _⟩ => show 0 + 1 * r.val = r.val; omega
  | ⟨1, _⟩ => show off + 1 * x.val = j.val; omega
/-- A load of a column shard of an up-projection. -/
theorem ld_wa (X : Vec Ideal S4x1024x512 .bf16) (s : Fin 4) (inb) (k : Fin 1024) (x : Fin 512) :
    View.ld X (Rect.unit (s := S4x1024x512) ![s.val, 0, 0] S1x1024x512.size inb) (ix3 0 k x) = X (ix3 s k x) := by
  refine congrArg X (funext fun a => Fin.ext ?_)
  match a with
  | ⟨0, _⟩ => show s.val + 1 * 0 = s.val; omega
  | ⟨1, _⟩ => show 0 + 1 * k.val = k.val; omega
  | ⟨2, _⟩ => show 0 + 1 * x.val = x.val; omega
theorem ld_wb (X : Vec Ideal S4x512x512 .bf16) (s : Fin 4) (inb) (k : Fin 512) (x : Fin 512) :
    View.ld X (Rect.unit (s := S4x512x512) ![s.val, 0, 0] S1x512x512.size inb) (ix3 0 k x) = X (ix3 s k x) := by
  refine congrArg X (funext fun a => Fin.ext ?_)
  match a with
  | ⟨0, _⟩ => show s.val + 1 * 0 = s.val; omega
  | ⟨1, _⟩ => show 0 + 1 * k.val = k.val; omega
  | ⟨2, _⟩ => show 0 + 1 * x.val = x.val; omega

/-- A load of 512 columns of the incoming gradient. -/
theorem ld_dm (X : Vec Ideal S256x2048 .f32) (off : ℕ) (inb) (r : Fin 256) (x : Fin 512) (j : Fin 2048) (h : j.val = off + x.val) :
    View.ld X (Rect.unit (s := S256x2048) ![0, off] S256x512.size inb) (ix2 r x) = X (ix2 r j) := by
  refine congrArg X (funext fun a => Fin.ext ?_)
  match a with
  | ⟨0, _⟩ => show 0 + 1 * r.val = r.val; omega
  | ⟨1, _⟩ => show off + 1 * x.val = j.val; omega

variable (dm g : Vec Ideal S256x512 .f32) (ya : Vec Ideal S256x1024 .bf16) (yb : Vec Ideal S256x512 .bf16)
  (wa : Vec Ideal S1x1024x512 .bf16) (wb : Vec Ideal S1x512x512 .bf16) (r : Fin 256) (x : Fin 512)

/-- The stores, each the same function of what it loads. -/
theorem du03 : k0_pay34 (F := Ideal) dm g (ix2 r x) = du (dm (ix2 r x)) (g (ix2 r x)) := by
  unfold du sg
  pointwise [k0_pay34, k0_pay33]
theorem du02 : k0_pay23 (F := Ideal) dm g (ix2 r x) = du (dm (ix2 r x)) (g (ix2 r x)) := by
  unfold du sg
  pointwise [k0_pay23, k0_pay22]
theorem du01 : k0_pay12 (F := Ideal) dm g (ix2 r x) = du (dm (ix2 r x)) (g (ix2 r x)) := by
  unfold du sg
  pointwise [k0_pay12, k0_pay11]
theorem du00 : k0_pay3 (F := Ideal) dm g (ix2 r x) = du (dm (ix2 r x)) (g (ix2 r x)) := by
  unfold du sg
  pointwise [k0_pay3, k0_pay2]
theorem du13 : k0_pay38 (F := Ideal) dm (k0_pay36 g) (ix2 r x) = du (dm (ix2 r x)) (g (ix2 r x)) := by
  unfold du sg
  pointwise [k0_pay38, k0_pay36, k0_pay37]
theorem du12 : k0_pay27 (F := Ideal) dm (k0_pay25 g) (ix2 r x) = du (dm (ix2 r x)) (g (ix2 r x)) := by
  unfold du sg
  pointwise [k0_pay27, k0_pay25, k0_pay26]
theorem du11 : k0_pay15 (F := Ideal) dm (k0_pay14 g) (ix2 r x) = du (dm (ix2 r x)) (g (ix2 r x)) := by
  unfold du sg
  pointwise [k0_pay15, k0_pay14]
theorem du10 : k0_pay6 (F := Ideal) dm (k0_pay5 g) (ix2 r x) = du (dm (ix2 r x)) (g (ix2 r x)) := by
  unfold du sg
  pointwise [k0_pay6, k0_pay5]
theorem du23 : k0_pay42 (F := Ideal) dm g (ix2 r x) = du (dm (ix2 r x)) (g (ix2 r x)) := by
  unfold du sg
  pointwise [k0_pay42, k0_pay40]
theorem du22 : k0_pay30 (F := Ideal) dm g (ix2 r x) = du (dm (ix2 r x)) (g (ix2 r x)) := by
  unfold du sg
  pointwise [k0_pay30, k0_pay29]
theorem du21 : k0_pay18 (F := Ideal) dm g (ix2 r x) = du (dm (ix2 r x)) (g (ix2 r x)) := by
  unfold du sg
  pointwise [k0_pay18, k0_pay17]
theorem du20 : k0_pay9 (F := Ideal) dm g (ix2 r x) = du (dm (ix2 r x)) (g (ix2 r x)) := by
  unfold du sg
  pointwise [k0_pay9, k0_pay8]
theorem dg23 : k0_pay1 (F := Ideal) dm (k0_pay40 g) (k0_pay41 yb wb) (ix2 r x) = dg (dm (ix2 r x)) (g (ix2 r x)) (fun k => yb (ix2 r k)) (fun k => wb (ix3 0 k x)) := by
  unfold dg sg
  pointwise [k0_pay1, k0_pay40, k0_pay41]
theorem dg13 : k0_pay39 (F := Ideal) dm (k0_pay36 g) yb wb (ix2 r x) = dg (dm (ix2 r x)) (g (ix2 r x)) (fun k => yb (ix2 r k)) (fun k => wb (ix3 0 k x)) := by
  unfold dg sg
  pointwise [k0_pay39, k0_pay36, k0_pay37]
theorem dg03 : k0_pay35 (F := Ideal) dm g ya wa (ix2 r x) = dg (dm (ix2 r x)) (g (ix2 r x)) (fun k => ya (ix2 r k)) (fun k => wa (ix3 0 k x)) := by
  unfold dg sg
  pointwise [k0_pay35, k0_pay33]
theorem dg22 : k0_pay32 (F := Ideal) (k0_pay29 g) (k0_pay31 dm yb wb) (ix2 r x) = dg (dm (ix2 r x)) (g (ix2 r x)) (fun k => yb (ix2 r k)) (fun k => wb (ix3 0 k x)) := by
  unfold dg sg
  pointwise [k0_pay32, k0_pay29, k0_pay31]
theorem dg12 : k0_pay28 (F := Ideal) dm (k0_pay25 g) yb wb (ix2 r x) = dg (dm (ix2 r x)) (g (ix2 r x)) (fun k => yb (ix2 r k)) (fun k => wb (ix3 0 k x)) := by
  unfold dg sg
  pointwise [k0_pay28, k0_pay25, k0_pay26]
theorem dg02 : k0_pay24 (F := Ideal) dm g ya wa (ix2 r x) = dg (dm (ix2 r x)) (g (ix2 r x)) (fun k => ya (ix2 r k)) (fun k => wa (ix3 0 k x)) := by
  unfold dg sg
  pointwise [k0_pay24, k0_pay22]
theorem dg21 : k0_pay21 (F := Ideal) (k0_pay17 g) (k0_pay19 dm g yb wb) (k0_pay20 (F := Ideal)) (ix2 r x) = dg (dm (ix2 r x)) (g (ix2 r x)) (fun k => yb (ix2 r k)) (fun k => wb (ix3 0 k x)) := by
  unfold dg sg
  pointwise [k0_pay21, k0_pay17, k0_pay19, k0_pay20]
theorem dg11 : k0_pay16 (F := Ideal) dm (k0_pay14 g) yb wb (ix2 r x) = dg (dm (ix2 r x)) (g (ix2 r x)) (fun k => yb (ix2 r k)) (fun k => wb (ix3 0 k x)) := by
  unfold dg sg
  pointwise [k0_pay16, k0_pay14]
theorem dg01 : k0_pay13 (F := Ideal) dm g ya wa (ix2 r x) = dg (dm (ix2 r x)) (g (ix2 r x)) (fun k => ya (ix2 r k)) (fun k => wa (ix3 0 k x)) := by
  unfold dg sg
  pointwise [k0_pay13, k0_pay11]
theorem dg20 : k0_pay10 (F := Ideal) dm g yb wb (ix2 r x) = dg (dm (ix2 r x)) (g (ix2 r x)) (fun k => yb (ix2 r k)) (fun k => wb (ix3 0 k x)) := by
  unfold dg sg
  pointwise [k0_pay10, k0_pay8]
theorem dg10 : k0_pay7 (F := Ideal) dm (k0_pay5 g) yb wb (ix2 r x) = dg (dm (ix2 r x)) (g (ix2 r x)) (fun k => yb (ix2 r k)) (fun k => wb (ix3 0 k x)) := by
  unfold dg sg
  pointwise [k0_pay7, k0_pay5]
theorem dg00 : k0_pay4 (F := Ideal) dm g ya wa (ix2 r x) = dg (dm (ix2 r x)) (g (ix2 r x)) (fun k => ya (ix2 r k)) (fun k => wa (ix3 0 k x)) := by
  unfold dg sg
  pointwise [k0_pay4, k0_pay2]

/-- The blocks of the gradients by the branches' products, and by their gates, at an element. -/
def blkd0 (x6 : Vec Ideal S256x6144 .f32) (x7 : Vec Ideal S256x2048 .f32) (r : Fin 256) (j : Fin 2048) : EReal :=
  du (x7 (ix2 r j)) (x6 (ix2 r ⟨0 + j.val, by omega⟩))
def blkg0 (y : Vec Ideal S256x1024 .bf16) (w : Vec Ideal S4x1024x512 .bf16) (x6 : Vec Ideal S256x6144 .f32) (x7 : Vec Ideal S256x2048 .f32) (r : Fin 256) (j : Fin 2048) : EReal :=
  dg (x7 (ix2 r j)) (x6 (ix2 r ⟨0 + j.val, by omega⟩)) (fun k => y (ix2 r k)) (fun k => w (ix3 ⟨j.val / 512, by omega⟩ k ⟨j.val % 512, by omega⟩))
def blkd1 (x6 : Vec Ideal S256x6144 .f32) (x7 : Vec Ideal S256x2048 .f32) (r : Fin 256) (j : Fin 2048) : EReal :=
  du (x7 (ix2 r j)) (x6 (ix2 r ⟨2048 + j.val, by omega⟩))
def blkg1 (y : Vec Ideal S256x512 .bf16) (w : Vec Ideal S4x512x512 .bf16) (x6 : Vec Ideal S256x6144 .f32) (x7 : Vec Ideal S256x2048 .f32) (r : Fin 256) (j : Fin 2048) : EReal :=
  dg (x7 (ix2 r j)) (x6 (ix2 r ⟨2048 + j.val, by omega⟩)) (fun k => y (ix2 r k)) (fun k => w (ix3 ⟨j.val / 512, by omega⟩ k ⟨j.val % 512, by omega⟩))
def blkd2 (x6 : Vec Ideal S256x6144 .f32) (x7 : Vec Ideal S256x2048 .f32) (r : Fin 256) (j : Fin 2048) : EReal :=
  du (x7 (ix2 r j)) (x6 (ix2 r ⟨4096 + j.val, by omega⟩))
def blkg2 (y : Vec Ideal S256x512 .bf16) (w : Vec Ideal S4x512x512 .bf16) (x6 : Vec Ideal S256x6144 .f32) (x7 : Vec Ideal S256x2048 .f32) (r : Fin 256) (j : Fin 2048) : EReal :=
  dg (x7 (ix2 r j)) (x6 (ix2 r ⟨4096 + j.val, by omega⟩)) (fun k => y (ix2 r k)) (fun k => w (ix3 ⟨j.val / 512, by omega⟩ k ⟨j.val % 512, by omega⟩))
/-- The gates' three ranges of columns side by side. -/
def cat (f0 f1 f2 : Fin 2048 → EReal) (j : Fin 6144) : EReal :=
  if h0 : j.val < 2048 then f0 ⟨j.val, h0⟩ else if h1 : j.val - 2048 < 2048 then f1 ⟨j.val - 2048, h1⟩ else f2 ⟨j.val - 2048 - 2048, by omega⟩
theorem cat0 (f0 f1 f2 : Fin 2048 → EReal) (j : Fin 6144) (i : Fin 2048) (h : j.val = i.val) : cat f0 f1 f2 j = f0 i := by
  unfold cat
  rw [dif_pos (show j.val < 2048 by omega)]
  exact congrArg f0 (Fin.ext h)
theorem cat1 (f0 f1 f2 : Fin 2048 → EReal) (j : Fin 6144) (i : Fin 2048) (h : j.val = 2048 + i.val) : cat f0 f1 f2 j = f1 i := by
  unfold cat
  rw [dif_neg (show ¬ j.val < 2048 by omega), dif_pos (show j.val - 2048 < 2048 by omega)]
  exact congrArg f1 (Fin.ext (show j.val - 2048 = i.val by omega))
theorem cat2 (f0 f1 f2 : Fin 2048 → EReal) (j : Fin 6144) (i : Fin 2048) (h : j.val = 4096 + i.val) : cat f0 f1 f2 j = f2 i := by
  unfold cat
  rw [dif_neg (show ¬ j.val < 2048 by omega), dif_neg (show ¬ j.val - 2048 < 2048 by omega)]
  exact congrArg f2 (Fin.ext (show j.val - 2048 - 2048 = i.val by omega))
def blkg (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (r : Fin 256) : Fin 6144 → EReal :=
  cat (blkg0 x0 x3 x6 x7 r) (blkg1 x1 x4 x6 x7 r) (blkg2 x2 x5 x6 x7 r)

theorem piece8_3 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay34 (F := Ideal) (View.ld x7 r0_20) (View.ld x6 r0_21) y = blkd0 x6 x7 (r0_20.emb y 0) (r0_20.emb y 1) := by
  obtain ⟨r, x, rfl⟩ : ∃ (r : Fin 256) (x : Fin 512), y = ix2 r x := ⟨y 0, y 1, eq_ix2 y⟩
  refine (du03 _ _ r x).trans ?_
  have e : blkd0 x6 x7 r ⟨1536 + x.val, by omega⟩ = blkd0 x6 x7 (r0_20.emb (ix2 r x) 0) (r0_20.emb (ix2 r x) 1) :=
    congrArg₂ (blkd0 x6 x7) (Fin.ext (show r.val = 0 + 1 * r.val by omega)) (Fin.ext (show 1536 + x.val = 1536 + 1 * x.val by omega))
  rw [← e]
  unfold blkd0
  rw [ld_dm x7 1536 _ r x ⟨1536 + x.val, by omega⟩ rfl, ld_gate x6 1536 _ r x ⟨0 + (1536 + x.val), by omega⟩ (show 0 + (1536 + x.val) = 1536 + x.val by omega)]
theorem piece8_2 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay23 (F := Ideal) (View.ld x7 r0_14) (View.ld x6 r0_15) y = blkd0 x6 x7 (r0_14.emb y 0) (r0_14.emb y 1) := by
  obtain ⟨r, x, rfl⟩ : ∃ (r : Fin 256) (x : Fin 512), y = ix2 r x := ⟨y 0, y 1, eq_ix2 y⟩
  refine (du02 _ _ r x).trans ?_
  have e : blkd0 x6 x7 r ⟨1024 + x.val, by omega⟩ = blkd0 x6 x7 (r0_14.emb (ix2 r x) 0) (r0_14.emb (ix2 r x) 1) :=
    congrArg₂ (blkd0 x6 x7) (Fin.ext (show r.val = 0 + 1 * r.val by omega)) (Fin.ext (show 1024 + x.val = 1024 + 1 * x.val by omega))
  rw [← e]
  unfold blkd0
  rw [ld_dm x7 1024 _ r x ⟨1024 + x.val, by omega⟩ rfl, ld_gate x6 1024 _ r x ⟨0 + (1024 + x.val), by omega⟩ (show 0 + (1024 + x.val) = 1024 + x.val by omega)]
theorem piece8_1 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay12 (F := Ideal) (View.ld x7 r0_8) (View.ld x6 r0_9) y = blkd0 x6 x7 (r0_8.emb y 0) (r0_8.emb y 1) := by
  obtain ⟨r, x, rfl⟩ : ∃ (r : Fin 256) (x : Fin 512), y = ix2 r x := ⟨y 0, y 1, eq_ix2 y⟩
  refine (du01 _ _ r x).trans ?_
  have e : blkd0 x6 x7 r ⟨512 + x.val, by omega⟩ = blkd0 x6 x7 (r0_8.emb (ix2 r x) 0) (r0_8.emb (ix2 r x) 1) :=
    congrArg₂ (blkd0 x6 x7) (Fin.ext (show r.val = 0 + 1 * r.val by omega)) (Fin.ext (show 512 + x.val = 512 + 1 * x.val by omega))
  rw [← e]
  unfold blkd0
  rw [ld_dm x7 512 _ r x ⟨512 + x.val, by omega⟩ rfl, ld_gate x6 512 _ r x ⟨0 + (512 + x.val), by omega⟩ (show 0 + (512 + x.val) = 512 + x.val by omega)]
theorem piece8_0 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay3 (F := Ideal) (View.ld x7 r0_0) (View.ld x6 r0_1) y = blkd0 x6 x7 (r0_0.emb y 0) (r0_0.emb y 1) := by
  obtain ⟨r, x, rfl⟩ : ∃ (r : Fin 256) (x : Fin 512), y = ix2 r x := ⟨y 0, y 1, eq_ix2 y⟩
  refine (du00 _ _ r x).trans ?_
  have e : blkd0 x6 x7 r ⟨0 + x.val, by omega⟩ = blkd0 x6 x7 (r0_0.emb (ix2 r x) 0) (r0_0.emb (ix2 r x) 1) :=
    congrArg₂ (blkd0 x6 x7) (Fin.ext (show r.val = 0 + 1 * r.val by omega)) (Fin.ext (show 0 + x.val = 0 + 1 * x.val by omega))
  rw [← e]
  unfold blkd0
  rw [ld_dm x7 0 _ r x ⟨0 + x.val, by omega⟩ rfl, ld_gate x6 0 _ r x ⟨0 + (0 + x.val), by omega⟩ (show 0 + (0 + x.val) = 0 + x.val by omega)]
/-- What the body leaves in the block of the gradient by branch 0's product. -/
theorem out8 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x2048.Idx) : out0_8 (F := Ideal) x0 x1 x2 x3 x4 x5 x6 x7 y = blkd0 x6 x7 (y 0) (y 1) := by
  unfold_out out0_8
  refine View.canon_apply_of_pieces (Val := Elt Ideal) (fun y => blkd0 x6 x7 (y 0) (y 1)) _ ?_ y (cover0_8 _ _ _ _ y)
  intro p hp
  simp only [List.mem_cons, List.not_mem_nil, or_false] at hp
  rcases hp with rfl | rfl | rfl | rfl
  · exact piece8_3 x0 x1 x2 x3 x4 x5 x6 x7
  · exact piece8_2 x0 x1 x2 x3 x4 x5 x6 x7
  · exact piece8_1 x0 x1 x2 x3 x4 x5 x6 x7
  · exact piece8_0 x0 x1 x2 x3 x4 x5 x6 x7
theorem piece9_3 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay38 (F := Ideal) (View.ld x7 r0_20) (k0_pay36 (View.ld x6 r0_23)) y = blkd1 x6 x7 (r0_20.emb y 0) (r0_20.emb y 1) := by
  obtain ⟨r, x, rfl⟩ : ∃ (r : Fin 256) (x : Fin 512), y = ix2 r x := ⟨y 0, y 1, eq_ix2 y⟩
  refine (du13 _ _ r x).trans ?_
  have e : blkd1 x6 x7 r ⟨1536 + x.val, by omega⟩ = blkd1 x6 x7 (r0_20.emb (ix2 r x) 0) (r0_20.emb (ix2 r x) 1) :=
    congrArg₂ (blkd1 x6 x7) (Fin.ext (show r.val = 0 + 1 * r.val by omega)) (Fin.ext (show 1536 + x.val = 1536 + 1 * x.val by omega))
  rw [← e]
  unfold blkd1
  rw [ld_dm x7 1536 _ r x ⟨1536 + x.val, by omega⟩ rfl, ld_gate x6 3584 _ r x ⟨2048 + (1536 + x.val), by omega⟩ (show 2048 + (1536 + x.val) = 3584 + x.val by omega)]
theorem piece9_2 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay27 (F := Ideal) (View.ld x7 r0_14) (k0_pay25 (View.ld x6 r0_17)) y = blkd1 x6 x7 (r0_14.emb y 0) (r0_14.emb y 1) := by
  obtain ⟨r, x, rfl⟩ : ∃ (r : Fin 256) (x : Fin 512), y = ix2 r x := ⟨y 0, y 1, eq_ix2 y⟩
  refine (du12 _ _ r x).trans ?_
  have e : blkd1 x6 x7 r ⟨1024 + x.val, by omega⟩ = blkd1 x6 x7 (r0_14.emb (ix2 r x) 0) (r0_14.emb (ix2 r x) 1) :=
    congrArg₂ (blkd1 x6 x7) (Fin.ext (show r.val = 0 + 1 * r.val by omega)) (Fin.ext (show 1024 + x.val = 1024 + 1 * x.val by omega))
  rw [← e]
  unfold blkd1
  rw [ld_dm x7 1024 _ r x ⟨1024 + x.val, by omega⟩ rfl, ld_gate x6 3072 _ r x ⟨2048 + (1024 + x.val), by omega⟩ (show 2048 + (1024 + x.val) = 3072 + x.val by omega)]
theorem piece9_1 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay15 (F := Ideal) (View.ld x7 r0_8) (k0_pay14 (View.ld x6 r0_11)) y = blkd1 x6 x7 (r0_8.emb y 0) (r0_8.emb y 1) := by
  obtain ⟨r, x, rfl⟩ : ∃ (r : Fin 256) (x : Fin 512), y = ix2 r x := ⟨y 0, y 1, eq_ix2 y⟩
  refine (du11 _ _ r x).trans ?_
  have e : blkd1 x6 x7 r ⟨512 + x.val, by omega⟩ = blkd1 x6 x7 (r0_8.emb (ix2 r x) 0) (r0_8.emb (ix2 r x) 1) :=
    congrArg₂ (blkd1 x6 x7) (Fin.ext (show r.val = 0 + 1 * r.val by omega)) (Fin.ext (show 512 + x.val = 512 + 1 * x.val by omega))
  rw [← e]
  unfold blkd1
  rw [ld_dm x7 512 _ r x ⟨512 + x.val, by omega⟩ rfl, ld_gate x6 2560 _ r x ⟨2048 + (512 + x.val), by omega⟩ (show 2048 + (512 + x.val) = 2560 + x.val by omega)]
theorem piece9_0 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay6 (F := Ideal) (View.ld x7 r0_0) (k0_pay5 (View.ld x6 r0_4)) y = blkd1 x6 x7 (r0_0.emb y 0) (r0_0.emb y 1) := by
  obtain ⟨r, x, rfl⟩ : ∃ (r : Fin 256) (x : Fin 512), y = ix2 r x := ⟨y 0, y 1, eq_ix2 y⟩
  refine (du10 _ _ r x).trans ?_
  have e : blkd1 x6 x7 r ⟨0 + x.val, by omega⟩ = blkd1 x6 x7 (r0_0.emb (ix2 r x) 0) (r0_0.emb (ix2 r x) 1) :=
    congrArg₂ (blkd1 x6 x7) (Fin.ext (show r.val = 0 + 1 * r.val by omega)) (Fin.ext (show 0 + x.val = 0 + 1 * x.val by omega))
  rw [← e]
  unfold blkd1
  rw [ld_dm x7 0 _ r x ⟨0 + x.val, by omega⟩ rfl, ld_gate x6 2048 _ r x ⟨2048 + (0 + x.val), by omega⟩ (show 2048 + (0 + x.val) = 2048 + x.val by omega)]
/-- What the body leaves in the block of the gradient by branch 1's product. -/
theorem out9 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x2048.Idx) : out0_9 (F := Ideal) x0 x1 x2 x3 x4 x5 x6 x7 y = blkd1 x6 x7 (y 0) (y 1) := by
  unfold_out out0_9
  refine View.canon_apply_of_pieces (Val := Elt Ideal) (fun y => blkd1 x6 x7 (y 0) (y 1)) _ ?_ y (cover0_9 _ _ _ _ y)
  intro p hp
  simp only [List.mem_cons, List.not_mem_nil, or_false] at hp
  rcases hp with rfl | rfl | rfl | rfl
  · exact piece9_3 x0 x1 x2 x3 x4 x5 x6 x7
  · exact piece9_2 x0 x1 x2 x3 x4 x5 x6 x7
  · exact piece9_1 x0 x1 x2 x3 x4 x5 x6 x7
  · exact piece9_0 x0 x1 x2 x3 x4 x5 x6 x7
theorem piece10_3 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay42 (F := Ideal) (View.ld x7 r0_20) (View.ld x6 r0_25) y = blkd2 x6 x7 (r0_20.emb y 0) (r0_20.emb y 1) := by
  obtain ⟨r, x, rfl⟩ : ∃ (r : Fin 256) (x : Fin 512), y = ix2 r x := ⟨y 0, y 1, eq_ix2 y⟩
  refine (du23 _ _ r x).trans ?_
  have e : blkd2 x6 x7 r ⟨1536 + x.val, by omega⟩ = blkd2 x6 x7 (r0_20.emb (ix2 r x) 0) (r0_20.emb (ix2 r x) 1) :=
    congrArg₂ (blkd2 x6 x7) (Fin.ext (show r.val = 0 + 1 * r.val by omega)) (Fin.ext (show 1536 + x.val = 1536 + 1 * x.val by omega))
  rw [← e]
  unfold blkd2
  rw [ld_dm x7 1536 _ r x ⟨1536 + x.val, by omega⟩ rfl, ld_gate x6 5632 _ r x ⟨4096 + (1536 + x.val), by omega⟩ (show 4096 + (1536 + x.val) = 5632 + x.val by omega)]
theorem piece10_2 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay30 (F := Ideal) (View.ld x7 r0_14) (View.ld x6 r0_19) y = blkd2 x6 x7 (r0_14.emb y 0) (r0_14.emb y 1) := by
  obtain ⟨r, x, rfl⟩ : ∃ (r : Fin 256) (x : Fin 512), y = ix2 r x := ⟨y 0, y 1, eq_ix2 y⟩
  refine (du22 _ _ r x).trans ?_
  have e : blkd2 x6 x7 r ⟨1024 + x.val, by omega⟩ = blkd2 x6 x7 (r0_14.emb (ix2 r x) 0) (r0_14.emb (ix2 r x) 1) :=
    congrArg₂ (blkd2 x6 x7) (Fin.ext (show r.val = 0 + 1 * r.val by omega)) (Fin.ext (show 1024 + x.val = 1024 + 1 * x.val by omega))
  rw [← e]
  unfold blkd2
  rw [ld_dm x7 1024 _ r x ⟨1024 + x.val, by omega⟩ rfl, ld_gate x6 5120 _ r x ⟨4096 + (1024 + x.val), by omega⟩ (show 4096 + (1024 + x.val) = 5120 + x.val by omega)]
theorem piece10_1 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay18 (F := Ideal) (View.ld x7 r0_8) (View.ld x6 r0_13) y = blkd2 x6 x7 (r0_8.emb y 0) (r0_8.emb y 1) := by
  obtain ⟨r, x, rfl⟩ : ∃ (r : Fin 256) (x : Fin 512), y = ix2 r x := ⟨y 0, y 1, eq_ix2 y⟩
  refine (du21 _ _ r x).trans ?_
  have e : blkd2 x6 x7 r ⟨512 + x.val, by omega⟩ = blkd2 x6 x7 (r0_8.emb (ix2 r x) 0) (r0_8.emb (ix2 r x) 1) :=
    congrArg₂ (blkd2 x6 x7) (Fin.ext (show r.val = 0 + 1 * r.val by omega)) (Fin.ext (show 512 + x.val = 512 + 1 * x.val by omega))
  rw [← e]
  unfold blkd2
  rw [ld_dm x7 512 _ r x ⟨512 + x.val, by omega⟩ rfl, ld_gate x6 4608 _ r x ⟨4096 + (512 + x.val), by omega⟩ (show 4096 + (512 + x.val) = 4608 + x.val by omega)]
theorem piece10_0 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay9 (F := Ideal) (View.ld x7 r0_0) (View.ld x6 r0_7) y = blkd2 x6 x7 (r0_0.emb y 0) (r0_0.emb y 1) := by
  obtain ⟨r, x, rfl⟩ : ∃ (r : Fin 256) (x : Fin 512), y = ix2 r x := ⟨y 0, y 1, eq_ix2 y⟩
  refine (du20 _ _ r x).trans ?_
  have e : blkd2 x6 x7 r ⟨0 + x.val, by omega⟩ = blkd2 x6 x7 (r0_0.emb (ix2 r x) 0) (r0_0.emb (ix2 r x) 1) :=
    congrArg₂ (blkd2 x6 x7) (Fin.ext (show r.val = 0 + 1 * r.val by omega)) (Fin.ext (show 0 + x.val = 0 + 1 * x.val by omega))
  rw [← e]
  unfold blkd2
  rw [ld_dm x7 0 _ r x ⟨0 + x.val, by omega⟩ rfl, ld_gate x6 4096 _ r x ⟨4096 + (0 + x.val), by omega⟩ (show 4096 + (0 + x.val) = 4096 + x.val by omega)]
/-- What the body leaves in the block of the gradient by branch 2's product. -/
theorem out10 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x2048.Idx) : out0_10 (F := Ideal) x0 x1 x2 x3 x4 x5 x6 x7 y = blkd2 x6 x7 (y 0) (y 1) := by
  unfold_out out0_10
  refine View.canon_apply_of_pieces (Val := Elt Ideal) (fun y => blkd2 x6 x7 (y 0) (y 1)) _ ?_ y (cover0_10 _ _ _ _ y)
  intro p hp
  simp only [List.mem_cons, List.not_mem_nil, or_false] at hp
  rcases hp with rfl | rfl | rfl | rfl
  · exact piece10_3 x0 x1 x2 x3 x4 x5 x6 x7
  · exact piece10_2 x0 x1 x2 x3 x4 x5 x6 x7
  · exact piece10_1 x0 x1 x2 x3 x4 x5 x6 x7
  · exact piece10_0 x0 x1 x2 x3 x4 x5 x6 x7
theorem piece11_23 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay1 (F := Ideal) (View.ld x7 r0_20) (k0_pay40 (View.ld x6 r0_25)) (k0_pay41 (View.ld x2 r0_5) (View.ld x5 r0_24)) y = blkg x0 x1 x2 x3 x4 x5 x6 x7 (r0_25.emb y 0) (r0_25.emb y 1) := by
  obtain ⟨r, x, rfl⟩ : ∃ (r : Fin 256) (x : Fin 512), y = ix2 r x := ⟨y 0, y 1, eq_ix2 y⟩
  refine (dg23 _ _ _ _ r x).trans ?_
  have e : blkg x0 x1 x2 x3 x4 x5 x6 x7 r ⟨5632 + x.val, by omega⟩ = blkg x0 x1 x2 x3 x4 x5 x6 x7 (r0_25.emb (ix2 r x) 0) (r0_25.emb (ix2 r x) 1) :=
    congrArg₂ (blkg x0 x1 x2 x3 x4 x5 x6 x7) (Fin.ext (show r.val = 0 + 1 * r.val by omega)) (Fin.ext (show 5632 + x.val = 5632 + 1 * x.val by omega))
  rw [← e, blkg, cat2 _ _ _ _ ⟨1536 + x.val, by omega⟩ (show 5632 + x.val = 4096 + (1536 + x.val) by omega)]
  have e1 : (⟨(1536 + x.val) / 512, by omega⟩ : Fin 4) = 3 := Fin.ext (by show (1536 + x.val) / 512 = 3; omega)
  have e2 : (⟨(1536 + x.val) % 512, by omega⟩ : Fin 512) = x := Fin.ext (by show (1536 + x.val) % 512 = x.val; omega)
  unfold blkg2
  rw [ld_dm x7 1536 _ r x ⟨1536 + x.val, by omega⟩ rfl, ld_gate x6 5632 _ r x ⟨4096 + (1536 + x.val), by omega⟩ (show 4096 + (1536 + x.val) = 5632 + x.val by omega), e1, e2]
  exact congrArg₂ (dg _ _) (funext fun k => congrFun (View.ld_unit_zero (by decide) _ _) _) (funext fun k => ld_wb x5 3 _ k x)
theorem piece11_13 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay39 (F := Ideal) (View.ld x7 r0_20) (k0_pay36 (View.ld x6 r0_23)) (View.ld x1 r0_5) (View.ld x4 r0_24) y = blkg x0 x1 x2 x3 x4 x5 x6 x7 (r0_23.emb y 0) (r0_23.emb y 1) := by
  obtain ⟨r, x, rfl⟩ : ∃ (r : Fin 256) (x : Fin 512), y = ix2 r x := ⟨y 0, y 1, eq_ix2 y⟩
  refine (dg13 _ _ _ _ r x).trans ?_
  have e : blkg x0 x1 x2 x3 x4 x5 x6 x7 r ⟨3584 + x.val, by omega⟩ = blkg x0 x1 x2 x3 x4 x5 x6 x7 (r0_23.emb (ix2 r x) 0) (r0_23.emb (ix2 r x) 1) :=
    congrArg₂ (blkg x0 x1 x2 x3 x4 x5 x6 x7) (Fin.ext (show r.val = 0 + 1 * r.val by omega)) (Fin.ext (show 3584 + x.val = 3584 + 1 * x.val by omega))
  rw [← e, blkg, cat1 _ _ _ _ ⟨1536 + x.val, by omega⟩ (show 3584 + x.val = 2048 + (1536 + x.val) by omega)]
  have e1 : (⟨(1536 + x.val) / 512, by omega⟩ : Fin 4) = 3 := Fin.ext (by show (1536 + x.val) / 512 = 3; omega)
  have e2 : (⟨(1536 + x.val) % 512, by omega⟩ : Fin 512) = x := Fin.ext (by show (1536 + x.val) % 512 = x.val; omega)
  unfold blkg1
  rw [ld_dm x7 1536 _ r x ⟨1536 + x.val, by omega⟩ rfl, ld_gate x6 3584 _ r x ⟨2048 + (1536 + x.val), by omega⟩ (show 2048 + (1536 + x.val) = 3584 + x.val by omega), e1, e2]
  exact congrArg₂ (dg _ _) (funext fun k => congrFun (View.ld_unit_zero (by decide) _ _) _) (funext fun k => ld_wb x4 3 _ k x)
theorem piece11_03 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay35 (F := Ideal) (View.ld x7 r0_20) (View.ld x6 r0_21) (View.ld x0 r0_2) (View.ld x3 r0_22) y = blkg x0 x1 x2 x3 x4 x5 x6 x7 (r0_21.emb y 0) (r0_21.emb y 1) := by
  obtain ⟨r, x, rfl⟩ : ∃ (r : Fin 256) (x : Fin 512), y = ix2 r x := ⟨y 0, y 1, eq_ix2 y⟩
  refine (dg03 _ _ _ _ r x).trans ?_
  have e : blkg x0 x1 x2 x3 x4 x5 x6 x7 r ⟨1536 + x.val, by omega⟩ = blkg x0 x1 x2 x3 x4 x5 x6 x7 (r0_21.emb (ix2 r x) 0) (r0_21.emb (ix2 r x) 1) :=
    congrArg₂ (blkg x0 x1 x2 x3 x4 x5 x6 x7) (Fin.ext (show r.val = 0 + 1 * r.val by omega)) (Fin.ext (show 1536 + x.val = 1536 + 1 * x.val by omega))
  rw [← e, blkg, cat0 _ _ _ _ ⟨1536 + x.val, by omega⟩ (show 1536 + x.val = (1536 + x.val) by omega)]
  have e1 : (⟨(1536 + x.val) / 512, by omega⟩ : Fin 4) = 3 := Fin.ext (by show (1536 + x.val) / 512 = 3; omega)
  have e2 : (⟨(1536 + x.val) % 512, by omega⟩ : Fin 512) = x := Fin.ext (by show (1536 + x.val) % 512 = x.val; omega)
  unfold blkg0
  rw [ld_dm x7 1536 _ r x ⟨1536 + x.val, by omega⟩ rfl, ld_gate x6 1536 _ r x ⟨0 + (1536 + x.val), by omega⟩ (show 0 + (1536 + x.val) = 1536 + x.val by omega), e1, e2]
  exact congrArg₂ (dg _ _) (funext fun k => congrFun (View.ld_unit_zero (by decide) _ _) _) (funext fun k => ld_wa x3 3 _ k x)
theorem piece11_22 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay32 (F := Ideal) (k0_pay29 (View.ld x6 r0_19)) (k0_pay31 (View.ld x7 r0_14) (View.ld x2 r0_5) (View.ld x5 r0_18)) y = blkg x0 x1 x2 x3 x4 x5 x6 x7 (r0_19.emb y 0) (r0_19.emb y 1) := by
  obtain ⟨r, x, rfl⟩ : ∃ (r : Fin 256) (x : Fin 512), y = ix2 r x := ⟨y 0, y 1, eq_ix2 y⟩
  refine (dg22 _ _ _ _ r x).trans ?_
  have e : blkg x0 x1 x2 x3 x4 x5 x6 x7 r ⟨5120 + x.val, by omega⟩ = blkg x0 x1 x2 x3 x4 x5 x6 x7 (r0_19.emb (ix2 r x) 0) (r0_19.emb (ix2 r x) 1) :=
    congrArg₂ (blkg x0 x1 x2 x3 x4 x5 x6 x7) (Fin.ext (show r.val = 0 + 1 * r.val by omega)) (Fin.ext (show 5120 + x.val = 5120 + 1 * x.val by omega))
  rw [← e, blkg, cat2 _ _ _ _ ⟨1024 + x.val, by omega⟩ (show 5120 + x.val = 4096 + (1024 + x.val) by omega)]
  have e1 : (⟨(1024 + x.val) / 512, by omega⟩ : Fin 4) = 2 := Fin.ext (by show (1024 + x.val) / 512 = 2; omega)
  have e2 : (⟨(1024 + x.val) % 512, by omega⟩ : Fin 512) = x := Fin.ext (by show (1024 + x.val) % 512 = x.val; omega)
  unfold blkg2
  rw [ld_dm x7 1024 _ r x ⟨1024 + x.val, by omega⟩ rfl, ld_gate x6 5120 _ r x ⟨4096 + (1024 + x.val), by omega⟩ (show 4096 + (1024 + x.val) = 5120 + x.val by omega), e1, e2]
  exact congrArg₂ (dg _ _) (funext fun k => congrFun (View.ld_unit_zero (by decide) _ _) _) (funext fun k => ld_wb x5 2 _ k x)
theorem piece11_12 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay28 (F := Ideal) (View.ld x7 r0_14) (k0_pay25 (View.ld x6 r0_17)) (View.ld x1 r0_5) (View.ld x4 r0_18) y = blkg x0 x1 x2 x3 x4 x5 x6 x7 (r0_17.emb y 0) (r0_17.emb y 1) := by
  obtain ⟨r, x, rfl⟩ : ∃ (r : Fin 256) (x : Fin 512), y = ix2 r x := ⟨y 0, y 1, eq_ix2 y⟩
  refine (dg12 _ _ _ _ r x).trans ?_
  have e : blkg x0 x1 x2 x3 x4 x5 x6 x7 r ⟨3072 + x.val, by omega⟩ = blkg x0 x1 x2 x3 x4 x5 x6 x7 (r0_17.emb (ix2 r x) 0) (r0_17.emb (ix2 r x) 1) :=
    congrArg₂ (blkg x0 x1 x2 x3 x4 x5 x6 x7) (Fin.ext (show r.val = 0 + 1 * r.val by omega)) (Fin.ext (show 3072 + x.val = 3072 + 1 * x.val by omega))
  rw [← e, blkg, cat1 _ _ _ _ ⟨1024 + x.val, by omega⟩ (show 3072 + x.val = 2048 + (1024 + x.val) by omega)]
  have e1 : (⟨(1024 + x.val) / 512, by omega⟩ : Fin 4) = 2 := Fin.ext (by show (1024 + x.val) / 512 = 2; omega)
  have e2 : (⟨(1024 + x.val) % 512, by omega⟩ : Fin 512) = x := Fin.ext (by show (1024 + x.val) % 512 = x.val; omega)
  unfold blkg1
  rw [ld_dm x7 1024 _ r x ⟨1024 + x.val, by omega⟩ rfl, ld_gate x6 3072 _ r x ⟨2048 + (1024 + x.val), by omega⟩ (show 2048 + (1024 + x.val) = 3072 + x.val by omega), e1, e2]
  exact congrArg₂ (dg _ _) (funext fun k => congrFun (View.ld_unit_zero (by decide) _ _) _) (funext fun k => ld_wb x4 2 _ k x)
theorem piece11_02 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay24 (F := Ideal) (View.ld x7 r0_14) (View.ld x6 r0_15) (View.ld x0 r0_2) (View.ld x3 r0_16) y = blkg x0 x1 x2 x3 x4 x5 x6 x7 (r0_15.emb y 0) (r0_15.emb y 1) := by
  obtain ⟨r, x, rfl⟩ : ∃ (r : Fin 256) (x : Fin 512), y = ix2 r x := ⟨y 0, y 1, eq_ix2 y⟩
  refine (dg02 _ _ _ _ r x).trans ?_
  have e : blkg x0 x1 x2 x3 x4 x5 x6 x7 r ⟨1024 + x.val, by omega⟩ = blkg x0 x1 x2 x3 x4 x5 x6 x7 (r0_15.emb (ix2 r x) 0) (r0_15.emb (ix2 r x) 1) :=
    congrArg₂ (blkg x0 x1 x2 x3 x4 x5 x6 x7) (Fin.ext (show r.val = 0 + 1 * r.val by omega)) (Fin.ext (show 1024 + x.val = 1024 + 1 * x.val by omega))
  rw [← e, blkg, cat0 _ _ _ _ ⟨1024 + x.val, by omega⟩ (show 1024 + x.val = (1024 + x.val) by omega)]
  have e1 : (⟨(1024 + x.val) / 512, by omega⟩ : Fin 4) = 2 := Fin.ext (by show (1024 + x.val) / 512 = 2; omega)
  have e2 : (⟨(1024 + x.val) % 512, by omega⟩ : Fin 512) = x := Fin.ext (by show (1024 + x.val) % 512 = x.val; omega)
  unfold blkg0
  rw [ld_dm x7 1024 _ r x ⟨1024 + x.val, by omega⟩ rfl, ld_gate x6 1024 _ r x ⟨0 + (1024 + x.val), by omega⟩ (show 0 + (1024 + x.val) = 1024 + x.val by omega), e1, e2]
  exact congrArg₂ (dg _ _) (funext fun k => congrFun (View.ld_unit_zero (by decide) _ _) _) (funext fun k => ld_wa x3 2 _ k x)
theorem piece11_21 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay21 (F := Ideal) (k0_pay17 (View.ld x6 r0_13)) (k0_pay19 (View.ld x7 r0_8) (View.ld x6 r0_13) (View.ld x2 r0_5) (View.ld x5 r0_12)) (k0_pay20 (F := Ideal)) y = blkg x0 x1 x2 x3 x4 x5 x6 x7 (r0_13.emb y 0) (r0_13.emb y 1) := by
  obtain ⟨r, x, rfl⟩ : ∃ (r : Fin 256) (x : Fin 512), y = ix2 r x := ⟨y 0, y 1, eq_ix2 y⟩
  refine (dg21 _ _ _ _ r x).trans ?_
  have e : blkg x0 x1 x2 x3 x4 x5 x6 x7 r ⟨4608 + x.val, by omega⟩ = blkg x0 x1 x2 x3 x4 x5 x6 x7 (r0_13.emb (ix2 r x) 0) (r0_13.emb (ix2 r x) 1) :=
    congrArg₂ (blkg x0 x1 x2 x3 x4 x5 x6 x7) (Fin.ext (show r.val = 0 + 1 * r.val by omega)) (Fin.ext (show 4608 + x.val = 4608 + 1 * x.val by omega))
  rw [← e, blkg, cat2 _ _ _ _ ⟨512 + x.val, by omega⟩ (show 4608 + x.val = 4096 + (512 + x.val) by omega)]
  have e1 : (⟨(512 + x.val) / 512, by omega⟩ : Fin 4) = 1 := Fin.ext (by show (512 + x.val) / 512 = 1; omega)
  have e2 : (⟨(512 + x.val) % 512, by omega⟩ : Fin 512) = x := Fin.ext (by show (512 + x.val) % 512 = x.val; omega)
  unfold blkg2
  rw [ld_dm x7 512 _ r x ⟨512 + x.val, by omega⟩ rfl, ld_gate x6 4608 _ r x ⟨4096 + (512 + x.val), by omega⟩ (show 4096 + (512 + x.val) = 4608 + x.val by omega), e1, e2]
  exact congrArg₂ (dg _ _) (funext fun k => congrFun (View.ld_unit_zero (by decide) _ _) _) (funext fun k => ld_wb x5 1 _ k x)
theorem piece11_11 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay16 (F := Ideal) (View.ld x7 r0_8) (k0_pay14 (View.ld x6 r0_11)) (View.ld x1 r0_5) (View.ld x4 r0_12) y = blkg x0 x1 x2 x3 x4 x5 x6 x7 (r0_11.emb y 0) (r0_11.emb y 1) := by
  obtain ⟨r, x, rfl⟩ : ∃ (r : Fin 256) (x : Fin 512), y = ix2 r x := ⟨y 0, y 1, eq_ix2 y⟩
  refine (dg11 _ _ _ _ r x).trans ?_
  have e : blkg x0 x1 x2 x3 x4 x5 x6 x7 r ⟨2560 + x.val, by omega⟩ = blkg x0 x1 x2 x3 x4 x5 x6 x7 (r0_11.emb (ix2 r x) 0) (r0_11.emb (ix2 r x) 1) :=
    congrArg₂ (blkg x0 x1 x2 x3 x4 x5 x6 x7) (Fin.ext (show r.val = 0 + 1 * r.val by omega)) (Fin.ext (show 2560 + x.val = 2560 + 1 * x.val by omega))
  rw [← e, blkg, cat1 _ _ _ _ ⟨512 + x.val, by omega⟩ (show 2560 + x.val = 2048 + (512 + x.val) by omega)]
  have e1 : (⟨(512 + x.val) / 512, by omega⟩ : Fin 4) = 1 := Fin.ext (by show (512 + x.val) / 512 = 1; omega)
  have e2 : (⟨(512 + x.val) % 512, by omega⟩ : Fin 512) = x := Fin.ext (by show (512 + x.val) % 512 = x.val; omega)
  unfold blkg1
  rw [ld_dm x7 512 _ r x ⟨512 + x.val, by omega⟩ rfl, ld_gate x6 2560 _ r x ⟨2048 + (512 + x.val), by omega⟩ (show 2048 + (512 + x.val) = 2560 + x.val by omega), e1, e2]
  exact congrArg₂ (dg _ _) (funext fun k => congrFun (View.ld_unit_zero (by decide) _ _) _) (funext fun k => ld_wb x4 1 _ k x)
theorem piece11_01 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay13 (F := Ideal) (View.ld x7 r0_8) (View.ld x6 r0_9) (View.ld x0 r0_2) (View.ld x3 r0_10) y = blkg x0 x1 x2 x3 x4 x5 x6 x7 (r0_9.emb y 0) (r0_9.emb y 1) := by
  obtain ⟨r, x, rfl⟩ : ∃ (r : Fin 256) (x : Fin 512), y = ix2 r x := ⟨y 0, y 1, eq_ix2 y⟩
  refine (dg01 _ _ _ _ r x).trans ?_
  have e : blkg x0 x1 x2 x3 x4 x5 x6 x7 r ⟨512 + x.val, by omega⟩ = blkg x0 x1 x2 x3 x4 x5 x6 x7 (r0_9.emb (ix2 r x) 0) (r0_9.emb (ix2 r x) 1) :=
    congrArg₂ (blkg x0 x1 x2 x3 x4 x5 x6 x7) (Fin.ext (show r.val = 0 + 1 * r.val by omega)) (Fin.ext (show 512 + x.val = 512 + 1 * x.val by omega))
  rw [← e, blkg, cat0 _ _ _ _ ⟨512 + x.val, by omega⟩ (show 512 + x.val = (512 + x.val) by omega)]
  have e1 : (⟨(512 + x.val) / 512, by omega⟩ : Fin 4) = 1 := Fin.ext (by show (512 + x.val) / 512 = 1; omega)
  have e2 : (⟨(512 + x.val) % 512, by omega⟩ : Fin 512) = x := Fin.ext (by show (512 + x.val) % 512 = x.val; omega)
  unfold blkg0
  rw [ld_dm x7 512 _ r x ⟨512 + x.val, by omega⟩ rfl, ld_gate x6 512 _ r x ⟨0 + (512 + x.val), by omega⟩ (show 0 + (512 + x.val) = 512 + x.val by omega), e1, e2]
  exact congrArg₂ (dg _ _) (funext fun k => congrFun (View.ld_unit_zero (by decide) _ _) _) (funext fun k => ld_wa x3 1 _ k x)
theorem piece11_20 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay10 (F := Ideal) (View.ld x7 r0_0) (View.ld x6 r0_7) (View.ld x2 r0_5) (View.ld x5 r0_6) y = blkg x0 x1 x2 x3 x4 x5 x6 x7 (r0_7.emb y 0) (r0_7.emb y 1) := by
  obtain ⟨r, x, rfl⟩ : ∃ (r : Fin 256) (x : Fin 512), y = ix2 r x := ⟨y 0, y 1, eq_ix2 y⟩
  refine (dg20 _ _ _ _ r x).trans ?_
  have e : blkg x0 x1 x2 x3 x4 x5 x6 x7 r ⟨4096 + x.val, by omega⟩ = blkg x0 x1 x2 x3 x4 x5 x6 x7 (r0_7.emb (ix2 r x) 0) (r0_7.emb (ix2 r x) 1) :=
    congrArg₂ (blkg x0 x1 x2 x3 x4 x5 x6 x7) (Fin.ext (show r.val = 0 + 1 * r.val by omega)) (Fin.ext (show 4096 + x.val = 4096 + 1 * x.val by omega))
  rw [← e, blkg, cat2 _ _ _ _ ⟨0 + x.val, by omega⟩ (show 4096 + x.val = 4096 + (0 + x.val) by omega)]
  have e1 : (⟨(0 + x.val) / 512, by omega⟩ : Fin 4) = 0 := Fin.ext (by show (0 + x.val) / 512 = 0; omega)
  have e2 : (⟨(0 + x.val) % 512, by omega⟩ : Fin 512) = x := Fin.ext (by show (0 + x.val) % 512 = x.val; omega)
  unfold blkg2
  rw [ld_dm x7 0 _ r x ⟨0 + x.val, by omega⟩ rfl, ld_gate x6 4096 _ r x ⟨4096 + (0 + x.val), by omega⟩ (show 4096 + (0 + x.val) = 4096 + x.val by omega), e1, e2]
  exact congrArg₂ (dg _ _) (funext fun k => congrFun (View.ld_unit_zero (by decide) _ _) _) (funext fun k => ld_wb x5 0 _ k x)
theorem piece11_10 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay7 (F := Ideal) (View.ld x7 r0_0) (k0_pay5 (View.ld x6 r0_4)) (View.ld x1 r0_5) (View.ld x4 r0_6) y = blkg x0 x1 x2 x3 x4 x5 x6 x7 (r0_4.emb y 0) (r0_4.emb y 1) := by
  obtain ⟨r, x, rfl⟩ : ∃ (r : Fin 256) (x : Fin 512), y = ix2 r x := ⟨y 0, y 1, eq_ix2 y⟩
  refine (dg10 _ _ _ _ r x).trans ?_
  have e : blkg x0 x1 x2 x3 x4 x5 x6 x7 r ⟨2048 + x.val, by omega⟩ = blkg x0 x1 x2 x3 x4 x5 x6 x7 (r0_4.emb (ix2 r x) 0) (r0_4.emb (ix2 r x) 1) :=
    congrArg₂ (blkg x0 x1 x2 x3 x4 x5 x6 x7) (Fin.ext (show r.val = 0 + 1 * r.val by omega)) (Fin.ext (show 2048 + x.val = 2048 + 1 * x.val by omega))
  rw [← e, blkg, cat1 _ _ _ _ ⟨0 + x.val, by omega⟩ (show 2048 + x.val = 2048 + (0 + x.val) by omega)]
  have e1 : (⟨(0 + x.val) / 512, by omega⟩ : Fin 4) = 0 := Fin.ext (by show (0 + x.val) / 512 = 0; omega)
  have e2 : (⟨(0 + x.val) % 512, by omega⟩ : Fin 512) = x := Fin.ext (by show (0 + x.val) % 512 = x.val; omega)
  unfold blkg1
  rw [ld_dm x7 0 _ r x ⟨0 + x.val, by omega⟩ rfl, ld_gate x6 2048 _ r x ⟨2048 + (0 + x.val), by omega⟩ (show 2048 + (0 + x.val) = 2048 + x.val by omega), e1, e2]
  exact congrArg₂ (dg _ _) (funext fun k => congrFun (View.ld_unit_zero (by decide) _ _) _) (funext fun k => ld_wb x4 0 _ k x)
theorem piece11_00 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x512.Idx) : k0_pay4 (F := Ideal) (View.ld x7 r0_0) (View.ld x6 r0_1) (View.ld x0 r0_2) (View.ld x3 r0_3) y = blkg x0 x1 x2 x3 x4 x5 x6 x7 (r0_1.emb y 0) (r0_1.emb y 1) := by
  obtain ⟨r, x, rfl⟩ : ∃ (r : Fin 256) (x : Fin 512), y = ix2 r x := ⟨y 0, y 1, eq_ix2 y⟩
  refine (dg00 _ _ _ _ r x).trans ?_
  have e : blkg x0 x1 x2 x3 x4 x5 x6 x7 r ⟨0 + x.val, by omega⟩ = blkg x0 x1 x2 x3 x4 x5 x6 x7 (r0_1.emb (ix2 r x) 0) (r0_1.emb (ix2 r x) 1) :=
    congrArg₂ (blkg x0 x1 x2 x3 x4 x5 x6 x7) (Fin.ext (show r.val = 0 + 1 * r.val by omega)) (Fin.ext (show 0 + x.val = 0 + 1 * x.val by omega))
  rw [← e, blkg, cat0 _ _ _ _ ⟨0 + x.val, by omega⟩ (show 0 + x.val = (0 + x.val) by omega)]
  have e1 : (⟨(0 + x.val) / 512, by omega⟩ : Fin 4) = 0 := Fin.ext (by show (0 + x.val) / 512 = 0; omega)
  have e2 : (⟨(0 + x.val) % 512, by omega⟩ : Fin 512) = x := Fin.ext (by show (0 + x.val) % 512 = x.val; omega)
  unfold blkg0
  rw [ld_dm x7 0 _ r x ⟨0 + x.val, by omega⟩ rfl, ld_gate x6 0 _ r x ⟨0 + (0 + x.val), by omega⟩ (show 0 + (0 + x.val) = 0 + x.val by omega), e1, e2]
  exact congrArg₂ (dg _ _) (funext fun k => congrFun (View.ld_unit_zero (by decide) _ _) _) (funext fun k => ld_wa x3 0 _ k x)
/-- What the body leaves in the block of the gradient by the gates. -/
theorem out11 (x0 : Vec Ideal S256x1024 .bf16) (x1 x2 : Vec Ideal S256x512 .bf16) (x3 : Vec Ideal S4x1024x512 .bf16)
    (x4 x5 : Vec Ideal S4x512x512 .bf16) (x6 : Vec Ideal S256x6144 .f32) (x7 : Vec Ideal S256x2048 .f32) (y : S256x6144.Idx) : out0_11 (F := Ideal) x0 x1 x2 x3 x4 x5 x6 x7 y = blkg x0 x1 x2 x3 x4 x5 x6 x7 (y 0) (y 1) := by
  unfold_out out0_11
  refine View.canon_apply_of_pieces (Val := Elt Ideal) (fun y => blkg x0 x1 x2 x3 x4 x5 x6 x7 (y 0) (y 1)) _ ?_ y (cover0_11 _ _ _ _ _ _ _ _ _ _ _ _ y)
  intro p hp
  simp only [List.mem_cons, List.not_mem_nil, or_false] at hp
  rcases hp with rfl | rfl | rfl | rfl | rfl | rfl | rfl | rfl | rfl | rfl | rfl | rfl
  · exact piece11_23 x0 x1 x2 x3 x4 x5 x6 x7
  · exact piece11_13 x0 x1 x2 x3 x4 x5 x6 x7
  · exact piece11_03 x0 x1 x2 x3 x4 x5 x6 x7
  · exact piece11_22 x0 x1 x2 x3 x4 x5 x6 x7
  · exact piece11_12 x0 x1 x2 x3 x4 x5 x6 x7
  · exact piece11_02 x0 x1 x2 x3 x4 x5 x6 x7
  · exact piece11_21 x0 x1 x2 x3 x4 x5 x6 x7
  · exact piece11_11 x0 x1 x2 x3 x4 x5 x6 x7
  · exact piece11_01 x0 x1 x2 x3 x4 x5 x6 x7
  · exact piece11_20 x0 x1 x2 x3 x4 x5 x6 x7
  · exact piece11_10 x0 x1 x2 x3 x4 x5 x6 x7
  · exact piece11_00 x0 x1 x2 x3 x4 x5 x6 x7

/-- The arguments at an element. -/
def YA (c : Dev nD) (r : Fin 8192) (k : Fin 1024) : EReal := (show Vec Ideal S8192x1024 .bf16 from m ((c.tc : Thread nD τ).loc main_arg0)) (ix2 r k)
def YB (c : Dev nD) (r : Fin 8192) (k : Fin 512) : EReal := (show Vec Ideal S8192x512 .bf16 from m ((c.tc : Thread nD τ).loc main_arg1)) (ix2 r k)
def YC (c : Dev nD) (r : Fin 8192) (k : Fin 512) : EReal := (show Vec Ideal S8192x512 .bf16 from m ((c.tc : Thread nD τ).loc main_arg2)) (ix2 r k)
def GT (c : Dev nD) (r : Fin 8192) (k : Fin 6144) : EReal := (show Vec Ideal S8192x6144 .f32 from m ((c.tc : Thread nD τ).loc main_arg6)) (ix2 r k)
def DM (c : Dev nD) (r : Fin 8192) (k : Fin 2048) : EReal := (show Vec Ideal S8192x2048 .f32 from m ((c.tc : Thread nD τ).loc main_arg7)) (ix2 r k)

/-- The arguments' blocks are their rows. -/
theorem blk0 (c : Dev nD) (t : Fin cfg0.N) (r : Fin 256) (k : Fin 1024) (R : Fin 8192) (h : R.val = t.val * 256 + r.val) :
    (iblk m c 0 t : Vec Ideal S256x1024 .bf16) (ix2 r k) = YA m c R k := by
  have ht : t.val < 32 := lt_of_lt_of_eq t.isLt N_0
  have hb : t.val * 256 + r.val < 8192 := h ▸ R.isLt
  obtain rfl : R = ⟨t.val * 256 + r.val, hb⟩ := Fin.ext h
  unfold YA; blk_point [iblk, V, idx0 t]
theorem blk1 (c : Dev nD) (t : Fin cfg0.N) (r : Fin 256) (k : Fin 512) (R : Fin 8192) (h : R.val = t.val * 256 + r.val) :
    (iblk m c 1 t : Vec Ideal S256x512 .bf16) (ix2 r k) = YB m c R k := by
  have ht : t.val < 32 := lt_of_lt_of_eq t.isLt N_0
  have hb : t.val * 256 + r.val < 8192 := h ▸ R.isLt
  obtain rfl : R = ⟨t.val * 256 + r.val, hb⟩ := Fin.ext h
  unfold YB; blk_point [iblk, V, idx0 t]
theorem blk2 (c : Dev nD) (t : Fin cfg0.N) (r : Fin 256) (k : Fin 512) (R : Fin 8192) (h : R.val = t.val * 256 + r.val) :
    (iblk m c 2 t : Vec Ideal S256x512 .bf16) (ix2 r k) = YC m c R k := by
  have ht : t.val < 32 := lt_of_lt_of_eq t.isLt N_0
  have hb : t.val * 256 + r.val < 8192 := h ▸ R.isLt
  obtain rfl : R = ⟨t.val * 256 + r.val, hb⟩ := Fin.ext h
  unfold YC; blk_point [iblk, V, idx0 t]
theorem blk6 (c : Dev nD) (t : Fin cfg0.N) (r : Fin 256) (k : Fin 6144) (R : Fin 8192) (h : R.val = t.val * 256 + r.val) :
    (iblk m c 6 t : Vec Ideal S256x6144 .f32) (ix2 r k) = GT m c R k := by
  have ht : t.val < 32 := lt_of_lt_of_eq t.isLt N_0
  have hb : t.val * 256 + r.val < 8192 := h ▸ R.isLt
  obtain rfl : R = ⟨t.val * 256 + r.val, hb⟩ := Fin.ext h
  unfold GT; blk_point [iblk, V, idx0 t]
theorem blk7 (c : Dev nD) (t : Fin cfg0.N) (r : Fin 256) (k : Fin 2048) (R : Fin 8192) (h : R.val = t.val * 256 + r.val) :
    (iblk m c 7 t : Vec Ideal S256x2048 .f32) (ix2 r k) = DM m c R k := by
  have ht : t.val < 32 := lt_of_lt_of_eq t.isLt N_0
  have hb : t.val * 256 + r.val < 8192 := h ▸ R.isLt
  obtain rfl : R = ⟨t.val * 256 + r.val, hb⟩ := Fin.ext h
  unfold DM; blk_point [iblk, V, idx0 t]
theorem blk3 (c : Dev nD) (t : Fin cfg0.N) (s : Fin 4) (k : Fin 1024) (x : Fin 512) :
    (iblk m c 3 t : Vec Ideal S4x1024x512 .bf16) (ix3 s k x) = (show Vec Ideal S4x1024x512 .bf16 from m ((c.tc : Thread nD τ).loc main_arg3)) (ix3 s k x) := by
  have ht : t.val < 32 := lt_of_lt_of_eq t.isLt N_0
  blk_point [iblk, V, idx0 t]
theorem blk4 (c : Dev nD) (t : Fin cfg0.N) (s : Fin 4) (k : Fin 512) (x : Fin 512) :
    (iblk m c 4 t : Vec Ideal S4x512x512 .bf16) (ix3 s k x) = (show Vec Ideal S4x512x512 .bf16 from m ((c.tc : Thread nD τ).loc main_arg4)) (ix3 s k x) := by
  have ht : t.val < 32 := lt_of_lt_of_eq t.isLt N_0
  blk_point [iblk, V, idx0 t]
theorem blk5 (c : Dev nD) (t : Fin cfg0.N) (s : Fin 4) (k : Fin 512) (x : Fin 512) :
    (iblk m c 5 t : Vec Ideal S4x512x512 .bf16) (ix3 s k x) = (show Vec Ideal S4x512x512 .bf16 from m ((c.tc : Thread nD τ).loc main_arg5)) (ix3 s k x) := by
  have ht : t.val < 32 := lt_of_lt_of_eq t.isLt N_0
  blk_point [iblk, V, idx0 t]

/-- The kernel's results at an element of the arrays. -/
def resd0 (c : Dev nD) (r : Fin 8192) (j : Fin 2048) : EReal := du (DM m c r j) (GT m c r ⟨0 + j.val, by omega⟩)
def resg0 (c : Dev nD) (r : Fin 8192) (j : Fin 2048) : EReal :=
  dg (DM m c r j) (GT m c r ⟨0 + j.val, by omega⟩) (YA m c r) (fun k => (show Vec Ideal S4x1024x512 .bf16 from m ((c.tc : Thread nD τ).loc main_arg3)) (ix3 ⟨j.val / 512, by omega⟩ k ⟨j.val % 512, by omega⟩))
def resd1 (c : Dev nD) (r : Fin 8192) (j : Fin 2048) : EReal := du (DM m c r j) (GT m c r ⟨2048 + j.val, by omega⟩)
def resg1 (c : Dev nD) (r : Fin 8192) (j : Fin 2048) : EReal :=
  dg (DM m c r j) (GT m c r ⟨2048 + j.val, by omega⟩) (YB m c r) (fun k => (show Vec Ideal S4x512x512 .bf16 from m ((c.tc : Thread nD τ).loc main_arg4)) (ix3 ⟨j.val / 512, by omega⟩ k ⟨j.val % 512, by omega⟩))
def resd2 (c : Dev nD) (r : Fin 8192) (j : Fin 2048) : EReal := du (DM m c r j) (GT m c r ⟨4096 + j.val, by omega⟩)
def resg2 (c : Dev nD) (r : Fin 8192) (j : Fin 2048) : EReal :=
  dg (DM m c r j) (GT m c r ⟨4096 + j.val, by omega⟩) (YC m c r) (fun k => (show Vec Ideal S4x512x512 .bf16 from m ((c.tc : Thread nD τ).loc main_arg5)) (ix3 ⟨j.val / 512, by omega⟩ k ⟨j.val % 512, by omega⟩))
def resg (c : Dev nD) (r : Fin 8192) : Fin 6144 → EReal := cat (resg0 m c r) (resg1 m c r) (resg2 m c r)

theorem resd0_blk (c : Dev nD) (t : Fin cfg0.N) (r : Fin 256) (j : Fin 2048) (R : Fin 8192) (h : R.val = t.val * 256 + r.val) :
    blkd0 (iblk m c 6 t) (iblk m c 7 t) r j = resd0 m c R j := by
  unfold blkd0 resd0
  simp only [blk6 m c t r _ R h, blk7 m c t r _ R h]
theorem resg0_blk (c : Dev nD) (t : Fin cfg0.N) (r : Fin 256) (j : Fin 2048) (R : Fin 8192) (h : R.val = t.val * 256 + r.val) :
    blkg0 (iblk m c 0 t) (iblk m c 3 t) (iblk m c 6 t) (iblk m c 7 t) r j = resg0 m c R j := by
  unfold blkg0 resg0
  simp only [blk6 m c t r _ R h, blk7 m c t r _ R h, blk0 m c t r _ R h, blk3 m c t]
theorem resd1_blk (c : Dev nD) (t : Fin cfg0.N) (r : Fin 256) (j : Fin 2048) (R : Fin 8192) (h : R.val = t.val * 256 + r.val) :
    blkd1 (iblk m c 6 t) (iblk m c 7 t) r j = resd1 m c R j := by
  unfold blkd1 resd1
  simp only [blk6 m c t r _ R h, blk7 m c t r _ R h]
theorem resg1_blk (c : Dev nD) (t : Fin cfg0.N) (r : Fin 256) (j : Fin 2048) (R : Fin 8192) (h : R.val = t.val * 256 + r.val) :
    blkg1 (iblk m c 1 t) (iblk m c 4 t) (iblk m c 6 t) (iblk m c 7 t) r j = resg1 m c R j := by
  unfold blkg1 resg1
  simp only [blk6 m c t r _ R h, blk7 m c t r _ R h, blk1 m c t r _ R h, blk4 m c t]
theorem resd2_blk (c : Dev nD) (t : Fin cfg0.N) (r : Fin 256) (j : Fin 2048) (R : Fin 8192) (h : R.val = t.val * 256 + r.val) :
    blkd2 (iblk m c 6 t) (iblk m c 7 t) r j = resd2 m c R j := by
  unfold blkd2 resd2
  simp only [blk6 m c t r _ R h, blk7 m c t r _ R h]
theorem resg2_blk (c : Dev nD) (t : Fin cfg0.N) (r : Fin 256) (j : Fin 2048) (R : Fin 8192) (h : R.val = t.val * 256 + r.val) :
    blkg2 (iblk m c 2 t) (iblk m c 5 t) (iblk m c 6 t) (iblk m c 7 t) r j = resg2 m c R j := by
  unfold blkg2 resg2
  simp only [blk6 m c t r _ R h, blk7 m c t r _ R h, blk2 m c t r _ R h, blk5 m c t]
theorem resg_blk (c : Dev nD) (t : Fin cfg0.N) (r : Fin 256) (j : Fin 6144) (R : Fin 8192) (h : R.val = t.val * 256 + r.val) :
    blkg (iblk m c 0 t) (iblk m c 1 t) (iblk m c 2 t) (iblk m c 3 t) (iblk m c 4 t) (iblk m c 5 t) (iblk m c 6 t) (iblk m c 7 t) r j = resg m c R j := by
  unfold blkg resg
  rw [show blkg0 (iblk m c 0 t) (iblk m c 3 t) (iblk m c 6 t) (iblk m c 7 t) r = resg0 m c R from funext fun j => resg0_blk m c t r j R h,
    show blkg1 (iblk m c 1 t) (iblk m c 4 t) (iblk m c 6 t) (iblk m c 7 t) r = resg1 m c R from funext fun j => resg1_blk m c t r j R h,
    show blkg2 (iblk m c 2 t) (iblk m c 5 t) (iblk m c 6 t) (iblk m c 7 t) r = resg2 m c R from funext fun j => resg2_blk m c t r j R h]

/-- The kernel's results. -/
theorem result8 (c : Dev nD) : (dats m 0 c).arrAt 8 cfg0.N = fun i => resd0 m c (i 0) (i 1) := by
  refine (dats m 0 c).arrAt_eq_of_covers 8 _ (by decide +kernel) fun t _ y => ?_
  have ht : t.val < 32 := lt_of_lt_of_eq t.isLt N_0
  blk_simp
  rw [after0_8]
  obtain ⟨r, x, rfl⟩ : ∃ (r : Fin 256) (x : Fin 2048), y = ix2 r x := ⟨y 0, y 1, eq_ix2 y⟩
  refine (out8 _ _ _ _ _ _ _ _ _).trans ?_
  refine (resd0_blk m c t r x ⟨t.val * 256 + r.val, by omega⟩ rfl).trans ?_
  generalize resd0 m c = f
  refine congrArg₂ f (Fin.ext ?_) (Fin.ext ?_) <;> blk_point [idx0 t]
theorem result9 (c : Dev nD) : (dats m 0 c).arrAt 9 cfg0.N = fun i => resd1 m c (i 0) (i 1) := by
  refine (dats m 0 c).arrAt_eq_of_covers 9 _ (by decide +kernel) fun t _ y => ?_
  have ht : t.val < 32 := lt_of_lt_of_eq t.isLt N_0
  blk_simp
  rw [after0_9]
  obtain ⟨r, x, rfl⟩ : ∃ (r : Fin 256) (x : Fin 2048), y = ix2 r x := ⟨y 0, y 1, eq_ix2 y⟩
  refine (out9 _ _ _ _ _ _ _ _ _).trans ?_
  refine (resd1_blk m c t r x ⟨t.val * 256 + r.val, by omega⟩ rfl).trans ?_
  generalize resd1 m c = f
  refine congrArg₂ f (Fin.ext ?_) (Fin.ext ?_) <;> blk_point [idx0 t]
theorem result10 (c : Dev nD) : (dats m 0 c).arrAt 10 cfg0.N = fun i => resd2 m c (i 0) (i 1) := by
  refine (dats m 0 c).arrAt_eq_of_covers 10 _ (by decide +kernel) fun t _ y => ?_
  have ht : t.val < 32 := lt_of_lt_of_eq t.isLt N_0
  blk_simp
  rw [after0_10]
  obtain ⟨r, x, rfl⟩ : ∃ (r : Fin 256) (x : Fin 2048), y = ix2 r x := ⟨y 0, y 1, eq_ix2 y⟩
  refine (out10 _ _ _ _ _ _ _ _ _).trans ?_
  refine (resd2_blk m c t r x ⟨t.val * 256 + r.val, by omega⟩ rfl).trans ?_
  generalize resd2 m c = f
  refine congrArg₂ f (Fin.ext ?_) (Fin.ext ?_) <;> blk_point [idx0 t]
theorem result11 (c : Dev nD) : (dats m 0 c).arrAt 11 cfg0.N = fun i => resg m c (i 0) (i 1) := by
  refine (dats m 0 c).arrAt_eq_of_covers 11 _ (by decide +kernel) fun t _ y => ?_
  have ht : t.val < 32 := lt_of_lt_of_eq t.isLt N_0
  blk_simp
  rw [after0_11]
  obtain ⟨r, x, rfl⟩ : ∃ (r : Fin 256) (x : Fin 6144), y = ix2 r x := ⟨y 0, y 1, eq_ix2 y⟩
  refine (out11 _ _ _ _ _ _ _ _ _).trans ?_
  refine (resg_blk m c t r x ⟨t.val * 256 + r.val, by omega⟩ rfl).trans ?_
  generalize resg m c = f
  refine congrArg₂ f (Fin.ext ?_) (Fin.ext ?_) <;> blk_point [idx0 t]

open Cert.DMergeReferenceIdeal.Read in
/-- The weight's four column shards side by side. -/
theorem wa_apply (w : Vec Ideal S4x1024x512 .bf16) (r : Fin 1024) (k : Fin 2048) :
    val_main_v13 (F := Ideal) w (ix2 r k) = w (ix3 ⟨k.val / 512, by omega⟩ r ⟨k.val % 512, by omega⟩) := by
  pointwise [val_main_v1, val_main_v2, val_main_v3, val_main_v4, val_main_v5, val_main_v6, val_main_v7, val_main_v8, val_main_v9, val_main_v10, val_main_v11, val_main_v12, val_main_v13]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.DMergeReferenceIdeal.Read in
/-- The weight's four column shards side by side. -/
theorem wb_apply (w : Vec Ideal S4x512x512 .bf16) (r : Fin 512) (k : Fin 2048) :
    val_main_v28 (F := Ideal) w (ix2 r k) = w (ix3 ⟨k.val / 512, by omega⟩ r ⟨k.val % 512, by omega⟩) := by
  pointwise [val_main_v16, val_main_v17, val_main_v18, val_main_v19, val_main_v20, val_main_v21, val_main_v22, val_main_v23, val_main_v24, val_main_v25, val_main_v26, val_main_v27, val_main_v28]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.DMergeReferenceIdeal.Read in
/-- The weight's four column shards side by side. -/
theorem wc_apply (w : Vec Ideal S4x512x512 .bf16) (r : Fin 512) (k : Fin 2048) :
    val_main_v43 (F := Ideal) w (ix2 r k) = w (ix3 ⟨k.val / 512, by omega⟩ r ⟨k.val % 512, by omega⟩) := by
  pointwise [val_main_v31, val_main_v32, val_main_v33, val_main_v34, val_main_v35, val_main_v36, val_main_v37, val_main_v38, val_main_v39, val_main_v40, val_main_v41, val_main_v42, val_main_v43]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.DMergeReferenceIdeal.Read in
/-- The gradient by branch 0's product is the reference's. -/
theorem result_eq8 (c : Dev nD) : (dats m 0 c).arrAt 8 cfg0.N = val_main_v72 (F := Ideal) (m ((c.tc : Thread nD τ).loc main_arg6)) (m ((c.tc : Thread nD τ).loc main_arg7)) := by
  rw [result8]
  funext i
  obtain ⟨r, x, rfl⟩ : ∃ (r : Fin 8192) (x : Fin 2048), i = ix2 r x := ⟨i 0, i 1, eq_ix2 i⟩
  show resd0 m c r x = _
  unfold resd0 du GT DM
  rw [sg_eq, mul_comm]
  pointwise [val_main_v72, val_main_v68, val_main_v62, val_main_v54, val_main_v50, val_main_v49, val_main_cst_0, val_main_v48, val_main_v47, val_main_cst, val_main_v46, val_main_v45]
open Cert.DMergeReferenceIdeal.Read in
/-- The gradient by branch 1's product is the reference's. -/
theorem result_eq9 (c : Dev nD) : (dats m 0 c).arrAt 9 cfg0.N = val_main_v73 (F := Ideal) (m ((c.tc : Thread nD τ).loc main_arg6)) (m ((c.tc : Thread nD τ).loc main_arg7)) := by
  rw [result9]
  funext i
  obtain ⟨r, x, rfl⟩ : ∃ (r : Fin 8192) (x : Fin 2048), i = ix2 r x := ⟨i 0, i 1, eq_ix2 i⟩
  show resd1 m c r x = _
  unfold resd1 du GT DM
  rw [sg_eq, mul_comm]
  pointwise [val_main_v73, val_main_v66, val_main_v62, val_main_v55, val_main_v50, val_main_v49, val_main_cst_0, val_main_v48, val_main_v47, val_main_cst, val_main_v46, val_main_v45]
open Cert.DMergeReferenceIdeal.Read in
/-- The gradient by branch 2's product is the reference's. -/
theorem result_eq10 (c : Dev nD) : (dats m 0 c).arrAt 10 cfg0.N = val_main_v74 (F := Ideal) (m ((c.tc : Thread nD τ).loc main_arg6)) (m ((c.tc : Thread nD τ).loc main_arg7)) := by
  rw [result10]
  funext i
  obtain ⟨r, x, rfl⟩ : ∃ (r : Fin 8192) (x : Fin 2048), i = ix2 r x := ⟨i 0, i 1, eq_ix2 i⟩
  show resd2 m c r x = _
  unfold resd2 du GT DM
  rw [sg_eq, mul_comm]
  pointwise [val_main_v74, val_main_v64, val_main_v63, val_main_v56, val_main_v50, val_main_v49, val_main_cst_0, val_main_v48, val_main_v47, val_main_cst, val_main_v46, val_main_v45]
open Cert.DMergeReferenceIdeal.Read in
/-- The gradient by the gates is the reference's. -/
theorem result_eq11 (c : Dev nD) : (dats m 0 c).arrAt 11 cfg0.N = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [result11]
  funext i
  obtain ⟨r, x, rfl⟩ : ∃ (r : Fin 8192) (x : Fin 6144), i = ix2 r x := ⟨i 0, i 1, eq_ix2 i⟩
  show resg m c r x = _
  unfold resg cat resg0 resg1 resg2 dg GT DM YA YB YC
  simp only [sg_eq]
  pointwise [val_main_v75, val_main_v71, val_main_v70, val_main_v69, val_main_v67, val_main_v65, val_main_v63, val_main_v62, val_main_v53, val_main_v52, val_main_v51, val_main_cst_1, val_main_v44, val_main_v30, val_main_v29, val_main_v15, val_main_v14, val_main_v0, val_main_v50, val_main_v49, val_main_cst_0, val_main_v48, val_main_v47, val_main_cst, val_main_v46, val_main_v45]
  simp only [wa_apply, wb_apply, wc_apply]
  by_cases h0 : x.val < 2048
  · simp only [dif_pos h0]
    exact mul_assoc _ _ _
  have e1 : ∀ h, (⟨2048 + (x.val - 2048), h⟩ : Fin 6144) = x := fun h => Fin.ext (show 2048 + (x.val - 2048) = x.val by omega)
  by_cases h1 : x.val - 2048 < 2048
  · simp only [dif_neg h0, dif_pos h1, e1]
    exact mul_assoc _ _ _
  have e2 : ∀ h, (⟨4096 + (x.val - 2048 - 2048), h⟩ : Fin 6144) = x := fun h => Fin.ext (show 4096 + (x.val - 2048 - 2048) = x.val by omega)
  simp only [dif_neg h0, dif_neg h1, e2]
  exact mul_assoc _ _ _

end Cert.DMerge
-- ==== Proof.UpAX.lean ====
module

public import proofs.«01_k».proof.Proof.Gen.UpAXKernelIdeal.Value
public import proofs.«01_k».proof.Proof.Gen.UpAXReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The gradient of a gated branch's up-projection by the branch: the kernel's product of the gated gradient with the up-projection's column
shards, summed over four shards in a scratch, is the reference's product over all 2048 columns. -/

@[expose] public section
set_option maxRecDepth 16384
noncomputable section
open Idealize.ShloMosaic Idealize.ShloMosaic.TcCoe Idealize.SL.Sem
open Idealize.ShloMosaic.Pipeline (Dat)
namespace Cert.UpAX
open Cert.UpAXKernelIdeal Cert.UpAXKernelIdeal.Gen

variable (m : (ℓ : Loc nD τ sig) → Buf (Elt Ideal) ℓ)

theorem idx0 : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The product of two blocks at an element. -/
theorem part_apply (a : Vec Ideal S1024x512 .bf16) (b : Vec Ideal S1x1024x512 .bf16) (r : Fin 1024) (c : Fin 1024) :
    k0_pay1 (F := Ideal) a b (ix2 r c) = ∑ k : Fin 512, a (ix2 r k) * b (ix3 0 c k) := by
  pointwise [k0_pay1]

theorem first_eq (a : Vec Ideal S1024x512 .bf16) (b : Vec Ideal S1x1024x512 .bf16) :
    k0_pay2 (F := Ideal) a b = k0_pay1 (F := Ideal) a b := shapeCast_self _ _
theorem next_apply (a : Vec Ideal S1024x512 .bf16) (b : Vec Ideal S1x1024x512 .bf16) (s : Vec Ideal S1024x1024 .f32)
    (i : S1024x1024.Idx) : k0_pay3 (F := Ideal) a b s i = s i + k0_pay1 (F := Ideal) a b i := by
  unfold k0_pay3
  rw [shapeCast_self]
  rfl
theorem last_apply (a : Vec Ideal S1024x512 .bf16) (b : Vec Ideal S1x1024x512 .bf16) (s : Vec Ideal S1024x1024 .f32)
    (r : Fin 1024) (x : Fin 1024) : k0_pay4 (F := Ideal) a b s (ix2 r x) = s (ix2 r x) + k0_pay1 (F := Ideal) a b (ix2 r x) := by
  rfl

/-- The running sum after point `n`: the scratch, and at a block's last step the scratch's contents with that
step's product added. -/
def acc (c : Dev nD) (n : ℕ) (h : n < cfg0.N) : Vec Ideal S1024x1024 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x1024.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 4 = 3) (i : S1024x1024.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 2048, (show Vec Ideal S8192x2048 .bf16 from V m c main_v7) (ix2 (i 0) k)
        * (show Vec Ideal S4x1024x512 .bf16 from m ((c.tc : Thread nD τ).loc main_arg1)) (ix3 ⟨k.val / 512, by omega⟩ (i 1) ⟨k.val % 512, by omega⟩) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ (r : Fin 1024) (x : Fin 1024), y = ix2 r x := ⟨y 0, y 1, eq_ix2 y⟩
  have e : (outsAt0 m c t.val t.isLt).1 (ix2 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 32 := lt_of_lt_of_eq t.isLt N_0
  blk_point [iblk, V, idx0 t, idx0 ⟨_, Pipeline.run_point_lt_of_flush t h3 s⟩]

open Cert.UpAXReferenceIdeal.Read in
/-- The gated gradient, computed before the launch, is the reference's. -/
theorem du_apply (c : Dev nD) (r : Fin 8192) (k : Fin 2048) : (show Vec Ideal S8192x2048 .bf16 from V m c main_v7) (ix2 r k)
    = val_main_v19 (F := Ideal) (m ((c.tc : Thread nD τ).loc main_arg2)) (m ((c.tc : Thread nD τ).loc main_arg3)) (ix2 r k) := by
  show V m c main_v7 (ix2 r k) = _
  unfold V
  after_reads_simp
  exact mul_comm (G := EReal) _ _

open Cert.UpAXReferenceIdeal.Read in
/-- The weight's four column shards side by side. -/
theorem w_apply (w : Vec Ideal S4x1024x512 .bf16) (r : Fin 1024) (k : Fin 2048) :
    val_main_v16 (F := Ideal) w (ix2 r k) = w (ix3 ⟨k.val / 512, by omega⟩ r ⟨k.val % 512, by omega⟩) := by
  pointwise [val_main_v16, val_main_v15, val_main_v14, val_main_v13, val_main_v12, val_main_v11, val_main_v10, val_main_v9, val_main_v8, val_main_v1]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.UpAXReferenceIdeal.Read in
/-- The kernel's result is the reference's. -/
theorem result_eq (c : Dev nD) : (dats m 0 c).arrAt 2 cfg0.N = val_main_v38 (F := Ideal) (m ((c.tc : Thread nD τ).loc main_arg1)) (m ((c.tc : Thread nD τ).loc main_arg2)) (m ((c.tc : Thread nD τ).loc main_arg3)) := by
  rw [result]
  funext i
  obtain ⟨r, x, rfl⟩ : ∃ (r : Fin 8192) (x : Fin 1024), i = ix2 r x := ⟨i 0, i 1, eq_ix2 i⟩
  refine Eq.trans ?_ (val_main_v22_apply _ _ _ _).symm
  refine Finset.sum_congr rfl fun k _ => ?_
  rw [show ridx_main_v22 (ix2 r x) k = ix2 x k from eq_ix2 _, show lidx_main_v22 (ix2 r x) k = ix2 r k from eq_ix2 _]
  exact congrArg₂ (· * ·) (du_apply m c r k) (w_apply _ x k).symm

end Cert.UpAX
-- ==== Proof.UpAW.lean ====
module

public import proofs.«01_k».proof.Proof.Gen.UpAWKernelIdeal.Value
public import proofs.«01_k».proof.Proof.Gen.UpAWReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The gradient of a gated branch's up-projection by its weight: the kernel's product of the transposed branch with the gated
gradient, summed over four steps of 2048 tokens in a scratch, is the reference's four column shards. -/

@[expose] public section
set_option maxRecDepth 16384
noncomputable section
open Idealize.ShloMosaic Idealize.ShloMosaic.TcCoe Idealize.SL.Sem
open Idealize.ShloMosaic.Pipeline (Dat)
namespace Cert.UpAW
open Cert.UpAWKernelIdeal Cert.UpAWKernelIdeal.Gen

variable (m : (ℓ : Loc nD τ sig) → Buf (Elt Ideal) ℓ)

theorem idx0 : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The product of two blocks at an element. -/
theorem part_apply (a : Vec Ideal S2048x1024 .bf16) (b : Vec Ideal S2048x512 .bf16) (r : Fin 1024) (c : Fin 512) :
    k0_pay1 (F := Ideal) a b (ix2 r c) = ∑ k : Fin 2048, a (ix2 k r) * b (ix2 k c) := by
  pointwise [k0_pay1]

theorem first_eq (a : Vec Ideal S2048x1024 .bf16) (b : Vec Ideal S2048x512 .bf16) :
    k0_pay2 (F := Ideal) a b = k0_pay1 (F := Ideal) a b := shapeCast_self _ _
theorem next_apply (a : Vec Ideal S2048x1024 .bf16) (b : Vec Ideal S2048x512 .bf16) (s : Vec Ideal S1024x512 .f32)
    (i : S1024x512.Idx) : k0_pay3 (F := Ideal) a b s i = s i + k0_pay1 (F := Ideal) a b i := by
  unfold k0_pay3
  rw [shapeCast_self]
  rfl
theorem last_apply (a : Vec Ideal S2048x1024 .bf16) (b : Vec Ideal S2048x512 .bf16) (s : Vec Ideal S1024x512 .f32)
    (r : Fin 1024) (x : Fin 512) : k0_pay4 (F := Ideal) a b s (ix3 0 r x) = s (ix2 r x) + k0_pay1 (F := Ideal) a b (ix2 r x) := by
  pointwise [k0_pay4]

/-- The running sum after point `n`: the scratch, and at a block's last step the scratch's contents with that
step's product added. -/
def acc (c : Dev nD) (n : ℕ) (h : n < cfg0.N) : Vec Ideal S1024x512 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x512.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 4 = 3) (i : S1024x512.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 8192, (show Vec Ideal S8192x1024 .bf16 from m ((c.tc : Thread nD τ).loc main_arg0)) (ix2 k (i 1))
        * (show Vec Ideal S8192x2048 .bf16 from V m c main_v7) (ix2 k ⟨(i 0).val * 512 + (i 2).val, by
            have h0 : (i 0).val < 4 := (i 0).isLt
            have h2 : (i 2).val < 512 := (i 2).isLt
            omega⟩) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ (r : Fin 1024) (x : Fin 512), y = ix3 0 r x := ⟨y 1, y 2, by
    rw [show (0 : Fin 1) = y 0 from Subsingleton.elim (α := Fin 1) _ _]; exact eq_ix3 y⟩
  have e : (outsAt0 m c t.val t.isLt).1 (ix3 0 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 16 := lt_of_lt_of_eq t.isLt N_0
  blk_point [iblk, V, idx0 t, idx0 ⟨_, Pipeline.run_point_lt_of_flush t h3 s⟩]

open Cert.UpAWReferenceIdeal.Read in
/-- The gated gradient, computed before the launch, is the reference's. -/
theorem du_apply (c : Dev nD) (r : Fin 8192) (k : Fin 2048) : (show Vec Ideal S8192x2048 .bf16 from V m c main_v7) (ix2 r k)
    = val_main_v19 (F := Ideal) (m ((c.tc : Thread nD τ).loc main_arg2)) (m ((c.tc : Thread nD τ).loc main_arg3)) (ix2 r k) := by
  show V m c main_v7 (ix2 r k) = _
  unfold V
  after_reads_simp
  exact mul_comm (G := EReal) _ _

open Cert.UpAWReferenceIdeal.Read in
/-- The reference's product, transposed. -/
theorem t_apply (x0 : Vec Ideal S8192x1024 .bf16) (x2 x3 : Vec Ideal S8192x2048 .f32)
    (r : Fin 1024) (x : Fin 2048) : val_main_v21 (F := Ideal) x0 x2 x3 (ix2 r x) = val_main_v20 (F := Ideal) x0 x2 x3 (ix2 x r) := by
  pointwise [val_main_v21]

open Cert.UpAWReferenceIdeal.Read in
/-- The reference's four shards, each placed at its own index and added, are the four column blocks. -/
theorem shards_apply (x0 : Vec Ideal S8192x1024 .bf16) (x2 x3 : Vec Ideal S8192x2048 .f32)
    (s : Fin 4) (r : Fin 1024) (x : Fin 512) : val_main_v38 (F := Ideal) x0 x2 x3 (ix3 s r x)
      = val_main_v21 (F := Ideal) x0 x2 x3 (ix2 r ⟨s.val * 512 + x.val, by omega⟩) := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_cst_1, val_main_cst_2, val_main_cst_3, val_main_cst_4]
  have e : ∀ k k' : Fin 2048, k.val = k'.val → val_main_v21 (F := Ideal) x0 x2 x3 (ix2 r k) = val_main_v21 (F := Ideal) x0 x2 x3 (ix2 r k') := by
    intro k k' h; rw [Fin.ext h]
  have hs : s.val = 0 ∨ s.val = 1 ∨ s.val = 2 ∨ s.val = 3 := by omega
  rcases hs with h | h | h | h
  · rw [dif_neg (by omega), dif_neg (by omega), dif_neg (by omega), dif_pos (by omega), zero_add, zero_add, zero_add]
    exact e _ _ (show x.val = s.val * 512 + x.val by omega)
  · rw [dif_neg (by omega), dif_neg (by omega), dif_pos (by omega), dif_neg (by omega), zero_add, zero_add, add_zero]
    exact e _ _ (show 512 + x.val = s.val * 512 + x.val by omega)
  · rw [dif_neg (by omega), dif_pos (by omega), dif_neg (by omega), dif_neg (by omega), zero_add, add_zero, add_zero]
    exact e _ _ (show 1024 + x.val = s.val * 512 + x.val by omega)
  · rw [dif_pos (by omega), dif_neg (by omega), dif_neg (by omega), dif_neg (by omega), add_zero, add_zero, add_zero]
    exact e _ _ (show 1536 + x.val = s.val * 512 + x.val by omega)

open Cert.UpAWReferenceIdeal.Read in
/-- The kernel's result is the reference's. -/
theorem result_eq (c : Dev nD) : (dats m 0 c).arrAt 2 cfg0.N = val_main_v38 (F := Ideal) (m ((c.tc : Thread nD τ).loc main_arg0)) (m ((c.tc : Thread nD τ).loc main_arg2)) (m ((c.tc : Thread nD τ).loc main_arg3)) := by
  rw [result]
  funext i
  obtain ⟨s, r, x, rfl⟩ : ∃ (s : Fin 4) (r : Fin 1024) (x : Fin 512), i = ix3 s r x := ⟨i 0, i 1, i 2, eq_ix3 i⟩
  refine Eq.trans ?_ (shards_apply _ _ _ s r x).symm
  refine Eq.trans ?_ (t_apply _ _ _ r _).symm
  refine Eq.trans ?_ (val_main_v20_apply _ _ _ _).symm
  refine Finset.sum_congr rfl fun k _ => ?_
  rw [show lidx_main_v20 (ix2 (⟨s.val * 512 + x.val, by omega⟩ : Fin 2048) r) k = ix2 k ⟨s.val * 512 + x.val, by omega⟩ from eq_ix2 _,
    show ridx_main_v20 (ix2 (⟨s.val * 512 + x.val, by omega⟩ : Fin 2048) r) k = ix2 k r from eq_ix2 _]
  exact (congrArg (_ * ·) (du_apply m c k _)).trans (mul_comm _ _)

end Cert.UpAW
-- ==== Proof.UpBX.lean ====
module

public import proofs.«01_k».proof.Proof.Gen.UpBXKernelIdeal.Value
public import proofs.«01_k».proof.Proof.Gen.UpBXReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The gradient of a gated branch's up-projection by the branch: the kernel's product of the gated gradient with the up-projection's column
shards, summed over four shards in a scratch, is the reference's product over all 2048 columns. -/

@[expose] public section
set_option maxRecDepth 16384
noncomputable section
open Idealize.ShloMosaic Idealize.ShloMosaic.TcCoe Idealize.SL.Sem
open Idealize.ShloMosaic.Pipeline (Dat)
namespace Cert.UpBX
open Cert.UpBXKernelIdeal Cert.UpBXKernelIdeal.Gen

variable (m : (ℓ : Loc nD τ sig) → Buf (Elt Ideal) ℓ)

theorem idx0 : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The product of two blocks at an element. -/
theorem part_apply (a : Vec Ideal S1024x512 .bf16) (b : Vec Ideal S1x512x512 .bf16) (r : Fin 1024) (c : Fin 512) :
    k0_pay1 (F := Ideal) a b (ix2 r c) = ∑ k : Fin 512, a (ix2 r k) * b (ix3 0 c k) := by
  pointwise [k0_pay1]

theorem first_eq (a : Vec Ideal S1024x512 .bf16) (b : Vec Ideal S1x512x512 .bf16) :
    k0_pay2 (F := Ideal) a b = k0_pay1 (F := Ideal) a b := shapeCast_self _ _
theorem next_apply (a : Vec Ideal S1024x512 .bf16) (b : Vec Ideal S1x512x512 .bf16) (s : Vec Ideal S1024x512 .f32)
    (i : S1024x512.Idx) : k0_pay3 (F := Ideal) a b s i = s i + k0_pay1 (F := Ideal) a b i := by
  unfold k0_pay3
  rw [shapeCast_self]
  rfl
theorem last_apply (a : Vec Ideal S1024x512 .bf16) (b : Vec Ideal S1x512x512 .bf16) (s : Vec Ideal S1024x512 .f32)
    (r : Fin 1024) (x : Fin 512) : k0_pay4 (F := Ideal) a b s (ix2 r x) = s (ix2 r x) + k0_pay1 (F := Ideal) a b (ix2 r x) := by
  rfl

/-- The running sum after point `n`: the scratch, and at a block's last step the scratch's contents with that
step's product added. -/
def acc (c : Dev nD) (n : ℕ) (h : n < cfg0.N) : Vec Ideal S1024x512 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S1024x512.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 4 = 3) (i : S1024x512.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 2048, (show Vec Ideal S8192x2048 .bf16 from V m c main_v7) (ix2 (i 0) k)
        * (show Vec Ideal S4x512x512 .bf16 from m ((c.tc : Thread nD τ).loc main_arg1)) (ix3 ⟨k.val / 512, by omega⟩ (i 1) ⟨k.val % 512, by omega⟩) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ (r : Fin 1024) (x : Fin 512), y = ix2 r x := ⟨y 0, y 1, eq_ix2 y⟩
  have e : (outsAt0 m c t.val t.isLt).1 (ix2 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 32 := lt_of_lt_of_eq t.isLt N_0
  blk_point [iblk, V, idx0 t, idx0 ⟨_, Pipeline.run_point_lt_of_flush t h3 s⟩]

open Cert.UpBXReferenceIdeal.Read in
/-- The gated gradient, computed before the launch, is the reference's. -/
theorem du_apply (c : Dev nD) (r : Fin 8192) (k : Fin 2048) : (show Vec Ideal S8192x2048 .bf16 from V m c main_v7) (ix2 r k)
    = val_main_v19 (F := Ideal) (m ((c.tc : Thread nD τ).loc main_arg2)) (m ((c.tc : Thread nD τ).loc main_arg3)) (ix2 r k) := by
  show V m c main_v7 (ix2 r k) = _
  unfold V
  after_reads_simp
  exact mul_comm (G := EReal) _ _

open Cert.UpBXReferenceIdeal.Read in
/-- The weight's four column shards side by side. -/
theorem w_apply (w : Vec Ideal S4x512x512 .bf16) (r : Fin 512) (k : Fin 2048) :
    val_main_v16 (F := Ideal) w (ix2 r k) = w (ix3 ⟨k.val / 512, by omega⟩ r ⟨k.val % 512, by omega⟩) := by
  pointwise [val_main_v16, val_main_v15, val_main_v14, val_main_v13, val_main_v12, val_main_v11, val_main_v10, val_main_v9, val_main_v8, val_main_v1]
  have e : ∀ (a a' : Fin 4) (b b' : Fin 512), a.val = a'.val → b.val = b'.val → w (ix3 a r b) = w (ix3 a' r b') := by
    intro a a' b b' h h'; rw [Fin.ext h, Fin.ext h']
  have hk := k.isLt
  by_cases h0 : k.val < 512
  · rw [dif_pos h0]
    exact e _ _ _ _ (show 0 = k.val / 512 by omega) (show k.val = k.val % 512 by omega)
  rw [dif_neg h0]
  by_cases h1 : k.val - 512 < 512
  · rw [dif_pos h1]
    exact e _ _ _ _ (show 1 = k.val / 512 by omega) (show k.val - 512 = k.val % 512 by omega)
  rw [dif_neg h1]
  by_cases h2 : k.val - 512 - 512 < 512
  · rw [dif_pos h2]
    exact e _ _ _ _ (show 2 = k.val / 512 by omega) (show k.val - 512 - 512 = k.val % 512 by omega)
  rw [dif_neg h2]
  exact e _ _ _ _ (show 3 = k.val / 512 by omega) (show k.val - 512 - 512 - 512 = k.val % 512 by omega)

open Cert.UpBXReferenceIdeal.Read in
/-- The kernel's result is the reference's. -/
theorem result_eq (c : Dev nD) : (dats m 0 c).arrAt 2 cfg0.N = val_main_v38 (F := Ideal) (m ((c.tc : Thread nD τ).loc main_arg1)) (m ((c.tc : Thread nD τ).loc main_arg2)) (m ((c.tc : Thread nD τ).loc main_arg3)) := by
  rw [result]
  funext i
  obtain ⟨r, x, rfl⟩ : ∃ (r : Fin 8192) (x : Fin 512), i = ix2 r x := ⟨i 0, i 1, eq_ix2 i⟩
  refine Eq.trans ?_ (val_main_v22_apply _ _ _ _).symm
  refine Finset.sum_congr rfl fun k _ => ?_
  rw [show ridx_main_v22 (ix2 r x) k = ix2 x k from eq_ix2 _, show lidx_main_v22 (ix2 r x) k = ix2 r k from eq_ix2 _]
  exact congrArg₂ (· * ·) (du_apply m c r k) (w_apply _ x k).symm

end Cert.UpBX
-- ==== Proof.UpBW.lean ====
module

public import proofs.«01_k».proof.Proof.Gen.UpBWKernelIdeal.Value
public import proofs.«01_k».proof.Proof.Gen.UpBWReferenceIdeal.Read
public import Idealize.ShloMosaic.Lib.Pipeline.ValueKit
public import Idealize.ShloMosaic.Lib.Pipeline.ReadBack
public import Idealize.ShloMosaic.Lib.StableHlo.RunRead
public import Idealize.ShloMosaic.Lib.Claim

/-! The gradient of a gated branch's up-projection by its weight: the kernel's product of the transposed branch with the gated
gradient, summed over four steps of 2048 tokens in a scratch, is the reference's four column shards. -/

@[expose] public section
set_option maxRecDepth 16384
noncomputable section
open Idealize.ShloMosaic Idealize.ShloMosaic.TcCoe Idealize.SL.Sem
open Idealize.ShloMosaic.Pipeline (Dat)
namespace Cert.UpBW
open Cert.UpBWKernelIdeal Cert.UpBWKernelIdeal.Gen

variable (m : (ℓ : Loc nD τ sig) → Buf (Elt Ideal) ℓ)

theorem idx0 : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The product of two blocks at an element. -/
theorem part_apply (a : Vec Ideal S2048x512 .bf16) (b : Vec Ideal S2048x512 .bf16) (r : Fin 512) (c : Fin 512) :
    k0_pay1 (F := Ideal) a b (ix2 r c) = ∑ k : Fin 2048, a (ix2 k r) * b (ix2 k c) := by
  pointwise [k0_pay1]

theorem first_eq (a : Vec Ideal S2048x512 .bf16) (b : Vec Ideal S2048x512 .bf16) :
    k0_pay2 (F := Ideal) a b = k0_pay1 (F := Ideal) a b := shapeCast_self _ _
theorem next_apply (a : Vec Ideal S2048x512 .bf16) (b : Vec Ideal S2048x512 .bf16) (s : Vec Ideal S512x512 .f32)
    (i : S512x512.Idx) : k0_pay3 (F := Ideal) a b s i = s i + k0_pay1 (F := Ideal) a b i := by
  unfold k0_pay3
  rw [shapeCast_self]
  rfl
theorem last_apply (a : Vec Ideal S2048x512 .bf16) (b : Vec Ideal S2048x512 .bf16) (s : Vec Ideal S512x512 .f32)
    (r : Fin 512) (x : Fin 512) : k0_pay4 (F := Ideal) a b s (ix3 0 r x) = s (ix2 r x) + k0_pay1 (F := Ideal) a b (ix2 r x) := by
  pointwise [k0_pay4]

/-- The running sum after point `n`: the scratch, and at a block's last step the scratch's contents with that
step's product added. -/
def acc (c : Dev nD) (n : ℕ) (h : n < cfg0.N) : Vec Ideal S512x512 .f32 :=
  if n % 4 = 3 then fun i => (outsAt0 m c (n - 1) (Nat.lt_of_le_of_lt (Nat.sub_le _ _) h)).2 i
    + k0_pay1 (F := Ideal) (iblk m c 0 ⟨n, h⟩) (iblk m c 1 ⟨n, h⟩) i
  else (outsAt0 m c n h).2
/-- The first step of a block starts the sum. -/
theorem acc_first (c : Dev nD) (t : Fin cfg0.N) (h : t.val % 4 = 0) :
    acc m c t.val t.isLt = k0_pay1 (F := Ideal) (iblk m c 0 t) (iblk m c 1 t) := by
  rw [acc, if_neg (by omega), outsAt0_A m c t h (by omega) (by omega)]
  frame_out
  exact first_eq _ _
/-- Every later step adds its product. -/
theorem acc_next (c : Dev nD) (t : Fin cfg0.N) (h : ¬t.val % 4 = 0) (i : S512x512.Idx) :
    acc m c t.val t.isLt i = acc m c (t.val - 1) (Nat.lt_of_le_of_lt (Nat.sub_le _ _) t.isLt) i
      + k0_pay1 (F := Ideal) (iblk m c 0 t) (iblk m c 1 t) i := by
  rw [acc, acc, if_neg (show ¬(t.val - 1) % 4 = 3 by omega)]
  by_cases h3 : t.val % 4 = 3
  · rw [if_pos h3]
  · rw [if_neg h3, outsAt0_B m c t h (by omega) h3]
    frame_out
    rw [read_unread_whole]
    exact next_apply _ _ _ _
/-- The sum at a block's last point is the sum of the steps' products. -/
theorem acc_last (c : Dev nD) (t : Fin cfg0.N) (h : t.val % 4 = 3) (i : S512x512.Idx) :
    acc m c t.val t.isLt i = ∑ s : Fin 4, (fun (t : Fin cfg0.N) i => k0_pay1 (F := Ideal) (iblk m c 0 t) (iblk m c 1 t) i)
      ⟨4 * (t.val / 4) + s.val, Pipeline.run_point_lt_of_flush t h s⟩ i := by
  rw [Pipeline.eq_sum_fin_of_reset_step_apply_of_flush (acc m c) 4 (fun _ => 0)
    (fun t i => k0_pay1 (F := Ideal) (iblk m c 0 t) (iblk m c 1 t) i)
    (fun t h i => by rw [acc_first m c t h, zero_add]) (fun t h i => acc_next m c t h i) t h i, zero_add]

/-- The kernel's result at an element: the whole sum. -/
theorem result (c : Dev nD) : (dats m 0 c).arrAt 2 cfg0.N
    = fun i => ∑ k : Fin 8192, (show Vec Ideal S8192x512 .bf16 from m ((c.tc : Thread nD τ).loc main_arg0)) (ix2 k (i 1))
        * (show Vec Ideal S8192x2048 .bf16 from V m c main_v7) (ix2 k ⟨(i 0).val * 512 + (i 2).val, by
            have h0 : (i 0).val < 4 := (i 0).isLt
            have h2 : (i 2).val < 512 := (i 2).isLt
            omega⟩) := by
  refine (dats m 0 c).arrAt_eq_of_covers 2 _ (by decide +kernel) fun t hf y => ?_
  have h3 : t.val % 4 = 3 := (flush0_2 t).mp hf
  blk_simp
  rw [after0_2]
  obtain ⟨r, x, rfl⟩ : ∃ (r : Fin 512) (x : Fin 512), y = ix3 0 r x := ⟨y 1, y 2, by
    rw [show (0 : Fin 1) = y 0 from Subsingleton.elim (α := Fin 1) _ _]; exact eq_ix3 y⟩
  have e : (outsAt0 m c t.val t.isLt).1 (ix3 0 r x) = acc m c t.val t.isLt (ix2 r x) := by
    rw [acc, if_pos h3, outsAt0_C m c t (by omega) (by omega) h3]
    frame_out
    rw [read_unread_whole]
    exact last_apply _ _ _ _ _
  rw [e, acc_last m c t h3]
  simp only [part_apply]
  refine Fin.sum_mul_add_congr fun s k hl => ?_
  have ht : t.val < 16 := lt_of_lt_of_eq t.isLt N_0
  blk_point [iblk, V, idx0 t, idx0 ⟨_, Pipeline.run_point_lt_of_flush t h3 s⟩]

open Cert.UpBWReferenceIdeal.Read in
/-- The gated gradient, computed before the launch, is the reference's. -/
theorem du_apply (c : Dev nD) (r : Fin 8192) (k : Fin 2048) : (show Vec Ideal S8192x2048 .bf16 from V m c main_v7) (ix2 r k)
    = val_main_v19 (F := Ideal) (m ((c.tc : Thread nD τ).loc main_arg2)) (m ((c.tc : Thread nD τ).loc main_arg3)) (ix2 r k) := by
  show V m c main_v7 (ix2 r k) = _
  unfold V
  after_reads_simp
  exact mul_comm (G := EReal) _ _

open Cert.UpBWReferenceIdeal.Read in
/-- The reference's product, transposed. -/
theorem t_apply (x0 : Vec Ideal S8192x512 .bf16) (x2 x3 : Vec Ideal S8192x2048 .f32)
    (r : Fin 512) (x : Fin 2048) : val_main_v21 (F := Ideal) x0 x2 x3 (ix2 r x) = val_main_v20 (F := Ideal) x0 x2 x3 (ix2 x r) := by
  pointwise [val_main_v21]

open Cert.UpBWReferenceIdeal.Read in
/-- The reference's four shards, each placed at its own index and added, are the four column blocks. -/
theorem shards_apply (x0 : Vec Ideal S8192x512 .bf16) (x2 x3 : Vec Ideal S8192x2048 .f32)
    (s : Fin 4) (r : Fin 512) (x : Fin 512) : val_main_v38 (F := Ideal) x0 x2 x3 (ix3 s r x)
      = val_main_v21 (F := Ideal) x0 x2 x3 (ix2 r ⟨s.val * 512 + x.val, by omega⟩) := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_cst_1, val_main_cst_2, val_main_cst_3, val_main_cst_4]
  have e : ∀ k k' : Fin 2048, k.val = k'.val → val_main_v21 (F := Ideal) x0 x2 x3 (ix2 r k) = val_main_v21 (F := Ideal) x0 x2 x3 (ix2 r k') := by
    intro k k' h; rw [Fin.ext h]
  have hs : s.val = 0 ∨ s.val = 1 ∨ s.val = 2 ∨ s.val = 3 := by omega
  rcases hs with h | h | h | h
  · rw [dif_neg (by omega), dif_neg (by omega), dif_neg (by omega), dif_pos (by omega), zero_add, zero_add, zero_add]
    exact e _ _ (show x.val = s.val * 512 + x.val by omega)
  · rw [dif_neg (by omega), dif_neg (by omega), dif_pos (by omega), dif_neg (by omega), zero_add, zero_add, add_zero]
    exact e _ _ (show 512 + x.val = s.val * 512 + x.val by omega)
  · rw [dif_neg (by omega), dif_pos (by omega), dif_neg (by omega), dif_neg (by omega), zero_add, add_zero, add_zero]
    exact e _ _ (show 1024 + x.val = s.val * 512 + x.val by omega)
  · rw [dif_pos (by omega), dif_neg (by omega), dif_neg (by omega), dif_neg (by omega), add_zero, add_zero, add_zero]
    exact e _ _ (show 1536 + x.val = s.val * 512 + x.val by omega)

open Cert.UpBWReferenceIdeal.Read in
/-- The kernel's result is the reference's. -/
theorem result_eq (c : Dev nD) : (dats m 0 c).arrAt 2 cfg0.N = val_main_v38 (F := Ideal) (m ((c.tc : Thread nD τ).loc main_arg0)) (m ((c.tc : Thread nD τ).loc main_arg2)) (m ((c.tc : Thread nD τ).loc main_arg3)) := by
  rw [result]
  funext i
  obtain ⟨s, r, x, rfl⟩ : ∃ (s : Fin 4) (r : Fin 512) (x : Fin 512), i = ix3 s r x := ⟨i 0, i 1, i 2, eq_ix3 i⟩
  refine Eq.trans ?_ (shards_apply _ _ _ s r x).symm
  refine Eq.trans ?_ (t_apply _ _ _ r _).symm
  refine Eq.trans ?_ (val_main_v20_apply _ _ _ _).symm
  refine Finset.sum_congr rfl fun k _ => ?_
  rw [show lidx_main_v20 (ix2 (⟨s.val * 512 + x.val, by omega⟩ : Fin 2048) r) k = ix2 k ⟨s.val * 512 + x.val, by omega⟩ from eq_ix2 _,
    show ridx_main_v20 (ix2 (⟨s.val * 512 + x.val, by omega⟩ : Fin 2048) r) k = ix2 k r from eq_ix2 _]
  exact (congrArg (_ * ·) (du_apply m c k _)).trans (mul_comm _ _)

end Cert.UpBW
-- ==== Proof.RmsFwd.lean ====
module

public import proofs.«01_k».proof.Proof.Gen.RmsFwdKernelIdeal.Value
public import proofs.«01_k».proof.Proof.Gen.RmsFwdReferenceIdeal.Read
public import Idealize.ShloMosaic.Lib.Pipeline.ValueKit
public import Idealize.ShloMosaic.Lib.Claim
public import proofs.«01_k».proof.Proof.RmsMath

/-! The root-mean-square norm: the kernel's rows are the reference's. -/

@[expose] public section
set_option maxRecDepth 16384
noncomputable section
open Idealize.ShloMosaic Idealize.ShloMosaic.TcCoe Idealize.SL.Sem
open Idealize.ShloMosaic.Pipeline (Dat)
namespace Cert.RmsFwd
open Cert.RmsFwdKernelIdeal Cert.RmsFwdKernelIdeal.Gen Cert.RmsMath

variable (m : (ℓ : Loc nD τ sig) → Buf (Elt Ideal) ℓ)

theorem idx0 : ∀ t : Fin cfg0.N, win0_0.index t = ![t.val, 0] ∧ win0_1.index t = ![0, 0] ∧ win0_2.index t = ![t.val, 0] :=
  (by decide +kernel : ∀ t : Fin grid0.N, _)

/-- A block of the normalised rows at an element. -/
theorem norm_apply (x : Vec Ideal S512x2048 .f32) (g : Vec Ideal S1x2048 .f32) (r : Fin 512) (k : Fin 2048) :
    k0_pay1 (F := Ideal) x g (ix2 r k) = x (ix2 r k) * fac n2048 (fun j => x (ix2 r j)) * g (ix2 0 k) := by
  unfold fac ms
  pointwise [k0_pay1]

/-- The arguments at an element. -/
def X (c : Dev nD) (r : Fin 8192) (k : Fin 2048) : EReal := (show Vec Ideal S8192x2048 .f32 from m ((c.tc : Thread nD τ).loc main_arg0)) (ix2 r k)
def GW (c : Dev nD) (k : Fin 2048) : EReal := (show Vec Ideal S1x2048 .f32 from m ((c.tc : Thread nD τ).loc main_arg1)) (ix2 0 k)

/-- The arguments' blocks are their rows. -/
theorem blk0 (c : Dev nD) (t : Fin cfg0.N) (r : Fin 512) (k : Fin 2048) (R : Fin 8192) (h : R.val = t.val * 512 + r.val) :
    (iblk m c 0 t : Vec Ideal S512x2048 .f32) (ix2 r k) = X m c R k := by
  have ht : t.val < 16 := lt_of_lt_of_eq t.isLt N_0
  have hb : t.val * 512 + r.val < 8192 := h ▸ R.isLt
  obtain rfl : R = ⟨t.val * 512 + r.val, hb⟩ := Fin.ext h
  unfold X; blk_point [iblk, V, idx0 t]
theorem blk1 (c : Dev nD) (t : Fin cfg0.N) (k : Fin 2048) :
    (iblk m c 1 t : Vec Ideal S1x2048 .f32) (ix2 0 k) = GW m c k := by
  have ht : t.val < 16 := lt_of_lt_of_eq t.isLt N_0
  unfold GW; blk_point [iblk, V, idx0 t]

/-- The kernel's result at an element. -/
def res (c : Dev nD) (r : Fin 8192) (k : Fin 2048) : EReal := X m c r k * fac n2048 (X m c r) * GW m c k

/-- The kernel's result. -/
theorem result (c : Dev nD) : (dats m 0 c).arrAt 2 cfg0.N = fun i => res m c (i 0) (i 1) := by
  refine (dats m 0 c).arrAt_eq_of_covers 2 _ (by decide +kernel) fun t _ y => ?_
  have ht : t.val < 16 := lt_of_lt_of_eq t.isLt N_0
  blk_simp
  rw [after0_2]
  obtain ⟨r, x, rfl⟩ : ∃ (r : Fin 512) (x : Fin 2048), y = ix2 r x := ⟨y 0, y 1, eq_ix2 y⟩
  frame_out
  refine (norm_apply _ _ r x).trans ?_
  simp only [blk0 m c t r _ ⟨t.val * 512 + r.val, by omega⟩ rfl, blk1 m c t]
  show res m c ⟨t.val * 512 + r.val, _⟩ x = _
  generalize res m c = f
  refine congrArg₂ f (Fin.ext ?_) (Fin.ext ?_) <;> blk_point [idx0 t]

open Cert.RmsFwdReferenceIdeal.Read in
/-- The kernel's result is the reference's. -/
theorem result_eq (c : Dev nD) : (dats m 0 c).arrAt 2 cfg0.N = val_main_v12 (F := Ideal) (m ((c.tc : Thread nD τ).loc main_arg0)) (m ((c.tc : Thread nD τ).loc main_arg1)) := by
  rw [result]
  funext i
  obtain ⟨r, x, rfl⟩ : ∃ (r : Fin 8192) (x : Fin 2048), i = ix2 r x := ⟨i 0, i 1, eq_ix2 i⟩
  unfold res fac ms X GW
  pointwise [val_main_v0, val_main_cst, val_main_v1, val_main_v2, val_main_cst_0, val_main_cst_1, val_main_v3, val_main_v4, val_main_v5, val_main_v6, val_main_v7, val_main_v8, val_main_v9, val_main_v10, val_main_v11, val_main_v12]

end Cert.RmsFwd
-- ==== Proof.RmsBwd.lean ====
module

public import proofs.«01_k».proof.Proof.Gen.RmsBwdKernelIdeal.Value
public import proofs.«01_k».proof.Proof.Gen.RmsBwdReferenceIdeal.Read
public import Idealize.ShloMosaic.Lib.Pipeline.ValueKit
public import Idealize.ShloMosaic.Lib.Pipeline.ReadBack
public import Idealize.ShloMosaic.Lib.Claim
public import proofs.«01_k».proof.Proof.RmsMath

/-! The gradient of a norm and its residual: the kernel's three results are the derivative's. -/

@[expose] public section
set_option maxRecDepth 16384
noncomputable section
open Idealize.ShloMosaic Idealize.ShloMosaic.TcCoe Idealize.SL.Sem
open Idealize.ShloMosaic.Pipeline (Dat)
namespace Cert.RmsBwd
open Cert.RmsBwdKernelIdeal Cert.RmsBwdKernelIdeal.Gen Cert.RmsMath

variable (m : (ℓ : Loc nD τ sig) → Buf (Elt Ideal) ℓ)

theorem idx0 : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![t.val, 0] ∧ win0_6.index t = ![0, 0] :=
  (by decide +kernel : ∀ t : Fin grid0.N, _)

/-- A block of the row's gradient at an element. -/
theorem dx_apply (x dn : Vec Ideal S512x2048 .f32) (g : Vec Ideal S1x2048 .f32) (dres : Vec Ideal S512x2048 .f32)
    (r : Fin 512) (k : Fin 2048) : k0_pay4 (F := Ideal) x dn g dres (ix2 r k)
      = dres (ix2 r k) + kgrad n2048 (fun j => x (ix2 r j)) (fun j => dn (ix2 r j) * g (ix2 0 j)) k := by
  unfold kgrad fac ms
  pointwise [k0_pay4, k0_pay3, k0_pay2]
theorem dxb_eq (x dn : Vec Ideal S512x2048 .f32) (g : Vec Ideal S1x2048 .f32) (dres : Vec Ideal S512x2048 .f32) (i : S512x2048.Idx) :
    k0_pay5 (F := Ideal) x dn g dres i = k0_pay4 (F := Ideal) x dn g dres i := rfl
/-- A block's part of the weight's gradient at an element. -/
theorem dg_apply (x dn : Vec Ideal S512x2048 .f32) (k : Fin 2048) : k0_pay6 (F := Ideal) x dn (ix2 0 k)
      = ∑ r : Fin 512, dn (ix2 r k) * (x (ix2 r k) * fac n2048 (fun j => x (ix2 r j))) := by
  unfold fac ms
  pointwise [k0_pay6, k0_pay3, k0_pay2]
theorem next_eq (a b : Vec Ideal S1x2048 .f32) (i : S1x2048.Idx) : k0_pay1 (F := Ideal) a b i = b i + a i := by
  unfold k0_pay1
  rw [shapeCast_self]
  rfl

/-- The arguments at an element. -/
def DN (c : Dev nD) (r : Fin 8192) (k : Fin 2048) : EReal := (show Vec Ideal S8192x2048 .f32 from m ((c.tc : Thread nD τ).loc main_arg0)) (ix2 r k)
def X (c : Dev nD) (r : Fin 8192) (k : Fin 2048) : EReal := (show Vec Ideal S8192x2048 .f32 from m ((c.tc : Thread nD τ).loc main_arg1)) (ix2 r k)
def GW (c : Dev nD) (k : Fin 2048) : EReal := (show Vec Ideal S1x2048 .f32 from m ((c.tc : Thread nD τ).loc main_arg2)) (ix2 0 k)
def DR (c : Dev nD) (r : Fin 8192) (k : Fin 2048) : EReal := (show Vec Ideal S8192x2048 .f32 from m ((c.tc : Thread nD τ).loc main_arg3)) (ix2 r k)

/-- The arguments' blocks are their rows. -/
theorem blk0 (c : Dev nD) (t : Fin cfg0.N) (r : Fin 512) (k : Fin 2048) (R : Fin 8192) (h : R.val = t.val * 512 + r.val) :
    (iblk m c 0 t : Vec Ideal S512x2048 .f32) (ix2 r k) = DN m c R k := by
  have ht : t.val < 16 := lt_of_lt_of_eq t.isLt N_0
  have hb : t.val * 512 + r.val < 8192 := h ▸ R.isLt
  obtain rfl : R = ⟨t.val * 512 + r.val, hb⟩ := Fin.ext h
  unfold DN; blk_point [iblk, V, idx0 t]
theorem blk1 (c : Dev nD) (t : Fin cfg0.N) (r : Fin 512) (k : Fin 2048) (R : Fin 8192) (h : R.val = t.val * 512 + r.val) :
    (iblk m c 1 t : Vec Ideal S512x2048 .f32) (ix2 r k) = X m c R k := by
  have ht : t.val < 16 := lt_of_lt_of_eq t.isLt N_0
  have hb : t.val * 512 + r.val < 8192 := h ▸ R.isLt
  obtain rfl : R = ⟨t.val * 512 + r.val, hb⟩ := Fin.ext h
  unfold X; blk_point [iblk, V, idx0 t]
theorem blk2 (c : Dev nD) (t : Fin cfg0.N) (k : Fin 2048) :
    (iblk m c 2 t : Vec Ideal S1x2048 .f32) (ix2 0 k) = GW m c k := by
  have ht : t.val < 16 := lt_of_lt_of_eq t.isLt N_0
  unfold GW; blk_point [iblk, V, idx0 t]
theorem blk3 (c : Dev nD) (t : Fin cfg0.N) (r : Fin 512) (k : Fin 2048) (R : Fin 8192) (h : R.val = t.val * 512 + r.val) :
    (iblk m c 3 t : Vec Ideal S512x2048 .f32) (ix2 r k) = DR m c R k := by
  have ht : t.val < 16 := lt_of_lt_of_eq t.isLt N_0
  have hb : t.val * 512 + r.val < 8192 := h ▸ R.isLt
  obtain rfl : R = ⟨t.val * 512 + r.val, hb⟩ := Fin.ext h
  unfold DR; blk_point [iblk, V, idx0 t]

/-- The kernel's gradient by the row, at an element of the array. -/
def res (c : Dev nD) (r : Fin 8192) (k : Fin 2048) : EReal := DR m c r k + kgrad n2048 (X m c r) (fun j => DN m c r j * GW m c j) k

theorem dx_blk (c : Dev nD) (t : Fin cfg0.N) (r : Fin 512) (k : Fin 2048) (R : Fin 8192) (h : R.val = t.val * 512 + r.val) :
    k0_pay4 (F := Ideal) (iblk m c 1 t) (iblk m c 0 t) (iblk m c 2 t) (iblk m c 3 t) (ix2 r k) = res m c R k := by
  refine (dx_apply _ _ _ _ r k).trans ?_
  rw [blk3 m c t r k R h, res]
  simp only [blk0 m c t r _ R h, blk1 m c t r _ R h, blk2 m c t]

theorem outs (c : Dev nD) (t : Fin cfg0.N) :
    (outsAt0 m c t.val t.isLt).1 = k0_pay4 (F := Ideal) (iblk m c 1 t) (iblk m c 0 t) (iblk m c 2 t) (iblk m c 3 t)
    ∧ (outsAt0 m c t.val t.isLt).2.1 = k0_pay5 (F := Ideal) (iblk m c 1 t) (iblk m c 0 t) (iblk m c 2 t) (iblk m c 3 t) := by
  have ht : t.val < 16 := lt_of_lt_of_eq t.isLt N_0
  by_cases h : t.val % 16 = 0
  · rw [outsAt0_A m c t h (by omega)]
    constructor <;> frame_out
  · rw [outsAt0_B m c t h (by omega)]
    constructor <;> frame_out

/-- The kernel's first result. -/
theorem result4 (c : Dev nD) : (dats m 0 c).arrAt 4 cfg0.N = fun i => res m c (i 0) (i 1) := by
  refine (dats m 0 c).arrAt_eq_of_covers 4 _ (by decide +kernel) fun t _ y => ?_
  have ht : t.val < 16 := lt_of_lt_of_eq t.isLt N_0
  blk_simp
  rw [after0_4, (outs m c t).1]
  obtain ⟨r, x, rfl⟩ : ∃ (r : Fin 512) (x : Fin 2048), y = ix2 r x := ⟨y 0, y 1, eq_ix2 y⟩
  refine (dx_blk m c t r x ⟨t.val * 512 + r.val, by omega⟩ rfl).trans ?_
  generalize res m c = f
  refine congrArg₂ f (Fin.ext ?_) (Fin.ext ?_) <;> blk_point [idx0 t]
/-- The kernel's second result. -/
theorem result5 (c : Dev nD) : (dats m 0 c).arrAt 5 cfg0.N = fun i => res m c (i 0) (i 1) := by
  refine (dats m 0 c).arrAt_eq_of_covers 5 _ (by decide +kernel) fun t _ y => ?_
  have ht : t.val < 16 := lt_of_lt_of_eq t.isLt N_0
  blk_simp
  rw [after0_5, (outs m c t).2]
  obtain ⟨r, x, rfl⟩ : ∃ (r : Fin 512) (x : Fin 2048), y = ix2 r x := ⟨y 0, y 1, eq_ix2 y⟩
  refine (dxb_eq _ _ _ _ _).trans ((dx_blk m c t r x ⟨t.val * 512 + r.val, by omega⟩ rfl).trans ?_)
  generalize res m c = f
  refine congrArg₂ f (Fin.ext ?_) (Fin.ext ?_) <;> blk_point [idx0 t]

/-- The kernel's third result: the sum over all rows. -/
theorem result6 (c : Dev nD) : (dats m 0 c).arrAt 6 cfg0.N
    = fun i => ∑ r : Fin 8192, DN m c r (i 1) * (X m c r (i 1) * fac n2048 (X m c r)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun t j => k0_pay6 (F := Ideal) (iblk m c 1 t) (iblk m c 0 t) j)
    (fun t h j => by
      have ht : t.val < 16 := lt_of_lt_of_eq t.isLt N_0
      rw [outsAt0_A m c t h (by omega)]
      frame_out
      rw [zero_add])
    (fun t h j => by
      have ht : t.val < 16 := lt_of_lt_of_eq t.isLt N_0
      rw [outsAt0_B m c t h (by omega)]
      frame_out
      exact next_eq _ _ _)
    (le_of_eq N_0) t0_15 rfl j, zero_add]
  obtain ⟨u, k, rfl⟩ : ∃ (u : Fin 1) (k : Fin 2048), j = ix2 u k := ⟨j 0, j 1, eq_ix2 j⟩
  obtain rfl : u = 0 := Subsingleton.elim _ _
  simp only [dg_apply]
  refine Fin.sum_mul_add_congr fun t r hl => ?_
  rw [blk0 m c t r k ⟨t.val * 512 + r.val, hl⟩ rfl]
  simp only [blk1 m c t r _ ⟨t.val * 512 + r.val, hl⟩ rfl]
  rfl

open Cert.RmsBwdReferenceIdeal.Read in
theorem ref_dx (c : Dev nD) (r : Fin 8192) (k : Fin 2048) : val_main_v34 (F := Ideal) (m ((c.tc : Thread nD τ).loc main_arg0)) (m ((c.tc : Thread nD τ).loc main_arg1))
    (m ((c.tc : Thread nD τ).loc main_arg2)) (m ((c.tc : Thread nD τ).loc main_arg3)) (ix2 r k) = res m c r k := by
  rw [res, grad_eq 2048 (by norm_num) n2048_eq]
  unfold coef fac ms DN X GW DR
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_v26, val_main_cst_5, val_main_v27, val_main_v28, val_main_cst_6, val_main_v29, val_main_v30, val_main_v31, val_main_v32, val_main_v33, val_main_v34, val_main_v35]
  simp only [Fin.sum_univ_one]

open Cert.RmsBwdReferenceIdeal.Read in
/-- The first result is the reference's. -/
theorem result_eq4 (c : Dev nD) : (dats m 0 c).arrAt 4 cfg0.N = val_main_v34 (F := Ideal) (m ((c.tc : Thread nD τ).loc main_arg0)) (m ((c.tc : Thread nD τ).loc main_arg1))
    (m ((c.tc : Thread nD τ).loc main_arg2)) (m ((c.tc : Thread nD τ).loc main_arg3)) := by
  rw [result4]
  funext i
  obtain ⟨r, x, rfl⟩ : ∃ (r : Fin 8192) (x : Fin 2048), i = ix2 r x := ⟨i 0, i 1, eq_ix2 i⟩
  exact (ref_dx m c r x).symm

open Cert.RmsBwdReferenceIdeal.Read in
/-- The second result is the reference's. -/
theorem result_eq5 (c : Dev nD) : (dats m 0 c).arrAt 5 cfg0.N = val_main_v35 (F := Ideal) (m ((c.tc : Thread nD τ).loc main_arg0)) (m ((c.tc : Thread nD τ).loc main_arg1))
    (m ((c.tc : Thread nD τ).loc main_arg2)) (m ((c.tc : Thread nD τ).loc main_arg3)) := by
  rw [result5]
  funext i
  obtain ⟨r, x, rfl⟩ : ∃ (r : Fin 8192) (x : Fin 2048), i = ix2 r x := ⟨i 0, i 1, eq_ix2 i⟩
  exact (ref_dx m c r x).symm

open Cert.RmsBwdReferenceIdeal.Read in
/-- The third result is the reference's. -/
theorem result_eq6 (c : Dev nD) : (dats m 0 c).arrAt 6 cfg0.N = val_main_v17 (F := Ideal) (m ((c.tc : Thread nD τ).loc main_arg0)) (m ((c.tc : Thread nD τ).loc main_arg1)) := by
  rw [result6]
  funext i
  obtain ⟨u, x, rfl⟩ : ∃ (u : Fin 1) (x : Fin 2048), i = ix2 u x := ⟨i 0, i 1, eq_ix2 i⟩
  obtain rfl : u = 0 := Subsingleton.elim _ _
  unfold fac ms DN X
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_cst_4, val_main_v21, val_main_v22, val_main_v23, val_main_v24, val_main_v25, val_main_v26, val_main_cst_5, val_main_v27, val_main_v28, val_main_cst_6, val_main_v29, val_main_v30, val_main_v31, val_main_v32, val_main_v33, val_main_v34, val_main_v35]
  exact Finset.sum_congr rfl fun k _ => mul_comm _ _

end Cert.RmsBwd
-- ==== Proof.Loss.lean ====
module

public import proofs.«01_k».proof.Proof.Gen.LossKernelIdeal.Value
public import proofs.«01_k».proof.Proof.Gen.LossReferenceIdeal.Read
public import Idealize.ShloMosaic.Lib.Pipeline.ValueKit
public import Idealize.ShloMosaic.Lib.Pipeline.ReadBack
public import Idealize.ShloMosaic.Lib.Claim
public import proofs.«01_k».proof.Proof.RmsMath

/-! The final norm, the loss and its gradient: the kernel's four results are the derivative's and the loss itself. -/

@[expose] public section
set_option maxRecDepth 16384
noncomputable section
open Idealize.ShloMosaic Idealize.ShloMosaic.TcCoe Idealize.SL.Sem
open Idealize.ShloMosaic.Pipeline (Dat)
namespace Cert.Loss
open Cert.LossKernelIdeal Cert.LossKernelIdeal.Gen Cert.RmsMath

variable (m : (ℓ : Loc nD τ sig) → Buf (Elt Ideal) ℓ)

theorem idx0 : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![0, 0] ∧ win0_6.index t = ![0, 0] :=
  (by decide +kernel : ∀ t : Fin grid0.N, _)

/-- 1/2048. -/
abbrev cdy : EReal := Ideal.ofBits .f32 0x3A000000#32
/-- 1/4096. -/
abbrev closs : EReal := Ideal.ofBits .f32 0x39800000#32
theorem cdy_eq : cdy = ((1 / 2048 : ℝ) : EReal) := by
  simp [cdy, Ideal.ofBits, Ideal.ieee, -EReal.coe_mul]; norm_num
theorem closs_eq : closs = ((1 / 4096 : ℝ) : EReal) := by
  simp [closs, Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- The derivative of half the mean square is the difference over the number of columns. -/
theorem dy_eq (e : EReal) : e * cdy
    = Ideal.div (Ideal.ofBits .f32 0x3F000000#32 * Ideal.ofBits .f32 0x3F800000#32) n2048 * (Ideal.ofBits .f32 0x40000000#32 * e) := by
  rw [n2048_eq, div_coe _ _ (by norm_num), half_eq, one_eq, two_eq, cdy_eq, ← EReal.coe_mul, ← EReal.coe_mul, ← mul_assoc,
    ← EReal.coe_mul, mul_comm]
  congr 2
  norm_num
/-- The loss: the half goes through the sum over the rows. -/
theorem loss_eq (f : Fin 8192 → EReal) : ∑ r, f r * closs
    = Ideal.ofBits .f32 0x3F000000#32 * ∑ r, Ideal.div (f r) n2048 := by
  rw [half_eq, coe_mul_sum _ _ (by norm_num)]
  refine Finset.sum_congr rfl fun r _ => ?_
  rw [n2048_eq, div_coe _ _ (by norm_num), closs_eq, ← mul_assoc, ← EReal.coe_mul, mul_comm]
  congr 2
  norm_num

/-- The difference from the target, of a row. -/
def err (x g t : Fin 2048 → EReal) (k : Fin 2048) : EReal := x k * fac n2048 x * g k - t k

/-- A block of the gradient by the row at an element. -/
theorem dh_apply (h : Vec Ideal S512x2048 .f32) (g : Vec Ideal S1x2048 .f32) (tg : Vec Ideal S512x2048 .f32)
    (r : Fin 512) (k : Fin 2048) : k0_pay9 (F := Ideal) h g tg g (ix2 r k)
      = kgrad n2048 (fun j => h (ix2 r j)) (fun j => err (fun j => h (ix2 r j)) (fun j => g (ix2 0 j)) (fun j => tg (ix2 r j)) j * cdy * g (ix2 0 j)) k := by
  unfold kgrad err fac ms
  pointwise [k0_pay9, k0_pay8, k0_pay7, k0_pay6, k0_pay5]
theorem dhb_eq (h : Vec Ideal S512x2048 .f32) (g : Vec Ideal S1x2048 .f32) (tg : Vec Ideal S512x2048 .f32) (i : S512x2048.Idx) :
    k0_pay10 (F := Ideal) h g tg g i = k0_pay9 (F := Ideal) h g tg g i := rfl
/-- A block's part of the weight's gradient at an element. -/
theorem dg_apply (h : Vec Ideal S512x2048 .f32) (g : Vec Ideal S1x2048 .f32) (tg : Vec Ideal S512x2048 .f32) (k : Fin 2048) :
    k0_pay11 (F := Ideal) h g tg (ix2 0 k)
      = ∑ r : Fin 512, err (fun j => h (ix2 r j)) (fun j => g (ix2 0 j)) (fun j => tg (ix2 r j)) k * cdy
          * (h (ix2 r k) * fac n2048 (fun j => h (ix2 r j))) := by
  unfold err fac ms
  pointwise [k0_pay11, k0_pay8, k0_pay7, k0_pay6, k0_pay5]
/-- A block's part of the loss, the same in every lane. -/
theorem loss_apply (h : Vec Ideal S512x2048 .f32) (g : Vec Ideal S1x2048 .f32) (tg : Vec Ideal S512x2048 .f32) (k : Fin 128) :
    k0_pay2 (F := Ideal) (k0_pay12 (F := Ideal) h g tg) (ix2 0 k)
      = ∑ r : Fin 512, (∑ j, err (fun j => h (ix2 r j)) (fun j => g (ix2 0 j)) (fun j => tg (ix2 r j)) j
          * err (fun j => h (ix2 r j)) (fun j => g (ix2 0 j)) (fun j => tg (ix2 r j)) j) * closs := by
  unfold err fac ms
  pointwise [k0_pay2, k0_pay1, k0_pay12, k0_pay7, k0_pay6, k0_pay5]
theorem next_eq (a b : Vec Ideal S1x2048 .f32) (i : S1x2048.Idx) : k0_pay3 (F := Ideal) a b i = b i + a i := by
  unfold k0_pay3
  rw [shapeCast_self]
  rfl
theorem nextl_eq (a : Vec Ideal S512x2048 .f32) (b : Vec Ideal S1x128 .f32) (i : S1x128.Idx) :
    k0_pay4 (F := Ideal) a b i = b i + k0_pay2 (F := Ideal) a i := by
  unfold k0_pay4 k0_pay2
  rw [shapeCast_self]
  rfl

/-- The arguments at an element. -/
def X (c : Dev nD) (r : Fin 8192) (k : Fin 2048) : EReal := (show Vec Ideal S8192x2048 .f32 from m ((c.tc : Thread nD τ).loc main_arg0)) (ix2 r k)
def GW (c : Dev nD) (k : Fin 2048) : EReal := (show Vec Ideal S1x2048 .f32 from m ((c.tc : Thread nD τ).loc main_arg1)) (ix2 0 k)
def TG (c : Dev nD) (r : Fin 8192) (k : Fin 2048) : EReal := (show Vec Ideal S8192x2048 .f32 from m ((c.tc : Thread nD τ).loc main_arg2)) (ix2 r k)

/-- The arguments' blocks are their rows. -/
theorem blk0 (c : Dev nD) (t : Fin cfg0.N) (r : Fin 512) (k : Fin 2048) (R : Fin 8192) (h : R.val = t.val * 512 + r.val) :
    (iblk m c 0 t : Vec Ideal S512x2048 .f32) (ix2 r k) = X m c R k := by
  have ht : t.val < 16 := lt_of_lt_of_eq t.isLt N_0
  have hb : t.val * 512 + r.val < 8192 := h ▸ R.isLt
  obtain rfl : R = ⟨t.val * 512 + r.val, hb⟩ := Fin.ext h
  unfold X; blk_point [iblk, V, idx0 t]
theorem blk2 (c : Dev nD) (t : Fin cfg0.N) (r : Fin 512) (k : Fin 2048) (R : Fin 8192) (h : R.val = t.val * 512 + r.val) :
    (iblk m c 2 t : Vec Ideal S512x2048 .f32) (ix2 r k) = TG m c R k := by
  have ht : t.val < 16 := lt_of_lt_of_eq t.isLt N_0
  have hb : t.val * 512 + r.val < 8192 := h ▸ R.isLt
  obtain rfl : R = ⟨t.val * 512 + r.val, hb⟩ := Fin.ext h
  unfold TG; blk_point [iblk, V, idx0 t]
theorem blk1 (c : Dev nD) (t : Fin cfg0.N) (k : Fin 2048) :
    (iblk m c 1 t : Vec Ideal S1x2048 .f32) (ix2 0 k) = GW m c k := by
  have ht : t.val < 16 := lt_of_lt_of_eq t.isLt N_0
  unfold GW; blk_point [iblk, V, idx0 t]

/-- The difference from the target at an element of the array. -/
def ER (c : Dev nD) (r : Fin 8192) (k : Fin 2048) : EReal := err (X m c r) (GW m c) (TG m c r) k
/-- The gradient by the row at an element of the array. -/
def res (c : Dev nD) (r : Fin 8192) (k : Fin 2048) : EReal := kgrad n2048 (X m c r) (fun j => ER m c r j * cdy * GW m c j) k

theorem dh_blk (c : Dev nD) (t : Fin cfg0.N) (r : Fin 512) (k : Fin 2048) (R : Fin 8192) (h : R.val = t.val * 512 + r.val) :
    k0_pay9 (F := Ideal) (iblk m c 0 t) (iblk m c 1 t) (iblk m c 2 t) (iblk m c 1 t) (ix2 r k) = res m c R k := by
  refine (dh_apply _ _ _ r k).trans ?_
  unfold res ER
  simp only [blk0 m c t r _ R h, blk2 m c t r _ R h, blk1 m c t]

theorem outs (c : Dev nD) (t : Fin cfg0.N) :
    (outsAt0 m c t.val t.isLt).1 = k0_pay9 (F := Ideal) (iblk m c 0 t) (iblk m c 1 t) (iblk m c 2 t) (iblk m c 1 t)
    ∧ (outsAt0 m c t.val t.isLt).2.1 = k0_pay10 (F := Ideal) (iblk m c 0 t) (iblk m c 1 t) (iblk m c 2 t) (iblk m c 1 t) := by
  have ht : t.val < 16 := lt_of_lt_of_eq t.isLt N_0
  by_cases h : t.val % 16 = 0
  · rw [outsAt0_A m c t h (by omega)]
    constructor <;> frame_out
  · rw [outsAt0_B m c t h (by omega)]
    constructor <;> frame_out

/-- The kernel's first result. -/
theorem result3 (c : Dev nD) : (dats m 0 c).arrAt 3 cfg0.N = fun i => res m c (i 0) (i 1) := by
  refine (dats m 0 c).arrAt_eq_of_covers 3 _ (by decide +kernel) fun t _ y => ?_
  have ht : t.val < 16 := lt_of_lt_of_eq t.isLt N_0
  blk_simp
  rw [after0_3, (outs m c t).1]
  obtain ⟨r, x, rfl⟩ : ∃ (r : Fin 512) (x : Fin 2048), y = ix2 r x := ⟨y 0, y 1, eq_ix2 y⟩
  refine (dh_blk m c t r x ⟨t.val * 512 + r.val, by omega⟩ rfl).trans ?_
  generalize res m c = f
  refine congrArg₂ f (Fin.ext ?_) (Fin.ext ?_) <;> blk_point [idx0 t]
/-- The kernel's second result. -/
theorem result4 (c : Dev nD) : (dats m 0 c).arrAt 4 cfg0.N = fun i => res m c (i 0) (i 1) := by
  refine (dats m 0 c).arrAt_eq_of_covers 4 _ (by decide +kernel) fun t _ y => ?_
  have ht : t.val < 16 := lt_of_lt_of_eq t.isLt N_0
  blk_simp
  rw [after0_4, (outs m c t).2]
  obtain ⟨r, x, rfl⟩ : ∃ (r : Fin 512) (x : Fin 2048), y = ix2 r x := ⟨y 0, y 1, eq_ix2 y⟩
  refine (dhb_eq _ _ _ _).trans ((dh_blk m c t r x ⟨t.val * 512 + r.val, by omega⟩ rfl).trans ?_)
  generalize res m c = f
  refine congrArg₂ f (Fin.ext ?_) (Fin.ext ?_) <;> blk_point [idx0 t]
/-- The kernel's third result: the sum over all rows. -/
theorem result5 (c : Dev nD) : (dats m 0 c).arrAt 5 cfg0.N
    = fun i => ∑ r : Fin 8192, ER m c r (i 1) * cdy * (X m c r (i 1) * fac n2048 (X m c r)) := by
  refine (dats m 0 c).arrAt_eq_of_after_last 5 t0_15 (by decide +kernel) _ fun j => ?_
  blk_simp
  rw [after0_5, Pipeline.eq_sum_fin_of_reset_step_apply_last (fun n h => (outsAt0 m c n h).2.2.1) 16 (fun _ => 0)
    (fun t j => k0_pay11 (F := Ideal) (iblk m c 0 t) (iblk m c 1 t) (iblk m c 2 t) j)
    (fun t h j => by
      have ht : t.val < 16 := lt_of_lt_of_eq t.isLt N_0
      rw [outsAt0_A m c t h (by omega)]
      frame_out
      rw [zero_add])
    (fun t h j => by
      have ht : t.val < 16 := lt_of_lt_of_eq t.isLt N_0
      rw [outsAt0_B m c t h (by omega)]
      frame_out
      exact next_eq _ _ _)
    (le_of_eq N_0) t0_15 rfl j, zero_add]
  obtain ⟨u, k, rfl⟩ : ∃ (u : Fin 1) (k : Fin 2048), j = ix2 u k := ⟨j 0, j 1, eq_ix2 j⟩
  obtain rfl : u = 0 := Subsingleton.elim _ _
  simp only [dg_apply]
  refine Fin.sum_mul_add_congr fun t r hl => ?_

  simp only [blk0 m c t r _ ⟨t.val * 512 + r.val, hl⟩ rfl, blk2 m c t r _ ⟨t.val * 512 + r.val, hl⟩ rfl, blk1 m c t]
  rfl
/-- The kernel's fourth result: the sum over all rows. -/
theorem result6 (c : Dev nD) : (dats m 0 c).arrAt 6 cfg0.N
    = fun i => ∑ r : Fin 8192, (∑ j, ER m c r j * ER m c r j) * closs := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0)
    (fun t j => k0_pay2 (F := Ideal) (k0_pay12 (F := Ideal) (iblk m c 0 t) (iblk m c 1 t) (iblk m c 2 t)) j)
    (fun t h j => by
      have ht : t.val < 16 := lt_of_lt_of_eq t.isLt N_0
      rw [outsAt0_A m c t h (by omega)]
      frame_out
      rw [zero_add])
    (fun t h j => by
      have ht : t.val < 16 := lt_of_lt_of_eq t.isLt N_0
      rw [outsAt0_B m c t h (by omega)]
      frame_out
      exact nextl_eq _ _ _)
    (le_of_eq N_0) t0_15 rfl j, zero_add]
  obtain ⟨u, k, rfl⟩ : ∃ (u : Fin 1) (k : Fin 128), j = ix2 u k := ⟨j 0, j 1, eq_ix2 j⟩
  obtain rfl : u = 0 := Subsingleton.elim _ _
  simp only [loss_apply]
  refine Fin.sum_mul_add_congr fun t r hl => ?_

  simp only [blk0 m c t r _ ⟨t.val * 512 + r.val, hl⟩ rfl, blk2 m c t r _ ⟨t.val * 512 + r.val, hl⟩ rfl, blk1 m c t]
  rfl

open Cert.LossReferenceIdeal.Read in
theorem ref_dh (c : Dev nD) (r : Fin 8192) (k : Fin 2048) : val_main_v48 (F := Ideal) (m ((c.tc : Thread nD τ).loc main_arg0)) (m ((c.tc : Thread nD τ).loc main_arg1)) (m ((c.tc : Thread nD τ).loc main_arg2)) (ix2 r k) = res m c r k := by
  rw [res, ← zero_add (kgrad _ _ _ _), grad_eq 2048 (by norm_num) n2048_eq, zero_add]
  simp only [dy_eq]
  unfold coef ER err fac ms X GW TG
  pointwise [val_main_v0, val_main_cst, val_main_v1, val_main_v2, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50]
  simp only [Fin.sum_univ_one]

open Cert.LossReferenceIdeal.Read in
/-- The first result is the reference's. -/
theorem result_eq3 (c : Dev nD) : (dats m 0 c).arrAt 3 cfg0.N = val_main_v48 (F := Ideal) (m ((c.tc : Thread nD τ).loc main_arg0)) (m ((c.tc : Thread nD τ).loc main_arg1)) (m ((c.tc : Thread nD τ).loc main_arg2)) := by
  rw [result3]
  funext i
  obtain ⟨r, x, rfl⟩ : ∃ (r : Fin 8192) (x : Fin 2048), i = ix2 r x := ⟨i 0, i 1, eq_ix2 i⟩
  exact (ref_dh m c r x).symm
open Cert.LossReferenceIdeal.Read in
/-- The second result is the reference's. -/
theorem result_eq4 (c : Dev nD) : (dats m 0 c).arrAt 4 cfg0.N = val_main_v49 (F := Ideal) (m ((c.tc : Thread nD τ).loc main_arg0)) (m ((c.tc : Thread nD τ).loc main_arg1)) (m ((c.tc : Thread nD τ).loc main_arg2)) := by
  rw [result4]
  funext i
  obtain ⟨r, x, rfl⟩ : ∃ (r : Fin 8192) (x : Fin 2048), i = ix2 r x := ⟨i 0, i 1, eq_ix2 i⟩
  exact (ref_dh m c r x).symm
open Cert.LossReferenceIdeal.Read in
/-- The third result is the reference's. -/
theorem result_eq5 (c : Dev nD) : (dats m 0 c).arrAt 5 cfg0.N = val_main_v32 (F := Ideal) (m ((c.tc : Thread nD τ).loc main_arg0)) (m ((c.tc : Thread nD τ).loc main_arg1)) (m ((c.tc : Thread nD τ).loc main_arg2)) := by
  rw [result5]
  funext i
  obtain ⟨u, x, rfl⟩ : ∃ (u : Fin 1) (x : Fin 2048), i = ix2 u x := ⟨i 0, i 1, eq_ix2 i⟩
  obtain rfl : u = 0 := Subsingleton.elim _ _
  show _ = _
  beta_reduce
  simp only [dy_eq]
  unfold ER err fac ms X GW TG
  pointwise [val_main_v0, val_main_cst, val_main_v1, val_main_v2, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50]
  exact Finset.sum_congr rfl fun k _ => mul_comm _ _
open Cert.LossReferenceIdeal.Read in
/-- The fourth result is the reference's. -/
theorem result_eq6 (c : Dev nD) : (dats m 0 c).arrAt 6 cfg0.N = val_main_v50 (F := Ideal) (m ((c.tc : Thread nD τ).loc main_arg0)) (m ((c.tc : Thread nD τ).loc main_arg1)) (m ((c.tc : Thread nD τ).loc main_arg2)) := by
  rw [result6]
  funext i
  obtain ⟨u, x, rfl⟩ : ∃ (u : Fin 1) (x : Fin 128), i = ix2 u x := ⟨i 0, i 1, eq_ix2 i⟩
  obtain rfl : u = 0 := Subsingleton.elim _ _
  show _ = _
  beta_reduce
  rw [loss_eq]
  unfold ER err fac ms X GW TG
  pointwise [val_main_v0, val_main_cst, val_main_v1, val_main_v2, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50]

end Cert.Loss
-- ==== Proof.Adamw.lean ====
module

public import Idealize.ShloMosaic.Lib.Claim
public import Idealize.ShloMosaic.Lib.Pipeline.ValueKit

/-! One AdamW step of one element. The literals are the words that both the kernel and the reference hold. -/

@[expose] public section
noncomputable section
open Idealize.ShloMosaic
namespace Cert.Adamw

/-- The running mean of the gradient. -/
def mean (g m : EReal) : EReal := Ideal.ofBits .f32 0x3F666666#32 * m + Ideal.ofBits .f32 0x3DCCCCCD#32 * g
/-- The running mean of the gradient's square. -/
def square (g v : EReal) : EReal := Ideal.ofBits .f32 0x3F7FBE77#32 * v + Ideal.ofBits .f32 0x3A83126F#32 * (g * g)
/-- The step of the weight. -/
def delta (w g m v : EReal) : EReal := Ideal.ofBits .f32 0xBA83126F#32
  * (Ideal.div (Ideal.div (mean g m) (Ideal.ofBits .f32 0x3F26BD02#32))
      (Ideal.sqrt (Ideal.div (square g v) (Ideal.ofBits .f32 0x3C231ACC#32)) + Ideal.ofBits .f32 0x322BCC77#32)
    + Ideal.ofBits .f32 0x3C23D70A#32 * w)

end Cert.Adamw
-- ==== Proof.AdwVec.lean ====
module

public import proofs.«01_k».proof.Proof.Gen.AdwVecKernelIdeal.Value
public import proofs.«01_k».proof.Proof.Gen.AdwVecReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of a norm's weight: the kernel's four results are the reference's. -/

@[expose] public section
set_option maxRecDepth 16384
noncomputable section
open Idealize.ShloMosaic Idealize.ShloMosaic.TcCoe Idealize.SL.Sem
open Idealize.ShloMosaic.Pipeline (Dat)
namespace Cert.AdwVec
open Cert.AdwVecKernelIdeal Cert.AdwVecKernelIdeal.Gen

variable (m : (ℓ : Loc nD τ sig) → Buf (Elt Ideal) ℓ)

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The block of the step at an element. -/
theorem pay5_apply (w : Vec Ideal S1x2048 .f32) (g : Vec Ideal S1x2048 .f32) (mo : Vec Ideal S1x2048 .f32) (v : Vec Ideal S1x2048 .f32) (r : Fin 1) (x : Fin 2048) :
    k0_pay3 g mo v w (ix2 r x) = Adamw.delta (w (ix2 r x)) (g (ix2 r x)) (mo (ix2 r x)) (v (ix2 r x)) := by
  pointwise [k0_pay1, k0_pay2, k0_pay3, Adamw.delta, Adamw.mean, Adamw.square]

/-- The block of the mean at an element. -/
theorem pay6_apply (g : Vec Ideal S1x2048 .f32) (mo : Vec Ideal S1x2048 .f32) (r : Fin 1) (x : Fin 2048) :
    k0_pay1 g mo (ix2 r x) = Adamw.mean (g (ix2 r x)) (mo (ix2 r x)) := by
  pointwise [k0_pay1, k0_pay2, k0_pay3, Adamw.mean]

/-- The block of the mean square at an element. -/
theorem pay7_apply (g : Vec Ideal S1x2048 .f32) (v : Vec Ideal S1x2048 .f32) (r : Fin 1) (x : Fin 2048) :
    k0_pay2 g v (ix2 r x) = Adamw.square (g (ix2 r x)) (v (ix2 r x)) := by
  pointwise [k0_pay1, k0_pay2, k0_pay3, Adamw.square]

/-- What the result of the gradient holds. -/
theorem result4 (c : Dev nD) : (dats m 0 c).arrAt 4 cfg0.N
    = fun i => ((show Vec Ideal S1x2048 .f32 from m ((c.tc : Thread nD τ).loc main_arg1)) (ix2 (i 0) (i 1))) := by
  refine (dats m 0 c).arrAt_eq_of_covers 4 _ (by decide +kernel) fun t _ y => ?_
  have ht : t.val < 1 := lt_of_lt_of_eq t.isLt N_0
  blk_simp
  rw [after0_4]
  frame_out
  obtain ⟨r, x, rfl⟩ : ∃ (r : Fin 1) (x : Fin 2048), y = ix2 r x := ⟨y 0, y 1, eq_ix2 y⟩
  blk_point [iblk, V, idx0 t]

open Cert.AdwVecReferenceIdeal.Read in
/-- The result of the gradient is the reference's. -/
theorem result_eq4 (c : Dev nD) : (dats m 0 c).arrAt 4 cfg0.N = m ((c.tc : Thread nD τ).loc main_arg1) := by
  rw [result4]
  funext i
  obtain ⟨u, r, x, rfl⟩ : ∃ (u : Fin 1) (r : Fin 1) (x : Fin 2048), i = ix2 r x := ⟨0, i 0, i 1, eq_ix2 i⟩
  obtain rfl : u = 0 := Subsingleton.elim _ _
  rfl

/-- What the result of the step holds. -/
theorem result5 (c : Dev nD) : (dats m 0 c).arrAt 5 cfg0.N
    = fun i => Adamw.delta ((show Vec Ideal S1x2048 .f32 from m ((c.tc : Thread nD τ).loc main_arg0)) (ix2 (i 0) (i 1))) ((show Vec Ideal S1x2048 .f32 from m ((c.tc : Thread nD τ).loc main_arg1)) (ix2 (i 0) (i 1))) ((show Vec Ideal S1x2048 .f32 from m ((c.tc : Thread nD τ).loc main_arg2)) (ix2 (i 0) (i 1))) ((show Vec Ideal S1x2048 .f32 from m ((c.tc : Thread nD τ).loc main_arg3)) (ix2 (i 0) (i 1))) := by
  refine (dats m 0 c).arrAt_eq_of_covers 5 _ (by decide +kernel) fun t _ y => ?_
  have ht : t.val < 1 := lt_of_lt_of_eq t.isLt N_0
  blk_simp
  rw [after0_5]
  frame_out
  obtain ⟨r, x, rfl⟩ : ∃ (r : Fin 1) (x : Fin 2048), y = ix2 r x := ⟨y 0, y 1, eq_ix2 y⟩
  refine (pay5_apply _ _ _ _ r x).trans ?_
  congr 1
  all_goals blk_point [iblk, V, idx0 t]

open Cert.AdwVecReferenceIdeal.Read in
/-- The result of the step is the reference's. -/
theorem result_eq5 (c : Dev nD) : (dats m 0 c).arrAt 5 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 1) (x : Fin 2048), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean holds. -/
theorem result6 (c : Dev nD) : (dats m 0 c).arrAt 6 cfg0.N
    = fun i => Adamw.mean ((show Vec Ideal S1x2048 .f32 from m ((c.tc : Thread nD τ).loc main_arg1)) (ix2 (i 0) (i 1))) ((show Vec Ideal S1x2048 .f32 from m ((c.tc : Thread nD τ).loc main_arg2)) (ix2 (i 0) (i 1))) := by
  refine (dats m 0 c).arrAt_eq_of_covers 6 _ (by decide +kernel) fun t _ y => ?_
  have ht : t.val < 1 := lt_of_lt_of_eq t.isLt N_0
  blk_simp
  rw [after0_6]
  frame_out
  obtain ⟨r, x, rfl⟩ : ∃ (r : Fin 1) (x : Fin 2048), y = ix2 r x := ⟨y 0, y 1, eq_ix2 y⟩
  refine (pay6_apply _ _ r x).trans ?_
  congr 1
  all_goals blk_point [iblk, V, idx0 t]

open Cert.AdwVecReferenceIdeal.Read in
/-- The result of the mean is the reference's. -/
theorem result_eq6 (c : Dev nD) : (dats m 0 c).arrAt 6 cfg0.N = val_main_v4 (F := Ideal) (m ((c.tc : Thread nD τ).loc main_arg1)) (m ((c.tc : Thread nD τ).loc main_arg2)) := by
  rw [result6]
  funext i
  obtain ⟨u, r, x, rfl⟩ : ∃ (u : Fin 1) (r : Fin 1) (x : Fin 2048), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean square holds. -/
theorem result7 (c : Dev nD) : (dats m 0 c).arrAt 7 cfg0.N
    = fun i => Adamw.square ((show Vec Ideal S1x2048 .f32 from m ((c.tc : Thread nD τ).loc main_arg1)) (ix2 (i 0) (i 1))) ((show Vec Ideal S1x2048 .f32 from m ((c.tc : Thread nD τ).loc main_arg3)) (ix2 (i 0) (i 1))) := by
  refine (dats m 0 c).arrAt_eq_of_covers 7 _ (by decide +kernel) fun t _ y => ?_
  have ht : t.val < 1 := lt_of_lt_of_eq t.isLt N_0
  blk_simp
  rw [after0_7]
  frame_out
  obtain ⟨r, x, rfl⟩ : ∃ (r : Fin 1) (x : Fin 2048), y = ix2 r x := ⟨y 0, y 1, eq_ix2 y⟩
  refine (pay7_apply _ _ r x).trans ?_
  congr 1
  all_goals blk_point [iblk, V, idx0 t]

open Cert.AdwVecReferenceIdeal.Read in
/-- The result of the mean square is the reference's. -/
theorem result_eq7 (c : Dev nD) : (dats m 0 c).arrAt 7 cfg0.N = val_main_v10 (F := Ideal) (m ((c.tc : Thread nD τ).loc main_arg1)) (m ((c.tc : Thread nD τ).loc main_arg3)) := by
  rw [result7]
  funext i
  obtain ⟨u, r, x, rfl⟩ : ∃ (u : Fin 1) (r : Fin 1) (x : Fin 2048), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

end Cert.AdwVec
-- ==== Proof.AdwIn.lean ====
module

public import proofs.«01_k».proof.Proof.Gen.AdwInKernelIdeal.Value
public import proofs.«01_k».proof.Proof.Gen.AdwInReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the in-projection's weight, turned: the kernel's four results are the reference's. -/

@[expose] public section
set_option maxRecDepth 16384
noncomputable section
open Idealize.ShloMosaic Idealize.ShloMosaic.TcCoe Idealize.SL.Sem
open Idealize.ShloMosaic.Pipeline (Dat)
namespace Cert.AdwIn
open Cert.AdwInKernelIdeal Cert.AdwInKernelIdeal.Gen

variable (m : (ℓ : Loc nD τ sig) → Buf (Elt Ideal) ℓ)

theorem idx0 : ∀ t : Fin cfg0.N, win0_0.index t = ![0, 0, t.val] ∧ win0_1.index t = ![0, t.val] ∧ win0_2.index t = ![0, 0, t.val] ∧ win0_3.index t = ![0, 0, t.val] ∧ win0_4.index t = ![0, 0, t.val] ∧ win0_5.index t = ![0, 0, t.val] ∧ win0_6.index t = ![0, 0, t.val] ∧ win0_7.index t = ![0, 0, t.val] :=
  (by decide +kernel : ∀ t : Fin grid0.N, _)

/-- The block of the gradient at an element. -/
theorem pay4_apply (g : Vec Ideal S2498x256 .f32) (r : Fin 2498) (x : Fin 256) :
    k0_pay5 g (ix3 0 r x) = (g (ix2 r x)) := by
  pointwise [k0_pay1, k0_pay2, k0_pay3, k0_pay4, k0_pay5, k0_pay6, k0_pay7, k0_pay8]

/-- The block of the step at an element. -/
theorem pay5_apply (w : Vec Ideal S1x2498x256 .f32) (g : Vec Ideal S2498x256 .f32) (mo : Vec Ideal S1x2498x256 .f32) (v : Vec Ideal S1x2498x256 .f32) (r : Fin 2498) (x : Fin 256) :
    k0_pay1 (k0_pay8 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, k0_pay8, Adamw.delta, Adamw.mean, Adamw.square]

/-- The block of the mean at an element. -/
theorem pay6_apply (g : Vec Ideal S2498x256 .f32) (mo : Vec Ideal S1x2498x256 .f32) (r : Fin 2498) (x : Fin 256) :
    k0_pay2 (k0_pay6 g mo) (ix3 0 r x) = Adamw.mean (g (ix2 r x)) (mo (ix3 0 r x)) := by
  pointwise [k0_pay1, k0_pay2, k0_pay3, k0_pay4, k0_pay5, k0_pay6, k0_pay7, k0_pay8, Adamw.mean]

/-- The block of the mean square at an element. -/
theorem pay7_apply (g : Vec Ideal S2498x256 .f32) (v : Vec Ideal S1x2498x256 .f32) (r : Fin 2498) (x : Fin 256) :
    k0_pay3 (k0_pay7 g v) (ix3 0 r x) = Adamw.square (g (ix2 r x)) (v (ix3 0 r x)) := by
  pointwise [k0_pay1, k0_pay2, k0_pay3, k0_pay4, k0_pay5, k0_pay6, k0_pay7, k0_pay8, Adamw.square]

/-- What the result of the gradient holds. -/
theorem result4 (c : Dev nD) : (dats m 0 c).arrAt 4 cfg0.N
    = fun i => ((show Vec Ideal S2048x2498 .f32 from m ((c.tc : Thread nD τ).loc main_arg1)) (ix2 (i 2) (i 1))) := by
  refine (dats m 0 c).arrAt_eq_of_covers 4 _ (by decide +kernel) fun t _ y => ?_
  have ht : t.val < 8 := lt_of_lt_of_eq t.isLt N_0
  blk_simp
  rw [after0_4]
  frame_out
  obtain ⟨r, x, rfl⟩ : ∃ (r : Fin 2498) (x : Fin 256), y = ix3 0 r x := ⟨y 1, y 2, by rw [eq_ix3 y]; exact congrArg (fun a => ix3 a _ _) (Subsingleton.elim _ _)⟩
  refine (pay4_apply _ r x).trans ?_
  blk_point [iblk, V, idx0 t]

open Cert.AdwInReferenceIdeal.Read in
/-- The result of the gradient is the reference's. -/
theorem result_eq4 (c : Dev nD) : (dats m 0 c).arrAt 4 cfg0.N = val_main_v25 (F := Ideal) (m ((c.tc : Thread nD τ).loc main_arg1)) := by
  rw [result4]
  funext i
  obtain ⟨u, r, x, rfl⟩ : ∃ (u : Fin 1) (r : Fin 2498) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, val_main_v25, val_main_v26, val_main_v27, val_main_v28, Adamw.delta, Adamw.mean, Adamw.square]

/-- What the result of the step holds. -/
theorem result5 (c : Dev nD) : (dats m 0 c).arrAt 5 cfg0.N
    = fun i => Adamw.delta ((show Vec Ideal S1x2048x2498 .f32 from m ((c.tc : Thread nD τ).loc main_arg0)) (ix3 0 (i 2) (i 1))) ((show Vec Ideal S2048x2498 .f32 from m ((c.tc : Thread nD τ).loc main_arg1)) (ix2 (i 2) (i 1))) ((show Vec Ideal S1x2048x2498 .f32 from m ((c.tc : Thread nD τ).loc main_arg2)) (ix3 0 (i 2) (i 1))) ((show Vec Ideal S1x2048x2498 .f32 from m ((c.tc : Thread nD τ).loc main_arg3)) (ix3 0 (i 2) (i 1))) := by
  refine (dats m 0 c).arrAt_eq_of_covers 5 _ (by decide +kernel) fun t _ y => ?_
  have ht : t.val < 8 := lt_of_lt_of_eq t.isLt N_0
  blk_simp
  rw [after0_5]
  frame_out
  obtain ⟨r, x, rfl⟩ : ∃ (r : Fin 2498) (x : Fin 256), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwInReferenceIdeal.Read in
/-- The result of the step is the reference's. -/
theorem result_eq5 (c : Dev nD) : (dats m 0 c).arrAt 5 cfg0.N = val_main_v26 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 2498) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, val_main_v25, val_main_v26, val_main_v27, val_main_v28, Adamw.delta, Adamw.mean, Adamw.square]

/-- What the result of the mean holds. -/
theorem result6 (c : Dev nD) : (dats m 0 c).arrAt 6 cfg0.N
    = fun i => Adamw.mean ((show Vec Ideal S2048x2498 .f32 from m ((c.tc : Thread nD τ).loc main_arg1)) (ix2 (i 2) (i 1))) ((show Vec Ideal S1x2048x2498 .f32 from m ((c.tc : Thread nD τ).loc main_arg2)) (ix3 0 (i 2) (i 1))) := by
  refine (dats m 0 c).arrAt_eq_of_covers 6 _ (by decide +kernel) fun t _ y => ?_
  have ht : t.val < 8 := lt_of_lt_of_eq t.isLt N_0
  blk_simp
  rw [after0_6]
  frame_out
  obtain ⟨r, x, rfl⟩ : ∃ (r : Fin 2498) (x : Fin 256), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwInReferenceIdeal.Read in
/-- The result of the mean is the reference's. -/
theorem result_eq6 (c : Dev nD) : (dats m 0 c).arrAt 6 cfg0.N = val_main_v27 (F := Ideal) (m ((c.tc : Thread nD τ).loc main_arg1)) (m ((c.tc : Thread nD τ).loc main_arg2)) := by
  rw [result6]
  funext i
  obtain ⟨u, r, x, rfl⟩ : ∃ (u : Fin 1) (r : Fin 2498) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, val_main_v25, val_main_v26, val_main_v27, val_main_v28, Adamw.delta, Adamw.mean, Adamw.square]

/-- What the result of the mean square holds. -/
theorem result7 (c : Dev nD) : (dats m 0 c).arrAt 7 cfg0.N
    = fun i => Adamw.square ((show Vec Ideal S2048x2498 .f32 from m ((c.tc : Thread nD τ).loc main_arg1)) (ix2 (i 2) (i 1))) ((show Vec Ideal S1x2048x2498 .f32 from m ((c.tc : Thread nD τ).loc main_arg3)) (ix3 0 (i 2) (i 1))) := by
  refine (dats m 0 c).arrAt_eq_of_covers 7 _ (by decide +kernel) fun t _ y => ?_
  have ht : t.val < 8 := lt_of_lt_of_eq t.isLt N_0
  blk_simp
  rw [after0_7]
  frame_out
  obtain ⟨r, x, rfl⟩ : ∃ (r : Fin 2498) (x : Fin 256), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwInReferenceIdeal.Read in
/-- The result of the mean square is the reference's. -/
theorem result_eq7 (c : Dev nD) : (dats m 0 c).arrAt 7 cfg0.N = val_main_v28 (F := Ideal) (m ((c.tc : Thread nD τ).loc main_arg1)) (m ((c.tc : Thread nD τ).loc main_arg3)) := by
  rw [result7]
  funext i
  obtain ⟨u, r, x, rfl⟩ : ∃ (u : Fin 1) (r : Fin 2498) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, val_main_v25, val_main_v26, val_main_v27, val_main_v28, Adamw.delta, Adamw.mean, Adamw.square]

end Cert.AdwIn
-- ==== Proof.AdwSinks.lean ====
module

public import proofs.«01_k».proof.Proof.Gen.AdwSinksKernelIdeal.Value
public import proofs.«01_k».proof.Proof.Gen.AdwSinksReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the sinks: the kernel's four results are the reference's. -/

@[expose] public section
set_option maxRecDepth 16384
noncomputable section
open Idealize.ShloMosaic Idealize.ShloMosaic.TcCoe Idealize.SL.Sem
open Idealize.ShloMosaic.Pipeline (Dat)
namespace Cert.AdwSinks
open Cert.AdwSinksKernelIdeal Cert.AdwSinksKernelIdeal.Gen

variable (m : (ℓ : Loc nD τ sig) → Buf (Elt Ideal) ℓ)

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The block of the step at an element. -/
theorem pay5_apply (w : Vec Ideal S1x16 .f32) (g : Vec Ideal S1x16 .f32) (mo : Vec Ideal S1x16 .f32) (v : Vec Ideal S1x16 .f32) (r : Fin 1) (x : Fin 16) :
    k0_pay3 g mo v w (ix2 r x) = Adamw.delta (w (ix2 r x)) (g (ix2 r x)) (mo (ix2 r x)) (v (ix2 r x)) := by
  pointwise [k0_pay1, k0_pay2, k0_pay3, Adamw.delta, Adamw.mean, Adamw.square]

/-- The block of the mean at an element. -/
theorem pay6_apply (g : Vec Ideal S1x16 .f32) (mo : Vec Ideal S1x16 .f32) (r : Fin 1) (x : Fin 16) :
    k0_pay1 g mo (ix2 r x) = Adamw.mean (g (ix2 r x)) (mo (ix2 r x)) := by
  pointwise [k0_pay1, k0_pay2, k0_pay3, Adamw.mean]

/-- The block of the mean square at an element. -/
theorem pay7_apply (g : Vec Ideal S1x16 .f32) (v : Vec Ideal S1x16 .f32) (r : Fin 1) (x : Fin 16) :
    k0_pay2 g v (ix2 r x) = Adamw.square (g (ix2 r x)) (v (ix2 r x)) := by
  pointwise [k0_pay1, k0_pay2, k0_pay3, Adamw.square]

/-- What the result of the gradient holds. -/
theorem result4 (c : Dev nD) : (dats m 0 c).arrAt 4 cfg0.N
    = fun i => ((show Vec Ideal S1x16 .f32 from m ((c.tc : Thread nD τ).loc main_arg1)) (ix2 (i 0) (i 1))) := by
  refine (dats m 0 c).arrAt_eq_of_covers 4 _ (by decide +kernel) fun t _ y => ?_
  have ht : t.val < 1 := lt_of_lt_of_eq t.isLt N_0
  blk_simp
  rw [after0_4]
  frame_out
  obtain ⟨r, x, rfl⟩ : ∃ (r : Fin 1) (x : Fin 16), y = ix2 r x := ⟨y 0, y 1, eq_ix2 y⟩
  blk_point [iblk, V, idx0 t]

open Cert.AdwSinksReferenceIdeal.Read in
/-- The result of the gradient is the reference's. -/
theorem result_eq4 (c : Dev nD) : (dats m 0 c).arrAt 4 cfg0.N = m ((c.tc : Thread nD τ).loc main_arg1) := by
  rw [result4]
  funext i
  obtain ⟨u, r, x, rfl⟩ : ∃ (u : Fin 1) (r : Fin 1) (x : Fin 16), i = ix2 r x := ⟨0, i 0, i 1, eq_ix2 i⟩
  obtain rfl : u = 0 := Subsingleton.elim _ _
  rfl

/-- What the result of the step holds. -/
theorem result5 (c : Dev nD) : (dats m 0 c).arrAt 5 cfg0.N
    = fun i => Adamw.delta ((show Vec Ideal S1x16 .f32 from m ((c.tc : Thread nD τ).loc main_arg0)) (ix2 (i 0) (i 1))) ((show Vec Ideal S1x16 .f32 from m ((c.tc : Thread nD τ).loc main_arg1)) (ix2 (i 0) (i 1))) ((show Vec Ideal S1x16 .f32 from m ((c.tc : Thread nD τ).loc main_arg2)) (ix2 (i 0) (i 1))) ((show Vec Ideal S1x16 .f32 from m ((c.tc : Thread nD τ).loc main_arg3)) (ix2 (i 0) (i 1))) := by
  refine (dats m 0 c).arrAt_eq_of_covers 5 _ (by decide +kernel) fun t _ y => ?_
  have ht : t.val < 1 := lt_of_lt_of_eq t.isLt N_0
  blk_simp
  rw [after0_5]
  frame_out
  obtain ⟨r, x, rfl⟩ : ∃ (r : Fin 1) (x : Fin 16), y = ix2 r x := ⟨y 0, y 1, eq_ix2 y⟩
  refine (pay5_apply _ _ _ _ r x).trans ?_
  congr 1
  all_goals blk_point [iblk, V, idx0 t]

open Cert.AdwSinksReferenceIdeal.Read in
/-- The result of the step is the reference's. -/
theorem result_eq5 (c : Dev nD) : (dats m 0 c).arrAt 5 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 1) (x : Fin 16), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean holds. -/
theorem result6 (c : Dev nD) : (dats m 0 c).arrAt 6 cfg0.N
    = fun i => Adamw.mean ((show Vec Ideal S1x16 .f32 from m ((c.tc : Thread nD τ).loc main_arg1)) (ix2 (i 0) (i 1))) ((show Vec Ideal S1x16 .f32 from m ((c.tc : Thread nD τ).loc main_arg2)) (ix2 (i 0) (i 1))) := by
  refine (dats m 0 c).arrAt_eq_of_covers 6 _ (by decide +kernel) fun t _ y => ?_
  have ht : t.val < 1 := lt_of_lt_of_eq t.isLt N_0
  blk_simp
  rw [after0_6]
  frame_out
  obtain ⟨r, x, rfl⟩ : ∃ (r : Fin 1) (x : Fin 16), y = ix2 r x := ⟨y 0, y 1, eq_ix2 y⟩
  refine (pay6_apply _ _ r x).trans ?_
  congr 1
  all_goals blk_point [iblk, V, idx0 t]

open Cert.AdwSinksReferenceIdeal.Read in
/-- The result of the mean is the reference's. -/
theorem result_eq6 (c : Dev nD) : (dats m 0 c).arrAt 6 cfg0.N = val_main_v4 (F := Ideal) (m ((c.tc : Thread nD τ).loc main_arg1)) (m ((c.tc : Thread nD τ).loc main_arg2)) := by
  rw [result6]
  funext i
  obtain ⟨u, r, x, rfl⟩ : ∃ (u : Fin 1) (r : Fin 1) (x : Fin 16), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean square holds. -/
theorem result7 (c : Dev nD) : (dats m 0 c).arrAt 7 cfg0.N
    = fun i => Adamw.square ((show Vec Ideal S1x16 .f32 from m ((c.tc : Thread nD τ).loc main_arg1)) (ix2 (i 0) (i 1))) ((show Vec Ideal S1x16 .f32 from m ((c.tc : Thread nD τ).loc main_arg3)) (ix2 (i 0) (i 1))) := by
  refine (dats m 0 c).arrAt_eq_of_covers 7 _ (by decide +kernel) fun t _ y => ?_
  have ht : t.val < 1 := lt_of_lt_of_eq t.isLt N_0
  blk_simp
  rw [after0_7]
  frame_out
  obtain ⟨r, x, rfl⟩ : ∃ (r : Fin 1) (x : Fin 16), y = ix2 r x := ⟨y 0, y 1, eq_ix2 y⟩
  refine (pay7_apply _ _ r x).trans ?_
  congr 1
  all_goals blk_point [iblk, V, idx0 t]

open Cert.AdwSinksReferenceIdeal.Read in
/-- The result of the mean square is the reference's. -/
theorem result_eq7 (c : Dev nD) : (dats m 0 c).arrAt 7 cfg0.N = val_main_v10 (F := Ideal) (m ((c.tc : Thread nD τ).loc main_arg1)) (m ((c.tc : Thread nD τ).loc main_arg3)) := by
  rw [result7]
  funext i
  obtain ⟨u, r, x, rfl⟩ : ∃ (u : Fin 1) (r : Fin 1) (x : Fin 16), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

end Cert.AdwSinks
-- ==== Proof.AdwConv.lean ====
module

public import proofs.«01_k».proof.Proof.Gen.AdwConvKernelIdeal.Value
public import proofs.«01_k».proof.Proof.Gen.AdwConvReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the convolution's taps: the kernel's four results are the reference's. -/

@[expose] public section
set_option maxRecDepth 16384
noncomputable section
open Idealize.ShloMosaic Idealize.ShloMosaic.TcCoe Idealize.SL.Sem
open Idealize.ShloMosaic.Pipeline (Dat)
namespace Cert.AdwConv
open Cert.AdwConvKernelIdeal Cert.AdwConvKernelIdeal.Gen

variable (m : (ℓ : Loc nD τ sig) → Buf (Elt Ideal) ℓ)

theorem idx0 : ∀ t : Fin cfg0.N, win0_0.index t = ![0, 0, 0] ∧ win0_1.index t = ![0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, _)

/-- The block of the gradient at an element. -/
theorem pay4_apply (g : Vec Ideal S4x384 .f32) (r : Fin 4) (x : Fin 384) :
    k0_pay4 g (ix3 0 r x) = (g (ix2 r x)) := by
  pointwise [k0_pay1, k0_pay2, k0_pay3, k0_pay4, k0_pay5, k0_pay6, k0_pay7]

/-- The block of the step at an element. -/
theorem pay5_apply (w : Vec Ideal S1x4x384 .f32) (g : Vec Ideal S4x384 .f32) (mo : Vec Ideal S1x4x384 .f32) (v : Vec Ideal S1x4x384 .f32) (r : Fin 4) (x : Fin 384) :
    k0_pay1 (k0_pay7 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, Adamw.delta, Adamw.mean, Adamw.square]

/-- The block of the mean at an element. -/
theorem pay6_apply (g : Vec Ideal S4x384 .f32) (mo : Vec Ideal S1x4x384 .f32) (r : Fin 4) (x : Fin 384) :
    k0_pay2 (k0_pay5 g mo) (ix3 0 r x) = Adamw.mean (g (ix2 r x)) (mo (ix3 0 r x)) := by
  pointwise [k0_pay1, k0_pay2, k0_pay3, k0_pay4, k0_pay5, k0_pay6, k0_pay7, Adamw.mean]

/-- The block of the mean square at an element. -/
theorem pay7_apply (g : Vec Ideal S4x384 .f32) (v : Vec Ideal S1x4x384 .f32) (r : Fin 4) (x : Fin 384) :
    k0_pay3 (k0_pay6 g v) (ix3 0 r x) = Adamw.square (g (ix2 r x)) (v (ix3 0 r x)) := by
  pointwise [k0_pay1, k0_pay2, k0_pay3, k0_pay4, k0_pay5, k0_pay6, k0_pay7, Adamw.square]

/-- What the result of the gradient holds. -/
theorem result4 (c : Dev nD) : (dats m 0 c).arrAt 4 cfg0.N
    = fun i => ((show Vec Ideal S4x384 .f32 from m ((c.tc : Thread nD τ).loc main_arg1)) (ix2 (i 1) (i 2))) := by
  refine (dats m 0 c).arrAt_eq_of_covers 4 _ (by decide +kernel) fun t _ y => ?_
  have ht : t.val < 1 := lt_of_lt_of_eq t.isLt N_0
  blk_simp
  rw [after0_4]
  frame_out
  obtain ⟨r, x, rfl⟩ : ∃ (r : Fin 4) (x : Fin 384), y = ix3 0 r x := ⟨y 1, y 2, by rw [eq_ix3 y]; exact congrArg (fun a => ix3 a _ _) (Subsingleton.elim _ _)⟩
  refine (pay4_apply _ r x).trans ?_
  blk_point [iblk, V, idx0 t]

open Cert.AdwConvReferenceIdeal.Read in
/-- The result of the gradient is the reference's. -/
theorem result_eq4 (c : Dev nD) : (dats m 0 c).arrAt 4 cfg0.N = val_main_v0 (F := Ideal) (m ((c.tc : Thread nD τ).loc main_arg1)) := by
  rw [result4]
  funext i
  obtain ⟨u, r, x, rfl⟩ : ∃ (u : Fin 1) (r : Fin 4) (x : Fin 384), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the step holds. -/
theorem result5 (c : Dev nD) : (dats m 0 c).arrAt 5 cfg0.N
    = fun i => Adamw.delta ((show Vec Ideal S1x4x384 .f32 from m ((c.tc : Thread nD τ).loc main_arg0)) (ix3 0 (i 1) (i 2))) ((show Vec Ideal S4x384 .f32 from m ((c.tc : Thread nD τ).loc main_arg1)) (ix2 (i 1) (i 2))) ((show Vec Ideal S1x4x384 .f32 from m ((c.tc : Thread nD τ).loc main_arg2)) (ix3 0 (i 1) (i 2))) ((show Vec Ideal S1x4x384 .f32 from m ((c.tc : Thread nD τ).loc main_arg3)) (ix3 0 (i 1) (i 2))) := by
  refine (dats m 0 c).arrAt_eq_of_covers 5 _ (by decide +kernel) fun t _ y => ?_
  have ht : t.val < 1 := lt_of_lt_of_eq t.isLt N_0
  blk_simp
  rw [after0_5]
  frame_out
  obtain ⟨r, x, rfl⟩ : ∃ (r : Fin 4) (x : Fin 384), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwConvReferenceIdeal.Read in
/-- The result of the step is the reference's. -/
theorem result_eq5 (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 4) (x : Fin 384), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean holds. -/
theorem result6 (c : Dev nD) : (dats m 0 c).arrAt 6 cfg0.N
    = fun i => Adamw.mean ((show Vec Ideal S4x384 .f32 from m ((c.tc : Thread nD τ).loc main_arg1)) (ix2 (i 1) (i 2))) ((show Vec Ideal S1x4x384 .f32 from m ((c.tc : Thread nD τ).loc main_arg2)) (ix3 0 (i 1) (i 2))) := by
  refine (dats m 0 c).arrAt_eq_of_covers 6 _ (by decide +kernel) fun t _ y => ?_
  have ht : t.val < 1 := lt_of_lt_of_eq t.isLt N_0
  blk_simp
  rw [after0_6]
  frame_out
  obtain ⟨r, x, rfl⟩ : ∃ (r : Fin 4) (x : Fin 384), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwConvReferenceIdeal.Read in
/-- The result of the mean is the reference's. -/
theorem result_eq6 (c : Dev nD) : (dats m 0 c).arrAt 6 cfg0.N = val_main_v5 (F := Ideal) (m ((c.tc : Thread nD τ).loc main_arg1)) (m ((c.tc : Thread nD τ).loc main_arg2)) := by
  rw [result6]
  funext i
  obtain ⟨u, r, x, rfl⟩ : ∃ (u : Fin 1) (r : Fin 4) (x : Fin 384), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean square holds. -/
theorem result7 (c : Dev nD) : (dats m 0 c).arrAt 7 cfg0.N
    = fun i => Adamw.square ((show Vec Ideal S4x384 .f32 from m ((c.tc : Thread nD τ).loc main_arg1)) (ix2 (i 1) (i 2))) ((show Vec Ideal S1x4x384 .f32 from m ((c.tc : Thread nD τ).loc main_arg3)) (ix3 0 (i 1) (i 2))) := by
  refine (dats m 0 c).arrAt_eq_of_covers 7 _ (by decide +kernel) fun t _ y => ?_
  have ht : t.val < 1 := lt_of_lt_of_eq t.isLt N_0
  blk_simp
  rw [after0_7]
  frame_out
  obtain ⟨r, x, rfl⟩ : ∃ (r : Fin 4) (x : Fin 384), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwConvReferenceIdeal.Read in
/-- The result of the mean square is the reference's. -/
theorem result_eq7 (c : Dev nD) : (dats m 0 c).arrAt 7 cfg0.N = val_main_v11 (F := Ideal) (m ((c.tc : Thread nD τ).loc main_arg1)) (m ((c.tc : Thread nD τ).loc main_arg3)) := by
  rw [result7]
  funext i
  obtain ⟨u, r, x, rfl⟩ : ∃ (u : Fin 1) (r : Fin 4) (x : Fin 384), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

end Cert.AdwConv
-- ==== Proof.AdwHeads.lean ====
module

public import proofs.«01_k».proof.Proof.Gen.AdwHeadsKernelIdeal.Value
public import proofs.«01_k».proof.Proof.Gen.AdwHeadsReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of a vector over the heads: the kernel's four results are the reference's. -/

@[expose] public section
set_option maxRecDepth 16384
noncomputable section
open Idealize.ShloMosaic Idealize.ShloMosaic.TcCoe Idealize.SL.Sem
open Idealize.ShloMosaic.Pipeline (Dat)
namespace Cert.AdwHeads
open Cert.AdwHeadsKernelIdeal Cert.AdwHeadsKernelIdeal.Gen

variable (m : (ℓ : Loc nD τ sig) → Buf (Elt Ideal) ℓ)

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The block of the step at an element. -/
theorem pay5_apply (w : Vec Ideal S1x4 .f32) (g : Vec Ideal S1x4 .f32) (mo : Vec Ideal S1x4 .f32) (v : Vec Ideal S1x4 .f32) (r : Fin 1) (x : Fin 4) :
    k0_pay3 g mo v w (ix2 r x) = Adamw.delta (w (ix2 r x)) (g (ix2 r x)) (mo (ix2 r x)) (v (ix2 r x)) := by
  pointwise [k0_pay1, k0_pay2, k0_pay3, Adamw.delta, Adamw.mean, Adamw.square]

/-- The block of the mean at an element. -/
theorem pay6_apply (g : Vec Ideal S1x4 .f32) (mo : Vec Ideal S1x4 .f32) (r : Fin 1) (x : Fin 4) :
    k0_pay1 g mo (ix2 r x) = Adamw.mean (g (ix2 r x)) (mo (ix2 r x)) := by
  pointwise [k0_pay1, k0_pay2, k0_pay3, Adamw.mean]

/-- The block of the mean square at an element. -/
theorem pay7_apply (g : Vec Ideal S1x4 .f32) (v : Vec Ideal S1x4 .f32) (r : Fin 1) (x : Fin 4) :
    k0_pay2 g v (ix2 r x) = Adamw.square (g (ix2 r x)) (v (ix2 r x)) := by
  pointwise [k0_pay1, k0_pay2, k0_pay3, Adamw.square]

/-- What the result of the gradient holds. -/
theorem result4 (c : Dev nD) : (dats m 0 c).arrAt 4 cfg0.N
    = fun i => ((show Vec Ideal S1x4 .f32 from m ((c.tc : Thread nD τ).loc main_arg1)) (ix2 (i 0) (i 1))) := by
  refine (dats m 0 c).arrAt_eq_of_covers 4 _ (by decide +kernel) fun t _ y => ?_
  have ht : t.val < 1 := lt_of_lt_of_eq t.isLt N_0
  blk_simp
  rw [after0_4]
  frame_out
  obtain ⟨r, x, rfl⟩ : ∃ (r : Fin 1) (x : Fin 4), y = ix2 r x := ⟨y 0, y 1, eq_ix2 y⟩
  blk_point [iblk, V, idx0 t]

open Cert.AdwHeadsReferenceIdeal.Read in
/-- The result of the gradient is the reference's. -/
theorem result_eq4 (c : Dev nD) : (dats m 0 c).arrAt 4 cfg0.N = m ((c.tc : Thread nD τ).loc main_arg1) := by
  rw [result4]
  funext i
  obtain ⟨u, r, x, rfl⟩ : ∃ (u : Fin 1) (r : Fin 1) (x : Fin 4), i = ix2 r x := ⟨0, i 0, i 1, eq_ix2 i⟩
  obtain rfl : u = 0 := Subsingleton.elim _ _
  rfl

/-- What the result of the step holds. -/
theorem result5 (c : Dev nD) : (dats m 0 c).arrAt 5 cfg0.N
    = fun i => Adamw.delta ((show Vec Ideal S1x4 .f32 from m ((c.tc : Thread nD τ).loc main_arg0)) (ix2 (i 0) (i 1))) ((show Vec Ideal S1x4 .f32 from m ((c.tc : Thread nD τ).loc main_arg1)) (ix2 (i 0) (i 1))) ((show Vec Ideal S1x4 .f32 from m ((c.tc : Thread nD τ).loc main_arg2)) (ix2 (i 0) (i 1))) ((show Vec Ideal S1x4 .f32 from m ((c.tc : Thread nD τ).loc main_arg3)) (ix2 (i 0) (i 1))) := by
  refine (dats m 0 c).arrAt_eq_of_covers 5 _ (by decide +kernel) fun t _ y => ?_
  have ht : t.val < 1 := lt_of_lt_of_eq t.isLt N_0
  blk_simp
  rw [after0_5]
  frame_out
  obtain ⟨r, x, rfl⟩ : ∃ (r : Fin 1) (x : Fin 4), y = ix2 r x := ⟨y 0, y 1, eq_ix2 y⟩
  refine (pay5_apply _ _ _ _ r x).trans ?_
  congr 1
  all_goals blk_point [iblk, V, idx0 t]

open Cert.AdwHeadsReferenceIdeal.Read in
/-- The result of the step is the reference's. -/
theorem result_eq5 (c : Dev nD) : (dats m 0 c).arrAt 5 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 1) (x : Fin 4), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean holds. -/
theorem result6 (c : Dev nD) : (dats m 0 c).arrAt 6 cfg0.N
    = fun i => Adamw.mean ((show Vec Ideal S1x4 .f32 from m ((c.tc : Thread nD τ).loc main_arg1)) (ix2 (i 0) (i 1))) ((show Vec Ideal S1x4 .f32 from m ((c.tc : Thread nD τ).loc main_arg2)) (ix2 (i 0) (i 1))) := by
  refine (dats m 0 c).arrAt_eq_of_covers 6 _ (by decide +kernel) fun t _ y => ?_
  have ht : t.val < 1 := lt_of_lt_of_eq t.isLt N_0
  blk_simp
  rw [after0_6]
  frame_out
  obtain ⟨r, x, rfl⟩ : ∃ (r : Fin 1) (x : Fin 4), y = ix2 r x := ⟨y 0, y 1, eq_ix2 y⟩
  refine (pay6_apply _ _ r x).trans ?_
  congr 1
  all_goals blk_point [iblk, V, idx0 t]

open Cert.AdwHeadsReferenceIdeal.Read in
/-- The result of the mean is the reference's. -/
theorem result_eq6 (c : Dev nD) : (dats m 0 c).arrAt 6 cfg0.N = val_main_v4 (F := Ideal) (m ((c.tc : Thread nD τ).loc main_arg1)) (m ((c.tc : Thread nD τ).loc main_arg2)) := by
  rw [result6]
  funext i
  obtain ⟨u, r, x, rfl⟩ : ∃ (u : Fin 1) (r : Fin 1) (x : Fin 4), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean square holds. -/
theorem result7 (c : Dev nD) : (dats m 0 c).arrAt 7 cfg0.N
    = fun i => Adamw.square ((show Vec Ideal S1x4 .f32 from m ((c.tc : Thread nD τ).loc main_arg1)) (ix2 (i 0) (i 1))) ((show Vec Ideal S1x4 .f32 from m ((c.tc : Thread nD τ).loc main_arg3)) (ix2 (i 0) (i 1))) := by
  refine (dats m 0 c).arrAt_eq_of_covers 7 _ (by decide +kernel) fun t _ y => ?_
  have ht : t.val < 1 := lt_of_lt_of_eq t.isLt N_0
  blk_simp
  rw [after0_7]
  frame_out
  obtain ⟨r, x, rfl⟩ : ∃ (r : Fin 1) (x : Fin 4), y = ix2 r x := ⟨y 0, y 1, eq_ix2 y⟩
  refine (pay7_apply _ _ r x).trans ?_
  congr 1
  all_goals blk_point [iblk, V, idx0 t]

open Cert.AdwHeadsReferenceIdeal.Read in
/-- The result of the mean square is the reference's. -/
theorem result_eq7 (c : Dev nD) : (dats m 0 c).arrAt 7 cfg0.N = val_main_v10 (F := Ideal) (m ((c.tc : Thread nD τ).loc main_arg1)) (m ((c.tc : Thread nD τ).loc main_arg3)) := by
  rw [result7]
  funext i
  obtain ⟨u, r, x, rfl⟩ : ∃ (u : Fin 1) (r : Fin 1) (x : Fin 4), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

end Cert.AdwHeads
-- ==== Proof.AdwNorm.lean ====
module

public import proofs.«01_k».proof.Proof.Gen.AdwNormKernelIdeal.Value
public import proofs.«01_k».proof.Proof.Gen.AdwNormReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the delta rule's norm: the kernel's four results are the reference's. -/

@[expose] public section
set_option maxRecDepth 16384
noncomputable section
open Idealize.ShloMosaic Idealize.ShloMosaic.TcCoe Idealize.SL.Sem
open Idealize.ShloMosaic.Pipeline (Dat)
namespace Cert.AdwNorm
open Cert.AdwNormKernelIdeal Cert.AdwNormKernelIdeal.Gen

variable (m : (ℓ : Loc nD τ sig) → Buf (Elt Ideal) ℓ)

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The block of the step at an element. -/
theorem pay5_apply (w : Vec Ideal S1x128 .f32) (g : Vec Ideal S1x128 .f32) (mo : Vec Ideal S1x128 .f32) (v : Vec Ideal S1x128 .f32) (r : Fin 1) (x : Fin 128) :
    k0_pay3 g mo v w (ix2 r x) = Adamw.delta (w (ix2 r x)) (g (ix2 r x)) (mo (ix2 r x)) (v (ix2 r x)) := by
  pointwise [k0_pay1, k0_pay2, k0_pay3, Adamw.delta, Adamw.mean, Adamw.square]

/-- The block of the mean at an element. -/
theorem pay6_apply (g : Vec Ideal S1x128 .f32) (mo : Vec Ideal S1x128 .f32) (r : Fin 1) (x : Fin 128) :
    k0_pay1 g mo (ix2 r x) = Adamw.mean (g (ix2 r x)) (mo (ix2 r x)) := by
  pointwise [k0_pay1, k0_pay2, k0_pay3, Adamw.mean]

/-- The block of the mean square at an element. -/
theorem pay7_apply (g : Vec Ideal S1x128 .f32) (v : Vec Ideal S1x128 .f32) (r : Fin 1) (x : Fin 128) :
    k0_pay2 g v (ix2 r x) = Adamw.square (g (ix2 r x)) (v (ix2 r x)) := by
  pointwise [k0_pay1, k0_pay2, k0_pay3, Adamw.square]

/-- What the result of the gradient holds. -/
theorem result4 (c : Dev nD) : (dats m 0 c).arrAt 4 cfg0.N
    = fun i => ((show Vec Ideal S1x128 .f32 from m ((c.tc : Thread nD τ).loc main_arg1)) (ix2 (i 0) (i 1))) := by
  refine (dats m 0 c).arrAt_eq_of_covers 4 _ (by decide +kernel) fun t _ y => ?_
  have ht : t.val < 1 := lt_of_lt_of_eq t.isLt N_0
  blk_simp
  rw [after0_4]
  frame_out
  obtain ⟨r, x, rfl⟩ : ∃ (r : Fin 1) (x : Fin 128), y = ix2 r x := ⟨y 0, y 1, eq_ix2 y⟩
  blk_point [iblk, V, idx0 t]

open Cert.AdwNormReferenceIdeal.Read in
/-- The result of the gradient is the reference's. -/
theorem result_eq4 (c : Dev nD) : (dats m 0 c).arrAt 4 cfg0.N = m ((c.tc : Thread nD τ).loc main_arg1) := by
  rw [result4]
  funext i
  obtain ⟨u, r, x, rfl⟩ : ∃ (u : Fin 1) (r : Fin 1) (x : Fin 128), i = ix2 r x := ⟨0, i 0, i 1, eq_ix2 i⟩
  obtain rfl : u = 0 := Subsingleton.elim _ _
  rfl

/-- What the result of the step holds. -/
theorem result5 (c : Dev nD) : (dats m 0 c).arrAt 5 cfg0.N
    = fun i => Adamw.delta ((show Vec Ideal S1x128 .f32 from m ((c.tc : Thread nD τ).loc main_arg0)) (ix2 (i 0) (i 1))) ((show Vec Ideal S1x128 .f32 from m ((c.tc : Thread nD τ).loc main_arg1)) (ix2 (i 0) (i 1))) ((show Vec Ideal S1x128 .f32 from m ((c.tc : Thread nD τ).loc main_arg2)) (ix2 (i 0) (i 1))) ((show Vec Ideal S1x128 .f32 from m ((c.tc : Thread nD τ).loc main_arg3)) (ix2 (i 0) (i 1))) := by
  refine (dats m 0 c).arrAt_eq_of_covers 5 _ (by decide +kernel) fun t _ y => ?_
  have ht : t.val < 1 := lt_of_lt_of_eq t.isLt N_0
  blk_simp
  rw [after0_5]
  frame_out
  obtain ⟨r, x, rfl⟩ : ∃ (r : Fin 1) (x : Fin 128), y = ix2 r x := ⟨y 0, y 1, eq_ix2 y⟩
  refine (pay5_apply _ _ _ _ r x).trans ?_
  congr 1
  all_goals blk_point [iblk, V, idx0 t]

open Cert.AdwNormReferenceIdeal.Read in
/-- The result of the step is the reference's. -/
theorem result_eq5 (c : Dev nD) : (dats m 0 c).arrAt 5 cfg0.N = val_main_v23 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 1) (x : Fin 128), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean holds. -/
theorem result6 (c : Dev nD) : (dats m 0 c).arrAt 6 cfg0.N
    = fun i => Adamw.mean ((show Vec Ideal S1x128 .f32 from m ((c.tc : Thread nD τ).loc main_arg1)) (ix2 (i 0) (i 1))) ((show Vec Ideal S1x128 .f32 from m ((c.tc : Thread nD τ).loc main_arg2)) (ix2 (i 0) (i 1))) := by
  refine (dats m 0 c).arrAt_eq_of_covers 6 _ (by decide +kernel) fun t _ y => ?_
  have ht : t.val < 1 := lt_of_lt_of_eq t.isLt N_0
  blk_simp
  rw [after0_6]
  frame_out
  obtain ⟨r, x, rfl⟩ : ∃ (r : Fin 1) (x : Fin 128), y = ix2 r x := ⟨y 0, y 1, eq_ix2 y⟩
  refine (pay6_apply _ _ r x).trans ?_
  congr 1
  all_goals blk_point [iblk, V, idx0 t]

open Cert.AdwNormReferenceIdeal.Read in
/-- The result of the mean is the reference's. -/
theorem result_eq6 (c : Dev nD) : (dats m 0 c).arrAt 6 cfg0.N = val_main_v4 (F := Ideal) (m ((c.tc : Thread nD τ).loc main_arg1)) (m ((c.tc : Thread nD τ).loc main_arg2)) := by
  rw [result6]
  funext i
  obtain ⟨u, r, x, rfl⟩ : ∃ (u : Fin 1) (r : Fin 1) (x : Fin 128), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

/-- What the result of the mean square holds. -/
theorem result7 (c : Dev nD) : (dats m 0 c).arrAt 7 cfg0.N
    = fun i => Adamw.square ((show Vec Ideal S1x128 .f32 from m ((c.tc : Thread nD τ).loc main_arg1)) (ix2 (i 0) (i 1))) ((show Vec Ideal S1x128 .f32 from m ((c.tc : Thread nD τ).loc main_arg3)) (ix2 (i 0) (i 1))) := by
  refine (dats m 0 c).arrAt_eq_of_covers 7 _ (by decide +kernel) fun t _ y => ?_
  have ht : t.val < 1 := lt_of_lt_of_eq t.isLt N_0
  blk_simp
  rw [after0_7]
  frame_out
  obtain ⟨r, x, rfl⟩ : ∃ (r : Fin 1) (x : Fin 128), y = ix2 r x := ⟨y 0, y 1, eq_ix2 y⟩
  refine (pay7_apply _ _ r x).trans ?_
  congr 1
  all_goals blk_point [iblk, V, idx0 t]

open Cert.AdwNormReferenceIdeal.Read in
/-- The result of the mean square is the reference's. -/
theorem result_eq7 (c : Dev nD) : (dats m 0 c).arrAt 7 cfg0.N = val_main_v10 (F := Ideal) (m ((c.tc : Thread nD τ).loc main_arg1)) (m ((c.tc : Thread nD τ).loc main_arg3)) := by
  rw [result7]
  funext i
  obtain ⟨u, r, x, rfl⟩ : ∃ (u : Fin 1) (r : Fin 1) (x : Fin 128), i = ix2 r x := ⟨0, i 0, i 1, eq_ix2 i⟩
  obtain rfl : u = 0 := Subsingleton.elim _ _
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, Adamw.delta, Adamw.mean, Adamw.square]

end Cert.AdwNorm
-- ==== Proof.AdwMem.lean ====
module

public import proofs.«01_k».proof.Proof.Gen.AdwMemKernelIdeal.Value
public import proofs.«01_k».proof.Proof.Gen.AdwMemReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the memory's weight: the kernel's four results are the reference's. -/

@[expose] public section
set_option maxRecDepth 16384
noncomputable section
open Idealize.ShloMosaic Idealize.ShloMosaic.TcCoe Idealize.SL.Sem
open Idealize.ShloMosaic.Pipeline (Dat)
namespace Cert.AdwMem
open Cert.AdwMemKernelIdeal Cert.AdwMemKernelIdeal.Gen

variable (m : (ℓ : Loc nD τ sig) → Buf (Elt Ideal) ℓ)

theorem idx0 : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The block of the gradient at an element. -/
theorem pay4_apply (g : Vec Ideal S256x1024 .f32) (r : Fin 256) (x : Fin 1024) :
    k0_pay4 g (ix3 0 r x) = (g (ix2 r x)) := by
  pointwise [k0_pay1, k0_pay2, k0_pay3, k0_pay4, k0_pay5, k0_pay6, k0_pay7]

/-- The block of the step at an element. -/
theorem pay5_apply (w : Vec Ideal S1x256x1024 .f32) (g : Vec Ideal S256x1024 .f32) (mo : Vec Ideal S1x256x1024 .f32) (v : Vec Ideal S1x256x1024 .f32) (r : Fin 256) (x : Fin 1024) :
    k0_pay1 (k0_pay7 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, Adamw.delta, Adamw.mean, Adamw.square]

/-- The block of the mean at an element. -/
theorem pay6_apply (g : Vec Ideal S256x1024 .f32) (mo : Vec Ideal S1x256x1024 .f32) (r : Fin 256) (x : Fin 1024) :
    k0_pay2 (k0_pay5 g mo) (ix3 0 r x) = Adamw.mean (g (ix2 r x)) (mo (ix3 0 r x)) := by
  pointwise [k0_pay1, k0_pay2, k0_pay3, k0_pay4, k0_pay5, k0_pay6, k0_pay7, Adamw.mean]

/-- The block of the mean square at an element. -/
theorem pay7_apply (g : Vec Ideal S256x1024 .f32) (v : Vec Ideal S1x256x1024 .f32) (r : Fin 256) (x : Fin 1024) :
    k0_pay3 (k0_pay6 g v) (ix3 0 r x) = Adamw.square (g (ix2 r x)) (v (ix3 0 r x)) := by
  pointwise [k0_pay1, k0_pay2, k0_pay3, k0_pay4, k0_pay5, k0_pay6, k0_pay7, Adamw.square]

/-- What the result of the gradient holds. -/
theorem result4 (c : Dev nD) : (dats m 0 c).arrAt 4 cfg0.N
    = fun i => ((show Vec Ideal S512x1024 .f32 from m ((c.tc : Thread nD τ).loc main_arg1)) (ix2 (i 1) (i 2))) := by
  refine (dats m 0 c).arrAt_eq_of_covers 4 _ (by decide +kernel) fun t _ y => ?_
  have ht : t.val < 2 := lt_of_lt_of_eq t.isLt N_0
  blk_simp
  rw [after0_4]
  frame_out
  obtain ⟨r, x, rfl⟩ : ∃ (r : Fin 256) (x : Fin 1024), y = ix3 0 r x := ⟨y 1, y 2, by rw [eq_ix3 y]; exact congrArg (fun a => ix3 a _ _) (Subsingleton.elim _ _)⟩
  refine (pay4_apply _ r x).trans ?_
  blk_point [iblk, V, idx0 t]

open Cert.AdwMemReferenceIdeal.Read in
/-- The result of the gradient is the reference's. -/
theorem result_eq4 (c : Dev nD) : (dats m 0 c).arrAt 4 cfg0.N = val_main_v0 (F := Ideal) (m ((c.tc : Thread nD τ).loc main_arg1)) := by
  rw [result4]
  funext i
  obtain ⟨u, r, x, rfl⟩ : ∃ (u : Fin 1) (r : Fin 512) (x : Fin 1024), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the step holds. -/
theorem result5 (c : Dev nD) : (dats m 0 c).arrAt 5 cfg0.N
    = fun i => Adamw.delta ((show Vec Ideal S1x512x1024 .f32 from m ((c.tc : Thread nD τ).loc main_arg0)) (ix3 0 (i 1) (i 2))) ((show Vec Ideal S512x1024 .f32 from m ((c.tc : Thread nD τ).loc main_arg1)) (ix2 (i 1) (i 2))) ((show Vec Ideal S1x512x1024 .f32 from m ((c.tc : Thread nD τ).loc main_arg2)) (ix3 0 (i 1) (i 2))) ((show Vec Ideal S1x512x1024 .f32 from m ((c.tc : Thread nD τ).loc main_arg3)) (ix3 0 (i 1) (i 2))) := by
  refine (dats m 0 c).arrAt_eq_of_covers 5 _ (by decide +kernel) fun t _ y => ?_
  have ht : t.val < 2 := lt_of_lt_of_eq t.isLt N_0
  blk_simp
  rw [after0_5]
  frame_out
  obtain ⟨r, x, rfl⟩ : ∃ (r : Fin 256) (x : Fin 1024), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwMemReferenceIdeal.Read in
/-- The result of the step is the reference's. -/
theorem result_eq5 (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 512) (x : Fin 1024), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean holds. -/
theorem result6 (c : Dev nD) : (dats m 0 c).arrAt 6 cfg0.N
    = fun i => Adamw.mean ((show Vec Ideal S512x1024 .f32 from m ((c.tc : Thread nD τ).loc main_arg1)) (ix2 (i 1) (i 2))) ((show Vec Ideal S1x512x1024 .f32 from m ((c.tc : Thread nD τ).loc main_arg2)) (ix3 0 (i 1) (i 2))) := by
  refine (dats m 0 c).arrAt_eq_of_covers 6 _ (by decide +kernel) fun t _ y => ?_
  have ht : t.val < 2 := lt_of_lt_of_eq t.isLt N_0
  blk_simp
  rw [after0_6]
  frame_out
  obtain ⟨r, x, rfl⟩ : ∃ (r : Fin 256) (x : Fin 1024), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwMemReferenceIdeal.Read in
/-- The result of the mean is the reference's. -/
theorem result_eq6 (c : Dev nD) : (dats m 0 c).arrAt 6 cfg0.N = val_main_v5 (F := Ideal) (m ((c.tc : Thread nD τ).loc main_arg1)) (m ((c.tc : Thread nD τ).loc main_arg2)) := by
  rw [result6]
  funext i
  obtain ⟨u, r, x, rfl⟩ : ∃ (u : Fin 1) (r : Fin 512) (x : Fin 1024), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean square holds. -/
theorem result7 (c : Dev nD) : (dats m 0 c).arrAt 7 cfg0.N
    = fun i => Adamw.square ((show Vec Ideal S512x1024 .f32 from m ((c.tc : Thread nD τ).loc main_arg1)) (ix2 (i 1) (i 2))) ((show Vec Ideal S1x512x1024 .f32 from m ((c.tc : Thread nD τ).loc main_arg3)) (ix3 0 (i 1) (i 2))) := by
  refine (dats m 0 c).arrAt_eq_of_covers 7 _ (by decide +kernel) fun t _ y => ?_
  have ht : t.val < 2 := lt_of_lt_of_eq t.isLt N_0
  blk_simp
  rw [after0_7]
  frame_out
  obtain ⟨r, x, rfl⟩ : ∃ (r : Fin 256) (x : Fin 1024), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwMemReferenceIdeal.Read in
/-- The result of the mean square is the reference's. -/
theorem result_eq7 (c : Dev nD) : (dats m 0 c).arrAt 7 cfg0.N = val_main_v11 (F := Ideal) (m ((c.tc : Thread nD τ).loc main_arg1)) (m ((c.tc : Thread nD τ).loc main_arg3)) := by
  rw [result7]
  funext i
  obtain ⟨u, r, x, rfl⟩ : ∃ (u : Fin 1) (r : Fin 512) (x : Fin 1024), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

end Cert.AdwMem
-- ==== Proof.AdwSwaUp.lean ====
module

public import proofs.«01_k».proof.Proof.Gen.AdwSwaUpKernelIdeal.Value
public import proofs.«01_k».proof.Proof.Gen.AdwSwaUpReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the windowed attention's up-projection: the kernel's four results are the reference's. -/

@[expose] public section
set_option maxRecDepth 16384
noncomputable section
open Idealize.ShloMosaic Idealize.ShloMosaic.TcCoe Idealize.SL.Sem
open Idealize.ShloMosaic.Pipeline (Dat)
namespace Cert.AdwSwaUp
open Cert.AdwSwaUpKernelIdeal Cert.AdwSwaUpKernelIdeal.Gen

variable (m : (ℓ : Loc nD τ sig) → Buf (Elt Ideal) ℓ)

theorem idx0 : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The block of the gradient at an element. -/
theorem pay4_apply (g : Vec Ideal S256x512 .f32) (r : Fin 256) (x : Fin 512) :
    k0_pay4 g (ix3 0 r x) = (g (ix2 r x)) := by
  pointwise [k0_pay1, k0_pay2, k0_pay3, k0_pay4, k0_pay5, k0_pay6, k0_pay7]

/-- The block of the step at an element. -/
theorem pay5_apply (w : Vec Ideal S1x256x512 .f32) (g : Vec Ideal S256x512 .f32) (mo : Vec Ideal S1x256x512 .f32) (v : Vec Ideal S1x256x512 .f32) (r : Fin 256) (x : Fin 512) :
    k0_pay1 (k0_pay7 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, Adamw.delta, Adamw.mean, Adamw.square]

/-- The block of the mean at an element. -/
theorem pay6_apply (g : Vec Ideal S256x512 .f32) (mo : Vec Ideal S1x256x512 .f32) (r : Fin 256) (x : Fin 512) :
    k0_pay2 (k0_pay5 g mo) (ix3 0 r x) = Adamw.mean (g (ix2 r x)) (mo (ix3 0 r x)) := by
  pointwise [k0_pay1, k0_pay2, k0_pay3, k0_pay4, k0_pay5, k0_pay6, k0_pay7, Adamw.mean]

/-- The block of the mean square at an element. -/
theorem pay7_apply (g : Vec Ideal S256x512 .f32) (v : Vec Ideal S1x256x512 .f32) (r : Fin 256) (x : Fin 512) :
    k0_pay3 (k0_pay6 g v) (ix3 0 r x) = Adamw.square (g (ix2 r x)) (v (ix3 0 r x)) := by
  pointwise [k0_pay1, k0_pay2, k0_pay3, k0_pay4, k0_pay5, k0_pay6, k0_pay7, Adamw.square]

/-- What the result of the gradient holds. -/
theorem result4 (c : Dev nD) : (dats m 0 c).arrAt 4 cfg0.N
    = fun i => ((show Vec Ideal S1024x512 .f32 from m ((c.tc : Thread nD τ).loc main_arg1)) (ix2 (i 1) (i 2))) := by
  refine (dats m 0 c).arrAt_eq_of_covers 4 _ (by decide +kernel) fun t _ y => ?_
  have ht : t.val < 4 := lt_of_lt_of_eq t.isLt N_0
  blk_simp
  rw [after0_4]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay4_apply _ r x).trans ?_
  blk_point [iblk, V, idx0 t]

open Cert.AdwSwaUpReferenceIdeal.Read in
/-- The result of the gradient is the reference's. -/
theorem result_eq4 (c : Dev nD) : (dats m 0 c).arrAt 4 cfg0.N = val_main_v0 (F := Ideal) (m ((c.tc : Thread nD τ).loc main_arg1)) := by
  rw [result4]
  funext i
  obtain ⟨u, r, x, rfl⟩ : ∃ (u : Fin 1) (r : Fin 1024) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the step holds. -/
theorem result5 (c : Dev nD) : (dats m 0 c).arrAt 5 cfg0.N
    = fun i => Adamw.delta ((show Vec Ideal S1x1024x512 .f32 from m ((c.tc : Thread nD τ).loc main_arg0)) (ix3 0 (i 1) (i 2))) ((show Vec Ideal S1024x512 .f32 from m ((c.tc : Thread nD τ).loc main_arg1)) (ix2 (i 1) (i 2))) ((show Vec Ideal S1x1024x512 .f32 from m ((c.tc : Thread nD τ).loc main_arg2)) (ix3 0 (i 1) (i 2))) ((show Vec Ideal S1x1024x512 .f32 from m ((c.tc : Thread nD τ).loc main_arg3)) (ix3 0 (i 1) (i 2))) := by
  refine (dats m 0 c).arrAt_eq_of_covers 5 _ (by decide +kernel) fun t _ y => ?_
  have ht : t.val < 4 := lt_of_lt_of_eq t.isLt N_0
  blk_simp
  rw [after0_5]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwSwaUpReferenceIdeal.Read in
/-- The result of the step is the reference's. -/
theorem result_eq5 (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 1024) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean holds. -/
theorem result6 (c : Dev nD) : (dats m 0 c).arrAt 6 cfg0.N
    = fun i => Adamw.mean ((show Vec Ideal S1024x512 .f32 from m ((c.tc : Thread nD τ).loc main_arg1)) (ix2 (i 1) (i 2))) ((show Vec Ideal S1x1024x512 .f32 from m ((c.tc : Thread nD τ).loc main_arg2)) (ix3 0 (i 1) (i 2))) := by
  refine (dats m 0 c).arrAt_eq_of_covers 6 _ (by decide +kernel) fun t _ y => ?_
  have ht : t.val < 4 := lt_of_lt_of_eq t.isLt N_0
  blk_simp
  rw [after0_6]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwSwaUpReferenceIdeal.Read in
/-- The result of the mean is the reference's. -/
theorem result_eq6 (c : Dev nD) : (dats m 0 c).arrAt 6 cfg0.N = val_main_v5 (F := Ideal) (m ((c.tc : Thread nD τ).loc main_arg1)) (m ((c.tc : Thread nD τ).loc main_arg2)) := by
  rw [result6]
  funext i
  obtain ⟨u, r, x, rfl⟩ : ∃ (u : Fin 1) (r : Fin 1024) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean square holds. -/
theorem result7 (c : Dev nD) : (dats m 0 c).arrAt 7 cfg0.N
    = fun i => Adamw.square ((show Vec Ideal S1024x512 .f32 from m ((c.tc : Thread nD τ).loc main_arg1)) (ix2 (i 1) (i 2))) ((show Vec Ideal S1x1024x512 .f32 from m ((c.tc : Thread nD τ).loc main_arg3)) (ix3 0 (i 1) (i 2))) := by
  refine (dats m 0 c).arrAt_eq_of_covers 7 _ (by decide +kernel) fun t _ y => ?_
  have ht : t.val < 4 := lt_of_lt_of_eq t.isLt N_0
  blk_simp
  rw [after0_7]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwSwaUpReferenceIdeal.Read in
/-- The result of the mean square is the reference's. -/
theorem result_eq7 (c : Dev nD) : (dats m 0 c).arrAt 7 cfg0.N = val_main_v11 (F := Ideal) (m ((c.tc : Thread nD τ).loc main_arg1)) (m ((c.tc : Thread nD τ).loc main_arg3)) := by
  rw [result7]
  funext i
  obtain ⟨u, r, x, rfl⟩ : ∃ (u : Fin 1) (r : Fin 1024) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

end Cert.AdwSwaUp
-- ==== Proof.AdwUp.lean ====
module

public import proofs.«01_k».proof.Proof.Gen.AdwUpKernelIdeal.Value
public import proofs.«01_k».proof.Proof.Gen.AdwUpReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the two other up-projections: the kernel's four results are the reference's. -/

@[expose] public section
set_option maxRecDepth 16384
noncomputable section
open Idealize.ShloMosaic Idealize.ShloMosaic.TcCoe Idealize.SL.Sem
open Idealize.ShloMosaic.Pipeline (Dat)
namespace Cert.AdwUp
open Cert.AdwUpKernelIdeal Cert.AdwUpKernelIdeal.Gen

variable (m : (ℓ : Loc nD τ sig) → Buf (Elt Ideal) ℓ)

theorem idx0 : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The block of the gradient at an element. -/
theorem pay4_apply (g : Vec Ideal S256x512 .f32) (r : Fin 256) (x : Fin 512) :
    k0_pay4 g (ix3 0 r x) = (g (ix2 r x)) := by
  pointwise [k0_pay1, k0_pay2, k0_pay3, k0_pay4, k0_pay5, k0_pay6, k0_pay7]

/-- The block of the step at an element. -/
theorem pay5_apply (w : Vec Ideal S1x256x512 .f32) (g : Vec Ideal S256x512 .f32) (mo : Vec Ideal S1x256x512 .f32) (v : Vec Ideal S1x256x512 .f32) (r : Fin 256) (x : Fin 512) :
    k0_pay1 (k0_pay7 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, Adamw.delta, Adamw.mean, Adamw.square]

/-- The block of the mean at an element. -/
theorem pay6_apply (g : Vec Ideal S256x512 .f32) (mo : Vec Ideal S1x256x512 .f32) (r : Fin 256) (x : Fin 512) :
    k0_pay2 (k0_pay5 g mo) (ix3 0 r x) = Adamw.mean (g (ix2 r x)) (mo (ix3 0 r x)) := by
  pointwise [k0_pay1, k0_pay2, k0_pay3, k0_pay4, k0_pay5, k0_pay6, k0_pay7, Adamw.mean]

/-- The block of the mean square at an element. -/
theorem pay7_apply (g : Vec Ideal S256x512 .f32) (v : Vec Ideal S1x256x512 .f32) (r : Fin 256) (x : Fin 512) :
    k0_pay3 (k0_pay6 g v) (ix3 0 r x) = Adamw.square (g (ix2 r x)) (v (ix3 0 r x)) := by
  pointwise [k0_pay1, k0_pay2, k0_pay3, k0_pay4, k0_pay5, k0_pay6, k0_pay7, Adamw.square]

/-- What the result of the gradient holds. -/
theorem result4 (c : Dev nD) : (dats m 0 c).arrAt 4 cfg0.N
    = fun i => ((show Vec Ideal S512x512 .f32 from m ((c.tc : Thread nD τ).loc main_arg1)) (ix2 (i 1) (i 2))) := by
  refine (dats m 0 c).arrAt_eq_of_covers 4 _ (by decide +kernel) fun t _ y => ?_
  have ht : t.val < 2 := lt_of_lt_of_eq t.isLt N_0
  blk_simp
  rw [after0_4]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay4_apply _ r x).trans ?_
  blk_point [iblk, V, idx0 t]

open Cert.AdwUpReferenceIdeal.Read in
/-- The result of the gradient is the reference's. -/
theorem result_eq4 (c : Dev nD) : (dats m 0 c).arrAt 4 cfg0.N = val_main_v0 (F := Ideal) (m ((c.tc : Thread nD τ).loc main_arg1)) := by
  rw [result4]
  funext i
  obtain ⟨u, r, x, rfl⟩ : ∃ (u : Fin 1) (r : Fin 512) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the step holds. -/
theorem result5 (c : Dev nD) : (dats m 0 c).arrAt 5 cfg0.N
    = fun i => Adamw.delta ((show Vec Ideal S1x512x512 .f32 from m ((c.tc : Thread nD τ).loc main_arg0)) (ix3 0 (i 1) (i 2))) ((show Vec Ideal S512x512 .f32 from m ((c.tc : Thread nD τ).loc main_arg1)) (ix2 (i 1) (i 2))) ((show Vec Ideal S1x512x512 .f32 from m ((c.tc : Thread nD τ).loc main_arg2)) (ix3 0 (i 1) (i 2))) ((show Vec Ideal S1x512x512 .f32 from m ((c.tc : Thread nD τ).loc main_arg3)) (ix3 0 (i 1) (i 2))) := by
  refine (dats m 0 c).arrAt_eq_of_covers 5 _ (by decide +kernel) fun t _ y => ?_
  have ht : t.val < 2 := lt_of_lt_of_eq t.isLt N_0
  blk_simp
  rw [after0_5]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwUpReferenceIdeal.Read in
/-- The result of the step is the reference's. -/
theorem result_eq5 (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 512) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean holds. -/
theorem result6 (c : Dev nD) : (dats m 0 c).arrAt 6 cfg0.N
    = fun i => Adamw.mean ((show Vec Ideal S512x512 .f32 from m ((c.tc : Thread nD τ).loc main_arg1)) (ix2 (i 1) (i 2))) ((show Vec Ideal S1x512x512 .f32 from m ((c.tc : Thread nD τ).loc main_arg2)) (ix3 0 (i 1) (i 2))) := by
  refine (dats m 0 c).arrAt_eq_of_covers 6 _ (by decide +kernel) fun t _ y => ?_
  have ht : t.val < 2 := lt_of_lt_of_eq t.isLt N_0
  blk_simp
  rw [after0_6]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwUpReferenceIdeal.Read in
/-- The result of the mean is the reference's. -/
theorem result_eq6 (c : Dev nD) : (dats m 0 c).arrAt 6 cfg0.N = val_main_v5 (F := Ideal) (m ((c.tc : Thread nD τ).loc main_arg1)) (m ((c.tc : Thread nD τ).loc main_arg2)) := by
  rw [result6]
  funext i
  obtain ⟨u, r, x, rfl⟩ : ∃ (u : Fin 1) (r : Fin 512) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean square holds. -/
theorem result7 (c : Dev nD) : (dats m 0 c).arrAt 7 cfg0.N
    = fun i => Adamw.square ((show Vec Ideal S512x512 .f32 from m ((c.tc : Thread nD τ).loc main_arg1)) (ix2 (i 1) (i 2))) ((show Vec Ideal S1x512x512 .f32 from m ((c.tc : Thread nD τ).loc main_arg3)) (ix3 0 (i 1) (i 2))) := by
  refine (dats m 0 c).arrAt_eq_of_covers 7 _ (by decide +kernel) fun t _ y => ?_
  have ht : t.val < 2 := lt_of_lt_of_eq t.isLt N_0
  blk_simp
  rw [after0_7]
  frame_out
  obtain ⟨r, x, rfl⟩ : ∃ (r : Fin 256) (x : Fin 512), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwUpReferenceIdeal.Read in
/-- The result of the mean square is the reference's. -/
theorem result_eq7 (c : Dev nD) : (dats m 0 c).arrAt 7 cfg0.N = val_main_v11 (F := Ideal) (m ((c.tc : Thread nD τ).loc main_arg1)) (m ((c.tc : Thread nD τ).loc main_arg3)) := by
  rw [result7]
  funext i
  obtain ⟨u, r, x, rfl⟩ : ∃ (u : Fin 1) (r : Fin 512) (x : Fin 512), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

end Cert.AdwUp
-- ==== Proof.AdwOut.lean ====
module

public import proofs.«01_k».proof.Proof.Gen.AdwOutKernelIdeal.Value
public import proofs.«01_k».proof.Proof.Gen.AdwOutReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the out-projection: the kernel's four results are the reference's. -/

@[expose] public section
set_option maxRecDepth 16384
noncomputable section
open Idealize.ShloMosaic Idealize.ShloMosaic.TcCoe Idealize.SL.Sem
open Idealize.ShloMosaic.Pipeline (Dat)
namespace Cert.AdwOut
open Cert.AdwOutKernelIdeal Cert.AdwOutKernelIdeal.Gen

variable (m : (ℓ : Loc nD τ sig) → Buf (Elt Ideal) ℓ)

theorem idx0 : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The block of the gradient at an element. -/
theorem pay4_apply (g : Vec Ideal S256x2048 .f32) (r : Fin 256) (x : Fin 2048) :
    k0_pay4 g (ix3 0 r x) = (g (ix2 r x)) := by
  pointwise [k0_pay1, k0_pay2, k0_pay3, k0_pay4, k0_pay5, k0_pay6, k0_pay7]

/-- The block of the step at an element. -/
theorem pay5_apply (w : Vec Ideal S1x256x2048 .f32) (g : Vec Ideal S256x2048 .f32) (mo : Vec Ideal S1x256x2048 .f32) (v : Vec Ideal S1x256x2048 .f32) (r : Fin 256) (x : Fin 2048) :
    k0_pay1 (k0_pay7 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, Adamw.delta, Adamw.mean, Adamw.square]

/-- The block of the mean at an element. -/
theorem pay6_apply (g : Vec Ideal S256x2048 .f32) (mo : Vec Ideal S1x256x2048 .f32) (r : Fin 256) (x : Fin 2048) :
    k0_pay2 (k0_pay5 g mo) (ix3 0 r x) = Adamw.mean (g (ix2 r x)) (mo (ix3 0 r x)) := by
  pointwise [k0_pay1, k0_pay2, k0_pay3, k0_pay4, k0_pay5, k0_pay6, k0_pay7, Adamw.mean]

/-- The block of the mean square at an element. -/
theorem pay7_apply (g : Vec Ideal S256x2048 .f32) (v : Vec Ideal S1x256x2048 .f32) (r : Fin 256) (x : Fin 2048) :
    k0_pay3 (k0_pay6 g v) (ix3 0 r x) = Adamw.square (g (ix2 r x)) (v (ix3 0 r x)) := by
  pointwise [k0_pay1, k0_pay2, k0_pay3, k0_pay4, k0_pay5, k0_pay6, k0_pay7, Adamw.square]

/-- What the result of the gradient holds. -/
theorem result4 (c : Dev nD) : (dats m 0 c).arrAt 4 cfg0.N
    = fun i => ((show Vec Ideal S512x2048 .f32 from m ((c.tc : Thread nD τ).loc main_arg1)) (ix2 (i 1) (i 2))) := by
  refine (dats m 0 c).arrAt_eq_of_covers 4 _ (by decide +kernel) fun t _ y => ?_
  have ht : t.val < 2 := lt_of_lt_of_eq t.isLt N_0
  blk_simp
  rw [after0_4]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay4_apply _ r x).trans ?_
  blk_point [iblk, V, idx0 t]

open Cert.AdwOutReferenceIdeal.Read in
/-- The result of the gradient is the reference's. -/
theorem result_eq4 (c : Dev nD) : (dats m 0 c).arrAt 4 cfg0.N = val_main_v0 (F := Ideal) (m ((c.tc : Thread nD τ).loc main_arg1)) := by
  rw [result4]
  funext i
  obtain ⟨u, r, x, rfl⟩ : ∃ (u : Fin 1) (r : Fin 512) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the step holds. -/
theorem result5 (c : Dev nD) : (dats m 0 c).arrAt 5 cfg0.N
    = fun i => Adamw.delta ((show Vec Ideal S1x512x2048 .f32 from m ((c.tc : Thread nD τ).loc main_arg0)) (ix3 0 (i 1) (i 2))) ((show Vec Ideal S512x2048 .f32 from m ((c.tc : Thread nD τ).loc main_arg1)) (ix2 (i 1) (i 2))) ((show Vec Ideal S1x512x2048 .f32 from m ((c.tc : Thread nD τ).loc main_arg2)) (ix3 0 (i 1) (i 2))) ((show Vec Ideal S1x512x2048 .f32 from m ((c.tc : Thread nD τ).loc main_arg3)) (ix3 0 (i 1) (i 2))) := by
  refine (dats m 0 c).arrAt_eq_of_covers 5 _ (by decide +kernel) fun t _ y => ?_
  have ht : t.val < 2 := lt_of_lt_of_eq t.isLt N_0
  blk_simp
  rw [after0_5]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwOutReferenceIdeal.Read in
/-- The result of the step is the reference's. -/
theorem result_eq5 (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 512) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean holds. -/
theorem result6 (c : Dev nD) : (dats m 0 c).arrAt 6 cfg0.N
    = fun i => Adamw.mean ((show Vec Ideal S512x2048 .f32 from m ((c.tc : Thread nD τ).loc main_arg1)) (ix2 (i 1) (i 2))) ((show Vec Ideal S1x512x2048 .f32 from m ((c.tc : Thread nD τ).loc main_arg2)) (ix3 0 (i 1) (i 2))) := by
  refine (dats m 0 c).arrAt_eq_of_covers 6 _ (by decide +kernel) fun t _ y => ?_
  have ht : t.val < 2 := lt_of_lt_of_eq t.isLt N_0
  blk_simp
  rw [after0_6]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwOutReferenceIdeal.Read in
/-- The result of the mean is the reference's. -/
theorem result_eq6 (c : Dev nD) : (dats m 0 c).arrAt 6 cfg0.N = val_main_v5 (F := Ideal) (m ((c.tc : Thread nD τ).loc main_arg1)) (m ((c.tc : Thread nD τ).loc main_arg2)) := by
  rw [result6]
  funext i
  obtain ⟨u, r, x, rfl⟩ : ∃ (u : Fin 1) (r : Fin 512) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean square holds. -/
theorem result7 (c : Dev nD) : (dats m 0 c).arrAt 7 cfg0.N
    = fun i => Adamw.square ((show Vec Ideal S512x2048 .f32 from m ((c.tc : Thread nD τ).loc main_arg1)) (ix2 (i 1) (i 2))) ((show Vec Ideal S1x512x2048 .f32 from m ((c.tc : Thread nD τ).loc main_arg3)) (ix3 0 (i 1) (i 2))) := by
  refine (dats m 0 c).arrAt_eq_of_covers 7 _ (by decide +kernel) fun t _ y => ?_
  have ht : t.val < 2 := lt_of_lt_of_eq t.isLt N_0
  blk_simp
  rw [after0_7]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwOutReferenceIdeal.Read in
/-- The result of the mean square is the reference's. -/
theorem result_eq7 (c : Dev nD) : (dats m 0 c).arrAt 7 cfg0.N = val_main_v11 (F := Ideal) (m ((c.tc : Thread nD τ).loc main_arg1)) (m ((c.tc : Thread nD τ).loc main_arg3)) := by
  rw [result7]
  funext i
  obtain ⟨u, r, x, rfl⟩ : ∃ (u : Fin 1) (r : Fin 512) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

end Cert.AdwOut
-- ==== Proof.AdwMlp.lean ====
module

public import proofs.«01_k».proof.Proof.Gen.AdwMlpKernelIdeal.Value
public import proofs.«01_k».proof.Proof.Gen.AdwMlpReferenceIdeal.Read
public import Idealize.ShloMosaic.Lib.Pipeline.ValueKit
public import Idealize.ShloMosaic.Lib.StableHlo.RunRead
public import Idealize.ShloMosaic.Lib.Claim
public import proofs.«01_k».proof.Proof.Adamw

/-! One AdamW step of the layer's two weights: the kernel's four results are the reference's. -/

@[expose] public section
set_option maxRecDepth 16384
noncomputable section
open Idealize.ShloMosaic Idealize.ShloMosaic.TcCoe Idealize.SL.Sem
open Idealize.ShloMosaic.Pipeline (Dat)
namespace Cert.AdwMlp
open Cert.AdwMlpKernelIdeal Cert.AdwMlpKernelIdeal.Gen

variable (m : (ℓ : Loc nD τ sig) → Buf (Elt Ideal) ℓ)

theorem idx0 : ∀ t : Fin cfg0.N, win0_0.index t = ![0, t.val, 0] ∧ win0_1.index t = ![t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The block of the gradient at an element. -/
theorem pay4_apply (g : Vec Ideal S256x2048 .f32) (r : Fin 256) (x : Fin 2048) :
    k0_pay4 g (ix3 0 r x) = (g (ix2 r x)) := by
  pointwise [k0_pay1, k0_pay2, k0_pay3, k0_pay4, k0_pay5, k0_pay6, k0_pay7]

/-- The block of the step at an element. -/
theorem pay5_apply (w : Vec Ideal S1x256x2048 .f32) (g : Vec Ideal S256x2048 .f32) (mo : Vec Ideal S1x256x2048 .f32) (v : Vec Ideal S1x256x2048 .f32) (r : Fin 256) (x : Fin 2048) :
    k0_pay1 (k0_pay7 g mo v w) (ix3 0 r x) = Adamw.delta (w (ix3 0 r x)) (g (ix2 r x)) (mo (ix3 0 r x)) (v (ix3 0 r x)) := by
  pointwise [k0_pay1, k0_pay2, k0_pay3, k0_pay4, k0_pay5, k0_pay6, k0_pay7, Adamw.delta, Adamw.mean, Adamw.square]

/-- The block of the mean at an element. -/
theorem pay6_apply (g : Vec Ideal S256x2048 .f32) (mo : Vec Ideal S1x256x2048 .f32) (r : Fin 256) (x : Fin 2048) :
    k0_pay2 (k0_pay5 g mo) (ix3 0 r x) = Adamw.mean (g (ix2 r x)) (mo (ix3 0 r x)) := by
  pointwise [k0_pay1, k0_pay2, k0_pay3, k0_pay4, k0_pay5, k0_pay6, k0_pay7, Adamw.mean]

/-- The block of the mean square at an element. -/
theorem pay7_apply (g : Vec Ideal S256x2048 .f32) (v : Vec Ideal S1x256x2048 .f32) (r : Fin 256) (x : Fin 2048) :
    k0_pay3 (k0_pay6 g v) (ix3 0 r x) = Adamw.square (g (ix2 r x)) (v (ix3 0 r x)) := by
  pointwise [k0_pay1, k0_pay2, k0_pay3, k0_pay4, k0_pay5, k0_pay6, k0_pay7, Adamw.square]

/-- What the result of the gradient holds. -/
theorem result4 (c : Dev nD) : (dats m 0 c).arrAt 4 cfg0.N
    = fun i => ((show Vec Ideal S2048x2048 .f32 from m ((c.tc : Thread nD τ).loc main_arg1)) (ix2 (i 1) (i 2))) := by
  refine (dats m 0 c).arrAt_eq_of_covers 4 _ (by decide +kernel) fun t _ y => ?_
  have ht : t.val < 8 := lt_of_lt_of_eq t.isLt N_0
  blk_simp
  rw [after0_4]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay4_apply _ r x).trans ?_
  blk_point [iblk, V, idx0 t]

open Cert.AdwMlpReferenceIdeal.Read in
/-- The result of the gradient is the reference's. -/
theorem result_eq4 (c : Dev nD) : (dats m 0 c).arrAt 4 cfg0.N = val_main_v0 (F := Ideal) (m ((c.tc : Thread nD τ).loc main_arg1)) := by
  rw [result4]
  funext i
  obtain ⟨u, r, x, rfl⟩ : ∃ (u : Fin 1) (r : Fin 2048) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the step holds. -/
theorem result5 (c : Dev nD) : (dats m 0 c).arrAt 5 cfg0.N
    = fun i => Adamw.delta ((show Vec Ideal S1x2048x2048 .f32 from m ((c.tc : Thread nD τ).loc main_arg0)) (ix3 0 (i 1) (i 2))) ((show Vec Ideal S2048x2048 .f32 from m ((c.tc : Thread nD τ).loc main_arg1)) (ix2 (i 1) (i 2))) ((show Vec Ideal S1x2048x2048 .f32 from m ((c.tc : Thread nD τ).loc main_arg2)) (ix3 0 (i 1) (i 2))) ((show Vec Ideal S1x2048x2048 .f32 from m ((c.tc : Thread nD τ).loc main_arg3)) (ix3 0 (i 1) (i 2))) := by
  refine (dats m 0 c).arrAt_eq_of_covers 5 _ (by decide +kernel) fun t _ y => ?_
  have ht : t.val < 8 := lt_of_lt_of_eq t.isLt N_0
  blk_simp
  rw [after0_5]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay5_apply _ _ _ _ r x).trans ?_
  congr 1
  all_goals blk_point [iblk, V, idx0 t]

open Cert.AdwMlpReferenceIdeal.Read in
/-- The result of the step is the reference's. -/
theorem result_eq5 (c : Dev nD) : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  rw [result5]
  funext i
  obtain ⟨u, r, x, rfl⟩ : ∃ (u : Fin 1) (r : Fin 2048) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean holds. -/
theorem result6 (c : Dev nD) : (dats m 0 c).arrAt 6 cfg0.N
    = fun i => Adamw.mean ((show Vec Ideal S2048x2048 .f32 from m ((c.tc : Thread nD τ).loc main_arg1)) (ix2 (i 1) (i 2))) ((show Vec Ideal S1x2048x2048 .f32 from m ((c.tc : Thread nD τ).loc main_arg2)) (ix3 0 (i 1) (i 2))) := by
  refine (dats m 0 c).arrAt_eq_of_covers 6 _ (by decide +kernel) fun t _ y => ?_
  have ht : t.val < 8 := lt_of_lt_of_eq t.isLt N_0
  blk_simp
  rw [after0_6]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay6_apply _ _ r x).trans ?_
  congr 1
  all_goals blk_point [iblk, V, idx0 t]

open Cert.AdwMlpReferenceIdeal.Read in
/-- The result of the mean is the reference's. -/
theorem result_eq6 (c : Dev nD) : (dats m 0 c).arrAt 6 cfg0.N = val_main_v5 (F := Ideal) (m ((c.tc : Thread nD τ).loc main_arg1)) (m ((c.tc : Thread nD τ).loc main_arg2)) := by
  rw [result6]
  funext i
  obtain ⟨u, r, x, rfl⟩ : ∃ (u : Fin 1) (r : Fin 2048) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

/-- What the result of the mean square holds. -/
theorem result7 (c : Dev nD) : (dats m 0 c).arrAt 7 cfg0.N
    = fun i => Adamw.square ((show Vec Ideal S2048x2048 .f32 from m ((c.tc : Thread nD τ).loc main_arg1)) (ix2 (i 1) (i 2))) ((show Vec Ideal S1x2048x2048 .f32 from m ((c.tc : Thread nD τ).loc main_arg3)) (ix3 0 (i 1) (i 2))) := by
  refine (dats m 0 c).arrAt_eq_of_covers 7 _ (by decide +kernel) fun t _ y => ?_
  have ht : t.val < 8 := lt_of_lt_of_eq t.isLt N_0
  blk_simp
  rw [after0_7]
  frame_out
  obtain ⟨r, x, rfl⟩ : ∃ (r : Fin 256) (x : Fin 2048), y = ix3 0 r x := ⟨y 1, y 2, by rw [eq_ix3 y]; exact congrArg (fun a => ix3 a _ _) (Subsingleton.elim _ _)⟩
  refine (pay7_apply _ _ r x).trans ?_
  congr 1
  all_goals blk_point [iblk, V, idx0 t]

open Cert.AdwMlpReferenceIdeal.Read in
/-- The result of the mean square is the reference's. -/
theorem result_eq7 (c : Dev nD) : (dats m 0 c).arrAt 7 cfg0.N = val_main_v11 (F := Ideal) (m ((c.tc : Thread nD τ).loc main_arg1)) (m ((c.tc : Thread nD τ).loc main_arg3)) := by
  rw [result7]
  funext i
  obtain ⟨u, r, x, rfl⟩ : ∃ (u : Fin 1) (r : Fin 2048) (x : Fin 2048), i = ix3 u r x := ⟨i 0, i 1, i 2, eq_ix3 i⟩
  obtain rfl : u = 0 := Subsingleton.elim _ _
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, Adamw.delta, Adamw.mean, Adamw.square]

end Cert.AdwMlp
-- ==== Proof.GdnPostFwd.lean ====
module

public import proofs.«01_k».proof.Proof.Gen.GdnPostFwdKernelIdeal.Value
public import proofs.«01_k».proof.Proof.Gen.GdnPostFwdReferenceIdeal.Read
public import Idealize.ShloMosaic.Lib.Pipeline.ValueKit
public import Idealize.ShloMosaic.Lib.Pipeline.ReadBack
public import Idealize.ShloMosaic.Lib.Claim
public import proofs.«01_k».proof.Proof.Sigmoid

/-! What follows the recurrence: each head's norm, times its weight, times the SiLU of the gate. -/

@[expose] public section
set_option maxRecDepth 16384
noncomputable section
open Idealize.ShloMosaic Idealize.ShloMosaic.TcCoe Idealize.SL.Sem
open Idealize.ShloMosaic.Pipeline (Dat)
namespace Cert.GdnPostFwd
open Cert.GdnPostFwdKernelIdeal Cert.GdnPostFwdKernelIdeal.Gen Cert.RmsMath Cert.Sigmoid

variable (m : (ℓ : Loc nD τ sig) → Buf (Elt Ideal) ℓ)

theorem idx0 : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- One element: a head's row, the gate and the weight at its column. -/
def el (o : Fin 128 → EReal) (x : Fin 128) (z w : EReal) : EReal := o x * fac n128 o * w * (z * sg z)

variable (o : Vec Ideal S512x128 .f32) (z : Vec Ideal S512x512 .f32) (w : Vec Ideal S1x128 .f32) (r : Fin 512) (x : Fin 128)

/-- The four heads' stores. -/
theorem head0 : k0_pay3 (F := Ideal) z o w (ix2 r x) = el (fun k => o (ix2 r k)) x (z (ix2 r ⟨0 + x.val, by omega⟩)) (w (ix2 0 x)) := by
  unfold el fac ms sg
  pointwise [k0_pay3, k0_pay2]
theorem head1 : k0_pay5 (F := Ideal) (k0_pay2 z) (k0_pay4 o) w (ix2 r x) = el (fun k => o (ix2 r k)) x (z (ix2 r ⟨128 + x.val, by omega⟩)) (w (ix2 0 x)) := by
  unfold el fac ms sg
  pointwise [k0_pay5, k0_pay4, k0_pay2]
theorem head2 : k0_pay6 (F := Ideal) (k0_pay2 z) o w (ix2 r x) = el (fun k => o (ix2 r k)) x (z (ix2 r ⟨256 + x.val, by omega⟩)) (w (ix2 0 x)) := by
  unfold el fac ms sg
  pointwise [k0_pay6, k0_pay2]
theorem head3 : k0_pay1 (F := Ideal) (k0_pay2 z) (k0_pay7 o w) (ix2 r x) = el (fun k => o (ix2 r k)) x (z (ix2 r ⟨384 + x.val, by omega⟩)) (w (ix2 0 x)) := by
  unfold el fac ms sg
  pointwise [k0_pay1, k0_pay7, k0_pay2]

/-- A row of 512 columns, cut at its heads. -/
def row (X : Fin 512 → EReal) (j : Fin 512) (k : Fin 128) : EReal := X ⟨j.val / 128 * 128 + k.val, by omega⟩

/-- The whole block at an element. -/
def blkf (x0 x1 : Vec Ideal S512x512 .f32) (x2 : Vec Ideal S1x128 .f32) (r : Fin 512) (j : Fin 512) : EReal :=
  el (row (fun k => x0 (ix2 r k)) j) ⟨j.val % 128, by omega⟩ (x1 (ix2 r j)) (x2 (ix2 0 ⟨j.val % 128, by omega⟩))

/-- A load of one head's columns. -/
theorem ld_head (X : Vec Ideal S512x512 .f32) (off : ℕ) (inb) (r : Fin 512) (x : Fin 128) (j : Fin 512) (h : j.val = off + x.val) :
    View.ld X (Rect.unit (s := S512x512) ![0, off] S512x128.size inb) (ix2 r x) = X (ix2 r j) := by
  refine congrArg X (funext fun a => Fin.ext ?_)
  match a with
  | ⟨0, _⟩ => show 0 + 1 * r.val = r.val; omega
  | ⟨1, _⟩ => show off + 1 * x.val = j.val; omega

/-- A head's element is the block's. -/
theorem el_blkf (x0 x1 : Vec Ideal S512x512 .f32) (x2 : Vec Ideal S1x128 .f32) (h : Fin 4) (o : Fin 128 → EReal) (z w : EReal) (j : Fin 512)
    (hj : j.val = 128 * h.val + x.val) (ho : ∀ (k : Fin 128) (q : Fin 512), q.val = 128 * h.val + k.val → o k = x0 (ix2 r q))
    (hz : z = x1 (ix2 r j)) (hw : w = x2 (ix2 0 x)) : el o x z w = blkf x0 x1 x2 r j := by
  have e : (⟨j.val % 128, by omega⟩ : Fin 128) = x := Fin.ext (show j.val % 128 = x.val by omega)
  have eo : o = row (fun k => x0 (ix2 r k)) j := funext fun k => ho k _ (show j.val / 128 * 128 + k.val = 128 * h.val + k.val by omega)
  unfold blkf
  rw [e, ← eo, hz, hw]

theorem piece0 (x0 x1 : Vec Ideal S512x512 .f32) (x2 : Vec Ideal S1x128 .f32) (y : S512x128.Idx) :
    k0_pay3 (F := Ideal) (View.ld x1 r0_0) (View.ld x0 r0_1) (View.ld x2 r0_2) y = blkf x0 x1 x2 (r0_1.emb y 0) (r0_1.emb y 1) := by
  obtain ⟨r, x, rfl⟩ : ∃ (r : Fin 512) (x : Fin 128), y = ix2 r x := ⟨y 0, y 1, eq_ix2 y⟩
  refine (head0 _ _ _ r x).trans ?_
  refine (el_blkf r x x0 x1 x2 0 _ _ _ ⟨0 + x.val, by omega⟩ rfl (fun k q hq => ld_head x0 0 _ r k q hq)
    (congrFun (View.ld_unit_zero (by decide) _ _) _) (congrFun (View.ld_unit_zero (by decide) _ _) _)).trans ?_
  refine congrArg₂ (blkf x0 x1 x2) (Fin.ext ?_) (Fin.ext ?_)
  · show r.val = 0 + 1 * r.val; omega
  · show 0 + x.val = 0 + 1 * x.val; omega
theorem piece1 (x0 x1 : Vec Ideal S512x512 .f32) (x2 : Vec Ideal S1x128 .f32) (y : S512x128.Idx) :
    k0_pay5 (F := Ideal) (k0_pay2 (View.ld x1 r0_0)) (k0_pay4 (View.ld x0 r0_3)) (View.ld x2 r0_2) y = blkf x0 x1 x2 (r0_3.emb y 0) (r0_3.emb y 1) := by
  obtain ⟨r, x, rfl⟩ : ∃ (r : Fin 512) (x : Fin 128), y = ix2 r x := ⟨y 0, y 1, eq_ix2 y⟩
  refine (head1 _ _ _ r x).trans ?_
  refine (el_blkf r x x0 x1 x2 1 _ _ _ ⟨128 + x.val, by omega⟩ rfl (fun k q hq => ld_head x0 128 _ r k q hq)
    (congrFun (View.ld_unit_zero (by decide) _ _) _) (congrFun (View.ld_unit_zero (by decide) _ _) _)).trans ?_
  refine congrArg₂ (blkf x0 x1 x2) (Fin.ext ?_) (Fin.ext ?_)
  · show r.val = 0 + 1 * r.val; omega
  · show 128 + x.val = 128 + 1 * x.val; omega
theorem piece2 (x0 x1 : Vec Ideal S512x512 .f32) (x2 : Vec Ideal S1x128 .f32) (y : S512x128.Idx) :
    k0_pay6 (F := Ideal) (k0_pay2 (View.ld x1 r0_0)) (View.ld x0 r0_4) (View.ld x2 r0_2) y = blkf x0 x1 x2 (r0_4.emb y 0) (r0_4.emb y 1) := by
  obtain ⟨r, x, rfl⟩ : ∃ (r : Fin 512) (x : Fin 128), y = ix2 r x := ⟨y 0, y 1, eq_ix2 y⟩
  refine (head2 _ _ _ r x).trans ?_
  refine (el_blkf r x x0 x1 x2 2 _ _ _ ⟨256 + x.val, by omega⟩ rfl (fun k q hq => ld_head x0 256 _ r k q hq)
    (congrFun (View.ld_unit_zero (by decide) _ _) _) (congrFun (View.ld_unit_zero (by decide) _ _) _)).trans ?_
  refine congrArg₂ (blkf x0 x1 x2) (Fin.ext ?_) (Fin.ext ?_)
  · show r.val = 0 + 1 * r.val; omega
  · show 256 + x.val = 256 + 1 * x.val; omega
theorem piece3 (x0 x1 : Vec Ideal S512x512 .f32) (x2 : Vec Ideal S1x128 .f32) (y : S512x128.Idx) :
    k0_pay1 (F := Ideal) (k0_pay2 (View.ld x1 r0_0)) (k0_pay7 (View.ld x0 r0_5) (View.ld x2 r0_2)) y = blkf x0 x1 x2 (r0_5.emb y 0) (r0_5.emb y 1) := by
  obtain ⟨r, x, rfl⟩ : ∃ (r : Fin 512) (x : Fin 128), y = ix2 r x := ⟨y 0, y 1, eq_ix2 y⟩
  refine (head3 _ _ _ r x).trans ?_
  refine (el_blkf r x x0 x1 x2 3 _ _ _ ⟨384 + x.val, by omega⟩ rfl (fun k q hq => ld_head x0 384 _ r k q hq)
    (congrFun (View.ld_unit_zero (by decide) _ _) _) (congrFun (View.ld_unit_zero (by decide) _ _) _)).trans ?_
  refine congrArg₂ (blkf x0 x1 x2) (Fin.ext ?_) (Fin.ext ?_)
  · show r.val = 0 + 1 * r.val; omega
  · show 384 + x.val = 384 + 1 * x.val; omega
/-- What the body leaves in its output block. -/
theorem out_apply (x0 x1 : Vec Ideal S512x512 .f32) (x2 : Vec Ideal S1x128 .f32) (y : S512x512.Idx) :
    out0_3 (F := Ideal) x0 x1 x2 y = blkf x0 x1 x2 (y 0) (y 1) := by
  unfold out0_3
  refine View.canon_apply_of_pieces (Val := Elt Ideal) (fun y => blkf x0 x1 x2 (y 0) (y 1)) _ ?_ y (cover0_3 _ _ _ _ y)
  intro p hp
  simp only [List.mem_cons, List.not_mem_nil, or_false] at hp
  rcases hp with rfl | rfl | rfl | rfl
  · exact piece3 x0 x1 x2
  · exact piece2 x0 x1 x2
  · exact piece1 x0 x1 x2
  · exact piece0 x0 x1 x2

/-- The arguments at an element. -/
def O (c : Dev nD) (r : Fin 8192) (k : Fin 512) : EReal := (show Vec Ideal S8192x512 .f32 from m ((c.tc : Thread nD τ).loc main_arg0)) (ix2 r k)
def Z (c : Dev nD) (r : Fin 8192) (k : Fin 512) : EReal := (show Vec Ideal S8192x512 .f32 from m ((c.tc : Thread nD τ).loc main_arg1)) (ix2 r k)

/-- The arguments' blocks are their rows. -/
theorem blk0 (c : Dev nD) (t : Fin cfg0.N) (r : Fin 512) (k : Fin 512) (R : Fin 8192) (h : R.val = t.val * 512 + r.val) :
    (iblk m c 0 t : Vec Ideal S512x512 .f32) (ix2 r k) = O m c R k := by
  have ht : t.val < 16 := lt_of_lt_of_eq t.isLt N_0
  have hb : t.val * 512 + r.val < 8192 := h ▸ R.isLt
  obtain rfl : R = ⟨t.val * 512 + r.val, hb⟩ := Fin.ext h
  unfold O; blk_point [iblk, V, idx0 t]
theorem blk1 (c : Dev nD) (t : Fin cfg0.N) (r : Fin 512) (k : Fin 512) (R : Fin 8192) (h : R.val = t.val * 512 + r.val) :
    (iblk m c 1 t : Vec Ideal S512x512 .f32) (ix2 r k) = Z m c R k := by
  have ht : t.val < 16 := lt_of_lt_of_eq t.isLt N_0
  have hb : t.val * 512 + r.val < 8192 := h ▸ R.isLt
  obtain rfl : R = ⟨t.val * 512 + r.val, hb⟩ := Fin.ext h
  unfold Z; blk_point [iblk, V, idx0 t]
theorem blk2 (c : Dev nD) (t : Fin cfg0.N) (k : Fin 128) :
    (iblk m c 2 t : Vec Ideal S1x128 .f32) (ix2 0 k) = (show Vec Ideal S1x128 .f32 from m ((c.tc : Thread nD τ).loc main_arg2)) (ix2 0 k) := by
  have ht : t.val < 16 := lt_of_lt_of_eq t.isLt N_0
  blk_point [iblk, V, idx0 t]

/-- The kernel's result at an element of the array. -/
def res (c : Dev nD) (r : Fin 8192) (j : Fin 512) : EReal :=
  el (row (O m c r) j) ⟨j.val % 128, by omega⟩ (Z m c r j) ((show Vec Ideal S1x128 .f32 from m ((c.tc : Thread nD τ).loc main_arg2)) (ix2 0 ⟨j.val % 128, by omega⟩))

theorem res_blk (c : Dev nD) (t : Fin cfg0.N) (r : Fin 512) (j : Fin 512) (R : Fin 8192) (h : R.val = t.val * 512 + r.val) :
    blkf (iblk m c 0 t) (iblk m c 1 t) (iblk m c 2 t) r j = res m c R j := by
  unfold blkf res
  simp only [blk0 m c t r _ R h, blk1 m c t r _ R h, blk2 m c t]

/-- The kernel's result. -/
theorem result (c : Dev nD) : (dats m 0 c).arrAt 3 cfg0.N = fun i => res m c (i 0) (i 1) := by
  refine (dats m 0 c).arrAt_eq_of_covers 3 _ (by decide +kernel) fun t _ y => ?_
  have ht : t.val < 16 := lt_of_lt_of_eq t.isLt N_0
  blk_simp
  rw [after0_3]
  obtain ⟨r, x, rfl⟩ : ∃ (r : Fin 512) (x : Fin 512), y = ix2 r x := ⟨y 0, y 1, eq_ix2 y⟩
  refine (out_apply _ _ _ _).trans ?_
  refine (res_blk m c t r x ⟨t.val * 512 + r.val, by omega⟩ rfl).trans ?_
  generalize res m c = f
  refine congrArg₂ f (Fin.ext ?_) (Fin.ext ?_) <;> blk_point [idx0 t]

open Cert.GdnPostFwdReferenceIdeal.Read in
/-- The kernel's result is the reference's. -/
theorem result_eq (c : Dev nD) : (dats m 0 c).arrAt 3 cfg0.N = val_main_v18 (F := Ideal) (m ((c.tc : Thread nD τ).loc main_arg0)) (m ((c.tc : Thread nD τ).loc main_arg1)) (m ((c.tc : Thread nD τ).loc main_arg2)) := by
  rw [result]
  funext i
  obtain ⟨r, x, rfl⟩ : ∃ (r : Fin 8192) (x : Fin 512), i = ix2 r x := ⟨i 0, i 1, eq_ix2 i⟩
  show res m c r x = _
  unfold res el
  rw [sg_eq]
  unfold fac ms row O Z
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0]
  simp only [Nat.div_add_mod', Fin.eta]

end Cert.GdnPostFwd
-- ==== Proof.MemKv.lean ====
module

public import proofs.«01_k».proof.Proof.Gen.MemKvKernelIdeal.Value
public import proofs.«01_k».proof.Proof.Gen.MemKvReferenceIdeal.Read
public import Idealize.ShloMosaic.Lib.Pipeline.ValueKit
public import Idealize.ShloMosaic.Lib.Claim

/-! The memory's keys and values: the kernel's product is the reference's. -/

@[expose] public section
set_option maxRecDepth 16384
noncomputable section
open Idealize.ShloMosaic Idealize.ShloMosaic.TcCoe Idealize.SL.Sem
open Idealize.ShloMosaic.Pipeline (Dat)
namespace Cert.MemKv
open Cert.MemKvKernelIdeal Cert.MemKvKernelIdeal.Gen

variable (m : (ℓ : Loc nD τ sig) → Buf (Elt Ideal) ℓ)

theorem idx0 : ∀ t : Fin cfg0.N, win0_0.index t = ![0, 0] ∧ win0_1.index t = ![0, 0] ∧ win0_2.index t = ![0, 0] :=
  (by decide +kernel : ∀ t : Fin grid0.N, _)

/-- The product of two blocks at an element. -/
theorem part_apply (a : Vec Ideal S256x2048 .bf16) (b : Vec Ideal S2048x1024 .bf16) (r : Fin 256) (c : Fin 1024) :
    k0_pay1 (F := Ideal) a b (ix2 r c) = ∑ k : Fin 2048, a (ix2 r k) * b (ix2 k c) := by
  pointwise [k0_pay1]

/-- The kernel's result at an element. -/
theorem result (c : Dev nD) : (dats m 0 c).arrAt 2 cfg0.N = fun i => ∑ k : Fin 2048, (show Vec Ideal S256x2048 .bf16 from m ((c.tc : Thread nD τ).loc main_arg0)) (ix2 (i 0) k) * (show Vec Ideal S2048x1024 .bf16 from m ((c.tc : Thread nD τ).loc main_arg1)) (ix2 k (i 1)) := by
  refine (dats m 0 c).arrAt_eq_of_covers 2 _ (by decide +kernel) fun t _ y => ?_
  have ht : t.val < 1 := lt_of_lt_of_eq t.isLt N_0
  blk_simp
  rw [after0_2]
  obtain ⟨r, x, rfl⟩ : ∃ (r : Fin 256) (x : Fin 1024), y = ix2 r x := ⟨y 0, y 1, eq_ix2 y⟩
  frame_out
  refine (part_apply _ _ r x).trans ?_
  refine Finset.sum_congr rfl fun k _ => ?_
  blk_point [iblk, V, idx0 t]

open Cert.MemKvReferenceIdeal.Read in
/-- The kernel's result is the reference's. -/
theorem result_eq (c : Dev nD) : (dats m 0 c).arrAt 2 cfg0.N = val_main_v3 (F := Ideal) (m ((c.tc : Thread nD τ).loc main_arg0)) (m ((c.tc : Thread nD τ).loc main_arg1)) := by
  rw [result]
  funext i
  obtain ⟨r, x, rfl⟩ : ∃ (r : Fin 256) (x : Fin 1024), i = ix2 r x := ⟨i 0, i 1, eq_ix2 i⟩
  pointwise [val_main_v3, val_main_v2, val_main_v1, val_main_v0]

end Cert.MemKv
-- ==== Proof.MemX.lean ====
module

public import proofs.«01_k».proof.Proof.Gen.MemXKernelIdeal.Value
public import proofs.«01_k».proof.Proof.Gen.MemXReferenceIdeal.Read
public import Idealize.ShloMosaic.Lib.Pipeline.ValueKit
public import Idealize.ShloMosaic.Lib.Claim

/-! The gradient of the memory's keys and values by the memory: the kernel's product with the transposed weight is the derivative's. -/

@[expose] public section
set_option maxRecDepth 16384
noncomputable section
open Idealize.ShloMosaic Idealize.ShloMosaic.TcCoe Idealize.SL.Sem
open Idealize.ShloMosaic.Pipeline (Dat)
namespace Cert.MemX
open Cert.MemXKernelIdeal Cert.MemXKernelIdeal.Gen

variable (m : (ℓ : Loc nD τ sig) → Buf (Elt Ideal) ℓ)

theorem idx0 : ∀ t : Fin cfg0.N, win0_0.index t = ![0, 0] ∧ win0_1.index t = ![t.val, 0] ∧ win0_2.index t = ![0, t.val] :=
  (by decide +kernel : ∀ t : Fin grid0.N, _)

/-- The product of two blocks at an element. -/
theorem part_apply (a : Vec Ideal S256x1024 .f32) (b : Vec Ideal S1024x1024 .bf16) (r : Fin 256) (c : Fin 1024) :
    k0_pay1 (F := Ideal) a b (ix2 r c) = ∑ k : Fin 1024, a (ix2 r k) * b (ix2 c k) := by
  pointwise [k0_pay1]

/-- The kernel's result at an element. -/
theorem result (c : Dev nD) : (dats m 0 c).arrAt 2 cfg0.N = fun i => ∑ k : Fin 1024, (show Vec Ideal S256x1024 .f32 from m ((c.tc : Thread nD τ).loc main_arg2)) (ix2 (i 0) k) * (show Vec Ideal S2048x1024 .bf16 from m ((c.tc : Thread nD τ).loc main_arg1)) (ix2 (i 1) k) := by
  refine (dats m 0 c).arrAt_eq_of_covers 2 _ (by decide +kernel) fun t _ y => ?_
  have ht : t.val < 2 := lt_of_lt_of_eq t.isLt N_0
  blk_simp
  rw [after0_2]
  obtain ⟨r, x, rfl⟩ : ∃ (r : Fin 256) (x : Fin 1024), y = ix2 r x := ⟨y 0, y 1, eq_ix2 y⟩
  frame_out
  refine (part_apply _ _ r x).trans ?_
  refine Finset.sum_congr rfl fun k _ => ?_
  blk_point [iblk, V, idx0 t]

open Cert.MemXReferenceIdeal.Read in
/-- The kernel's result is the reference's. -/
theorem result_eq (c : Dev nD) : (dats m 0 c).arrAt 2 cfg0.N = val_main_v5 (F := Ideal) (m ((c.tc : Thread nD τ).loc main_arg1)) (m ((c.tc : Thread nD τ).loc main_arg2)) := by
  rw [result]
  funext i
  obtain ⟨r, x, rfl⟩ : ∃ (r : Fin 256) (x : Fin 2048), i = ix2 r x := ⟨i 0, i 1, eq_ix2 i⟩
  pointwise [val_main_v5, val_main_v1]

end Cert.MemX
-- ==== Proof.MemW.lean ====
module

public import proofs.«01_k».proof.Proof.Gen.MemWKernelIdeal.Value
public import proofs.«01_k».proof.Proof.Gen.MemWReferenceIdeal.Read
public import Idealize.ShloMosaic.Lib.Pipeline.ValueKit
public import Idealize.ShloMosaic.Lib.Claim

/-! The gradient of the memory's keys and values by the weight: the kernel's product of the transposed memory with the gradient is the derivative's. -/

@[expose] public section
set_option maxRecDepth 16384
noncomputable section
open Idealize.ShloMosaic Idealize.ShloMosaic.TcCoe Idealize.SL.Sem
open Idealize.ShloMosaic.Pipeline (Dat)
namespace Cert.MemW
open Cert.MemWKernelIdeal Cert.MemWKernelIdeal.Gen

variable (m : (ℓ : Loc nD τ sig) → Buf (Elt Ideal) ℓ)

theorem idx0 : ∀ t : Fin cfg0.N, win0_0.index t = ![0, t.val] ∧ win0_1.index t = ![0, 0] ∧ win0_2.index t = ![t.val, 0] :=
  (by decide +kernel : ∀ t : Fin grid0.N, _)

/-- The product of two blocks at an element. -/
theorem part_apply (a : Vec Ideal S256x1024 .bf16) (b : Vec Ideal S256x1024 .f32) (r : Fin 1024) (c : Fin 1024) :
    k0_pay1 (F := Ideal) a b (ix2 r c) = ∑ k : Fin 256, a (ix2 k r) * b (ix2 k c) := by
  pointwise [k0_pay1]

/-- The kernel's result at an element. -/
theorem result (c : Dev nD) : (dats m 0 c).arrAt 2 cfg0.N = fun i => ∑ k : Fin 256, (show Vec Ideal S256x2048 .bf16 from m ((c.tc : Thread nD τ).loc main_arg0)) (ix2 k (i 0)) * (show Vec Ideal S256x1024 .f32 from m ((c.tc : Thread nD τ).loc main_arg2)) (ix2 k (i 1)) := by
  refine (dats m 0 c).arrAt_eq_of_covers 2 _ (by decide +kernel) fun t _ y => ?_
  have ht : t.val < 2 := lt_of_lt_of_eq t.isLt N_0
  blk_simp
  rw [after0_2]
  obtain ⟨r, x, rfl⟩ : ∃ (r : Fin 1024) (x : Fin 1024), y = ix2 r x := ⟨y 0, y 1, eq_ix2 y⟩
  frame_out
  refine (part_apply _ _ r x).trans ?_
  refine Finset.sum_congr rfl fun k _ => ?_
  blk_point [iblk, V, idx0 t]

open Cert.MemWReferenceIdeal.Read in
/-- The kernel's result is the reference's. -/
theorem result_eq (c : Dev nD) : (dats m 0 c).arrAt 2 cfg0.N = val_main_v6 (F := Ideal) (m ((c.tc : Thread nD τ).loc main_arg0)) (m ((c.tc : Thread nD τ).loc main_arg2)) := by
  rw [result]
  funext i
  obtain ⟨r, x, rfl⟩ : ∃ (r : Fin 2048) (x : Fin 1024), i = ix2 r x := ⟨i 0, i 1, eq_ix2 i⟩
  pointwise [val_main_v6, val_main_v4, val_main_v3, val_main_v0]
  exact Finset.sum_congr rfl fun k _ => mul_comm _ _

end Cert.MemW
-- ==== Proof.XaFwd.lean ====
module

public import proofs.«01_k».proof.Proof.Gen.XaFwdKernelIdeal.Value
public import proofs.«01_k».proof.Proof.Gen.XaFwdReferenceIdeal.Read
public import proofs.«01_k».proof.Proof.Gen.Pre_xa_fwd_finite
public import proofs.«01_k».proof.Proof.XaEq

/-! The cross-attention's forward call: the kernel's result is the reference's, where the queries and the memory's keys are finite. -/

@[expose] public section
set_option maxRecDepth 16384
noncomputable section
open Idealize.ShloMosaic Idealize.ShloMosaic.TcCoe Idealize.SL.Sem
namespace Cert.XaFwd
open Cert.XaFwdKernelIdeal Cert.XaFwdKernelIdeal.Gen Cert.Xa

/-- What a head's part of a block is: its probabilities times its values. -/
def att (s : Fin 256 → EReal) (v : Fin 256 → EReal) : EReal := ∑ j, prob s j * v j

variable (a : Vec Ideal S512x128 .bf16) (b v : Vec Ideal S256x128 .bf16) (r : Fin 512) (x : Fin 128)

/-- The scores of a row of queries against the keys. -/
abbrev scores (a : Vec Ideal S512x128 .bf16) (b : Vec Ideal S256x128 .bf16) (r : Fin 512) : Fin 256 → EReal :=
  fun j => sc (fun x => a (ix2 r x)) (fun x => b (ix2 j x))

/-- The four heads' parts. -/
theorem head0 : k0_pay7 (F := Ideal) (k0_pay4 a b) v (ix2 r x) = att (scores a b r) fun j => v (ix2 j x) := by
  pointwise [k0_pay7, k0_pay4]
  rfl
theorem head1 : k0_pay8 (F := Ideal) (k0_pay5 a b) v (ix2 r x) = att (scores a b r) fun j => v (ix2 j x) := by
  pointwise [k0_pay8, k0_pay5]
  rfl
theorem head2 : k0_pay9 (F := Ideal) (k0_pay2 a b) (k0_pay6 a b) v (ix2 r x) = att (scores a b r) fun j => v (ix2 j x) := by
  pointwise [k0_pay9, k0_pay2, k0_pay6]
  rfl
theorem prob3 (j : Fin 256) : k0_pay10 (F := Ideal) (k0_pay3 a b) (ix2 r j) = prob (scores a b r) j := by
  pointwise [k0_pay10, k0_pay3]
  rfl

/-- The last head's product on its probabilities. -/
def last (p : FVec Ideal S512x256 .bf16) (v : Vec Ideal S256x128 .bf16) : FVec Ideal S512x128 .f32 :=
  fun y => ∑ j, p (ix2 (y 0) j) * v (ix2 j (y 1))

/-- The heads beside each other. -/
theorem cat (a b c : FVec Ideal S512x128 .f32) (p : FVec Ideal S512x256 .bf16) (v : Vec Ideal S256x128 .bf16) (h : Fin 4) :
    k0_pay1 (F := Ideal) a b c p v (ix2 r (hc h x)) = (![a, b, c, last p v] h) (ix2 r x) := by
  pointwise [k0_pay1]
  have := x.isLt
  match h with
  | ⟨0, _⟩ => rw [dif_pos (by simp only [hc]; omega)]; exact congrArg (fun y => a (ix2 r y)) (Fin.ext (by simp only [hc]; omega))
  | ⟨1, _⟩ =>
    rw [dif_neg (by simp only [hc]; omega), dif_pos (by simp only [hc]; omega)]
    exact congrArg (fun y => b (ix2 r y)) (Fin.ext (by simp only [hc]; omega))
  | ⟨2, _⟩ =>
    rw [dif_neg (by simp only [hc]; omega), dif_neg (by simp only [hc]; omega), dif_pos (by simp only [hc]; omega)]
    exact congrArg (fun y => c (ix2 r y)) (Fin.ext (by simp only [hc]; omega))
  | ⟨3, _⟩ =>
    rw [dif_neg (by simp only [hc]; omega), dif_neg (by simp only [hc]; omega), dif_neg (by simp only [hc]; omega)]
    exact Finset.sum_congr rfl fun j _ => congrArg (fun y => p (ix2 r j) * v (ix2 j y)) (Fin.ext (by show _ = x.val; simp only [hc]; omega))

/-- A load of a head's columns of the queries. -/
theorem ld_q (A : Vec Ideal S512x512 .bf16) (h : Fin 4) (off : ℕ) (inb) (e : off = h.val * 128) (r : Fin 512) (x : Fin 128) :
    View.ld A (Rect.unit (s := S512x512) ![0, off] S512x128.size inb) (ix2 r x) = A (ix2 r (hc h x)) := by
  subst e
  refine congrArg A (funext fun a => Fin.ext ?_)
  match a with
  | ⟨0, _⟩ => show 0 + 1 * r.val = r.val; omega
  | ⟨1, _⟩ => show h.val * 128 + 1 * x.val = h.val * 128 + x.val; omega
/-- A load of 128 of the memory's columns. -/
theorem ld_m (A : Vec Ideal S256x1024 .bf16) (off : ℕ) (inb) (j : Fin 256) (x : Fin 128) (k : Fin 1024) (e : k.val = off + x.val) :
    View.ld A (Rect.unit (s := S256x1024) ![0, off] S256x128.size inb) (ix2 j x) = A (ix2 j k) := by
  refine congrArg A (funext fun a => Fin.ext ?_)
  match a with
  | ⟨0, _⟩ => show 0 + 1 * j.val = j.val; omega
  | ⟨1, _⟩ => show off + 1 * x.val = k.val; omega

/-- An element of the result, of a row of queries and the memory. -/
def el (q : Fin 512 → EReal) (kv : Fin 256 → Fin 1024 → EReal) (h : Fin 4) (x : Fin 128) : EReal :=
  att (srow q kv h) fun j => kv j (vc h x)

/-- A block of the result at an element. -/
theorem blk_apply (Q : Vec Ideal S512x512 .bf16) (M : Vec Ideal S256x1024 .bf16) (h : Fin 4) :
    k0_pay1 (F := Ideal) (k0_pay7 (k0_pay4 (View.ld Q r0_0) (View.ld M r0_1)) (View.ld M r0_8)) (k0_pay8 (k0_pay5 (View.ld Q r0_2) (View.ld M r0_3)) (View.ld M r0_9)) (k0_pay9 (k0_pay2 (View.ld Q r0_4) (View.ld M r0_5)) (k0_pay6 (View.ld Q r0_4) (View.ld M r0_5)) (View.ld M r0_10)) (k0_pay10 (k0_pay3 (View.ld Q r0_6) (View.ld M r0_7))) (View.ld M r0_11) (ix2 r (hc h x))
      = el (fun k => Q (ix2 r k)) (fun j k => M (ix2 j k)) h x := by
  rw [cat]
  have key : ∀ (oq ok ov : ℕ) (iq) (ik) (iv), oq = h.val * 128 → ok = h.val * 128 → ov = 512 + h.val * 128 →
      att (scores (View.ld Q (Rect.unit (s := S512x512) ![0, oq] S512x128.size iq)) (View.ld M (Rect.unit (s := S256x1024) ![0, ok] S256x128.size ik)) r)
        (fun j => View.ld M (Rect.unit (s := S256x1024) ![0, ov] S256x128.size iv) (ix2 j x)) = el (fun k => Q (ix2 r k)) (fun j k => M (ix2 j k)) h x := by
    intro oq ok ov iq ik iv e1 e2 e3
    refine congrArg₂ att (funext fun j => congrArg₂ sc (funext fun z => ld_q Q h oq iq e1 r z) (funext fun z => ld_m M ok ik j z _ ?_)) (funext fun j => ld_m M ov iv j x _ ?_)
    · simp only [kc]; omega
    · simp only [vc]; omega
  match h with
  | ⟨0, _⟩ => exact (head0 _ _ _ r x).trans (key _ _ _ _ _ _ rfl rfl rfl)
  | ⟨1, _⟩ => exact (head1 _ _ _ r x).trans (key _ _ _ _ _ _ rfl rfl rfl)
  | ⟨2, _⟩ => exact (head2 _ _ _ r x).trans (key _ _ _ _ _ _ rfl rfl rfl)
  | ⟨3, _⟩ => exact (Finset.sum_congr rfl fun j _ => congrArg (· * _) (prob3 _ _ r j)).trans (key _ _ _ _ _ _ rfl rfl rfl)

variable (m : (ℓ : Loc nD τ sig) → Buf (Elt Ideal) ℓ)

theorem idx0 : ∀ t : Fin cfg0.N, win0_0.index t = ![t.val, 0] ∧ win0_1.index t = ![0, 0] ∧ win0_2.index t = ![t.val, 0] :=
  (by decide +kernel : ∀ t : Fin grid0.N, _)

/-- The queries and the memory by row and column. -/
def Q (c : Dev nD) (r : Fin 8192) (k : Fin 512) : EReal := m ((c.tc : Thread nD τ).loc main_arg0) (ix2 r k)
def M (c : Dev nD) (j : Fin 256) (k : Fin 1024) : EReal := m ((c.tc : Thread nD τ).loc main_arg1) (ix2 j k)

theorem blk0 (c : Dev nD) (t : Fin cfg0.N) (r : Fin 512) (k : Fin 512) (R : Fin 8192) (h : R.val = t.val * 512 + r.val) :
    (show Vec Ideal S512x512 .bf16 from iblk m c 0 t) (ix2 r k) = Q m c R k := by
  obtain ⟨R, hR⟩ := R
  obtain rfl : R = t.val * 512 + r.val := h
  unfold Q; blk_point [iblk, V, idx0 t]
theorem blk1 (c : Dev nD) (t : Fin cfg0.N) (j : Fin 256) (k : Fin 1024) :
    (show Vec Ideal S256x1024 .bf16 from iblk m c 1 t) (ix2 j k) = M m c j k := by
  unfold M; blk_point [iblk, V, idx0 t]

/-- The kernel's result at an element. -/
def res (c : Dev nD) (r : Fin 8192) (k : Fin 512) : EReal :=
  el (Q m c r) (M m c) ⟨k.val / 128, by omega⟩ ⟨k.val % 128, Nat.mod_lt _ (by decide)⟩

/-- The kernel's result. -/
theorem result (c : Dev nD) : (dats m 0 c).arrAt 2 cfg0.N = fun i => res m c (i 0) (i 1) := by
  refine (dats m 0 c).arrAt_eq_of_covers 2 _ (by decide +kernel) fun t _ y => ?_
  have ht : t.val < 16 := lt_of_lt_of_eq t.isLt N_0
  blk_simp
  rw [after0_2]
  obtain ⟨r, k, rfl⟩ : ∃ (r : Fin 512) (k : Fin 512), y = ix2 r k := ⟨y 0, y 1, eq_ix2 y⟩
  frame_out
  have hk : k = hc ⟨k.val / 128, by omega⟩ ⟨k.val % 128, Nat.mod_lt _ (by decide)⟩ := Fin.ext (by simp only [hc]; omega)
  refine Eq.trans (congrArg (fun k => k0_pay1 (F := Ideal) _ _ _ _ _ (ix2 r k)) hk) ?_
  refine (blk_apply r _ _ _ _).trans ?_
  refine Eq.trans (congrArg₂ (fun q M => el q M _ _) (funext fun k => blk0 m c t r k ⟨t.val * 512 + r.val, by omega⟩ rfl) (funext fun j => funext fun k => blk1 m c t j k)) ?_
  show res m c ⟨t.val * 512 + r.val, _⟩ k = _
  generalize res m c = f
  refine congrArg₂ f (Fin.ext ?_) (Fin.ext ?_) <;> blk_point [idx0 t]

section Reference
open Cert.XaFwdReferenceIdeal.Read
variable (q : Vec Ideal S8192x512 .bf16) (kv : Vec Ideal S256x1024 .bf16)

/-- The reference's scores, their maximum, exponentials, sum and probabilities. -/
theorem s_apply (h : Fin 4) (r : Fin 8192) (j : Fin 256) :
    val_main_v11 q kv (ix4 0 h r j) = srow (fun k => q (ix2 r k)) (fun j k => kv (ix2 j k)) h j := by
  pointwise [val_main_v11, val_main_v10, val_main_cst, val_main_v9, val_main_v7, val_main_v5, val_main_v4, val_main_v3, val_main_v2, val_main_v1, val_main_v0]
  rfl
theorem fold_apply (h : Fin 4) (r : Fin 8192) :
    val_main_v12 q kv (ix3 0 h r) = mx (srow (fun k => q (ix2 r k)) (fun j k => kv (ix2 j k)) h) := by
  pointwise [val_main_v12]
  simp only [s_apply]
  rfl
theorem mx_apply (h : Fin 4) (r : Fin 8192) :
    val_main_v14 q kv (ix3 0 h r) = mx (srow (fun k => q (ix2 r k)) (fun j k => kv (ix2 j k)) h) := by
  rw [val_main_v14_apply, val_main_v13_apply, val_main_cst_1_apply, fold_apply]
  exact max_mx _
theorem ex_apply (h : Fin 4) (r : Fin 8192) (j : Fin 256) :
    val_main_v18 q kv (ix4 0 h r j) = ex (srow (fun k => q (ix2 r k)) (fun j k => kv (ix2 j k)) h) j := by
  pointwise [val_main_v18, val_main_v17, val_main_v16, val_main_v15]
  rw [s_apply, mx_apply]; rfl
theorem sum_apply (h : Fin 4) (r : Fin 8192) :
    val_main_v19 q kv (ix3 0 h r) = ∑ x, ex (srow (fun k => q (ix2 r k)) (fun j k => kv (ix2 j k)) h) x := by
  pointwise [val_main_v19, val_main_cst_2]
  simp only [ex_apply]
theorem prob_apply (h : Fin 4) (r : Fin 8192) (j : Fin 256) :
    val_main_v22 q kv (ix4 0 h r j) = probR (srow (fun k => q (ix2 r k)) (fun j k => kv (ix2 j k)) h) j := by
  pointwise [val_main_v22, val_main_v21, val_main_v20]
  rw [ex_apply, sum_apply]; rfl
/-- The reference's result. -/
theorem out_apply (h : Fin 4) (r : Fin 8192) (x : Fin 128) :
    val_main_v27 q kv (ix2 r (hc h x)) = ∑ j, kv (ix2 j (vc h x)) * probR (srow (fun k => q (ix2 r k)) (fun j k => kv (ix2 j k)) h) j := by
  pointwise [val_main_v27, val_main_v26, val_main_v25, val_main_v24, val_main_v23, val_main_v8, val_main_v6, val_main_v3, val_main_v2]
  simp only [hc_div, hc_mod, prob_apply]
  rfl

/-- The precondition says that the queries and the keys are real. -/
theorem pre_real [Cert.Pre_xa_fwd_finite.Facts] (h : Cert.Pre_xa_fwd_finite.fn (F := Ideal) q kv = fun _ => 1#1) :
    (∀ r k, ∃ x : ℝ, q (ix2 r k) = (x : EReal)) ∧ (∀ j h x, ∃ y : ℝ, kv (ix2 j (kc h x)) = (y : EReal)) := by
  have hs : Subsingleton Cert.Pre_xa_fwd_finite.S_.Idx := ⟨fun a b => funext fun i => i.elim0⟩
  have h0 := congrFun h (fun i => i.elim0)
  dsimp only [Cert.Pre_xa_fwd_finite.fn] at h0
  obtain ⟨h1, h2⟩ := IntOp.andi_eq_one.1 h0
  refine ⟨fun r k => ?_, fun j h x => ?_⟩
  · exact Cert.XaEq.real_of_cmp _ _ (ix2 r k) Cert.XaEq.inf_eq (Host.reduce_andi_all _ _ _ _ _ h1 (ix2 r k))
  · obtain ⟨y, hy⟩ := Cert.XaEq.real_of_cmp _ _ (ix2 j ⟨(kc h x).val, kc_lt h x⟩) Cert.XaEq.inf_eq (Host.reduce_andi_all _ _ _ _ _ h2 (ix2 j ⟨(kc h x).val, kc_lt h x⟩))
    refine ⟨y, Eq.trans (congrArg kv ?_) hy⟩
    funext a
    refine Fin.ext ?_
    match a with
    | 0 => exact (Nat.zero_add _).symm
    | 1 => exact (Nat.zero_add _).symm

/-- What the kernel leaves is the reference's result. -/
theorem result_eq [Cert.Pre_xa_fwd_finite.Facts] (c : Dev nD)
    (h : Cert.Pre_xa_fwd_finite.fn (F := Ideal) (m (c.tc.loc main_arg0)) (m (c.tc.loc main_arg1)) = fun _ => 1#1) :
    (dats m 0 c).arrAt 2 cfg0.N = val_main_v27 (F := Ideal) (m (c.tc.loc main_arg0)) (m (c.tc.loc main_arg1)) := by
  obtain ⟨hq, hk⟩ := pre_real _ _ h
  rw [result]
  funext i
  obtain ⟨r, k, rfl⟩ : ∃ (r : Fin 8192) (k : Fin 512), i = ix2 r k := ⟨i 0, i 1, eq_ix2 i⟩
  obtain ⟨h, x, rfl⟩ : ∃ (h : Fin 4) (x : Fin 128), k = hc h x := ⟨⟨k.val / 128, by omega⟩, ⟨k.val % 128, Nat.mod_lt _ (by decide)⟩, Fin.ext (by simp only [hc]; omega)⟩
  refine Eq.trans ?_ (out_apply _ _ h r x).symm
  refine Eq.trans (congrArg₂ (fun h x => el (Q m c r) (M m c) h x) (hc_div h x _) (hc_mod h x _)) ?_
  show att (srow (Q m c r) (M m c) h) (fun j => M m c j (vc h x)) = _
  unfold att
  refine Finset.sum_congr rfl fun j _ => ?_
  refine (congrArg (· * M m c j (vc h x)) (prob_row (Q m c r) (M m c) h j (fun k => hq r k) (fun j x => hk j h x))).trans ?_
  exact mul_comm _ _
end Reference

end Cert.XaFwd
-- ==== Proof.SwaMath.lean ====
module

public import Idealize.ShloMosaic.Lib.Affine
public import Idealize.ShloMosaic.Lib.Pointwise.SelectCore
public import proofs.«01_k».proof.Proof.XaMath

/-! One row of the sliding-window attention over the extended reals: the band, the masked scores, the probabilities as a
product by an inverse and as a quotient, and that the two agree when the queries, the keys and the sink are real numbers. -/

@[expose] public section
noncomputable section
open Idealize.ShloMosaic
open Cert.Xa (ninf ninf_eq sum_coe)

namespace Cert.Swa

/-- The factor on the scores, an eighth, as the word of either format. -/
abbrev kap : EReal := Ideal.ofBits FTy.f32 1040187392#32
abbrev kapb : EReal := Ideal.ofBits FTy.bf16 15872#16

theorem kap_eq : kap = ((1 / 8 : ℝ) : EReal) := by
  have h : (8388608 * (2 ^ 26)⁻¹ : ℝ) = 1 / 8 := by norm_num
  rw [← h, EReal.coe_mul]
  simp [kap, Ideal.ofBits, Ideal.ieee]
theorem kapb_eq : kapb = ((1 / 8 : ℝ) : EReal) := by
  have h : (128 * (2 ^ 10)⁻¹ : ℝ) = 1 / 8 := by norm_num
  rw [← h, EReal.coe_mul]
  simp [kapb, Ideal.ofBits, Ideal.ieee]

/-- Which keys of the previous and the own block a query of block `n` sees. -/
def mask (n : ℕ) (r : Fin 128) (j : Fin 256) : BitVec 1 :=
  IntOp.andi
    (IntOp.andi (IntOp.cmpi .sgt (BitVec.ofNat 32 j.val) (BitVec.ofNat 32 r.val))
      (IntOp.cmpi .sle (BitVec.ofNat 32 j.val) (IntOp.addi (BitVec.ofNat 32 r.val) 128#32)))
    (IntOp.ori (IntOp.cmpi .sgt (BitVec.ofNat 32 n) 0#32) (IntOp.cmpi .sge (BitVec.ofNat 32 j.val) 128#32))

theorem sge_old : ∀ j : Fin 256, j.val < 128 → IntOp.cmpi .sge (BitVec.ofNat 32 j.val) 128#32 = 0#1 := by decide +kernel

/-- The first block's queries see nothing before it. -/
theorem mask_old (n : ℕ) (r : Fin 128) (j : Fin 256) (h : mask n r j = 1#1) (hj : j.val < 128) : n ≠ 0 := by
  rintro rfl
  have h2 := (IntOp.andi_eq_one.1 h).2
  rw [sge_old j hj] at h2
  exact absurd h2 (by decide)

/-- A score, with the factor on the sum, and with the factor on the query. -/
def sc (q k : Fin 64 → EReal) : EReal := (∑ x, k x * q x) * kap
def scK (q k : Fin 64 → EReal) : EReal := ∑ x, q x * kapb * k x

theorem sc_real (q k : Fin 64 → ℝ) : sc (fun x => q x) (fun x => k x) = (((∑ x, k x * q x) * (1 / 8) : ℝ) : EReal) := by
  rw [sc, kap_eq, EReal.coe_mul, ← sum_coe]
  simp only [EReal.coe_mul]
theorem scK_eq (q k : Fin 64 → ℝ) : scK (fun x => q x) (fun x => k x) = sc (fun x => q x) (fun x => k x) := by
  rw [sc_real, scK, kapb_eq]
  simp only [← EReal.coe_mul]
  rw [sum_coe, Finset.sum_mul]
  exact congrArg _ (Finset.sum_congr rfl fun x _ => by ring)

/-- A row's masked scores. -/
def row (n : ℕ) (r : Fin 128) (q : Fin 64 → EReal) (k : Fin 256 → Fin 64 → EReal) (j : Fin 256) : EReal :=
  Scalar.select (mask n r j) (sc q (k j)) ninf
def rowK (n : ℕ) (r : Fin 128) (q : Fin 64 → EReal) (k : Fin 256 → Fin 64 → EReal) (j : Fin 256) : EReal :=
  Scalar.select (mask n r j) (scK q (k j)) ninf

/-- The largest score of a row and its sink. -/
def mx (s : Fin 256 → EReal) (k : EReal) : EReal := max (Finset.univ.fold max ninf s) k
/-- The denominator. -/
def den (s : Fin 256 → EReal) (k : EReal) : EReal := ∑ j, Ideal.exp (s j - mx s k) + Ideal.exp (k - mx s k)
/-- A probability, as a product by the denominator's inverse and as a quotient. -/
def prob (s : Fin 256 → EReal) (k : EReal) (j : Fin 256) : EReal := Ideal.exp (s j - mx s k) * Ideal.div 1 (den s k)
def probR (s : Fin 256 → EReal) (k : EReal) (j : Fin 256) : EReal := Ideal.div (Ideal.exp (s j - mx s k)) (den s k)
/-- The denominator's logarithm, with the largest score. -/
def lse (s : Fin 256 → EReal) (k : EReal) : EReal := mx s k + Ideal.log (den s k)
/-- A row's output. -/
def att (s : Fin 256 → EReal) (k : EReal) (v : Fin 256 → EReal) : EReal := ∑ j, prob s k j * v j

/-- The two ways of scoring agree where the keys seen are the same and all are real. -/
theorem row_eq (n : ℕ) (r : Fin 128) (q : Fin 64 → EReal) (k k' : Fin 256 → Fin 64 → EReal)
    (hq : ∀ x, ∃ y : ℝ, q x = y) (hk : ∀ j x, ∃ y : ℝ, k j x = y) (h : ∀ j, mask n r j = 1#1 → k j = k' j) :
    rowK n r q k = row n r q k' := by
  choose q' hq' using hq
  choose k2 hk2 using hk
  obtain rfl : q = fun x => (q' x : EReal) := funext hq'
  obtain rfl : k = fun j x => (k2 j x : EReal) := funext fun j => funext (hk2 j)
  funext j
  unfold rowK row
  by_cases hm : mask n r j = 1#1
  · rw [Scalar.select_of_eq_one hm, Scalar.select_of_eq_one hm, ← h j hm]; exact scK_eq q' (k2 j)
  · rw [Scalar.select_of_ne_one hm, Scalar.select_of_ne_one hm]

/-- A masked score of real rows is minus infinity or real. -/
theorem row_real (n : ℕ) (r : Fin 128) (q : Fin 64 → EReal) (k : Fin 256 → Fin 64 → EReal)
    (hq : ∀ x, ∃ y : ℝ, q x = y) (hk : ∀ j x, mask n r j = 1#1 → ∃ y : ℝ, k j x = y) (j : Fin 256) :
    (mask n r j ≠ 1#1 ∧ row n r q k j = ⊥) ∨ (mask n r j = 1#1 ∧ ∃ y : ℝ, row n r q k j = y) := by
  unfold row
  by_cases hm : mask n r j = 1#1
  · refine .inr ⟨hm, ?_⟩
    choose q' hq' using hq
    choose k2 hk2 using fun x => hk j x hm
    rw [Scalar.select_of_eq_one hm]
    obtain rfl : q = fun x => (q' x : EReal) := funext hq'
    rw [show k j = fun x => (k2 x : EReal) from funext hk2]
    exact ⟨_, sc_real q' k2⟩
  · exact .inl ⟨hm, by rw [Scalar.select_of_ne_one hm]; exact ninf_eq⟩

theorem mx_real (s : Fin 256 → EReal) (k : ℝ) (hs : ∀ j, s j = ⊥ ∨ ∃ y : ℝ, s j = y) : ∃ m : ℝ, mx s k = m := by
  have h1 : mx s k ≠ ⊥ := fun h => by
    have : (k : EReal) ≤ ⊥ := h ▸ le_max_right _ _
    exact EReal.coe_ne_bot k (le_bot_iff.1 this)
  have h2 : mx s k ≠ ⊤ := by
    refine ne_of_lt (max_lt ((Finset.fold_max_lt _).2 ⟨?_, fun j _ => ?_⟩) (EReal.coe_lt_top k))
    · rw [ninf_eq]; exact bot_lt_top
    · rcases hs j with h | ⟨y, h⟩
      · rw [h]; exact bot_lt_top
      · rw [h]; exact EReal.coe_lt_top y
  exact ⟨(mx s k).toReal, (EReal.coe_toReal h2 h1).symm⟩

theorem exp_coe (x : ℝ) : Ideal.exp (x : EReal) = ((Real.exp x : ℝ) : EReal) := rfl
theorem exp_bot : Ideal.exp (⊥ : EReal) = 0 := rfl

theorem exp_nonneg (s : EReal) (m : ℝ) (hs : s = ⊥ ∨ ∃ y : ℝ, s = y) : 0 ≤ Ideal.exp (s - m) := by
  rcases hs with rfl | ⟨y, rfl⟩
  · rw [EReal.bot_sub, exp_bot]
  · rw [← EReal.coe_sub, exp_coe]; exact EReal.coe_nonneg.2 (Real.exp_pos _).le

theorem den_ne (s : Fin 256 → EReal) (k : ℝ) (hs : ∀ j, s j = ⊥ ∨ ∃ y : ℝ, s j = y) : den s k ≠ 0 := by
  obtain ⟨m, hm⟩ := mx_real s k hs
  have h1 : 0 ≤ ∑ j, Ideal.exp (s j - mx s k) := Finset.sum_nonneg fun j _ => by rw [hm]; exact exp_nonneg _ m (hs j)
  have h2 : 0 < Ideal.exp ((k : EReal) - mx s k) := by
    rw [hm, ← EReal.coe_sub, exp_coe]; exact EReal.coe_pos.2 (Real.exp_pos _)
  exact (lt_of_lt_of_le h2 (le_add_of_nonneg_left h1)).ne'

theorem prob_eq (s : Fin 256 → EReal) (k : ℝ) (hs : ∀ j, s j = ⊥ ∨ ∃ y : ℝ, s j = y) (j : Fin 256) : prob s k j = probR s k j := by
  rw [prob, probR, Ideal.div, Ideal.div, if_neg (den_ne s k hs), if_neg (den_ne s k hs), one_mul]

/-- A key that is not seen has the probability zero. -/
theorem prob_bot (s : Fin 256 → EReal) (k : ℝ) (hs : ∀ j, s j = ⊥ ∨ ∃ y : ℝ, s j = y) (j : Fin 256) (h : s j = ⊥) : prob s k j = 0 := by
  obtain ⟨m, hm⟩ := mx_real s k hs
  rw [prob, h, hm, EReal.bot_sub, exp_bot, zero_mul]

/-- The two outputs agree where the values seen do. -/
theorem att_eq (s : Fin 256 → EReal) (k : ℝ) (hs : ∀ j, s j = ⊥ ∨ ∃ y : ℝ, s j = y) (v v' : Fin 256 → EReal)
    (hv : ∀ j, s j = ⊥ ∨ v j = v' j) : att s k v = ∑ j, v' j * probR s k j := by
  refine Finset.sum_congr rfl fun j _ => ?_
  rcases hv j with h | h
  · rw [← prob_eq s k hs, prob_bot s k hs j h, zero_mul, mul_zero]
  · rw [← prob_eq s k hs, h, mul_comm]

/-- Rows of the stacked heads, columns of the heads, of the keys and of the values. -/
def rr (h : Fin 8) (r : Fin 128) : Fin 1024 := ⟨h.val * 128 + r.val, by omega⟩
def hh (g : Fin 2) (h : Fin 8) : Fin 16 := ⟨g.val * 8 + h.val, by omega⟩
def hc (g : Fin 2) (h : Fin 8) (x : Fin 64) : Fin 1024 := ⟨(g.val * 8 + h.val) * 64 + x.val, by omega⟩
def kc (g : Fin 2) (x : Fin 64) : Fin 256 := ⟨g.val * 64 + x.val, by omega⟩
def vc (g : Fin 2) (x : Fin 64) : Fin 256 := ⟨128 + (g.val * 64 + x.val), by omega⟩

theorem band_row : ∀ R : Fin 1024, IntOp.andi (IntOp.addi (BitVec.ofNat 32 R.val) 0#32) 127#32 = BitVec.ofNat 32 (R.val % 128) := by
  decide +kernel
theorem rr_mod (h : Fin 8) (r : Fin 128) : (rr h r).val % 128 = r.val := by simp only [rr]; omega

end Cert.Swa
-- ==== Proof.SwaHeads.lean ====
module

public import proofs.«01_k».proof.Proof.Gen.SwaFwdKernelIdeal.Value
public import Idealize.ShloMosaic.Lib.Pipeline.ValueKit
public import Idealize.ShloMosaic.Lib.Claim
public import proofs.«01_k».proof.Proof.SwaMath

/-! The sliding-window attention's forward call: the stacked heads' scores, sinks, outputs and logarithms. -/

@[expose] public section
set_option maxRecDepth 16384
noncomputable section
open Idealize.ShloMosaic Idealize.ShloMosaic.TcCoe Idealize.SL.Sem
namespace Cert.SwaFwd
open Cert.SwaFwdKernelIdeal Cert.SwaFwdKernelIdeal.Gen Cert.Swa

/-- The band of the stacked heads is the band of each. -/
theorem band (i : grid0.Coords) (h : Fin 8) (r : Fin 128) (j : Fin 256) : k0_pay3 i (ix2 (rr h r) j) = mask (i 0).val r j := by
  pointwise [k0_pay3]
  rw [band_row, rr_mod]
  rfl

/-- The masked scores of the stacked heads. -/
theorem scores0 (v16 : IVec S1024x256 1) (v19 : FVec Ideal S256x256 .bf16) (q0 q1 q2 q3 q4 q5 q6 q7 : Vec Ideal S128x64 .bf16) (h : Fin 8) (r : Fin 128) (j : Fin 256) :
    k0_pay13 (F := Ideal) v16 v19 q0 q1 q2 q3 q4 q5 q6 q7 (ix2 (rr h r) j)
      = Scalar.select (v16 (ix2 (rr h r) j)) (scK (fun x => (![q0, q1, q2, q3, q4, q5, q6, q7] h) (ix2 r x)) (fun x => v19 (ix2 j (kc 0 x)))) Cert.Xa.ninf := by
  pointwise [k0_pay13]
  refine congrArg (fun y => Scalar.select _ y _) (Finset.sum_congr rfl fun x _ => ?_)
  refine congrArg₂ (fun a b => a * kapb * b) ?_ (congrArg (fun y => v19 (ix2 j y)) (Fin.ext (by show x.val = 0 * 64 + x.val; omega)))
  have := r.isLt
  match h with
  | ⟨0, _⟩ =>
    rw [dif_pos (by simp only [rr]; omega)]
    exact congrArg (fun y => q0 (ix2 y x)) (Fin.ext (by simp only [rr]; omega))
  | ⟨1, _⟩ =>
    rw [dif_neg (by simp only [rr]; omega), dif_pos (by simp only [rr]; omega)]
    exact congrArg (fun y => q1 (ix2 y x)) (Fin.ext (by simp only [rr]; omega))
  | ⟨2, _⟩ =>
    rw [dif_neg (by simp only [rr]; omega), dif_neg (by simp only [rr]; omega), dif_pos (by simp only [rr]; omega)]
    exact congrArg (fun y => q2 (ix2 y x)) (Fin.ext (by simp only [rr]; omega))
  | ⟨3, _⟩ =>
    rw [dif_neg (by simp only [rr]; omega), dif_neg (by simp only [rr]; omega), dif_neg (by simp only [rr]; omega), dif_pos (by simp only [rr]; omega)]
    exact congrArg (fun y => q3 (ix2 y x)) (Fin.ext (by simp only [rr]; omega))
  | ⟨4, _⟩ =>
    rw [dif_neg (by simp only [rr]; omega), dif_neg (by simp only [rr]; omega), dif_neg (by simp only [rr]; omega), dif_neg (by simp only [rr]; omega), dif_pos (by simp only [rr]; omega)]
    exact congrArg (fun y => q4 (ix2 y x)) (Fin.ext (by simp only [rr]; omega))
  | ⟨5, _⟩ =>
    rw [dif_neg (by simp only [rr]; omega), dif_neg (by simp only [rr]; omega), dif_neg (by simp only [rr]; omega), dif_neg (by simp only [rr]; omega), dif_neg (by simp only [rr]; omega), dif_pos (by simp only [rr]; omega)]
    exact congrArg (fun y => q5 (ix2 y x)) (Fin.ext (by simp only [rr]; omega))
  | ⟨6, _⟩ =>
    rw [dif_neg (by simp only [rr]; omega), dif_neg (by simp only [rr]; omega), dif_neg (by simp only [rr]; omega), dif_neg (by simp only [rr]; omega), dif_neg (by simp only [rr]; omega), dif_neg (by simp only [rr]; omega), dif_pos (by simp only [rr]; omega)]
    exact congrArg (fun y => q6 (ix2 y x)) (Fin.ext (by simp only [rr]; omega))
  | ⟨7, _⟩ =>
    rw [dif_neg (by simp only [rr]; omega), dif_neg (by simp only [rr]; omega), dif_neg (by simp only [rr]; omega), dif_neg (by simp only [rr]; omega), dif_neg (by simp only [rr]; omega), dif_neg (by simp only [rr]; omega), dif_neg (by simp only [rr]; omega)]
    exact congrArg (fun y => q7 (ix2 y x)) (Fin.ext (by simp only [rr]; omega))
theorem scores1 (v16 : IVec S1024x256 1) (v19 : FVec Ideal S256x256 .bf16) (q0 q1 q2 q3 q4 q5 q6 q7 : Vec Ideal S128x64 .bf16) (h : Fin 8) (r : Fin 128) (j : Fin 256) :
    k0_pay14 (F := Ideal) v16 v19 q0 q1 q2 q3 q4 q5 q6 q7 (ix2 (rr h r) j)
      = Scalar.select (v16 (ix2 (rr h r) j)) (scK (fun x => (![q0, q1, q2, q3, q4, q5, q6, q7] h) (ix2 r x)) (fun x => v19 (ix2 j (kc 1 x)))) Cert.Xa.ninf := by
  pointwise [k0_pay14]
  refine congrArg (fun y => Scalar.select _ y _) (Finset.sum_congr rfl fun x _ => ?_)
  refine congrArg₂ (fun a b => a * kapb * b) ?_ (congrArg (fun y => v19 (ix2 j y)) (Fin.ext (by show 64 + x.val = 1 * 64 + x.val; omega)))
  have := r.isLt
  match h with
  | ⟨0, _⟩ =>
    rw [dif_pos (by simp only [rr]; omega)]
    exact congrArg (fun y => q0 (ix2 y x)) (Fin.ext (by simp only [rr]; omega))
  | ⟨1, _⟩ =>
    rw [dif_neg (by simp only [rr]; omega), dif_pos (by simp only [rr]; omega)]
    exact congrArg (fun y => q1 (ix2 y x)) (Fin.ext (by simp only [rr]; omega))
  | ⟨2, _⟩ =>
    rw [dif_neg (by simp only [rr]; omega), dif_neg (by simp only [rr]; omega), dif_pos (by simp only [rr]; omega)]
    exact congrArg (fun y => q2 (ix2 y x)) (Fin.ext (by simp only [rr]; omega))
  | ⟨3, _⟩ =>
    rw [dif_neg (by simp only [rr]; omega), dif_neg (by simp only [rr]; omega), dif_neg (by simp only [rr]; omega), dif_pos (by simp only [rr]; omega)]
    exact congrArg (fun y => q3 (ix2 y x)) (Fin.ext (by simp only [rr]; omega))
  | ⟨4, _⟩ =>
    rw [dif_neg (by simp only [rr]; omega), dif_neg (by simp only [rr]; omega), dif_neg (by simp only [rr]; omega), dif_neg (by simp only [rr]; omega), dif_pos (by simp only [rr]; omega)]
    exact congrArg (fun y => q4 (ix2 y x)) (Fin.ext (by simp only [rr]; omega))
  | ⟨5, _⟩ =>
    rw [dif_neg (by simp only [rr]; omega), dif_neg (by simp only [rr]; omega), dif_neg (by simp only [rr]; omega), dif_neg (by simp only [rr]; omega), dif_neg (by simp only [rr]; omega), dif_pos (by simp only [rr]; omega)]
    exact congrArg (fun y => q5 (ix2 y x)) (Fin.ext (by simp only [rr]; omega))
  | ⟨6, _⟩ =>
    rw [dif_neg (by simp only [rr]; omega), dif_neg (by simp only [rr]; omega), dif_neg (by simp only [rr]; omega), dif_neg (by simp only [rr]; omega), dif_neg (by simp only [rr]; omega), dif_neg (by simp only [rr]; omega), dif_pos (by simp only [rr]; omega)]
    exact congrArg (fun y => q6 (ix2 y x)) (Fin.ext (by simp only [rr]; omega))
  | ⟨7, _⟩ =>
    rw [dif_neg (by simp only [rr]; omega), dif_neg (by simp only [rr]; omega), dif_neg (by simp only [rr]; omega), dif_neg (by simp only [rr]; omega), dif_neg (by simp only [rr]; omega), dif_neg (by simp only [rr]; omega), dif_neg (by simp only [rr]; omega)]
    exact congrArg (fun y => q7 (ix2 y x)) (Fin.ext (by simp only [rr]; omega))

/-- The stacked sinks. -/
theorem sinks0 (a b c d e f g k : Vec Ideal S1x1 .f32) (h : Fin 8) (r : Fin 128) :
    k0_pay11 (F := Ideal) (k0_pay5 a) (k0_pay6 b) (k0_pay7 c) (k0_pay8 d) (k0_pay9 e) (k0_pay10 f) g k (ix2 (rr h r) 0) = (![a, b, c, d, e, f, g, k] h) (ix2 0 0) := by
  pointwise [k0_pay11, k0_pay5, k0_pay6, k0_pay7, k0_pay8, k0_pay9, k0_pay10]
  have := r.isLt
  match h with
  | ⟨0, _⟩ =>
    rw [dif_pos (by simp only [rr]; omega)]
    exact rfl
  | ⟨1, _⟩ =>
    rw [dif_neg (by simp only [rr]; omega), dif_pos (by simp only [rr]; omega)]
    exact rfl
  | ⟨2, _⟩ =>
    rw [dif_neg (by simp only [rr]; omega), dif_neg (by simp only [rr]; omega), dif_pos (by simp only [rr]; omega)]
    exact rfl
  | ⟨3, _⟩ =>
    rw [dif_neg (by simp only [rr]; omega), dif_neg (by simp only [rr]; omega), dif_neg (by simp only [rr]; omega), dif_pos (by simp only [rr]; omega)]
    exact rfl
  | ⟨4, _⟩ =>
    rw [dif_neg (by simp only [rr]; omega), dif_neg (by simp only [rr]; omega), dif_neg (by simp only [rr]; omega), dif_neg (by simp only [rr]; omega), dif_pos (by simp only [rr]; omega)]
    exact rfl
  | ⟨5, _⟩ =>
    rw [dif_neg (by simp only [rr]; omega), dif_neg (by simp only [rr]; omega), dif_neg (by simp only [rr]; omega), dif_neg (by simp only [rr]; omega), dif_neg (by simp only [rr]; omega), dif_pos (by simp only [rr]; omega)]
    exact rfl
  | ⟨6, _⟩ =>
    rw [dif_neg (by simp only [rr]; omega), dif_neg (by simp only [rr]; omega), dif_neg (by simp only [rr]; omega), dif_neg (by simp only [rr]; omega), dif_neg (by simp only [rr]; omega), dif_neg (by simp only [rr]; omega), dif_pos (by simp only [rr]; omega)]
    exact rfl
  | ⟨7, _⟩ =>
    rw [dif_neg (by simp only [rr]; omega), dif_neg (by simp only [rr]; omega), dif_neg (by simp only [rr]; omega), dif_neg (by simp only [rr]; omega), dif_neg (by simp only [rr]; omega), dif_neg (by simp only [rr]; omega), dif_neg (by simp only [rr]; omega)]
    exact rfl
theorem sinks1 (a b c d e f g k : Vec Ideal S1x1 .f32) (h : Fin 8) (r : Fin 128) :
    k0_pay12 (F := Ideal) a b c d e f g k (ix2 (rr h r) 0) = (![a, b, c, d, e, f, g, k] h) (ix2 0 0) := by
  pointwise [k0_pay12]
  have := r.isLt
  match h with
  | ⟨0, _⟩ =>
    rw [dif_pos (by simp only [rr]; omega)]
    exact rfl
  | ⟨1, _⟩ =>
    rw [dif_neg (by simp only [rr]; omega), dif_pos (by simp only [rr]; omega)]
    exact rfl
  | ⟨2, _⟩ =>
    rw [dif_neg (by simp only [rr]; omega), dif_neg (by simp only [rr]; omega), dif_pos (by simp only [rr]; omega)]
    exact rfl
  | ⟨3, _⟩ =>
    rw [dif_neg (by simp only [rr]; omega), dif_neg (by simp only [rr]; omega), dif_neg (by simp only [rr]; omega), dif_pos (by simp only [rr]; omega)]
    exact rfl
  | ⟨4, _⟩ =>
    rw [dif_neg (by simp only [rr]; omega), dif_neg (by simp only [rr]; omega), dif_neg (by simp only [rr]; omega), dif_neg (by simp only [rr]; omega), dif_pos (by simp only [rr]; omega)]
    exact rfl
  | ⟨5, _⟩ =>
    rw [dif_neg (by simp only [rr]; omega), dif_neg (by simp only [rr]; omega), dif_neg (by simp only [rr]; omega), dif_neg (by simp only [rr]; omega), dif_neg (by simp only [rr]; omega), dif_pos (by simp only [rr]; omega)]
    exact rfl
  | ⟨6, _⟩ =>
    rw [dif_neg (by simp only [rr]; omega), dif_neg (by simp only [rr]; omega), dif_neg (by simp only [rr]; omega), dif_neg (by simp only [rr]; omega), dif_neg (by simp only [rr]; omega), dif_neg (by simp only [rr]; omega), dif_pos (by simp only [rr]; omega)]
    exact rfl
  | ⟨7, _⟩ =>
    rw [dif_neg (by simp only [rr]; omega), dif_neg (by simp only [rr]; omega), dif_neg (by simp only [rr]; omega), dif_neg (by simp only [rr]; omega), dif_neg (by simp only [rr]; omega), dif_neg (by simp only [rr]; omega), dif_neg (by simp only [rr]; omega)]
    exact rfl

variable (v19 : FVec Ideal S256x256 .bf16) (sk : FVec Ideal S1024x1 .f32) (s : FVec Ideal S1024x256 .f32) (R : Fin 1024) (x : Fin 64)

/-- The outputs of the stacked heads, and the logarithms. -/
theorem att0 : k0_pay21 (F := Ideal) v19 sk s (ix2 R x) = att (fun j => s (ix2 R j)) (sk (ix2 R 0)) (fun j => v19 (ix2 j (vc 0 x))) := by
  pointwise [k0_pay21, k0_pay19, k0_pay17, k0_pay15]
  refine Finset.sum_congr rfl fun j _ => congrArg₂ (fun a b => a * b) rfl (congrArg (fun y => v19 (ix2 j y)) (Fin.ext ?_))
  show 128 + x.val = 128 + (0 * 64 + x.val); omega
theorem att1 : k0_pay22 (F := Ideal) v19 sk s (ix2 R x) = att (fun j => s (ix2 R j)) (sk (ix2 R 0)) (fun j => v19 (ix2 j (vc 1 x))) := by
  pointwise [k0_pay22, k0_pay20, k0_pay18, k0_pay16]
  refine Finset.sum_congr rfl fun j _ => congrArg₂ (fun a b => a * b) rfl (congrArg (fun y => v19 (ix2 j y)) (Fin.ext ?_))
  show 192 + x.val = 128 + (1 * 64 + x.val); omega
theorem lse0 : k0_pay23 (F := Ideal) sk s (ix2 R 0) = lse (fun j => s (ix2 R j)) (sk (ix2 R 0)) := by
  pointwise [k0_pay23, k0_pay19, k0_pay17, k0_pay15]
  rfl
theorem lse1 : k0_pay16 (F := Ideal) sk s (ix2 R 0) + Ideal.log (k0_pay20 (F := Ideal) sk s (ix2 R 0)) = lse (fun j => s (ix2 R j)) (sk (ix2 R 0)) := by
  pointwise [k0_pay20, k0_pay18, k0_pay16]
  rfl

end Cert.SwaFwd
-- ==== Proof.SwaCat.lean ====
module

public import proofs.«01_k».proof.Proof.SwaHeads

/-! The sliding-window attention's forward call: the sixteen heads' parts of a block beside each other. -/

@[expose] public section
set_option maxRecDepth 16384
noncomputable section
open Idealize.ShloMosaic Idealize.ShloMosaic.TcCoe Idealize.SL.Sem
namespace Cert.SwaFwd
open Cert.SwaFwdKernelIdeal Cert.SwaFwdKernelIdeal.Gen Cert.Swa

/-- Pieces of width 64 beside each other: column `64 n + d` is column `d` of piece `n`. -/
theorem nth64 {α : Type} (r : Fin 128) (k : Fin 1024) : ∀ (xs : List (S128x64.Idx → α)) (hs) (c : ℕ) (hc) (n : ℕ) (hn : n < xs.length) (d : Fin 64),
    c = n * 64 + d.val →
    concatenateAt S128x1024 1 (ix2 r k) (xs.map fun x => (⟨S128x64, x⟩ : (s : Shape) × (s.Idx → α))) hs c hc = xs[n] (ix2 r d)
  | [], _, _, _, _, hn, _, _ => absurd hn (Nat.not_lt_zero _)
  | [x], hs, c, hc, 0, hn, d, e => by
    refine (concatenateAt_singleton _ _ x hs c hc).trans (congrArg x (funext fun b => Fin.ext ?_))
    rw [Shape.Idx.norm_def]
    match b with
    | ⟨0, _⟩ => rfl
    | ⟨1, _⟩ => show c = d.val; omega
  | [x], _, _, _, n + 1, hn, _, _ => absurd hn (by simp)
  | x :: y :: xs, hs, c, hc, 0, hn, d, e => by
    have h : c < 64 := by omega
    refine (concatenateAt_cons _ _ x _ _ hs c hc).trans ((dif_pos h).trans (congrArg x (funext fun b => Fin.ext ?_)))
    rw [Shape.Idx.norm_def]
    match b with
    | ⟨0, _⟩ => rfl
    | ⟨1, _⟩ => show c = d.val; omega
  | x :: y :: xs, hs, c, hc, n + 1, hn, d, e => by
    have h : ¬c < 64 := by omega
    refine (concatenateAt_cons _ _ x _ _ hs c hc).trans ((dif_neg h).trans ?_)
    exact nth64 r k (y :: xs) _ (c - 64) _ n (by simpa using hn) d (by omega)

theorem pick64 {α : Type} (r : Fin 128) (k : Fin 1024) (xs : List (S128x64.Idx → α))
    (h : Shape.Concatenates ((xs.map fun x => (⟨S128x64, x⟩ : (s : Shape) × (s.Idx → α))).map (·.1)) S128x1024 1)
    (n : ℕ) (hn : n < xs.length) (d : Fin 64) (e : k.val = n * 64 + d.val) :
    concatenate S128x1024 1 (xs.map fun x => (⟨S128x64, x⟩ : (s : Shape) × (s.Idx → α))) h (ix2 r k) = xs[n] (ix2 r d) :=
  (concatenate_apply S128x1024 1 _ h (ix2 r k)).trans (nth64 r k xs _ _ _ n hn d e)

/-- A head's rows of the stacked heads. -/
theorem slice64 {α : Type} (T : S1024x64.Idx → α) (h : Fin 8) (off : ℕ) (hs) (e : off = h.val * 128) (r : Fin 128) (x : Fin 64) :
    extractStridedSlice S128x64 ![off, 0] T hs (ix2 r x) = T (ix2 (rr h r) x) := by
  subst e
  refine extractStridedSlice_apply ![h.val * 128, 0] T hs (ix2 r x) (ix2 (rr h r) x) fun a => ?_
  match a with
  | ⟨0, _⟩ => rfl
  | ⟨1, _⟩ => exact (Nat.zero_add _).symm

/-- Pieces of width 1 beside each other: column `1 n + d` is column `d` of piece `n`. -/
theorem nth1 {α : Type} (r : Fin 128) (k : Fin 16) : ∀ (xs : List (S128x1.Idx → α)) (hs) (c : ℕ) (hc) (n : ℕ) (hn : n < xs.length) (d : Fin 1),
    c = n * 1 + d.val →
    concatenateAt S128x16 1 (ix2 r k) (xs.map fun x => (⟨S128x1, x⟩ : (s : Shape) × (s.Idx → α))) hs c hc = xs[n] (ix2 r d)
  | [], _, _, _, _, hn, _, _ => absurd hn (Nat.not_lt_zero _)
  | [x], hs, c, hc, 0, hn, d, e => by
    refine (concatenateAt_singleton _ _ x hs c hc).trans (congrArg x (funext fun b => Fin.ext ?_))
    rw [Shape.Idx.norm_def]
    match b with
    | ⟨0, _⟩ => rfl
    | ⟨1, _⟩ => show c = d.val; omega
  | [x], _, _, _, n + 1, hn, _, _ => absurd hn (by simp)
  | x :: y :: xs, hs, c, hc, 0, hn, d, e => by
    have h : c < 1 := by omega
    refine (concatenateAt_cons _ _ x _ _ hs c hc).trans ((dif_pos h).trans (congrArg x (funext fun b => Fin.ext ?_)))
    rw [Shape.Idx.norm_def]
    match b with
    | ⟨0, _⟩ => rfl
    | ⟨1, _⟩ => show c = d.val; omega
  | x :: y :: xs, hs, c, hc, n + 1, hn, d, e => by
    have h : ¬c < 1 := by omega
    refine (concatenateAt_cons _ _ x _ _ hs c hc).trans ((dif_neg h).trans ?_)
    exact nth1 r k (y :: xs) _ (c - 1) _ n (by simpa using hn) d (by omega)

theorem pick1 {α : Type} (r : Fin 128) (k : Fin 16) (xs : List (S128x1.Idx → α))
    (h : Shape.Concatenates ((xs.map fun x => (⟨S128x1, x⟩ : (s : Shape) × (s.Idx → α))).map (·.1)) S128x16 1)
    (n : ℕ) (hn : n < xs.length) (d : Fin 1) (e : k.val = n * 1 + d.val) :
    concatenate S128x16 1 (xs.map fun x => (⟨S128x1, x⟩ : (s : Shape) × (s.Idx → α))) h (ix2 r k) = xs[n] (ix2 r d) :=
  (concatenate_apply S128x16 1 _ h (ix2 r k)).trans (nth1 r k xs _ _ _ n hn d e)

/-- A head's rows of the stacked heads. -/
theorem slice1 {α : Type} (T : S1024x1.Idx → α) (h : Fin 8) (off : ℕ) (hs) (e : off = h.val * 128) (r : Fin 128) (x : Fin 1) :
    extractStridedSlice S128x1 ![off, 0] T hs (ix2 r x) = T (ix2 (rr h r) x) := by
  subst e
  refine extractStridedSlice_apply ![h.val * 128, 0] T hs (ix2 r x) (ix2 (rr h r) x) fun a => ?_
  match a with
  | ⟨0, _⟩ => rfl
  | ⟨1, _⟩ => exact (Nat.zero_add _).symm

/-- The second half's logarithms. -/
def lseT (sk : FVec Ideal S1024x1 .f32) (s : FVec Ideal S1024x256 .f32) : FVec Ideal S1024x1 .f32 :=
  addf (k0_pay16 (F := Ideal) sk s) (log (k0_pay20 (F := Ideal) sk s))
theorem lse1' (sk : FVec Ideal S1024x1 .f32) (s : FVec Ideal S1024x256 .f32) (R : Fin 1024) :
    lseT sk s (ix2 R 0) = lse (fun j => s (ix2 R j)) (sk (ix2 R 0)) :=
  (show lseT sk s (ix2 R 0) = k0_pay16 (F := Ideal) sk s (ix2 R 0) + Ideal.log (k0_pay20 (F := Ideal) sk s (ix2 R 0)) from rfl).trans (lse1 sk s R)

/-- The output's block at a head's column. -/
theorem cat (v19 : FVec Ideal S256x256 .bf16) (sk sk' : FVec Ideal S1024x1 .f32) (s s' : FVec Ideal S1024x256 .f32) (G : Fin 2) (h : Fin 8) (r : Fin 128) (x : Fin 64) :
    k0_pay1 (F := Ideal) (k0_pay22 v19 sk' s') (k0_pay24 v19 sk s) (k0_pay25 v19 sk s) (k0_pay26 v19 sk s) (k0_pay27 v19 sk s) (k0_pay28 v19 sk s) (k0_pay29 v19 sk s) (k0_pay30 v19 sk s) (k0_pay31 v19 sk s) (ix2 r (hc G h x))
      = att (fun j => (![s, s'] G) (ix2 (rr h r) j)) ((![sk, sk'] G) (ix2 (rr h r) 0)) (fun j => v19 (ix2 j (vc G x))) := by
  refine (pick64 (α := EReal) r (hc G h x) [k0_pay24 (F := Ideal) v19 sk s, k0_pay25 (F := Ideal) v19 sk s, k0_pay26 (F := Ideal) v19 sk s, k0_pay27 (F := Ideal) v19 sk s, k0_pay28 (F := Ideal) v19 sk s, k0_pay29 (F := Ideal) v19 sk s, k0_pay30 (F := Ideal) v19 sk s, k0_pay31 (F := Ideal) v19 sk s, extractStridedSlice S128x64 ![0, 0] (k0_pay22 (F := Ideal) v19 sk' s') slices_S1024x64_o0_0_S128x64, extractStridedSlice S128x64 ![128, 0] (k0_pay22 (F := Ideal) v19 sk' s') slices_S1024x64_o128_0_S128x64, extractStridedSlice S128x64 ![256, 0] (k0_pay22 (F := Ideal) v19 sk' s') slices_S1024x64_o256_0_S128x64, extractStridedSlice S128x64 ![384, 0] (k0_pay22 (F := Ideal) v19 sk' s') slices_S1024x64_o384_0_S128x64, extractStridedSlice S128x64 ![512, 0] (k0_pay22 (F := Ideal) v19 sk' s') slices_S1024x64_o512_0_S128x64, extractStridedSlice S128x64 ![640, 0] (k0_pay22 (F := Ideal) v19 sk' s') slices_S1024x64_o640_0_S128x64, extractStridedSlice S128x64 ![768, 0] (k0_pay22 (F := Ideal) v19 sk' s') slices_S1024x64_o768_0_S128x64, extractStridedSlice S128x64 ![896, 0] (k0_pay22 (F := Ideal) v19 sk' s') slices_S1024x64_o896_0_S128x64] concatenates_S128x64_S128x64_S128x64_S128x64_S128x64_S128x64_S128x64_S128x64_S128x64_S128x64_S128x64_S128x64_S128x64_S128x64_S128x64_S128x64_S128x1024_d1 (G.val * 8 + h.val) (by simp only [List.length_cons, List.length_nil]; omega) x rfl).trans ?_
  match G, h with
  | ⟨0, _⟩, ⟨0, _⟩ => exact (slice64 (k0_pay21 (F := Ideal) v19 sk s) ⟨0, by decide⟩ 0 slices_S1024x64_o0_0_S128x64 rfl r x).trans (att0 v19 sk s (rr ⟨0, by decide⟩ r) x)
  | ⟨0, _⟩, ⟨1, _⟩ => exact (slice64 (k0_pay21 (F := Ideal) v19 sk s) ⟨1, by decide⟩ 128 slices_S1024x64_o128_0_S128x64 rfl r x).trans (att0 v19 sk s (rr ⟨1, by decide⟩ r) x)
  | ⟨0, _⟩, ⟨2, _⟩ => exact (slice64 (k0_pay21 (F := Ideal) v19 sk s) ⟨2, by decide⟩ 256 slices_S1024x64_o256_0_S128x64 rfl r x).trans (att0 v19 sk s (rr ⟨2, by decide⟩ r) x)
  | ⟨0, _⟩, ⟨3, _⟩ => exact (slice64 (k0_pay21 (F := Ideal) v19 sk s) ⟨3, by decide⟩ 384 slices_S1024x64_o384_0_S128x64 rfl r x).trans (att0 v19 sk s (rr ⟨3, by decide⟩ r) x)
  | ⟨0, _⟩, ⟨4, _⟩ => exact (slice64 (k0_pay21 (F := Ideal) v19 sk s) ⟨4, by decide⟩ 512 slices_S1024x64_o512_0_S128x64 rfl r x).trans (att0 v19 sk s (rr ⟨4, by decide⟩ r) x)
  | ⟨0, _⟩, ⟨5, _⟩ => exact (slice64 (k0_pay21 (F := Ideal) v19 sk s) ⟨5, by decide⟩ 640 slices_S1024x64_o640_0_S128x64 rfl r x).trans (att0 v19 sk s (rr ⟨5, by decide⟩ r) x)
  | ⟨0, _⟩, ⟨6, _⟩ => exact (slice64 (k0_pay21 (F := Ideal) v19 sk s) ⟨6, by decide⟩ 768 slices_S1024x64_o768_0_S128x64 rfl r x).trans (att0 v19 sk s (rr ⟨6, by decide⟩ r) x)
  | ⟨0, _⟩, ⟨7, _⟩ => exact (slice64 (k0_pay21 (F := Ideal) v19 sk s) ⟨7, by decide⟩ 896 slices_S1024x64_o896_0_S128x64 rfl r x).trans (att0 v19 sk s (rr ⟨7, by decide⟩ r) x)
  | ⟨1, _⟩, ⟨0, _⟩ => exact (slice64 (k0_pay22 (F := Ideal) v19 sk' s') ⟨0, by decide⟩ 0 slices_S1024x64_o0_0_S128x64 rfl r x).trans (att1 v19 sk' s' (rr ⟨0, by decide⟩ r) x)
  | ⟨1, _⟩, ⟨1, _⟩ => exact (slice64 (k0_pay22 (F := Ideal) v19 sk' s') ⟨1, by decide⟩ 128 slices_S1024x64_o128_0_S128x64 rfl r x).trans (att1 v19 sk' s' (rr ⟨1, by decide⟩ r) x)
  | ⟨1, _⟩, ⟨2, _⟩ => exact (slice64 (k0_pay22 (F := Ideal) v19 sk' s') ⟨2, by decide⟩ 256 slices_S1024x64_o256_0_S128x64 rfl r x).trans (att1 v19 sk' s' (rr ⟨2, by decide⟩ r) x)
  | ⟨1, _⟩, ⟨3, _⟩ => exact (slice64 (k0_pay22 (F := Ideal) v19 sk' s') ⟨3, by decide⟩ 384 slices_S1024x64_o384_0_S128x64 rfl r x).trans (att1 v19 sk' s' (rr ⟨3, by decide⟩ r) x)
  | ⟨1, _⟩, ⟨4, _⟩ => exact (slice64 (k0_pay22 (F := Ideal) v19 sk' s') ⟨4, by decide⟩ 512 slices_S1024x64_o512_0_S128x64 rfl r x).trans (att1 v19 sk' s' (rr ⟨4, by decide⟩ r) x)
  | ⟨1, _⟩, ⟨5, _⟩ => exact (slice64 (k0_pay22 (F := Ideal) v19 sk' s') ⟨5, by decide⟩ 640 slices_S1024x64_o640_0_S128x64 rfl r x).trans (att1 v19 sk' s' (rr ⟨5, by decide⟩ r) x)
  | ⟨1, _⟩, ⟨6, _⟩ => exact (slice64 (k0_pay22 (F := Ideal) v19 sk' s') ⟨6, by decide⟩ 768 slices_S1024x64_o768_0_S128x64 rfl r x).trans (att1 v19 sk' s' (rr ⟨6, by decide⟩ r) x)
  | ⟨1, _⟩, ⟨7, _⟩ => exact (slice64 (k0_pay22 (F := Ideal) v19 sk' s') ⟨7, by decide⟩ 896 slices_S1024x64_o896_0_S128x64 rfl r x).trans (att1 v19 sk' s' (rr ⟨7, by decide⟩ r) x)

/-- The logarithms' block at a head. -/
theorem cat_lse (sk sk' : FVec Ideal S1024x1 .f32) (s s' : FVec Ideal S1024x256 .f32) (G : Fin 2) (h : Fin 8) (r : Fin 128) :
    k0_pay2 (F := Ideal) (k0_pay16 sk' s') (k0_pay20 sk' s') (k0_pay23 sk s) (k0_pay32 sk s) (k0_pay33 sk s) (k0_pay34 sk s) (k0_pay35 sk s) (k0_pay36 sk s) (k0_pay37 sk s) (ix2 r (hh G h))
      = lse (fun j => (![s, s'] G) (ix2 (rr h r) j)) ((![sk, sk'] G) (ix2 (rr h r) 0)) := by
  refine (pick1 (α := EReal) r (hh G h) [k0_pay32 (F := Ideal) sk s, k0_pay33 (F := Ideal) sk s, k0_pay34 (F := Ideal) sk s, k0_pay35 (F := Ideal) sk s, k0_pay36 (F := Ideal) sk s, k0_pay37 (F := Ideal) sk s, extractStridedSlice S128x1 ![768, 0] (k0_pay23 (F := Ideal) sk s) slices_S1024x1_o768_0_S128x1, extractStridedSlice S128x1 ![896, 0] (k0_pay23 (F := Ideal) sk s) slices_S1024x1_o896_0_S128x1, extractStridedSlice S128x1 ![0, 0] (lseT sk' s') slices_S1024x1_o0_0_S128x1, extractStridedSlice S128x1 ![128, 0] (lseT sk' s') slices_S1024x1_o128_0_S128x1, extractStridedSlice S128x1 ![256, 0] (lseT sk' s') slices_S1024x1_o256_0_S128x1, extractStridedSlice S128x1 ![384, 0] (lseT sk' s') slices_S1024x1_o384_0_S128x1, extractStridedSlice S128x1 ![512, 0] (lseT sk' s') slices_S1024x1_o512_0_S128x1, extractStridedSlice S128x1 ![640, 0] (lseT sk' s') slices_S1024x1_o640_0_S128x1, extractStridedSlice S128x1 ![768, 0] (lseT sk' s') slices_S1024x1_o768_0_S128x1, extractStridedSlice S128x1 ![896, 0] (lseT sk' s') slices_S1024x1_o896_0_S128x1] concatenates_S128x1_S128x1_S128x1_S128x1_S128x1_S128x1_S128x1_S128x1_S128x1_S128x1_S128x1_S128x1_S128x1_S128x1_S128x1_S128x1_S128x16_d1 (G.val * 8 + h.val) (by simp only [List.length_cons, List.length_nil]; omega) 0 (by show G.val * 8 + h.val = (G.val * 8 + h.val) * 1 + 0; omega)).trans ?_
  match G, h with
  | ⟨0, _⟩, ⟨0, _⟩ => exact (slice1 (k0_pay23 (F := Ideal) sk s) ⟨0, by decide⟩ 0 slices_S1024x1_o0_0_S128x1 rfl r 0).trans (lse0 sk s (rr ⟨0, by decide⟩ r))
  | ⟨0, _⟩, ⟨1, _⟩ => exact (slice1 (k0_pay23 (F := Ideal) sk s) ⟨1, by decide⟩ 128 slices_S1024x1_o128_0_S128x1 rfl r 0).trans (lse0 sk s (rr ⟨1, by decide⟩ r))
  | ⟨0, _⟩, ⟨2, _⟩ => exact (slice1 (k0_pay23 (F := Ideal) sk s) ⟨2, by decide⟩ 256 slices_S1024x1_o256_0_S128x1 rfl r 0).trans (lse0 sk s (rr ⟨2, by decide⟩ r))
  | ⟨0, _⟩, ⟨3, _⟩ => exact (slice1 (k0_pay23 (F := Ideal) sk s) ⟨3, by decide⟩ 384 slices_S1024x1_o384_0_S128x1 rfl r 0).trans (lse0 sk s (rr ⟨3, by decide⟩ r))
  | ⟨0, _⟩, ⟨4, _⟩ => exact (slice1 (k0_pay23 (F := Ideal) sk s) ⟨4, by decide⟩ 512 slices_S1024x1_o512_0_S128x1 rfl r 0).trans (lse0 sk s (rr ⟨4, by decide⟩ r))
  | ⟨0, _⟩, ⟨5, _⟩ => exact (slice1 (k0_pay23 (F := Ideal) sk s) ⟨5, by decide⟩ 640 slices_S1024x1_o640_0_S128x1 rfl r 0).trans (lse0 sk s (rr ⟨5, by decide⟩ r))
  | ⟨0, _⟩, ⟨6, _⟩ => exact (slice1 (k0_pay23 (F := Ideal) sk s) ⟨6, by decide⟩ 768 slices_S1024x1_o768_0_S128x1 rfl r 0).trans (lse0 sk s (rr ⟨6, by decide⟩ r))
  | ⟨0, _⟩, ⟨7, _⟩ => exact (slice1 (k0_pay23 (F := Ideal) sk s) ⟨7, by decide⟩ 896 slices_S1024x1_o896_0_S128x1 rfl r 0).trans (lse0 sk s (rr ⟨7, by decide⟩ r))
  | ⟨1, _⟩, ⟨0, _⟩ => exact (slice1 (lseT sk' s') ⟨0, by decide⟩ 0 slices_S1024x1_o0_0_S128x1 rfl r 0).trans (lse1' sk' s' (rr ⟨0, by decide⟩ r))
  | ⟨1, _⟩, ⟨1, _⟩ => exact (slice1 (lseT sk' s') ⟨1, by decide⟩ 128 slices_S1024x1_o128_0_S128x1 rfl r 0).trans (lse1' sk' s' (rr ⟨1, by decide⟩ r))
  | ⟨1, _⟩, ⟨2, _⟩ => exact (slice1 (lseT sk' s') ⟨2, by decide⟩ 256 slices_S1024x1_o256_0_S128x1 rfl r 0).trans (lse1' sk' s' (rr ⟨2, by decide⟩ r))
  | ⟨1, _⟩, ⟨3, _⟩ => exact (slice1 (lseT sk' s') ⟨3, by decide⟩ 384 slices_S1024x1_o384_0_S128x1 rfl r 0).trans (lse1' sk' s' (rr ⟨3, by decide⟩ r))
  | ⟨1, _⟩, ⟨4, _⟩ => exact (slice1 (lseT sk' s') ⟨4, by decide⟩ 512 slices_S1024x1_o512_0_S128x1 rfl r 0).trans (lse1' sk' s' (rr ⟨4, by decide⟩ r))
  | ⟨1, _⟩, ⟨5, _⟩ => exact (slice1 (lseT sk' s') ⟨5, by decide⟩ 640 slices_S1024x1_o640_0_S128x1 rfl r 0).trans (lse1' sk' s' (rr ⟨5, by decide⟩ r))
  | ⟨1, _⟩, ⟨6, _⟩ => exact (slice1 (lseT sk' s') ⟨6, by decide⟩ 768 slices_S1024x1_o768_0_S128x1 rfl r 0).trans (lse1' sk' s' (rr ⟨6, by decide⟩ r))
  | ⟨1, _⟩, ⟨7, _⟩ => exact (slice1 (lseT sk' s') ⟨7, by decide⟩ 896 slices_S1024x1_o896_0_S128x1 rfl r 0).trans (lse1' sk' s' (rr ⟨7, by decide⟩ r))

end Cert.SwaFwd
-- ==== Proof.SwaBlk.lean ====
module

public import proofs.«01_k».proof.Proof.SwaCat

/-! The sliding-window attention's forward call: a block of its two results, of the blocks that it reads. -/

@[expose] public section
set_option maxRecDepth 16384
noncomputable section
open Idealize.ShloMosaic Idealize.ShloMosaic.TcCoe Idealize.SL.Sem
namespace Cert.SwaFwd
open Cert.SwaFwdKernelIdeal Cert.SwaFwdKernelIdeal.Gen Cert.Swa

/-- The previous block's and the own block's keys and values below each other. -/
def kvb (x1 x2 : Vec Ideal S128x256 .bf16) (j k : Fin 256) : EReal :=
  if h : j.val < 128 then x1 (ix2 ⟨j.val, h⟩ k) else x2 (ix2 ⟨j.val - 128, by omega⟩ k)

/-- Loads: a whole block, a head's columns of the queries, a head's sink. -/
theorem ld_kv (A : Vec Ideal S128x256 .bf16) (j : Fin 128) (k : Fin 256) : View.ld A r0_0 (ix2 j k) = A (ix2 j k) := by
  refine congrArg A (funext fun a => Fin.ext ?_)
  match a with
  | ⟨0, _⟩ => show 0 + 1 * j.val = j.val; omega
  | ⟨1, _⟩ => show 0 + 1 * k.val = k.val; omega
theorem ld_q (A : Vec Ideal S128x1024 .bf16) (G : Fin 2) (h : Fin 8) (off : ℕ) (inb) (e : off = (G.val * 8 + h.val) * 64) (r : Fin 128) (x : Fin 64) :
    View.ld A (Rect.unit (s := S128x1024) ![0, off] S128x64.size inb) (ix2 r x) = A (ix2 r (hc G h x)) := by
  subst e
  refine congrArg A (funext fun a => Fin.ext ?_)
  match a with
  | ⟨0, _⟩ => show 0 + 1 * r.val = r.val; omega
  | ⟨1, _⟩ => show (G.val * 8 + h.val) * 64 + 1 * x.val = (G.val * 8 + h.val) * 64 + x.val; omega
theorem ld_s (A : Vec Ideal S1x16 .f32) (G : Fin 2) (h : Fin 8) (off : ℕ) (inb) (e : off = G.val * 8 + h.val) :
    View.ld A (Rect.unit (s := S1x16) ![0, off] S1x1.size inb) (ix2 0 0) = A (ix2 0 (hh G h)) := by
  subst e
  refine congrArg A (funext fun a => Fin.ext ?_)
  match a with
  | ⟨0, _⟩ => rfl
  | ⟨1, _⟩ => show (G.val * 8 + h.val) + 1 * 0 = G.val * 8 + h.val; omega

variable (i : grid0.Coords) (x0 : Vec Ideal S128x1024 .bf16) (x1 x2 : Vec Ideal S128x256 .bf16) (x3 : Vec Ideal S1x16 .f32)

theorem kv_apply (j k : Fin 256) : k0_pay39 (F := Ideal) i x0 x1 x2 x3 (ix2 j k) = kvb x1 x2 j k := by
  unfold k0_pay39
  pointwise [k0_pay4]
  unfold kvb
  split
  · rfl
  · rfl

theorem ldq0 (h : Fin 8) (r : Fin 128) (x : Fin 64) :
    (![View.ld x0 r0_17, View.ld x0 r0_18, View.ld x0 r0_19, View.ld x0 r0_20, View.ld x0 r0_21, View.ld x0 r0_22, View.ld x0 r0_23, View.ld x0 r0_24] h) (ix2 r x) = x0 (ix2 r (hc 0 h x)) := by
  match h with
  | ⟨0, _⟩ => exact ld_q x0 0 ⟨0, by decide⟩ 0 _ rfl r x
  | ⟨1, _⟩ => exact ld_q x0 0 ⟨1, by decide⟩ 64 _ rfl r x
  | ⟨2, _⟩ => exact ld_q x0 0 ⟨2, by decide⟩ 128 _ rfl r x
  | ⟨3, _⟩ => exact ld_q x0 0 ⟨3, by decide⟩ 192 _ rfl r x
  | ⟨4, _⟩ => exact ld_q x0 0 ⟨4, by decide⟩ 256 _ rfl r x
  | ⟨5, _⟩ => exact ld_q x0 0 ⟨5, by decide⟩ 320 _ rfl r x
  | ⟨6, _⟩ => exact ld_q x0 0 ⟨6, by decide⟩ 384 _ rfl r x
  | ⟨7, _⟩ => exact ld_q x0 0 ⟨7, by decide⟩ 448 _ rfl r x
theorem lds0 (h : Fin 8) :
    (![View.ld x3 r0_1, View.ld x3 r0_2, View.ld x3 r0_3, View.ld x3 r0_4, View.ld x3 r0_5, View.ld x3 r0_6, View.ld x3 r0_7, View.ld x3 r0_8] h) (ix2 0 0) = x3 (ix2 0 (hh 0 h)) := by
  match h with
  | ⟨0, _⟩ => exact ld_s x3 0 ⟨0, by decide⟩ 0 _ rfl
  | ⟨1, _⟩ => exact ld_s x3 0 ⟨1, by decide⟩ 1 _ rfl
  | ⟨2, _⟩ => exact ld_s x3 0 ⟨2, by decide⟩ 2 _ rfl
  | ⟨3, _⟩ => exact ld_s x3 0 ⟨3, by decide⟩ 3 _ rfl
  | ⟨4, _⟩ => exact ld_s x3 0 ⟨4, by decide⟩ 4 _ rfl
  | ⟨5, _⟩ => exact ld_s x3 0 ⟨5, by decide⟩ 5 _ rfl
  | ⟨6, _⟩ => exact ld_s x3 0 ⟨6, by decide⟩ 6 _ rfl
  | ⟨7, _⟩ => exact ld_s x3 0 ⟨7, by decide⟩ 7 _ rfl
theorem ldq1 (h : Fin 8) (r : Fin 128) (x : Fin 64) :
    (![View.ld x0 r0_25, View.ld x0 r0_26, View.ld x0 r0_27, View.ld x0 r0_28, View.ld x0 r0_29, View.ld x0 r0_30, View.ld x0 r0_31, View.ld x0 r0_32] h) (ix2 r x) = x0 (ix2 r (hc 1 h x)) := by
  match h with
  | ⟨0, _⟩ => exact ld_q x0 1 ⟨0, by decide⟩ 512 _ rfl r x
  | ⟨1, _⟩ => exact ld_q x0 1 ⟨1, by decide⟩ 576 _ rfl r x
  | ⟨2, _⟩ => exact ld_q x0 1 ⟨2, by decide⟩ 640 _ rfl r x
  | ⟨3, _⟩ => exact ld_q x0 1 ⟨3, by decide⟩ 704 _ rfl r x
  | ⟨4, _⟩ => exact ld_q x0 1 ⟨4, by decide⟩ 768 _ rfl r x
  | ⟨5, _⟩ => exact ld_q x0 1 ⟨5, by decide⟩ 832 _ rfl r x
  | ⟨6, _⟩ => exact ld_q x0 1 ⟨6, by decide⟩ 896 _ rfl r x
  | ⟨7, _⟩ => exact ld_q x0 1 ⟨7, by decide⟩ 960 _ rfl r x
theorem lds1 (h : Fin 8) :
    (![View.ld x3 r0_9, View.ld x3 r0_10, View.ld x3 r0_11, View.ld x3 r0_12, View.ld x3 r0_13, View.ld x3 r0_14, View.ld x3 r0_15, View.ld x3 r0_16] h) (ix2 0 0) = x3 (ix2 0 (hh 1 h)) := by
  match h with
  | ⟨0, _⟩ => exact ld_s x3 1 ⟨0, by decide⟩ 8 _ rfl
  | ⟨1, _⟩ => exact ld_s x3 1 ⟨1, by decide⟩ 9 _ rfl
  | ⟨2, _⟩ => exact ld_s x3 1 ⟨2, by decide⟩ 10 _ rfl
  | ⟨3, _⟩ => exact ld_s x3 1 ⟨3, by decide⟩ 11 _ rfl
  | ⟨4, _⟩ => exact ld_s x3 1 ⟨4, by decide⟩ 12 _ rfl
  | ⟨5, _⟩ => exact ld_s x3 1 ⟨5, by decide⟩ 13 _ rfl
  | ⟨6, _⟩ => exact ld_s x3 1 ⟨6, by decide⟩ 14 _ rfl
  | ⟨7, _⟩ => exact ld_s x3 1 ⟨7, by decide⟩ 15 _ rfl

/-- A row of the stacked heads' masked scores. -/
theorem row_apply (G : Fin 2) (h : Fin 8) (r : Fin 128) :
    (fun j => (![k0_pay42 (F := Ideal) i x0 x1 x2 x3, k0_pay43 (F := Ideal) i x0 x1 x2 x3] G) (ix2 (rr h r) j))
      = rowK (i 0).val r (fun x => x0 (ix2 r (hc G h x))) (fun j x => kvb x1 x2 j (kc G x)) := by
  funext j
  match G with
  | ⟨0, _⟩ =>
    refine (scores0 _ _ _ _ _ _ _ _ _ _ h r j).trans ?_
    unfold rowK
    rw [show k0_pay38 (F := Ideal) i x0 x1 x2 x3 (ix2 (rr h r) j) = mask (i 0).val r j from band i h r j]
    exact congrArg (fun y => Scalar.select _ y _) (congrArg₂ scK (funext fun x => ldq0 x0 h r x) (funext fun x => kv_apply i x0 x1 x2 x3 j _))
  | ⟨1, _⟩ =>
    refine (scores1 _ _ _ _ _ _ _ _ _ _ h r j).trans ?_
    unfold rowK
    rw [show k0_pay38 (F := Ideal) i x0 x1 x2 x3 (ix2 (rr h r) j) = mask (i 0).val r j from band i h r j]
    exact congrArg (fun y => Scalar.select _ y _) (congrArg₂ scK (funext fun x => ldq1 x0 h r x) (funext fun x => kv_apply i x0 x1 x2 x3 j _))

/-- A head's sink. -/
theorem sink_apply (G : Fin 2) (h : Fin 8) (r : Fin 128) :
    (![k0_pay40 (F := Ideal) i x0 x1 x2 x3, k0_pay41 (F := Ideal) i x0 x1 x2 x3] G) (ix2 (rr h r) 0) = x3 (ix2 0 (hh G h)) := by
  match G with
  | ⟨0, _⟩ => exact (sinks0 _ _ _ _ _ _ _ _ h r).trans (lds0 x3 h)
  | ⟨1, _⟩ => exact (sinks1 _ _ _ _ _ _ _ _ h r).trans (lds1 x3 h)

/-- The two blocks at an element. -/
theorem out_o (G : Fin 2) (h : Fin 8) (r : Fin 128) (x : Fin 64) :
    out0_4 (F := Ideal) i x0 x1 x2 x3 (ix2 r (hc G h x))
      = att (rowK (i 0).val r (fun x => x0 (ix2 r (hc G h x))) (fun j x => kvb x1 x2 j (kc G x))) (x3 (ix2 0 (hh G h))) (fun j => kvb x1 x2 j (vc G x)) := by
  rw [← row_apply i x0 x1 x2 x3 G h r, ← sink_apply i x0 x1 x2 x3 G h r, ← funext (fun j => kv_apply i x0 x1 x2 x3 j (vc G x))]
  exact Eq.trans (congrFun (View.canon_unit_zero (funext fun a => by match a with | ⟨0, _⟩ => rfl | ⟨1, _⟩ => rfl) _ _) _)
    (cat (k0_pay39 (F := Ideal) i x0 x1 x2 x3) (k0_pay40 (F := Ideal) i x0 x1 x2 x3) (k0_pay41 (F := Ideal) i x0 x1 x2 x3) (k0_pay42 (F := Ideal) i x0 x1 x2 x3) (k0_pay43 (F := Ideal) i x0 x1 x2 x3) G h r x)
theorem out_l (G : Fin 2) (h : Fin 8) (r : Fin 128) :
    out0_5 (F := Ideal) i x0 x1 x2 x3 (ix2 r (hh G h))
      = lse (rowK (i 0).val r (fun x => x0 (ix2 r (hc G h x))) (fun j x => kvb x1 x2 j (kc G x))) (x3 (ix2 0 (hh G h))) := by
  rw [← row_apply i x0 x1 x2 x3 G h r, ← sink_apply i x0 x1 x2 x3 G h r]
  exact Eq.trans (congrFun (View.canon_unit_zero (funext fun a => by match a with | ⟨0, _⟩ => rfl | ⟨1, _⟩ => rfl) _ _) _)
    (cat_lse (k0_pay40 (F := Ideal) i x0 x1 x2 x3) (k0_pay41 (F := Ideal) i x0 x1 x2 x3) (k0_pay42 (F := Ideal) i x0 x1 x2 x3) (k0_pay43 (F := Ideal) i x0 x1 x2 x3) G h r)

end Cert.SwaFwd
-- ==== Proof.SwaRes.lean ====
module

public import proofs.«01_k».proof.Proof.SwaBlk
public import proofs.«01_k».proof.Proof.Gen.SwaFwdKernelIdeal.Value

/-! The sliding-window attention's forward call: its two results, as functions of its arguments. -/

@[expose] public section
set_option maxRecDepth 16384
noncomputable section
open Idealize.ShloMosaic Idealize.ShloMosaic.TcCoe Idealize.SL.Sem
namespace Cert.SwaFwd
open Cert.SwaFwdKernelIdeal Cert.SwaFwdKernelIdeal.Gen Cert.Swa

variable (m : (ℓ : Loc nD τ sig) → Buf (Elt Ideal) ℓ)

/-- The windows' blocks. -/
theorem idx0 : ∀ t : Fin cfg0.N, win0_0.index t = ![t.val, 0] ∧ win0_1.index t = ![t.val - 1, 0] ∧ win0_2.index t = ![t.val, 0]
    ∧ win0_3.index t = ![0, 0] ∧ win0_4.index t = ![t.val, 0] ∧ win0_5.index t = ![t.val, 0] :=
  (by decide +kernel : ∀ t : Fin grid0.N, _)
theorem coord0 : ∀ t : Fin cfg0.N, (grid0.coords t 0).val = t.val := (by decide +kernel : ∀ t : Fin grid0.N, _)

/-- The queries, the keys and values, and the sinks. -/
def Q (c : Dev nD) (r : Fin 8192) (k : Fin 1024) : EReal := m ((c.tc : Thread nD τ).loc main_arg0) (ix2 r k)
def KV (c : Dev nD) (r : Fin 8192) (k : Fin 256) : EReal := m ((c.tc : Thread nD τ).loc main_arg1) (ix2 r k)
def S (c : Dev nD) (k : Fin 16) : EReal := m ((c.tc : Thread nD τ).loc main_arg2) (ix2 0 k)

theorem blk0 (c : Dev nD) (t : Fin cfg0.N) (r : Fin 128) (k : Fin 1024) (R : Fin 8192) (h : R.val = t.val * 128 + r.val) :
    (show Vec Ideal S128x1024 .bf16 from iblk m c 0 t) (ix2 r k) = Q m c R k := by
  obtain ⟨R, hR⟩ := R
  obtain rfl : R = t.val * 128 + r.val := h
  unfold Q; blk_point [iblk, V, idx0 t]
theorem blk1 (c : Dev nD) (t : Fin cfg0.N) (r : Fin 128) (k : Fin 256) (R : Fin 8192) (h : R.val = (t.val - 1) * 128 + r.val) :
    (show Vec Ideal S128x256 .bf16 from iblk m c 1 t) (ix2 r k) = KV m c R k := by
  obtain ⟨R, hR⟩ := R
  obtain rfl : R = (t.val - 1) * 128 + r.val := h
  unfold KV; blk_point [iblk, V, idx0 t]
theorem blk2 (c : Dev nD) (t : Fin cfg0.N) (r : Fin 128) (k : Fin 256) (R : Fin 8192) (h : R.val = t.val * 128 + r.val) :
    (show Vec Ideal S128x256 .bf16 from iblk m c 2 t) (ix2 r k) = KV m c R k := by
  obtain ⟨R, hR⟩ := R
  obtain rfl : R = t.val * 128 + r.val := h
  unfold KV; blk_point [iblk, V, idx0 t]
theorem blk3 (c : Dev nD) (t : Fin cfg0.N) (k : Fin 16) :
    (show Vec Ideal S1x16 .f32 from iblk m c 3 t) (ix2 0 k) = S m c k := by
  unfold S; blk_point [iblk, V, idx0 t]

/-- The keys and values that a step reads; the first step reads its own block in the place of the previous one. -/
def kvK (c : Dev nD) (n : Fin 64) (j k : Fin 256) : EReal :=
  if h : j.val < 128 then KV m c ⟨(n.val - 1) * 128 + j.val, by omega⟩ k
  else KV m c ⟨n.val * 128 + (j.val - 128), by omega⟩ k

theorem kvb_apply (c : Dev nD) (t : Fin cfg0.N) (n : Fin 64) (hn : n.val = t.val) (j k : Fin 256) :
    kvb (show Vec Ideal S128x256 .bf16 from iblk m c 1 t) (show Vec Ideal S128x256 .bf16 from iblk m c 2 t) j k = kvK m c n j k := by
  unfold kvb kvK
  split
  · exact blk1 m c t _ k _ (by show (n.val - 1) * 128 + j.val = _; rw [hn])
  · exact blk2 m c t _ k _ (by show n.val * 128 + (j.val - 128) = _; rw [hn])

/-- The kernel's scores, and its two results at an element of a block. -/
def rowQ (c : Dev nD) (n : Fin 64) (r : Fin 128) (G : Fin 2) (h : Fin 8) : Fin 256 → EReal :=
  rowK n.val r (fun x => Q m c ⟨n.val * 128 + r.val, by omega⟩ (hc G h x)) (fun j x => kvK m c n j (kc G x))
def elO (c : Dev nD) (n : Fin 64) (r : Fin 128) (G : Fin 2) (h : Fin 8) (x : Fin 64) : EReal :=
  att (rowQ m c n r G h) (S m c (hh G h)) (fun j => kvK m c n j (vc G x))
def elL (c : Dev nD) (n : Fin 64) (r : Fin 128) (G : Fin 2) (h : Fin 8) : EReal :=
  lse (rowQ m c n r G h) (S m c (hh G h))

theorem rowQ_apply (c : Dev nD) (t : Fin cfg0.N) (n : Fin 64) (hn : n.val = t.val) (r : Fin 128) (G : Fin 2) (h : Fin 8) :
    rowK (grid0.coords t 0).val r (fun x => (show Vec Ideal S128x1024 .bf16 from iblk m c 0 t) (ix2 r (hc G h x)))
      (fun j x => kvb (show Vec Ideal S128x256 .bf16 from iblk m c 1 t) (show Vec Ideal S128x256 .bf16 from iblk m c 2 t) j (kc G x)) = rowQ m c n r G h := by
  unfold rowQ
  rw [coord0 t, ← hn]
  exact congrArg₂ (rowK n.val r) (funext fun x => blk0 m c t r _ _ (by show n.val * 128 + r.val = _; rw [hn]))
    (funext fun j => funext fun x => kvb_apply m c t n hn j _)

/-- A result's element from its row and column. -/
def resO (c : Dev nD) (R : Fin 8192) (k : Fin 1024) : EReal :=
  elO m c ⟨R.val / 128, by omega⟩ ⟨R.val % 128, Nat.mod_lt _ (by decide)⟩ ⟨k.val / 512, by omega⟩ ⟨k.val / 64 % 8, Nat.mod_lt _ (by decide)⟩ ⟨k.val % 64, Nat.mod_lt _ (by decide)⟩
def resL (c : Dev nD) (R : Fin 8192) (k : Fin 16) : EReal :=
  elL m c ⟨R.val / 128, by omega⟩ ⟨R.val % 128, Nat.mod_lt _ (by decide)⟩ ⟨k.val / 8, by omega⟩ ⟨k.val % 8, Nat.mod_lt _ (by decide)⟩

theorem resO_apply (c : Dev nD) (n : Fin 64) (r : Fin 128) (G : Fin 2) (h : Fin 8) (x : Fin 64) (R : Fin 8192) (hR : R.val = n.val * 128 + r.val) :
    resO m c R (hc G h x) = elO m c n r G h x := by
  have e1 : (⟨R.val / 128, by omega⟩ : Fin 64) = n := Fin.ext (by show R.val / 128 = n.val; omega)
  have e2 : (⟨R.val % 128, Nat.mod_lt _ (by decide)⟩ : Fin 128) = r := Fin.ext (by show R.val % 128 = r.val; omega)
  have e3 : (⟨(hc G h x).val / 512, by omega⟩ : Fin 2) = G := Fin.ext (by show ((G.val * 8 + h.val) * 64 + x.val) / 512 = G.val; omega)
  have e4 : (⟨(hc G h x).val / 64 % 8, Nat.mod_lt _ (by decide)⟩ : Fin 8) = h := Fin.ext (by show ((G.val * 8 + h.val) * 64 + x.val) / 64 % 8 = h.val; omega)
  have e5 : (⟨(hc G h x).val % 64, Nat.mod_lt _ (by decide)⟩ : Fin 64) = x := Fin.ext (by show ((G.val * 8 + h.val) * 64 + x.val) % 64 = x.val; omega)
  unfold resO
  rw [e1, e2, e3, e4, e5]
theorem resL_apply (c : Dev nD) (n : Fin 64) (r : Fin 128) (G : Fin 2) (h : Fin 8) (R : Fin 8192) (hR : R.val = n.val * 128 + r.val) :
    resL m c R (hh G h) = elL m c n r G h := by
  have e1 : (⟨R.val / 128, by omega⟩ : Fin 64) = n := Fin.ext (by show R.val / 128 = n.val; omega)
  have e2 : (⟨R.val % 128, Nat.mod_lt _ (by decide)⟩ : Fin 128) = r := Fin.ext (by show R.val % 128 = r.val; omega)
  have e3 : (⟨(hh G h).val / 8, by omega⟩ : Fin 2) = G := Fin.ext (by show (G.val * 8 + h.val) / 8 = G.val; omega)
  have e4 : (⟨(hh G h).val % 8, Nat.mod_lt _ (by decide)⟩ : Fin 8) = h := Fin.ext (by show (G.val * 8 + h.val) % 8 = h.val; omega)
  unfold resL
  rw [e1, e2, e3, e4]

theorem hc_cover (k : Fin 1024) : ∃ (G : Fin 2) (h : Fin 8) (x : Fin 64), k = hc G h x :=
  ⟨⟨k.val / 512, by omega⟩, ⟨k.val / 64 % 8, Nat.mod_lt _ (by decide)⟩, ⟨k.val % 64, Nat.mod_lt _ (by decide)⟩, Fin.ext (by simp only [hc]; omega)⟩
theorem hh_cover (k : Fin 16) : ∃ (G : Fin 2) (h : Fin 8), k = hh G h :=
  ⟨⟨k.val / 8, by omega⟩, ⟨k.val % 8, Nat.mod_lt _ (by decide)⟩, Fin.ext (by simp only [hh]; omega)⟩

/-- The kernel's attention output. -/
theorem result4 (c : Dev nD) : (dats m 0 c).arrAt 4 cfg0.N = fun i => resO m c (i 0) (i 1) := by
  refine (dats m 0 c).arrAt_eq_of_covers 4 _ (by decide +kernel) fun t _ y => ?_
  have ht : t.val < 64 := lt_of_lt_of_eq t.isLt N_0
  blk_simp
  rw [after0_4]
  obtain ⟨r, k, rfl⟩ : ∃ (r : Fin 128) (k : Fin 1024), y = ix2 r k := ⟨y 0, y 1, eq_ix2 y⟩
  obtain ⟨G, h, x, rfl⟩ := hc_cover k
  refine (out_o _ _ _ _ _ G h r x).trans ?_
  refine Eq.trans (congrArg₂ (fun s v => att s _ v) (rowQ_apply m c t ⟨t.val, ht⟩ rfl r G h) (funext fun j => kvb_apply m c t ⟨t.val, ht⟩ rfl j _)) ?_
  refine Eq.trans (congrArg (fun s => att _ s _) (blk3 m c t _)) ?_
  refine Eq.trans (resO_apply m c ⟨t.val, ht⟩ r G h x ⟨t.val * 128 + r.val, by omega⟩ rfl).symm ?_
  generalize resO m c = f
  generalize hc G h x = k
  refine congrArg₂ f (Fin.ext ?_) (Fin.ext ?_) <;> blk_point [idx0 t]

/-- The kernel's log-sum-exp. -/
theorem result5 (c : Dev nD) : (dats m 0 c).arrAt 5 cfg0.N = fun i => resL m c (i 0) (i 1) := by
  refine (dats m 0 c).arrAt_eq_of_covers 5 _ (by decide +kernel) fun t _ y => ?_
  have ht : t.val < 64 := lt_of_lt_of_eq t.isLt N_0
  blk_simp
  rw [after0_5]
  obtain ⟨r, k, rfl⟩ : ∃ (r : Fin 128) (k : Fin 16), y = ix2 r k := ⟨y 0, y 1, eq_ix2 y⟩
  obtain ⟨G, h, rfl⟩ := hh_cover k
  refine (out_l _ _ _ _ _ G h r).trans ?_
  refine Eq.trans (congrArg₂ lse (rowQ_apply m c t ⟨t.val, ht⟩ rfl r G h) (blk3 m c t _)) ?_
  refine Eq.trans (resL_apply m c ⟨t.val, ht⟩ r G h ⟨t.val * 128 + r.val, by omega⟩ rfl).symm ?_
  generalize resL m c = f
  generalize hh G h = k
  refine congrArg₂ f (Fin.ext ?_) (Fin.ext ?_) <;> blk_point [idx0 t]

end Cert.SwaFwd
-- ==== Proof.SwaRef.lean ====
module

public import proofs.«01_k».proof.Proof.SwaMath
public import proofs.«01_k».proof.Proof.Gen.SwaFwdReferenceIdeal.Read
public import proofs.«01_k».proof.Proof.Gen.Pre_swa_finite
public import proofs.«01_k».proof.Proof.XaEq

/-! The sliding-window attention's forward reference at an element: the scores of a query with the previous block's keys
and its own block's, their maximum with the sink, the probabilities, and the two results. -/

@[expose] public section
set_option maxRecDepth 16384
noncomputable section
open Idealize.ShloMosaic Idealize.ShloMosaic.TcCoe Idealize.SL.Sem
namespace Cert.SwaFwd
open Cert.SwaFwdReferenceIdeal Cert.SwaFwdReferenceIdeal.Gen Cert.SwaFwdReferenceIdeal.Read Cert.Swa

variable (q : Vec Ideal S8192x1024 .bf16) (kv : Vec Ideal S8192x256 .bf16) (sk : Vec Ideal S1x16 .f32)

/-- Row `r` of block `n`. -/
def rowAt (n : Fin 64) (r : Fin 128) : Fin 8192 := ⟨n.val * 128 + r.val, by omega⟩

/-- The keys and values that a query of block `n` reads: zero where there is no previous block. -/
def kvr (n : Fin 64) (j k : Fin 256) : EReal :=
  if h : j.val < 128 then if h' : n.val < 1 then 0 else kv (ix2 ⟨(n.val - 1) * 128 + j.val, by omega⟩ k)
  else kv (ix2 ⟨n.val * 128 + (j.val - 128), by omega⟩ k)

/-- The scores of a query. -/
def rowR (n : Fin 64) (G : Fin 2) (h : Fin 8) (r : Fin 128) : Fin 256 → EReal :=
  row n.val r (fun x => q (ix2 (rowAt n r) (hc G h x))) (fun j x => kvr kv n j (kc G x))

theorem mask_apply (n : Fin 64) (r : Fin 128) (j : Fin 256) : val_main_v51 (F := Ideal) (ix3 n r j) = mask n.val r j := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_c, val_main_c_2, val_main_c_3]
  rfl

theorem q_apply (n : Fin 64) (r : Fin 128) (G : Fin 2) (h : Fin 8) (x : Fin 64) :
    val_main_v8 (F := Ideal) q (ix6 0 n r G h x) = q (ix2 (rowAt n r) (hc G h x)) := by
  pointwise [val_main_v8, val_main_v2, val_main_v0]
  rfl

theorem k_apply (n : Fin 64) (j : Fin 256) (G : Fin 2) (x : Fin 64) :
    val_main_v15 (F := Ideal) kv (ix5 0 n j G x) = kvr kv n j (kc G x) := by
  pointwise [val_main_v15, val_main_v14, val_main_v13, val_main_v12, val_main_cst, val_main_v9, val_main_v4, val_main_v3, val_main_v1]
  rfl

theorem v_apply (n : Fin 64) (j : Fin 256) (G : Fin 2) (x : Fin 64) :
    val_main_v20 (F := Ideal) kv (ix5 0 n j G x) = kvr kv n j (vc G x) := by
  pointwise [val_main_v20, val_main_v19, val_main_v18, val_main_v17, val_main_cst_0, val_main_v10, val_main_v6, val_main_v5, val_main_v1]
  rfl

/-- A score. -/
theorem s_apply (n : Fin 64) (G : Fin 2) (h : Fin 8) (r : Fin 128) (j : Fin 256) :
    val_main_v53 (F := Ideal) q kv (ix6 0 n G h r j) = rowR q kv n G h r j := by
  pointwise [val_main_v53, val_main_v52, val_main_call0_v2, val_main_call0_v1, val_main_call0_v0, val_main_v24, val_main_v23, val_main_v22, val_main_v21, val_main_cst_1]
  simp only [mask_apply, q_apply, k_apply]
  rfl

/-- A head's sink. -/
theorem sk_apply (n : Fin 64) (G : Fin 2) (h : Fin 8) (r : Fin 128) :
    val_main_v58 (F := Ideal) sk (ix6 0 n G h r 0) = sk (ix2 0 (hh G h)) := by
  pointwise [val_main_v58, val_main_v55, val_main_v54, val_main_v7]
  rfl
theorem sk_apply' (n : Fin 64) (G : Fin 2) (h : Fin 8) (r : Fin 128) :
    val_main_v65 (F := Ideal) sk (ix6 0 n G h r 0) = sk (ix2 0 (hh G h)) := by
  pointwise [val_main_v65, val_main_v55, val_main_v54, val_main_v7]
  rfl

/-- The largest score of a query. -/
theorem fold_apply (n : Fin 64) (G : Fin 2) (h : Fin 8) (r : Fin 128) :
    val_main_v56 (F := Ideal) q kv (ix5 0 n G h r) = Finset.univ.fold max Cert.Xa.ninf (rowR q kv n G h r) := by
  rw [← funext (s_apply q kv n G h r)]
  unfold val_main_v56
  generalize val_main_v53 (F := Ideal) q kv = y
  refine (Host.reduce_eq_fold_single (FloatOps.maximumf (F := Ideal) (φ := .f32)) y _ reducesTo_S1x64x2x8x128x256_S1x64x2x8x128_d5 (by decide) h_S_ _).trans ?_
  refine congrArg (Finset.univ.fold max Cert.Xa.ninf) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem mx_apply (n : Fin 64) (G : Fin 2) (h : Fin 8) (r : Fin 128) :
    val_main_v59 (F := Ideal) q kv sk (ix6 0 n G h r 0) = mx (rowR q kv n G h r) (sk (ix2 0 (hh G h))) := by
  rw [val_main_v59_apply, val_main_v57_apply, sk_apply,
    show idx_main_v57 (ix6 0 n G h r 0) = ix5 0 n G h r from funext fun a => by match a with | ⟨0, _⟩ => rfl | ⟨1, _⟩ => rfl | ⟨2, _⟩ => rfl | ⟨3, _⟩ => rfl | ⟨4, _⟩ => rfl,
    fold_apply]
  rfl

theorem ex_apply (n : Fin 64) (G : Fin 2) (h : Fin 8) (r : Fin 128) (j : Fin 256) :
    val_main_v62 (F := Ideal) q kv sk (ix6 0 n G h r j) = Ideal.exp (rowR q kv n G h r j - mx (rowR q kv n G h r) (sk (ix2 0 (hh G h)))) := by
  rw [val_main_v62_apply, val_main_v61_apply, val_main_v60_apply, s_apply,
    show idx_main_v60 (ix6 0 n G h r j) = ix6 0 n G h r 0 from funext fun a => by match a with | ⟨0, _⟩ => rfl | ⟨1, _⟩ => rfl | ⟨2, _⟩ => rfl | ⟨3, _⟩ => rfl | ⟨4, _⟩ => rfl | ⟨5, _⟩ => rfl,
    mx_apply]
  rfl

theorem sum_apply (n : Fin 64) (G : Fin 2) (h : Fin 8) (r : Fin 128) :
    val_main_v63 (F := Ideal) q kv sk (ix5 0 n G h r) = ∑ j, Ideal.exp (rowR q kv n G h r j - mx (rowR q kv n G h r) (sk (ix2 0 (hh G h)))) := by
  rw [val_main_v63_apply, val_main_cst_6_apply]
  refine Eq.trans (congrArg₂ (· + ·) (show FloatOps.ofBits (F := Ideal) .f32 0x00000000#32 = (0 : EReal) from Ideal.ofBits_zero .f32) (Finset.sum_congr rfl fun j _ => ?_)) (zero_add _)
  rw [show idx_main_v63 (ix5 0 n G h r) j = ix6 0 n G h r j from funext fun a => by match a with | ⟨0, _⟩ => rfl | ⟨1, _⟩ => rfl | ⟨2, _⟩ => rfl | ⟨3, _⟩ => rfl | ⟨4, _⟩ => rfl | ⟨5, _⟩ => rfl,
    ex_apply]

theorem den_apply (n : Fin 64) (G : Fin 2) (h : Fin 8) (r : Fin 128) :
    val_main_v68 (F := Ideal) q kv sk (ix6 0 n G h r 0) = den (rowR q kv n G h r) (sk (ix2 0 (hh G h))) := by
  rw [val_main_v68_apply, val_main_v64_apply, val_main_v67_apply, val_main_v66_apply, sk_apply', mx_apply,
    show idx_main_v64 (ix6 0 n G h r 0) = ix5 0 n G h r from funext fun a => by match a with | ⟨0, _⟩ => rfl | ⟨1, _⟩ => rfl | ⟨2, _⟩ => rfl | ⟨3, _⟩ => rfl | ⟨4, _⟩ => rfl,
    sum_apply]
  rfl

/-- A probability. -/
theorem prob_apply (n : Fin 64) (G : Fin 2) (h : Fin 8) (r : Fin 128) (j : Fin 256) :
    val_main_v70 (F := Ideal) q kv sk (ix6 0 n G h r j) = probR (rowR q kv n G h r) (sk (ix2 0 (hh G h))) j := by
  rw [val_main_v70_apply, val_main_v69_apply, ex_apply,
    show idx_main_v69 (ix6 0 n G h r j) = ix6 0 n G h r 0 from funext fun a => by match a with | ⟨0, _⟩ => rfl | ⟨1, _⟩ => rfl | ⟨2, _⟩ => rfl | ⟨3, _⟩ => rfl | ⟨4, _⟩ => rfl | ⟨5, _⟩ => rfl,
    den_apply]
  rfl

theorem r_div (n : Fin 64) (r : Fin 128) (p) : (⟨(rowAt n r).val / 128, p⟩ : Fin 64) = n := Fin.ext (by show (n.val * 128 + r.val) / 128 = n.val; omega)
theorem r_mod (n : Fin 64) (r : Fin 128) (p) : (⟨(rowAt n r).val % 128, p⟩ : Fin 128) = r := Fin.ext (by show (n.val * 128 + r.val) % 128 = r.val; omega)
theorem hc_g (G : Fin 2) (h : Fin 8) (x : Fin 64) (p) : (⟨(hc G h x).val / 512, p⟩ : Fin 2) = G := Fin.ext (by show ((G.val * 8 + h.val) * 64 + x.val) / 512 = G.val; omega)
theorem hc_h (G : Fin 2) (h : Fin 8) (x : Fin 64) (p) : (⟨(hc G h x).val / 64 % 8, p⟩ : Fin 8) = h := Fin.ext (by show ((G.val * 8 + h.val) * 64 + x.val) / 64 % 8 = h.val; omega)
theorem hc_x (G : Fin 2) (h : Fin 8) (x : Fin 64) (p) : (⟨(hc G h x).val % 64, p⟩ : Fin 64) = x := Fin.ext (by show ((G.val * 8 + h.val) * 64 + x.val) % 64 = x.val; omega)
theorem hh_g (G : Fin 2) (h : Fin 8) (p) : (⟨(hh G h).val / 8, p⟩ : Fin 2) = G := Fin.ext (by show (G.val * 8 + h.val) / 8 = G.val; omega)
theorem hh_h (G : Fin 2) (h : Fin 8) (p) : (⟨(hh G h).val % 8, p⟩ : Fin 8) = h := Fin.ext (by show (G.val * 8 + h.val) % 8 = h.val; omega)

/-- The reference's attention output. -/
theorem out_apply (n : Fin 64) (G : Fin 2) (h : Fin 8) (r : Fin 128) (x : Fin 64) :
    val_main_v80 (F := Ideal) q kv sk (ix2 (rowAt n r) (hc G h x))
      = ∑ j, kvr kv n j (vc G x) * probR (rowR q kv n G h r) (sk (ix2 0 (hh G h))) j := by
  pointwise [val_main_v80, val_main_v79, val_main_v73, val_main_v72, val_main_v71]
  simp only [r_div, r_mod, hc_g, hc_h, hc_x, v_apply, prob_apply]

theorem l76_apply (n : Fin 64) (G : Fin 2) (h : Fin 8) (r : Fin 128) :
    val_main_v76 (F := Ideal) q kv sk (ix5 0 n G h r) = lse (rowR q kv n G h r) (sk (ix2 0 (hh G h))) := by
  have e : val_main_v75 (F := Ideal) q kv sk (ix6 0 n G h r 0) = lse (rowR q kv n G h r) (sk (ix2 0 (hh G h))) := by
    rw [val_main_v75_apply, val_main_v74_apply, mx_apply, den_apply]
    rfl
  rw [← e]
  unfold val_main_v76
  generalize val_main_v75 (F := Ideal) q kv sk = y
  pointwise []

/-- The reference's log-sum-exp. -/
theorem lse_apply (n : Fin 64) (G : Fin 2) (h : Fin 8) (r : Fin 128) :
    val_main_v81 (F := Ideal) q kv sk (ix2 (rowAt n r) (hh G h)) = lse (rowR q kv n G h r) (sk (ix2 0 (hh G h))) := by
  refine Eq.trans ?_ (l76_apply q kv sk n G h r)
  unfold val_main_v81 val_main_v78 val_main_v77
  generalize val_main_v76 (F := Ideal) q kv sk = y
  pointwise []
  simp only [r_div, r_mod, hh_g, hh_h]

/-- The precondition says that the queries, the keys and the sinks are real. -/
theorem pre_real [Cert.Pre_swa_finite.Facts] (h : Cert.Pre_swa_finite.fn (F := Ideal) q kv sk = fun _ => 1#1) :
    (∀ r k, ∃ x : ℝ, q (ix2 r k) = (x : EReal)) ∧ (∀ j G x, ∃ y : ℝ, kv (ix2 j (kc G x)) = (y : EReal)) ∧ (∀ k, ∃ y : ℝ, sk (ix2 0 k) = (y : EReal)) := by
  have hs : Subsingleton Cert.Pre_swa_finite.S_.Idx := ⟨fun a b => funext fun i => i.elim0⟩
  have h0 := congrFun h (fun i => i.elim0)
  dsimp only [Cert.Pre_swa_finite.fn] at h0
  obtain ⟨h12, h3⟩ := IntOp.andi_eq_one.1 h0
  obtain ⟨h1, h2⟩ := IntOp.andi_eq_one.1 h12
  refine ⟨fun r k => ?_, fun j G x => ?_, fun k => ?_⟩
  · exact Cert.XaEq.real_of_cmp _ _ (ix2 r k) Cert.XaEq.inf_eq (Host.reduce_andi_all _ _ _ _ _ h1 (ix2 r k))
  · obtain ⟨y, hy⟩ := Cert.XaEq.real_of_cmp _ _ (ix2 j ⟨(kc G x).val, by show G.val * 64 + x.val < 128; omega⟩) Cert.XaEq.inf_eq (Host.reduce_andi_all _ _ _ _ _ h2 (ix2 j ⟨(kc G x).val, by show G.val * 64 + x.val < 128; omega⟩))
    refine ⟨y, Eq.trans (congrArg kv ?_) hy⟩
    funext a
    refine Fin.ext ?_
    match a with
    | 0 => exact (Nat.zero_add _).symm
    | 1 => exact (Nat.zero_add _).symm
  · exact Cert.XaEq.real_of_cmp _ _ (ix2 0 k) Cert.XaEq.inf_eq (Host.reduce_andi_all _ _ _ _ _ h3 (ix2 0 k))

end Cert.SwaFwd
-- ==== Proof.SwaFwd.lean ====
module

public import proofs.«01_k».proof.Proof.SwaRes
public import proofs.«01_k».proof.Proof.SwaRef

/-! The sliding-window attention's forward call: its two results are the reference's, where the queries, the keys and the
sinks are real. The kernel and the reference differ in where the scale multiplies, in the keys and values that stand in
for a block before the first one, which the mask hides, and in where the sum divides. -/

@[expose] public section
set_option maxRecDepth 16384
noncomputable section
open Idealize.ShloMosaic Idealize.ShloMosaic.TcCoe Idealize.SL.Sem
namespace Cert.SwaFwd
open Cert.SwaFwdKernelIdeal Cert.SwaFwdKernelIdeal.Gen Cert.Swa
open Cert.SwaFwdReferenceIdeal.Read (val_main_v80 val_main_v81)

variable (m : (ℓ : Loc nD τ sig) → Buf (Elt Ideal) ℓ)

/-- Where the mask shows a key, both sides read the same. -/
theorem kv_eq (c : Dev nD) (n : Fin 64) (r : Fin 128) (j k : Fin 256) (h : mask n.val r j = 1#1) :
    kvK m c n j k = kvr (m (c.tc.loc main_arg1)) n j k := by
  unfold kvK kvr KV
  split
  · rename_i hj
    rw [dif_neg (by have := mask_old _ _ _ h hj; omega)]
  · rfl

theorem kvK_real (c : Dev nD) (hk : ∀ j G x, ∃ y : ℝ, (m (c.tc.loc main_arg1)) (ix2 j (kc G x)) = (y : EReal)) (n : Fin 64) (j : Fin 256) (G : Fin 2) (x : Fin 64) :
    ∃ y : ℝ, kvK m c n j (kc G x) = y := by
  unfold kvK
  split
  · exact hk _ G x
  · exact hk _ G x

/-- The scores agree. -/
theorem rows (c : Dev nD) (hq : ∀ r k, ∃ x : ℝ, (m (c.tc.loc main_arg0)) (ix2 r k) = (x : EReal))
    (hk : ∀ j G x, ∃ y : ℝ, (m (c.tc.loc main_arg1)) (ix2 j (kc G x)) = (y : EReal)) (n : Fin 64) (r : Fin 128) (G : Fin 2) (h : Fin 8) :
    rowQ m c n r G h = row n.val r (fun x => Q m c ⟨n.val * 128 + r.val, by omega⟩ (hc G h x)) (fun j x => kvK m c n j (kc G x))
      ∧ rowQ m c n r G h = rowR (m (c.tc.loc main_arg0)) (m (c.tc.loc main_arg1)) n G h r :=
  ⟨row_eq n.val r _ _ _ (fun x => hq _ _) (fun j x => kvK_real m c hk n j G x) (fun _ _ => rfl),
   row_eq n.val r _ _ _ (fun x => hq _ _) (fun j x => kvK_real m c hk n j G x) (fun j hj => funext fun x => kv_eq m c n r j _ hj)⟩

/-- The attention output is the reference's. -/
theorem result_eq4 [Cert.Pre_swa_finite.Facts] (c : Dev nD)
    (h : Cert.Pre_swa_finite.fn (F := Ideal) (m (c.tc.loc main_arg0)) (m (c.tc.loc main_arg1)) (m (c.tc.loc main_arg2)) = fun _ => 1#1) :
    (dats m 0 c).arrAt 4 cfg0.N = val_main_v80 (F := Ideal) (m (c.tc.loc main_arg0)) (m (c.tc.loc main_arg1)) (m (c.tc.loc main_arg2)) := by
  obtain ⟨hq, hk, hs⟩ := pre_real _ _ _ h
  rw [result4]
  funext i
  obtain ⟨R, k, rfl⟩ : ∃ (R : Fin 8192) (k : Fin 1024), i = ix2 R k := ⟨i 0, i 1, eq_ix2 i⟩
  obtain ⟨G, h, x, rfl⟩ := hc_cover k
  obtain ⟨n, r, rfl⟩ : ∃ (n : Fin 64) (r : Fin 128), R = rowAt n r := ⟨⟨R.val / 128, by omega⟩, ⟨R.val % 128, Nat.mod_lt _ (by decide)⟩, Fin.ext (by simp only [rowAt]; omega)⟩
  refine Eq.trans ?_ (out_apply _ _ _ n G h r x).symm
  refine (resO_apply m c n r G h x (rowAt n r) rfl).trans ?_
  unfold elO
  obtain ⟨e1, e2⟩ := rows m c hq hk n r G h
  obtain ⟨k, hk'⟩ := hs (hh G h)
  have hr : ∀ j, (mask n.val r j ≠ 1#1 ∧ rowQ m c n r G h j = ⊥) ∨ (mask n.val r j = 1#1 ∧ ∃ y : ℝ, rowQ m c n r G h j = y) := by
    rw [e1]
    exact row_real n.val r _ _ (fun x => hq _ _) (fun j x _ => kvK_real m c hk n j G x)
  rw [← e2, hk', show S m c (hh G h) = (k : EReal) from hk']
  refine att_eq _ k (fun j => (hr j).imp And.right And.right) _ _ (fun j => ?_)
  rcases hr j with ⟨_, e⟩ | ⟨e, _⟩
  · exact Or.inl e
  · exact Or.inr (kv_eq m c n r j _ e)

/-- The log-sum-exp is the reference's. -/
theorem result_eq5 [Cert.Pre_swa_finite.Facts] (c : Dev nD)
    (h : Cert.Pre_swa_finite.fn (F := Ideal) (m (c.tc.loc main_arg0)) (m (c.tc.loc main_arg1)) (m (c.tc.loc main_arg2)) = fun _ => 1#1) :
    (dats m 0 c).arrAt 5 cfg0.N = val_main_v81 (F := Ideal) (m (c.tc.loc main_arg0)) (m (c.tc.loc main_arg1)) (m (c.tc.loc main_arg2)) := by
  obtain ⟨hq, hk, hs⟩ := pre_real _ _ _ h
  rw [result5]
  funext i
  obtain ⟨R, k, rfl⟩ : ∃ (R : Fin 8192) (k : Fin 16), i = ix2 R k := ⟨i 0, i 1, eq_ix2 i⟩
  obtain ⟨G, h, rfl⟩ := hh_cover k
  obtain ⟨n, r, rfl⟩ : ∃ (n : Fin 64) (r : Fin 128), R = rowAt n r := ⟨⟨R.val / 128, by omega⟩, ⟨R.val % 128, Nat.mod_lt _ (by decide)⟩, Fin.ext (by simp only [rowAt]; omega)⟩
  refine Eq.trans ?_ (lse_apply _ _ _ n G h r).symm
  refine (resL_apply m c n r G h (rowAt n r) rfl).trans ?_
  unfold elL
  rw [← (rows m c hq hk n r G h).2]
  rfl

end Cert.SwaFwd
-- ==== Proof.lean ====
module

public import proofs.«01_k».proof.Defs
public import Idealize.ShloMosaic.Adequacy
public import Idealize.ShloMosaic.Init
public import proofs.«01_k».proof.Proof.XaEq
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MlpXKernel
public import proofs.«01_k».proof.Proof.Gen.MlpXKernel.Skeleton
public import proofs.«01_k».proof.Proof.Gen.MlpXKernel.Launch
public import proofs.«01_k».proof.Proof.Gen.MlpXKernel.Points
public import proofs.«01_k».proof.Proof.Gen.MlpXKernel.Frame
public import proofs.«01_k».proof.Proof.Gen.MlpXKernelIdeal
public import proofs.«01_k».proof.Proof.Gen.MlpXKernelIdeal.Skeleton
public import proofs.«01_k».proof.Proof.Gen.MlpXKernelIdeal.Launch
public import proofs.«01_k».proof.Proof.Gen.MlpXKernelIdeal.Points
public import proofs.«01_k».proof.Proof.Gen.MlpXKernelIdeal.Frame
public import proofs.«01_k».proof.Proof.Gen.MlpXKernelIdeal.Value
public import proofs.«01_k».proof.Proof.Gen.MlpXReferenceIdeal
public import proofs.«01_k».proof.Proof.Gen.MlpXReferenceIdeal.Run
public import proofs.«01_k».proof.Proof.Gen.MlpXReferenceIdeal.Read
public import proofs.«01_k».proof.Proof.Gen.MlpWinKernel
public import proofs.«01_k».proof.Proof.Gen.MlpWinKernel.Skeleton
public import proofs.«01_k».proof.Proof.Gen.MlpWinKernel.Launch
public import proofs.«01_k».proof.Proof.Gen.MlpWinKernel.Points
public import proofs.«01_k».proof.Proof.Gen.MlpWinKernel.Frame
public import proofs.«01_k».proof.Proof.Gen.MlpWinKernelIdeal
public import proofs.«01_k».proof.Proof.Gen.MlpWinKernelIdeal.Skeleton
public import proofs.«01_k».proof.Proof.Gen.MlpWinKernelIdeal.Launch
public import proofs.«01_k».proof.Proof.Gen.MlpWinKernelIdeal.Points
public import proofs.«01_k».proof.Proof.Gen.MlpWinKernelIdeal.Frame
public import proofs.«01_k».proof.Proof.Gen.MlpWinKernelIdeal.Value
public import proofs.«01_k».proof.Proof.Gen.MlpWinReferenceIdeal
public import proofs.«01_k».proof.Proof.Gen.MlpWinReferenceIdeal.Run
public import proofs.«01_k».proof.Proof.Gen.MlpWinReferenceIdeal.Read
public import proofs.«01_k».proof.Proof.Gen.MlpWoutKernel
public import proofs.«01_k».proof.Proof.Gen.MlpWoutKernel.Skeleton
public import proofs.«01_k».proof.Proof.Gen.MlpWoutKernel.Launch
public import proofs.«01_k».proof.Proof.Gen.MlpWoutKernel.Points
public import proofs.«01_k».proof.Proof.Gen.MlpWoutKernel.Frame
public import proofs.«01_k».proof.Proof.Gen.MlpWoutKernelIdeal
public import proofs.«01_k».proof.Proof.Gen.MlpWoutKernelIdeal.Skeleton
public import proofs.«01_k».proof.Proof.Gen.MlpWoutKernelIdeal.Launch
public import proofs.«01_k».proof.Proof.Gen.MlpWoutKernelIdeal.Points
public import proofs.«01_k».proof.Proof.Gen.MlpWoutKernelIdeal.Frame
public import proofs.«01_k».proof.Proof.Gen.MlpWoutKernelIdeal.Value
public import proofs.«01_k».proof.Proof.Gen.MlpWoutReferenceIdeal
public import proofs.«01_k».proof.Proof.Gen.MlpWoutReferenceIdeal.Run
public import proofs.«01_k».proof.Proof.Gen.MlpWoutReferenceIdeal.Read
public import proofs.«01_k».proof.Proof.Gen.MlpActKernel
public import proofs.«01_k».proof.Proof.Gen.MlpActKernel.Skeleton
public import proofs.«01_k».proof.Proof.Gen.MlpActKernel.Launch
public import proofs.«01_k».proof.Proof.Gen.MlpActKernel.Points
public import proofs.«01_k».proof.Proof.Gen.MlpActKernel.Frame
public import proofs.«01_k».proof.Proof.Gen.MlpActKernelIdeal
public import proofs.«01_k».proof.Proof.Gen.MlpActKernelIdeal.Skeleton
public import proofs.«01_k».proof.Proof.Gen.MlpActKernelIdeal.Launch
public import proofs.«01_k».proof.Proof.Gen.MlpActKernelIdeal.Points
public import proofs.«01_k».proof.Proof.Gen.MlpActKernelIdeal.Frame
public import proofs.«01_k».proof.Proof.Gen.MlpActKernelIdeal.Value
public import proofs.«01_k».proof.Proof.Gen.MlpActReferenceIdeal
public import proofs.«01_k».proof.Proof.Gen.MlpActReferenceIdeal.Run
public import proofs.«01_k».proof.Proof.Gen.MlpActReferenceIdeal.Read
public import proofs.«01_k».proof.Proof.Gen.MlpYKernel
public import proofs.«01_k».proof.Proof.Gen.MlpYKernel.Skeleton
public import proofs.«01_k».proof.Proof.Gen.MlpYKernel.Launch
public import proofs.«01_k».proof.Proof.Gen.MlpYKernel.Points
public import proofs.«01_k».proof.Proof.Gen.MlpYKernel.Frame
public import proofs.«01_k».proof.Proof.Gen.MlpYKernelIdeal
public import proofs.«01_k».proof.Proof.Gen.MlpYKernelIdeal.Skeleton
public import proofs.«01_k».proof.Proof.Gen.MlpYKernelIdeal.Launch
public import proofs.«01_k».proof.Proof.Gen.MlpYKernelIdeal.Points
public import proofs.«01_k».proof.Proof.Gen.MlpYKernelIdeal.Frame
public import proofs.«01_k».proof.Proof.Gen.MlpYKernelIdeal.Value
public import proofs.«01_k».proof.Proof.Gen.MlpYReferenceIdeal
public import proofs.«01_k».proof.Proof.Gen.MlpYReferenceIdeal.Run
public import proofs.«01_k».proof.Proof.Gen.MlpYReferenceIdeal.Read
public import proofs.«01_k».proof.Proof.Gen.MlpDuKernel
public import proofs.«01_k».proof.Proof.Gen.MlpDuKernel.Skeleton
public import proofs.«01_k».proof.Proof.Gen.MlpDuKernel.Launch
public import proofs.«01_k».proof.Proof.Gen.MlpDuKernel.Points
public import proofs.«01_k».proof.Proof.Gen.MlpDuKernel.Frame
public import proofs.«01_k».proof.Proof.Gen.MlpDuKernelIdeal
public import proofs.«01_k».proof.Proof.Gen.MlpDuKernelIdeal.Skeleton
public import proofs.«01_k».proof.Proof.Gen.MlpDuKernelIdeal.Launch
public import proofs.«01_k».proof.Proof.Gen.MlpDuKernelIdeal.Points
public import proofs.«01_k».proof.Proof.Gen.MlpDuKernelIdeal.Frame
public import proofs.«01_k».proof.Proof.Gen.MlpDuKernelIdeal.Value
public import proofs.«01_k».proof.Proof.Gen.MlpDuReferenceIdeal
public import proofs.«01_k».proof.Proof.Gen.MlpDuReferenceIdeal.Run
public import proofs.«01_k».proof.Proof.Gen.MlpDuReferenceIdeal.Read
public import proofs.«01_k».proof.Proof.Gen.InQaKernel
public import proofs.«01_k».proof.Proof.Gen.InQaKernel.Skeleton
public import proofs.«01_k».proof.Proof.Gen.InQaKernel.Launch
public import proofs.«01_k».proof.Proof.Gen.InQaKernel.Points
public import proofs.«01_k».proof.Proof.Gen.InQaKernel.Frame
public import proofs.«01_k».proof.Proof.Gen.InQaKernelIdeal
public import proofs.«01_k».proof.Proof.Gen.InQaKernelIdeal.Skeleton
public import proofs.«01_k».proof.Proof.Gen.InQaKernelIdeal.Launch
public import proofs.«01_k».proof.Proof.Gen.InQaKernelIdeal.Points
public import proofs.«01_k».proof.Proof.Gen.InQaKernelIdeal.Frame
public import proofs.«01_k».proof.Proof.Gen.InQaKernelIdeal.Value
public import proofs.«01_k».proof.Proof.Gen.InQaReferenceIdeal
public import proofs.«01_k».proof.Proof.Gen.InQaReferenceIdeal.Run
public import proofs.«01_k».proof.Proof.Gen.InQaReferenceIdeal.Read
public import proofs.«01_k».proof.Proof.Gen.InKvAbKernel
public import proofs.«01_k».proof.Proof.Gen.InKvAbKernel.Skeleton
public import proofs.«01_k».proof.Proof.Gen.InKvAbKernel.Launch
public import proofs.«01_k».proof.Proof.Gen.InKvAbKernel.Points
public import proofs.«01_k».proof.Proof.Gen.InKvAbKernel.Frame
public import proofs.«01_k».proof.Proof.Gen.InKvAbKernelIdeal
public import proofs.«01_k».proof.Proof.Gen.InKvAbKernelIdeal.Skeleton
public import proofs.«01_k».proof.Proof.Gen.InKvAbKernelIdeal.Launch
public import proofs.«01_k».proof.Proof.Gen.InKvAbKernelIdeal.Points
public import proofs.«01_k».proof.Proof.Gen.InKvAbKernelIdeal.Frame
public import proofs.«01_k».proof.Proof.Gen.InKvAbKernelIdeal.Value
public import proofs.«01_k».proof.Proof.Gen.InKvAbReferenceIdeal
public import proofs.«01_k».proof.Proof.Gen.InKvAbReferenceIdeal.Run
public import proofs.«01_k».proof.Proof.Gen.InKvAbReferenceIdeal.Read
public import proofs.«01_k».proof.Proof.Gen.InQkvBKernel
public import proofs.«01_k».proof.Proof.Gen.InQkvBKernel.Skeleton
public import proofs.«01_k».proof.Proof.Gen.InQkvBKernel.Launch
public import proofs.«01_k».proof.Proof.Gen.InQkvBKernel.Points
public import proofs.«01_k».proof.Proof.Gen.InQkvBKernel.Frame
public import proofs.«01_k».proof.Proof.Gen.InQkvBKernelIdeal
public import proofs.«01_k».proof.Proof.Gen.InQkvBKernelIdeal.Skeleton
public import proofs.«01_k».proof.Proof.Gen.InQkvBKernelIdeal.Launch
public import proofs.«01_k».proof.Proof.Gen.InQkvBKernelIdeal.Points
public import proofs.«01_k».proof.Proof.Gen.InQkvBKernelIdeal.Frame
public import proofs.«01_k».proof.Proof.Gen.InQkvBKernelIdeal.Value
public import proofs.«01_k».proof.Proof.Gen.InQkvBReferenceIdeal
public import proofs.«01_k».proof.Proof.Gen.InQkvBReferenceIdeal.Run
public import proofs.«01_k».proof.Proof.Gen.InQkvBReferenceIdeal.Read
public import proofs.«01_k».proof.Proof.Gen.InZKernel
public import proofs.«01_k».proof.Proof.Gen.InZKernel.Skeleton
public import proofs.«01_k».proof.Proof.Gen.InZKernel.Launch
public import proofs.«01_k».proof.Proof.Gen.InZKernel.Points
public import proofs.«01_k».proof.Proof.Gen.InZKernel.Frame
public import proofs.«01_k».proof.Proof.Gen.InZKernelIdeal
public import proofs.«01_k».proof.Proof.Gen.InZKernelIdeal.Skeleton
public import proofs.«01_k».proof.Proof.Gen.InZKernelIdeal.Launch
public import proofs.«01_k».proof.Proof.Gen.InZKernelIdeal.Points
public import proofs.«01_k».proof.Proof.Gen.InZKernelIdeal.Frame
public import proofs.«01_k».proof.Proof.Gen.InZKernelIdeal.Value
public import proofs.«01_k».proof.Proof.Gen.InZReferenceIdeal
public import proofs.«01_k».proof.Proof.Gen.InZReferenceIdeal.Run
public import proofs.«01_k».proof.Proof.Gen.InZReferenceIdeal.Read
public import proofs.«01_k».proof.Proof.Gen.InQcKernel
public import proofs.«01_k».proof.Proof.Gen.InQcKernel.Skeleton
public import proofs.«01_k».proof.Proof.Gen.InQcKernel.Launch
public import proofs.«01_k».proof.Proof.Gen.InQcKernel.Points
public import proofs.«01_k».proof.Proof.Gen.InQcKernel.Frame
public import proofs.«01_k».proof.Proof.Gen.InQcKernelIdeal
public import proofs.«01_k».proof.Proof.Gen.InQcKernelIdeal.Skeleton
public import proofs.«01_k».proof.Proof.Gen.InQcKernelIdeal.Launch
public import proofs.«01_k».proof.Proof.Gen.InQcKernelIdeal.Points
public import proofs.«01_k».proof.Proof.Gen.InQcKernelIdeal.Frame
public import proofs.«01_k».proof.Proof.Gen.InQcKernelIdeal.Value
public import proofs.«01_k».proof.Proof.Gen.InQcReferenceIdeal
public import proofs.«01_k».proof.Proof.Gen.InQcReferenceIdeal.Run
public import proofs.«01_k».proof.Proof.Gen.InQcReferenceIdeal.Read
public import proofs.«01_k».proof.Proof.Gen.InGatesKernel
public import proofs.«01_k».proof.Proof.Gen.InGatesKernel.Skeleton
public import proofs.«01_k».proof.Proof.Gen.InGatesKernel.Launch
public import proofs.«01_k».proof.Proof.Gen.InGatesKernel.Points
public import proofs.«01_k».proof.Proof.Gen.InGatesKernel.Frame
public import proofs.«01_k».proof.Proof.Gen.InGatesKernelIdeal
public import proofs.«01_k».proof.Proof.Gen.InGatesKernelIdeal.Skeleton
public import proofs.«01_k».proof.Proof.Gen.InGatesKernelIdeal.Launch
public import proofs.«01_k».proof.Proof.Gen.InGatesKernelIdeal.Points
public import proofs.«01_k».proof.Proof.Gen.InGatesKernelIdeal.Frame
public import proofs.«01_k».proof.Proof.Gen.InGatesKernelIdeal.Value
public import proofs.«01_k».proof.Proof.Gen.InGatesReferenceIdeal
public import proofs.«01_k».proof.Proof.Gen.InGatesReferenceIdeal.Run
public import proofs.«01_k».proof.Proof.Gen.InGatesReferenceIdeal.Read
public import proofs.«01_k».proof.Proof.Gen.InXKernel
public import proofs.«01_k».proof.Proof.Gen.InXKernel.Skeleton
public import proofs.«01_k».proof.Proof.Gen.InXKernel.Launch
public import proofs.«01_k».proof.Proof.Gen.InXKernel.Points
public import proofs.«01_k».proof.Proof.Gen.InXKernel.Frame
public import proofs.«01_k».proof.Proof.Gen.InXKernelIdeal
public import proofs.«01_k».proof.Proof.Gen.InXKernelIdeal.Skeleton
public import proofs.«01_k».proof.Proof.Gen.InXKernelIdeal.Launch
public import proofs.«01_k».proof.Proof.Gen.InXKernelIdeal.Points
public import proofs.«01_k».proof.Proof.Gen.InXKernelIdeal.Frame
public import proofs.«01_k».proof.Proof.Gen.InXKernelIdeal.Value
public import proofs.«01_k».proof.Proof.Gen.InXReferenceIdeal
public import proofs.«01_k».proof.Proof.Gen.InXReferenceIdeal.Run
public import proofs.«01_k».proof.Proof.Gen.InXReferenceIdeal.Read
public import proofs.«01_k».proof.Proof.Gen.InWKernel
public import proofs.«01_k».proof.Proof.Gen.InWKernel.Skeleton
public import proofs.«01_k».proof.Proof.Gen.InWKernel.Launch
public import proofs.«01_k».proof.Proof.Gen.InWKernel.Points
public import proofs.«01_k».proof.Proof.Gen.InWKernel.Frame
public import proofs.«01_k».proof.Proof.Gen.InWKernelIdeal
public import proofs.«01_k».proof.Proof.Gen.InWKernelIdeal.Skeleton
public import proofs.«01_k».proof.Proof.Gen.InWKernelIdeal.Launch
public import proofs.«01_k».proof.Proof.Gen.InWKernelIdeal.Points
public import proofs.«01_k».proof.Proof.Gen.InWKernelIdeal.Frame
public import proofs.«01_k».proof.Proof.Gen.InWKernelIdeal.Value
public import proofs.«01_k».proof.Proof.Gen.InWReferenceIdeal
public import proofs.«01_k».proof.Proof.Gen.InWReferenceIdeal.Run
public import proofs.«01_k».proof.Proof.Gen.InWReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.OutXKernel
public import proofs.«01_k».proof.Proof.Gen.OutXKernel.Skeleton
public import proofs.«01_k».proof.Proof.Gen.OutXKernel.Launch
public import proofs.«01_k».proof.Proof.Gen.OutXKernel.Points
public import proofs.«01_k».proof.Proof.Gen.OutXKernel.Frame
public import proofs.«01_k».proof.Proof.Gen.OutXKernelIdeal
public import proofs.«01_k».proof.Proof.Gen.OutXKernelIdeal.Skeleton
public import proofs.«01_k».proof.Proof.Gen.OutXKernelIdeal.Launch
public import proofs.«01_k».proof.Proof.Gen.OutXKernelIdeal.Points
public import proofs.«01_k».proof.Proof.Gen.OutXKernelIdeal.Frame
public import proofs.«01_k».proof.Proof.Gen.OutXKernelIdeal.Value
public import proofs.«01_k».proof.Proof.Gen.OutXReferenceIdeal
public import proofs.«01_k».proof.Proof.Gen.OutXReferenceIdeal.Run
public import proofs.«01_k».proof.Proof.Gen.OutXReferenceIdeal.Read
public import proofs.«01_k».proof.Proof.Gen.OutWKernel
public import proofs.«01_k».proof.Proof.Gen.OutWKernel.Skeleton
public import proofs.«01_k».proof.Proof.Gen.OutWKernel.Launch
public import proofs.«01_k».proof.Proof.Gen.OutWKernel.Points
public import proofs.«01_k».proof.Proof.Gen.OutWKernel.Frame
public import proofs.«01_k».proof.Proof.Gen.OutWKernelIdeal
public import proofs.«01_k».proof.Proof.Gen.OutWKernelIdeal.Skeleton
public import proofs.«01_k».proof.Proof.Gen.OutWKernelIdeal.Launch
public import proofs.«01_k».proof.Proof.Gen.OutWKernelIdeal.Points
public import proofs.«01_k».proof.Proof.Gen.OutWKernelIdeal.Frame
public import proofs.«01_k».proof.Proof.Gen.OutWKernelIdeal.Value
public import proofs.«01_k».proof.Proof.Gen.OutWReferenceIdeal
public import proofs.«01_k».proof.Proof.Gen.OutWReferenceIdeal.Run
public import proofs.«01_k».proof.Proof.Gen.OutWReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.DMergeKernel
public import proofs.«01_k».proof.Proof.Gen.DMergeKernel.Skeleton
public import proofs.«01_k».proof.Proof.Gen.DMergeKernel.Launch
public import proofs.«01_k».proof.Proof.Gen.DMergeKernel.Points
public import proofs.«01_k».proof.Proof.Gen.DMergeKernel.Frame
public import proofs.«01_k».proof.Proof.Gen.DMergeKernelIdeal
public import proofs.«01_k».proof.Proof.Gen.DMergeKernelIdeal.Skeleton
public import proofs.«01_k».proof.Proof.Gen.DMergeKernelIdeal.Launch
public import proofs.«01_k».proof.Proof.Gen.DMergeKernelIdeal.Points
public import proofs.«01_k».proof.Proof.Gen.DMergeKernelIdeal.Frame
public import proofs.«01_k».proof.Proof.Gen.DMergeKernelIdeal.Value
public import proofs.«01_k».proof.Proof.Gen.DMergeReferenceIdeal
public import proofs.«01_k».proof.Proof.Gen.DMergeReferenceIdeal.Run
public import proofs.«01_k».proof.Proof.Gen.DMergeReferenceIdeal.Read
public import proofs.«01_k».proof.Proof.Gen.UpAXKernel
public import proofs.«01_k».proof.Proof.Gen.UpAXKernel.Skeleton
public import proofs.«01_k».proof.Proof.Gen.UpAXKernel.Launch
public import proofs.«01_k».proof.Proof.Gen.UpAXKernel.Points
public import proofs.«01_k».proof.Proof.Gen.UpAXKernel.Frame
public import proofs.«01_k».proof.Proof.Gen.UpAXKernelIdeal
public import proofs.«01_k».proof.Proof.Gen.UpAXKernelIdeal.Skeleton
public import proofs.«01_k».proof.Proof.Gen.UpAXKernelIdeal.Launch
public import proofs.«01_k».proof.Proof.Gen.UpAXKernelIdeal.Points
public import proofs.«01_k».proof.Proof.Gen.UpAXKernelIdeal.Frame
public import proofs.«01_k».proof.Proof.Gen.UpAXKernelIdeal.Value
public import proofs.«01_k».proof.Proof.Gen.UpAXReferenceIdeal
public import proofs.«01_k».proof.Proof.Gen.UpAXReferenceIdeal.Run
public import proofs.«01_k».proof.Proof.Gen.UpAXReferenceIdeal.Read
public import proofs.«01_k».proof.Proof.Gen.UpAWKernel
public import proofs.«01_k».proof.Proof.Gen.UpAWKernel.Skeleton
public import proofs.«01_k».proof.Proof.Gen.UpAWKernel.Launch
public import proofs.«01_k».proof.Proof.Gen.UpAWKernel.Points
public import proofs.«01_k».proof.Proof.Gen.UpAWKernel.Frame
public import proofs.«01_k».proof.Proof.Gen.UpAWKernelIdeal
public import proofs.«01_k».proof.Proof.Gen.UpAWKernelIdeal.Skeleton
public import proofs.«01_k».proof.Proof.Gen.UpAWKernelIdeal.Launch
public import proofs.«01_k».proof.Proof.Gen.UpAWKernelIdeal.Points
public import proofs.«01_k».proof.Proof.Gen.UpAWKernelIdeal.Frame
public import proofs.«01_k».proof.Proof.Gen.UpAWKernelIdeal.Value
public import proofs.«01_k».proof.Proof.Gen.UpAWReferenceIdeal
public import proofs.«01_k».proof.Proof.Gen.UpAWReferenceIdeal.Run
public import proofs.«01_k».proof.Proof.Gen.UpAWReferenceIdeal.Read
public import proofs.«01_k».proof.Proof.Gen.UpBXKernel
public import proofs.«01_k».proof.Proof.Gen.UpBXKernel.Skeleton
public import proofs.«01_k».proof.Proof.Gen.UpBXKernel.Launch
public import proofs.«01_k».proof.Proof.Gen.UpBXKernel.Points
public import proofs.«01_k».proof.Proof.Gen.UpBXKernel.Frame
public import proofs.«01_k».proof.Proof.Gen.UpBXKernelIdeal
public import proofs.«01_k».proof.Proof.Gen.UpBXKernelIdeal.Skeleton
public import proofs.«01_k».proof.Proof.Gen.UpBXKernelIdeal.Launch
public import proofs.«01_k».proof.Proof.Gen.UpBXKernelIdeal.Points
public import proofs.«01_k».proof.Proof.Gen.UpBXKernelIdeal.Frame
public import proofs.«01_k».proof.Proof.Gen.UpBXKernelIdeal.Value
public import proofs.«01_k».proof.Proof.Gen.UpBXReferenceIdeal
public import proofs.«01_k».proof.Proof.Gen.UpBXReferenceIdeal.Run
public import proofs.«01_k».proof.Proof.Gen.UpBXReferenceIdeal.Read
public import proofs.«01_k».proof.Proof.Gen.UpBWKernel
public import proofs.«01_k».proof.Proof.Gen.UpBWKernel.Skeleton
public import proofs.«01_k».proof.Proof.Gen.UpBWKernel.Launch
public import proofs.«01_k».proof.Proof.Gen.UpBWKernel.Points
public import proofs.«01_k».proof.Proof.Gen.UpBWKernel.Frame
public import proofs.«01_k».proof.Proof.Gen.UpBWKernelIdeal
public import proofs.«01_k».proof.Proof.Gen.UpBWKernelIdeal.Skeleton
public import proofs.«01_k».proof.Proof.Gen.UpBWKernelIdeal.Launch
public import proofs.«01_k».proof.Proof.Gen.UpBWKernelIdeal.Points
public import proofs.«01_k».proof.Proof.Gen.UpBWKernelIdeal.Frame
public import proofs.«01_k».proof.Proof.Gen.UpBWKernelIdeal.Value
public import proofs.«01_k».proof.Proof.Gen.UpBWReferenceIdeal
public import proofs.«01_k».proof.Proof.Gen.UpBWReferenceIdeal.Run
public import proofs.«01_k».proof.Proof.Gen.UpBWReferenceIdeal.Read
public import proofs.«01_k».proof.Proof.Gen.RmsFwdKernel
public import proofs.«01_k».proof.Proof.Gen.RmsFwdKernel.Skeleton
public import proofs.«01_k».proof.Proof.Gen.RmsFwdKernel.Launch
public import proofs.«01_k».proof.Proof.Gen.RmsFwdKernel.Points
public import proofs.«01_k».proof.Proof.Gen.RmsFwdKernel.Frame
public import proofs.«01_k».proof.Proof.Gen.RmsFwdKernelIdeal
public import proofs.«01_k».proof.Proof.Gen.RmsFwdKernelIdeal.Skeleton
public import proofs.«01_k».proof.Proof.Gen.RmsFwdKernelIdeal.Launch
public import proofs.«01_k».proof.Proof.Gen.RmsFwdKernelIdeal.Points
public import proofs.«01_k».proof.Proof.Gen.RmsFwdKernelIdeal.Frame
public import proofs.«01_k».proof.Proof.Gen.RmsFwdKernelIdeal.Value
public import proofs.«01_k».proof.Proof.Gen.RmsFwdReferenceIdeal
public import proofs.«01_k».proof.Proof.Gen.RmsFwdReferenceIdeal.Run
public import proofs.«01_k».proof.Proof.Gen.RmsFwdReferenceIdeal.Read
public import proofs.«01_k».proof.Proof.Gen.RmsBwdKernel
public import proofs.«01_k».proof.Proof.Gen.RmsBwdKernel.Skeleton
public import proofs.«01_k».proof.Proof.Gen.RmsBwdKernel.Launch
public import proofs.«01_k».proof.Proof.Gen.RmsBwdKernel.Points
public import proofs.«01_k».proof.Proof.Gen.RmsBwdKernel.Frame
public import proofs.«01_k».proof.Proof.Gen.RmsBwdKernelIdeal
public import proofs.«01_k».proof.Proof.Gen.RmsBwdKernelIdeal.Skeleton
public import proofs.«01_k».proof.Proof.Gen.RmsBwdKernelIdeal.Launch
public import proofs.«01_k».proof.Proof.Gen.RmsBwdKernelIdeal.Points
public import proofs.«01_k».proof.Proof.Gen.RmsBwdKernelIdeal.Frame
public import proofs.«01_k».proof.Proof.Gen.RmsBwdKernelIdeal.Value
public import proofs.«01_k».proof.Proof.Gen.RmsBwdReferenceIdeal
public import proofs.«01_k».proof.Proof.Gen.RmsBwdReferenceIdeal.Run
public import proofs.«01_k».proof.Proof.Gen.RmsBwdReferenceIdeal.Read
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.AdwVecKernel
public import proofs.«01_k».proof.Proof.Gen.AdwVecKernel.Skeleton
public import proofs.«01_k».proof.Proof.Gen.AdwVecKernel.Launch
public import proofs.«01_k».proof.Proof.Gen.AdwVecKernel.Points
public import proofs.«01_k».proof.Proof.Gen.AdwVecKernel.Frame
public import proofs.«01_k».proof.Proof.Gen.AdwVecKernelIdeal
public import proofs.«01_k».proof.Proof.Gen.AdwVecKernelIdeal.Skeleton
public import proofs.«01_k».proof.Proof.Gen.AdwVecKernelIdeal.Launch
public import proofs.«01_k».proof.Proof.Gen.AdwVecKernelIdeal.Points
public import proofs.«01_k».proof.Proof.Gen.AdwVecKernelIdeal.Frame
public import proofs.«01_k».proof.Proof.Gen.AdwVecKernelIdeal.Value
public import proofs.«01_k».proof.Proof.Gen.AdwVecReferenceIdeal
public import proofs.«01_k».proof.Proof.Gen.AdwVecReferenceIdeal.Run
public import proofs.«01_k».proof.Proof.Gen.AdwVecReferenceIdeal.Read
public import proofs.«01_k».proof.Proof.Gen.AdwInKernel
public import proofs.«01_k».proof.Proof.Gen.AdwInKernel.Skeleton
public import proofs.«01_k».proof.Proof.Gen.AdwInKernel.Launch
public import proofs.«01_k».proof.Proof.Gen.AdwInKernel.Points
public import proofs.«01_k».proof.Proof.Gen.AdwInKernel.Frame
public import proofs.«01_k».proof.Proof.Gen.AdwInKernelIdeal
public import proofs.«01_k».proof.Proof.Gen.AdwInKernelIdeal.Skeleton
public import proofs.«01_k».proof.Proof.Gen.AdwInKernelIdeal.Launch
public import proofs.«01_k».proof.Proof.Gen.AdwInKernelIdeal.Points
public import proofs.«01_k».proof.Proof.Gen.AdwInKernelIdeal.Frame
public import proofs.«01_k».proof.Proof.Gen.AdwInKernelIdeal.Value
public import proofs.«01_k».proof.Proof.Gen.AdwInReferenceIdeal
public import proofs.«01_k».proof.Proof.Gen.AdwInReferenceIdeal.Run
public import proofs.«01_k».proof.Proof.Gen.AdwInReferenceIdeal.Read
public import proofs.«01_k».proof.Proof.Gen.AdwSinksKernel
public import proofs.«01_k».proof.Proof.Gen.AdwSinksKernel.Skeleton
public import proofs.«01_k».proof.Proof.Gen.AdwSinksKernel.Launch
public import proofs.«01_k».proof.Proof.Gen.AdwSinksKernel.Points
public import proofs.«01_k».proof.Proof.Gen.AdwSinksKernel.Frame
public import proofs.«01_k».proof.Proof.Gen.AdwSinksKernelIdeal
public import proofs.«01_k».proof.Proof.Gen.AdwSinksKernelIdeal.Skeleton
public import proofs.«01_k».proof.Proof.Gen.AdwSinksKernelIdeal.Launch
public import proofs.«01_k».proof.Proof.Gen.AdwSinksKernelIdeal.Points
public import proofs.«01_k».proof.Proof.Gen.AdwSinksKernelIdeal.Frame
public import proofs.«01_k».proof.Proof.Gen.AdwSinksKernelIdeal.Value
public import proofs.«01_k».proof.Proof.Gen.AdwSinksReferenceIdeal
public import proofs.«01_k».proof.Proof.Gen.AdwSinksReferenceIdeal.Run
public import proofs.«01_k».proof.Proof.Gen.AdwSinksReferenceIdeal.Read
public import proofs.«01_k».proof.Proof.Gen.AdwConvKernel
public import proofs.«01_k».proof.Proof.Gen.AdwConvKernel.Skeleton
public import proofs.«01_k».proof.Proof.Gen.AdwConvKernel.Launch
public import proofs.«01_k».proof.Proof.Gen.AdwConvKernel.Points
public import proofs.«01_k».proof.Proof.Gen.AdwConvKernel.Frame
public import proofs.«01_k».proof.Proof.Gen.AdwConvKernelIdeal
public import proofs.«01_k».proof.Proof.Gen.AdwConvKernelIdeal.Skeleton
public import proofs.«01_k».proof.Proof.Gen.AdwConvKernelIdeal.Launch
public import proofs.«01_k».proof.Proof.Gen.AdwConvKernelIdeal.Points
public import proofs.«01_k».proof.Proof.Gen.AdwConvKernelIdeal.Frame
public import proofs.«01_k».proof.Proof.Gen.AdwConvKernelIdeal.Value
public import proofs.«01_k».proof.Proof.Gen.AdwConvReferenceIdeal
public import proofs.«01_k».proof.Proof.Gen.AdwConvReferenceIdeal.Run
public import proofs.«01_k».proof.Proof.Gen.AdwConvReferenceIdeal.Read
public import proofs.«01_k».proof.Proof.Gen.AdwHeadsKernel
public import proofs.«01_k».proof.Proof.Gen.AdwHeadsKernel.Skeleton
public import proofs.«01_k».proof.Proof.Gen.AdwHeadsKernel.Launch
public import proofs.«01_k».proof.Proof.Gen.AdwHeadsKernel.Points
public import proofs.«01_k».proof.Proof.Gen.AdwHeadsKernel.Frame
public import proofs.«01_k».proof.Proof.Gen.AdwHeadsKernelIdeal
public import proofs.«01_k».proof.Proof.Gen.AdwHeadsKernelIdeal.Skeleton
public import proofs.«01_k».proof.Proof.Gen.AdwHeadsKernelIdeal.Launch
public import proofs.«01_k».proof.Proof.Gen.AdwHeadsKernelIdeal.Points
public import proofs.«01_k».proof.Proof.Gen.AdwHeadsKernelIdeal.Frame
public import proofs.«01_k».proof.Proof.Gen.AdwHeadsKernelIdeal.Value
public import proofs.«01_k».proof.Proof.Gen.AdwHeadsReferenceIdeal
public import proofs.«01_k».proof.Proof.Gen.AdwHeadsReferenceIdeal.Run
public import proofs.«01_k».proof.Proof.Gen.AdwHeadsReferenceIdeal.Read
public import proofs.«01_k».proof.Proof.Gen.AdwNormKernel
public import proofs.«01_k».proof.Proof.Gen.AdwNormKernel.Skeleton
public import proofs.«01_k».proof.Proof.Gen.AdwNormKernel.Launch
public import proofs.«01_k».proof.Proof.Gen.AdwNormKernel.Points
public import proofs.«01_k».proof.Proof.Gen.AdwNormKernel.Frame
public import proofs.«01_k».proof.Proof.Gen.AdwNormKernelIdeal
public import proofs.«01_k».proof.Proof.Gen.AdwNormKernelIdeal.Skeleton
public import proofs.«01_k».proof.Proof.Gen.AdwNormKernelIdeal.Launch
public import proofs.«01_k».proof.Proof.Gen.AdwNormKernelIdeal.Points
public import proofs.«01_k».proof.Proof.Gen.AdwNormKernelIdeal.Frame
public import proofs.«01_k».proof.Proof.Gen.AdwNormKernelIdeal.Value
public import proofs.«01_k».proof.Proof.Gen.AdwNormReferenceIdeal
public import proofs.«01_k».proof.Proof.Gen.AdwNormReferenceIdeal.Run
public import proofs.«01_k».proof.Proof.Gen.AdwNormReferenceIdeal.Read
public import proofs.«01_k».proof.Proof.Gen.AdwMemKernel
public import proofs.«01_k».proof.Proof.Gen.AdwMemKernel.Skeleton
public import proofs.«01_k».proof.Proof.Gen.AdwMemKernel.Launch
public import proofs.«01_k».proof.Proof.Gen.AdwMemKernel.Points
public import proofs.«01_k».proof.Proof.Gen.AdwMemKernel.Frame
public import proofs.«01_k».proof.Proof.Gen.AdwMemKernelIdeal
public import proofs.«01_k».proof.Proof.Gen.AdwMemKernelIdeal.Skeleton
public import proofs.«01_k».proof.Proof.Gen.AdwMemKernelIdeal.Launch
public import proofs.«01_k».proof.Proof.Gen.AdwMemKernelIdeal.Points
public import proofs.«01_k».proof.Proof.Gen.AdwMemKernelIdeal.Frame
public import proofs.«01_k».proof.Proof.Gen.AdwMemKernelIdeal.Value
public import proofs.«01_k».proof.Proof.Gen.AdwMemReferenceIdeal
public import proofs.«01_k».proof.Proof.Gen.AdwMemReferenceIdeal.Run
public import proofs.«01_k».proof.Proof.Gen.AdwMemReferenceIdeal.Read
public import proofs.«01_k».proof.Proof.Gen.AdwSwaUpKernel
public import proofs.«01_k».proof.Proof.Gen.AdwSwaUpKernel.Skeleton
public import proofs.«01_k».proof.Proof.Gen.AdwSwaUpKernel.Launch
public import proofs.«01_k».proof.Proof.Gen.AdwSwaUpKernel.Points
public import proofs.«01_k».proof.Proof.Gen.AdwSwaUpKernel.Frame
public import proofs.«01_k».proof.Proof.Gen.AdwSwaUpKernelIdeal
public import proofs.«01_k».proof.Proof.Gen.AdwSwaUpKernelIdeal.Skeleton
public import proofs.«01_k».proof.Proof.Gen.AdwSwaUpKernelIdeal.Launch
public import proofs.«01_k».proof.Proof.Gen.AdwSwaUpKernelIdeal.Points
public import proofs.«01_k».proof.Proof.Gen.AdwSwaUpKernelIdeal.Frame
public import proofs.«01_k».proof.Proof.Gen.AdwSwaUpKernelIdeal.Value
public import proofs.«01_k».proof.Proof.Gen.AdwSwaUpReferenceIdeal
public import proofs.«01_k».proof.Proof.Gen.AdwSwaUpReferenceIdeal.Run
public import proofs.«01_k».proof.Proof.Gen.AdwSwaUpReferenceIdeal.Read
public import proofs.«01_k».proof.Proof.Gen.AdwUpKernel
public import proofs.«01_k».proof.Proof.Gen.AdwUpKernel.Skeleton
public import proofs.«01_k».proof.Proof.Gen.AdwUpKernel.Launch
public import proofs.«01_k».proof.Proof.Gen.AdwUpKernel.Points
public import proofs.«01_k».proof.Proof.Gen.AdwUpKernel.Frame
public import proofs.«01_k».proof.Proof.Gen.AdwUpKernelIdeal
public import proofs.«01_k».proof.Proof.Gen.AdwUpKernelIdeal.Skeleton
public import proofs.«01_k».proof.Proof.Gen.AdwUpKernelIdeal.Launch
public import proofs.«01_k».proof.Proof.Gen.AdwUpKernelIdeal.Points
public import proofs.«01_k».proof.Proof.Gen.AdwUpKernelIdeal.Frame
public import proofs.«01_k».proof.Proof.Gen.AdwUpKernelIdeal.Value
public import proofs.«01_k».proof.Proof.Gen.AdwUpReferenceIdeal
public import proofs.«01_k».proof.Proof.Gen.AdwUpReferenceIdeal.Run
public import proofs.«01_k».proof.Proof.Gen.AdwUpReferenceIdeal.Read
public import proofs.«01_k».proof.Proof.Gen.AdwOutKernel
public import proofs.«01_k».proof.Proof.Gen.AdwOutKernel.Skeleton
public import proofs.«01_k».proof.Proof.Gen.AdwOutKernel.Launch
public import proofs.«01_k».proof.Proof.Gen.AdwOutKernel.Points
public import proofs.«01_k».proof.Proof.Gen.AdwOutKernel.Frame
public import proofs.«01_k».proof.Proof.Gen.AdwOutKernelIdeal
public import proofs.«01_k».proof.Proof.Gen.AdwOutKernelIdeal.Skeleton
public import proofs.«01_k».proof.Proof.Gen.AdwOutKernelIdeal.Launch
public import proofs.«01_k».proof.Proof.Gen.AdwOutKernelIdeal.Points
public import proofs.«01_k».proof.Proof.Gen.AdwOutKernelIdeal.Frame
public import proofs.«01_k».proof.Proof.Gen.AdwOutKernelIdeal.Value
public import proofs.«01_k».proof.Proof.Gen.AdwOutReferenceIdeal
public import proofs.«01_k».proof.Proof.Gen.AdwOutReferenceIdeal.Run
public import proofs.«01_k».proof.Proof.Gen.AdwOutReferenceIdeal.Read
public import proofs.«01_k».proof.Proof.Gen.AdwMlpKernel
public import proofs.«01_k».proof.Proof.Gen.AdwMlpKernel.Skeleton
public import proofs.«01_k».proof.Proof.Gen.AdwMlpKernel.Launch
public import proofs.«01_k».proof.Proof.Gen.AdwMlpKernel.Points
public import proofs.«01_k».proof.Proof.Gen.AdwMlpKernel.Frame
public import proofs.«01_k».proof.Proof.Gen.AdwMlpKernelIdeal
public import proofs.«01_k».proof.Proof.Gen.AdwMlpKernelIdeal.Skeleton
public import proofs.«01_k».proof.Proof.Gen.AdwMlpKernelIdeal.Launch
public import proofs.«01_k».proof.Proof.Gen.AdwMlpKernelIdeal.Points
public import proofs.«01_k».proof.Proof.Gen.AdwMlpKernelIdeal.Frame
public import proofs.«01_k».proof.Proof.Gen.AdwMlpKernelIdeal.Value
public import proofs.«01_k».proof.Proof.Gen.AdwMlpReferenceIdeal
public import proofs.«01_k».proof.Proof.Gen.AdwMlpReferenceIdeal.Run
public import proofs.«01_k».proof.Proof.Gen.AdwMlpReferenceIdeal.Read
public import proofs.«01_k».proof.Proof.Gen.GdnPostFwdKernel
public import proofs.«01_k».proof.Proof.Gen.GdnPostFwdKernel.Skeleton
public import proofs.«01_k».proof.Proof.Gen.GdnPostFwdKernel.Launch
public import proofs.«01_k».proof.Proof.Gen.GdnPostFwdKernel.Points
public import proofs.«01_k».proof.Proof.Gen.GdnPostFwdKernel.Frame
public import proofs.«01_k».proof.Proof.Gen.GdnPostFwdKernelIdeal
public import proofs.«01_k».proof.Proof.Gen.GdnPostFwdKernelIdeal.Skeleton
public import proofs.«01_k».proof.Proof.Gen.GdnPostFwdKernelIdeal.Launch
public import proofs.«01_k».proof.Proof.Gen.GdnPostFwdKernelIdeal.Points
public import proofs.«01_k».proof.Proof.Gen.GdnPostFwdKernelIdeal.Frame
public import proofs.«01_k».proof.Proof.Gen.GdnPostFwdKernelIdeal.Value
public import proofs.«01_k».proof.Proof.Gen.GdnPostFwdReferenceIdeal
public import proofs.«01_k».proof.Proof.Gen.GdnPostFwdReferenceIdeal.Run
public import proofs.«01_k».proof.Proof.Gen.GdnPostFwdReferenceIdeal.Read
public import proofs.«01_k».proof.Proof.Gen.MemKvKernel
public import proofs.«01_k».proof.Proof.Gen.MemKvKernel.Skeleton
public import proofs.«01_k».proof.Proof.Gen.MemKvKernel.Launch
public import proofs.«01_k».proof.Proof.Gen.MemKvKernel.Points
public import proofs.«01_k».proof.Proof.Gen.MemKvKernel.Frame
public import proofs.«01_k».proof.Proof.Gen.MemKvKernelIdeal
public import proofs.«01_k».proof.Proof.Gen.MemKvKernelIdeal.Skeleton
public import proofs.«01_k».proof.Proof.Gen.MemKvKernelIdeal.Launch
public import proofs.«01_k».proof.Proof.Gen.MemKvKernelIdeal.Points
public import proofs.«01_k».proof.Proof.Gen.MemKvKernelIdeal.Frame
public import proofs.«01_k».proof.Proof.Gen.MemKvKernelIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.MemXKernel
public import proofs.«01_k».proof.Proof.Gen.MemXKernel.Skeleton
public import proofs.«01_k».proof.Proof.Gen.MemXKernel.Launch
public import proofs.«01_k».proof.Proof.Gen.MemXKernel.Points
public import proofs.«01_k».proof.Proof.Gen.MemXKernel.Frame
public import proofs.«01_k».proof.Proof.Gen.MemXKernelIdeal
public import proofs.«01_k».proof.Proof.Gen.MemXKernelIdeal.Skeleton
public import proofs.«01_k».proof.Proof.Gen.MemXKernelIdeal.Launch
public import proofs.«01_k».proof.Proof.Gen.MemXKernelIdeal.Points
public import proofs.«01_k».proof.Proof.Gen.MemXKernelIdeal.Frame
public import proofs.«01_k».proof.Proof.Gen.MemXKernelIdeal.Value
public import proofs.«01_k».proof.Proof.Gen.MemXReferenceIdeal
public import proofs.«01_k».proof.Proof.Gen.MemXReferenceIdeal.Run
public import proofs.«01_k».proof.Proof.Gen.MemXReferenceIdeal.Read
public import proofs.«01_k».proof.Proof.Gen.MemWKernel
public import proofs.«01_k».proof.Proof.Gen.MemWKernel.Skeleton
public import proofs.«01_k».proof.Proof.Gen.MemWKernel.Launch
public import proofs.«01_k».proof.Proof.Gen.MemWKernel.Points
public import proofs.«01_k».proof.Proof.Gen.MemWKernel.Frame
public import proofs.«01_k».proof.Proof.Gen.MemWKernelIdeal
public import proofs.«01_k».proof.Proof.Gen.MemWKernelIdeal.Skeleton
public import proofs.«01_k».proof.Proof.Gen.MemWKernelIdeal.Launch
public import proofs.«01_k».proof.Proof.Gen.MemWKernelIdeal.Points
public import proofs.«01_k».proof.Proof.Gen.MemWKernelIdeal.Frame
public import proofs.«01_k».proof.Proof.Gen.MemWKernelIdeal.Value
public import proofs.«01_k».proof.Proof.Gen.MemWReferenceIdeal
public import proofs.«01_k».proof.Proof.Gen.MemWReferenceIdeal.Run
public import proofs.«01_k».proof.Proof.Gen.MemWReferenceIdeal.Read
public import proofs.«01_k».proof.Proof.Gen.XaFwdKernel
public import proofs.«01_k».proof.Proof.Gen.XaFwdKernel.Skeleton
public import proofs.«01_k».proof.Proof.Gen.XaFwdKernel.Launch
public import proofs.«01_k».proof.Proof.Gen.XaFwdKernel.Points
public import proofs.«01_k».proof.Proof.Gen.XaFwdKernel.Frame
public import proofs.«01_k».proof.Proof.Gen.XaFwdKernelIdeal
public import proofs.«01_k».proof.Proof.Gen.XaFwdKernelIdeal.Skeleton
public import proofs.«01_k».proof.Proof.Gen.XaFwdKernelIdeal.Launch
public import proofs.«01_k».proof.Proof.Gen.XaFwdKernelIdeal.Points
public import proofs.«01_k».proof.Proof.Gen.XaFwdKernelIdeal.Frame
public import proofs.«01_k».proof.Proof.Gen.XaFwdKernelIdeal.Value
public import proofs.«01_k».proof.Proof.Gen.XaFwdReferenceIdeal
public import proofs.«01_k».proof.Proof.Gen.XaFwdReferenceIdeal.Run
public import proofs.«01_k».proof.Proof.Gen.XaFwdReferenceIdeal.Read
public import proofs.«01_k».proof.Proof.Gen.SwaFwdKernel
public import proofs.«01_k».proof.Proof.Gen.SwaFwdKernel.Skeleton
public import proofs.«01_k».proof.Proof.Gen.SwaFwdKernel.Launch
public import proofs.«01_k».proof.Proof.Gen.SwaFwdKernel.Points
public import proofs.«01_k».proof.Proof.Gen.SwaFwdKernel.Frame
public import proofs.«01_k».proof.Proof.Gen.SwaFwdKernelIdeal
public import proofs.«01_k».proof.Proof.Gen.SwaFwdKernelIdeal.Skeleton
public import proofs.«01_k».proof.Proof.Gen.SwaFwdKernelIdeal.Launch
public import proofs.«01_k».proof.Proof.Gen.SwaFwdKernelIdeal.Points
public import proofs.«01_k».proof.Proof.Gen.SwaFwdKernelIdeal.Frame
public import proofs.«01_k».proof.Proof.Gen.SwaFwdKernelIdeal.Value
public import proofs.«01_k».proof.Proof.Gen.SwaFwdReferenceIdeal
public import proofs.«01_k».proof.Proof.Gen.SwaFwdReferenceIdeal.Run
public import proofs.«01_k».proof.Proof.Gen.SwaFwdReferenceIdeal.Read
public import proofs.«01_k».proof.Proof.MlpX
public import proofs.«01_k».proof.Proof.MlpWin
public import proofs.«01_k».proof.Proof.MlpWout
public import proofs.«01_k».proof.Proof.MlpAct
public import proofs.«01_k».proof.Proof.MlpY
public import proofs.«01_k».proof.Proof.MlpDu
public import proofs.«01_k».proof.Proof.InQa
public import proofs.«01_k».proof.Proof.InKvAb
public import proofs.«01_k».proof.Proof.InQkvB
public import proofs.«01_k».proof.Proof.InZ
public import proofs.«01_k».proof.Proof.InQc
public import proofs.«01_k».proof.Proof.InGates
public import proofs.«01_k».proof.Proof.InX
public import proofs.«01_k».proof.Proof.InW
public import proofs.«01_k».proof.Proof.Out
public import proofs.«01_k».proof.Proof.OutX
public import proofs.«01_k».proof.Proof.OutW
public import proofs.«01_k».proof.Proof.Merge
public import proofs.«01_k».proof.Proof.DMerge
public import proofs.«01_k».proof.Proof.UpAX
public import proofs.«01_k».proof.Proof.UpAW
public import proofs.«01_k».proof.Proof.UpBX
public import proofs.«01_k».proof.Proof.UpBW
public import proofs.«01_k».proof.Proof.RmsFwd
public import proofs.«01_k».proof.Proof.RmsBwd
public import proofs.«01_k».proof.Proof.Loss
public import proofs.«01_k».proof.Proof.AdwVec
public import proofs.«01_k».proof.Proof.AdwIn
public import proofs.«01_k».proof.Proof.AdwSinks
public import proofs.«01_k».proof.Proof.AdwConv
public import proofs.«01_k».proof.Proof.AdwHeads
public import proofs.«01_k».proof.Proof.AdwNorm
public import proofs.«01_k».proof.Proof.AdwMem
public import proofs.«01_k».proof.Proof.AdwSwaUp
public import proofs.«01_k».proof.Proof.AdwUp
public import proofs.«01_k».proof.Proof.AdwOut
public import proofs.«01_k».proof.Proof.AdwMlp
public import proofs.«01_k».proof.Proof.GdnPostFwd
public import proofs.«01_k».proof.Proof.MemKv
public import proofs.«01_k».proof.Proof.MemX
public import proofs.«01_k».proof.Proof.MemW
public import proofs.«01_k».proof.Proof.XaFwd
public import proofs.«01_k».proof.Proof.SwaFwd
public import proofs.«01_k».proof.Proof.Gen.Pre_xa_fwd_finite
public import proofs.«01_k».proof.Proof.Gen.Pre_swa_finite

@[expose] public section

noncomputable section

namespace Cert.Proof

open Idealize.ShloMosaic Idealize.SL.Sem Cert.Kernel

/-- The reference's frame: its run with the arguments kept; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2, sem_eq_zero_of_no_sems (by decide) r.2⟩)
    (Cert.ReferenceIdeal.Value.run m g)

/-- Kernel and reference end with the same two results, where the queries and the memory's keys are finite. -/
theorem algebraic_xa : Cert.algebraic_KernelIdeal_ReferenceIdeal_pre_xa_finite := by
  intro m g m' g' hpre hargs
  refine ⟨fun c => (Cert.KernelIdeal.Gen.dats m 0 c).arrAt 3 Cert.KernelIdeal.cfg0.N, fun c => (Cert.KernelIdeal.Gen.dats m 0 c).arrAt 4 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h0, h1, h2⟩ := h c
  obtain ⟨a0, a1, a2, a3⟩ := hargs c
  refine ⟨h0.trans ?_, h1.trans ?_, h2⟩
  · rw [Cert.ReferenceIdeal.Read.val_main_v77_eq, a0, a1, a2, a3]
    exact (Cert.XaEq.result0 m c (hpre c)).symm
  · rw [Cert.ReferenceIdeal.Read.val_main_v78_eq, a0, a1, a2]
    exact (Cert.XaEq.result1 m c (hpre c)).symm

/-! ## The squared-ReLU layer's gradient by its input -/

/-- The reference's frame. -/
theorem frame_mlp_x_reference : Cert.quiescent_MlpXReferenceIdeal := fun m g _ =>
  (θ_run Cert.MlpXReferenceIdeal.defs _ _).mono (fun r h => ⟨fun c => (h c).2, sem_eq_zero_of_no_sems (by decide) r.2⟩)
    (Cert.MlpXReferenceIdeal.Value.run m g)

/-- Kernel and reference end with the same result. -/
theorem algebraic_mlp_x : Cert.algebraic_MlpXKernelIdeal_MlpXReferenceIdeal := by
  intro m g m' g' _ hargs
  refine ⟨fun c => (Cert.MlpXKernelIdeal.Gen.dats m 0 c).arrAt 2 Cert.MlpXKernelIdeal.cfg0.N, Cert.MlpXKernelIdeal.Value.run_blocks m g, ?_⟩
  refine (θ_run Cert.MlpXReferenceIdeal.defs _ _).mono (fun r h c => ?_) (Cert.MlpXReferenceIdeal.Value.run m' g')
  obtain ⟨a0, a1, a2, a3⟩ := hargs c
  obtain ⟨h0, h⟩ := h c
  refine ⟨h0.trans ?_, h⟩
  · rw [Cert.MlpXReferenceIdeal.Read.val_main_v30_eq, a0, a1, a2, a3]
    exact (Cert.MlpX.result_eq m c).symm

/-! ## The squared-ReLU layer's gradient by its first weight -/

/-- The reference's frame. -/
theorem frame_mlp_win_reference : Cert.quiescent_MlpWinReferenceIdeal := fun m g _ =>
  (θ_run Cert.MlpWinReferenceIdeal.defs _ _).mono (fun r h => ⟨fun c => (h c).2, sem_eq_zero_of_no_sems (by decide) r.2⟩)
    (Cert.MlpWinReferenceIdeal.Value.run m g)

/-- Kernel and reference end with the same result. -/
theorem algebraic_mlp_win : Cert.algebraic_MlpWinKernelIdeal_MlpWinReferenceIdeal := by
  intro m g m' g' _ hargs
  refine ⟨fun c => (Cert.MlpWinKernelIdeal.Gen.dats m 0 c).arrAt 2 Cert.MlpWinKernelIdeal.cfg0.N, Cert.MlpWinKernelIdeal.Value.run_blocks m g, ?_⟩
  refine (θ_run Cert.MlpWinReferenceIdeal.defs _ _).mono (fun r h c => ?_) (Cert.MlpWinReferenceIdeal.Value.run m' g')
  obtain ⟨a0, a1, a2, a3⟩ := hargs c
  obtain ⟨h0, h⟩ := h c
  refine ⟨h0.trans ?_, h⟩
  · rw [Cert.MlpWinReferenceIdeal.Read.val_main_v46_eq, a0, a1, a2, a3]
    exact (Cert.MlpWin.result_eq m c).symm

/-! ## The squared-ReLU layer's gradient by its second weight -/

/-- The reference's frame. -/
theorem frame_mlp_wout_reference : Cert.quiescent_MlpWoutReferenceIdeal := fun m g _ =>
  (θ_run Cert.MlpWoutReferenceIdeal.defs _ _).mono (fun r h => ⟨fun c => (h c).2, sem_eq_zero_of_no_sems (by decide) r.2⟩)
    (Cert.MlpWoutReferenceIdeal.Value.run m g)

/-- Kernel and reference end with the same result. -/
theorem algebraic_mlp_wout : Cert.algebraic_MlpWoutKernelIdeal_MlpWoutReferenceIdeal := by
  intro m g m' g' _ hargs
  refine ⟨fun c => (Cert.MlpWoutKernelIdeal.Gen.dats m 0 c).arrAt 2 Cert.MlpWoutKernelIdeal.cfg0.N, Cert.MlpWoutKernelIdeal.Value.run_blocks m g, ?_⟩
  refine (θ_run Cert.MlpWoutReferenceIdeal.defs _ _).mono (fun r h c => ?_) (Cert.MlpWoutReferenceIdeal.Value.run m' g')
  obtain ⟨a0, a1, a2, a3⟩ := hargs c
  obtain ⟨h0, h⟩ := h c
  refine ⟨h0.trans ?_, h⟩
  · rw [Cert.MlpWoutReferenceIdeal.Read.val_main_v46_eq, a0, a1, a3]
    exact (Cert.MlpWout.result_eq m c).symm

/-! ## The squared-ReLU layer's pre-activation and activation -/

/-- The reference's frame. -/
theorem frame_mlp_act_reference : Cert.quiescent_MlpActReferenceIdeal := fun m g _ =>
  (θ_run Cert.MlpActReferenceIdeal.defs _ _).mono (fun r h => ⟨fun c => (h c).2.2, sem_eq_zero_of_no_sems (by decide) r.2⟩)
    (Cert.MlpActReferenceIdeal.Value.run m g)

/-- Kernel and reference end with the same results. -/
theorem algebraic_mlp_act : Cert.algebraic_MlpActKernelIdeal_MlpActReferenceIdeal := by
  intro m g m' g' _ hargs
  refine ⟨fun c => (Cert.MlpActKernelIdeal.Gen.dats m 0 c).arrAt 2 Cert.MlpActKernelIdeal.cfg0.N, fun c => (Cert.MlpActKernelIdeal.Gen.dats m 0 c).arrAt 3 Cert.MlpActKernelIdeal.cfg0.N, Cert.MlpActKernelIdeal.Value.run_blocks m g, ?_⟩
  refine (θ_run Cert.MlpActReferenceIdeal.defs _ _).mono (fun r h c => ?_) (Cert.MlpActReferenceIdeal.Value.run m' g')
  obtain ⟨a0, a1⟩ := hargs c
  obtain ⟨h0, h1, h⟩ := h c
  refine ⟨h0.trans ?_, h1.trans ?_, h⟩
  · rw [Cert.MlpActReferenceIdeal.Read.val_main_v12_eq, a0, a1]
    exact (Cert.MlpAct.u_eq m c).symm
  · rw [Cert.MlpActReferenceIdeal.Read.val_main_v15_eq, a0, a1]
    exact (Cert.MlpAct.act_eq m c).symm

/-! ## The squared-ReLU layer's output added to its residual -/

/-- The reference's frame. -/
theorem frame_mlp_y_reference : Cert.quiescent_MlpYReferenceIdeal := fun m g _ =>
  (θ_run Cert.MlpYReferenceIdeal.defs _ _).mono (fun r h => ⟨fun c => (h c).2, sem_eq_zero_of_no_sems (by decide) r.2⟩)
    (Cert.MlpYReferenceIdeal.Value.run m g)

/-- Kernel and reference end with the same result. -/
theorem algebraic_mlp_y : Cert.algebraic_MlpYKernelIdeal_MlpYReferenceIdeal := by
  intro m g m' g' _ hargs
  refine ⟨fun c => (Cert.MlpYKernelIdeal.Gen.dats m 0 c).arrAt 3 Cert.MlpYKernelIdeal.cfg0.N, Cert.MlpYKernelIdeal.Value.run_blocks m g, ?_⟩
  refine (θ_run Cert.MlpYReferenceIdeal.defs _ _).mono (fun r h c => ?_) (Cert.MlpYReferenceIdeal.Value.run m' g')
  obtain ⟨a0, a1, a2, a3⟩ := hargs c
  obtain ⟨h0, h⟩ := h c
  refine ⟨h0.trans ?_, h⟩
  · rw [Cert.MlpYReferenceIdeal.Read.val_main_v16_eq, a0, a1, a2, a3]
    exact (Cert.MlpY.result_eq m c).symm

/-! ## The gradient by the squared-ReLU layer's pre-activation -/

/-- The reference's frame. -/
theorem frame_mlp_du_reference : Cert.quiescent_MlpDuReferenceIdeal := fun m g _ =>
  (θ_run Cert.MlpDuReferenceIdeal.defs _ _).mono (fun r h => ⟨fun c => (h c).2, sem_eq_zero_of_no_sems (by decide) r.2⟩)
    (Cert.MlpDuReferenceIdeal.Value.run m g)

/-- Kernel and reference end with the same result. -/
theorem algebraic_mlp_du : Cert.algebraic_MlpDuKernelIdeal_MlpDuReferenceIdeal := by
  intro m g m' g' _ hargs
  refine ⟨fun c => (Cert.MlpDuKernelIdeal.Gen.dats m 0 c).arrAt 3 Cert.MlpDuKernelIdeal.cfg0.N, Cert.MlpDuKernelIdeal.Value.run_blocks m g, ?_⟩
  refine (θ_run Cert.MlpDuReferenceIdeal.defs _ _).mono (fun r h c => ?_) (Cert.MlpDuReferenceIdeal.Value.run m' g')
  obtain ⟨a0, a1, a2, a3⟩ := hargs c
  obtain ⟨h0, h⟩ := h c
  refine ⟨h0.trans ?_, h⟩
  · rw [Cert.MlpDuReferenceIdeal.Read.val_main_v26_eq, a0, a1, a2, a3]
    exact (Cert.MlpDu.result_eq m c).symm

/-! ## The in-projection's columns for the windowed attention's queries -/

/-- The reference's frame. -/
theorem frame_in_q_a_reference : Cert.quiescent_InQaReferenceIdeal := fun m g _ =>
  (θ_run Cert.InQaReferenceIdeal.defs _ _).mono (fun r h => ⟨fun c => (h c).2, sem_eq_zero_of_no_sems (by decide) r.2⟩)
    (Cert.InQaReferenceIdeal.Value.run m g)

/-- Kernel and reference end with the same result. -/
theorem algebraic_in_q_a : Cert.algebraic_InQaKernelIdeal_InQaReferenceIdeal := by
  intro m g m' g' _ hargs
  refine ⟨fun c => (Cert.InQaKernelIdeal.Gen.dats m 0 c).arrAt 2 Cert.InQaKernelIdeal.cfg0.N, Cert.InQaKernelIdeal.Value.run_blocks m g, ?_⟩
  refine (θ_run Cert.InQaReferenceIdeal.defs _ _).mono (fun r h c => ?_) (Cert.InQaReferenceIdeal.Value.run m' g')
  obtain ⟨a0, a1⟩ := hargs c
  obtain ⟨h0, h⟩ := h c
  refine ⟨h0.trans ?_, h⟩
  · rw [Cert.InQaReferenceIdeal.Read.val_main_v12_eq, a0, a1]
    exact (Cert.InQa.result_eq m c).symm

/-! ## The in-projection's columns for the windowed attention's keys and values and the delta rule's decay and step -/

/-- The reference's frame. -/
theorem frame_in_kv_ab_reference : Cert.quiescent_InKvAbReferenceIdeal := fun m g _ =>
  (θ_run Cert.InKvAbReferenceIdeal.defs _ _).mono (fun r h => ⟨fun c => (h c).2.2, sem_eq_zero_of_no_sems (by decide) r.2⟩)
    (Cert.InKvAbReferenceIdeal.Value.run m g)

/-- Kernel and reference end with the same results. -/
theorem algebraic_in_kv_ab : Cert.algebraic_InKvAbKernelIdeal_InKvAbReferenceIdeal := by
  intro m g m' g' _ hargs
  refine ⟨fun c => (Cert.InKvAbKernelIdeal.Gen.dats m 0 c).arrAt 2 Cert.InKvAbKernelIdeal.cfg0.N, fun c => (Cert.InKvAbKernelIdeal.Gen.dats m 0 c).arrAt 3 Cert.InKvAbKernelIdeal.cfg0.N, Cert.InKvAbKernelIdeal.Value.run_blocks m g, ?_⟩
  refine (θ_run Cert.InKvAbReferenceIdeal.defs _ _).mono (fun r h c => ?_) (Cert.InKvAbReferenceIdeal.Value.run m' g')
  obtain ⟨a0, a1⟩ := hargs c
  obtain ⟨h0, h1, h⟩ := h c
  refine ⟨h0.trans ?_, h1.trans ?_, h⟩
  · rw [Cert.InKvAbReferenceIdeal.Read.val_main_v14_eq, a0, a1]
    exact (Cert.InKvAb.result_eq2 m c).symm
  · rw [Cert.InKvAbReferenceIdeal.Read.val_main_v13_eq, a0, a1]
    exact (Cert.InKvAb.result_eq3 m c).symm

/-! ## The in-projection's columns for the delta rule's queries, keys and values -/

/-- The reference's frame. -/
theorem frame_in_qkv_b_reference : Cert.quiescent_InQkvBReferenceIdeal := fun m g _ =>
  (θ_run Cert.InQkvBReferenceIdeal.defs _ _).mono (fun r h => ⟨fun c => (h c).2, sem_eq_zero_of_no_sems (by decide) r.2⟩)
    (Cert.InQkvBReferenceIdeal.Value.run m g)

/-- Kernel and reference end with the same result. -/
theorem algebraic_in_qkv_b : Cert.algebraic_InQkvBKernelIdeal_InQkvBReferenceIdeal := by
  intro m g m' g' _ hargs
  refine ⟨fun c => (Cert.InQkvBKernelIdeal.Gen.dats m 0 c).arrAt 2 Cert.InQkvBKernelIdeal.cfg0.N, Cert.InQkvBKernelIdeal.Value.run_blocks m g, ?_⟩
  refine (θ_run Cert.InQkvBReferenceIdeal.defs _ _).mono (fun r h c => ?_) (Cert.InQkvBReferenceIdeal.Value.run m' g')
  obtain ⟨a0, a1⟩ := hargs c
  obtain ⟨h0, h⟩ := h c
  refine ⟨h0.trans ?_, h⟩
  · rw [Cert.InQkvBReferenceIdeal.Read.val_main_v6_eq, a0, a1]
    exact (Cert.InQkvB.result_eq m c).symm

/-! ## The in-projection's columns for the delta rule's output gate -/

/-- The reference's frame. -/
theorem frame_in_z_reference : Cert.quiescent_InZReferenceIdeal := fun m g _ =>
  (θ_run Cert.InZReferenceIdeal.defs _ _).mono (fun r h => ⟨fun c => (h c).2, sem_eq_zero_of_no_sems (by decide) r.2⟩)
    (Cert.InZReferenceIdeal.Value.run m g)

/-- Kernel and reference end with the same result. -/
theorem algebraic_in_z : Cert.algebraic_InZKernelIdeal_InZReferenceIdeal := by
  intro m g m' g' _ hargs
  refine ⟨fun c => (Cert.InZKernelIdeal.Gen.dats m 0 c).arrAt 2 Cert.InZKernelIdeal.cfg0.N, Cert.InZKernelIdeal.Value.run_blocks m g, ?_⟩
  refine (θ_run Cert.InZReferenceIdeal.defs _ _).mono (fun r h c => ?_) (Cert.InZReferenceIdeal.Value.run m' g')
  obtain ⟨a0, a1⟩ := hargs c
  obtain ⟨h0, h⟩ := h c
  refine ⟨h0.trans ?_, h⟩
  · rw [Cert.InZReferenceIdeal.Read.val_main_v9_eq, a0, a1]
    exact (Cert.InZ.result_eq m c).symm

/-! ## The in-projection's columns for the cross-attention's queries -/

/-- The reference's frame. -/
theorem frame_in_q_c_reference : Cert.quiescent_InQcReferenceIdeal := fun m g _ =>
  (θ_run Cert.InQcReferenceIdeal.defs _ _).mono (fun r h => ⟨fun c => (h c).2, sem_eq_zero_of_no_sems (by decide) r.2⟩)
    (Cert.InQcReferenceIdeal.Value.run m g)

/-- Kernel and reference end with the same result. -/
theorem algebraic_in_q_c : Cert.algebraic_InQcKernelIdeal_InQcReferenceIdeal := by
  intro m g m' g' _ hargs
  refine ⟨fun c => (Cert.InQcKernelIdeal.Gen.dats m 0 c).arrAt 2 Cert.InQcKernelIdeal.cfg0.N, Cert.InQcKernelIdeal.Value.run_blocks m g, ?_⟩
  refine (θ_run Cert.InQcReferenceIdeal.defs _ _).mono (fun r h c => ?_) (Cert.InQcReferenceIdeal.Value.run m' g')
  obtain ⟨a0, a1⟩ := hargs c
  obtain ⟨h0, h⟩ := h c
  refine ⟨h0.trans ?_, h⟩
  · rw [Cert.InQcReferenceIdeal.Read.val_main_v12_eq, a0, a1]
    exact (Cert.InQc.result_eq m c).symm

/-! ## The in-projection's columns for the branches' gates -/

/-- The reference's frame. -/
theorem frame_in_gates_reference : Cert.quiescent_InGatesReferenceIdeal := fun m g _ =>
  (θ_run Cert.InGatesReferenceIdeal.defs _ _).mono (fun r h => ⟨fun c => (h c).2, sem_eq_zero_of_no_sems (by decide) r.2⟩)
    (Cert.InGatesReferenceIdeal.Value.run m g)

/-- Kernel and reference end with the same result. -/
theorem algebraic_in_gates : Cert.algebraic_InGatesKernelIdeal_InGatesReferenceIdeal := by
  intro m g m' g' _ hargs
  refine ⟨fun c => (Cert.InGatesKernelIdeal.Gen.dats m 0 c).arrAt 2 Cert.InGatesKernelIdeal.cfg0.N, Cert.InGatesKernelIdeal.Value.run_blocks m g, ?_⟩
  refine (θ_run Cert.InGatesReferenceIdeal.defs _ _).mono (fun r h c => ?_) (Cert.InGatesReferenceIdeal.Value.run m' g')
  obtain ⟨a0, a1⟩ := hargs c
  obtain ⟨h0, h⟩ := h c
  refine ⟨h0.trans ?_, h⟩
  · rw [Cert.InGatesReferenceIdeal.Read.val_main_v11_eq, a0, a1]
    exact (Cert.InGates.result_eq m c).symm

/-! ## The in-projection's gradient by its input -/

/-- The reference's frame. -/
theorem frame_in_x_reference : Cert.quiescent_InXReferenceIdeal := fun m g _ =>
  (θ_run Cert.InXReferenceIdeal.defs _ _).mono (fun r h => ⟨fun c => (h c).2, sem_eq_zero_of_no_sems (by decide) r.2⟩)
    (Cert.InXReferenceIdeal.Value.run m g)

/-- Kernel and reference end with the same result. -/
theorem algebraic_in_x : Cert.algebraic_InXKernelIdeal_InXReferenceIdeal := by
  intro m g m' g' _ hargs
  refine ⟨fun c => (Cert.InXKernelIdeal.Gen.dats m 0 c).arrAt 2 Cert.InXKernelIdeal.cfg0.N, Cert.InXKernelIdeal.Value.run_blocks m g, ?_⟩
  refine (θ_run Cert.InXReferenceIdeal.defs _ _).mono (fun r h c => ?_) (Cert.InXReferenceIdeal.Value.run m' g')
  obtain ⟨a0, a1, a2⟩ := hargs c
  obtain ⟨h0, h⟩ := h c
  refine ⟨h0.trans ?_, h⟩
  · rw [Cert.InXReferenceIdeal.Read.val_main_v6_eq, a1, a2]
    exact (Cert.InX.result_eq m c).symm

/-! ## The in-projection's gradient by its weight -/

/-- The reference's frame. -/
theorem frame_in_w_reference : Cert.quiescent_InWReferenceIdeal := fun m g _ =>
  (θ_run Cert.InWReferenceIdeal.defs _ _).mono (fun r h => ⟨fun c => (h c).2, sem_eq_zero_of_no_sems (by decide) r.2⟩)
    (Cert.InWReferenceIdeal.Value.run m g)

/-- Kernel and reference end with the same result. -/
theorem algebraic_in_w : Cert.algebraic_InWKernelIdeal_InWReferenceIdeal := by
  intro m g m' g' _ hargs
  refine ⟨fun c => (Cert.InWKernelIdeal.Gen.dats m 0 c).arrAt 2 Cert.InWKernelIdeal.cfg0.N, Cert.InWKernelIdeal.Value.run_blocks m g, ?_⟩
  refine (θ_run Cert.InWReferenceIdeal.defs _ _).mono (fun r h c => ?_) (Cert.InWReferenceIdeal.Value.run m' g')
  obtain ⟨a0, a1, a2⟩ := hargs c
  obtain ⟨h0, h⟩ := h c
  refine ⟨h0.trans ?_, h⟩
  · rw [Cert.InWReferenceIdeal.Read.val_main_v18_eq, a0, a2]
    exact (Cert.InW.result_eq m c).symm

/-! ## The out-projection, its residual and the norm after it -/

/-- The reference's frame. -/
theorem frame_out_reference : Cert.quiescent_OutReferenceIdeal := fun m g _ =>
  (θ_run Cert.OutReferenceIdeal.defs _ _).mono (fun r h => ⟨fun c => (h c).2.2, sem_eq_zero_of_no_sems (by decide) r.2⟩)
    (Cert.OutReferenceIdeal.Value.run m g)

/-- Kernel and reference end with the same results. -/
theorem algebraic_out : Cert.algebraic_OutKernelIdeal_OutReferenceIdeal := by
  intro m g m' g' _ hargs
  refine ⟨fun c => (Cert.OutKernelIdeal.Gen.dats m 0 c).arrAt 4 Cert.OutKernelIdeal.cfg0.N, fun c => (Cert.OutKernelIdeal.Gen.dats m 0 c).arrAt 5 Cert.OutKernelIdeal.cfg0.N, Cert.OutKernelIdeal.Value.run_blocks m g, ?_⟩
  refine (θ_run Cert.OutReferenceIdeal.defs _ _).mono (fun r h c => ?_) (Cert.OutReferenceIdeal.Value.run m' g')
  obtain ⟨a0, a1, a2, a3⟩ := hargs c
  obtain ⟨h0, h1, h⟩ := h c
  refine ⟨h0.trans ?_, h1.trans ?_, h⟩
  · rw [Cert.OutReferenceIdeal.Read.val_main_v3_eq, a0, a1, a2]
    exact (Cert.Out.result_eq4 m c).symm
  · rw [Cert.OutReferenceIdeal.Read.val_main_v16_eq, a0, a1, a2, a3]
    exact (Cert.Out.result_eq5 m c).symm

/-! ## The out-projection's gradient by its input -/

/-- The reference's frame. -/
theorem frame_out_x_reference : Cert.quiescent_OutXReferenceIdeal := fun m g _ =>
  (θ_run Cert.OutXReferenceIdeal.defs _ _).mono (fun r h => ⟨fun c => (h c).2, sem_eq_zero_of_no_sems (by decide) r.2⟩)
    (Cert.OutXReferenceIdeal.Value.run m g)

/-- Kernel and reference end with the same result. -/
theorem algebraic_out_x : Cert.algebraic_OutXKernelIdeal_OutXReferenceIdeal := by
  intro m g m' g' _ hargs
  refine ⟨fun c => (Cert.OutXKernelIdeal.Gen.dats m 0 c).arrAt 2 Cert.OutXKernelIdeal.cfg0.N, Cert.OutXKernelIdeal.Value.run_blocks m g, ?_⟩
  refine (θ_run Cert.OutXReferenceIdeal.defs _ _).mono (fun r h c => ?_) (Cert.OutXReferenceIdeal.Value.run m' g')
  obtain ⟨a0, a1, a2⟩ := hargs c
  obtain ⟨h0, h⟩ := h c
  refine ⟨h0.trans ?_, h⟩
  · rw [Cert.OutXReferenceIdeal.Read.val_main_v6_eq, a1, a2]
    exact (Cert.OutX.result_eq m c).symm

/-! ## The out-projection's gradient by its weight -/

/-- The reference's frame. -/
theorem frame_out_w_reference : Cert.quiescent_OutWReferenceIdeal := fun m g _ =>
  (θ_run Cert.OutWReferenceIdeal.defs _ _).mono (fun r h => ⟨fun c => (h c).2, sem_eq_zero_of_no_sems (by decide) r.2⟩)
    (Cert.OutWReferenceIdeal.Value.run m g)

/-- Kernel and reference end with the same result. -/
theorem algebraic_out_w : Cert.algebraic_OutWKernelIdeal_OutWReferenceIdeal := by
  intro m g m' g' _ hargs
  refine ⟨fun c => (Cert.OutWKernelIdeal.Gen.dats m 0 c).arrAt 2 Cert.OutWKernelIdeal.cfg0.N, Cert.OutWKernelIdeal.Value.run_blocks m g, ?_⟩
  refine (θ_run Cert.OutWReferenceIdeal.defs _ _).mono (fun r h c => ?_) (Cert.OutWReferenceIdeal.Value.run m' g')
  obtain ⟨a0, a1, a2⟩ := hargs c
  obtain ⟨h0, h⟩ := h c
  refine ⟨h0.trans ?_, h⟩
  · rw [Cert.OutWReferenceIdeal.Read.val_main_v7_eq, a0, a2]
    exact (Cert.OutW.result_eq m c).symm

/-! ## The gated sum of the branches -/

/-- The reference's frame. -/
theorem frame_merge_reference : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run m g)

/-- Kernel and reference end with the same result. -/
theorem algebraic_merge : Cert.algebraic_MergeKernelIdeal_MergeReferenceIdeal := by
  intro m g m' g' _ hargs
  refine ⟨fun c => (Cert.MergeKernelIdeal.Gen.dats m 0 c).arrAt 7 Cert.MergeKernelIdeal.cfg0.N, Cert.MergeKernelIdeal.Value.run_blocks m g, ?_⟩
  refine (θ_run Cert.MergeReferenceIdeal.defs _ _).mono (fun r h c => ?_) (Cert.MergeReferenceIdeal.Value.run m' g')
  obtain ⟨a0, a1, a2, a3, a4, a5, a6⟩ := hargs c
  obtain ⟨h0, h⟩ := h c
  refine ⟨h0.trans ?_, h⟩
  · rw [Cert.MergeReferenceIdeal.Read.val_main_v59_eq, a0, a1, a2, a3, a4, a5, a6]
    exact (Cert.Merge.result_eq m c).symm

/-! ## The gradient of the gated sum of the branches -/

/-- The reference's frame. -/
theorem frame_d_merge_reference : Cert.quiescent_DMergeReferenceIdeal := fun m g _ =>
  (θ_run Cert.DMergeReferenceIdeal.defs _ _).mono (fun r h => ⟨fun c => (h c).2.2.2.2, sem_eq_zero_of_no_sems (by decide) r.2⟩)
    (Cert.DMergeReferenceIdeal.Value.run m g)

/-- Kernel and reference end with the same results. -/
theorem algebraic_d_merge : Cert.algebraic_DMergeKernelIdeal_DMergeReferenceIdeal := by
  intro m g m' g' _ hargs
  refine ⟨fun c => (Cert.DMergeKernelIdeal.Gen.dats m 0 c).arrAt 8 Cert.DMergeKernelIdeal.cfg0.N, fun c => (Cert.DMergeKernelIdeal.Gen.dats m 0 c).arrAt 9 Cert.DMergeKernelIdeal.cfg0.N, fun c => (Cert.DMergeKernelIdeal.Gen.dats m 0 c).arrAt 10 Cert.DMergeKernelIdeal.cfg0.N, fun c => (Cert.DMergeKernelIdeal.Gen.dats m 0 c).arrAt 11 Cert.DMergeKernelIdeal.cfg0.N, Cert.DMergeKernelIdeal.Value.run_blocks m g, ?_⟩
  refine (θ_run Cert.DMergeReferenceIdeal.defs _ _).mono (fun r h c => ?_) (Cert.DMergeReferenceIdeal.Value.run m' g')
  obtain ⟨a0, a1, a2, a3, a4, a5, a6, a7⟩ := hargs c
  obtain ⟨h0, h1, h2, h3, h⟩ := h c
  refine ⟨h0.trans ?_, h1.trans ?_, h2.trans ?_, h3.trans ?_, h⟩
  · rw [Cert.DMergeReferenceIdeal.Read.val_main_v72_eq, a6, a7]
    exact (Cert.DMerge.result_eq8 m c).symm
  · rw [Cert.DMergeReferenceIdeal.Read.val_main_v73_eq, a6, a7]
    exact (Cert.DMerge.result_eq9 m c).symm
  · rw [Cert.DMergeReferenceIdeal.Read.val_main_v74_eq, a6, a7]
    exact (Cert.DMerge.result_eq10 m c).symm
  · rw [Cert.DMergeReferenceIdeal.Read.val_main_v75_eq, a0, a1, a2, a3, a4, a5, a6, a7]
    exact (Cert.DMerge.result_eq11 m c).symm

/-! ## The gradient of the first branch's up-projection by its input -/

/-- The reference's frame. -/
theorem frame_up_a_x_reference : Cert.quiescent_UpAXReferenceIdeal := fun m g _ =>
  (θ_run Cert.UpAXReferenceIdeal.defs _ _).mono (fun r h => ⟨fun c => (h c).2, sem_eq_zero_of_no_sems (by decide) r.2⟩)
    (Cert.UpAXReferenceIdeal.Value.run m g)

/-- Kernel and reference end with the same result. -/
theorem algebraic_up_a_x : Cert.algebraic_UpAXKernelIdeal_UpAXReferenceIdeal := by
  intro m g m' g' _ hargs
  refine ⟨fun c => (Cert.UpAXKernelIdeal.Gen.dats m 0 c).arrAt 2 Cert.UpAXKernelIdeal.cfg0.N, Cert.UpAXKernelIdeal.Value.run_blocks m g, ?_⟩
  refine (θ_run Cert.UpAXReferenceIdeal.defs _ _).mono (fun r h c => ?_) (Cert.UpAXReferenceIdeal.Value.run m' g')
  obtain ⟨a0, a1, a2, a3⟩ := hargs c
  obtain ⟨h0, h⟩ := h c
  refine ⟨h0.trans ?_, h⟩
  · rw [Cert.UpAXReferenceIdeal.Read.val_main_v38_eq, a1, a2, a3]
    exact (Cert.UpAX.result_eq m c).symm

/-! ## The gradient of the first branch's up-projection by its weight -/

/-- The reference's frame. -/
theorem frame_up_a_w_reference : Cert.quiescent_UpAWReferenceIdeal := fun m g _ =>
  (θ_run Cert.UpAWReferenceIdeal.defs _ _).mono (fun r h => ⟨fun c => (h c).2, sem_eq_zero_of_no_sems (by decide) r.2⟩)
    (Cert.UpAWReferenceIdeal.Value.run m g)

/-- Kernel and reference end with the same result. -/
theorem algebraic_up_a_w : Cert.algebraic_UpAWKernelIdeal_UpAWReferenceIdeal := by
  intro m g m' g' _ hargs
  refine ⟨fun c => (Cert.UpAWKernelIdeal.Gen.dats m 0 c).arrAt 2 Cert.UpAWKernelIdeal.cfg0.N, Cert.UpAWKernelIdeal.Value.run_blocks m g, ?_⟩
  refine (θ_run Cert.UpAWReferenceIdeal.defs _ _).mono (fun r h c => ?_) (Cert.UpAWReferenceIdeal.Value.run m' g')
  obtain ⟨a0, a1, a2, a3⟩ := hargs c
  obtain ⟨h0, h⟩ := h c
  refine ⟨h0.trans ?_, h⟩
  · rw [Cert.UpAWReferenceIdeal.Read.val_main_v38_eq, a0, a2, a3]
    exact (Cert.UpAW.result_eq m c).symm

/-! ## The gradient of the second branch's up-projection by its input -/

/-- The reference's frame. -/
theorem frame_up_b_x_reference : Cert.quiescent_UpBXReferenceIdeal := fun m g _ =>
  (θ_run Cert.UpBXReferenceIdeal.defs _ _).mono (fun r h => ⟨fun c => (h c).2, sem_eq_zero_of_no_sems (by decide) r.2⟩)
    (Cert.UpBXReferenceIdeal.Value.run m g)

/-- Kernel and reference end with the same result. -/
theorem algebraic_up_b_x : Cert.algebraic_UpBXKernelIdeal_UpBXReferenceIdeal := by
  intro m g m' g' _ hargs
  refine ⟨fun c => (Cert.UpBXKernelIdeal.Gen.dats m 0 c).arrAt 2 Cert.UpBXKernelIdeal.cfg0.N, Cert.UpBXKernelIdeal.Value.run_blocks m g, ?_⟩
  refine (θ_run Cert.UpBXReferenceIdeal.defs _ _).mono (fun r h c => ?_) (Cert.UpBXReferenceIdeal.Value.run m' g')
  obtain ⟨a0, a1, a2, a3⟩ := hargs c
  obtain ⟨h0, h⟩ := h c
  refine ⟨h0.trans ?_, h⟩
  · rw [Cert.UpBXReferenceIdeal.Read.val_main_v38_eq, a1, a2, a3]
    exact (Cert.UpBX.result_eq m c).symm

/-! ## The gradient of the second branch's up-projection by its weight -/

/-- The reference's frame. -/
theorem frame_up_b_w_reference : Cert.quiescent_UpBWReferenceIdeal := fun m g _ =>
  (θ_run Cert.UpBWReferenceIdeal.defs _ _).mono (fun r h => ⟨fun c => (h c).2, sem_eq_zero_of_no_sems (by decide) r.2⟩)
    (Cert.UpBWReferenceIdeal.Value.run m g)

/-- Kernel and reference end with the same result. -/
theorem algebraic_up_b_w : Cert.algebraic_UpBWKernelIdeal_UpBWReferenceIdeal := by
  intro m g m' g' _ hargs
  refine ⟨fun c => (Cert.UpBWKernelIdeal.Gen.dats m 0 c).arrAt 2 Cert.UpBWKernelIdeal.cfg0.N, Cert.UpBWKernelIdeal.Value.run_blocks m g, ?_⟩
  refine (θ_run Cert.UpBWReferenceIdeal.defs _ _).mono (fun r h c => ?_) (Cert.UpBWReferenceIdeal.Value.run m' g')
  obtain ⟨a0, a1, a2, a3⟩ := hargs c
  obtain ⟨h0, h⟩ := h c
  refine ⟨h0.trans ?_, h⟩
  · rw [Cert.UpBWReferenceIdeal.Read.val_main_v38_eq, a0, a2, a3]
    exact (Cert.UpBW.result_eq m c).symm

/-! ## The norm of the block's input -/

/-- The reference's frame. -/
theorem frame_rms_fwd_reference : Cert.quiescent_RmsFwdReferenceIdeal := fun m g _ =>
  (θ_run Cert.RmsFwdReferenceIdeal.defs _ _).mono (fun r h => ⟨fun c => (h c).2, sem_eq_zero_of_no_sems (by decide) r.2⟩)
    (Cert.RmsFwdReferenceIdeal.Value.run m g)

/-- Kernel and reference end with the same result. -/
theorem algebraic_rms_fwd : Cert.algebraic_RmsFwdKernelIdeal_RmsFwdReferenceIdeal := by
  intro m g m' g' _ hargs
  refine ⟨fun c => (Cert.RmsFwdKernelIdeal.Gen.dats m 0 c).arrAt 2 Cert.RmsFwdKernelIdeal.cfg0.N, Cert.RmsFwdKernelIdeal.Value.run_blocks m g, ?_⟩
  refine (θ_run Cert.RmsFwdReferenceIdeal.defs _ _).mono (fun r h c => ?_) (Cert.RmsFwdReferenceIdeal.Value.run m' g')
  obtain ⟨a0, a1⟩ := hargs c
  obtain ⟨h0, h⟩ := h c
  refine ⟨h0.trans ?_, h⟩
  · rw [Cert.RmsFwdReferenceIdeal.Read.val_main_v12_eq, a0, a1]
    exact (Cert.RmsFwd.result_eq m c).symm

/-! ## The gradient of a norm and its residual -/

/-- The reference's frame. -/
theorem frame_rms_bwd_reference : Cert.quiescent_RmsBwdReferenceIdeal := fun m g _ =>
  (θ_run Cert.RmsBwdReferenceIdeal.defs _ _).mono (fun r h => ⟨fun c => (h c).2.2.2, sem_eq_zero_of_no_sems (by decide) r.2⟩)
    (Cert.RmsBwdReferenceIdeal.Value.run m g)

/-- Kernel and reference end with the same results. -/
theorem algebraic_rms_bwd : Cert.algebraic_RmsBwdKernelIdeal_RmsBwdReferenceIdeal := by
  intro m g m' g' _ hargs
  refine ⟨fun c => (Cert.RmsBwdKernelIdeal.Gen.dats m 0 c).arrAt 4 Cert.RmsBwdKernelIdeal.cfg0.N, fun c => (Cert.RmsBwdKernelIdeal.Gen.dats m 0 c).arrAt 5 Cert.RmsBwdKernelIdeal.cfg0.N, fun c => (Cert.RmsBwdKernelIdeal.Gen.dats m 0 c).arrAt 6 Cert.RmsBwdKernelIdeal.cfg0.N, Cert.RmsBwdKernelIdeal.Value.run_blocks m g, ?_⟩
  refine (θ_run Cert.RmsBwdReferenceIdeal.defs _ _).mono (fun r h c => ?_) (Cert.RmsBwdReferenceIdeal.Value.run m' g')
  obtain ⟨a0, a1, a2, a3⟩ := hargs c
  obtain ⟨h0, h1, h2, h⟩ := h c
  refine ⟨h0.trans ?_, h1.trans ?_, h2.trans ?_, h⟩
  · rw [Cert.RmsBwdReferenceIdeal.Read.val_main_v34_eq, a0, a1, a2, a3]
    exact (Cert.RmsBwd.result_eq4 m c).symm
  · rw [Cert.RmsBwdReferenceIdeal.Read.val_main_v35_eq, a0, a1, a2, a3]
    exact (Cert.RmsBwd.result_eq5 m c).symm
  · rw [Cert.RmsBwdReferenceIdeal.Read.val_main_v17_eq, a0, a1]
    exact (Cert.RmsBwd.result_eq6 m c).symm

/-! ## The last norm, the loss and their gradients -/

/-- The reference's frame. -/
theorem frame_loss_reference : Cert.quiescent_LossReferenceIdeal := fun m g _ =>
  (θ_run Cert.LossReferenceIdeal.defs _ _).mono (fun r h => ⟨fun c => (h c).2.2.2.2, sem_eq_zero_of_no_sems (by decide) r.2⟩)
    (Cert.LossReferenceIdeal.Value.run m g)

/-- Kernel and reference end with the same results. -/
theorem algebraic_loss : Cert.algebraic_LossKernelIdeal_LossReferenceIdeal := by
  intro m g m' g' _ hargs
  refine ⟨fun c => (Cert.LossKernelIdeal.Gen.dats m 0 c).arrAt 3 Cert.LossKernelIdeal.cfg0.N, fun c => (Cert.LossKernelIdeal.Gen.dats m 0 c).arrAt 4 Cert.LossKernelIdeal.cfg0.N, fun c => (Cert.LossKernelIdeal.Gen.dats m 0 c).arrAt 5 Cert.LossKernelIdeal.cfg0.N, fun c => (Cert.LossKernelIdeal.Gen.dats m 0 c).arrAt 6 Cert.LossKernelIdeal.cfg0.N, Cert.LossKernelIdeal.Value.run_blocks m g, ?_⟩
  refine (θ_run Cert.LossReferenceIdeal.defs _ _).mono (fun r h c => ?_) (Cert.LossReferenceIdeal.Value.run m' g')
  obtain ⟨a0, a1, a2⟩ := hargs c
  obtain ⟨h0, h1, h2, h3, h⟩ := h c
  refine ⟨h0.trans ?_, h1.trans ?_, h2.trans ?_, h3.trans ?_, h⟩
  · rw [Cert.LossReferenceIdeal.Read.val_main_v48_eq, a0, a1, a2]
    exact (Cert.Loss.result_eq3 m c).symm
  · rw [Cert.LossReferenceIdeal.Read.val_main_v49_eq, a0, a1, a2]
    exact (Cert.Loss.result_eq4 m c).symm
  · rw [Cert.LossReferenceIdeal.Read.val_main_v32_eq, a0, a1, a2]
    exact (Cert.Loss.result_eq5 m c).symm
  · rw [Cert.LossReferenceIdeal.Read.val_main_v50_eq, a0, a1, a2]
    exact (Cert.Loss.result_eq6 m c).symm

/-! ## One AdamW step of a norm's weight -/

/-- The reference's frame. -/
theorem frame_adw_vec_reference : Cert.quiescent_AdwVecReferenceIdeal := fun m g _ =>
  (θ_run Cert.AdwVecReferenceIdeal.defs _ _).mono (fun r h => ⟨fun c => (h c).2.2.2.2, sem_eq_zero_of_no_sems (by decide) r.2⟩)
    (Cert.AdwVecReferenceIdeal.Value.run m g)

/-- Kernel and reference end with the same results. -/
theorem algebraic_adw_vec : Cert.algebraic_AdwVecKernelIdeal_AdwVecReferenceIdeal := by
  intro m g m' g' _ hargs
  refine ⟨fun c => (Cert.AdwVecKernelIdeal.Gen.dats m 0 c).arrAt 4 Cert.AdwVecKernelIdeal.cfg0.N, fun c => (Cert.AdwVecKernelIdeal.Gen.dats m 0 c).arrAt 5 Cert.AdwVecKernelIdeal.cfg0.N, fun c => (Cert.AdwVecKernelIdeal.Gen.dats m 0 c).arrAt 6 Cert.AdwVecKernelIdeal.cfg0.N, fun c => (Cert.AdwVecKernelIdeal.Gen.dats m 0 c).arrAt 7 Cert.AdwVecKernelIdeal.cfg0.N, Cert.AdwVecKernelIdeal.Value.run_blocks m g, ?_⟩
  refine (θ_run Cert.AdwVecReferenceIdeal.defs _ _).mono (fun r h c => ?_) (Cert.AdwVecReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [a1]
    exact (Cert.AdwVec.result_eq4 m c).symm
  · rw [Cert.AdwVecReferenceIdeal.Read.val_main_v23_eq, a0, a1, a2, a3]
    exact (Cert.AdwVec.result_eq5 m c).symm
  · rw [Cert.AdwVecReferenceIdeal.Read.val_main_v4_eq, a1, a2]
    exact (Cert.AdwVec.result_eq6 m c).symm
  · rw [Cert.AdwVecReferenceIdeal.Read.val_main_v10_eq, a1, a3]
    exact (Cert.AdwVec.result_eq7 m c).symm

/-! ## One AdamW step of the in-projection's weight -/

/-- The reference's frame. -/
theorem frame_adw_in_reference : Cert.quiescent_AdwInReferenceIdeal := fun m g _ =>
  (θ_run Cert.AdwInReferenceIdeal.defs _ _).mono (fun r h => ⟨fun c => (h c).2.2.2.2, sem_eq_zero_of_no_sems (by decide) r.2⟩)
    (Cert.AdwInReferenceIdeal.Value.run m g)

/-- Kernel and reference end with the same results. -/
theorem algebraic_adw_in : Cert.algebraic_AdwInKernelIdeal_AdwInReferenceIdeal := by
  intro m g m' g' _ hargs
  refine ⟨fun c => (Cert.AdwInKernelIdeal.Gen.dats m 0 c).arrAt 4 Cert.AdwInKernelIdeal.cfg0.N, fun c => (Cert.AdwInKernelIdeal.Gen.dats m 0 c).arrAt 5 Cert.AdwInKernelIdeal.cfg0.N, fun c => (Cert.AdwInKernelIdeal.Gen.dats m 0 c).arrAt 6 Cert.AdwInKernelIdeal.cfg0.N, fun c => (Cert.AdwInKernelIdeal.Gen.dats m 0 c).arrAt 7 Cert.AdwInKernelIdeal.cfg0.N, Cert.AdwInKernelIdeal.Value.run_blocks m g, ?_⟩
  refine (θ_run Cert.AdwInReferenceIdeal.defs _ _).mono (fun r h c => ?_) (Cert.AdwInReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwInReferenceIdeal.Read.val_main_v25_eq, a1]
    exact (Cert.AdwIn.result_eq4 m c).symm
  · rw [Cert.AdwInReferenceIdeal.Read.val_main_v26_eq, a0, a1, a2, a3]
    exact (Cert.AdwIn.result_eq5 m c).symm
  · rw [Cert.AdwInReferenceIdeal.Read.val_main_v27_eq, a1, a2]
    exact (Cert.AdwIn.result_eq6 m c).symm
  · rw [Cert.AdwInReferenceIdeal.Read.val_main_v28_eq, a1, a3]
    exact (Cert.AdwIn.result_eq7 m c).symm

/-! ## One AdamW step of the sinks -/

/-- The reference's frame. -/
theorem frame_adw_sinks_reference : Cert.quiescent_AdwSinksReferenceIdeal := fun m g _ =>
  (θ_run Cert.AdwSinksReferenceIdeal.defs _ _).mono (fun r h => ⟨fun c => (h c).2.2.2.2, sem_eq_zero_of_no_sems (by decide) r.2⟩)
    (Cert.AdwSinksReferenceIdeal.Value.run m g)

/-- Kernel and reference end with the same results. -/
theorem algebraic_adw_sinks : Cert.algebraic_AdwSinksKernelIdeal_AdwSinksReferenceIdeal := by
  intro m g m' g' _ hargs
  refine ⟨fun c => (Cert.AdwSinksKernelIdeal.Gen.dats m 0 c).arrAt 4 Cert.AdwSinksKernelIdeal.cfg0.N, fun c => (Cert.AdwSinksKernelIdeal.Gen.dats m 0 c).arrAt 5 Cert.AdwSinksKernelIdeal.cfg0.N, fun c => (Cert.AdwSinksKernelIdeal.Gen.dats m 0 c).arrAt 6 Cert.AdwSinksKernelIdeal.cfg0.N, fun c => (Cert.AdwSinksKernelIdeal.Gen.dats m 0 c).arrAt 7 Cert.AdwSinksKernelIdeal.cfg0.N, Cert.AdwSinksKernelIdeal.Value.run_blocks m g, ?_⟩
  refine (θ_run Cert.AdwSinksReferenceIdeal.defs _ _).mono (fun r h c => ?_) (Cert.AdwSinksReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [a1]
    exact (Cert.AdwSinks.result_eq4 m c).symm
  · rw [Cert.AdwSinksReferenceIdeal.Read.val_main_v23_eq, a0, a1, a2, a3]
    exact (Cert.AdwSinks.result_eq5 m c).symm
  · rw [Cert.AdwSinksReferenceIdeal.Read.val_main_v4_eq, a1, a2]
    exact (Cert.AdwSinks.result_eq6 m c).symm
  · rw [Cert.AdwSinksReferenceIdeal.Read.val_main_v10_eq, a1, a3]
    exact (Cert.AdwSinks.result_eq7 m c).symm

/-! ## One AdamW step of the convolution's taps -/

/-- The reference's frame. -/
theorem frame_adw_conv_reference : Cert.quiescent_AdwConvReferenceIdeal := fun m g _ =>
  (θ_run Cert.AdwConvReferenceIdeal.defs _ _).mono (fun r h => ⟨fun c => (h c).2.2.2.2, sem_eq_zero_of_no_sems (by decide) r.2⟩)
    (Cert.AdwConvReferenceIdeal.Value.run m g)

/-- Kernel and reference end with the same results. -/
theorem algebraic_adw_conv : Cert.algebraic_AdwConvKernelIdeal_AdwConvReferenceIdeal := by
  intro m g m' g' _ hargs
  refine ⟨fun c => (Cert.AdwConvKernelIdeal.Gen.dats m 0 c).arrAt 4 Cert.AdwConvKernelIdeal.cfg0.N, fun c => (Cert.AdwConvKernelIdeal.Gen.dats m 0 c).arrAt 5 Cert.AdwConvKernelIdeal.cfg0.N, fun c => (Cert.AdwConvKernelIdeal.Gen.dats m 0 c).arrAt 6 Cert.AdwConvKernelIdeal.cfg0.N, fun c => (Cert.AdwConvKernelIdeal.Gen.dats m 0 c).arrAt 7 Cert.AdwConvKernelIdeal.cfg0.N, Cert.AdwConvKernelIdeal.Value.run_blocks m g, ?_⟩
  refine (θ_run Cert.AdwConvReferenceIdeal.defs _ _).mono (fun r h c => ?_) (Cert.AdwConvReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwConvReferenceIdeal.Read.val_main_v0_eq, a1]
    exact (Cert.AdwConv.result_eq4 m c).symm
  · rw [Cert.AdwConvReferenceIdeal.Read.val_main_v24_eq, a0, a1, a2, a3]
    exact (Cert.AdwConv.result_eq5 m c).symm
  · rw [Cert.AdwConvReferenceIdeal.Read.val_main_v5_eq, a1, a2]
    exact (Cert.AdwConv.result_eq6 m c).symm
  · rw [Cert.AdwConvReferenceIdeal.Read.val_main_v11_eq, a1, a3]
    exact (Cert.AdwConv.result_eq7 m c).symm

/-! ## One AdamW step of a vector over the heads -/

/-- The reference's frame. -/
theorem frame_adw_heads_reference : Cert.quiescent_AdwHeadsReferenceIdeal := fun m g _ =>
  (θ_run Cert.AdwHeadsReferenceIdeal.defs _ _).mono (fun r h => ⟨fun c => (h c).2.2.2.2, sem_eq_zero_of_no_sems (by decide) r.2⟩)
    (Cert.AdwHeadsReferenceIdeal.Value.run m g)

/-- Kernel and reference end with the same results. -/
theorem algebraic_adw_heads : Cert.algebraic_AdwHeadsKernelIdeal_AdwHeadsReferenceIdeal := by
  intro m g m' g' _ hargs
  refine ⟨fun c => (Cert.AdwHeadsKernelIdeal.Gen.dats m 0 c).arrAt 4 Cert.AdwHeadsKernelIdeal.cfg0.N, fun c => (Cert.AdwHeadsKernelIdeal.Gen.dats m 0 c).arrAt 5 Cert.AdwHeadsKernelIdeal.cfg0.N, fun c => (Cert.AdwHeadsKernelIdeal.Gen.dats m 0 c).arrAt 6 Cert.AdwHeadsKernelIdeal.cfg0.N, fun c => (Cert.AdwHeadsKernelIdeal.Gen.dats m 0 c).arrAt 7 Cert.AdwHeadsKernelIdeal.cfg0.N, Cert.AdwHeadsKernelIdeal.Value.run_blocks m g, ?_⟩
  refine (θ_run Cert.AdwHeadsReferenceIdeal.defs _ _).mono (fun r h c => ?_) (Cert.AdwHeadsReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [a1]
    exact (Cert.AdwHeads.result_eq4 m c).symm
  · rw [Cert.AdwHeadsReferenceIdeal.Read.val_main_v23_eq, a0, a1, a2, a3]
    exact (Cert.AdwHeads.result_eq5 m c).symm
  · rw [Cert.AdwHeadsReferenceIdeal.Read.val_main_v4_eq, a1, a2]
    exact (Cert.AdwHeads.result_eq6 m c).symm
  · rw [Cert.AdwHeadsReferenceIdeal.Read.val_main_v10_eq, a1, a3]
    exact (Cert.AdwHeads.result_eq7 m c).symm

/-! ## One AdamW step of the delta rule's norm -/

/-- The reference's frame. -/
theorem frame_adw_norm_reference : Cert.quiescent_AdwNormReferenceIdeal := fun m g _ =>
  (θ_run Cert.AdwNormReferenceIdeal.defs _ _).mono (fun r h => ⟨fun c => (h c).2.2.2.2, sem_eq_zero_of_no_sems (by decide) r.2⟩)
    (Cert.AdwNormReferenceIdeal.Value.run m g)

/-- Kernel and reference end with the same results. -/
theorem algebraic_adw_norm : Cert.algebraic_AdwNormKernelIdeal_AdwNormReferenceIdeal := by
  intro m g m' g' _ hargs
  refine ⟨fun c => (Cert.AdwNormKernelIdeal.Gen.dats m 0 c).arrAt 4 Cert.AdwNormKernelIdeal.cfg0.N, fun c => (Cert.AdwNormKernelIdeal.Gen.dats m 0 c).arrAt 5 Cert.AdwNormKernelIdeal.cfg0.N, fun c => (Cert.AdwNormKernelIdeal.Gen.dats m 0 c).arrAt 6 Cert.AdwNormKernelIdeal.cfg0.N, fun c => (Cert.AdwNormKernelIdeal.Gen.dats m 0 c).arrAt 7 Cert.AdwNormKernelIdeal.cfg0.N, Cert.AdwNormKernelIdeal.Value.run_blocks m g, ?_⟩
  refine (θ_run Cert.AdwNormReferenceIdeal.defs _ _).mono (fun r h c => ?_) (Cert.AdwNormReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [a1]
    exact (Cert.AdwNorm.result_eq4 m c).symm
  · rw [Cert.AdwNormReferenceIdeal.Read.val_main_v23_eq, a0, a1, a2, a3]
    exact (Cert.AdwNorm.result_eq5 m c).symm
  · rw [Cert.AdwNormReferenceIdeal.Read.val_main_v4_eq, a1, a2]
    exact (Cert.AdwNorm.result_eq6 m c).symm
  · rw [Cert.AdwNormReferenceIdeal.Read.val_main_v10_eq, a1, a3]
    exact (Cert.AdwNorm.result_eq7 m c).symm

/-! ## One AdamW step of the memory's weight -/

/-- The reference's frame. -/
theorem frame_adw_mem_reference : Cert.quiescent_AdwMemReferenceIdeal := fun m g _ =>
  (θ_run Cert.AdwMemReferenceIdeal.defs _ _).mono (fun r h => ⟨fun c => (h c).2.2.2.2, sem_eq_zero_of_no_sems (by decide) r.2⟩)
    (Cert.AdwMemReferenceIdeal.Value.run m g)

/-- Kernel and reference end with the same results. -/
theorem algebraic_adw_mem : Cert.algebraic_AdwMemKernelIdeal_AdwMemReferenceIdeal := by
  intro m g m' g' _ hargs
  refine ⟨fun c => (Cert.AdwMemKernelIdeal.Gen.dats m 0 c).arrAt 4 Cert.AdwMemKernelIdeal.cfg0.N, fun c => (Cert.AdwMemKernelIdeal.Gen.dats m 0 c).arrAt 5 Cert.AdwMemKernelIdeal.cfg0.N, fun c => (Cert.AdwMemKernelIdeal.Gen.dats m 0 c).arrAt 6 Cert.AdwMemKernelIdeal.cfg0.N, fun c => (Cert.AdwMemKernelIdeal.Gen.dats m 0 c).arrAt 7 Cert.AdwMemKernelIdeal.cfg0.N, Cert.AdwMemKernelIdeal.Value.run_blocks m g, ?_⟩
  refine (θ_run Cert.AdwMemReferenceIdeal.defs _ _).mono (fun r h c => ?_) (Cert.AdwMemReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwMemReferenceIdeal.Read.val_main_v0_eq, a1]
    exact (Cert.AdwMem.result_eq4 m c).symm
  · rw [Cert.AdwMemReferenceIdeal.Read.val_main_v24_eq, a0, a1, a2, a3]
    exact (Cert.AdwMem.result_eq5 m c).symm
  · rw [Cert.AdwMemReferenceIdeal.Read.val_main_v5_eq, a1, a2]
    exact (Cert.AdwMem.result_eq6 m c).symm
  · rw [Cert.AdwMemReferenceIdeal.Read.val_main_v11_eq, a1, a3]
    exact (Cert.AdwMem.result_eq7 m c).symm

/-! ## One AdamW step of the windowed attention's up-projection -/

/-- The reference's frame. -/
theorem frame_adw_swaup_reference : Cert.quiescent_AdwSwaUpReferenceIdeal := fun m g _ =>
  (θ_run Cert.AdwSwaUpReferenceIdeal.defs _ _).mono (fun r h => ⟨fun c => (h c).2.2.2.2, sem_eq_zero_of_no_sems (by decide) r.2⟩)
    (Cert.AdwSwaUpReferenceIdeal.Value.run m g)

/-- Kernel and reference end with the same results. -/
theorem algebraic_adw_swaup : Cert.algebraic_AdwSwaUpKernelIdeal_AdwSwaUpReferenceIdeal := by
  intro m g m' g' _ hargs
  refine ⟨fun c => (Cert.AdwSwaUpKernelIdeal.Gen.dats m 0 c).arrAt 4 Cert.AdwSwaUpKernelIdeal.cfg0.N, fun c => (Cert.AdwSwaUpKernelIdeal.Gen.dats m 0 c).arrAt 5 Cert.AdwSwaUpKernelIdeal.cfg0.N, fun c => (Cert.AdwSwaUpKernelIdeal.Gen.dats m 0 c).arrAt 6 Cert.AdwSwaUpKernelIdeal.cfg0.N, fun c => (Cert.AdwSwaUpKernelIdeal.Gen.dats m 0 c).arrAt 7 Cert.AdwSwaUpKernelIdeal.cfg0.N, Cert.AdwSwaUpKernelIdeal.Value.run_blocks m g, ?_⟩
  refine (θ_run Cert.AdwSwaUpReferenceIdeal.defs _ _).mono (fun r h c => ?_) (Cert.AdwSwaUpReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwSwaUpReferenceIdeal.Read.val_main_v0_eq, a1]
    exact (Cert.AdwSwaUp.result_eq4 m c).symm
  · rw [Cert.AdwSwaUpReferenceIdeal.Read.val_main_v24_eq, a0, a1, a2, a3]
    exact (Cert.AdwSwaUp.result_eq5 m c).symm
  · rw [Cert.AdwSwaUpReferenceIdeal.Read.val_main_v5_eq, a1, a2]
    exact (Cert.AdwSwaUp.result_eq6 m c).symm
  · rw [Cert.AdwSwaUpReferenceIdeal.Read.val_main_v11_eq, a1, a3]
    exact (Cert.AdwSwaUp.result_eq7 m c).symm

/-! ## One AdamW step of the two other up-projections -/

/-- The reference's frame. -/
theorem frame_adw_up_reference : Cert.quiescent_AdwUpReferenceIdeal := fun m g _ =>
  (θ_run Cert.AdwUpReferenceIdeal.defs _ _).mono (fun r h => ⟨fun c => (h c).2.2.2.2, sem_eq_zero_of_no_sems (by decide) r.2⟩)
    (Cert.AdwUpReferenceIdeal.Value.run m g)

/-- Kernel and reference end with the same results. -/
theorem algebraic_adw_up : Cert.algebraic_AdwUpKernelIdeal_AdwUpReferenceIdeal := by
  intro m g m' g' _ hargs
  refine ⟨fun c => (Cert.AdwUpKernelIdeal.Gen.dats m 0 c).arrAt 4 Cert.AdwUpKernelIdeal.cfg0.N, fun c => (Cert.AdwUpKernelIdeal.Gen.dats m 0 c).arrAt 5 Cert.AdwUpKernelIdeal.cfg0.N, fun c => (Cert.AdwUpKernelIdeal.Gen.dats m 0 c).arrAt 6 Cert.AdwUpKernelIdeal.cfg0.N, fun c => (Cert.AdwUpKernelIdeal.Gen.dats m 0 c).arrAt 7 Cert.AdwUpKernelIdeal.cfg0.N, Cert.AdwUpKernelIdeal.Value.run_blocks m g, ?_⟩
  refine (θ_run Cert.AdwUpReferenceIdeal.defs _ _).mono (fun r h c => ?_) (Cert.AdwUpReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwUpReferenceIdeal.Read.val_main_v0_eq, a1]
    exact (Cert.AdwUp.result_eq4 m c).symm
  · rw [Cert.AdwUpReferenceIdeal.Read.val_main_v24_eq, a0, a1, a2, a3]
    exact (Cert.AdwUp.result_eq5 m c).symm
  · rw [Cert.AdwUpReferenceIdeal.Read.val_main_v5_eq, a1, a2]
    exact (Cert.AdwUp.result_eq6 m c).symm
  · rw [Cert.AdwUpReferenceIdeal.Read.val_main_v11_eq, a1, a3]
    exact (Cert.AdwUp.result_eq7 m c).symm

/-! ## One AdamW step of the out-projection -/

/-- The reference's frame. -/
theorem frame_adw_out_reference : Cert.quiescent_AdwOutReferenceIdeal := fun m g _ =>
  (θ_run Cert.AdwOutReferenceIdeal.defs _ _).mono (fun r h => ⟨fun c => (h c).2.2.2.2, sem_eq_zero_of_no_sems (by decide) r.2⟩)
    (Cert.AdwOutReferenceIdeal.Value.run m g)

/-- Kernel and reference end with the same results. -/
theorem algebraic_adw_out : Cert.algebraic_AdwOutKernelIdeal_AdwOutReferenceIdeal := by
  intro m g m' g' _ hargs
  refine ⟨fun c => (Cert.AdwOutKernelIdeal.Gen.dats m 0 c).arrAt 4 Cert.AdwOutKernelIdeal.cfg0.N, fun c => (Cert.AdwOutKernelIdeal.Gen.dats m 0 c).arrAt 5 Cert.AdwOutKernelIdeal.cfg0.N, fun c => (Cert.AdwOutKernelIdeal.Gen.dats m 0 c).arrAt 6 Cert.AdwOutKernelIdeal.cfg0.N, fun c => (Cert.AdwOutKernelIdeal.Gen.dats m 0 c).arrAt 7 Cert.AdwOutKernelIdeal.cfg0.N, Cert.AdwOutKernelIdeal.Value.run_blocks m g, ?_⟩
  refine (θ_run Cert.AdwOutReferenceIdeal.defs _ _).mono (fun r h c => ?_) (Cert.AdwOutReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwOutReferenceIdeal.Read.val_main_v0_eq, a1]
    exact (Cert.AdwOut.result_eq4 m c).symm
  · rw [Cert.AdwOutReferenceIdeal.Read.val_main_v24_eq, a0, a1, a2, a3]
    exact (Cert.AdwOut.result_eq5 m c).symm
  · rw [Cert.AdwOutReferenceIdeal.Read.val_main_v5_eq, a1, a2]
    exact (Cert.AdwOut.result_eq6 m c).symm
  · rw [Cert.AdwOutReferenceIdeal.Read.val_main_v11_eq, a1, a3]
    exact (Cert.AdwOut.result_eq7 m c).symm

/-! ## One AdamW step of the layer's two weights -/

/-- The reference's frame. -/
theorem frame_adw_mlp_reference : Cert.quiescent_AdwMlpReferenceIdeal := fun m g _ =>
  (θ_run Cert.AdwMlpReferenceIdeal.defs _ _).mono (fun r h => ⟨fun c => (h c).2.2.2.2, sem_eq_zero_of_no_sems (by decide) r.2⟩)
    (Cert.AdwMlpReferenceIdeal.Value.run m g)

/-- Kernel and reference end with the same results. -/
theorem algebraic_adw_mlp : Cert.algebraic_AdwMlpKernelIdeal_AdwMlpReferenceIdeal := by
  intro m g m' g' _ hargs
  refine ⟨fun c => (Cert.AdwMlpKernelIdeal.Gen.dats m 0 c).arrAt 4 Cert.AdwMlpKernelIdeal.cfg0.N, fun c => (Cert.AdwMlpKernelIdeal.Gen.dats m 0 c).arrAt 5 Cert.AdwMlpKernelIdeal.cfg0.N, fun c => (Cert.AdwMlpKernelIdeal.Gen.dats m 0 c).arrAt 6 Cert.AdwMlpKernelIdeal.cfg0.N, fun c => (Cert.AdwMlpKernelIdeal.Gen.dats m 0 c).arrAt 7 Cert.AdwMlpKernelIdeal.cfg0.N, Cert.AdwMlpKernelIdeal.Value.run_blocks m g, ?_⟩
  refine (θ_run Cert.AdwMlpReferenceIdeal.defs _ _).mono (fun r h c => ?_) (Cert.AdwMlpReferenceIdeal.Value.run m' g')
  obtain ⟨a0, a1, a2, a3⟩ := hargs c
  obtain ⟨h0, h1, h2, h3, h⟩ := h c
  refine ⟨h0.trans ?_, h1.trans ?_, h2.trans ?_, h3.trans ?_, h⟩
  · rw [Cert.AdwMlpReferenceIdeal.Read.val_main_v0_eq, a1]
    exact (Cert.AdwMlp.result_eq4 m c).symm
  · rw [Cert.AdwMlpReferenceIdeal.Read.val_main_v24_eq, a0, a1, a2, a3]
    exact (Cert.AdwMlp.result_eq5 m c).symm
  · rw [Cert.AdwMlpReferenceIdeal.Read.val_main_v5_eq, a1, a2]
    exact (Cert.AdwMlp.result_eq6 m c).symm
  · rw [Cert.AdwMlpReferenceIdeal.Read.val_main_v11_eq, a1, a3]
    exact (Cert.AdwMlp.result_eq7 m c).symm

/-! ## The delta rule's output norm and gate -/

/-- The reference's frame. -/
theorem frame_gdn_post_fwd_reference : Cert.quiescent_GdnPostFwdReferenceIdeal := fun m g _ =>
  (θ_run Cert.GdnPostFwdReferenceIdeal.defs _ _).mono (fun r h => ⟨fun c => (h c).2, sem_eq_zero_of_no_sems (by decide) r.2⟩)
    (Cert.GdnPostFwdReferenceIdeal.Value.run m g)

/-- Kernel and reference end with the same result. -/
theorem algebraic_gdn_post_fwd : Cert.algebraic_GdnPostFwdKernelIdeal_GdnPostFwdReferenceIdeal := by
  intro m g m' g' _ hargs
  refine ⟨fun c => (Cert.GdnPostFwdKernelIdeal.Gen.dats m 0 c).arrAt 3 Cert.GdnPostFwdKernelIdeal.cfg0.N, Cert.GdnPostFwdKernelIdeal.Value.run_blocks m g, ?_⟩
  refine (θ_run Cert.GdnPostFwdReferenceIdeal.defs _ _).mono (fun r h c => ?_) (Cert.GdnPostFwdReferenceIdeal.Value.run m' g')
  obtain ⟨a0, a1, a2⟩ := hargs c
  obtain ⟨h0, h⟩ := h c
  refine ⟨h0.trans ?_, h⟩
  · rw [Cert.GdnPostFwdReferenceIdeal.Read.val_main_v18_eq, a0, a1, a2]
    exact (Cert.GdnPostFwd.result_eq m c).symm

/-! ## The memory's keys and values -/

/-- The reference's frame. -/
theorem frame_mem_kv_reference : Cert.quiescent_MemKvReferenceIdeal := fun m g _ =>
  (θ_run Cert.MemKvReferenceIdeal.defs _ _).mono (fun r h => ⟨fun c => (h c).2, sem_eq_zero_of_no_sems (by decide) r.2⟩)
    (Cert.MemKvReferenceIdeal.Value.run m g)

/-- Kernel and reference end with the same result. -/
theorem algebraic_mem_kv : Cert.algebraic_MemKvKernelIdeal_MemKvReferenceIdeal := by
  intro m g m' g' _ hargs
  refine ⟨fun c => (Cert.MemKvKernelIdeal.Gen.dats m 0 c).arrAt 2 Cert.MemKvKernelIdeal.cfg0.N, Cert.MemKvKernelIdeal.Value.run_blocks m g, ?_⟩
  refine (θ_run Cert.MemKvReferenceIdeal.defs _ _).mono (fun r h c => ?_) (Cert.MemKvReferenceIdeal.Value.run m' g')
  obtain ⟨a0, a1⟩ := hargs c
  obtain ⟨h0, h⟩ := h c
  refine ⟨h0.trans ?_, h⟩
  · rw [Cert.MemKvReferenceIdeal.Read.val_main_v3_eq, a0, a1]
    exact (Cert.MemKv.result_eq m c).symm

/-! ## The gradient of the memory's keys and values by the tokens -/

/-- The reference's frame. -/
theorem frame_mem_x_reference : Cert.quiescent_MemXReferenceIdeal := fun m g _ =>
  (θ_run Cert.MemXReferenceIdeal.defs _ _).mono (fun r h => ⟨fun c => (h c).2, sem_eq_zero_of_no_sems (by decide) r.2⟩)
    (Cert.MemXReferenceIdeal.Value.run m g)

/-- Kernel and reference end with the same result. -/
theorem algebraic_mem_x : Cert.algebraic_MemXKernelIdeal_MemXReferenceIdeal := by
  intro m g m' g' _ hargs
  refine ⟨fun c => (Cert.MemXKernelIdeal.Gen.dats m 0 c).arrAt 2 Cert.MemXKernelIdeal.cfg0.N, Cert.MemXKernelIdeal.Value.run_blocks m g, ?_⟩
  refine (θ_run Cert.MemXReferenceIdeal.defs _ _).mono (fun r h c => ?_) (Cert.MemXReferenceIdeal.Value.run m' g')
  obtain ⟨a0, a1, a2⟩ := hargs c
  obtain ⟨h0, h⟩ := h c
  refine ⟨h0.trans ?_, h⟩
  · rw [Cert.MemXReferenceIdeal.Read.val_main_v5_eq, a1, a2]
    exact (Cert.MemX.result_eq m c).symm

/-! ## The gradient of the memory's keys and values by their weight -/

/-- The reference's frame. -/
theorem frame_mem_w_reference : Cert.quiescent_MemWReferenceIdeal := fun m g _ =>
  (θ_run Cert.MemWReferenceIdeal.defs _ _).mono (fun r h => ⟨fun c => (h c).2, sem_eq_zero_of_no_sems (by decide) r.2⟩)
    (Cert.MemWReferenceIdeal.Value.run m g)

/-- Kernel and reference end with the same result. -/
theorem algebraic_mem_w : Cert.algebraic_MemWKernelIdeal_MemWReferenceIdeal := by
  intro m g m' g' _ hargs
  refine ⟨fun c => (Cert.MemWKernelIdeal.Gen.dats m 0 c).arrAt 2 Cert.MemWKernelIdeal.cfg0.N, Cert.MemWKernelIdeal.Value.run_blocks m g, ?_⟩
  refine (θ_run Cert.MemWReferenceIdeal.defs _ _).mono (fun r h c => ?_) (Cert.MemWReferenceIdeal.Value.run m' g')
  obtain ⟨a0, a1, a2⟩ := hargs c
  obtain ⟨h0, h⟩ := h c
  refine ⟨h0.trans ?_, h⟩
  · rw [Cert.MemWReferenceIdeal.Read.val_main_v6_eq, a0, a2]
    exact (Cert.MemW.result_eq m c).symm

/-! ## The cross-attention -/

/-- The reference's frame. -/
theorem frame_xa_fwd_reference : Cert.quiescent_XaFwdReferenceIdeal := fun m g _ =>
  (θ_run Cert.XaFwdReferenceIdeal.defs _ _).mono (fun r h => ⟨fun c => (h c).2, sem_eq_zero_of_no_sems (by decide) r.2⟩)
    (Cert.XaFwdReferenceIdeal.Value.run m g)

/-- Kernel and reference end with the same result. -/
theorem algebraic_xa_fwd : Cert.algebraic_XaFwdKernelIdeal_XaFwdReferenceIdeal_pre_xa_fwd_finite := by
  intro m g m' g' hpre hargs
  refine ⟨fun c => (Cert.XaFwdKernelIdeal.Gen.dats m 0 c).arrAt 2 Cert.XaFwdKernelIdeal.cfg0.N, Cert.XaFwdKernelIdeal.Value.run_blocks m g, ?_⟩
  refine (θ_run Cert.XaFwdReferenceIdeal.defs _ _).mono (fun r h c => ?_) (Cert.XaFwdReferenceIdeal.Value.run m' g')
  obtain ⟨a0, a1⟩ := hargs c
  obtain ⟨h0, h⟩ := h c
  refine ⟨h0.trans ?_, h⟩
  · rw [Cert.XaFwdReferenceIdeal.Read.val_main_v27_eq, a0, a1]
    exact (Cert.XaFwd.result_eq m c (hpre c)).symm

/-! ## The sliding-window attention -/

/-- The reference's frame. -/
theorem frame_swa_fwd_reference : Cert.quiescent_SwaFwdReferenceIdeal := fun m g _ =>
  (θ_run Cert.SwaFwdReferenceIdeal.defs _ _).mono (fun r h => ⟨fun c => (h c).2.2, sem_eq_zero_of_no_sems (by decide) r.2⟩)
    (Cert.SwaFwdReferenceIdeal.Value.run m g)

/-- Kernel and reference end with the same results. -/
theorem algebraic_swa_fwd : Cert.algebraic_SwaFwdKernelIdeal_SwaFwdReferenceIdeal_pre_swa_finite := by
  intro m g m' g' hpre hargs
  refine ⟨fun c => (Cert.SwaFwdKernelIdeal.Gen.dats m 0 c).arrAt 4 Cert.SwaFwdKernelIdeal.cfg0.N, fun c => (Cert.SwaFwdKernelIdeal.Gen.dats m 0 c).arrAt 5 Cert.SwaFwdKernelIdeal.cfg0.N, Cert.SwaFwdKernelIdeal.Value.run_blocks m g, ?_⟩
  refine (θ_run Cert.SwaFwdReferenceIdeal.defs _ _).mono (fun r h c => ?_) (Cert.SwaFwdReferenceIdeal.Value.run m' g')
  obtain ⟨a0, a1, a2⟩ := hargs c
  obtain ⟨h0, h1, h⟩ := h c
  refine ⟨h0.trans ?_, h1.trans ?_, h⟩
  · rw [Cert.SwaFwdReferenceIdeal.Read.val_main_v80_eq, a0, a1, a2]
    exact (Cert.SwaFwd.result_eq4 m c (hpre c)).symm
  · rw [Cert.SwaFwdReferenceIdeal.Read.val_main_v81_eq, a0, a1, a2]
    exact (Cert.SwaFwd.result_eq5 m c (hpre c)).symm

theorem claim : Cert.Claim := ⟨Cert.Kernel.Gen.facts, Cert.KernelIdeal.Gen.facts, Cert.ReferenceIdeal.Gen.facts,
  Cert.MlpXKernel.Gen.facts, Cert.MlpXKernelIdeal.Gen.facts, Cert.MlpXReferenceIdeal.Gen.facts,
  Cert.MlpWinKernel.Gen.facts, Cert.MlpWinKernelIdeal.Gen.facts, Cert.MlpWinReferenceIdeal.Gen.facts,
  Cert.MlpWoutKernel.Gen.facts, Cert.MlpWoutKernelIdeal.Gen.facts, Cert.MlpWoutReferenceIdeal.Gen.facts,
  Cert.MlpActKernel.Gen.facts, Cert.MlpActKernelIdeal.Gen.facts, Cert.MlpActReferenceIdeal.Gen.facts,
  Cert.MlpYKernel.Gen.facts, Cert.MlpYKernelIdeal.Gen.facts, Cert.MlpYReferenceIdeal.Gen.facts,
  Cert.MlpDuKernel.Gen.facts, Cert.MlpDuKernelIdeal.Gen.facts, Cert.MlpDuReferenceIdeal.Gen.facts,
  Cert.InQaKernel.Gen.facts, Cert.InQaKernelIdeal.Gen.facts, Cert.InQaReferenceIdeal.Gen.facts,
  Cert.InKvAbKernel.Gen.facts, Cert.InKvAbKernelIdeal.Gen.facts, Cert.InKvAbReferenceIdeal.Gen.facts,
  Cert.InQkvBKernel.Gen.facts, Cert.InQkvBKernelIdeal.Gen.facts, Cert.InQkvBReferenceIdeal.Gen.facts,
  Cert.InZKernel.Gen.facts, Cert.InZKernelIdeal.Gen.facts, Cert.InZReferenceIdeal.Gen.facts,
  Cert.InQcKernel.Gen.facts, Cert.InQcKernelIdeal.Gen.facts, Cert.InQcReferenceIdeal.Gen.facts,
  Cert.InGatesKernel.Gen.facts, Cert.InGatesKernelIdeal.Gen.facts, Cert.InGatesReferenceIdeal.Gen.facts,
  Cert.InXKernel.Gen.facts, Cert.InXKernelIdeal.Gen.facts, Cert.InXReferenceIdeal.Gen.facts,
  Cert.InWKernel.Gen.facts, Cert.InWKernelIdeal.Gen.facts, Cert.InWReferenceIdeal.Gen.facts,
  Cert.OutKernel.Gen.facts, Cert.OutKernelIdeal.Gen.facts, Cert.OutReferenceIdeal.Gen.facts,
  Cert.OutXKernel.Gen.facts, Cert.OutXKernelIdeal.Gen.facts, Cert.OutXReferenceIdeal.Gen.facts,
  Cert.OutWKernel.Gen.facts, Cert.OutWKernelIdeal.Gen.facts, Cert.OutWReferenceIdeal.Gen.facts,
  Cert.MergeKernel.Gen.facts, Cert.MergeKernelIdeal.Gen.facts, Cert.MergeReferenceIdeal.Gen.facts,
  Cert.DMergeKernel.Gen.facts, Cert.DMergeKernelIdeal.Gen.facts, Cert.DMergeReferenceIdeal.Gen.facts,
  Cert.UpAXKernel.Gen.facts, Cert.UpAXKernelIdeal.Gen.facts, Cert.UpAXReferenceIdeal.Gen.facts,
  Cert.UpAWKernel.Gen.facts, Cert.UpAWKernelIdeal.Gen.facts, Cert.UpAWReferenceIdeal.Gen.facts,
  Cert.UpBXKernel.Gen.facts, Cert.UpBXKernelIdeal.Gen.facts, Cert.UpBXReferenceIdeal.Gen.facts,
  Cert.UpBWKernel.Gen.facts, Cert.UpBWKernelIdeal.Gen.facts, Cert.UpBWReferenceIdeal.Gen.facts,
  Cert.RmsFwdKernel.Gen.facts, Cert.RmsFwdKernelIdeal.Gen.facts, Cert.RmsFwdReferenceIdeal.Gen.facts,
  Cert.RmsBwdKernel.Gen.facts, Cert.RmsBwdKernelIdeal.Gen.facts, Cert.RmsBwdReferenceIdeal.Gen.facts,
  Cert.LossKernel.Gen.facts, Cert.LossKernelIdeal.Gen.facts, Cert.LossReferenceIdeal.Gen.facts,
  Cert.AdwVecKernel.Gen.facts, Cert.AdwVecKernelIdeal.Gen.facts, Cert.AdwVecReferenceIdeal.Gen.facts,
  Cert.AdwInKernel.Gen.facts, Cert.AdwInKernelIdeal.Gen.facts, Cert.AdwInReferenceIdeal.Gen.facts,
  Cert.AdwSinksKernel.Gen.facts, Cert.AdwSinksKernelIdeal.Gen.facts, Cert.AdwSinksReferenceIdeal.Gen.facts,
  Cert.AdwConvKernel.Gen.facts, Cert.AdwConvKernelIdeal.Gen.facts, Cert.AdwConvReferenceIdeal.Gen.facts,
  Cert.AdwHeadsKernel.Gen.facts, Cert.AdwHeadsKernelIdeal.Gen.facts, Cert.AdwHeadsReferenceIdeal.Gen.facts,
  Cert.AdwNormKernel.Gen.facts, Cert.AdwNormKernelIdeal.Gen.facts, Cert.AdwNormReferenceIdeal.Gen.facts,
  Cert.AdwMemKernel.Gen.facts, Cert.AdwMemKernelIdeal.Gen.facts, Cert.AdwMemReferenceIdeal.Gen.facts,
  Cert.AdwSwaUpKernel.Gen.facts, Cert.AdwSwaUpKernelIdeal.Gen.facts, Cert.AdwSwaUpReferenceIdeal.Gen.facts,
  Cert.AdwUpKernel.Gen.facts, Cert.AdwUpKernelIdeal.Gen.facts, Cert.AdwUpReferenceIdeal.Gen.facts,
  Cert.AdwOutKernel.Gen.facts, Cert.AdwOutKernelIdeal.Gen.facts, Cert.AdwOutReferenceIdeal.Gen.facts,
  Cert.AdwMlpKernel.Gen.facts, Cert.AdwMlpKernelIdeal.Gen.facts, Cert.AdwMlpReferenceIdeal.Gen.facts,
  Cert.GdnPostFwdKernel.Gen.facts, Cert.GdnPostFwdKernelIdeal.Gen.facts, Cert.GdnPostFwdReferenceIdeal.Gen.facts,
  Cert.MemKvKernel.Gen.facts, Cert.MemKvKernelIdeal.Gen.facts, Cert.MemKvReferenceIdeal.Gen.facts,
  Cert.MemXKernel.Gen.facts, Cert.MemXKernelIdeal.Gen.facts, Cert.MemXReferenceIdeal.Gen.facts,
  Cert.MemWKernel.Gen.facts, Cert.MemWKernelIdeal.Gen.facts, Cert.MemWReferenceIdeal.Gen.facts,
  Cert.XaFwdKernel.Gen.facts, Cert.XaFwdKernelIdeal.Gen.facts, Cert.XaFwdReferenceIdeal.Gen.facts,
  Cert.SwaFwdKernel.Gen.facts, Cert.SwaFwdKernelIdeal.Gen.facts, Cert.SwaFwdReferenceIdeal.Gen.facts,
  Cert.Pre_xa_finite.Gen.facts, Cert.Pre_xa_fwd_finite.Gen.facts, Cert.Pre_swa_finite.Gen.facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.MlpXKernel.Gen.frame m g, fun m g _ => Cert.MlpXKernelIdeal.Gen.frame m g, frame_mlp_x_reference,
  fun m g _ => Cert.MlpWinKernel.Gen.frame m g, fun m g _ => Cert.MlpWinKernelIdeal.Gen.frame m g, frame_mlp_win_reference,
  fun m g _ => Cert.MlpWoutKernel.Gen.frame m g, fun m g _ => Cert.MlpWoutKernelIdeal.Gen.frame m g, frame_mlp_wout_reference,
  fun m g _ => Cert.MlpActKernel.Gen.frame m g, fun m g _ => Cert.MlpActKernelIdeal.Gen.frame m g, frame_mlp_act_reference,
  fun m g _ => Cert.MlpYKernel.Gen.frame m g, fun m g _ => Cert.MlpYKernelIdeal.Gen.frame m g, frame_mlp_y_reference,
  fun m g _ => Cert.MlpDuKernel.Gen.frame m g, fun m g _ => Cert.MlpDuKernelIdeal.Gen.frame m g, frame_mlp_du_reference,
  fun m g _ => Cert.InQaKernel.Gen.frame m g, fun m g _ => Cert.InQaKernelIdeal.Gen.frame m g, frame_in_q_a_reference,
  fun m g _ => Cert.InKvAbKernel.Gen.frame m g, fun m g _ => Cert.InKvAbKernelIdeal.Gen.frame m g, frame_in_kv_ab_reference,
  fun m g _ => Cert.InQkvBKernel.Gen.frame m g, fun m g _ => Cert.InQkvBKernelIdeal.Gen.frame m g, frame_in_qkv_b_reference,
  fun m g _ => Cert.InZKernel.Gen.frame m g, fun m g _ => Cert.InZKernelIdeal.Gen.frame m g, frame_in_z_reference,
  fun m g _ => Cert.InQcKernel.Gen.frame m g, fun m g _ => Cert.InQcKernelIdeal.Gen.frame m g, frame_in_q_c_reference,
  fun m g _ => Cert.InGatesKernel.Gen.frame m g, fun m g _ => Cert.InGatesKernelIdeal.Gen.frame m g, frame_in_gates_reference,
  fun m g _ => Cert.InXKernel.Gen.frame m g, fun m g _ => Cert.InXKernelIdeal.Gen.frame m g, frame_in_x_reference,
  fun m g _ => Cert.InWKernel.Gen.frame m g, fun m g _ => Cert.InWKernelIdeal.Gen.frame m g, frame_in_w_reference,
  fun m g _ => Cert.OutKernel.Gen.frame m g, fun m g _ => Cert.OutKernelIdeal.Gen.frame m g, frame_out_reference,
  fun m g _ => Cert.OutXKernel.Gen.frame m g, fun m g _ => Cert.OutXKernelIdeal.Gen.frame m g, frame_out_x_reference,
  fun m g _ => Cert.OutWKernel.Gen.frame m g, fun m g _ => Cert.OutWKernelIdeal.Gen.frame m g, frame_out_w_reference,
  fun m g _ => Cert.MergeKernel.Gen.frame m g, fun m g _ => Cert.MergeKernelIdeal.Gen.frame m g, frame_merge_reference,
  fun m g _ => Cert.DMergeKernel.Gen.frame m g, fun m g _ => Cert.DMergeKernelIdeal.Gen.frame m g, frame_d_merge_reference,
  fun m g _ => Cert.UpAXKernel.Gen.frame m g, fun m g _ => Cert.UpAXKernelIdeal.Gen.frame m g, frame_up_a_x_reference,
  fun m g _ => Cert.UpAWKernel.Gen.frame m g, fun m g _ => Cert.UpAWKernelIdeal.Gen.frame m g, frame_up_a_w_reference,
  fun m g _ => Cert.UpBXKernel.Gen.frame m g, fun m g _ => Cert.UpBXKernelIdeal.Gen.frame m g, frame_up_b_x_reference,
  fun m g _ => Cert.UpBWKernel.Gen.frame m g, fun m g _ => Cert.UpBWKernelIdeal.Gen.frame m g, frame_up_b_w_reference,
  fun m g _ => Cert.RmsFwdKernel.Gen.frame m g, fun m g _ => Cert.RmsFwdKernelIdeal.Gen.frame m g, frame_rms_fwd_reference,
  fun m g _ => Cert.RmsBwdKernel.Gen.frame m g, fun m g _ => Cert.RmsBwdKernelIdeal.Gen.frame m g, frame_rms_bwd_reference,
  fun m g _ => Cert.LossKernel.Gen.frame m g, fun m g _ => Cert.LossKernelIdeal.Gen.frame m g, frame_loss_reference,
  fun m g _ => Cert.AdwVecKernel.Gen.frame m g, fun m g _ => Cert.AdwVecKernelIdeal.Gen.frame m g, frame_adw_vec_reference,
  fun m g _ => Cert.AdwInKernel.Gen.frame m g, fun m g _ => Cert.AdwInKernelIdeal.Gen.frame m g, frame_adw_in_reference,
  fun m g _ => Cert.AdwSinksKernel.Gen.frame m g, fun m g _ => Cert.AdwSinksKernelIdeal.Gen.frame m g, frame_adw_sinks_reference,
  fun m g _ => Cert.AdwConvKernel.Gen.frame m g, fun m g _ => Cert.AdwConvKernelIdeal.Gen.frame m g, frame_adw_conv_reference,
  fun m g _ => Cert.AdwHeadsKernel.Gen.frame m g, fun m g _ => Cert.AdwHeadsKernelIdeal.Gen.frame m g, frame_adw_heads_reference,
  fun m g _ => Cert.AdwNormKernel.Gen.frame m g, fun m g _ => Cert.AdwNormKernelIdeal.Gen.frame m g, frame_adw_norm_reference,
  fun m g _ => Cert.AdwMemKernel.Gen.frame m g, fun m g _ => Cert.AdwMemKernelIdeal.Gen.frame m g, frame_adw_mem_reference,
  fun m g _ => Cert.AdwSwaUpKernel.Gen.frame m g, fun m g _ => Cert.AdwSwaUpKernelIdeal.Gen.frame m g, frame_adw_swaup_reference,
  fun m g _ => Cert.AdwUpKernel.Gen.frame m g, fun m g _ => Cert.AdwUpKernelIdeal.Gen.frame m g, frame_adw_up_reference,
  fun m g _ => Cert.AdwOutKernel.Gen.frame m g, fun m g _ => Cert.AdwOutKernelIdeal.Gen.frame m g, frame_adw_out_reference,
  fun m g _ => Cert.AdwMlpKernel.Gen.frame m g, fun m g _ => Cert.AdwMlpKernelIdeal.Gen.frame m g, frame_adw_mlp_reference,
  fun m g _ => Cert.GdnPostFwdKernel.Gen.frame m g, fun m g _ => Cert.GdnPostFwdKernelIdeal.Gen.frame m g, frame_gdn_post_fwd_reference,
  fun m g _ => Cert.MemKvKernel.Gen.frame m g, fun m g _ => Cert.MemKvKernelIdeal.Gen.frame m g, frame_mem_kv_reference,
  fun m g _ => Cert.MemXKernel.Gen.frame m g, fun m g _ => Cert.MemXKernelIdeal.Gen.frame m g, frame_mem_x_reference,
  fun m g _ => Cert.MemWKernel.Gen.frame m g, fun m g _ => Cert.MemWKernelIdeal.Gen.frame m g, frame_mem_w_reference,
  fun m g _ => Cert.XaFwdKernel.Gen.frame m g, fun m g _ => Cert.XaFwdKernelIdeal.Gen.frame m g, fun m g _ => Cert.XaFwdKernelIdeal.Gen.frame m g, frame_xa_fwd_reference, fun m g _ => frame_xa_fwd_reference m g trivial,
  fun m g _ => Cert.SwaFwdKernel.Gen.frame m g, fun m g _ => Cert.SwaFwdKernelIdeal.Gen.frame m g, fun m g _ => Cert.SwaFwdKernelIdeal.Gen.frame m g, frame_swa_fwd_reference, fun m g _ => frame_swa_fwd_reference m g trivial,
  trivial, algebraic_xa,
  trivial, algebraic_mlp_x,
  trivial, algebraic_mlp_win,
  trivial, algebraic_mlp_wout,
  trivial, algebraic_mlp_act,
  trivial, algebraic_mlp_y,
  trivial, algebraic_mlp_du,
  trivial, algebraic_in_q_a,
  trivial, algebraic_in_kv_ab,
  trivial, algebraic_in_qkv_b,
  trivial, algebraic_in_z,
  trivial, algebraic_in_q_c,
  trivial, algebraic_in_gates,
  trivial, algebraic_in_x,
  trivial, algebraic_in_w,
  trivial, algebraic_out,
  trivial, algebraic_out_x,
  trivial, algebraic_out_w,
  trivial, algebraic_merge,
  trivial, algebraic_d_merge,
  trivial, algebraic_up_a_x,
  trivial, algebraic_up_a_w,
  trivial, algebraic_up_b_x,
  trivial, algebraic_up_b_w,
  trivial, algebraic_rms_fwd,
  trivial, algebraic_rms_bwd,
  trivial, algebraic_loss,
  trivial, algebraic_adw_vec,
  trivial, algebraic_adw_in,
  trivial, algebraic_adw_sinks,
  trivial, algebraic_adw_conv,
  trivial, algebraic_adw_heads,
  trivial, algebraic_adw_norm,
  trivial, algebraic_adw_mem,
  trivial, algebraic_adw_swaup,
  trivial, algebraic_adw_up,
  trivial, algebraic_adw_out,
  trivial, algebraic_adw_mlp,
  trivial, algebraic_gdn_post_fwd,
  trivial, algebraic_mem_kv,
  trivial, algebraic_mem_x,
  trivial, algebraic_mem_w,
  trivial, algebraic_xa_fwd,
  trivial, algebraic_swa_fwd⟩

end Cert.Proof

end
